-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_qk_fwd [hPre_finite_qk_fwd : Cert.Pre_finite_qk_fwd.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_qk_fwd.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).1 = (fun _ => 1#1)
    ∧ (Cert.Pre_finite_qk_fwd.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_qk_fwd [hPre_finite_qk_fwd : Cert.Pre_finite_qk_fwd.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_qk_fwd.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).1 = (fun _ => 1#1)
    ∧ (Cert.Pre_finite_qk_fwd.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Kernel15Ideal_pre_finite_qk_fwd [hKernel15Ideal : Cert.Kernel15Ideal.Facts] [hPre_finite_qk_fwd : Cert.Pre_finite_qk_fwd.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_qk_fwd m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_finite_qk_fwd [hReference15Ideal : Cert.Reference15Ideal.Facts] [hPre_finite_qk_fwd : Cert.Pre_finite_qk_fwd.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_qk_fwd m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3)
      ∧ r.2.mem ((c.tc : Thread Cert.Kernel37.nD Cert.Kernel37.τ).loc Cert.Kernel37.main_arg4) = m ((c.tc : Thread Cert.Kernel37.nD Cert.Kernel37.τ).loc Cert.Kernel37.main_arg4)
      ∧ r.2.mem ((c.tc : Thread Cert.Kernel37.nD Cert.Kernel37.τ).loc Cert.Kernel37.main_arg5) = m ((c.tc : Thread Cert.Kernel37.nD Cert.Kernel37.τ).loc Cert.Kernel37.main_arg5)
      ∧ r.2.mem ((c.tc : Thread Cert.Kernel37.nD Cert.Kernel37.τ).loc Cert.Kernel37.main_arg6) = m ((c.tc : Thread Cert.Kernel37.nD Cert.Kernel37.τ).loc Cert.Kernel37.main_arg6))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
      ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4)
      ∧ r.2.mem ((c.tc : Thread Cert.Kernel37Ideal.nD Cert.Kernel37Ideal.τ).loc Cert.Kernel37Ideal.main_arg5) = m ((c.tc : Thread Cert.Kernel37Ideal.nD Cert.Kernel37Ideal.τ).loc Cert.Kernel37Ideal.main_arg5)
      ∧ r.2.mem ((c.tc : Thread Cert.Kernel37Ideal.nD Cert.Kernel37Ideal.τ).loc Cert.Kernel37Ideal.main_arg6) = m ((c.tc : Thread Cert.Kernel37Ideal.nD Cert.Kernel37Ideal.τ).loc Cert.Kernel37Ideal.main_arg6))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3)
      ∧ r.2.mem ((c.tc : Thread Cert.Reference37Ideal.nD Cert.Reference37Ideal.τ).loc Cert.Reference37Ideal.main_arg4) = m ((c.tc : Thread Cert.Reference37Ideal.nD Cert.Reference37Ideal.τ).loc Cert.Reference37Ideal.main_arg4)
      ∧ r.2.mem ((c.tc : Thread Cert.Reference37Ideal.nD Cert.Reference37Ideal.τ).loc Cert.Reference37Ideal.main_arg5) = m ((c.tc : Thread Cert.Reference37Ideal.nD Cert.Reference37Ideal.τ).loc Cert.Reference37Ideal.main_arg5)
      ∧ r.2.mem ((c.tc : Thread Cert.Reference37Ideal.nD Cert.Reference37Ideal.τ).loc Cert.Reference37Ideal.main_arg6) = m ((c.tc : Thread Cert.Reference37Ideal.nD Cert.Reference37Ideal.τ).loc Cert.Reference37Ideal.main_arg6))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  IdealRules.named_const.Statement Cert.Kernel15Ideal.κ "scale_log2e" .f32 0x3E0293EE#32 (((11863283 / 134217728) * (Real.log 2)⁻¹ : ℝ) : EReal)

def algebraic_Kernel15Ideal_Reference15Ideal_pre_finite_qk_fwd [hKernel15Ideal : Cert.Kernel15Ideal.Facts] [hReference15Ideal : Cert.Reference15Ideal.Facts] [hPre_finite_qk_fwd : Cert.Pre_finite_qk_fwd.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_qk_fwd m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v32) = v0 c
          ∧ r.2.mem ((c.tc : Thread Cert.Reference16Ideal.nD Cert.Reference16Ideal.τ).loc Cert.Reference16Ideal.main_v33) = v1 c
          ∧ r.2.mem ((c.tc : Thread Cert.Reference16Ideal.nD Cert.Reference16Ideal.τ).loc Cert.Reference16Ideal.main_v34) = v2 c
          ∧ r.2.mem ((c.tc : Thread Cert.Reference16Ideal.nD Cert.Reference16Ideal.τ).loc Cert.Reference16Ideal.main_v35) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)) (v5 : (c : Dev Cert.Kernel17Ideal.nD) → Buf (Elt Ideal) ((c.tc : Thread Cert.Kernel17Ideal.nD Cert.Kernel17Ideal.τ).loc Cert.Kernel17Ideal.main_v0_5)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_v0_5) = v5 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v49) = v0 c
          ∧ r.2.mem ((c.tc : Thread Cert.Reference17Ideal.nD Cert.Reference17Ideal.τ).loc Cert.Reference17Ideal.main_v59) = v1 c
          ∧ r.2.mem ((c.tc : Thread Cert.Reference17Ideal.nD Cert.Reference17Ideal.τ).loc Cert.Reference17Ideal.main_v24) = v2 c
          ∧ r.2.mem ((c.tc : Thread Cert.Reference17Ideal.nD Cert.Reference17Ideal.τ).loc Cert.Reference17Ideal.main_v27) = v3 c
          ∧ r.2.mem ((c.tc : Thread Cert.Reference17Ideal.nD Cert.Reference17Ideal.τ).loc Cert.Reference17Ideal.main_v32) = v4 c
          ∧ r.2.mem ((c.tc : Thread Cert.Reference17Ideal.nD Cert.Reference17Ideal.τ).loc Cert.Reference17Ideal.main_v58) = v5 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v49) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v27) = v2 c
          ∧ r.2.mem ((c.tc : Thread Cert.Reference18Ideal.nD Cert.Reference18Ideal.τ).loc Cert.Reference18Ideal.main_v32) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)) (v4 : (c : Dev Cert.Kernel19Ideal.nD) → Buf (Elt Ideal) ((c.tc : Thread Cert.Kernel19Ideal.nD Cert.Kernel19Ideal.τ).loc Cert.Kernel19Ideal.main_v0_4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_v0_4) = v4 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v51) = v0 c
          ∧ r.2.mem ((c.tc : Thread Cert.Reference19Ideal.nD Cert.Reference19Ideal.τ).loc Cert.Reference19Ideal.main_v78) = v1 c
          ∧ r.2.mem ((c.tc : Thread Cert.Reference19Ideal.nD Cert.Reference19Ideal.τ).loc Cert.Reference19Ideal.main_v77) = v2 c
          ∧ r.2.mem ((c.tc : Thread Cert.Reference19Ideal.nD Cert.Reference19Ideal.τ).loc Cert.Reference19Ideal.main_v35) = v3 c
          ∧ r.2.mem ((c.tc : Thread Cert.Reference19Ideal.nD Cert.Reference19Ideal.τ).loc Cert.Reference19Ideal.main_v56) = v4 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg0) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_v27) = v1 c
          ∧ r.2.mem ((c.tc : Thread Cert.Reference21Ideal.nD Cert.Reference21Ideal.τ).loc Cert.Reference21Ideal.main_v8) = v2 c
          ∧ r.2.mem ((c.tc : Thread Cert.Reference21Ideal.nD Cert.Reference21Ideal.τ).loc Cert.Reference21Ideal.main_v14) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_v27) = v1 c
          ∧ r.2.mem ((c.tc : Thread Cert.Reference22Ideal.nD Cert.Reference22Ideal.τ).loc Cert.Reference22Ideal.main_v8) = v2 c
          ∧ r.2.mem ((c.tc : Thread Cert.Reference22Ideal.nD Cert.Reference22Ideal.τ).loc Cert.Reference22Ideal.main_v14) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_v27) = v1 c
          ∧ r.2.mem ((c.tc : Thread Cert.Reference23Ideal.nD Cert.Reference23Ideal.τ).loc Cert.Reference23Ideal.main_v8) = v2 c
          ∧ r.2.mem ((c.tc : Thread Cert.Reference23Ideal.nD Cert.Reference23Ideal.τ).loc Cert.Reference23Ideal.main_v14) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_v27) = v1 c
          ∧ r.2.mem ((c.tc : Thread Cert.Reference24Ideal.nD Cert.Reference24Ideal.τ).loc Cert.Reference24Ideal.main_v8) = v2 c
          ∧ r.2.mem ((c.tc : Thread Cert.Reference24Ideal.nD Cert.Reference24Ideal.τ).loc Cert.Reference24Ideal.main_v14) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v21) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v29) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v37) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_v21) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v18) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_v24) = v1 c
          ∧ r.2.mem ((c.tc : Thread Cert.Reference32Ideal.nD Cert.Reference32Ideal.τ).loc Cert.Reference32Ideal.main_v5) = v2 c
          ∧ r.2.mem ((c.tc : Thread Cert.Reference32Ideal.nD Cert.Reference32Ideal.τ).loc Cert.Reference32Ideal.main_v11) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v1_0)) (v1 : (c : Dev Cert.Kernel33Ideal.nD) → Buf (Elt Ideal) ((c.tc : Thread Cert.Kernel33Ideal.nD Cert.Kernel33Ideal.τ).loc Cert.Kernel33Ideal.main_v1_1)) (v2 : (c : Dev Cert.Kernel33Ideal.nD) → Buf (Elt Ideal) ((c.tc : Thread Cert.Kernel33Ideal.nD Cert.Kernel33Ideal.τ).loc Cert.Kernel33Ideal.main_v1_2)) (v3 : (c : Dev Cert.Kernel33Ideal.nD) → Buf (Elt Ideal) ((c.tc : Thread Cert.Kernel33Ideal.nD Cert.Kernel33Ideal.τ).loc Cert.Kernel33Ideal.main_v1_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v1_0) = v0 c
          ∧ r.2.mem ((c.tc : Thread Cert.Kernel33Ideal.nD Cert.Kernel33Ideal.τ).loc Cert.Kernel33Ideal.main_v1_1) = v1 c
          ∧ r.2.mem ((c.tc : Thread Cert.Kernel33Ideal.nD Cert.Kernel33Ideal.τ).loc Cert.Kernel33Ideal.main_v1_2) = v2 c
          ∧ r.2.mem ((c.tc : Thread Cert.Kernel33Ideal.nD Cert.Kernel33Ideal.τ).loc Cert.Kernel33Ideal.main_v1_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_arg0) = v0 c
          ∧ r.2.mem ((c.tc : Thread Cert.Reference33Ideal.nD Cert.Reference33Ideal.τ).loc Cert.Reference33Ideal.main_v23) = v1 c
          ∧ r.2.mem ((c.tc : Thread Cert.Reference33Ideal.nD Cert.Reference33Ideal.τ).loc Cert.Reference33Ideal.main_v4) = v2 c
          ∧ r.2.mem ((c.tc : Thread Cert.Reference33Ideal.nD Cert.Reference33Ideal.τ).loc Cert.Reference33Ideal.main_v10) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v0) = v0 c
          ∧ r.2.mem ((c.tc : Thread Cert.Reference34Ideal.nD Cert.Reference34Ideal.τ).loc Cert.Reference34Ideal.main_v24) = v1 c
          ∧ r.2.mem ((c.tc : Thread Cert.Reference34Ideal.nD Cert.Reference34Ideal.τ).loc Cert.Reference34Ideal.main_v5) = v2 c
          ∧ r.2.mem ((c.tc : Thread Cert.Reference34Ideal.nD Cert.Reference34Ideal.τ).loc Cert.Reference34Ideal.main_v11) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v1) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v6) = v0 c
          ∧ r.2.mem ((c.tc : Thread Cert.Reference36Ideal.nD Cert.Reference36Ideal.τ).loc Cert.Reference36Ideal.main_v7) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)
      ∧ m' ((c.tc : Thread Cert.Reference37Ideal.nD Cert.Reference37Ideal.τ).loc Cert.Reference37Ideal.main_arg4) = m ((c.tc : Thread Cert.Kernel37Ideal.nD Cert.Kernel37Ideal.τ).loc Cert.Kernel37Ideal.main_arg4)
      ∧ m' ((c.tc : Thread Cert.Reference37Ideal.nD Cert.Reference37Ideal.τ).loc Cert.Reference37Ideal.main_arg5) = m ((c.tc : Thread Cert.Kernel37Ideal.nD Cert.Kernel37Ideal.τ).loc Cert.Kernel37Ideal.main_arg5)
      ∧ m' ((c.tc : Thread Cert.Reference37Ideal.nD Cert.Reference37Ideal.τ).loc Cert.Reference37Ideal.main_arg6) = m ((c.tc : Thread Cert.Kernel37Ideal.nD Cert.Kernel37Ideal.τ).loc Cert.Kernel37Ideal.main_arg6)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
          ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4)
          ∧ r.2.mem ((c.tc : Thread Cert.Kernel37Ideal.nD Cert.Kernel37Ideal.τ).loc Cert.Kernel37Ideal.main_arg5) = m ((c.tc : Thread Cert.Kernel37Ideal.nD Cert.Kernel37Ideal.τ).loc Cert.Kernel37Ideal.main_arg5)
          ∧ r.2.mem ((c.tc : Thread Cert.Kernel37Ideal.nD Cert.Kernel37Ideal.τ).loc Cert.Kernel37Ideal.main_arg6) = m ((c.tc : Thread Cert.Kernel37Ideal.nD Cert.Kernel37Ideal.τ).loc Cert.Kernel37Ideal.main_arg6))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v22) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3)
          ∧ r.2.mem ((c.tc : Thread Cert.Reference37Ideal.nD Cert.Reference37Ideal.τ).loc Cert.Reference37Ideal.main_arg4) = m' ((c.tc : Thread Cert.Reference37Ideal.nD Cert.Reference37Ideal.τ).loc Cert.Reference37Ideal.main_arg4)
          ∧ r.2.mem ((c.tc : Thread Cert.Reference37Ideal.nD Cert.Reference37Ideal.τ).loc Cert.Reference37Ideal.main_arg5) = m' ((c.tc : Thread Cert.Reference37Ideal.nD Cert.Reference37Ideal.τ).loc Cert.Reference37Ideal.main_arg5)
          ∧ r.2.mem ((c.tc : Thread Cert.Reference37Ideal.nD Cert.Reference37Ideal.τ).loc Cert.Reference37Ideal.main_arg6) = m' ((c.tc : Thread Cert.Reference37Ideal.nD Cert.Reference37Ideal.τ).loc Cert.Reference37Ideal.main_arg6))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)) →
    ∃ (v0 : (c : Dev Cert.Kernel38Ideal.nD) → Buf (Elt Ideal) ((c.tc : Thread Cert.Kernel38Ideal.nD Cert.Kernel38Ideal.τ).loc Cert.Kernel38Ideal.main_v1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v21) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_finite_qk : Cert.Pre_finite_qk.Facts) (hPre_finite_qk_fwd : Cert.Pre_finite_qk_fwd.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite_qk_fwd (hKernel15Ideal := hKernel15Ideal) (hPre_finite_qk_fwd := hPre_finite_qk_fwd)
    ∧ quiescent_Reference15Ideal (hReference15Ideal := hReference15Ideal)
    ∧ quiescent_Reference15Ideal_pre_finite_qk_fwd (hReference15Ideal := hReference15Ideal) (hPre_finite_qk_fwd := hPre_finite_qk_fwd)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite_qk_fwd (hKernel15Ideal := hKernel15Ideal) (hReference15Ideal := hReference15Ideal) (hPre_finite_qk_fwd := hPre_finite_qk_fwd)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
-- ==== Pre_finite_qk.lean ====
abbrev S2048x2048 : Shape := ⟨2, ![2048, 2048]⟩
abbrev S2304x512 : Shape := ⟨2, ![2304, 512]⟩
abbrev S_ : Shape := ⟨0, ![]⟩

class Facts : Prop where
  bcast_S_S2048x2048 : S_.BroadcastsInDim S2048x2048 (![] : Fin 0 → Fin S2048x2048.rank)
  bcast_S_S2304x512 : S_.BroadcastsInDim S2304x512 (![] : Fin 0 → Fin S2304x512.rank)

variable [Facts]

def fn {F : FTy → Type} [FloatOps F] (main_arg0 : FVec F S2048x2048 .bf16) (main_arg1 : FVec F S2304x512 .bf16) (main_arg2 : FVec F S2304x512 .bf16) (main_arg3 : FVec F S2048x2048 .bf16) : IVec S2048x2048 1 × IVec S2304x512 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_v3 : FVec F S2304x512 .bf16 := Host.absf main_arg1
  let main_cst_0 : FVec F S_ .bf16 := constant S_ .bf16 0x7F80#16
  let main_v4 : FVec F S2304x512 .bf16 := broadcastInDim S2304x512 ![] bcast_S_S2304x512 main_cst_0
  let main_v5 : IVec S2304x512 1 := cmpf .olt main_v3 main_v4
  (main_v2, main_v5)
-- ==== Pre_finite_qk_fwd.lean ====
abbrev S2048x2048 : Shape := ⟨2, ![2048, 2048]⟩
abbrev S2304x512 : Shape := ⟨2, ![2304, 512]⟩
abbrev S_ : Shape := ⟨0, ![]⟩

class Facts : Prop where
  bcast_S_S2048x2048 : S_.BroadcastsInDim S2048x2048 (![] : Fin 0 → Fin S2048x2048.rank)
  bcast_S_S2304x512 : S_.BroadcastsInDim S2304x512 (![] : Fin 0 → Fin S2304x512.rank)

variable [Facts]

def fn {F : FTy → Type} [FloatOps F] (main_arg0 : FVec F S2048x2048 .bf16) (main_arg1 : FVec F S2304x512 .bf16) (main_arg2 : FVec F S2304x512 .bf16) : IVec S2048x2048 1 × IVec S2304x512 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_v3 : FVec F S2304x512 .bf16 := Host.absf main_arg1
  let main_cst_0 : FVec F S_ .bf16 := constant S_ .bf16 0x7F80#16
  let main_v4 : FVec F S2304x512 .bf16 := broadcastInDim S2304x512 ![] bcast_S_S2304x512 main_cst_0
  let main_v5 : IVec S2304x512 1 := cmpf .olt main_v3 main_v4
  (main_v2, main_v5)
-- ==== Kernel.lean ====
abbrev S2048x2048 : Shape := ⟨2, ![2048, 2048]⟩
abbrev S2304x512 : Shape := ⟨2, ![2304, 512]⟩
abbrev S256x512 : Shape := ⟨2, ![256, 512]⟩
abbrev S2304x128 : Shape := ⟨2, ![2304, 128]⟩
abbrev S256x128 : Shape := ⟨2, ![256, 128]⟩
abbrev S256x2304 : Shape := ⟨2, ![256, 2304]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2304x512, .bf16⟩
  | .hbm, ⟨2, _⟩ => ⟨S2304x512, .bf16⟩
  | .hbm, ⟨3, _⟩ => ⟨S2048x2048, .bf16⟩
  | .hbm, ⟨4, _⟩ => ⟨S2048x2048, .f32⟩
  | .hbm, ⟨5, _⟩ => ⟨S2304x512, .f32⟩
  | .hbm, ⟨6, _⟩ => ⟨S2304x512, .f32⟩
  | .local _ .vmem, ⟨0, _⟩ => ⟨S256x512, .bf16⟩
  | .local _ .vmem, ⟨1, _⟩ => ⟨S256x512, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S2304x128, .f32⟩
  | .local _ .vmem, ⟨11, _⟩ => ⟨S2304x128, .f32⟩
  | .local _ .vmem, ⟨12, _⟩ => ⟨S2304x128, .f32⟩
  | .local _ .vmem, ⟨13, _⟩ => ⟨S2304x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S2048x2048 : Shape := ⟨2, ![2048, 2048]⟩
abbrev S2304x512 : Shape := ⟨2, ![2304, 512]⟩
abbrev S1x2048x4x4x128 : Shape := ⟨5, ![1, 2048, 4, 4, 128]⟩
abbrev S1x2304x4x128 : Shape := ⟨4, ![1, 2304, 4, 128]⟩
abbrev S1x4x2304x2048x4 : Shape := ⟨5, ![1, 4, 2304, 2048, 4]⟩
abbrev S1x4x4x2048x2304 : Shape := ⟨5, ![1, 4, 4, 2048, 2304]⟩
abbrev S_ : Shape := ⟨0, ![]⟩
abbrev S1x4x4x2048 : Shape := ⟨4, ![1, 4, 4, 2048]⟩
abbrev S1x4x4x2048x1 : Shape := ⟨5, ![1, 4, 4, 2048, 1]⟩
abbrev S1x4x128x4x2048 : Shape := ⟨5, ![1, 4, 128, 4, 2048]⟩
abbrev S1x4x128x2304 : Shape := ⟨4, ![1, 4, 128, 2304]⟩
abbrev S4x4x2048 : Shape := ⟨3, ![4, 4, 2048]⟩
abbrev S1x4x2048x4x128 : Shape := ⟨5, ![1, 4, 2048, 4, 128]⟩
abbrev S1x4x2304x128 : Shape := ⟨4, ![1, 4, 2304, 128]⟩

abbrev nBuf : Space → Nat
  | .hbm => 88
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2304x512, .bf16⟩
  | .hbm, ⟨2, _⟩ => ⟨S2304x512, .bf16⟩
  | .hbm, ⟨3, _⟩ => ⟨S2048x2048, .bf16⟩
  | .hbm, ⟨4, _⟩ => ⟨S2048x2048, .f32⟩
  | .hbm, ⟨5, _⟩ => ⟨S2304x512, .f32⟩
  | .hbm, ⟨6, _⟩ => ⟨S2304x512, .f32⟩
  | .hbm, ⟨7, _⟩ => ⟨S2048x2048, .f32⟩
  | .hbm, ⟨8, _⟩ => ⟨S1x2048x4x4x128, .f32⟩
  | .hbm, ⟨9, _⟩ => ⟨S1x2304x4x128, .f32⟩
  | .hbm, ⟨10, _⟩ => ⟨S1x2304x4x128, .f32⟩
  | .hbm, ⟨11, _⟩ => ⟨S1x4x2304x2048x4, .f32⟩
  | .hbm, ⟨12, _⟩ => ⟨S1x4x4x2048x2304, .f32⟩
  | .hbm, ⟨13, _⟩ => ⟨S_, .f32⟩
  | .hbm, ⟨14, _⟩ => ⟨S1x4x4x2048x2304, .f32⟩
  | .hbm, ⟨15, _⟩ => ⟨S1x4x4x2048x2304, .f32⟩
  | .hbm, ⟨16, _⟩ => ⟨S_, .f32⟩
  | .hbm, ⟨17, _⟩ => ⟨S1x4x4x2048, .f32⟩
  | .hbm, ⟨18, _⟩ => ⟨S1x4x4x2048x1, .f32⟩
  | .hbm, ⟨19, _⟩ => ⟨S1x4x4x2048x2304, .f32⟩
  | .hbm, ⟨20, _⟩ => ⟨S1x4x4x2048x2304, .i1⟩
  | .hbm, ⟨21, _⟩ => ⟨S1x4x4x2048x2304, .f32⟩
  | .hbm, ⟨22, _⟩ => ⟨S_, .f32⟩
  | .hbm, ⟨23, _⟩ => ⟨S1x4x4x2048, .f32⟩
  | .hbm, ⟨24, _⟩ => ⟨S_, .f32⟩
  | .hbm, ⟨25, _⟩ => ⟨S1x4x4x2048, .f32⟩
  | .hbm, ⟨26, _⟩ => ⟨S1x4x4x2048, .f32⟩
  | .hbm, ⟨27, _⟩ => ⟨S_, .f32⟩
  | .hbm, ⟨28, _⟩ => ⟨S1x4x4x2048, .f32⟩
  | .hbm, ⟨29, _⟩ => ⟨S1x4x4x2048, .i1⟩
  | .hbm, ⟨30, _⟩ => ⟨S_, .f32⟩
  | .hbm, ⟨31, _⟩ => ⟨S1x4x4x2048, .f32⟩
  | .hbm, ⟨32, _⟩ => ⟨S1x4x4x2048, .i1⟩
  | .hbm, ⟨33, _⟩ => ⟨S_, .f32⟩
  | .hbm, ⟨34, _⟩ => ⟨S1x4x4x2048, .f32⟩
  | .hbm, ⟨35, _⟩ => ⟨S_, .f32⟩
  | .hbm, ⟨36, _⟩ => ⟨S1x4x4x2048, .f32⟩
  | .hbm, ⟨37, _⟩ => ⟨S_, .f32⟩
  | .hbm, ⟨38, _⟩ => ⟨S1x4x4x2048, .f32⟩
  | .hbm, ⟨39, _⟩ => ⟨S1x4x4x2048, .f32⟩
  | .hbm, ⟨40, _⟩ => ⟨S1x4x4x2048, .f32⟩
  | .hbm, ⟨41, _⟩ => ⟨S1x4x4x2048x1, .f32⟩
  | .hbm, ⟨42, _⟩ => ⟨S1x4x4x2048x2304, .f32⟩
  | .hbm, ⟨43, _⟩ => ⟨S1x4x4x2048x2304, .f32⟩
  | .hbm, ⟨44, _⟩ => ⟨S1x4x4x2048x2304, .f32⟩
  | .hbm, ⟨45, _⟩ => ⟨S_, .f32⟩
  | .hbm, ⟨46, _⟩ => ⟨S1x4x4x2048, .f32⟩
  | .hbm, ⟨47, _⟩ => ⟨S1x4x4x2048x1, .f32⟩
  | .hbm, ⟨48, _⟩ => ⟨S1x4x4x2048x2304, .f32⟩
  | .hbm, ⟨49, _⟩ => ⟨S1x4x4x2048x2304, .f32⟩
  | .hbm, ⟨50, _⟩ => ⟨S1x4x4x2048x1, .f32⟩
  | .hbm, ⟨51, _⟩ => ⟨S_, .f32⟩
  | .hbm, ⟨52, _⟩ => ⟨S1x4x4x2048x1, .f32⟩
  | .hbm, ⟨53, _⟩ => ⟨S1x4x4x2048x1, .f32⟩
  | .hbm, ⟨54, _⟩ => ⟨S1x4x128x4x2048, .f32⟩
  | .hbm, ⟨55, _⟩ => ⟨S1x2048x4x4x128, .f32⟩
  | .hbm, ⟨56, _⟩ => ⟨S2048x2048, .f32⟩
  | .hbm, ⟨57, _⟩ => ⟨S1x2048x4x4x128, .f32⟩
  | .hbm, ⟨58, _⟩ => ⟨S1x4x128x4x2048, .f32⟩
  | .hbm, ⟨59, _⟩ => ⟨S1x4x4x2048x2304, .f32⟩
  | .hbm, ⟨60, _⟩ => ⟨S1x4x128x2304, .f32⟩
  | .hbm, ⟨61, _⟩ => ⟨S1x2304x4x128, .f32⟩
  | .hbm, ⟨62, _⟩ => ⟨S1x4x4x2048x2304, .f32⟩
  | .hbm, ⟨63, _⟩ => ⟨S1x4x4x2048x2304, .f32⟩
  | .hbm, ⟨64, _⟩ => ⟨S1x4x4x2048x2304, .f32⟩
  | .hbm, ⟨65, _⟩ => ⟨S_, .f32⟩
  | .hbm, ⟨66, _⟩ => ⟨S1x4x4x2048, .f32⟩
  | .hbm, ⟨67, _⟩ => ⟨S1x4x4x2048x1, .f32⟩
  | .hbm, ⟨68, _⟩ => ⟨S1x4x4x2048x1, .f32⟩
  | .hbm, ⟨69, _⟩ => ⟨S1x4x4x2048x2304, .f32⟩
  | .hbm, ⟨70, _⟩ => ⟨S1x4x4x2048x2304, .f32⟩
  | .hbm, ⟨71, _⟩ => ⟨S_, .f32⟩
  | .hbm, ⟨72, _⟩ => ⟨S4x4x2048, .f32⟩
  | .hbm, ⟨73, _⟩ => ⟨S1x4x4x2048, .f32⟩
  | .hbm, ⟨74, _⟩ => ⟨S1x4x4x2048x2304, .f32⟩
  | .hbm, ⟨75, _⟩ => ⟨S1x4x4x2048x2304, .f32⟩
  | .hbm, ⟨76, _⟩ => ⟨S1x4x4x2048x2304, .f32⟩
  | .hbm, ⟨77, _⟩ => ⟨S_, .f32⟩
  | .hbm, ⟨78, _⟩ => ⟨S1x4x4x2048x2304, .f32⟩
  | .hbm, ⟨79, _⟩ => ⟨S1x4x4x2048x2304, .f32⟩
  | .hbm, ⟨80, _⟩ => ⟨S1x4x2304x2048x4, .f32⟩
  | .hbm, ⟨81, _⟩ => ⟨S1x4x2048x4x128, .f32⟩
  | .hbm, ⟨82, _⟩ => ⟨S1x2048x4x4x128, .f32⟩
  | .hbm, ⟨83, _⟩ => ⟨S1x4x2304x128, .f32⟩
  | .hbm, ⟨84, _⟩ => ⟨S1x2304x4x128, .f32⟩
  | .hbm, ⟨85, _⟩ => ⟨S2304x512, .f32⟩
  | .hbm, ⟨86, _⟩ => ⟨S2304x512, .f32⟩
  | .hbm, ⟨87, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Kernel2.lean ====
abbrev S2048x2048 : Shape := ⟨2, ![2048, 2048]⟩
abbrev S8192x2048 : Shape := ⟨2, ![8192, 2048]⟩
abbrev S2048x8192 : Shape := ⟨2, ![2048, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .bf16⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2048x2048 : Shape := ⟨2, ![2048, 2048]⟩
abbrev S8192x2048 : Shape := ⟨2, ![8192, 2048]⟩
abbrev S2048x8192 : Shape := ⟨2, ![2048, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .bf16⟩
  | .hbm, ⟨3, _⟩ => ⟨S8192x2048, .f32⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S_, .f32⟩
  | .hbm, ⟨9, _⟩ => ⟨S2048x8192, .f32⟩
  | .hbm, ⟨10, _⟩ => ⟨S2048x8192, .i1⟩
  | .hbm, ⟨11, _⟩ => ⟨S_, .f32⟩
  | .hbm, ⟨12, _⟩ => ⟨S2048x8192, .f32⟩
  | .hbm, ⟨13, _⟩ => ⟨S2048x8192, .f32⟩
  | .hbm, ⟨14, _⟩ => ⟨S_, .f32⟩
  | .hbm, ⟨15, _⟩ => ⟨S2048x8192, .f32⟩
  | .hbm, ⟨16, _⟩ => ⟨S2048x8192, .f32⟩
  | .hbm, ⟨17, _⟩ => ⟨S2048x2048, .f32⟩
  | .hbm, ⟨18, _⟩ => ⟨S2048x2048, .f32⟩
  | .hbm, ⟨19, _⟩ => ⟨S2048x8192, .f32⟩
  | .hbm, ⟨20, _⟩ => ⟨S2048x8192, .f32⟩
  | .hbm, ⟨21, _⟩ => ⟨S_, .f32⟩
  | .hbm, ⟨22, _⟩ => ⟨S2048x8192, .f32⟩
  | .hbm, ⟨23, _⟩ => ⟨S2048x8192, .f32⟩
  | .hbm, ⟨24, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S2048x8192 : Shape := ⟨2, ![2048, 8192]⟩
abbrev S2048x2048 : Shape := ⟨2, ![2048, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x2048, .f32⟩
  | .hbm, ⟨10, _⟩ => ⟨S2048x2048, .f32⟩
  | .hbm, ⟨11, _⟩ => ⟨S2048x8192, .f32⟩
  | .hbm, ⟨12, _⟩ => ⟨S8192x2048, .f32⟩
  | .hbm, ⟨13, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S2048x8192 : Shape := ⟨2, ![2048, 8192]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S2048x2048 : Shape := ⟨2, ![2048, 2048]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2304x11264 : Shape := ⟨2, ![2304, 11264]⟩
abbrev S2048x11264 : Shape := ⟨2, ![2048, 11264]⟩
abbrev S2304x2048 : Shape := ⟨2, ![2304, 2048]⟩
abbrev S768x2816 : Shape := ⟨2, ![768, 2816]⟩
abbrev S1024x2816 : Shape := ⟨2, ![1024, 2816]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x11264, .bf16⟩
  | .hbm, ⟨1, _⟩ => ⟨S2048x11264, .bf16⟩
  | .hbm, ⟨2, _⟩ => ⟨S2304x2048, .f32⟩
  | .local _ .vmem, ⟨0, _⟩ => ⟨S768x2816, .bf16⟩
  | .local _ .vmem, ⟨1, _⟩ => ⟨S768x2816, .bf16⟩
  | .local _ .vmem, ⟨2, _⟩ => ⟨S1024x2816, .bf16⟩
  | .local _ .vmem, ⟨3, _⟩ => ⟨S1024x2816, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2304x11264 : Shape := ⟨2, ![2304, 11264]⟩
abbrev S2048x11264 : Shape := ⟨2, ![2048, 11264]⟩
abbrev S_ : Shape := ⟨0, ![]⟩
abbrev S2304x2048 : Shape := ⟨2, ![2304, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2304x11264, .bf16⟩
  | .hbm, ⟨1, _⟩ => ⟨S2048x11264, .bf16⟩
  | .hbm, ⟨2, _⟩ => ⟨S_, .f32⟩
  | .hbm, ⟨3, _⟩ => ⟨S2304x2048, .f32⟩
  | .hbm, ⟨4, _⟩ => ⟨S2048x11264, .f32⟩
  | .hbm, ⟨5, _⟩ => ⟨S2304x11264, .f32⟩
  | .hbm, ⟨6, _⟩ => ⟨S2304x11264, .f32⟩
  | .hbm, ⟨7, _⟩ => ⟨S2304x2048, .f32⟩
  | _, _ => ⟨S2304x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2304x2048 : Shape := ⟨2, ![2304, 2048]⟩
abbrev S2304x11264 : Shape := ⟨2, ![2304, 11264]⟩
abbrev S_ : Shape := ⟨0, ![]⟩
abbrev S1x11264 : Shape := ⟨2, ![1, 11264]⟩
abbrev S1024x11264 : Shape := ⟨2, ![1024, 11264]⟩
abbrev S2304x1024 : Shape := ⟨2, ![2304, 1024]⟩
abbrev S1x1024 : Shape := ⟨2, ![1, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S2304x11264, .bf16⟩
  | .hbm, ⟨2, _⟩ => ⟨S_, .f32⟩
  | .hbm, ⟨3, _⟩ => ⟨S1x11264, .f32⟩
  | .hbm, ⟨4, _⟩ => ⟨S1024x11264, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2304x2048 : Shape := ⟨2, ![2304, 2048]⟩
abbrev S2304x11264 : Shape := ⟨2, ![2304, 11264]⟩
abbrev S_ : Shape := ⟨0, ![]⟩
abbrev S2048x11264 : Shape := ⟨2, ![2048, 11264]⟩
abbrev S11264x2048 : Shape := ⟨2, ![11264, 2048]⟩
abbrev S1024x11264 : Shape := ⟨2, ![1024, 11264]⟩

abbrev nBuf : Space → Nat
  | .hbm => 11
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x11264, .bf16⟩
  | .hbm, ⟨2, _⟩ => ⟨S_, .f32⟩
  | .hbm, ⟨3, _⟩ => ⟨S2048x11264, .f32⟩
  | .hbm, ⟨4, _⟩ => ⟨S2304x2048, .f32⟩
  | .hbm, ⟨5, _⟩ => ⟨S2304x11264, .f32⟩
  | .hbm, ⟨6, _⟩ => ⟨S2304x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | .hbm, ⟨10, _⟩ => ⟨S1024x11264, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S2304x2048 : Shape := ⟨2, ![2304, 2048]⟩
abbrev S2304x11264 : Shape := ⟨2, ![2304, 11264]⟩
abbrev S_ : Shape := ⟨0, ![]⟩
abbrev S1x11264 : Shape := ⟨2, ![1, 11264]⟩
abbrev S1024x11264 : Shape := ⟨2, ![1024, 11264]⟩
abbrev S2304x1024 : Shape := ⟨2, ![2304, 1024]⟩
abbrev S1x1024 : Shape := ⟨2, ![1, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S2304x11264, .bf16⟩
  | .hbm, ⟨2, _⟩ => ⟨S_, .f32⟩
  | .hbm, ⟨3, _⟩ => ⟨S1x11264, .f32⟩
  | .hbm, ⟨4, _⟩ => ⟨S1024x11264, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S2304x2048 : Shape := ⟨2, ![2304, 2048]⟩
abbrev S2304x11264 : Shape := ⟨2, ![2304, 11264]⟩
abbrev S_ : Shape := ⟨0, ![]⟩
abbrev S2048x11264 : Shape := ⟨2, ![2048, 11264]⟩
abbrev S11264x2048 : Shape := ⟨2, ![11264, 2048]⟩
abbrev S1024x11264 : Shape := ⟨2, ![1024, 11264]⟩

abbrev nBuf : Space → Nat
  | .hbm => 11
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x11264, .bf16⟩
  | .hbm, ⟨2, _⟩ => ⟨S_, .f32⟩
  | .hbm, ⟨3, _⟩ => ⟨S2048x11264, .f32⟩
  | .hbm, ⟨4, _⟩ => ⟨S2304x2048, .f32⟩
  | .hbm, ⟨5, _⟩ => ⟨S2304x11264, .f32⟩
  | .hbm, ⟨6, _⟩ => ⟨S2304x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | .hbm, ⟨10, _⟩ => ⟨S1024x11264, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S2048x2048 : Shape := ⟨2, ![2048, 2048]⟩
abbrev S2048x8192 : Shape := ⟨2, ![2048, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S2048x8192 : Shape := ⟨2, ![2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x8192, .f32⟩
  | .hbm, ⟨4, _⟩ => ⟨S2048x8192, .f32⟩
  | .hbm, ⟨5, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x8192 : Shape := ⟨2, ![2048, 8192]⟩
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .f32⟩
  | .hbm, ⟨3, _⟩ => ⟨S8192x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel14.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2048x2048 : Shape := ⟨2, ![2048, 2048]⟩
abbrev S2304x512 : Shape := ⟨2, ![2304, 512]⟩
abbrev S256x512 : Shape := ⟨2, ![256, 512]⟩
abbrev S2304x128 : Shape := ⟨2, ![2304, 128]⟩
abbrev S256x128 : Shape := ⟨2, ![256, 128]⟩
abbrev S256x2304 : Shape := ⟨2, ![256, 2304]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2304x512, .bf16⟩
  | .hbm, ⟨2, _⟩ => ⟨S2304x512, .bf16⟩
  | .hbm, ⟨3, _⟩ => ⟨S2048x2048, .bf16⟩
  | .local _ .vmem, ⟨0, _⟩ => ⟨S256x512, .bf16⟩
  | .local _ .vmem, ⟨1, _⟩ => ⟨S256x512, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S256x512, .bf16⟩
  | .local _ .vmem, ⟨7, _⟩ => ⟨S256x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel15Ideal.lean ====
variable {F : FTy → Type} [FloatOps F] [Named F]
def κ : String → Option EReal := fun
  | "scale_log2e" => some (((11863283 / 134217728) * (Real.log 2)⁻¹ : ℝ) : EReal)
  | _ => none
-- ==== Reference15Ideal.lean ====
abbrev S2048x2048 : Shape := ⟨2, ![2048, 2048]⟩
abbrev S2304x512 : Shape := ⟨2, ![2304, 512]⟩
abbrev S1x2048x4x4x128 : Shape := ⟨5, ![1, 2048, 4, 4, 128]⟩
abbrev S1x2304x4x128 : Shape := ⟨4, ![1, 2304, 4, 128]⟩
abbrev S1x4x2304x2048x4 : Shape := ⟨5, ![1, 4, 2304, 2048, 4]⟩
abbrev S1x4x4x2048x2304 : Shape := ⟨5, ![1, 4, 4, 2048, 2304]⟩
abbrev S_ : Shape := ⟨0, ![]⟩
abbrev S1x4x4x2048 : Shape := ⟨4, ![1, 4, 4, 2048]⟩
abbrev S1x4x4x2048x1 : Shape := ⟨5, ![1, 4, 4, 2048, 1]⟩
abbrev S1x4x128x4x2048 : Shape := ⟨5, ![1, 4, 128, 4, 2048]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2304x512, .bf16⟩
  | .hbm, ⟨2, _⟩ => ⟨S2304x512, .bf16⟩
  | .hbm, ⟨3, _⟩ => ⟨S2048x2048, .f32⟩
  | .hbm, ⟨4, _⟩ => ⟨S2304x512, .f32⟩
  | .hbm, ⟨5, _⟩ => ⟨S2304x512, .f32⟩
  | .hbm, ⟨6, _⟩ => ⟨S1x2048x4x4x128, .f32⟩
  | .hbm, ⟨7, _⟩ => ⟨S1x2304x4x128, .f32⟩
  | .hbm, ⟨8, _⟩ => ⟨S1x2304x4x128, .f32⟩
  | .hbm, ⟨9, _⟩ => ⟨S1x4x2304x2048x4, .f32⟩
  | .hbm, ⟨10, _⟩ => ⟨S1x4x4x2048x2304, .f32⟩
  | .hbm, ⟨11, _⟩ => ⟨S_, .f32⟩
  | .hbm, ⟨12, _⟩ => ⟨S1x4x4x2048x2304, .f32⟩
  | .hbm, ⟨13, _⟩ => ⟨S1x4x4x2048x2304, .f32⟩
  | .hbm, ⟨14, _⟩ => ⟨S_, .f32⟩
  | .hbm, ⟨15, _⟩ => ⟨S1x4x4x2048, .f32⟩
  | .hbm, ⟨16, _⟩ => ⟨S_, .f32⟩
  | .hbm, ⟨17, _⟩ => ⟨S1x4x4x2048, .f32⟩
  | .hbm, ⟨18, _⟩ => ⟨S1x4x4x2048, .f32⟩
  | .hbm, ⟨19, _⟩ => ⟨S1x4x4x2048x1, .f32⟩
  | .hbm, ⟨20, _⟩ => ⟨S1x4x4x2048x2304, .f32⟩
  | .hbm, ⟨21, _⟩ => ⟨S1x4x4x2048x2304, .f32⟩
  | .hbm, ⟨22, _⟩ => ⟨S1x4x4x2048x2304, .f32⟩
  | .hbm, ⟨23, _⟩ => ⟨S_, .f32⟩
  | .hbm, ⟨24, _⟩ => ⟨S1x4x4x2048, .f32⟩
  | .hbm, ⟨25, _⟩ => ⟨S1x4x4x2048x1, .f32⟩
  | .hbm, ⟨26, _⟩ => ⟨S1x4x4x2048x2304, .f32⟩
  | .hbm, ⟨27, _⟩ => ⟨S1x4x4x2048x2304, .f32⟩
  | .hbm, ⟨28, _⟩ => ⟨S1x4x128x4x2048, .f32⟩
  | .hbm, ⟨29, _⟩ => ⟨S1x2048x4x4x128, .f32⟩
  | .hbm, ⟨30, _⟩ => ⟨S2048x2048, .f32⟩
  | .hbm, ⟨31, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel16.lean ====
abbrev S2048x2048 : Shape := ⟨2, ![2048, 2048]⟩
abbrev S2304x11264 : Shape := ⟨2, ![2304, 11264]⟩
abbrev S256x1024 : Shape := ⟨2, ![256, 1024]⟩

abbrev nBuf : Space → Nat
  | .hbm => 8
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2304x11264, .f32⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c8_i32 : BitVec 32 := 8#32
  let v1 : BitVec 32 := Scalar.maxsi c0_i32 v0
  let v2 : BitVec 32 := Scalar.minsi c8_i32 v1
  let c7_i32 : BitVec 32 := 7#32
  let v3 : BitVec 32 := Scalar.addi arg0 c7_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c8_i32 : BitVec 32 := 8#32
  let v1 : BitVec 32 := Scalar.maxsi c0_i32 v0
  let v2 : BitVec 32 := Scalar.minsi c8_i32 v1
  let c9_i32 : BitVec 32 := 9#32
  let v3 : BitVec 32 := Scalar.addi arg0 c9_i32
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S2048x2048 : Shape := ⟨2, ![2048, 2048]⟩
abbrev S2304x11264 : Shape := ⟨2, ![2304, 11264]⟩
abbrev S2048x4096 : Shape := ⟨2, ![2048, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2304x11264, .f32⟩
  | .hbm, ⟨4, _⟩ => ⟨S2048x4096, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .bf16⟩
  | .hbm, ⟨43, _⟩ => ⟨S2048x2048, .bf16⟩
  | .hbm, ⟨44, _⟩ => ⟨S2048x2048, .bf16⟩
  | .hbm, ⟨45, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel17.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 13
  | .vmem => 19
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== Reference17Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 80
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Kernel18.lean ====
abbrev S2048x2048 : Shape := ⟨2, ![2048, 2048]⟩
abbrev S2304x2048 : Shape := ⟨2, ![2304, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2304x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c8_i32 : BitVec 32 := 8#32
  let v1 : BitVec 32 := Scalar.maxsi c0_i32 v0
  let v2 : BitVec 32 := Scalar.minsi c8_i32 v1
  let c0_i32_0 : BitVec 32 := 0#32
  let v3 : BitVec 32 := Scalar.addi arg0 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== Reference18Ideal.lean ====
abbrev S2048x2048 : Shape := ⟨2, ![2048, 2048]⟩
abbrev S2304x2048 : Shape := ⟨2, ![2304, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2304x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S_, .f32⟩
  | .hbm, ⟨7, _⟩ => ⟨S1x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel19.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== Reference19Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 106
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x2048, .f32⟩
  | .hbm, ⟨61, _⟩ => ⟨S2048x2048, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S2048x1, .f32⟩
  | .hbm, ⟨93, _⟩ => ⟨S2048x2048, .f32⟩
  | .hbm, ⟨94, _⟩ => ⟨S2048x2048, .f32⟩
  | .hbm, ⟨95, _⟩ => ⟨S2048x2048, .f32⟩
  | .hbm, ⟨96, _⟩ => ⟨S2048x2048, .f32⟩
  | .hbm, ⟨97, _⟩ => ⟨S2048x2048, .f32⟩
  | .hbm, ⟨98, _⟩ => ⟨S2048x2048, .f32⟩
  | .hbm, ⟨99, _⟩ => ⟨S_, .f32⟩
  | .hbm, ⟨100, _⟩ => ⟨S2048, .f32⟩
  | .hbm, ⟨101, _⟩ => ⟨S1x2048, .f32⟩
  | .hbm, ⟨102, _⟩ => ⟨S_, .f32⟩
  | .hbm, ⟨103, _⟩ => ⟨S1x2048, .f32⟩
  | .hbm, ⟨104, _⟩ => ⟨S1x2048, .f32⟩
  | .hbm, ⟨105, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_cst_18 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_19 : Ref sig .tc := ⟨.hbm, 99, rfl⟩
abbrev main_v74 : Ref sig .tc := ⟨.hbm, 100, rfl⟩
abbrev main_v75 : Ref sig .tc := ⟨.hbm, 101, rfl⟩
abbrev main_cst_20 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]
-- ==== Kernel20.lean ====
abbrev S2048x1536 : Shape := ⟨2, ![2048, 1536]⟩
abbrev S1x2048x1536 : Shape := ⟨3, ![1, 2048, 1536]⟩
abbrev S1x256x1536 : Shape := ⟨3, ![1, 256, 1536]⟩
abbrev S256x1536 : Shape := ⟨2, ![256, 1536]⟩

abbrev nBuf : Space → Nat
  | .hbm => 9
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S1x2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel20Ideal.lean ====
abbrev S2048x1536 : Shape := ⟨2, ![2048, 1536]⟩
abbrev S1x2048x1536 : Shape := ⟨3, ![1, 2048, 1536]⟩
abbrev S1x256x1536 : Shape := ⟨3, ![1, 256, 1536]⟩
abbrev S256x1536 : Shape := ⟨2, ![256, 1536]⟩

abbrev nBuf : Space → Nat
  | .hbm => 9
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S1x2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S3x2048x1408 : Shape := ⟨3, ![3, 2048, 1408]⟩
abbrev S2048x1408 : Shape := ⟨2, ![2048, 1408]⟩
abbrev S3x256x1408 : Shape := ⟨3, ![3, 256, 1408]⟩
abbrev S256x1408 : Shape := ⟨2, ![256, 1408]⟩
abbrev S1x256x1408 : Shape := ⟨3, ![1, 256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S3x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .bf16⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S3x256x1408, .bf16⟩
  | .local _ .vmem, ⟨1, _⟩ => ⟨S3x256x1408, .bf16⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .bf16⟩
  | .local _ .vmem, ⟨9, _⟩ => ⟨S256x1408, .bf16⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S3x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel21Ideal.lean ====
abbrev S3x2048x1408 : Shape := ⟨3, ![3, 2048, 1408]⟩
abbrev S2048x1408 : Shape := ⟨2, ![2048, 1408]⟩
abbrev S3x256x1408 : Shape := ⟨3, ![3, 256, 1408]⟩
abbrev S256x1408 : Shape := ⟨2, ![256, 1408]⟩
abbrev S1x256x1408 : Shape := ⟨3, ![1, 256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S3x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .bf16⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S3x256x1408, .bf16⟩
  | .local _ .vmem, ⟨1, _⟩ => ⟨S3x256x1408, .bf16⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .bf16⟩
  | .local _ .vmem, ⟨9, _⟩ => ⟨S256x1408, .bf16⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S3x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S3x2048x1408 : Shape := ⟨3, ![3, 2048, 1408]⟩
abbrev S2048x1408 : Shape := ⟨2, ![2048, 1408]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S3x2048x1408, .bf16⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .bf16⟩
  | .hbm, ⟨5, _⟩ => ⟨S2048x1408, .f32⟩
  | .hbm, ⟨6, _⟩ => ⟨S3x2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S_, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | .hbm, ⟨39, _⟩ => ⟨S2048x1408, .f32⟩
  | .hbm, ⟨40, _⟩ => ⟨S_, .f32⟩
  | .hbm, ⟨41, _⟩ => ⟨S2048x1408, .f32⟩
  | .hbm, ⟨42, _⟩ => ⟨S2048x1408, .f32⟩
  | _, _ => ⟨S3x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel22.lean ====
abbrev S7x2048x1024 : Shape := ⟨3, ![7, 2048, 1024]⟩
abbrev S2048x1024 : Shape := ⟨2, ![2048, 1024]⟩
abbrev S7x512x1024 : Shape := ⟨3, ![7, 512, 1024]⟩
abbrev S512x1024 : Shape := ⟨2, ![512, 1024]⟩
abbrev S1x512x1024 : Shape := ⟨3, ![1, 512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S7x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S7x512x1024, .bf16⟩
  | .local _ .vmem, ⟨1, _⟩ => ⟨S7x512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S7x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel22Ideal.lean ====
abbrev S7x2048x1024 : Shape := ⟨3, ![7, 2048, 1024]⟩
abbrev S2048x1024 : Shape := ⟨2, ![2048, 1024]⟩
abbrev S7x512x1024 : Shape := ⟨3, ![7, 512, 1024]⟩
abbrev S512x1024 : Shape := ⟨2, ![512, 1024]⟩
abbrev S1x512x1024 : Shape := ⟨3, ![1, 512, 1024]⟩

abbrev nBuf : Space → Nat
  | .hbm => 9
  | .vmem => 18
  | .smem => 0
  | _ => 0

abbrev bufTy : (tb : Table) → Fin (tcTables nBuf tb) → BufTy
  | .hbm, ⟨0, _⟩ => ⟨S7x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S7x512x1024, .bf16⟩
  | .local _ .vmem, ⟨1, _⟩ => ⟨S7x512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S7x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S7x2048x1024 : Shape := ⟨3, ![7, 2048, 1024]⟩
abbrev S2048x1024 : Shape := ⟨2, ![2048, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S7x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .bf16⟩
  | .hbm, ⟨5, _⟩ => ⟨S2048x1024, .f32⟩
  | .hbm, ⟨6, _⟩ => ⟨S7x2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | _, _ => ⟨S7x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel23.lean ====
abbrev S7x1024x2048 : Shape := ⟨3, ![7, 1024, 2048]⟩
abbrev S1024x2048 : Shape := ⟨2, ![1024, 2048]⟩
abbrev S7x256x2048 : Shape := ⟨3, ![7, 256, 2048]⟩
abbrev S256x2048 : Shape := ⟨2, ![256, 2048]⟩
abbrev S1x256x2048 : Shape := ⟨3, ![1, 256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S7x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S7x256x2048, .bf16⟩
  | .local _ .vmem, ⟨1, _⟩ => ⟨S7x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S7x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel23Ideal.lean ====
abbrev S7x1024x2048 : Shape := ⟨3, ![7, 1024, 2048]⟩
abbrev S1024x2048 : Shape := ⟨2, ![1024, 2048]⟩
abbrev S7x256x2048 : Shape := ⟨3, ![7, 256, 2048]⟩
abbrev S256x2048 : Shape := ⟨2, ![256, 2048]⟩
abbrev S1x256x2048 : Shape := ⟨3, ![1, 256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S7x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S7x256x2048, .bf16⟩
  | .local _ .vmem, ⟨1, _⟩ => ⟨S7x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S7x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S7x1024x2048 : Shape := ⟨3, ![7, 1024, 2048]⟩
abbrev S1024x2048 : Shape := ⟨2, ![1024, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S7x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .bf16⟩
  | .hbm, ⟨5, _⟩ => ⟨S1024x2048, .f32⟩
  | .hbm, ⟨6, _⟩ => ⟨S7x1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S_, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024x2048, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S_, .f32⟩
  | .hbm, ⟨41, _⟩ => ⟨S1024x2048, .f32⟩
  | .hbm, ⟨42, _⟩ => ⟨S1024x2048, .f32⟩
  | _, _ => ⟨S7x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel24.lean ====
abbrev S7x256x2048 : Shape := ⟨3, ![7, 256, 2048]⟩
abbrev S256x2048 : Shape := ⟨2, ![256, 2048]⟩
abbrev S1x256x2048 : Shape := ⟨3, ![1, 256, 2048]⟩

abbrev nBuf : Space → Nat
  | .hbm => 9
  | .vmem => 9
  | .smem => 0
  | _ => 0

abbrev bufTy : (tb : Table) → Fin (tcTables nBuf tb) → BufTy
  | .hbm, ⟨0, _⟩ => ⟨S7x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S7x256x2048, .bf16⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S7x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S7x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference24Ideal.lean ====
abbrev S7x256x2048 : Shape := ⟨3, ![7, 256, 2048]⟩
abbrev S256x2048 : Shape := ⟨2, ![256, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S7x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .bf16⟩
  | .hbm, ⟨5, _⟩ => ⟨S256x2048, .f32⟩
  | .hbm, ⟨6, _⟩ => ⟨S7x256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | _, _ => ⟨S7x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel25.lean ====
abbrev S256x2048 : Shape := ⟨2, ![256, 2048]⟩
abbrev S2304x2048 : Shape := ⟨2, ![2304, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S2304x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi arg0 c0_i32_2
  let c0_i32_3 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let v3 : BitVec 32 := Scalar.addi arg0 c0_i32_1
  let c0_i32_2 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference25Ideal.lean ====
abbrev S256x2048 : Shape := ⟨2, ![256, 2048]⟩
abbrev S2304x2048 : Shape := ⟨2, ![2304, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 42
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2304x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S256x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S2048, .f32⟩
  | .hbm, ⟨41, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel26.lean ====
abbrev S16x2048 : Shape := ⟨2, ![16, 2048]⟩
abbrev S16x1536 : Shape := ⟨2, ![16, 1536]⟩
abbrev S2048x1536 : Shape := ⟨2, ![2048, 1536]⟩
abbrev S16x1024 : Shape := ⟨2, ![16, 1024]⟩
abbrev S16x768 : Shape := ⟨2, ![16, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S16x2048, .f32⟩
  | .hbm, ⟨1, _⟩ => ⟨S16x1536, .f32⟩
  | .hbm, ⟨2, _⟩ => ⟨S2048x1536, .f32⟩
  | .local _ .vmem, ⟨0, _⟩ => ⟨S16x1024, .f32⟩
  | .local _ .vmem, ⟨1, _⟩ => ⟨S16x1024, .f32⟩
  | .local _ .vmem, ⟨2, _⟩ => ⟨S16x768, .f32⟩
  | .local _ .vmem, ⟨3, _⟩ => ⟨S16x768, .f32⟩
  | .local _ .vmem, ⟨4, _⟩ => ⟨S1024x768, .f32⟩
  | .local _ .vmem, ⟨5, _⟩ => ⟨S1024x768, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S16x2048 : Shape := ⟨2, ![16, 2048]⟩
abbrev S16x1536 : Shape := ⟨2, ![16, 1536]⟩
abbrev S_ : Shape := ⟨0, ![]⟩
abbrev S2048x1536 : Shape := ⟨2, ![2048, 1536]⟩
abbrev S1536x2048 : Shape := ⟨2, ![1536, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x1536, .f32⟩
  | .hbm, ⟨2, _⟩ => ⟨S_, .f32⟩
  | .hbm, ⟨3, _⟩ => ⟨S2048x1536, .f32⟩
  | .hbm, ⟨4, _⟩ => ⟨S16x2048, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S16x1536, .f32⟩
  | .hbm, ⟨14, _⟩ => ⟨S1536x2048, .f32⟩
  | .hbm, ⟨15, _⟩ => ⟨S2048x1536, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel27.lean ====
abbrev S16x1536 : Shape := ⟨2, ![16, 1536]⟩
abbrev S2048x1536 : Shape := ⟨2, ![2048, 1536]⟩
abbrev S16x2048 : Shape := ⟨2, ![16, 2048]⟩
abbrev S1024x1536 : Shape := ⟨2, ![1024, 1536]⟩
abbrev S16x1024 : Shape := ⟨2, ![16, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16x1536, .f32⟩
  | .hbm, ⟨1, _⟩ => ⟨S2048x1536, .f32⟩
  | .hbm, ⟨2, _⟩ => ⟨S16x2048, .f32⟩
  | .local _ .vmem, ⟨0, _⟩ => ⟨S16x1536, .f32⟩
  | .local _ .vmem, ⟨1, _⟩ => ⟨S1024x1536, .f32⟩
  | .local _ .vmem, ⟨2, _⟩ => ⟨S1024x1536, .f32⟩
  | .local _ .vmem, ⟨3, _⟩ => ⟨S16x1024, .f32⟩
  | .local _ .vmem, ⟨4, _⟩ => ⟨S16x1024, .f32⟩
  | _, _ => ⟨S16x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S16x1536 : Shape := ⟨2, ![16, 1536]⟩
abbrev S2048x1536 : Shape := ⟨2, ![2048, 1536]⟩
abbrev S_ : Shape := ⟨0, ![]⟩
abbrev S16x2048 : Shape := ⟨2, ![16, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16x1536, .f32⟩
  | .hbm, ⟨1, _⟩ => ⟨S2048x1536, .f32⟩
  | .hbm, ⟨2, _⟩ => ⟨S_, .f32⟩
  | .hbm, ⟨3, _⟩ => ⟨S16x2048, .f32⟩
  | .hbm, ⟨4, _⟩ => ⟨S16x1536, .f32⟩
  | .hbm, ⟨5, _⟩ => ⟨S16x2048, .f32⟩
  | _, _ => ⟨S16x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel28.lean ====
abbrev S16x2048 : Shape := ⟨2, ![16, 2048]⟩
abbrev S2048x1536 : Shape := ⟨2, ![2048, 1536]⟩
abbrev S1x1536 : Shape := ⟨2, ![1, 1536]⟩
abbrev S16x1536 : Shape := ⟨2, ![16, 1536]⟩
abbrev S2048x768 : Shape := ⟨2, ![2048, 768]⟩
abbrev S1x768 : Shape := ⟨2, ![1, 768]⟩
abbrev S16x768 : Shape := ⟨2, ![16, 768]⟩

abbrev nBuf : Space → Nat
  | .hbm => 4
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2048x1536, .f32⟩
  | .hbm, ⟨2, _⟩ => ⟨S1x1536, .f32⟩
  | .hbm, ⟨3, _⟩ => ⟨S16x1536, .f32⟩
  | .local _ .vmem, ⟨0, _⟩ => ⟨S16x2048, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S16x768, .f32⟩
  | .local _ .vmem, ⟨6, _⟩ => ⟨S16x768, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference28Ideal.lean ====
abbrev S16x2048 : Shape := ⟨2, ![16, 2048]⟩
abbrev S2048x1536 : Shape := ⟨2, ![2048, 1536]⟩
abbrev S1x1536 : Shape := ⟨2, ![1, 1536]⟩
abbrev S_ : Shape := ⟨0, ![]⟩
abbrev S16x1536 : Shape := ⟨2, ![16, 1536]⟩

abbrev nBuf : Space → Nat
  | .hbm => 15
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x1536, .f32⟩
  | .hbm, ⟨2, _⟩ => ⟨S1x1536, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x1536, .f32⟩
  | .hbm, ⟨13, _⟩ => ⟨S16x1536, .f32⟩
  | .hbm, ⟨14, _⟩ => ⟨S16x1536, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel29.lean ====
abbrev S256x2048 : Shape := ⟨2, ![256, 2048]⟩
abbrev S2048x2048 : Shape := ⟨2, ![2048, 2048]⟩
abbrev S1x2048 : Shape := ⟨2, ![1, 2048]⟩
abbrev S2304x2048 : Shape := ⟨2, ![2304, 2048]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2304x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .bf16⟩
  | .local _ .vmem, ⟨10, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi arg0 c0_i32_2
  let c0_i32_3 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let v3 : BitVec 32 := Scalar.addi arg0 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference29Ideal.lean ====
abbrev S256x2048 : Shape := ⟨2, ![256, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S256 : Shape := ⟨1, ![256]⟩
abbrev S256x1 : Shape := ⟨2, ![256, 1]⟩
abbrev S2304x2048 : Shape := ⟨2, ![2304, 2048]⟩

abbrev nBuf : Space → Nat
  | .hbm => 53
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S256x2048, .f32⟩
  | .hbm, ⟨30, _⟩ => ⟨S_, .f32⟩
  | .hbm, ⟨31, _⟩ => ⟨S256, .f32⟩
  | .hbm, ⟨32, _⟩ => ⟨S256x1, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S256x1, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S_, .f32⟩
  | .hbm, ⟨45, _⟩ => ⟨S1x2048, .f32⟩
  | .hbm, ⟨46, _⟩ => ⟨S1x2048, .f32⟩
  | .hbm, ⟨47, _⟩ => ⟨S256x2048, .f32⟩
  | .hbm, ⟨48, _⟩ => ⟨S256x2048, .f32⟩
  | .hbm, ⟨49, _⟩ => ⟨S256x2048, .f32⟩
  | .hbm, ⟨50, _⟩ => ⟨S256x2048, .f32⟩
  | .hbm, ⟨51, _⟩ => ⟨S2304x2048, .f32⟩
  | .hbm, ⟨52, _⟩ => ⟨S2304x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel30.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference30Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel31.lean ====
abbrev S2048x2048 : Shape := ⟨2, ![2048, 2048]⟩
abbrev S2304x11264 : Shape := ⟨2, ![2304, 11264]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2304x11264, .f32⟩
  | .hbm, ⟨3, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c8_i32 : BitVec 32 := 8#32
  let v1 : BitVec 32 := Scalar.maxsi c0_i32 v0
  let v2 : BitVec 32 := Scalar.minsi c8_i32 v1
  let c7_i32 : BitVec 32 := 7#32
  let v3 : BitVec 32 := Scalar.addi arg0 c7_i32
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c8_i32 : BitVec 32 := 8#32
  let v1 : BitVec 32 := Scalar.maxsi c0_i32 v0
  let v2 : BitVec 32 := Scalar.minsi c8_i32 v1
  let c9_i32 : BitVec 32 := 9#32
  let v3 : BitVec 32 := Scalar.addi arg0 c9_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference31Ideal.lean ====
abbrev S2048x2048 : Shape := ⟨2, ![2048, 2048]⟩
abbrev S2304x11264 : Shape := ⟨2, ![2304, 11264]⟩
abbrev S2048x4096 : Shape := ⟨2, ![2048, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2304x11264, .f32⟩
  | .hbm, ⟨3, _⟩ => ⟨S2048x4096, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel32.lean ====
abbrev S8x192x128 : Shape := ⟨3, ![8, 192, 128]⟩
abbrev S192x128 : Shape := ⟨2, ![192, 128]⟩
abbrev S1x192x128 : Shape := ⟨3, ![1, 192, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S192x128, .f32⟩
  | .hbm, ⟨5, _⟩ => ⟨S192x128, .f32⟩
  | .hbm, ⟨6, _⟩ => ⟨S192x128, .f32⟩
  | .hbm, ⟨7, _⟩ => ⟨S192x128, .f32⟩
  | .local _ .vmem, ⟨0, _⟩ => ⟨S8x192x128, .f32⟩
  | .local _ .vmem, ⟨1, _⟩ => ⟨S192x128, .f32⟩
  | .local _ .vmem, ⟨2, _⟩ => ⟨S192x128, .f32⟩
  | .local _ .vmem, ⟨3, _⟩ => ⟨S192x128, .f32⟩
  | .local _ .vmem, ⟨4, _⟩ => ⟨S192x128, .f32⟩
  | .local _ .vmem, ⟨5, _⟩ => ⟨S192x128, .f32⟩
  | .local _ .vmem, ⟨6, _⟩ => ⟨S192x128, .f32⟩
  | .local _ .vmem, ⟨7, _⟩ => ⟨S192x128, .f32⟩
  | _, _ => ⟨S8x192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference32Ideal.lean ====
abbrev S8x192x128 : Shape := ⟨3, ![8, 192, 128]⟩
abbrev S192x128 : Shape := ⟨2, ![192, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S_, .f32⟩
  | .hbm, ⟨5, _⟩ => ⟨S192x128, .f32⟩
  | .hbm, ⟨6, _⟩ => ⟨S_, .f32⟩
  | .hbm, ⟨7, _⟩ => ⟨S192x128, .f32⟩
  | .hbm, ⟨8, _⟩ => ⟨S192x128, .f32⟩
  | .hbm, ⟨9, _⟩ => ⟨S_, .f32⟩
  | .hbm, ⟨10, _⟩ => ⟨S192x128, .f32⟩
  | .hbm, ⟨11, _⟩ => ⟨S192x128, .f32⟩
  | .hbm, ⟨12, _⟩ => ⟨S192x128, .f32⟩
  | .hbm, ⟨13, _⟩ => ⟨S_, .f32⟩
  | .hbm, ⟨14, _⟩ => ⟨S192x128, .f32⟩
  | .hbm, ⟨15, _⟩ => ⟨S192x128, .f32⟩
  | .hbm, ⟨16, _⟩ => ⟨S192x128, .f32⟩
  | .hbm, ⟨17, _⟩ => ⟨S_, .f32⟩
  | .hbm, ⟨18, _⟩ => ⟨S192x128, .f32⟩
  | .hbm, ⟨19, _⟩ => ⟨S192x128, .f32⟩
  | .hbm, ⟨20, _⟩ => ⟨S192x128, .f32⟩
  | .hbm, ⟨21, _⟩ => ⟨S_, .f32⟩
  | .hbm, ⟨22, _⟩ => ⟨S192x128, .f32⟩
  | .hbm, ⟨23, _⟩ => ⟨S192x128, .f32⟩
  | .hbm, ⟨24, _⟩ => ⟨S_, .f32⟩
  | .hbm, ⟨25, _⟩ => ⟨S192x128, .f32⟩
  | .hbm, ⟨26, _⟩ => ⟨S192x128, .f32⟩
  | .hbm, ⟨27, _⟩ => ⟨S192x128, .f32⟩
  | .hbm, ⟨28, _⟩ => ⟨S_, .f32⟩
  | .hbm, ⟨29, _⟩ => ⟨S192x128, .f32⟩
  | .hbm, ⟨30, _⟩ => ⟨S192x128, .f32⟩
  | .hbm, ⟨31, _⟩ => ⟨S192x128, .f32⟩
  | .hbm, ⟨32, _⟩ => ⟨S_, .f32⟩
  | .hbm, ⟨33, _⟩ => ⟨S192x128, .f32⟩
  | .hbm, ⟨34, _⟩ => ⟨S192x128, .f32⟩
  | .hbm, ⟨35, _⟩ => ⟨S192x128, .f32⟩
  | .hbm, ⟨36, _⟩ => ⟨S_, .f32⟩
  | .hbm, ⟨37, _⟩ => ⟨S192x128, .f32⟩
  | .hbm, ⟨38, _⟩ => ⟨S192x128, .f32⟩
  | _, _ => ⟨S8x192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel33.lean ====
abbrev S8192x128 : Shape := ⟨2, ![8192, 128]⟩
abbrev S1x8192x128 : Shape := ⟨3, ![1, 8192, 128]⟩
abbrev S1x4096x128 : Shape := ⟨3, ![1, 4096, 128]⟩
abbrev S4096x128 : Shape := ⟨2, ![4096, 128]⟩

abbrev nBuf : Space → Nat
  | .hbm => 9
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S1x8192x128, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S8192x128, .f32⟩
  | .local _ .vmem, ⟨0, _⟩ => ⟨S1x4096x128, .f32⟩
  | .local _ .vmem, ⟨1, _⟩ => ⟨S1x4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference33Ideal.lean ====
abbrev S8192x128 : Shape := ⟨2, ![8192, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S_, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S_, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S_, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S8x16x256 : Shape := ⟨3, ![8, 16, 256]⟩
abbrev S16x256 : Shape := ⟨2, ![16, 256]⟩
abbrev S1x16x256 : Shape := ⟨3, ![1, 16, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .local _ .vmem, ⟨0, _⟩ => ⟨S8x16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | _, _ => ⟨S8x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference34Ideal.lean ====
abbrev S8x16x256 : Shape := ⟨3, ![8, 16, 256]⟩
abbrev S16x256 : Shape := ⟨2, ![16, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S_, .f32⟩
  | .hbm, ⟨7, _⟩ => ⟨S16x256, .f32⟩
  | .hbm, ⟨8, _⟩ => ⟨S16x256, .f32⟩
  | .hbm, ⟨9, _⟩ => ⟨S_, .f32⟩
  | .hbm, ⟨10, _⟩ => ⟨S16x256, .f32⟩
  | .hbm, ⟨11, _⟩ => ⟨S16x256, .f32⟩
  | .hbm, ⟨12, _⟩ => ⟨S16x256, .f32⟩
  | .hbm, ⟨13, _⟩ => ⟨S_, .f32⟩
  | .hbm, ⟨14, _⟩ => ⟨S16x256, .f32⟩
  | .hbm, ⟨15, _⟩ => ⟨S16x256, .f32⟩
  | .hbm, ⟨16, _⟩ => ⟨S16x256, .f32⟩
  | .hbm, ⟨17, _⟩ => ⟨S_, .f32⟩
  | .hbm, ⟨18, _⟩ => ⟨S16x256, .f32⟩
  | .hbm, ⟨19, _⟩ => ⟨S16x256, .f32⟩
  | .hbm, ⟨20, _⟩ => ⟨S16x256, .f32⟩
  | .hbm, ⟨21, _⟩ => ⟨S_, .f32⟩
  | .hbm, ⟨22, _⟩ => ⟨S16x256, .f32⟩
  | .hbm, ⟨23, _⟩ => ⟨S16x256, .f32⟩
  | .hbm, ⟨24, _⟩ => ⟨S_, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S_, .f32⟩
  | .hbm, ⟨29, _⟩ => ⟨S16x256, .f32⟩
  | .hbm, ⟨30, _⟩ => ⟨S16x256, .f32⟩
  | .hbm, ⟨31, _⟩ => ⟨S16x256, .f32⟩
  | .hbm, ⟨32, _⟩ => ⟨S_, .f32⟩
  | .hbm, ⟨33, _⟩ => ⟨S16x256, .f32⟩
  | .hbm, ⟨34, _⟩ => ⟨S16x256, .f32⟩
  | .hbm, ⟨35, _⟩ => ⟨S16x256, .f32⟩
  | .hbm, ⟨36, _⟩ => ⟨S_, .f32⟩
  | .hbm, ⟨37, _⟩ => ⟨S16x256, .f32⟩
  | .hbm, ⟨38, _⟩ => ⟨S16x256, .f32⟩
  | _, _ => ⟨S8x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel35.lean ====
abbrev S1024x128 : Shape := ⟨2, ![1024, 128]⟩
abbrev S7x1024x128 : Shape := ⟨3, ![7, 1024, 128]⟩
abbrev S1x1024x128 : Shape := ⟨3, ![1, 1024, 128]⟩

abbrev nBuf : Space → Nat
  | .hbm => 3
  | .vmem => 3
  | .smem => 0
  | _ => 0

abbrev bufTy : (tb : Table) → Fin (tcTables nBuf tb) → BufTy
  | .hbm, ⟨0, _⟩ => ⟨S1024x128, .f32⟩
  | .hbm, ⟨1, _⟩ => ⟨S7x1024x128, .f32⟩
  | .hbm, ⟨2, _⟩ => ⟨S1024x128, .f32⟩
  | .local _ .vmem, ⟨0, _⟩ => ⟨S1024x128, .f32⟩
  | .local _ .vmem, ⟨1, _⟩ => ⟨S7x1024x128, .f32⟩
  | .local _ .vmem, ⟨2, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference35Ideal.lean ====
abbrev S1024x128 : Shape := ⟨2, ![1024, 128]⟩
abbrev S7x1024x128 : Shape := ⟨3, ![7, 1024, 128]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S7x1024x128, .f32⟩
  | .hbm, ⟨2, _⟩ => ⟨S_, .f32⟩
  | .hbm, ⟨3, _⟩ => ⟨S1024x128, .f32⟩
  | .hbm, ⟨4, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel36.lean ====
abbrev S16x2048 : Shape := ⟨2, ![16, 2048]⟩
abbrev S1x2048 : Shape := ⟨2, ![1, 2048]⟩
abbrev S1x12288 : Shape := ⟨2, ![1, 12288]⟩
abbrev S2048 : Shape := ⟨1, ![2048]⟩

abbrev nBuf : Space → Nat
  | .hbm => 6
  | .vmem => 6
  | .smem => 0
  | _ => 0

abbrev bufTy : (tb : Table) → Fin (tcTables nBuf tb) → BufTy
  | .hbm, ⟨0, _⟩ => ⟨S16x2048, .f32⟩
  | .hbm, ⟨1, _⟩ => ⟨S1x2048, .f32⟩
  | .hbm, ⟨2, _⟩ => ⟨S1x12288, .f32⟩
  | .hbm, ⟨3, _⟩ => ⟨S1x12288, .f32⟩
  | .hbm, ⟨4, _⟩ => ⟨S1x2048, .f32⟩
  | .hbm, ⟨5, _⟩ => ⟨S1x12288, .f32⟩
  | .local _ .vmem, ⟨0, _⟩ => ⟨S16x2048, .f32⟩
  | .local _ .vmem, ⟨1, _⟩ => ⟨S1x2048, .f32⟩
  | .local _ .vmem, ⟨2, _⟩ => ⟨S1x12288, .f32⟩
  | .local _ .vmem, ⟨3, _⟩ => ⟨S1x12288, .f32⟩
  | .local _ .vmem, ⟨4, _⟩ => ⟨S1x2048, .f32⟩
  | .local _ .vmem, ⟨5, _⟩ => ⟨S1x12288, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== Reference36Ideal.lean ====
abbrev S16x2048 : Shape := ⟨2, ![16, 2048]⟩
abbrev S1x2048 : Shape := ⟨2, ![1, 2048]⟩
abbrev S1x12288 : Shape := ⟨2, ![1, 12288]⟩
abbrev S8x2048 : Shape := ⟨2, ![8, 2048]⟩
abbrev S_ : Shape := ⟨0, ![]⟩
abbrev S2048 : Shape := ⟨1, ![2048]⟩

abbrev nBuf : Space → Nat
  | .hbm => 29
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S1x2048, .f32⟩
  | .hbm, ⟨2, _⟩ => ⟨S1x12288, .f32⟩
  | .hbm, ⟨3, _⟩ => ⟨S1x12288, .f32⟩
  | .hbm, ⟨4, _⟩ => ⟨S8x2048, .f32⟩
  | .hbm, ⟨5, _⟩ => ⟨S_, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_cst_0 : Ref sig .tc := ⟨.hbm, 21, rfl⟩
abbrev main_v4 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩

abbrev nD : Nat := 1
abbrev τ : Topo := Topo.v7x

variable {F : FTy → Type} [FloatOps F]
-- ==== Kernel37.lean ====
abbrev S2048x2048 : Shape := ⟨2, ![2048, 2048]⟩
abbrev S2304x512 : Shape := ⟨2, ![2304, 512]⟩
abbrev S2304x2048 : Shape := ⟨2, ![2304, 2048]⟩
abbrev S2304x11264 : Shape := ⟨2, ![2304, 11264]⟩
abbrev S256x2048 : Shape := ⟨2, ![256, 2048]⟩
abbrev S256x512 : Shape := ⟨2, ![256, 512]⟩
abbrev S256x11264 : Shape := ⟨2, ![256, 11264]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .bf16⟩
  | .hbm, ⟨1, _⟩ => ⟨S2304x512, .bf16⟩
  | .hbm, ⟨2, _⟩ => ⟨S2304x512, .bf16⟩
  | .hbm, ⟨3, _⟩ => ⟨S2304x2048, .bf16⟩
  | .hbm, ⟨4, _⟩ => ⟨S2304x2048, .bf16⟩
  | .hbm, ⟨5, _⟩ => ⟨S2048x2048, .bf16⟩
  | .hbm, ⟨6, _⟩ => ⟨S2048x2048, .bf16⟩
  | .hbm, ⟨7, _⟩ => ⟨S2304x11264, .bf16⟩
  | .local _ .vmem, ⟨0, _⟩ => ⟨S256x2048, .bf16⟩
  | .local _ .vmem, ⟨1, _⟩ => ⟨S256x2048, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x11264, .bf16⟩
  | .local _ .vmem, ⟨15, _⟩ => ⟨S256x11264, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let v3 : BitVec 32 := Scalar.addi arg0 c0_i32_0
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let v3 : BitVec 32 := Scalar.addi arg0 c0_i32_1
  let c0_i32_2 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let v3 : BitVec 32 := Scalar.addi arg0 c0_i32_1
  let c0_i32_2 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let v3 : BitVec 32 := Scalar.addi arg0 c0_i32_1
  let c0_i32_2 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let v3 : BitVec 32 := Scalar.addi arg0 c0_i32_1
  let c0_i32_2 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let v3 : BitVec 32 := Scalar.addi arg0 c0_i32_0
  let c0_i32_1 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let v3 : BitVec 32 := Scalar.addi arg0 c0_i32_0
  let c0_i32_1 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x11264 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference37Ideal.lean ====
abbrev S2048x2048 : Shape := ⟨2, ![2048, 2048]⟩
abbrev S2304x512 : Shape := ⟨2, ![2304, 512]⟩
abbrev S2304x2048 : Shape := ⟨2, ![2304, 2048]⟩
abbrev S_ : Shape := ⟨0, ![]⟩
abbrev S2304x11264 : Shape := ⟨2, ![2304, 11264]⟩
abbrev S2048x11264 : Shape := ⟨2, ![2048, 11264]⟩

abbrev nBuf : Space → Nat
  | .hbm => 39
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2304x512, .bf16⟩
  | .hbm, ⟨2, _⟩ => ⟨S2304x512, .bf16⟩
  | .hbm, ⟨3, _⟩ => ⟨S2304x2048, .bf16⟩
  | .hbm, ⟨4, _⟩ => ⟨S2304x2048, .bf16⟩
  | .hbm, ⟨5, _⟩ => ⟨S2048x2048, .bf16⟩
  | .hbm, ⟨6, _⟩ => ⟨S2048x2048, .bf16⟩
  | .hbm, ⟨7, _⟩ => ⟨S_, .bf16⟩
  | .hbm, ⟨8, _⟩ => ⟨S2304x11264, .bf16⟩
  | .hbm, ⟨9, _⟩ => ⟨S2048x11264, .bf16⟩
  | .hbm, ⟨10, _⟩ => ⟨S2048x2048, .bf16⟩
  | .hbm, ⟨11, _⟩ => ⟨S2304x512, .bf16⟩
  | .hbm, ⟨12, _⟩ => ⟨S2304x512, .bf16⟩
  | .hbm, ⟨13, _⟩ => ⟨S2304x2048, .bf16⟩
  | .hbm, ⟨14, _⟩ => ⟨S2304x2048, .bf16⟩
  | .hbm, ⟨15, _⟩ => ⟨S2048x2048, .bf16⟩
  | .hbm, ⟨16, _⟩ => ⟨S2048x2048, .bf16⟩
  | .hbm, ⟨17, _⟩ => ⟨S_, .bf16⟩
  | .hbm, ⟨18, _⟩ => ⟨S2048x11264, .bf16⟩
  | .hbm, ⟨19, _⟩ => ⟨S_, .bf16⟩
  | .hbm, ⟨20, _⟩ => ⟨S2048x11264, .bf16⟩
  | .hbm, ⟨21, _⟩ => ⟨S2048x11264, .bf16⟩
  | .hbm, ⟨22, _⟩ => ⟨S_, .bf16⟩
  | .hbm, ⟨23, _⟩ => ⟨S2304x11264, .bf16⟩
  | .hbm, ⟨24, _⟩ => ⟨S_, .bf16⟩
  | .hbm, ⟨25, _⟩ => ⟨S2304x11264, .bf16⟩
  | .hbm, ⟨26, _⟩ => ⟨S2304x11264, .bf16⟩
  | .hbm, ⟨27, _⟩ => ⟨S_, .bf16⟩
  | .hbm, ⟨28, _⟩ => ⟨S2304x11264, .bf16⟩
  | .hbm, ⟨29, _⟩ => ⟨S2304x11264, .bf16⟩
  | .hbm, ⟨30, _⟩ => ⟨S_, .bf16⟩
  | .hbm, ⟨31, _⟩ => ⟨S2304x11264, .bf16⟩
  | .hbm, ⟨32, _⟩ => ⟨S2304x11264, .bf16⟩
  | .hbm, ⟨33, _⟩ => ⟨S_, .bf16⟩
  | .hbm, ⟨34, _⟩ => ⟨S2048x11264, .bf16⟩
  | .hbm, ⟨35, _⟩ => ⟨S2048x11264, .bf16⟩
  | .hbm, ⟨36, _⟩ => ⟨S_, .bf16⟩
  | .hbm, ⟨37, _⟩ => ⟨S2304x11264, .bf16⟩
  | .hbm, ⟨38, _⟩ => ⟨S2304x11264, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel38.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S_ : Shape := ⟨0, ![]⟩

abbrev nBuf : Space → Nat
  | .hbm => 12
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S_, .f32⟩
  | .hbm, ⟨11, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_cst : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi arg0 c0_i32_1
  let c0_i32_2 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== Reference38Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Proof.Blocks.lean ====
module

public import Idealize.ShloMosaic.Lib.Tactic
public import Idealize.ShloMosaic.Lib.Pipeline.Value

/-! # Loads and stores of whole buffers -/

@[expose] public section

noncomputable section

namespace Cert.Blocks

open Idealize.ShloMosaic

theorem zero_offsets : (![0, 0] : Fin 2 → Nat) = fun _ => 0 := by
  funext a
  match a with
  | ⟨0, _⟩ => rfl
  | ⟨1, _⟩ => rfl

/-- A whole-buffer load after stores the last of which covers the buffer reads that last store's value. -/
theorem load_after_store {Val : EltTy → Type} [∀ e, Nonempty (Val e)] {S : Shape} {e : EltTy} {sg : RefSig} {κ : Kind}
    {sp : Space} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ fun y => ⟨_, List.mem_cons_self, View.mem_set_unit_zero h inb y⟩,
    View.canon_cons_unit_zero h inb w L, View.ld_unit_zero h]

end Cert.Blocks

end
-- ==== Proof.Attn.Block.lean ====
module

public import proofs.«01_k».proof.Proof.Gen.KernelIdeal.Value
public import proofs.«01_k».proof.Proof.Blocks
public import Idealize.ShloMosaic.Lib.Tactic
public import Idealize.ShloMosaic.Lib.ValueIdxCore

/-! # The attention gradient: what one grid point leaves in its three output buffers

A grid point holds 256 query rows of one key/value head's four query heads. Query head `g` is the 128 columns
`128 g …` of the point's `q` and `do` blocks (`head`). For each head the body computes the unnormalised weights
(`k0_pay3`), the reciprocals of their row sums (`k0_pay4`) and the score gradient (`k0_pay5`); it stores the head's
`dq` block, and adds the head's part of `dk` and of `dv` to the two accumulators. -/

@[expose] public section

noncomputable section

namespace Cert.KernelIdeal.Attn

open Cert.KernelIdeal Cert.KernelIdeal.Gen Cert.Blocks Idealize.ShloMosaic Idealize.ShloMosaic.TcCoe Idealize.ShloMosaic.ValueIdx

variable {F : FTy → Type} [FloatOps F] [Named F]

/-- Query head `g` of a 256-row block: its 128 columns from `128 g` on. -/
def head {φ : EltTy} (x : Vec F S256x512 φ) (g : Fin 4) : Vec F S256x128 φ := fun j =>
  x (ix2 (⟨(j 0).val, (j 0).isLt⟩ : Fin 256) (⟨128 * g.val + (j 1).val, by have : (j 1).val < 128 := (j 1).isLt; have := g.isLt; omega⟩ : Fin 512))

theorem ld_head {φ : EltTy} (x : Vec F S256x512 φ) (g : Fin 4) {o : Nat} (ho : o = 128 * g.val)
    (inb : ∀ a, (![0, o] : Fin 2 → Nat) a + S256x128.size a ≤ S256x512.size a) :
    View.ld x (Rect.unit (s := S256x512) ![0, o] S256x128.size inb) = head x g := by
  subst ho
  rw [View.ld_unit]
  funext j
  show x _ = x _
  refine congrArg x (funext fun a => Fin.ext ?_)
  match a with
  | ⟨0, _⟩ => show 0 + (j 0).val = (j 0).val; omega
  | ⟨1, _⟩ => rfl

variable (x0 : Vec F S256x512 .bf16) (x1 x2 : Vec F S2304x128 .bf16) (x3 : Vec F S256x512 .bf16)

/-- The score gradient of query head `g` at the point: 256 rows by 2304 keys. -/
abbrev dsOf (g : Fin 4) : FVec F S256x2304 .bf16 := k0_pay5 x1 x2 (head x0 g) (head x3 g)

/-- One head's step of the key-gradient accumulator. -/
abbrev dkAdd (g : Fin 4) (acc : Vec F S2304x128 .f32) : Vec F S2304x128 .f32 :=
  k0_pay7 (head x0 g) (dsOf x0 x1 x2 x3 g) acc

/-- One head's step of the value-gradient accumulator. -/
abbrev dvAdd (g : Fin 4) (acc : Vec F S2304x128 .f32) : Vec F S2304x128 .f32 :=
  k0_pay8 (head x3 g) (k0_pay3 x1 (head x0 g)) (k0_pay4 x1 (head x0 g)) acc

/-- One point's step of the key-gradient accumulator: the four heads in turn. -/
def dkStep (acc : Vec F S2304x128 .f32) : Vec F S2304x128 .f32 :=
  dkAdd x0 x1 x2 x3 3 (dkAdd x0 x1 x2 x3 2 (dkAdd x0 x1 x2 x3 1 (dkAdd x0 x1 x2 x3 0 acc)))

/-- One point's step of the value-gradient accumulator: the four heads in turn. -/
def dvStep (acc : Vec F S2304x128 .f32) : Vec F S2304x128 .f32 :=
  dvAdd x0 x1 x3 3 (dvAdd x0 x1 x3 2 (dvAdd x0 x1 x3 1 (dvAdd x0 x1 x3 0 acc)))

/-- The point's query-gradient block: column `128 g + d` is column `d` of head `g`'s product. -/
def dqBlock : Vec F S256x512 .f32 := fun y =>
  k0_pay6 x1 x2 (head x0 ⟨(y 1).val / 128, by have : (y 1).val < 512 := (y 1).isLt; omega⟩)
    (head x3 ⟨(y 1).val / 128, by have : (y 1).val < 512 := (y 1).isLt; omega⟩)
    (ix2 (⟨(y 0).val, (y 0).isLt⟩ : Fin 256) (⟨(y 1).val % 128, Nat.mod_lt _ (by decide)⟩ : Fin 128))

/-! ## The four heads compute the same functions -/

theorem e1_eq (k : Vec F S2304x128 .bf16) (q : Vec F S256x128 .bf16) : k0_pay9 k q = k0_pay3 k q := rfl
theorem e2_eq (k : Vec F S2304x128 .bf16) (q : Vec F S256x128 .bf16) : k0_pay17 k q = k0_pay3 k q := rfl
theorem e3_eq (k : Vec F S2304x128 .bf16) (q : Vec F S256x128 .bf16) : k0_pay27 (k0_pay25 k q) (k0_pay26 k q) = k0_pay3 k q := rfl

theorem dk1_eq (k v : Vec F S2304x128 .bf16) (q d : Vec F S256x128 .bf16) (acc : Vec F S2304x128 .f32) :
    k0_pay15 q (k0_pay9 k q) (k0_pay10 k q) (k0_pay11 k v q d) k0_pay12 acc = k0_pay7 q (k0_pay5 k v q d) acc := rfl
theorem dk2_eq (k v : Vec F S2304x128 .bf16) (q d : Vec F S256x128 .bf16) (acc : Vec F S2304x128 .f32) :
    k0_pay23 v q d (k0_pay17 k q) (k0_pay18 k q) k0_pay19 acc = k0_pay7 q (k0_pay5 k v q d) acc := rfl
theorem dk3_eq (k v : Vec F S2304x128 .bf16) (q d : Vec F S256x128 .bf16) (acc : Vec F S2304x128 .f32) :
    k0_pay31 v q d (k0_pay25 k q) (k0_pay26 k q) acc = k0_pay7 q (k0_pay5 k v q d) acc := rfl

theorem dv1_eq (k : Vec F S2304x128 .bf16) (q d : Vec F S256x128 .bf16) (acc : Vec F S2304x128 .f32) :
    k0_pay16 d (k0_pay9 k q) (k0_pay10 k q) acc = k0_pay8 d (k0_pay3 k q) (k0_pay4 k q) acc := rfl
theorem dv2_eq (k : Vec F S2304x128 .bf16) (q d : Vec F S256x128 .bf16) (acc : Vec F S2304x128 .f32) :
    k0_pay24 d (k0_pay17 k q) (k0_pay18 k q) k0_pay19 acc = k0_pay8 d (k0_pay3 k q) (k0_pay4 k q) acc := rfl
theorem dv3_eq (k : Vec F S2304x128 .bf16) (q d : Vec F S256x128 .bf16) (acc : Vec F S2304x128 .f32) :
    k0_pay32 d (k0_pay25 k q) (k0_pay26 k q) acc = k0_pay8 d (k0_pay3 k q) (k0_pay4 k q) acc := rfl

theorem dq1_eq (k v : Vec F S2304x128 .bf16) (q d : Vec F S256x128 .bf16) :
    k0_pay14 k (k0_pay9 k q) (k0_pay10 k q) (k0_pay11 k v q d) k0_pay12 = k0_pay6 k v q d := rfl
theorem dq2_eq (k v : Vec F S2304x128 .bf16) (q d : Vec F S256x128 .bf16) :
    k0_pay22 k v d (k0_pay17 k q) (k0_pay18 k q) k0_pay19 = k0_pay6 k v q d := rfl
theorem dq3_eq (k v : Vec F S2304x128 .bf16) (q d : Vec F S256x128 .bf16) :
    k0_pay30 k v d (k0_pay25 k q) (k0_pay26 k q) = k0_pay6 k v q d := rfl

/-- Head `g`'s stored product is the columns `128 g …` of `dqBlock`. -/
theorem dq_piece (g : Fin 4) {o : Nat} (ho : o = 128 * g.val)
    (inb : ∀ a, (![0, o] : Fin 2 → Nat) a + S256x128.size a ≤ S256x512.size a) (x : S256x128.Idx) :
    k0_pay6 x1 x2 (head x0 g) (head x3 g) x
      = dqBlock x0 x1 x2 x3 ((Rect.unit (s := S256x512) ![0, o] S256x128.size inb).emb x) := by
  subst ho
  have hx : (x 1).val < 128 := (x 1).isLt
  have hv : (((Rect.unit (s := S256x512) ![0, 128 * g.val] S256x128.size inb).emb x) 1).val = 128 * g.val + (x 1).val := by
    show 128 * g.val + 1 * (x 1).val = _
    omega
  unfold dqBlock
  have hg : (⟨(((Rect.unit (s := S256x512) ![0, 128 * g.val] S256x128.size inb).emb x) 1).val / 128, by omega⟩ : Fin 4) = g :=
    Fin.ext (by show _ / 128 = g.val; rw [hv]; omega)
  rw [hg]
  refine congrArg (k0_pay6 x1 x2 (head x0 g) (head x3 g)) (funext fun a => Fin.ext ?_)
  match a with
  | ⟨0, _⟩ => show (x 0).val = 0 + 1 * (x 0).val; omega
  | ⟨1, _⟩ => show (x 1).val = (((Rect.unit (s := S256x512) ![0, 128 * g.val] S256x128.size inb).emb x) 1).val % 128; rw [hv]; omega

/-! ## The buffers after a point -/

variable (c : Dev nD) (i : grid0.Coords) (arg2 : Memref sig .tc .vmem S256x512 .bf16) (harg2 : arg2.IsWhole) (arg3 : Memref sig .tc .vmem S2304x128 .bf16) (harg3 : arg3.IsWhole) (arg4 : Memref sig .tc .vmem S2304x128 .bf16) (harg4 : arg4.IsWhole) (arg5 : Memref sig .tc .vmem S256x512 .bf16) (harg5 : arg5.IsWhole) (arg6 : Memref sig .tc .vmem S256x512 .f32) (harg6 : arg6.IsWhole) (arg7 : Memref sig .tc .vmem S2304x128 .f32) (harg7 : arg7.IsWhole) (arg8 : Memref sig .tc .vmem S2304x128 .f32) (harg8 : arg8.IsWhole)

set_option maxHeartbeats 1000000 in
/-- The first point of a head: the key-gradient buffer holds one step from zero. -/
theorem dk_A (hc0 : cond0_0 i) :
    out0_A_5 c i arg2 harg2 arg3 harg3 arg4 harg4 arg5 harg5 arg6 harg6 arg7 harg7 arg8 harg8 hc0 x0 x1 x2 x3 = dkStep x0 x1 x2 x3 k0_pay1 := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S2304x128) zero_offsets]
  simp only [load_after_store (S := S2304x128) _ zero_offsets, View.readAt_eq_ld, harg2.read_unread, harg3.read_unread, harg4.read_unread, harg5.read_unread, harg7.read_unread, harg8.read_unread, View.ld_unit_zero (S := S2304x128) zero_offsets, ld_head (o := 0) _ 0 rfl, ld_head (o := 128) _ 1 rfl, ld_head (o := 256) _ 2 rfl, ld_head (o := 384) _ 3 rfl,
    dk1_eq, dk2_eq, dk3_eq]
  rfl

set_option maxHeartbeats 1000000 in
/-- The first point of a head: the value-gradient buffer holds one step from zero. -/
theorem dv_A (hc0 : cond0_0 i) :
    out0_A_6 c i arg2 harg2 arg3 harg3 arg4 harg4 arg5 harg5 arg6 harg6 arg7 harg7 arg8 harg8 hc0 x0 x1 x2 x3 = dvStep x0 x1 x3 k0_pay2 := by
  unfold out0_A_6
  rw [View.read_writes_eq_canon _ _ _ (cover0_A_6 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S2304x128) zero_offsets]
  simp only [load_after_store (S := S2304x128) _ zero_offsets, View.readAt_eq_ld, harg2.read_unread, harg3.read_unread, harg4.read_unread, harg5.read_unread, harg7.read_unread, harg8.read_unread, View.ld_unit_zero (S := S2304x128) zero_offsets, ld_head (o := 0) _ 0 rfl, ld_head (o := 128) _ 1 rfl, ld_head (o := 256) _ 2 rfl, ld_head (o := 384) _ 3 rfl,
    dv1_eq, dv2_eq, dv3_eq]
  rfl

set_option maxHeartbeats 1000000 in
/-- A later point: the key-gradient buffer holds one step from what it held. -/
theorem dk_B (hc0 : ¬cond0_0 i) (xo5 xo6 : Vec F S2304x128 .f32) :
    out0_B_5 c i arg2 harg2 arg3 harg3 arg4 harg4 arg5 harg5 arg6 harg6 arg7 harg7 arg8 harg8 hc0 x0 x1 x2 x3 xo5 xo6 = dkStep x0 x1 x2 x3 xo5 := by
  unfold out0_B_5
  rw [View.read_writes_eq_canon _ _ _ (cover0_B_5 c i arg2 harg2 arg3 harg3 arg4 harg4 arg5 harg5 arg6 harg6 arg7 harg7 arg8 harg8 hc0 x0 x1 x2 x3 xo5 xo6)]
  unfold kernelRun0_B
  dsimp only
  sl_unfold_words
  rw [View.canon_cons_unit_zero (S := S2304x128) zero_offsets]
  simp only [load_after_store (S := S2304x128) _ zero_offsets, View.readAt_eq_ld, harg2.read_unread, harg3.read_unread, harg4.read_unread, harg5.read_unread, harg7.read_unread, harg8.read_unread, View.ld_unit_zero (S := S2304x128) zero_offsets, ld_head (o := 0) _ 0 rfl, ld_head (o := 128) _ 1 rfl, ld_head (o := 256) _ 2 rfl, ld_head (o := 384) _ 3 rfl,
    dk1_eq, dk2_eq, dk3_eq]
  rfl

set_option maxHeartbeats 1000000 in
/-- A later point: the value-gradient buffer holds one step from what it held. -/
theorem dv_B (hc0 : ¬cond0_0 i) (xo5 xo6 : Vec F S2304x128 .f32) :
    out0_B_6 c i arg2 harg2 arg3 harg3 arg4 harg4 arg5 harg5 arg6 harg6 arg7 harg7 arg8 harg8 hc0 x0 x1 x2 x3 xo5 xo6 = dvStep x0 x1 x3 xo6 := by
  unfold out0_B_6
  rw [View.read_writes_eq_canon _ _ _ (cover0_B_6 c i arg2 harg2 arg3 harg3 arg4 harg4 arg5 harg5 arg6 harg6 arg7 harg7 arg8 harg8 hc0 x0 x1 x2 x3 xo5 xo6)]
  unfold kernelRun0_B
  dsimp only
  sl_unfold_words
  rw [View.canon_cons_unit_zero (S := S2304x128) zero_offsets]
  simp only [load_after_store (S := S2304x128) _ zero_offsets, View.readAt_eq_ld, harg2.read_unread, harg3.read_unread, harg4.read_unread, harg5.read_unread, harg7.read_unread, harg8.read_unread, View.ld_unit_zero (S := S2304x128) zero_offsets, ld_head (o := 0) _ 0 rfl, ld_head (o := 128) _ 1 rfl, ld_head (o := 256) _ 2 rfl, ld_head (o := 384) _ 3 rfl,
    dv1_eq, dv2_eq, dv3_eq]
  rfl

set_option maxHeartbeats 1000000 in
/-- The query-gradient buffer (first point of a head): the four heads' stores side by side. -/
theorem dq_A (hc0 : cond0_0 i) :
    out0_A_4 c i arg2 harg2 arg3 harg3 arg4 harg4 arg5 harg5 arg6 harg6 arg7 harg7 arg8 harg8 hc0 x0 x1 x2 x3 = dqBlock x0 x1 x2 x3 := by
  unfold out0_A_4
  rw [View.read_writes_eq_canon _ _ _ (cover0_A_4 c i arg2 harg2 arg3 harg3 arg4 harg4 arg5 harg5 arg6 harg6 arg7 harg7 arg8 harg8 hc0 x0 x1 x2 x3)]
  funext y
  refine View.canon_apply_of_pieces (dqBlock x0 x1 x2 x3) _ ?_ y (cover0_A_4 c i arg2 harg2 arg3 harg3 arg4 harg4 arg5 harg5 arg6 harg6 arg7 harg7 arg8 harg8 hc0 x0 x1 x2 x3 y)
  unfold kernelRun0_A
  dsimp only
  sl_unfold_words
  simp only [View.readAt_eq_ld, harg2.read_unread, harg3.read_unread, harg4.read_unread, harg5.read_unread, harg7.read_unread, harg8.read_unread, View.ld_unit_zero (S := S2304x128) zero_offsets, ld_head (o := 0) _ 0 rfl, ld_head (o := 128) _ 1 rfl, ld_head (o := 256) _ 2 rfl, ld_head (o := 384) _ 3 rfl, dq1_eq, dq2_eq, dq3_eq]
  intro p hp
  simp only [List.mem_cons, List.mem_nil_iff, or_false] at hp
  rcases hp with rfl | rfl | rfl | rfl
  · exact fun x => dq_piece x0 x1 x2 x3 3 (o := 384) rfl inb_S256x512_S256x128_0_384 x
  · exact fun x => dq_piece x0 x1 x2 x3 2 (o := 256) rfl inb_S256x512_S256x128_0_256 x
  · exact fun x => dq_piece x0 x1 x2 x3 1 (o := 128) rfl inb_S256x512_S256x128_0_128 x
  · exact fun x => dq_piece x0 x1 x2 x3 0 (o := 0) rfl inb_S256x512_S256x128_0_0 x

set_option maxHeartbeats 1000000 in
/-- The query-gradient buffer (later point): the four heads' stores side by side. -/
theorem dq_B (hc0 : ¬cond0_0 i) (xo5 xo6 : Vec F S2304x128 .f32) :
    out0_B_4 c i arg2 harg2 arg3 harg3 arg4 harg4 arg5 harg5 arg6 harg6 arg7 harg7 arg8 harg8 hc0 x0 x1 x2 x3 xo5 xo6 = dqBlock x0 x1 x2 x3 := by
  unfold out0_B_4
  rw [View.read_writes_eq_canon _ _ _ (cover0_B_4 c i arg2 harg2 arg3 harg3 arg4 harg4 arg5 harg5 arg6 harg6 arg7 harg7 arg8 harg8 hc0 x0 x1 x2 x3 xo5 xo6)]
  funext y
  refine View.canon_apply_of_pieces (dqBlock x0 x1 x2 x3) _ ?_ y (cover0_B_4 c i arg2 harg2 arg3 harg3 arg4 harg4 arg5 harg5 arg6 harg6 arg7 harg7 arg8 harg8 hc0 x0 x1 x2 x3 xo5 xo6 y)
  unfold kernelRun0_B
  dsimp only
  sl_unfold_words
  simp only [View.readAt_eq_ld, harg2.read_unread, harg3.read_unread, harg4.read_unread, harg5.read_unread, harg7.read_unread, harg8.read_unread, View.ld_unit_zero (S := S2304x128) zero_offsets, ld_head (o := 0) _ 0 rfl, ld_head (o := 128) _ 1 rfl, ld_head (o := 256) _ 2 rfl, ld_head (o := 384) _ 3 rfl, dq1_eq, dq2_eq, dq3_eq]
  intro p hp
  simp only [List.mem_cons, List.mem_nil_iff, or_false] at hp
  rcases hp with rfl | rfl | rfl | rfl
  · exact fun x => dq_piece x0 x1 x2 x3 3 (o := 384) rfl inb_S256x512_S256x128_0_384 x
  · exact fun x => dq_piece x0 x1 x2 x3 2 (o := 256) rfl inb_S256x512_S256x128_0_256 x
  · exact fun x => dq_piece x0 x1 x2 x3 1 (o := 128) rfl inb_S256x512_S256x128_0_128 x
  · exact fun x => dq_piece x0 x1 x2 x3 0 (o := 0) rfl inb_S256x512_S256x128_0_0 x

end Cert.KernelIdeal.Attn

end
-- ==== Proof.Attn.Softmax.lean ====
module

public import Idealize.ShloMosaic.Lib.ValueIdxCore
public import Idealize.ShloMosaic.PureOps.Ideal.Laws

/-! # One row of attention weights and its gradient, on the extended reals

A row holds the scores `s k` of one query against the keys and the products `p k` of its output gradient with the
values. The kernel keeps the weights unnormalised, `wK`, with one reciprocal `iK` of their sum; the reference
differentiates `exp (s − max) / sum`. For finite scores the weights are the same positive reals (`weights`), and the
two score gradients agree whatever `p` is (`dsK_eq_dsR`). -/

@[expose] public section

noncomputable section

namespace Cert.Softmax

open Idealize.ShloMosaic
open scoped BigOperators

/-! ## A nonnegative real multiplies out of sums -/

theorem real_mul_add {c : ℝ} (hc : 0 ≤ c) (x y : EReal) : (c : EReal) * (x + y) = c * x + c * y :=
  EReal.left_distrib_of_nonneg_of_ne_top (EReal.coe_nonneg.2 hc) (EReal.coe_ne_top c) x y

theorem real_mul_sub {c : ℝ} (hc : 0 ≤ c) (x y : EReal) : (c : EReal) * (x - y) = c * x - c * y := by
  rw [sub_eq_add_neg, real_mul_add hc, mul_neg, ← sub_eq_add_neg]

theorem real_mul_sum {ι : Type*} {c : ℝ} (hc : 0 ≤ c) (t : Finset ι) (f : ι → EReal) :
    (c : EReal) * ∑ i ∈ t, f i = ∑ i ∈ t, (c : EReal) * f i := by
  classical
  induction t using Finset.induction_on with
  | empty => simp
  | insert a t ha ih => rw [Finset.sum_insert ha, Finset.sum_insert ha, real_mul_add hc, ih]

theorem sum_coe {ι : Type*} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, EReal.coe_add, ih]

/-! ## The two rows -/

variable {n : Nat} (D : ℝ)

/-- A row's maximum, folded from −∞. -/
def top (s : Fin n → EReal) : EReal := Finset.univ.fold max ⊥ s

/-- The kernel's weights: the scale is folded into base 2. -/
def wK (s : Fin n → EReal) (k : Fin n) : EReal :=
  Ideal.exp2 ((s k - top s) * ((D * (Real.log 2)⁻¹ : ℝ) : EReal))

/-- The kernel's reciprocal of the weights' sum. -/
def iK (s : Fin n → EReal) : EReal := Ideal.div 1 (∑ k, wK D s k)

/-- The kernel's score gradient. -/
def dsK (s p : Fin n → EReal) (k : Fin n) : EReal :=
  wK D s k * ((p k - (∑ j, wK D s j * p j) * iK D s) * (iK D s * (D : EReal)))

/-- The reference's weights. -/
def wR (s : Fin n → EReal) (k : Fin n) : EReal :=
  Ideal.exp (s k * (D : EReal) - max ⊥ (top fun j => s j * (D : EReal)))

/-- The reference's score gradient: of the quotient, then of the exponential and the scale. -/
def dsR (s p : Fin n → EReal) (k : Fin n) : EReal :=
  (Ideal.div (p k) (∑ j, wR D s j)
      + -(∑ j, (p j * Ideal.div 1 ((∑ i, wR D s i) * (∑ i, wR D s i))) * wR D s j)) * wR D s k * (D : EReal)

/-- The maximum of a finite row is one of its scores. -/
theorem top_eq (hn : 0 < n) (σ : Fin n → ℝ) : ∃ k, top (fun j => (σ j : EReal)) = (σ k : EReal) ∧ ∀ j, σ j ≤ σ k := by
  obtain ⟨k, -, hk⟩ := Finset.exists_max_image Finset.univ σ ⟨⟨0, hn⟩, Finset.mem_univ _⟩
  refine ⟨k, le_antisymm (Finset.fold_max_le _ |>.2 ⟨bot_le, fun j hj => EReal.coe_le_coe_iff.2 (hk j hj)⟩)
    (Finset.le_fold_max _ |>.2 (Or.inr ⟨k, Finset.mem_univ _, le_rfl⟩)), fun j => hk j (Finset.mem_univ _)⟩

/-- For finite scores both programs' weights are the same positive reals. -/
theorem weights (hD : 0 < D) (hn : 0 < n) (s : Fin n → EReal) (hs : ∀ k, ∃ r : ℝ, s k = r) :
    ∃ w : Fin n → ℝ, (∀ k, 0 < w k) ∧ (∀ k, wK D s k = w k) ∧ (∀ k, wR D s k = w k) := by
  choose σ hσ using hs
  obtain rfl : s = fun k => (σ k : EReal) := funext hσ
  obtain ⟨k0, h0, hmax⟩ := top_eq hn σ
  have hR : top (fun j => (σ j : EReal) * (D : EReal)) = ((σ k0 * D : ℝ) : EReal) := by
    obtain ⟨k1, h1, hm1⟩ := top_eq hn fun j => σ j * D
    have e : (fun j => (σ j : EReal) * (D : EReal)) = fun j => ((σ j * D : ℝ) : EReal) :=
      funext fun j => (EReal.coe_mul _ _).symm
    rw [e, h1]
    exact congrArg _ (le_antisymm (mul_le_mul_of_nonneg_right (hmax k1) hD.le) (hm1 k0))
  refine ⟨fun k => Real.exp ((σ k - σ k0) * D), fun k => Real.exp_pos _, fun k => ?_, fun k => ?_⟩
  · unfold wK
    rw [h0, ← EReal.coe_sub, ← EReal.coe_mul]
    show ((Real.rpow 2 ((σ k - σ k0) * (D * (Real.log 2)⁻¹)) : ℝ) : EReal) = _
    refine congrArg _ ?_
    show (2 : ℝ) ^ ((σ k - σ k0) * (D * (Real.log 2)⁻¹)) = _
    rw [Real.rpow_def_of_pos two_pos]
    refine congrArg _ ?_
    have h2 : Real.log 2 ≠ 0 := (Real.log_pos one_lt_two).ne'
    field_simp
  · unfold wR
    rw [hR, max_eq_right bot_le, ← EReal.coe_mul, ← EReal.coe_sub]
    show ((Real.exp (σ k * D - σ k0 * D) : ℝ) : EReal) = ((Real.exp ((σ k - σ k0) * D) : ℝ) : EReal)
    rw [sub_mul]

/-- The score gradients agree at finite scores, for any `p`. -/
theorem dsK_eq_dsR (hD : 0 < D) (hn : 0 < n) (s p : Fin n → EReal) (hs : ∀ k, ∃ r : ℝ, s k = r) (k : Fin n) :
    dsK D s p k = dsR D s p k := by
  obtain ⟨w, hw, hK, hR⟩ := weights D hD hn s hs
  have hl : 0 < ∑ k, w k := Finset.sum_pos (fun k _ => hw k) ⟨⟨0, hn⟩, Finset.mem_univ _⟩
  unfold dsK dsR iK
  simp only [hK, hR, sum_coe]
  set l := ∑ k, w k with hldef
  have e1 : Ideal.div 1 (l : EReal) = ((1 / l : ℝ) : EReal) := by rw [Ideal.div_coe hl.ne', one_mul]
  have e2 : Ideal.div 1 ((l : EReal) * (l : EReal)) = ((1 / l * (1 / l) : ℝ) : EReal) := by
    rw [← EReal.coe_mul, Ideal.div_coe (mul_pos hl hl).ne', one_mul, one_div_mul_one_div]
  rw [e1, e2, Ideal.div_coe hl.ne']
  set c := 1 / l with hc
  have hc0 : 0 ≤ c := (one_div_pos.2 hl).le
  have hsum : ∑ j, p j * ((c * c : ℝ) : EReal) * (w j : EReal) = ((c * c : ℝ) : EReal) * ∑ j, (w j : EReal) * p j := by
    rw [real_mul_sum (mul_nonneg hc0 hc0)]
    refine Finset.sum_congr rfl fun j _ => ?_
    rw [mul_comm (p j), mul_assoc, mul_comm (p j)]
  rw [hsum]
  generalize (∑ j, (w j : EReal) * p j) = X
  have hd : p k * (c : EReal) + -(((c * c : ℝ) : EReal) * X) = (c : EReal) * (p k - X * c) := by
    rw [real_mul_sub hc0, EReal.coe_mul, mul_assoc, mul_comm (c : EReal) X, mul_comm (p k), sub_eq_add_neg]
  rw [hd]
  generalize p k - X * (c : EReal) = Y
  rw [mul_comm (w k : EReal), ← mul_assoc, mul_comm Y, mul_right_comm, mul_right_comm (c : EReal) Y, mul_right_comm _ Y]

/-- A normalised weight times an output gradient, in either order of the factors. -/
theorem dv_term (hD : 0 < D) (hn : 0 < n) (s : Fin n → EReal) (hs : ∀ k, ∃ r : ℝ, s k = r) (k : Fin n) (x : EReal) :
    wK D s k * (x * iK D s) = x * Ideal.div (wR D s k) (∑ j, wR D s j) := by
  obtain ⟨w, hw, hK, hR⟩ := weights D hD hn s hs
  have hl : 0 < ∑ k, w k := Finset.sum_pos (fun k _ => hw k) ⟨⟨0, hn⟩, Finset.mem_univ _⟩
  unfold iK
  simp only [hK, hR, sum_coe]
  rw [Ideal.div_coe hl.ne', Ideal.div_coe hl.ne', one_mul, mul_left_comm]

end Cert.Softmax

end
-- ==== Proof.Attn.Formula.lean ====
module

public import proofs.«01_k».proof.Proof.Attn.Softmax

/-! # The gradients as the kernel computes them, element by element

`h` is a key/value head, `g` one of its four query heads, `n` a query row, `j` a key row and `a` a column of the head.
`q` and `do` hold query head `(h, g)` in columns `512 h + 128 g …`, `k` and `v` hold head `h` in columns `128 h …`. -/

@[expose] public section

noncomputable section

namespace Cert.Softmax

open Idealize.ShloMosaic Idealize.ShloMosaic.ValueIdx
open scoped BigOperators

/-- The scale as the float both programs hold. -/
abbrev D : ℝ := 11863283 / 134217728

theorem D_pos : 0 < D := by norm_num [D]

/-- Elements of a query-side array and of a key-side array. -/
abbrev QArr := (⟨2, ![2048, 2048]⟩ : Shape).Idx → EReal
abbrev KArr := (⟨2, ![2304, 512]⟩ : Shape).Idx → EReal

/-- Column `a` of query head `(h, g)`. -/
def qcol (h g : Fin 4) (a : Fin 128) : Fin 2048 := ⟨512 * h.val + 128 * g.val + a.val, by omega⟩

/-- Column `a` of key head `h`. -/
def kcol (h : Fin 4) (a : Fin 128) : Fin 512 := ⟨128 * h.val + a.val, by omega⟩

/-- Query row `r` of block `i`. -/
def qrow (i : Nat) (r : Fin 256) : Fin 2048 := ⟨(256 * i + r.val) % 2048, Nat.mod_lt _ (by decide)⟩

/-- Row `n` of query head `(h, g)` against every key row of head `h`. -/
def scores (Q : QArr) (K : KArr) (h g : Fin 4) (n : Fin 2048) (j : Fin 2304) : EReal :=
  ∑ a : Fin 128, Q (ix2 n (qcol h g a)) * K (ix2 j (kcol h a))

variable (Q : QArr) (K V : KArr) (O : QArr)

/-- The score gradient. -/
abbrev dsAt (h g : Fin 4) (n : Fin 2048) (j : Fin 2304) : EReal := dsK D (scores Q K h g n) (scores O V h g n) j

/-- A query row's term of `dk`. -/
def dkTerm (h : Fin 4) (j : Fin 2304) (a : Fin 128) (g : Fin 4) (n : Fin 2048) : EReal :=
  dsAt Q K V O h g n j * Q (ix2 n (qcol h g a))

/-- A query row's term of `dv`. -/
def dvTerm (h : Fin 4) (j : Fin 2304) (a : Fin 128) (g : Fin 4) (n : Fin 2048) : EReal :=
  wK D (scores Q K h g n) j * (O (ix2 n (qcol h g a)) * iK D (scores Q K h g n))

/-- An element of `dq`. -/
def dqAt (h g : Fin 4) (n : Fin 2048) (a : Fin 128) : EReal :=
  ∑ j : Fin 2304, dsAt Q K V O h g n j * K (ix2 j (kcol h a))

/-- The three results. -/
def dqArr : QArr := fun y =>
  dqAt Q K V O ⟨(y 1).val / 512, by have := idx2_lt1 y; omega⟩ ⟨(y 1).val % 512 / 128, by omega⟩
    ⟨(y 0).val, idx2_lt0 y⟩ ⟨(y 1).val % 128, Nat.mod_lt _ (by decide)⟩
def dkArr : KArr := fun y =>
  ∑ g : Fin 4, ∑ n : Fin 2048, dkTerm Q K V O ⟨(y 1).val / 128, by have := idx2_lt1 y; omega⟩ ⟨(y 0).val, idx2_lt0 y⟩
    ⟨(y 1).val % 128, Nat.mod_lt _ (by decide)⟩ g n
def dvArr : KArr := fun y =>
  ∑ g : Fin 4, ∑ n : Fin 2048, dvTerm Q K O ⟨(y 1).val / 128, by have := idx2_lt1 y; omega⟩ ⟨(y 0).val, idx2_lt0 y⟩
    ⟨(y 1).val % 128, Nat.mod_lt _ (by decide)⟩ g n

/-- Eight blocks of 256 rows are the 2048 rows. -/
theorem sum_blocks (f : Fin 4 → Fin 2048 → EReal) :
    ∑ i ∈ Finset.range 8, ∑ g : Fin 4, ∑ r : Fin 256, f g (qrow i r) = ∑ g : Fin 4, ∑ n : Fin 2048, f g n := by
  rw [Finset.sum_comm]
  refine Finset.sum_congr rfl fun g _ => ?_
  rw [← Equiv.sum_comp (finProdFinEquiv : Fin 8 × Fin 256 ≃ Fin 2048), Fintype.sum_prod_type, Finset.sum_range]
  refine Finset.sum_congr rfl fun i _ => Finset.sum_congr rfl fun r _ => congrArg (f g) (Fin.ext ?_)
  show (256 * i.val + r.val) % 2048 = r.val + 256 * i.val
  omega

end Cert.Softmax

end
-- ==== Proof.Attn.Entry.lean ====
module

public import proofs.«01_k».proof.Proof.Attn.Block
public import proofs.«01_k».proof.Proof.Attn.Formula
public import Idealize.ShloMosaic.Lib.ValueIdx

/-! # The attention gradient's block functions, read at an element on the extended reals

For one head of a block: the weights of row `r` are `wK` of the row's scores, the score gradient is `dsK`, and the
three products are sums of these against `k`, `q` and `do`. -/

@[expose] public section

noncomputable section

namespace Cert.KernelIdeal.Attn

open Cert.KernelIdeal Cert.KernelIdeal.Gen Cert.Softmax Idealize.ShloMosaic Idealize.ShloMosaic.TcCoe Idealize.ShloMosaic.ValueIdx
open scoped BigOperators

theorem scale_bits : (Ideal.ofBits .f32 0x3DB504F3#32 : EReal) = ((D : ℝ) : EReal) := by
  simp [Ideal.ofBits, Ideal.ieee, D]
  rw [← EReal.coe_mul]
  norm_num

theorem one_bits : (Ideal.ofBits .f32 0x3F800000#32 : EReal) = 1 := by
  simp [Ideal.ofBits, Ideal.ieee]
  rw [← EReal.coe_mul]
  norm_num

theorem ninf_bits : (Ideal.ofBits .f32 0xFF800000#32 : EReal) = ⊥ := by
  simp [Ideal.ofBits, Ideal.ieee]

variable (k v : FVec Ideal S2304x128 .bf16) (q d : FVec Ideal S256x128 .bf16)

/-- Row `r`'s products with the rows of a 2304-row matrix. -/
def rowDot (x : FVec Ideal S256x128 .bf16) (y : FVec Ideal S2304x128 .bf16) (r : Fin 256) (j : Fin 2304) : EReal :=
  ∑ a : Fin 128, x (ix2 r a) * y (ix2 j a)

theorem dotT_apply (x : FVec Ideal S256x128 .bf16) (y : FVec Ideal S2304x128 .bf16) (r : Fin 256) (j : Fin 2304) :
    matmul (F := Ideal) (φ₁ := .bf16) (φ₂ := .bf16) dot_S256x128_S2304x128_S256x2304_1_1_0_0_n_n none x y (constant S256x2304 .f32 0x00000000#32) (ix2 r j) = rowDot x y r j := by
  refine (Ideal.matmul_constant_zero_apply _ none x y _).trans ?_
  rw [← Equiv.sum_comp (contrEquiv1 dot_S256x128_S2304x128_S256x2304_1_1_0_0_n_n 128 rfl rfl).symm]
  refine Finset.sum_congr rfl fun a _ => ?_
  have ha := contrEquiv1_symm_val dot_S256x128_S2304x128_S256x2304_1_1_0_0_n_n 128 rfl rfl a
  refine congrArg₂ (· * ·) (congrArg x (funext fun b => Fin.ext ?_)) (congrArg y (funext fun b => Fin.ext ?_))
  · match b with
    | ⟨0, _⟩ => rfl
    | ⟨1, _⟩ => exact ha
  · match b with
    | ⟨0, _⟩ => rfl
    | ⟨1, _⟩ => exact ha

theorem dot_apply (x : FVec Ideal S256x2304 .bf16) (y : FVec Ideal S2304x128 .bf16) (r : Fin 256) (a : Fin 128) :
    matmul (F := Ideal) (φ₁ := .bf16) (φ₂ := .bf16) dot_S256x2304_S2304x128_S256x128_1_0_0_1_n_n none x y (constant S256x128 .f32 0x00000000#32) (ix2 r a)
      = ∑ j : Fin 2304, x (ix2 r j) * y (ix2 j a) := by
  refine (Ideal.matmul_constant_zero_apply _ none x y _).trans ?_
  rw [← Equiv.sum_comp (contrEquiv1 dot_S256x2304_S2304x128_S256x128_1_0_0_1_n_n 2304 rfl rfl).symm]
  refine Finset.sum_congr rfl fun j _ => ?_
  have hj := contrEquiv1_symm_val dot_S256x2304_S2304x128_S256x128_1_0_0_1_n_n 2304 rfl rfl j
  refine congrArg₂ (· * ·) (congrArg x (funext fun b => Fin.ext ?_)) (congrArg y (funext fun b => Fin.ext ?_))
  · match b with
    | ⟨0, _⟩ => rfl
    | ⟨1, _⟩ => exact hj
  · match b with
    | ⟨0, _⟩ => exact hj
    | ⟨1, _⟩ => rfl

theorem dotR_apply (x : FVec Ideal S256x2304 .bf16) (y : FVec Ideal S256x128 .bf16) (j : Fin 2304) (a : Fin 128) :
    matmul (F := Ideal) (φ₁ := .bf16) (φ₂ := .bf16) dot_S256x2304_S256x128_S2304x128_0_0_1_1_n_n none x y (constant S2304x128 .f32 0x00000000#32) (ix2 j a)
      = ∑ r : Fin 256, x (ix2 r j) * y (ix2 r a) := by
  refine (Ideal.matmul_constant_zero_apply _ none x y _).trans ?_
  rw [← Equiv.sum_comp (contrEquiv1 dot_S256x2304_S256x128_S2304x128_0_0_1_1_n_n 256 rfl rfl).symm]
  refine Finset.sum_congr rfl fun r _ => ?_
  have hr := contrEquiv1_symm_val dot_S256x2304_S256x128_S2304x128_0_0_1_1_n_n 256 rfl rfl r
  refine congrArg₂ (· * ·) (congrArg x (funext fun b => Fin.ext ?_)) (congrArg y (funext fun b => Fin.ext ?_))
  · match b with
    | ⟨0, _⟩ => exact hr
    | ⟨1, _⟩ => rfl
  · match b with
    | ⟨0, _⟩ => exact hr
    | ⟨1, _⟩ => rfl

/-- A column of row values, spread over `n` columns, reads the row's value. -/
theorem column_apply (x : FVec Ideal S256 .f32) (r : Fin 256) :
    shapeCast S256x1 x shapeCasts_S256_S256x1 (ix2 r (0 : Fin 1)) = x (ix1 r) :=
  shapeCast_apply x shapeCasts_S256_S256x1 (ix2 r (0 : Fin 1)) (ix1 r) (by
    rw [Shape.rowMajor_val_one, Shape.rowMajor_val_two]
    show r.val = r.val * 1 + 0
    omega)

theorem spread_apply (x : FVec Ideal S256x1 .f32) (r : Fin 256) (j : Fin 2304) :
    broadcastTo S256x2304 x broadcasts_S256x1_S256x2304 (ix2 r j) = x (ix2 r (0 : Fin 1)) :=
  broadcastTo_apply x broadcasts_S256x1_S256x2304 (ix2 r j) (ix2 r (0 : Fin 1)) (fun a => match a with
    | ⟨0, _⟩ => rfl
    | ⟨1, _⟩ => rfl)

theorem spread128_apply (x : FVec Ideal S256x1 .f32) (r : Fin 256) (j : Fin 128) :
    broadcastTo S256x128 x broadcasts_S256x1_S256x128 (ix2 r j) = x (ix2 r (0 : Fin 1)) :=
  broadcastTo_apply x broadcasts_S256x1_S256x128 (ix2 r j) (ix2 r (0 : Fin 1)) (fun a => match a with
    | ⟨0, _⟩ => rfl
    | ⟨1, _⟩ => rfl)

theorem rowSum_apply (x : FVec Ideal S256x2304 .f32) (r : Fin 256) :
    multiReduction .add [1] S256 x 0x00000000#32 reduces_S256x2304_S256 (.inl rfl) rfl (ix1 r) = ∑ j : Fin 2304, x (ix2 r j) := by
  refine (Ideal.multiReduction_add_single x _ reduces_S256x2304_S256 (.inl rfl) rfl (ix1 r)).trans ?_
  refine Finset.sum_congr rfl fun j _ => congrArg x (funext fun b => Fin.ext ?_)
  match b with
  | ⟨0, _⟩ => rfl
  | ⟨1, _⟩ => rfl

theorem rowMax_apply (x : FVec Ideal S256x2304 .f32) (r : Fin 256) :
    multiReduction .maximumf [1] S256 x 0xFF800000#32 reduces_S256x2304_S256 (.inl rfl) rfl (ix1 r) = top fun j => x (ix2 r j) := by
  refine (Ideal.multiReduction_maximumf_single x _ reduces_S256x2304_S256 (.inl rfl) rfl (ix1 r)).trans ?_
  unfold top
  show Finset.fold max (Ideal.ofBits .f32 0xFF800000#32) _ _ = _
  rw [ninf_bits]
  refine congrArg (fun f => Finset.fold max ⊥ f Finset.univ) (funext fun j => congrArg x (funext fun b => Fin.ext ?_))
  match b with
  | ⟨0, _⟩ => rfl
  | ⟨1, _⟩ => rfl

/-- An exponential of scaled differences, at an element. -/
theorem exp2_apply (s b : FVec Ideal S256x2304 .f32) (c : Ideal .f32) (i : S256x2304.Idx) :
    exp2 (mulf (subf s b) (broadcast S256x2304 c)) i = Ideal.exp2 ((s i - b i) * c) := rfl

/-- The weights. -/
theorem e_apply (r : Fin 256) (j : Fin 2304) : k0_pay3 (F := Ideal) k q (ix2 r j) = wK D (rowDot q k r) j := by
  have hmax : (multiReduction (F := Ideal) (φ := .f32) .maximumf [1] S256 (matmul (F := Ideal) (φ₁ := .bf16) (φ₂ := .bf16) dot_S256x128_S2304x128_S256x2304_1_1_0_0_n_n none q k (constant S256x2304 .f32 0x00000000#32)) 0xFF800000#32 reduces_S256x2304_S256 (.inl rfl) rfl) (ix1 r) = top (rowDot q k r) := by
    rw [rowMax_apply]
    exact congrArg top (funext fun j => dotT_apply q k r j)
  have hconst : (Named.named (F := Ideal) κ "scale_log2e" (0x3E0293EE#32 : BitVec FTy.f32.bits) : Ideal .f32) = ((D * (Real.log 2)⁻¹ : ℝ) : EReal) :=
    IdealRules.named_const.ideal_named_scalar _ _ _ _ rfl
  unfold wK k0_pay3
  refine (exp2_apply _ _ _ (ix2 r j)).trans ?_
  rw [hconst, dotT_apply, spread_apply, column_apply, hmax]

/-- The reciprocal of a row's sum. -/
theorem inv_apply (r : Fin 256) : k0_pay4 (F := Ideal) k q (ix2 r (0 : Fin 1)) = iK D (rowDot q k r) := by
  unfold k0_pay4 iK
  dsimp only
  show Ideal.div (Ideal.ofBits .f32 0x3F800000#32) (shapeCast S256x1 _ shapeCasts_S256_S256x1 (ix2 r (0 : Fin 1))) = _
  rw [column_apply, rowSum_apply, one_bits]
  exact congrArg _ (Finset.sum_congr rfl fun j _ => e_apply k q r j)

/-- The score gradient. -/
theorem ds_apply (r : Fin 256) (j : Fin 2304) :
    k0_pay5 (F := Ideal) k v q d (ix2 r j) = dsK D (rowDot q k r) (rowDot d v r) j := by
  unfold k0_pay5 dsK
  dsimp only
  show k0_pay3 (F := Ideal) k q (ix2 r j) * ((_ - broadcastTo S256x2304 _ broadcasts_S256x1_S256x2304 (ix2 r j)) * broadcastTo S256x2304 _ broadcasts_S256x1_S256x2304 (ix2 r j)) = _
  rw [spread_apply, spread_apply, e_apply, dotT_apply]
  show _ * ((_ - shapeCast S256x1 _ shapeCasts_S256_S256x1 (ix2 r (0 : Fin 1)) * k0_pay4 (F := Ideal) k q (ix2 r (0 : Fin 1))) * (k0_pay4 (F := Ideal) k q (ix2 r (0 : Fin 1)) * Ideal.ofBits .f32 0x3DB504F3#32)) = _
  rw [column_apply, rowSum_apply, inv_apply, scale_bits]
  refine congrArg (fun X => wK D (rowDot q k r) j * ((rowDot d v r j - X * iK D (rowDot q k r)) * (iK D (rowDot q k r) * (D : EReal)))) ?_
  refine Finset.sum_congr rfl fun i _ => ?_
  show k0_pay3 (F := Ideal) k q (ix2 r i) * _ = _
  rw [e_apply, dotT_apply]

/-- A head's query gradient. -/
theorem dq_apply (r : Fin 256) (a : Fin 128) :
    k0_pay6 (F := Ideal) k v q d (ix2 r a) = ∑ j : Fin 2304, dsK D (rowDot q k r) (rowDot d v r) j * k (ix2 j a) := by
  unfold k0_pay6
  rw [dot_apply]
  exact Finset.sum_congr rfl fun j _ => by rw [ds_apply]

/-- A head's addition to the key gradient. -/
theorem dk_apply (acc : FVec Ideal S2304x128 .f32) (j : Fin 2304) (a : Fin 128) :
    k0_pay7 (F := Ideal) q (k0_pay5 (F := Ideal) k v q d) acc (ix2 j a)
      = acc (ix2 j a) + ∑ r : Fin 256, dsK D (rowDot q k r) (rowDot d v r) j * q (ix2 r a) := by
  unfold k0_pay7
  show shapeCast S2304x128 acc shapeCasts_S2304x128_S2304x128 (ix2 j a) + _ = _
  rw [shapeCast_self, dotR_apply]
  exact congrArg _ (Finset.sum_congr rfl fun r _ => by rw [ds_apply])

/-- A head's addition to the value gradient. -/
theorem dv_apply (acc : FVec Ideal S2304x128 .f32) (j : Fin 2304) (a : Fin 128) :
    k0_pay8 (F := Ideal) d (k0_pay3 (F := Ideal) k q) (k0_pay4 (F := Ideal) k q) acc (ix2 j a)
      = acc (ix2 j a) + ∑ r : Fin 256, wK D (rowDot q k r) j * (d (ix2 r a) * iK D (rowDot q k r)) := by
  unfold k0_pay8
  show shapeCast S2304x128 acc shapeCasts_S2304x128_S2304x128 (ix2 j a) + _ = _
  rw [shapeCast_self, dotR_apply]
  refine congrArg _ (Finset.sum_congr rfl fun r _ => ?_)
  show k0_pay3 (F := Ideal) k q (ix2 r j) * (d (ix2 r a) * broadcastTo S256x128 _ broadcasts_S256x1_S256x128 (ix2 r a)) = _
  rw [spread128_apply, e_apply, inv_apply]

end Cert.KernelIdeal.Attn

end
-- ==== Proof.Attn.Arrays.lean ====
module

public import proofs.«01_k».proof.Proof.Attn.Entry

/-! # The attention gradient's three result arrays after the run

Point `t = 8 h + i` of the grid reads query rows `256 i …` of head `h`'s four query heads and all of `k`, `v` of head
`h`. It writes its `dq` block back at once; the `dk` and `dv` buffers gather the eight blocks of a head and go back at
the last. -/

@[expose] public section

noncomputable section

namespace Cert.KernelIdeal.Attn

open Cert.KernelIdeal Cert.KernelIdeal.Gen Cert.Softmax Idealize.ShloMosaic Idealize.ShloMosaic.TcCoe Idealize.ShloMosaic.ValueIdx
open scoped BigOperators

variable (m : (ℓ : Loc nD τ sig) → Buf (Elt Ideal) ℓ) (c : Dev nD)

/-- The arguments. -/
abbrev Qa : FVec Ideal S2048x2048 .bf16 := m ((c : Thread nD τ).loc main_arg0)
abbrev Ka : FVec Ideal S2304x512 .bf16 := m ((c : Thread nD τ).loc main_arg1)
abbrev Va : FVec Ideal S2304x512 .bf16 := m ((c : Thread nD τ).loc main_arg2)
abbrev Oa : FVec Ideal S2048x2048 .bf16 := m ((c : Thread nD τ).loc main_arg3)

/-- The windows' block indices at a point. -/
theorem idx_facts : ∀ t : Fin cfg0.N,
    (win0_0.index t (0 : Fin 2) = t.val % 8 ∧ win0_0.index t (1 : Fin 2) = t.val / 8)
    ∧ (win0_1.index t (0 : Fin 2) = 0 ∧ win0_1.index t (1 : Fin 2) = t.val / 8)
    ∧ (win0_2.index t (0 : Fin 2) = 0 ∧ win0_2.index t (1 : Fin 2) = t.val / 8)
    ∧ (win0_3.index t (0 : Fin 2) = t.val % 8 ∧ win0_3.index t (1 : Fin 2) = t.val / 8)
    ∧ (win0_4.index t (0 : Fin 2) = t.val % 8 ∧ win0_4.index t (1 : Fin 2) = t.val / 8)
    ∧ (win0_5.index t (0 : Fin 2) = 0 ∧ win0_5.index t (1 : Fin 2) = t.val / 8)
    ∧ (win0_6.index t (0 : Fin 2) = 0 ∧ win0_6.index t (1 : Fin 2) = t.val / 8) :=
  (by decide +kernel : ∀ t : Fin grid0.N, _)

theorem t_lt (t : Fin cfg0.N) : t.val < 32 := lt_of_lt_of_eq t.isLt (show cfg0.N = 32 from N_0)

/-- The head a point works on. -/
def hd (t : Fin cfg0.N) : Fin 4 := ⟨t.val / 8, by have := t_lt t; omega⟩

/-! ## The input blocks -/

theorem q_block (t : Fin cfg0.N) (g : Fin 4) (r : Fin 256) (a : Fin 128) :
    head (F := Ideal) (φ := .bf16) (iblk m c 0 t) g (ix2 r a) = Qa m c (ix2 (qrow (t.val % 8) r) (qcol (hd t) g a)) := by
  obtain ⟨⟨e0, e1⟩, _⟩ := idx_facts t
  show V m c main_arg0 (((cfg0.win 0).blk t).view.emb _) = _
  refine congrArg (Qa m c) (funext fun b => Fin.ext ?_)
  match b with
  | ⟨0, _⟩ =>
    show win0_0.index t (0 : Fin 2) * 256 + 1 * r.val = (256 * (t.val % 8) + r.val) % 2048
    rw [e0]; omega
  | ⟨1, _⟩ =>
    show win0_0.index t (1 : Fin 2) * 512 + 1 * (128 * g.val + a.val) = 512 * (t.val / 8) + 128 * g.val + a.val
    rw [e1]; omega

theorem do_block (t : Fin cfg0.N) (g : Fin 4) (r : Fin 256) (a : Fin 128) :
    head (F := Ideal) (φ := .bf16) (iblk m c 3 t) g (ix2 r a) = Oa m c (ix2 (qrow (t.val % 8) r) (qcol (hd t) g a)) := by
  obtain ⟨_, _, _, ⟨e0, e1⟩, _⟩ := idx_facts t
  show V m c main_arg3 (((cfg0.win 3).blk t).view.emb _) = _
  refine congrArg (Oa m c) (funext fun b => Fin.ext ?_)
  match b with
  | ⟨0, _⟩ =>
    show win0_3.index t (0 : Fin 2) * 256 + 1 * r.val = (256 * (t.val % 8) + r.val) % 2048
    rw [e0]; omega
  | ⟨1, _⟩ =>
    show win0_3.index t (1 : Fin 2) * 512 + 1 * (128 * g.val + a.val) = 512 * (t.val / 8) + 128 * g.val + a.val
    rw [e1]; omega

theorem k_block (t : Fin cfg0.N) (j : Fin 2304) (a : Fin 128) :
    (iblk m c 1 t : FVec Ideal S2304x128 .bf16) (ix2 j a) = Ka m c (ix2 j (kcol (hd t) a)) := by
  obtain ⟨_, ⟨e0, e1⟩, _⟩ := idx_facts t
  show V m c main_arg1 (((cfg0.win 1).blk t).view.emb _) = _
  refine congrArg (Ka m c) (funext fun b => Fin.ext ?_)
  match b with
  | ⟨0, _⟩ => show win0_1.index t (0 : Fin 2) * 2304 + 1 * j.val = j.val; rw [e0]; omega
  | ⟨1, _⟩ => show win0_1.index t (1 : Fin 2) * 128 + 1 * a.val = 128 * (t.val / 8) + a.val; rw [e1]; omega

theorem v_block (t : Fin cfg0.N) (j : Fin 2304) (a : Fin 128) :
    (iblk m c 2 t : FVec Ideal S2304x128 .bf16) (ix2 j a) = Va m c (ix2 j (kcol (hd t) a)) := by
  obtain ⟨_, _, ⟨e0, e1⟩, _⟩ := idx_facts t
  show V m c main_arg2 (((cfg0.win 2).blk t).view.emb _) = _
  refine congrArg (Va m c) (funext fun b => Fin.ext ?_)
  match b with
  | ⟨0, _⟩ => show win0_2.index t (0 : Fin 2) * 2304 + 1 * j.val = j.val; rw [e0]; omega
  | ⟨1, _⟩ => show win0_2.index t (1 : Fin 2) * 128 + 1 * a.val = 128 * (t.val / 8) + a.val; rw [e1]; omega

theorem score_rows (t : Fin cfg0.N) (g : Fin 4) (r : Fin 256) :
    rowDot (head (F := Ideal) (φ := .bf16) (iblk m c 0 t) g) (iblk m c 1 t) r
      = scores (Qa m c) (Ka m c) (hd t) g (qrow (t.val % 8) r) := by
  funext j
  exact Finset.sum_congr rfl fun a _ => congrArg₂ (· * ·) (q_block m c t g r a) (k_block m c t j a)

theorem dp_rows (t : Fin cfg0.N) (g : Fin 4) (r : Fin 256) :
    rowDot (head (F := Ideal) (φ := .bf16) (iblk m c 3 t) g) (iblk m c 2 t) r
      = scores (Oa m c) (Va m c) (hd t) g (qrow (t.val % 8) r) := by
  funext j
  exact Finset.sum_congr rfl fun a _ => congrArg₂ (· * ·) (do_block m c t g r a) (v_block m c t j a)

/-! ## One point -/

theorem dk_point (t : Fin cfg0.N) (acc : FVec Ideal S2304x128 .f32) (j : Fin 2304) (a : Fin 128) :
    dkStep (F := Ideal) (iblk m c 0 t) (iblk m c 1 t) (iblk m c 2 t) (iblk m c 3 t) acc (ix2 j a)
      = acc (ix2 j a) + ∑ g : Fin 4, ∑ r : Fin 256, dkTerm (Qa m c) (Ka m c) (Va m c) (Oa m c) (hd t) j a g (qrow (t.val % 8) r) := by
  have one : ∀ (g : Fin 4) (b : FVec Ideal S2304x128 .f32),
      dkAdd (F := Ideal) (iblk m c 0 t) (iblk m c 1 t) (iblk m c 2 t) (iblk m c 3 t) g b (ix2 j a)
        = b (ix2 j a) + ∑ r : Fin 256, dkTerm (Qa m c) (Ka m c) (Va m c) (Oa m c) (hd t) j a g (qrow (t.val % 8) r) := by
    intro g b
    refine (dk_apply _ _ _ _ b j a).trans (congrArg _ (Finset.sum_congr rfl fun r _ => ?_))
    unfold dkTerm
    rw [score_rows, dp_rows, q_block]
  unfold dkStep
  rw [one, one, one, one, Fin.sum_univ_four]
  simp only [add_assoc]

theorem dv_point (t : Fin cfg0.N) (acc : FVec Ideal S2304x128 .f32) (j : Fin 2304) (a : Fin 128) :
    dvStep (F := Ideal) (iblk m c 0 t) (iblk m c 1 t) (iblk m c 3 t) acc (ix2 j a)
      = acc (ix2 j a) + ∑ g : Fin 4, ∑ r : Fin 256, dvTerm (Qa m c) (Ka m c) (Oa m c) (hd t) j a g (qrow (t.val % 8) r) := by
  have one : ∀ (g : Fin 4) (b : FVec Ideal S2304x128 .f32),
      dvAdd (F := Ideal) (iblk m c 0 t) (iblk m c 1 t) (iblk m c 3 t) g b (ix2 j a)
        = b (ix2 j a) + ∑ r : Fin 256, dvTerm (Qa m c) (Ka m c) (Oa m c) (hd t) j a g (qrow (t.val % 8) r) := by
    intro g b
    refine (dv_apply _ _ _ b j a).trans (congrArg _ (Finset.sum_congr rfl fun r _ => ?_))
    unfold dvTerm
    rw [score_rows, do_block]
  unfold dvStep
  rw [one, one, one, one, Fin.sum_univ_four]
  simp only [add_assoc]

theorem dq_point (t : Fin cfg0.N) (r : Fin 256) (x : Fin 512) :
    dqBlock (F := Ideal) (iblk m c 0 t) (iblk m c 1 t) (iblk m c 2 t) (iblk m c 3 t) (ix2 r x)
      = dqAt (Qa m c) (Ka m c) (Va m c) (Oa m c) (hd t) ⟨x.val / 128, by omega⟩ (qrow (t.val % 8) r) ⟨x.val % 128, Nat.mod_lt _ (by decide)⟩ := by
  refine (dq_apply _ _ _ _ r _).trans (Finset.sum_congr rfl fun j _ => ?_)
  rw [score_rows, dp_rows]
  exact congrArg _ (k_block m c t j _)

/-! ## The buffers through a head's eight points -/

theorem buf4 (t : Fin cfg0.N) :
    (outsAt0 m c t.val t.isLt).1 = dqBlock (F := Ideal) (iblk m c 0 t) (iblk m c 1 t) (iblk m c 2 t) (iblk m c 3 t) := by
  by_cases h0 : t.val % 8 = 0
  · rw [outsAt0_A m c t h0]; dsimp only; rw [dq_A]
  · rw [outsAt0_B m c t h0]; dsimp only; rw [dq_B]

theorem zero1 (y : S2304x128.Idx) : (k0_pay1 (F := Ideal)) y = 0 := Ideal.ofBits_zero_f32
theorem zero2 (y : S2304x128.Idx) : (k0_pay2 (F := Ideal)) y = 0 := Ideal.ofBits_zero_f32

theorem buf56 (n : ℕ) (hn : n < cfg0.N) (j : Fin 2304) (a : Fin 128) :
    (outsAt0 m c n hn).2.1 (ix2 j a) = ∑ i ∈ Finset.range (n % 8 + 1), ∑ g : Fin 4, ∑ r : Fin 256,
        dkTerm (Qa m c) (Ka m c) (Va m c) (Oa m c) (hd ⟨n, hn⟩) j a g (qrow i r)
    ∧ (outsAt0 m c n hn).2.2 (ix2 j a) = ∑ i ∈ Finset.range (n % 8 + 1), ∑ g : Fin 4, ∑ r : Fin 256,
        dvTerm (Qa m c) (Ka m c) (Oa m c) (hd ⟨n, hn⟩) j a g (qrow i r) := by
  induction n using Nat.strong_induction_on with
  | _ n ih =>
    by_cases h0 : n % 8 = 0
    · have e := outsAt0_A m c ⟨n, hn⟩ h0
      dsimp only at e
      rw [e]
      dsimp only
      rw [dk_A, dv_A, h0, Finset.sum_range_one, Finset.sum_range_one]
      refine ⟨(dk_point m c ⟨n, hn⟩ _ j a).trans ?_, (dv_point m c ⟨n, hn⟩ _ j a).trans ?_⟩
      · rw [zero1, zero_add]; simp only [h0]
      · rw [zero2, zero_add]; simp only [h0]
    · have e := outsAt0_B m c ⟨n, hn⟩ h0
      dsimp only at e
      rw [e]
      dsimp only
      obtain ⟨i1, i2⟩ := ih (n - 1) (by omega) (by omega)
      have eh : hd ⟨n - 1, by omega⟩ = hd ⟨n, hn⟩ := Fin.ext (by show (n - 1) / 8 = n / 8; omega)
      have er : (n - 1) % 8 + 1 = n % 8 := by omega
      rw [er, eh] at i1 i2
      rw [dk_B, dv_B, Finset.sum_range_succ, Finset.sum_range_succ]
      refine ⟨(dk_point m c ⟨n, hn⟩ _ j a).trans ?_, (dv_point m c ⟨n, hn⟩ _ j a).trans ?_⟩
      · rw [i1]
      · rw [i2]

/-! ## The arrays -/

theorem dq_final : (dats m 0 c).arrAt 4 cfg0.N = dqArr (Qa m c) (Ka m c) (Va m c) (Oa m c) := by
  refine (dats m 0 c).arrAt_eq_of_cover 4 (dqArr (Qa m c) (Ka m c) (Va m c) (Oa m c)) (fun t _ => ?_) (fun y => ?_)
  · rw [Cert.KernelIdeal.Value.flushed4, buf4]
    obtain ⟨_, _, _, _, ⟨e0, e1⟩, _⟩ := idx_facts t
    have ht := t_lt t
    funext (z : S256x512.Idx)
    rw [show z = ix2 (z 0) (z 1) from eq_ix2 z]
    have hz0 : (z 0).val < 256 := (z 0).isLt
    have hz1 : (z 1).val < 512 := (z 1).isLt
    refine (dq_point m c t (z 0) (z 1)).trans ?_
    show _ = dqArr (Qa m c) (Ka m c) (Va m c) (Oa m c) (((cfg0.win 4).blk t).view.emb (ix2 (z 0) (z 1)))
    have v0 : ((((cfg0.win 4).blk t).view.emb (ix2 (z 0) (z 1)) : S2048x2048.Idx) 0).val = 256 * (t.val % 8) + (z 0).val := by
      show win0_4.index t (0 : Fin 2) * 256 + 1 * (z 0).val = _
      rw [e0]; omega
    have v1 : ((((cfg0.win 4).blk t).view.emb (ix2 (z 0) (z 1)) : S2048x2048.Idx) 1).val = 512 * (t.val / 8) + (z 1).val := by
      show win0_4.index t (1 : Fin 2) * 512 + 1 * (z 1).val = _
      rw [e1]; omega
    unfold dqArr
    congr 1 <;> apply Fin.ext
    · show t.val / 8 = _ / 512; rw [v1]; omega
    · show (z 1).val / 128 = _ % 512 / 128; rw [v1]; omega
    · show (256 * (t.val % 8) + (z 0).val) % 2048 = _; rw [v0]; omega
    · show (z 1).val % 128 = _ % 128; rw [v1]; omega
  · have h0 : (y 0).val < 2048 := (y 0).isLt
    have h1 : (y 1).val < 2048 := (y 1).isLt
    have hN : cfg0.N = 32 := N_0
    let t : Fin cfg0.N := ⟨8 * ((y 1).val / 512) + (y 0).val / 256, by omega⟩
    obtain ⟨_, _, _, _, ⟨e0, e1⟩, _⟩ := idx_facts t
    refine ⟨t, flush0_4 t, ?_⟩
    have e : y = ((cfg0.win 4).blk t).view.emb (ix2 (⟨(y 0).val % 256, by omega⟩ : Fin 256) (⟨(y 1).val % 512, by omega⟩ : Fin 512)) := by
      funext b; apply Fin.ext
      match b with
      | ⟨0, _⟩ =>
        show (y 0).val = win0_4.index t (0 : Fin 2) * 256 + 1 * ((y 0).val % 256)
        rw [e0]; show _ = (8 * ((y 1).val / 512) + (y 0).val / 256) % 8 * 256 + _; omega
      | ⟨1, _⟩ =>
        show (y 1).val = win0_4.index t (1 : Fin 2) * 512 + 1 * ((y 1).val % 512)
        rw [e1]; show _ = (8 * ((y 1).val / 512) + (y 0).val / 256) / 8 * 512 + _; omega
    rw [e]
    exact View.emb_mem_set _ _

theorem key_cover5 (y : S2304x512.Idx) : ∃ t : Fin cfg0.N, (cfg0.win 5).flush t = true ∧ y ∈ ((cfg0.win 5).blk t).view.set := by
  have h0 : (y 0).val < 2304 := (y 0).isLt
  have h1 : (y 1).val < 512 := (y 1).isLt
  have hN : cfg0.N = 32 := N_0
  let t : Fin cfg0.N := ⟨8 * ((y 1).val / 128) + 7, by omega⟩
  obtain ⟨_, _, _, _, _, ⟨e0, e1⟩, _⟩ := idx_facts t
  refine ⟨t, (flush0_5 t).mpr (by show (8 * ((y 1).val / 128) + 7) % 8 = 7; omega), ?_⟩
  have e : y = ((cfg0.win 5).blk t).view.emb (ix2 (⟨(y 0).val, h0⟩ : Fin 2304) (⟨(y 1).val % 128, by omega⟩ : Fin 128)) := by
    funext b; apply Fin.ext
    match b with
    | ⟨0, _⟩ => show (y 0).val = win0_5.index t (0 : Fin 2) * 2304 + 1 * (y 0).val; rw [e0]; omega
    | ⟨1, _⟩ =>
      show (y 1).val = win0_5.index t (1 : Fin 2) * 128 + 1 * ((y 1).val % 128)
      rw [e1]; show _ = (8 * ((y 1).val / 128) + 7) / 8 * 128 + _; omega
  rw [e]
  exact View.emb_mem_set _ _

theorem key_cover6 (y : S2304x512.Idx) : ∃ t : Fin cfg0.N, (cfg0.win 6).flush t = true ∧ y ∈ ((cfg0.win 6).blk t).view.set := by
  have h0 : (y 0).val < 2304 := (y 0).isLt
  have h1 : (y 1).val < 512 := (y 1).isLt
  have hN : cfg0.N = 32 := N_0
  let t : Fin cfg0.N := ⟨8 * ((y 1).val / 128) + 7, by omega⟩
  obtain ⟨_, _, _, _, _, _, ⟨e0, e1⟩⟩ := idx_facts t
  refine ⟨t, (flush0_6 t).mpr (by show (8 * ((y 1).val / 128) + 7) % 8 = 7; omega), ?_⟩
  have e : y = ((cfg0.win 6).blk t).view.emb (ix2 (⟨(y 0).val, h0⟩ : Fin 2304) (⟨(y 1).val % 128, by omega⟩ : Fin 128)) := by
    funext b; apply Fin.ext
    match b with
    | ⟨0, _⟩ => show (y 0).val = win0_6.index t (0 : Fin 2) * 2304 + 1 * (y 0).val; rw [e0]; omega
    | ⟨1, _⟩ =>
      show (y 1).val = win0_6.index t (1 : Fin 2) * 128 + 1 * ((y 1).val % 128)
      rw [e1]; show _ = (8 * ((y 1).val / 128) + 7) / 8 * 128 + _; omega
  rw [e]
  exact View.emb_mem_set _ _

theorem dk_final : (dats m 0 c).arrAt 5 cfg0.N = dkArr (Qa m c) (Ka m c) (Va m c) (Oa m c) := by
  refine (dats m 0 c).arrAt_eq_of_cover 5 (dkArr (Qa m c) (Ka m c) (Va m c) (Oa m c)) (fun t hf => ?_) key_cover5
  rw [Cert.KernelIdeal.Value.flushed5]
  obtain ⟨_, _, _, _, _, ⟨e0, e1⟩, _⟩ := idx_facts t
  have h7 := (flush0_5 t).mp hf
  funext (z : S2304x128.Idx)
  rw [show z = ix2 (z 0) (z 1) from eq_ix2 z]
  have hz1 : (z 1).val < 128 := (z 1).isLt
  refine (buf56 m c t.val t.isLt (z 0) (z 1)).1.trans ?_
  rw [h7, sum_blocks fun g n => dkTerm (Qa m c) (Ka m c) (Va m c) (Oa m c) (hd t) (z 0) (z 1) g n]
  show _ = dkArr (Qa m c) (Ka m c) (Va m c) (Oa m c) (((cfg0.win 5).blk t).view.emb (ix2 (z 0) (z 1)))
  have v0 : ((((cfg0.win 5).blk t).view.emb (ix2 (z 0) (z 1)) : S2304x512.Idx) 0).val = (z 0).val := by
    show win0_5.index t (0 : Fin 2) * 2304 + 1 * (z 0).val = _
    rw [e0]; omega
  have v1 : ((((cfg0.win 5).blk t).view.emb (ix2 (z 0) (z 1)) : S2304x512.Idx) 1).val = 128 * (t.val / 8) + (z 1).val := by
    show win0_5.index t (1 : Fin 2) * 128 + 1 * (z 1).val = _
    rw [e1]; omega
  unfold dkArr
  refine Finset.sum_congr rfl fun g _ => Finset.sum_congr rfl fun n _ => ?_
  congr 1 <;> apply Fin.ext
  · show t.val / 8 = _ / 128; rw [v1]; omega
  · exact v0.symm
  · show (z 1).val = _ % 128; rw [v1]; omega

theorem dv_final : (dats m 0 c).arrAt 6 cfg0.N = dvArr (Qa m c) (Ka m c) (Oa m c) := by
  refine (dats m 0 c).arrAt_eq_of_cover 6 (dvArr (Qa m c) (Ka m c) (Oa m c)) (fun t hf => ?_) key_cover6
  rw [Cert.KernelIdeal.Value.flushed6]
  obtain ⟨_, _, _, _, _, _, ⟨e0, e1⟩⟩ := idx_facts t
  have h7 := (flush0_6 t).mp hf
  funext (z : S2304x128.Idx)
  rw [show z = ix2 (z 0) (z 1) from eq_ix2 z]
  have hz1 : (z 1).val < 128 := (z 1).isLt
  refine (buf56 m c t.val t.isLt (z 0) (z 1)).2.trans ?_
  rw [h7, sum_blocks fun g n => dvTerm (Qa m c) (Ka m c) (Oa m c) (hd t) (z 0) (z 1) g n]
  show _ = dvArr (Qa m c) (Ka m c) (Oa m c) (((cfg0.win 6).blk t).view.emb (ix2 (z 0) (z 1)))
  have v0 : ((((cfg0.win 6).blk t).view.emb (ix2 (z 0) (z 1)) : S2304x512.Idx) 0).val = (z 0).val := by
    show win0_6.index t (0 : Fin 2) * 2304 + 1 * (z 0).val = _
    rw [e0]; omega
  have v1 : ((((cfg0.win 6).blk t).view.emb (ix2 (z 0) (z 1)) : S2304x512.Idx) 1).val = 128 * (t.val / 8) + (z 1).val := by
    show win0_6.index t (1 : Fin 2) * 128 + 1 * (z 1).val = _
    rw [e1]; omega
  unfold dvArr
  refine Finset.sum_congr rfl fun g _ => Finset.sum_congr rfl fun n _ => ?_
  congr 1 <;> apply Fin.ext
  · show t.val / 8 = _ / 128; rw [v1]; omega
  · exact v0.symm
  · show (z 1).val = _ % 128; rw [v1]; omega

end Cert.KernelIdeal.Attn

end
-- ==== Proof.Attn.Reference.lean ====
module

public import proofs.«01_k».proof.Proof.Attn.Formula
public import proofs.«01_k».proof.Proof.Attn.Entry
public import proofs.«01_k».proof.Proof.Gen.ReferenceIdeal.Run
public import proofs.«01_k».proof.Proof.Gen.ReferenceIdeal.Read
public import Idealize.ShloMosaic.Lib.IdealHost
public import Idealize.ShloMosaic.Lib.TwoAxisContraction

/-! # The reference's gradients, element by element

The reference forms the scores of every head, their softmax, and the gradients of the two products and of the softmax.
Each stage is read here at one head `(h, g)`, query row `n` and key row `j`. -/

@[expose] public section

noncomputable section

namespace Cert.ReferenceIdeal.Attn

open Cert.ReferenceIdeal Cert.ReferenceIdeal.Facts Cert.ReferenceIdeal.Gen Cert.ReferenceIdeal.Read Cert.Softmax Idealize.ShloMosaic Idealize.ShloMosaic.ValueIdx
open scoped BigOperators

variable (Q : QArr) (K V : KArr) (O : QArr) (h g : Fin 4) (n : Fin 2048) (j : Fin 2304)

/-- An entry of `q` by head. -/
theorem q_apply (a : Fin 128) : val_main_v4 (F := Ideal) Q (ix5 0 n h g a) = Q (ix2 n (qcol h g a)) := by
  rw [val_main_v4_apply]
  refine congrArg Q (funext fun b => ?_)
  have := h.isLt; have := g.isLt; have := a.isLt; have := n.isLt
  fin_cases b
  · exact Fin.ext (by show ((((0 * 2048 + n.val) * 4 + h.val) * 4 + g.val) * 128 + a.val) / 2048 = n.val; omega)
  · exact Fin.ext (by
      show ((((0 * 2048 + n.val) * 4 + h.val) * 4 + g.val) * 128 + a.val) % 2048 = 512 * h.val + 128 * g.val + a.val
      omega)

/-- An entry of the output's gradient by head. -/
theorem o_apply (a : Fin 128) : val_main_v43 (F := Ideal) O (ix5 0 h a g n) = O (ix2 n (qcol h g a)) := by
  rw [val_main_v43_apply, val_main_v42_apply]
  refine congrArg O (funext fun b => ?_)
  have := h.isLt; have := g.isLt; have := a.isLt; have := n.isLt
  fin_cases b
  · exact Fin.ext (by show ((((0 * 2048 + n.val) * 4 + h.val) * 4 + g.val) * 128 + a.val) / 2048 = n.val; omega)
  · exact Fin.ext (by
      show ((((0 * 2048 + n.val) * 4 + h.val) * 4 + g.val) * 128 + a.val) % 2048 = 512 * h.val + 128 * g.val + a.val
      omega)

/-- An entry of `k` by head. -/
theorem k_apply (a : Fin 128) : val_main_v5 (F := Ideal) K (ix4 0 j h a) = K (ix2 j (kcol h a)) := by
  rw [val_main_v5_apply]
  refine congrArg K (funext fun b => ?_)
  have := h.isLt; have := a.isLt; have := j.isLt
  fin_cases b
  · exact Fin.ext (by show (((0 * 2304 + j.val) * 4 + h.val) * 128 + a.val) / 512 = j.val; omega)
  · exact Fin.ext (by show (((0 * 2304 + j.val) * 4 + h.val) * 128 + a.val) % 512 = 128 * h.val + a.val; omega)

/-- An entry of `v` by head. -/
theorem v_apply (a : Fin 128) : val_main_v6 (F := Ideal) V (ix4 0 j h a) = V (ix2 j (kcol h a)) := by
  rw [val_main_v6_apply]
  refine congrArg V (funext fun b => ?_)
  have := h.isLt; have := a.isLt; have := j.isLt
  fin_cases b
  · exact Fin.ext (by show (((0 * 2304 + j.val) * 4 + h.val) * 128 + a.val) / 512 = j.val; omega)
  · exact Fin.ext (by show (((0 * 2304 + j.val) * 4 + h.val) * 128 + a.val) % 512 = 128 * h.val + a.val; omega)

/-- The scaled scores. -/
theorem scaled_apply : val_main_v10 (F := Ideal) Q K (ix5 0 h g n j) = scores Q K h g n j * (D : EReal) := by
  rw [val_main_v10_apply, val_main_v8_apply, val_main_v7_apply, val_main_v9_apply, val_main_cst_apply]
  refine congrArg₂ (· * ·) (Finset.sum_congr rfl fun a _ => ?_) Cert.KernelIdeal.Attn.scale_bits
  have el : lidx_main_v7 (idx_main_v8 (ix5 0 h g n j)) a = ix4 0 j h a := by funext b; fin_cases b <;> rfl
  have er : ridx_main_v7 (idx_main_v8 (ix5 0 h g n j)) a = ix5 0 n h g a := by funext b; fin_cases b <;> rfl
  rw [el, er, k_apply, q_apply, mul_comm]

/-- The maximum of a row of scaled scores. -/
theorem top_apply :
    val_main_v11 (F := Ideal) Q K (ix4 0 h g n) = top fun j => scores Q K h g n j * (D : EReal) := by
  have hr : S1x4x4x2048x2304.Reduces [(4 : Fin 5)] S1x4x4x2048 := by decide
  unfold val_main_v11
  refine (Host.reduce_eq_fold_single (FloatOps.maximumf (F := Ideal) (φ := .f32)) _ _ reducesTo_S1x4x4x2048x2304_S1x4x4x2048_d4 hr h_S_ _).trans ?_
  show Finset.univ.fold max (Ideal.ofBits .f32 0xFF800000#32) (val_main_v10 (F := Ideal) Q K ∘ hr.lift (ix4 0 h g n)) = _
  rw [Cert.KernelIdeal.Attn.ninf_bits]
  refine congrArg (Finset.univ.fold max ⊥) (funext fun j => ?_)
  have e : hr.lift (ix4 0 h g n) j = ix5 0 h g n j := by
    funext b
    fin_cases b <;> rfl
  exact (congrArg _ e).trans (scaled_apply Q K h g n j)

/-- The weights. -/
theorem w_apply : val_main_v31 (F := Ideal) Q K (ix5 0 h g n j) = wR D (scores Q K h g n) j := by
  rw [val_main_v31_apply, val_main_v30_apply, val_main_v29_apply, val_main_v28_apply, val_main_v18_apply,
    val_main_v17_apply, val_main_cst_2_apply, scaled_apply]
  have e : idx_main_v28 (idx_main_v29 (ix5 0 h g n j)) = ix4 0 h g n := by funext b; fin_cases b <;> rfl
  rw [e, top_apply]
  show Ideal.exp (_ - max (Ideal.ofBits .f32 0xFF800000#32) _) = _
  rw [Cert.KernelIdeal.Attn.ninf_bits]
  rfl

/-- The sum of a row's weights. -/
theorem l_apply : val_main_v33 (F := Ideal) Q K (ix5 0 h g n 0) = ∑ j, wR D (scores Q K h g n) j := by
  rw [val_main_v33_apply, val_main_v32_apply, val_main_cst_8_apply]
  have z : FloatOps.ofBits (F := Ideal) FTy.f32 0x00000000#32 = (0 : EReal) := by norm_num
  refine (congrArg₂ (· + ·) z (Finset.sum_congr rfl fun j _ => ?_)).trans (zero_add _)
  have e : idx_main_v32 (idx_main_v33 (ix5 0 h g n 0)) j = ix5 0 h g n j := by funext b; fin_cases b <;> rfl
  rw [e, w_apply]

/-- A query row's output gradient against every value row. -/
theorem dp_apply : val_main_v44 (F := Ideal) V O (ix5 0 h g n j) = scores O V h g n j := by
  rw [val_main_v44_apply]
  refine Finset.sum_congr rfl fun a _ => ?_
  have el : lidx_main_v44 (ix5 0 h g n j) a = ix5 0 h a g n := by funext b; fin_cases b <;> rfl
  have er : ridx_main_v44 (ix5 0 h g n j) a = ix4 0 j h a := by funext b; fin_cases b <;> rfl
  rw [el, er, o_apply, v_apply]

/-- The gradient of a row's sum of weights, negated. -/
theorem rowsum_apply : val_main_v51 (F := Ideal) Q K V O (ix5 0 h g n 0)
    = ∑ j, (scores O V h g n j * Ideal.div 1 ((∑ i, wR D (scores Q K h g n) i) * (∑ i, wR D (scores Q K h g n) i)))
        * wR D (scores Q K h g n) j := by
  have := h.isLt; have := g.isLt; have := n.isLt
  have e0 : idx_main_v51 (ix5 0 h g n 0) = ix4 0 h g n := by
    funext b
    fin_cases b
    · rfl
    · exact Fin.ext (by show ((((0 * 4 + h.val) * 4 + g.val) * 2048 + n.val) * 1 + 0) / 8192 % 4 = h.val; omega)
    · exact Fin.ext (by show ((((0 * 4 + h.val) * 4 + g.val) * 2048 + n.val) * 1 + 0) / 2048 % 4 = g.val; omega)
    · exact Fin.ext (by show ((((0 * 4 + h.val) * 4 + g.val) * 2048 + n.val) * 1 + 0) % 2048 = n.val; omega)
  rw [val_main_v51_apply, e0, val_main_v50_apply, val_main_cst_10_apply]
  have z : FloatOps.ofBits (F := Ideal) FTy.f32 0x00000000#32 = (0 : EReal) := by norm_num
  refine (congrArg₂ (· + ·) z (Finset.sum_congr rfl fun j _ => ?_)).trans (zero_add _)
  have e : idx_main_v50 (ix4 0 h g n) j = ix5 0 h g n j := by funext b; fin_cases b <;> rfl
  have e' : idx_main_v47 (ix5 0 h g n j) = ix5 0 h g n 0 := by funext b; fin_cases b <;> rfl
  rw [e, val_main_v49_apply, val_main_v48_apply, val_main_v47_apply, e', val_main_v38_apply, val_main_v37_apply,
    val_main_cst_9_apply, val_main_v36_apply, l_apply, w_apply, dp_apply]
  show _ * Ideal.div (Ideal.ofBits .f32 0x3F800000#32) _ * _ = _
  rw [Cert.KernelIdeal.Attn.one_bits]
  rfl

/-- A sum over the two unit axes is the one entry. -/
theorem unit_apply : val_main_v55 (F := Ideal) Q K V O (ix3 h g n) = val_main_v52 (F := Ideal) Q K V O (ix5 0 h g n 0) := by
  unfold val_main_v55
  rw [hostReduceAdd_apply]
  have z : val_main_cst_11 (F := Ideal) (Shape.Idx.first h_S_) = (0 : EReal) := by
    rw [val_main_cst_11_apply]; norm_num
  rw [z]
  unfold Ideal.hostReduceAdd
  rw [zero_add]
  refine (Finset.sum_eq_single (ix5 0 h g n 0) (fun i hi hne => absurd ?_ hne) fun hn => absurd ?_ hn)
  · have hd := (Finset.mem_filter.1 hi).2
    funext b
    fin_cases b
    · exact Fin.ext (by have := (i 0).isLt; show (i 0).val = 0; have : (i 0).val < 1 := (i 0).isLt; omega)
    · exact congrFun hd 0
    · exact congrFun hd 1
    · exact congrFun hd 2
    · exact Fin.ext (by show (i 4).val = 0; have : (i 4).val < 1 := (i 4).isLt; omega)
  · refine Finset.mem_filter.2 ⟨Finset.mem_univ _, ?_⟩
    funext b
    fin_cases b <;> rfl

/-- The score gradient. -/
theorem ds_apply : val_main_v61 (F := Ideal) Q K V O (ix5 0 h g n j) = dsR D (scores Q K h g n) (scores O V h g n) j := by
  have e1 : idx_main_v53 (ix5 0 h g n j) = ix5 0 h g n 0 := by funext b; fin_cases b <;> rfl
  have e2 : idx_main_v56 (idx_main_v57 (ix5 0 h g n j)) = ix3 h g n := by funext b; fin_cases b <;> rfl
  rw [val_main_v61_apply, val_main_v59_apply, val_main_v58_apply, val_main_v54_apply, val_main_v53_apply, e1,
    val_main_v57_apply, val_main_v56_apply, e2, unit_apply, val_main_v52_apply, rowsum_apply, l_apply, w_apply, dp_apply,
    val_main_v60_apply, val_main_cst_12_apply]
  exact congrArg₂ (· * ·) rfl Cert.KernelIdeal.Attn.scale_bits

/-- The normalised weights. -/
theorem p_apply : val_main_v35 (F := Ideal) Q K (ix5 0 h g n j)
    = Ideal.div (wR D (scores Q K h g n) j) (∑ i, wR D (scores Q K h g n) i) := by
  have e1 : idx_main_v34 (ix5 0 h g n j) = ix5 0 h g n 0 := by funext b; fin_cases b <;> rfl
  rw [val_main_v35_apply, val_main_v34_apply, e1, l_apply, w_apply]
  rfl

end Cert.ReferenceIdeal.Attn

end
-- ==== Proof.Attn.Results.lean ====
module

public import proofs.«01_k».proof.Proof.Attn.Reference

/-! # The reference's three results are the kernel's formulas at finite scores -/

@[expose] public section

noncomputable section

namespace Cert.ReferenceIdeal.Attn

open Cert.ReferenceIdeal Cert.ReferenceIdeal.Facts Cert.ReferenceIdeal.Gen Cert.ReferenceIdeal.Read Cert.Softmax
open Idealize.ShloMosaic Idealize.ShloMosaic.ValueIdx
open scoped BigOperators

variable (Q : QArr) (K V : KArr) (O : QArr) (h g : Fin 4) (n : Fin 2048) (j : Fin 2304)

/-- The contraction over query rows and query heads in the gradient of `k`. -/
abbrev Dk := dot_S1x4x2304x2048x4_S1x2048x4x4x128_S1x4x2304x128_34_13_2_4_01_02

/-- The gradient of `k`, by head. -/
theorem dk_apply (a : Fin 128) : val_main_v65 (F := Ideal) Q K V O (ix4 0 h j a)
    = ∑ g : Fin 4, ∑ n : Fin 2048, dsR D (scores Q K h g n) (scores O V h g n) j * Q (ix2 n (qcol h g a)) := by
  rw [Finset.sum_comm]
  unfold val_main_v65
  refine (Ideal.dotGeneral_apply Dk none .single _ _ (ix4 0 h j a)).trans ?_
  rw [sum_contr2 Dk 2048 4 rfl rfl rfl]
  refine Finset.sum_congr rfl fun n _ => Finset.sum_congr rfl fun g _ => ?_
  have h0 := contrEquiv2_symm_val0 Dk 2048 4 rfl rfl rfl (n, g)
  have h1 := contrEquiv2_symm_val1 Dk 2048 4 rfl rfl rfl (n, g)
  have el : Dk.lhsIdx (ix4 0 h j a) ((contrEquiv2 Dk 2048 4 rfl rfl rfl).symm (n, g)) = ix5 0 h j n g := by
    funext b; apply Fin.ext
    fin_cases b
    · rfl
    · rfl
    · rfl
    · exact h0
    · exact h1
  have er : Dk.rhsIdx (ix4 0 h j a) ((contrEquiv2 Dk 2048 4 rfl rfl rfl).symm (n, g)) = ix5 0 n h g a := by
    funext b; apply Fin.ext
    fin_cases b
    · rfl
    · exact h0
    · rfl
    · exact h1
    · rfl
  rw [el, er, q_apply, val_main_v62_apply]
  have e : idx_main_v62 (ix5 0 h j n g) = ix5 0 h g n j := by funext b; fin_cases b <;> rfl
  rw [e, ds_apply]

/-- The contraction over query heads and query rows in the gradient of `v`. -/
abbrev Dv := dot_S1x4x128x4x2048_S1x4x4x2048x2304_S1x4x128x2304_34_23_2_4_01_01

/-- The gradient of `v`, by head. -/
theorem dv_apply (a : Fin 128) : val_main_v45 (F := Ideal) Q K O (ix4 0 h a j)
    = ∑ g : Fin 4, ∑ n : Fin 2048, O (ix2 n (qcol h g a))
        * Ideal.div (wR D (scores Q K h g n) j) (∑ i, wR D (scores Q K h g n) i) := by
  unfold val_main_v45
  refine (Ideal.dotGeneral_apply Dv none .single _ _ (ix4 0 h a j)).trans ?_
  rw [sum_contr2 Dv 4 2048 rfl rfl rfl]
  refine Finset.sum_congr rfl fun g _ => Finset.sum_congr rfl fun n _ => ?_
  have h0 := contrEquiv2_symm_val0 Dv 4 2048 rfl rfl rfl (g, n)
  have h1 := contrEquiv2_symm_val1 Dv 4 2048 rfl rfl rfl (g, n)
  have el : Dv.lhsIdx (ix4 0 h a j) ((contrEquiv2 Dv 4 2048 rfl rfl rfl).symm (g, n)) = ix5 0 h a g n := by
    funext b; apply Fin.ext
    fin_cases b
    · rfl
    · rfl
    · rfl
    · exact h0
    · exact h1
  have er : Dv.rhsIdx (ix4 0 h a j) ((contrEquiv2 Dv 4 2048 rfl rfl rfl).symm (g, n)) = ix5 0 h g n j := by
    funext b; apply Fin.ext
    fin_cases b
    · rfl
    · rfl
    · exact h0
    · exact h1
    · rfl
  rw [el, er, o_apply, p_apply]

/-- Scores of finite arrays are finite. -/
theorem scores_real (hQ : ∀ y, ∃ r : ℝ, Q y = r) (hK : ∀ y, ∃ r : ℝ, K y = r) : ∃ r : ℝ, scores Q K h g n j = r := by
  choose σ hσ using hQ
  choose κ hκ using hK
  refine ⟨∑ a : Fin 128, σ (ix2 n (qcol h g a)) * κ (ix2 j (kcol h a)), ?_⟩
  unfold scores
  simp only [hσ, hκ, ← EReal.coe_mul]
  exact sum_coe _ _

variable (hQ : ∀ y, ∃ r : ℝ, Q y = r) (hK : ∀ y, ∃ r : ℝ, K y = r)
include hQ hK

/-- The gradient of `q`. -/
theorem dq_eq : val_main_v69 (F := Ideal) Q K V O = dqArr Q K V O := by
  funext y
  have hy0 := idx2_lt0 y
  have hy1 := idx2_lt1 y
  rw [val_main_v69_apply, val_main_v64_apply, val_main_v63_apply]
  unfold dqArr dqAt
  set h : Fin 4 := ⟨(y 1).val / 512, by omega⟩
  set g : Fin 4 := ⟨(y 1).val % 512 / 128, by omega⟩
  set n : Fin 2048 := ⟨(y 0).val, hy0⟩
  set a : Fin 128 := ⟨(y 1).val % 128, Nat.mod_lt _ (by decide)⟩
  have e : idx_main_v64 (idx_main_v69 y) = ix5 0 h n g a := by
    funext b
    fin_cases b
    · rfl
    · exact Fin.ext (by show ((y 0).val * 2048 + (y 1).val) / 512 % 4 = (y 1).val / 512; omega)
    · exact Fin.ext (by show ((y 0).val * 2048 + (y 1).val) / 2048 % 2048 = (y 0).val; omega)
    · exact Fin.ext (by show ((y 0).val * 2048 + (y 1).val) / 128 % 4 = (y 1).val % 512 / 128; omega)
    · exact Fin.ext (by show ((y 0).val * 2048 + (y 1).val) % 128 = (y 1).val % 128; omega)
  rw [e]
  refine Finset.sum_congr rfl fun j _ => ?_
  have el : idx_main_v62 (lidx_main_v63 (ix5 0 h n g a) j) = ix5 0 h g n j := by funext b; fin_cases b <;> rfl
  have er : ridx_main_v63 (ix5 0 h n g a) j = ix4 0 j h a := by funext b; fin_cases b <;> rfl
  rw [val_main_v62_apply, el, er, ds_apply, k_apply]
  rw [dsAt, dsK_eq_dsR D D_pos (by decide) _ _ fun j => scores_real Q K h g n j hQ hK]

/-- The gradient of `k`. -/
theorem dk_eq : val_main_v68 (F := Ideal) Q K V O = dkArr Q K V O := by
  funext y
  have hy0 := idx2_lt0 y
  have hy1 := idx2_lt1 y
  rw [val_main_v68_apply, val_main_v66_apply]
  unfold dkArr dkTerm
  set h : Fin 4 := ⟨(y 1).val / 128, by omega⟩
  set j : Fin 2304 := ⟨(y 0).val, hy0⟩
  set a : Fin 128 := ⟨(y 1).val % 128, Nat.mod_lt _ (by decide)⟩
  have e : idx_main_v66 (idx_main_v68 y) = ix4 0 h j a := by
    funext b
    fin_cases b
    · rfl
    · exact Fin.ext (by show ((y 0).val * 512 + (y 1).val) / 128 % 4 = (y 1).val / 128; omega)
    · exact Fin.ext (by show ((y 0).val * 512 + (y 1).val) / 512 % 2304 = (y 0).val; omega)
    · exact Fin.ext (by show ((y 0).val * 512 + (y 1).val) % 128 = (y 1).val % 128; omega)
  rw [e, dk_apply]
  refine Finset.sum_congr rfl fun g _ => Finset.sum_congr rfl fun n _ => ?_
  rw [dsAt, dsK_eq_dsR D D_pos (by decide) _ _ fun j => scores_real Q K h g n j hQ hK]

/-- The gradient of `v`. -/
theorem dv_eq : val_main_v67 (F := Ideal) Q K O = dvArr Q K O := by
  funext y
  have hy0 := idx2_lt0 y
  have hy1 := idx2_lt1 y
  rw [val_main_v67_apply, val_main_v46_apply]
  unfold dvArr dvTerm
  set h : Fin 4 := ⟨(y 1).val / 128, by omega⟩
  set j : Fin 2304 := ⟨(y 0).val, hy0⟩
  set a : Fin 128 := ⟨(y 1).val % 128, Nat.mod_lt _ (by decide)⟩
  have e : idx_main_v46 (idx_main_v67 y) = ix4 0 h a j := by
    funext b
    fin_cases b
    · rfl
    · exact Fin.ext (by show ((y 0).val * 512 + (y 1).val) / 128 % 4 = (y 1).val / 128; omega)
    · exact Fin.ext (by show ((y 0).val * 512 + (y 1).val) % 128 = (y 1).val % 128; omega)
    · exact Fin.ext (by show ((y 0).val * 512 + (y 1).val) / 512 % 2304 = (y 0).val; omega)
  rw [e, dv_apply]
  refine Finset.sum_congr rfl fun g _ => Finset.sum_congr rfl fun n _ => ?_
  rw [dv_term D D_pos (by decide) _ fun j => scores_real Q K h g n j hQ hK]

end Cert.ReferenceIdeal.Attn

end
-- ==== Proof.Attn.Finite.lean ====
module

public import proofs.«01_k».proof.Defs
public import Idealize.ShloMosaic.PureOps.Ideal.Laws
public import Idealize.ShloMosaic.Lib.IdealHost
public import Idealize.ShloMosaic.Lib.ValueIdxCore

/-! # The precondition: every entry of `q` and `k` is a real number -/

@[expose] public section

noncomputable section

namespace Cert.Attn

open Idealize.ShloMosaic Idealize.ShloMosaic.ValueIdx

/-- The scalar bound spreads over either array. -/
instance preFacts : Cert.Pre_finite_qk.Facts where
  bcast_S_S2048x2048 := by decide
  bcast_S_S2304x512 := by decide

/-- The bound's bits are positive infinity. -/
theorem inf_bits : Ideal.ofBits .bf16 0x7F80#16 = (⊤ : EReal) := by simp [Ideal.ofBits, Ideal.ieee]

/-- A number below infinity in absolute value is real. -/
theorem real_of_abs (x : EReal) (h : Ideal.cmp .olt (max x (-x)) ⊤ = 1#1) : ∃ r : ℝ, x = r := by
  have hx : max x (-x) < ⊤ := by
    by_contra hn
    have : Ideal.cmp .olt (max x (-x)) ⊤ = 0#1 := by simp [Ideal.cmp, hn]
    rw [this] at h
    exact absurd h (by decide)
  induction x using EReal.rec with
  | bot => exact absurd hx (by simp)
  | coe r => exact ⟨r, rfl⟩
  | top => exact absurd hx (by simp)

variable (q o : FVec Ideal Cert.Pre_finite_qk.S2048x2048 .bf16) (k v : FVec Ideal Cert.Pre_finite_qk.S2304x512 .bf16)

theorem q_real (h : (Cert.Pre_finite_qk.fn (F := Ideal) q k v o).1 = fun _ => 1#1) (y) : ∃ r : ℝ, q y = r := by
  refine real_of_abs _ ?_
  have e := congrFun h y
  rw [← inf_bits]
  exact e

theorem k_real (h : (Cert.Pre_finite_qk.fn (F := Ideal) q k v o).2 = fun _ => 1#1) (y) : ∃ r : ℝ, k y = r := by
  refine real_of_abs _ ?_
  have e := congrFun h y
  rw [← inf_bits]
  exact e

end Cert.Attn

end
-- ==== Proof.Product.Basic.lean ====
module

public import Idealize.ShloMosaic.Lib.ValueIdx
public import Idealize.ShloMosaic.PureOps.Ideal.Laws

/-! # Products of matrices on the extended reals

An element of a matrix product, in the three arrangements the calls use (rows by rows, rows by columns, columns by
columns), what a block's product holds there, and a sum taken a block at a time. -/

@[expose] public section

noncomputable section

namespace Cert.Product

open Idealize.ShloMosaic Idealize.ShloMosaic.ValueIdx
open scoped BigOperators

/-- An `M` by `N` matrix of extended reals. -/
abbrev Mat (M N : ℕ) := (⟨2, ![M, N]⟩ : Shape).Idx → EReal

variable {M N K : ℕ}

/-- Row `r` of `x` by row `s` of `y`. -/
def rowRow (x : Mat M K) (y : Mat N K) (r : Fin M) (s : Fin N) : EReal := ∑ k : Fin K, x (ix2 r k) * y (ix2 s k)

/-- Row `r` of `x` by column `s` of `y`. -/
def rowCol (x : Mat M K) (y : Mat K N) (r : Fin M) (s : Fin N) : EReal := ∑ k : Fin K, x (ix2 r k) * y (ix2 k s)

/-- Column `r` of `x` by column `s` of `y`. -/
def colCol (x : Mat K M) (y : Mat K N) (r : Fin M) (s : Fin N) : EReal := ∑ k : Fin K, x (ix2 k r) * y (ix2 k s)

/-- The square of the positive part. -/
def relu2 (x : EReal) : EReal := max x 0 * max x 0

/-- … of every element. -/
def relu2Mat (x : Mat M N) : Mat M N := fun y => relu2 (x y)

theorem matmul_rowRow {φ₁ φ₂ : FTy} (d : DotDims ⟨2, ![M, K]⟩ ⟨2, ![N, K]⟩ ⟨2, ![M, N]⟩) (hr : d.contr.rank = 1)
    (hs : d.contr.size ⟨0, by omega⟩ = K)
    (l0 : ∀ j q, (d.lhsIdx j q 0).val = (j 0).val) (l1 : ∀ j q, (d.lhsIdx j q 1).val = (q ⟨0, by omega⟩).val)
    (r0 : ∀ j q, (d.rhsIdx j q 0).val = (j 1).val) (r1 : ∀ j q, (d.rhsIdx j q 1).val = (q ⟨0, by omega⟩).val)
    (x : FVec Ideal ⟨2, ![M, K]⟩ φ₁) (y : FVec Ideal ⟨2, ![N, K]⟩ φ₂) (r : Fin M) (s : Fin N) :
    matmul (F := Ideal) d none x y (constant ⟨2, ![M, N]⟩ .f32 0x00000000#32) (ix2 r s) = rowRow x y r s := by
  refine (Ideal.matmul_constant_zero_apply d none x y _).trans ?_
  rw [← Equiv.sum_comp (contrEquiv1 d K hr hs).symm]
  refine Finset.sum_congr rfl fun k _ => ?_
  have hk := contrEquiv1_symm_val d K hr hs k
  refine congrArg₂ (· * ·) (congrArg x (funext fun b => Fin.ext ?_)) (congrArg y (funext fun b => Fin.ext ?_))
  · match b with
    | ⟨0, _⟩ => exact l0 _ _
    | ⟨1, _⟩ => exact (l1 _ _).trans hk
  · match b with
    | ⟨0, _⟩ => exact r0 _ _
    | ⟨1, _⟩ => exact (r1 _ _).trans hk

theorem matmul_rowCol {φ₁ φ₂ : FTy} (d : DotDims ⟨2, ![M, K]⟩ ⟨2, ![K, N]⟩ ⟨2, ![M, N]⟩) (hr : d.contr.rank = 1)
    (hs : d.contr.size ⟨0, by omega⟩ = K)
    (l0 : ∀ j q, (d.lhsIdx j q 0).val = (j 0).val) (l1 : ∀ j q, (d.lhsIdx j q 1).val = (q ⟨0, by omega⟩).val)
    (r0 : ∀ j q, (d.rhsIdx j q 0).val = (q ⟨0, by omega⟩).val) (r1 : ∀ j q, (d.rhsIdx j q 1).val = (j 1).val)
    (x : FVec Ideal ⟨2, ![M, K]⟩ φ₁) (y : FVec Ideal ⟨2, ![K, N]⟩ φ₂) (r : Fin M) (s : Fin N) :
    matmul (F := Ideal) d none x y (constant ⟨2, ![M, N]⟩ .f32 0x00000000#32) (ix2 r s) = rowCol x y r s := by
  refine (Ideal.matmul_constant_zero_apply d none x y _).trans ?_
  rw [← Equiv.sum_comp (contrEquiv1 d K hr hs).symm]
  refine Finset.sum_congr rfl fun k _ => ?_
  have hk := contrEquiv1_symm_val d K hr hs k
  refine congrArg₂ (· * ·) (congrArg x (funext fun b => Fin.ext ?_)) (congrArg y (funext fun b => Fin.ext ?_))
  · match b with
    | ⟨0, _⟩ => exact l0 _ _
    | ⟨1, _⟩ => exact (l1 _ _).trans hk
  · match b with
    | ⟨0, _⟩ => exact (r0 _ _).trans hk
    | ⟨1, _⟩ => exact r1 _ _

theorem matmul_colCol {φ₁ φ₂ : FTy} (d : DotDims ⟨2, ![K, M]⟩ ⟨2, ![K, N]⟩ ⟨2, ![M, N]⟩) (hr : d.contr.rank = 1)
    (hs : d.contr.size ⟨0, by omega⟩ = K)
    (l0 : ∀ j q, (d.lhsIdx j q 0).val = (q ⟨0, by omega⟩).val) (l1 : ∀ j q, (d.lhsIdx j q 1).val = (j 0).val)
    (r0 : ∀ j q, (d.rhsIdx j q 0).val = (q ⟨0, by omega⟩).val) (r1 : ∀ j q, (d.rhsIdx j q 1).val = (j 1).val)
    (x : FVec Ideal ⟨2, ![K, M]⟩ φ₁) (y : FVec Ideal ⟨2, ![K, N]⟩ φ₂) (r : Fin M) (s : Fin N) :
    matmul (F := Ideal) d none x y (constant ⟨2, ![M, N]⟩ .f32 0x00000000#32) (ix2 r s) = colCol x y r s := by
  refine (Ideal.matmul_constant_zero_apply d none x y _).trans ?_
  rw [← Equiv.sum_comp (contrEquiv1 d K hr hs).symm]
  refine Finset.sum_congr rfl fun k _ => ?_
  have hk := contrEquiv1_symm_val d K hr hs k
  refine congrArg₂ (· * ·) (congrArg x (funext fun b => Fin.ext ?_)) (congrArg y (funext fun b => Fin.ext ?_))
  · match b with
    | ⟨0, _⟩ => exact (l0 _ _).trans hk
    | ⟨1, _⟩ => exact l1 _ _
  · match b with
    | ⟨0, _⟩ => exact (r0 _ _).trans hk
    | ⟨1, _⟩ => exact r1 _ _

/-- A sum over `n * B` terms, `B` terms at a time. -/
theorem sum_by_blocks (n B : ℕ) (f : ℕ → EReal) :
    ∑ i ∈ Finset.range n, ∑ a : Fin B, f (B * i + a.val) = ∑ k : Fin (n * B), f k.val := by
  rw [Fin.sum_univ_eq_sum_range f (n * B)]
  induction n with
  | zero => simp
  | succ n ih =>
    rw [Finset.sum_range_succ, ih, Nat.succ_mul, Finset.sum_range_add, ← Fin.sum_univ_eq_sum_range (fun a => f (n * B + a)) B]
    simp only [Nat.mul_comm B n]

/-- … with the terms indexed below `K = n * B`. -/
theorem sum_blocks_fin (n B : ℕ) [NeZero K] (h : n * B = K) (f : Fin K → EReal) :
    ∑ i ∈ Finset.range n, ∑ a : Fin B, f (Fin.ofNat K (B * i + a.val)) = ∑ k : Fin K, f k := by
  subst h
  rw [sum_by_blocks n B fun k => f (Fin.ofNat (n * B) k)]
  refine Finset.sum_congr rfl fun k _ => congrArg f (Fin.ext ?_)
  show k.val % (n * B) = k.val
  exact Nat.mod_eq_of_lt k.isLt

theorem two_bits : (Ideal.ofBits .f32 0x40000000#32 : EReal) = 2 := by
  simp [Ideal.ofBits, Ideal.ieee]
  rw [← EReal.coe_mul]
  norm_num
  rfl

end Cert.Product

end
-- ==== Proof.DownGradX.Array.lean ====
module

public import proofs.«01_k».proof.Proof.Gen.Kernel2Ideal.Value
public import proofs.«01_k».proof.Proof.Product.Basic
public import proofs.«01_k».proof.Proof.Blocks

/-! # The gradient of the MLP's pre-activation: the result array after the run

Point `t = 8 i + j` of the grid multiplies row block `i` by column block `j`, each 1024 by 1024 of the result, over the
whole contraction, and writes the block back at once. -/

@[expose] public section

noncomputable section

namespace Cert.Kernel2Ideal.DownGradX

open Cert.Kernel2Ideal Cert.Kernel2Ideal.Gen Cert.Product Cert.Blocks Idealize.ShloMosaic Idealize.ShloMosaic.TcCoe Idealize.ShloMosaic.ValueIdx
open scoped BigOperators

/-- The gradient of the MLP's pre-activation: the incoming gradient times the second weight, rows by rows, times twice the positive part of the pre-activation. -/
def value (x : Mat 2048 2048) (y : Mat 8192 2048) (u : Mat 2048 8192) : Mat 2048 8192 :=
  fun j => rowRow x y (j 0) (j 1) * (2 * max (u j) 0)

/-- What one point stores, at an element. -/
theorem block_apply (x0 : FVec Ideal S1024x2048 .bf16) (x1 : FVec Ideal S1024x2048 .bf16) (x2 : FVec Ideal S1024x1024 .bf16) (r : Fin 1024) (s : Fin 1024) :
    (out0_3 (F := Ideal) x0 x1 x2 : FVec Ideal S1024x1024 .bf16) (ix2 r s) = rowRow x0 x1 r s * (2 * max (x2 (ix2 r s)) 0) := by
  unfold out0_3
  rw [View.canon_cons_unit_zero (S := S1024x1024) zero_offsets]
  simp only [View.ld_unit_zero (S := S1024x2048) zero_offsets, View.ld_unit_zero (S := S1024x1024) zero_offsets]
  unfold k0_pay1
  refine congrArg₂ (· * ·) (matmul_rowRow dot_S1024x2048_S1024x2048_S1024x1024_1_1_0_0_n_n rfl rfl (fun _ _ => rfl) (fun _ _ => rfl) (fun _ _ => rfl) (fun _ _ => rfl) x0 x1 r s) ?_
  show (Ideal.ofBits .f32 0x40000000#32 : EReal) * max (x2 (ix2 r s)) (Ideal.ofBits .f32 0x00000000#32) = _
  rw [two_bits, Ideal.ofBits_zero_f32]

variable (m : (ℓ : Loc nD τ sig) → Buf (Elt Ideal) ℓ) (c : Dev nD)

/-- The arguments. -/
abbrev Aa : FVec Ideal S2048x2048 .bf16 := m ((c : Thread nD τ).loc main_arg0)
abbrev Ba : FVec Ideal S8192x2048 .bf16 := m ((c : Thread nD τ).loc main_arg1)
abbrev Ua : FVec Ideal S2048x8192 .bf16 := m ((c : Thread nD τ).loc main_arg2)

/-- The windows' block indices at a point. -/
theorem idx_facts : ∀ t : Fin cfg0.N,
    (win0_0.index t (0 : Fin 2) = t.val / 8 ∧ win0_0.index t (1 : Fin 2) = 0)
    ∧ (win0_1.index t (0 : Fin 2) = t.val % 8 ∧ win0_1.index t (1 : Fin 2) = 0)
    ∧ (win0_2.index t (0 : Fin 2) = t.val / 8 ∧ win0_2.index t (1 : Fin 2) = t.val % 8)
    ∧ (win0_3.index t (0 : Fin 2) = t.val / 8 ∧ win0_3.index t (1 : Fin 2) = t.val % 8) :=
  (by decide +kernel : ∀ t : Fin grid0.N, _)

theorem t_lt (t : Fin cfg0.N) : t.val < 16 := lt_of_lt_of_eq t.isLt (show cfg0.N = 16 from N_0)

/-- The result's row and column at a point's block. -/
def row (t : Fin cfg0.N) (r : Fin 1024) : Fin 2048 := ⟨1024 * (t.val / 8) + r.val, by have := t_lt t; omega⟩
def column (t : Fin cfg0.N) (s : Fin 1024) : Fin 8192 := ⟨1024 * (t.val % 8) + s.val, by have := t_lt t; omega⟩

theorem a_block (t : Fin cfg0.N) (r : Fin 1024) (k : Fin 2048) :
    (iblk m c 0 t : FVec Ideal S1024x2048 .bf16) (ix2 r k) = Aa m c (ix2 (row t r) k) := by
  obtain ⟨⟨e0, e1⟩, _⟩ := idx_facts t
  show V m c main_arg0 (((cfg0.win 0).blk t).view.emb _) = _
  refine congrArg (Aa m c) (funext fun b => Fin.ext ?_)
  match b with
  | ⟨0, _⟩ =>
    show win0_0.index t (0 : Fin 2) * 1024 + 1 * r.val = 1024 * (t.val / 8) + r.val
    rw [e0]; omega
  | ⟨1, _⟩ =>
    show win0_0.index t (1 : Fin 2) * 2048 + 1 * k.val = k.val
    rw [e1]; omega

theorem b_block (t : Fin cfg0.N) (s : Fin 1024) (k : Fin 2048) :
    (iblk m c 1 t : FVec Ideal S1024x2048 .bf16) (ix2 s k) = Ba m c (ix2 (column t s) k) := by
  obtain ⟨_, ⟨e0, e1⟩, _⟩ := idx_facts t
  show V m c main_arg1 (((cfg0.win 1).blk t).view.emb _) = _
  refine congrArg (Ba m c) (funext fun b => Fin.ext ?_)
  match b with
  | ⟨0, _⟩ =>
    show win0_1.index t (0 : Fin 2) * 1024 + 1 * s.val = 1024 * (t.val % 8) + s.val
    rw [e0]; omega
  | ⟨1, _⟩ =>
    show win0_1.index t (1 : Fin 2) * 2048 + 1 * k.val = k.val
    rw [e1]; omega

theorem u_block (t : Fin cfg0.N) (r : Fin 1024) (s : Fin 1024) :
    (iblk m c 2 t : FVec Ideal S1024x1024 .bf16) (ix2 r s) = Ua m c (ix2 (row t r) (column t s)) := by
  obtain ⟨_, _, ⟨e0, e1⟩, _⟩ := idx_facts t
  show V m c main_arg2 (((cfg0.win 2).blk t).view.emb _) = _
  refine congrArg (Ua m c) (funext fun b => Fin.ext ?_)
  match b with
  | ⟨0, _⟩ =>
    show win0_2.index t (0 : Fin 2) * 1024 + 1 * r.val = 1024 * (t.val / 8) + r.val
    rw [e0]; omega
  | ⟨1, _⟩ =>
    show win0_2.index t (1 : Fin 2) * 1024 + 1 * s.val = 1024 * (t.val % 8) + s.val
    rw [e1]; omega

/-- One point's block is its part of the gradient of the MLP's pre-activation. -/
theorem point (t : Fin cfg0.N) (r : Fin 1024) (s : Fin 1024) :
    (out0_3 (F := Ideal) (iblk m c 0 t) (iblk m c 1 t) (iblk m c 2 t) : FVec Ideal S1024x1024 .bf16) (ix2 r s)
      = rowRow (Aa m c) (Ba m c) (row t r) (column t s) * (2 * max (Ua m c (ix2 (row t r) (column t s))) 0) :=
  (block_apply (iblk m c 0 t) (iblk m c 1 t) (iblk m c 2 t) r s).trans
    (congrArg₂ (· * ·) (Finset.sum_congr rfl fun k _ => congrArg₂ (· * ·) (a_block m c t r k) (b_block m c t s k)) (congrArg (fun u => 2 * max u 0) (u_block m c t r s)))

/-- Every element lies in some point's block. -/
theorem cover (y : S2048x8192.Idx) : ∃ t : Fin cfg0.N, (cfg0.win 3).flush t = true ∧ y ∈ ((cfg0.win 3).blk t).view.set := by
  have h0 : (y 0).val < 2048 := (y 0).isLt
  have h1 : (y 1).val < 8192 := (y 1).isLt
  have hN : cfg0.N = 16 := N_0
  let t : Fin cfg0.N := ⟨8 * ((y 0).val / 1024) + (y 1).val / 1024, by omega⟩
  obtain ⟨_, _, _, e0, e1⟩ := idx_facts t
  refine ⟨t, flush0_3 t, ?_⟩
  have e : y = ((cfg0.win 3).blk t).view.emb (ix2 (⟨(y 0).val % 1024, by omega⟩ : Fin 1024) (⟨(y 1).val % 1024, by omega⟩ : Fin 1024)) := by
    funext b; apply Fin.ext
    match b with
    | ⟨0, _⟩ =>
      show (y 0).val = win0_3.index t (0 : Fin 2) * 1024 + 1 * ((y 0).val % 1024)
      rw [e0]; show _ = (8 * ((y 0).val / 1024) + (y 1).val / 1024) / 8 * 1024 + _; omega
    | ⟨1, _⟩ =>
      show (y 1).val = win0_3.index t (1 : Fin 2) * 1024 + 1 * ((y 1).val % 1024)
      rw [e1]; show _ = (8 * ((y 0).val / 1024) + (y 1).val / 1024) % 8 * 1024 + _; omega
  rw [e]
  exact View.emb_mem_set _ _

/-- The array after the run. -/
theorem final : (dats m 0 c).arrAt 3 cfg0.N = value (Aa m c) (Ba m c) (Ua m c) := by
  refine (dats m 0 c).arrAt_eq_of_cover 3 (value (Aa m c) (Ba m c) (Ua m c)) (fun t _ => ?_) cover
  rw [Cert.Kernel2Ideal.Value.flushed3]
  obtain ⟨_, _, _, e0, e1⟩ := idx_facts t
  funext (z : S1024x1024.Idx)
  rw [show z = ix2 (z 0) (z 1) from eq_ix2 z]
  refine (point m c t (z 0) (z 1)).trans ?_
  have e : ((cfg0.win 3).blk t).view.emb (ix2 (z 0) (z 1)) = (ix2 (row t (z 0)) (column t (z 1)) : S2048x8192.Idx) := by
    funext b; apply Fin.ext
    match b with
    | ⟨0, _⟩ =>
      show win0_3.index t (0 : Fin 2) * 1024 + 1 * (z 0).val = 1024 * (t.val / 8) + (z 0).val
      rw [e0]; omega
    | ⟨1, _⟩ =>
      show win0_3.index t (1 : Fin 2) * 1024 + 1 * (z 1).val = 1024 * (t.val % 8) + (z 1).val
      rw [e1]; omega
  show _ = value (Aa m c) (Ba m c) (Ua m c) (((cfg0.win 3).blk t).view.emb (ix2 (z 0) (z 1)))
  rw [e]
  rfl

end Cert.Kernel2Ideal.DownGradX

end
-- ==== Proof.DownGradX.Result.lean ====
module

public import proofs.«01_k».proof.Defs
public import proofs.«01_k».proof.Proof.Gen.Reference2Ideal.Run
public import proofs.«01_k».proof.Proof.Gen.Reference2Ideal.Read
public import proofs.«01_k».proof.Proof.DownGradX.Array

/-! # The gradient of the MLP's pre-activation: the reference's value, and the two programs' equality -/

@[expose] public section

noncomputable section

namespace Cert.Reference2Ideal.DownGradX

open Cert.Reference2Ideal Cert.Reference2Ideal.Gen Cert.Reference2Ideal.Read Cert.Product Cert.Kernel2Ideal.DownGradX
open Idealize.ShloMosaic Idealize.ShloMosaic.ValueIdx Idealize.SL.Sem
open scoped BigOperators

/-- What the reference computes. -/
theorem result (x : FVec Ideal S2048x2048 .bf16) (y : FVec Ideal S8192x2048 .bf16) (u : FVec Ideal S2048x8192 .bf16) :
    val_main_v15 (F := Ideal) x y u = value x y u := by
  funext j
  show Scalar.select (val_main_v4 (F := Ideal) u j) (val_main_v11 (F := Ideal) x y j * val_main_v8 (F := Ideal) u j) (Ideal.ofBits .f32 0x00000000#32) = _
  have hd : val_main_v11 (F := Ideal) x y j = rowRow x y (j 0) (j 1) := by
    refine (val_main_v11_apply x y j).trans (Finset.sum_congr rfl fun k _ => ?_)
    exact congrArg₂ (fun a b : EReal => a * b) (congrArg x (funext fun b => by fin_cases b <;> rfl)) (congrArg y (funext fun b => by fin_cases b <;> rfl))
  have hr : val_main_v8 (F := Ideal) u j = 2 * max (u j) 0 := by
    show (Ideal.ofBits .f32 0x40000000#32 : EReal) * max (u j) (Ideal.ofBits .f32 0x00000000#32) = _
    rw [two_bits, Ideal.ofBits_zero_f32]
  have hc : val_main_v4 (F := Ideal) u j = BitVec.ofBool (decide (0 < u j)) := by
    show (Ideal.cmp .ogt (u j) (Ideal.ofBits .f32 0x00000000#32) : BitVec 1) = _
    rw [Ideal.ofBits_zero_f32]; rfl
  rw [hd, hr, hc, Ideal.ofBits_zero_f32]
  unfold value
  by_cases h : 0 < u j
  · rw [decide_eq_true h]; rfl
  · rw [decide_eq_false h, max_eq_right (not_lt.mp h), mul_zero, mul_zero]; rfl

/-- The reference runs, leaves its arguments alone and declares no semaphore. -/
theorem frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two programs end with the same array. -/
theorem algebraic : Cert.algebraic_Kernel2Ideal_Reference2Ideal := by
  intro m g m' g' _ hargs
  refine ⟨fun c => value (Aa m c) (Ba m c) (Ua m c), ?_, ?_⟩
  · refine (θ_run Cert.Kernel2Ideal.defs _ _).mono (fun r h c => ?_) (Cert.Kernel2Ideal.Value.run_blocks (F := Ideal) m g)
    obtain ⟨e, k⟩ := h c
    exact ⟨e.trans (final m c), k⟩
  · refine (θ_run Cert.Reference2Ideal.defs _ _).mono (fun r h c => ?_) (Cert.Reference2Ideal.Value.run (F := Ideal) m' g')
    obtain ⟨e, k⟩ := h c
    obtain ⟨a0, a1, a2⟩ := hargs c
    refine ⟨e.trans ?_, k⟩
    refine (val_main_v15_eq _ _ _).trans ?_
    rw [a0, a1, a2]
    exact result _ _ _

end Cert.Reference2Ideal.DownGradX

end
-- ==== Proof.DownGradW.Array.lean ====
module

public import proofs.«01_k».proof.Proof.Gen.Kernel3Ideal.Value
public import proofs.«01_k».proof.Proof.Product.Basic
public import proofs.«01_k».proof.Proof.Blocks

/-! # The gradient of the MLP's second weight: the result array after the run

Point `t = 2 i + j` of the grid multiplies row block `i` by column block `j`, each 1024 by 1024 of the result, over the
whole contraction, and writes the block back at once. -/

@[expose] public section

noncomputable section

namespace Cert.Kernel3Ideal.DownGradW

open Cert.Kernel3Ideal Cert.Kernel3Ideal.Gen Cert.Product Cert.Blocks Idealize.ShloMosaic Idealize.ShloMosaic.TcCoe Idealize.ShloMosaic.ValueIdx
open scoped BigOperators

/-- The gradient of the MLP's second weight: the squared positive part of the pre-activation times the incoming gradient, columns by columns. -/
def value (x : Mat 2048 8192) (y : Mat 2048 2048) : Mat 8192 2048 := fun j => colCol (relu2Mat x) y (j 0) (j 1)

/-- What one point stores, at an element. -/
theorem block_apply (x0 : FVec Ideal S2048x1024 .bf16) (x1 : FVec Ideal S2048x1024 .bf16) (r : Fin 1024) (s : Fin 1024) :
    (out0_2 (F := Ideal) x0 x1 : FVec Ideal S1024x1024 .bf16) (ix2 r s) = colCol (relu2Mat x0) x1 r s := by
  unfold out0_2
  rw [View.canon_cons_unit_zero (S := S1024x1024) zero_offsets]
  simp only [View.ld_unit_zero (S := S2048x1024) zero_offsets]
  unfold k0_pay1
  refine (matmul_colCol dot_S2048x1024_S2048x1024_S1024x1024_0_0_1_1_n_n rfl rfl (fun _ _ => rfl) (fun _ _ => rfl) (fun _ _ => rfl) (fun _ _ => rfl) _ x1 r s).trans ?_
  refine Finset.sum_congr rfl fun k _ => congrArg (· * x1 (ix2 k s)) ?_
  show max (x0 (ix2 k r)) (Ideal.ofBits .f32 0x00000000#32) * max (x0 (ix2 k r)) (Ideal.ofBits .f32 0x00000000#32) = relu2 (x0 (ix2 k r))
  rw [Ideal.ofBits_zero_f32]; rfl

variable (m : (ℓ : Loc nD τ sig) → Buf (Elt Ideal) ℓ) (c : Dev nD)

/-- The arguments. -/
abbrev Aa : FVec Ideal S2048x8192 .bf16 := m ((c : Thread nD τ).loc main_arg0)
abbrev Ba : FVec Ideal S2048x2048 .bf16 := m ((c : Thread nD τ).loc main_arg1)

/-- The windows' block indices at a point. -/
theorem idx_facts : ∀ t : Fin cfg0.N,
    (win0_0.index t (0 : Fin 2) = 0 ∧ win0_0.index t (1 : Fin 2) = t.val / 2)
    ∧ (win0_1.index t (0 : Fin 2) = 0 ∧ win0_1.index t (1 : Fin 2) = t.val % 2)
    ∧ (win0_2.index t (0 : Fin 2) = t.val / 2 ∧ win0_2.index t (1 : Fin 2) = t.val % 2) :=
  (by decide +kernel : ∀ t : Fin grid0.N, _)

theorem t_lt (t : Fin cfg0.N) : t.val < 16 := lt_of_lt_of_eq t.isLt (show cfg0.N = 16 from N_0)

/-- The result's row and column at a point's block. -/
def row (t : Fin cfg0.N) (r : Fin 1024) : Fin 8192 := ⟨1024 * (t.val / 2) + r.val, by have := t_lt t; omega⟩
def column (t : Fin cfg0.N) (s : Fin 1024) : Fin 2048 := ⟨1024 * (t.val % 2) + s.val, by have := t_lt t; omega⟩

theorem a_block (t : Fin cfg0.N) (k : Fin 2048) (r : Fin 1024) :
    (iblk m c 0 t : FVec Ideal S2048x1024 .bf16) (ix2 k r) = Aa m c (ix2 k (row t r)) := by
  obtain ⟨⟨e0, e1⟩, _⟩ := idx_facts t
  show V m c main_arg0 (((cfg0.win 0).blk t).view.emb _) = _
  refine congrArg (Aa m c) (funext fun b => Fin.ext ?_)
  match b with
  | ⟨0, _⟩ =>
    show win0_0.index t (0 : Fin 2) * 2048 + 1 * k.val = k.val
    rw [e0]; omega
  | ⟨1, _⟩ =>
    show win0_0.index t (1 : Fin 2) * 1024 + 1 * r.val = 1024 * (t.val / 2) + r.val
    rw [e1]; omega

theorem b_block (t : Fin cfg0.N) (k : Fin 2048) (s : Fin 1024) :
    (iblk m c 1 t : FVec Ideal S2048x1024 .bf16) (ix2 k s) = Ba m c (ix2 k (column t s)) := by
  obtain ⟨_, ⟨e0, e1⟩, _⟩ := idx_facts t
  show V m c main_arg1 (((cfg0.win 1).blk t).view.emb _) = _
  refine congrArg (Ba m c) (funext fun b => Fin.ext ?_)
  match b with
  | ⟨0, _⟩ =>
    show win0_1.index t (0 : Fin 2) * 2048 + 1 * k.val = k.val
    rw [e0]; omega
  | ⟨1, _⟩ =>
    show win0_1.index t (1 : Fin 2) * 1024 + 1 * s.val = 1024 * (t.val % 2) + s.val
    rw [e1]; omega

/-- One point's block is its part of the gradient of the MLP's second weight. -/
theorem point (t : Fin cfg0.N) (r : Fin 1024) (s : Fin 1024) :
    (out0_2 (F := Ideal) (iblk m c 0 t) (iblk m c 1 t) : FVec Ideal S1024x1024 .bf16) (ix2 r s)
      = colCol (relu2Mat (Aa m c)) (Ba m c) (row t r) (column t s) :=
  (block_apply (iblk m c 0 t) (iblk m c 1 t) r s).trans
    (Finset.sum_congr rfl fun k _ => congrArg₂ (· * ·) (congrArg relu2 (a_block m c t k r)) (b_block m c t k s))

/-- Every element lies in some point's block. -/
theorem cover (y : S8192x2048.Idx) : ∃ t : Fin cfg0.N, (cfg0.win 2).flush t = true ∧ y ∈ ((cfg0.win 2).blk t).view.set := by
  have h0 : (y 0).val < 8192 := (y 0).isLt
  have h1 : (y 1).val < 2048 := (y 1).isLt
  have hN : cfg0.N = 16 := N_0
  let t : Fin cfg0.N := ⟨2 * ((y 0).val / 1024) + (y 1).val / 1024, by omega⟩
  obtain ⟨_, _, e0, e1⟩ := idx_facts t
  refine ⟨t, flush0_2 t, ?_⟩
  have e : y = ((cfg0.win 2).blk t).view.emb (ix2 (⟨(y 0).val % 1024, by omega⟩ : Fin 1024) (⟨(y 1).val % 1024, by omega⟩ : Fin 1024)) := by
    funext b; apply Fin.ext
    match b with
    | ⟨0, _⟩ =>
      show (y 0).val = win0_2.index t (0 : Fin 2) * 1024 + 1 * ((y 0).val % 1024)
      rw [e0]; show _ = (2 * ((y 0).val / 1024) + (y 1).val / 1024) / 2 * 1024 + _; omega
    | ⟨1, _⟩ =>
      show (y 1).val = win0_2.index t (1 : Fin 2) * 1024 + 1 * ((y 1).val % 1024)
      rw [e1]; show _ = (2 * ((y 0).val / 1024) + (y 1).val / 1024) % 2 * 1024 + _; omega
  rw [e]
  exact View.emb_mem_set _ _

/-- The array after the run. -/
theorem final : (dats m 0 c).arrAt 2 cfg0.N = value (Aa m c) (Ba m c) := by
  refine (dats m 0 c).arrAt_eq_of_cover 2 (value (Aa m c) (Ba m c)) (fun t _ => ?_) cover
  rw [Cert.Kernel3Ideal.Value.flushed2]
  obtain ⟨_, _, e0, e1⟩ := idx_facts t
  funext (z : S1024x1024.Idx)
  rw [show z = ix2 (z 0) (z 1) from eq_ix2 z]
  refine (point m c t (z 0) (z 1)).trans ?_
  have e : ((cfg0.win 2).blk t).view.emb (ix2 (z 0) (z 1)) = (ix2 (row t (z 0)) (column t (z 1)) : S8192x2048.Idx) := by
    funext b; apply Fin.ext
    match b with
    | ⟨0, _⟩ =>
      show win0_2.index t (0 : Fin 2) * 1024 + 1 * (z 0).val = 1024 * (t.val / 2) + (z 0).val
      rw [e0]; omega
    | ⟨1, _⟩ =>
      show win0_2.index t (1 : Fin 2) * 1024 + 1 * (z 1).val = 1024 * (t.val % 2) + (z 1).val
      rw [e1]; omega
  show _ = value (Aa m c) (Ba m c) (((cfg0.win 2).blk t).view.emb (ix2 (z 0) (z 1)))
  rw [e]
  rfl

end Cert.Kernel3Ideal.DownGradW

end
-- ==== Proof.DownGradW.Result.lean ====
module

public import proofs.«01_k».proof.Defs
public import proofs.«01_k».proof.Proof.Gen.Reference3Ideal.Run
public import proofs.«01_k».proof.Proof.Gen.Reference3Ideal.Read
public import proofs.«01_k».proof.Proof.DownGradW.Array

/-! # The gradient of the MLP's second weight: the reference's value, and the two programs' equality -/

@[expose] public section

noncomputable section

namespace Cert.Reference3Ideal.DownGradW

open Cert.Reference3Ideal Cert.Reference3Ideal.Gen Cert.Reference3Ideal.Read Cert.Product Cert.Kernel3Ideal.DownGradW
open Idealize.ShloMosaic Idealize.ShloMosaic.ValueIdx Idealize.SL.Sem
open scoped BigOperators

/-- The squared positive part, at an element. -/
theorem square_apply (x : FVec Ideal S2048x8192 .bf16) (j : S2048x8192.Idx) : val_main_v3 (F := Ideal) x j = relu2 (x j) := by
  show max (x j) (Ideal.ofBits .f32 0x00000000#32) * max (x j) (Ideal.ofBits .f32 0x00000000#32) = relu2 (x j)
  rw [Ideal.ofBits_zero_f32]; rfl

/-- What the reference computes. -/
theorem result (x : FVec Ideal S2048x8192 .bf16) (y : FVec Ideal S2048x2048 .bf16) :
    val_main_v8 (F := Ideal) x y = value x y := by
  funext j
  show val_main_v7 (F := Ideal) x y j = _
  rw [val_main_v7_apply, val_main_v6_apply]
  unfold value colCol
  refine Finset.sum_congr (M := EReal) rfl fun k _ => (mul_comm (G := EReal) _ _).trans ?_
  exact congrArg₂ (fun a b : EReal => a * b) ((square_apply x _).trans (congrArg (fun i => relu2 (x i)) (funext fun b => by fin_cases b <;> rfl))) (congrArg y (funext fun b => by fin_cases b <;> rfl))

/-- The reference runs, leaves its arguments alone and declares no semaphore. -/
theorem frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The two programs end with the same array. -/
theorem algebraic : Cert.algebraic_Kernel3Ideal_Reference3Ideal := by
  intro m g m' g' _ hargs
  refine ⟨fun c => value (Aa m c) (Ba m c), ?_, ?_⟩
  · refine (θ_run Cert.Kernel3Ideal.defs _ _).mono (fun r h c => ?_) (Cert.Kernel3Ideal.Value.run_blocks (F := Ideal) m g)
    obtain ⟨e, k⟩ := h c
    exact ⟨e.trans (final m c), k⟩
  · refine (θ_run Cert.Reference3Ideal.defs _ _).mono (fun r h c => ?_) (Cert.Reference3Ideal.Value.run (F := Ideal) m' g')
    obtain ⟨e, k⟩ := h c
    obtain ⟨a0, a1⟩ := hargs c
    refine ⟨e.trans ?_, k⟩
    refine (val_main_v8_eq _ _).trans ?_
    rw [a0, a1]
    exact result _ _

end Cert.Reference3Ideal.DownGradW

end
-- ==== Proof.UpGradX.Block.lean ====
module

public import proofs.«01_k».proof.Proof.Gen.Kernel4Ideal.Value
public import proofs.«01_k».proof.Proof.Blocks

/-! # The gradient of the MLP's input: what one grid point leaves in the accumulator and in the result's buffer

A point multiplies 1024 rows of the pre-activation's gradient by 1024 rows of the first weight over a quarter of the contraction (`k0_pay1`). The first of
four points puts the product into the accumulator, the later ones add theirs, and the last also stores the sum. -/

@[expose] public section

noncomputable section

namespace Cert.Kernel4Ideal.UpGradX

open Cert.Kernel4Ideal Cert.Kernel4Ideal.Gen Cert.Blocks Idealize.ShloMosaic Idealize.ShloMosaic.TcCoe

variable {F : FTy → Type} [FloatOps F]
variable (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole)
  (x0 : Vec F S1024x2048 .bf16) (x1 : Vec F S1024x2048 .bf16)

/-- The first point: the accumulator holds the product. -/
theorem acc_first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_cons_unit_zero (S := S1024x1024) zero_offsets]
  simp only [load_after_store (S := S1024x1024) _ zero_offsets, View.readAt_eq_ld, harg3.read_unread, harg4.read_unread, harg6.read_unread, View.ld_unit_zero (S := S1024x2048) zero_offsets, View.ld_unit_zero (S := S1024x1024) zero_offsets, k0_pay2, k0_pay3, shapeCast_self]

/-- A later point: the accumulator gains the product. -/
theorem acc_later (hc0 : ¬cond0_0 i) (hc1 : cond0_1 i) (hc2 : ¬cond0_2 i) (xs : Vec F S1024x1024 .f32) :
    sout0_B_0 c i arg3 harg3 arg4 harg4 arg5 harg5 arg6 harg6 hc0 hc1 hc2 x0 x1 xs = addf xs (k0_pay1 x0 x1) := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_cons_unit_zero (S := S1024x1024) zero_offsets]
  simp only [load_after_store (S := S1024x1024) _ zero_offsets, View.readAt_eq_ld, harg3.read_unread, harg4.read_unread, harg6.read_unread, View.ld_unit_zero (S := S1024x2048) zero_offsets, View.ld_unit_zero (S := S1024x1024) zero_offsets, k0_pay2, k0_pay3, shapeCast_self]

/-- The last point: the buffer holds the accumulator with its product added. -/
theorem out_last (hc0 : ¬cond0_0 i) (hc1 : cond0_1 i) (hc2 : cond0_2 i) (xs : Vec F S1024x1024 .f32) :
    out0_C_2 c i arg3 harg3 arg4 harg4 arg5 harg5 arg6 harg6 hc0 hc1 hc2 x0 x1 xs = addf xs (k0_pay1 x0 x1) := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_cons_unit_zero (S := S1024x1024) zero_offsets]
  simp only [load_after_store (S := S1024x1024) _ zero_offsets, View.readAt_eq_ld, harg3.read_unread, harg4.read_unread, harg6.read_unread, View.ld_unit_zero (S := S1024x2048) zero_offsets, View.ld_unit_zero (S := S1024x1024) zero_offsets, k0_pay2, k0_pay3, shapeCast_self]

end Cert.Kernel4Ideal.UpGradX

end
-- ==== Proof.UpGradX.Array.lean ====
module

public import proofs.«01_k».proof.Proof.UpGradX.Block
public import proofs.«01_k».proof.Proof.Product.Basic

/-! # The gradient of the MLP's input: the result array after the run

Point `t = 8 i + 4 j + k` of the grid works on row block `i` and column block `j` of the result (1024 by 1024) and on quarter
`k` of the contraction; the block is written back at `k = 3`. -/

@[expose] public section

noncomputable section

namespace Cert.Kernel4Ideal.UpGradX

open Cert.Kernel4Ideal Cert.Kernel4Ideal.Gen Cert.Product Cert.Blocks Idealize.ShloMosaic Idealize.ShloMosaic.TcCoe Idealize.ShloMosaic.ValueIdx
open scoped BigOperators

/-- The gradient of the MLP's input: the pre-activation's gradient times the first weight, rows by rows. -/
def value (x : Mat 2048 8192) (y : Mat 2048 8192) : Mat 2048 2048 := fun j => rowRow x y (j 0) (j 1)

/-- Place `a` of quarter `i` of the contraction. -/
def place (i : ℕ) (a : Fin 2048) : Fin 8192 := Fin.ofNat 8192 (2048 * i + a.val)

/-- Quarter `i` of an element of the product. -/
def part (x : Mat 2048 8192) (y : Mat 2048 8192) (r : Fin 2048) (s : Fin 2048) (i : ℕ) : EReal :=
  ∑ a : Fin 2048, x (ix2 r (place i a)) * y (ix2 s (place i a))

theorem parts (x : Mat 2048 8192) (y : Mat 2048 8192) (r : Fin 2048) (s : Fin 2048) :
    ∑ i ∈ Finset.range 4, part x y r s i = rowRow x y r s :=
  sum_blocks_fin 4 2048 rfl fun k => x (ix2 r k) * y (ix2 s k)

/-- A point's product, at an element. -/
theorem product_apply (x0 : FVec Ideal S1024x2048 .bf16) (x1 : FVec Ideal S1024x2048 .bf16) (r : Fin 1024) (s : Fin 1024) :
    (k0_pay1 (F := Ideal) x0 x1) (ix2 r s) = rowRow x0 x1 r s := by
  unfold k0_pay1
  exact matmul_rowRow dot_S1024x2048_S1024x2048_S1024x1024_1_1_0_0_n_n rfl rfl (fun _ _ => rfl) (fun _ _ => rfl) (fun _ _ => rfl) (fun _ _ => rfl) x0 x1 r s

variable (m : (ℓ : Loc nD τ sig) → Buf (Elt Ideal) ℓ) (c : Dev nD)

/-- The arguments. -/
abbrev Aa : FVec Ideal S2048x8192 .bf16 := m ((c : Thread nD τ).loc main_arg0)
abbrev Ba : FVec Ideal S2048x8192 .bf16 := m ((c : Thread nD τ).loc main_arg1)

/-- The windows' block indices at a point. -/
theorem idx_facts : ∀ t : Fin cfg0.N,
    (win0_0.index t (0 : Fin 2) = t.val / 8 ∧ win0_0.index t (1 : Fin 2) = t.val % 4)
    ∧ (win0_1.index t (0 : Fin 2) = t.val / 4 % 2 ∧ win0_1.index t (1 : Fin 2) = t.val % 4)
    ∧ (win0_2.index t (0 : Fin 2) = t.val / 8 ∧ win0_2.index t (1 : Fin 2) = t.val / 4 % 2) :=
  (by decide +kernel : ∀ t : Fin grid0.N, _)

theorem t_lt (t : Fin cfg0.N) : t.val < 16 := lt_of_lt_of_eq t.isLt (show cfg0.N = 16 from N_0)

/-- The result's row and column at a point's block. -/
def row (t : Fin cfg0.N) (r : Fin 1024) : Fin 2048 := ⟨1024 * (t.val / 8) + r.val, by have := t_lt t; omega⟩
def column (t : Fin cfg0.N) (s : Fin 1024) : Fin 2048 := ⟨1024 * (t.val / 4 % 2) + s.val, by have := t_lt t; omega⟩

theorem a_block (t : Fin cfg0.N) (r : Fin 1024) (k : Fin 2048) :
    (iblk m c 0 t : FVec Ideal S1024x2048 .bf16) (ix2 r k) = Aa m c (ix2 (row t r) (place (t.val % 4) k)) := by
  obtain ⟨⟨e0, e1⟩, _⟩ := idx_facts t
  show V m c main_arg0 (((cfg0.win 0).blk t).view.emb _) = _
  refine congrArg (Aa m c) (funext fun b => Fin.ext ?_)
  match b with
  | ⟨0, _⟩ =>
    show win0_0.index t (0 : Fin 2) * 1024 + 1 * r.val = 1024 * (t.val / 8) + r.val
    rw [e0]; omega
  | ⟨1, _⟩ =>
    show win0_0.index t (1 : Fin 2) * 2048 + 1 * k.val = (2048 * (t.val % 4) + k.val) % 8192
    rw [e1]; omega

theorem b_block (t : Fin cfg0.N) (s : Fin 1024) (k : Fin 2048) :
    (iblk m c 1 t : FVec Ideal S1024x2048 .bf16) (ix2 s k) = Ba m c (ix2 (column t s) (place (t.val % 4) k)) := by
  obtain ⟨_, ⟨e0, e1⟩, _⟩ := idx_facts t
  show V m c main_arg1 (((cfg0.win 1).blk t).view.emb _) = _
  refine congrArg (Ba m c) (funext fun b => Fin.ext ?_)
  match b with
  | ⟨0, _⟩ =>
    show win0_1.index t (0 : Fin 2) * 1024 + 1 * s.val = 1024 * (t.val / 4 % 2) + s.val
    rw [e0]; omega
  | ⟨1, _⟩ =>
    show win0_1.index t (1 : Fin 2) * 2048 + 1 * k.val = (2048 * (t.val % 4) + k.val) % 8192
    rw [e1]; omega

/-- One point's product is its quarter. -/
theorem point (t : Fin cfg0.N) (r : Fin 1024) (s : Fin 1024) :
    (k0_pay1 (F := Ideal) (iblk m c 0 t) (iblk m c 1 t)) (ix2 r s) = part (Aa m c) (Ba m c) (row t r) (column t s) (t.val % 4) :=
  (product_apply (iblk m c 0 t) (iblk m c 1 t) r s).trans
    (Finset.sum_congr rfl fun a _ => congrArg₂ (fun x y : EReal => x * y) (a_block m c t r a) (b_block m c t s a))

/-- The accumulator after the first three points of a block. -/
theorem acc (n : ℕ) (hn : n < cfg0.N) (h3 : n % 4 < 3) (r : Fin 1024) (s : Fin 1024) :
    (outsAt0 m c n hn).2 (ix2 r s)
      = ∑ i ∈ Finset.range (n % 4 + 1), part (Aa m c) (Ba m c) (row ⟨n, hn⟩ r) (column ⟨n, hn⟩ s) i := by
  induction n using Nat.strong_induction_on with
  | _ n ih =>
    by_cases h0 : n % 4 = 0
    · have e := outsAt0_A m c ⟨n, hn⟩ h0 (by show ¬1 ≤ n % 4; omega) (by show ¬n % 4 = 3; omega)
      dsimp only at e
      rw [e]
      dsimp only
      rw [acc_first]
      refine (point m c ⟨n, hn⟩ r s).trans ?_
      rw [h0, Finset.sum_range_one]
    · have e := outsAt0_B m c ⟨n, hn⟩ h0 (by show 1 ≤ n % 4; omega) (by show ¬n % 4 = 3; omega)
      dsimp only at e
      rw [e]
      dsimp only
      have p := ih (n - 1) (by omega) (by omega) (by omega)
      have er : row ⟨n - 1, by omega⟩ r = row ⟨n, hn⟩ r := Fin.ext (by show 1024 * ((n - 1) / 8) + r.val = 1024 * (n / 8) + r.val; omega)
      have es : column ⟨n - 1, by omega⟩ s = column ⟨n, hn⟩ s := Fin.ext (by show 1024 * ((n - 1) / 4 % 2) + s.val = 1024 * (n / 4 % 2) + s.val; omega)
      rw [er, es, show (n - 1) % 4 + 1 = n % 4 by omega] at p
      rw [acc_later, Finset.sum_range_succ]
      exact congrArg₂ (fun x y : EReal => x + y) p (point m c ⟨n, hn⟩ r s)

/-- The result's buffer at the last point of a block. -/
theorem out (t : Fin cfg0.N) (h3 : t.val % 4 = 3) (r : Fin 1024) (s : Fin 1024) :
    (outsAt0 m c t.val t.isLt).1 (ix2 r s) = rowRow (Aa m c) (Ba m c) (row t r) (column t s) := by
  have ht := t_lt t
  rw [outsAt0_C m c t (by omega) (by omega) h3]
  dsimp only
  have p := acc m c (t.val - 1) (by have := t.isLt; omega) (by omega) r s
  have er : row ⟨t.val - 1, by have := t.isLt; omega⟩ r = row t r := Fin.ext (by show 1024 * ((t.val - 1) / 8) + r.val = 1024 * (t.val / 8) + r.val; omega)
  have es : column ⟨t.val - 1, by have := t.isLt; omega⟩ s = column t s := Fin.ext (by show 1024 * ((t.val - 1) / 4 % 2) + s.val = 1024 * (t.val / 4 % 2) + s.val; omega)
  rw [er, es, show (t.val - 1) % 4 + 1 = 3 by omega] at p
  rw [out_last, ← parts, Finset.sum_range_succ]
  refine congrArg₂ (fun x y : EReal => x + y) p ((point m c t r s).trans ?_)
  rw [h3]

/-- Every element lies in the block of some point that writes back. -/
theorem cover (y : S2048x2048.Idx) : ∃ t : Fin cfg0.N, (cfg0.win 2).flush t = true ∧ y ∈ ((cfg0.win 2).blk t).view.set := by
  have h0 : (y 0).val < 2048 := (y 0).isLt
  have h1 : (y 1).val < 2048 := (y 1).isLt
  have hN : cfg0.N = 16 := N_0
  let t : Fin cfg0.N := ⟨8 * ((y 0).val / 1024) + 4 * ((y 1).val / 1024) + 3, by omega⟩
  obtain ⟨_, _, e0, e1⟩ := idx_facts t
  refine ⟨t, (flush0_2 t).mpr (by show (8 * ((y 0).val / 1024) + 4 * ((y 1).val / 1024) + 3) % 4 = 3; omega), ?_⟩
  have e : y = ((cfg0.win 2).blk t).view.emb (ix2 (⟨(y 0).val % 1024, by omega⟩ : Fin 1024) (⟨(y 1).val % 1024, by omega⟩ : Fin 1024)) := by
    funext b; apply Fin.ext
    match b with
    | ⟨0, _⟩ =>
      show (y 0).val = win0_2.index t (0 : Fin 2) * 1024 + 1 * ((y 0).val % 1024)
      rw [e0]; show _ = (8 * ((y 0).val / 1024) + 4 * ((y 1).val / 1024) + 3) / 8 * 1024 + _; omega
    | ⟨1, _⟩ =>
      show (y 1).val = win0_2.index t (1 : Fin 2) * 1024 + 1 * ((y 1).val % 1024)
      rw [e1]; show _ = (8 * ((y 0).val / 1024) + 4 * ((y 1).val / 1024) + 3) / 4 % 2 * 1024 + _; omega
  rw [e]
  exact View.emb_mem_set _ _

/-- The array after the run. -/
theorem final : (dats m 0 c).arrAt 2 cfg0.N = value (Aa m c) (Ba m c) := by
  obtain ⟨G, hG⟩ : ∃ G, G = value (Aa m c) (Ba m c) := ⟨_, rfl⟩
  rw [← hG]
  refine (dats m 0 c).arrAt_eq_of_cover 2 G (fun t hf => ?_) cover
  rw [Cert.Kernel4Ideal.Value.flushed2]
  obtain ⟨_, _, e0, e1⟩ := idx_facts t
  funext (z : S1024x1024.Idx)
  rw [show z = ix2 (z 0) (z 1) from eq_ix2 z]
  refine (out m c t ((flush0_2 t).mp hf) (z 0) (z 1)).trans ?_
  have e : ((cfg0.win 2).blk t).view.emb (ix2 (z 0) (z 1)) = (ix2 (row t (z 0)) (column t (z 1)) : S2048x2048.Idx) := by
    funext b; apply Fin.ext
    match b with
    | ⟨0, _⟩ =>
      show win0_2.index t (0 : Fin 2) * 1024 + 1 * (z 0).val = 1024 * (t.val / 8) + (z 0).val
      rw [e0]; omega
    | ⟨1, _⟩ =>
      show win0_2.index t (1 : Fin 2) * 1024 + 1 * (z 1).val = 1024 * (t.val / 4 % 2) + (z 1).val
      rw [e1]; omega
  show _ = G (((cfg0.win 2).blk t).view.emb (ix2 (z 0) (z 1)))
  rw [e, hG]
  rfl

end Cert.Kernel4Ideal.UpGradX

end
-- ==== Proof.UpGradX.Result.lean ====
module

public import proofs.«01_k».proof.Defs
public import proofs.«01_k».proof.Proof.Gen.Reference4Ideal.Run
public import proofs.«01_k».proof.Proof.Gen.Reference4Ideal.Read
public import proofs.«01_k».proof.Proof.UpGradX.Array

/-! # The gradient of the MLP's input: the reference's value, and the two programs' equality -/

@[expose] public section

noncomputable section

namespace Cert.Reference4Ideal.UpGradX

open Cert.Reference4Ideal Cert.Reference4Ideal.Gen Cert.Reference4Ideal.Read Cert.Product Cert.Kernel4Ideal.UpGradX
open Idealize.ShloMosaic Idealize.ShloMosaic.ValueIdx Idealize.SL.Sem
open scoped BigOperators

/-- What the reference computes. -/
theorem result (x : FVec Ideal S2048x8192 .bf16) (y : FVec Ideal S2048x8192 .bf16) :
    val_main_v4 (F := Ideal) x y = value x y := by
  funext j
  show val_main_v4 (F := Ideal) x y j = _
  rw [val_main_v4_apply]
  unfold value rowRow
  refine Finset.sum_congr (M := EReal) rfl fun k _ => ?_
  exact congrArg₂ (fun a b : EReal => a * b) (congrArg x (funext fun b => by fin_cases b <;> rfl)) (congrArg y (funext fun b => by fin_cases b <;> rfl))

/-- The reference runs, leaves its arguments alone and declares no semaphore. -/
theorem frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The two programs end with the same array. -/
theorem algebraic : Cert.algebraic_Kernel4Ideal_Reference4Ideal := by
  intro m g m' g' _ hargs
  refine ⟨fun c => value (Aa m c) (Ba m c), ?_, ?_⟩
  · refine (θ_run Cert.Kernel4Ideal.defs _ _).mono (fun r h c => ?_) (Cert.Kernel4Ideal.Value.run_blocks (F := Ideal) m g)
    obtain ⟨e, k⟩ := h c
    exact ⟨e.trans (final m c), k⟩
  · refine (θ_run Cert.Reference4Ideal.defs _ _).mono (fun r h c => ?_) (Cert.Reference4Ideal.Value.run (F := Ideal) m' g')
    obtain ⟨e, k⟩ := h c
    obtain ⟨a0, a1⟩ := hargs c
    refine ⟨e.trans ?_, k⟩
    refine (val_main_v4_eq _ _).trans ?_
    rw [a0, a1]
    exact result _ _

end Cert.Reference4Ideal.UpGradX

end
-- ==== Proof.UpGradW.Array.lean ====
module

public import proofs.«01_k».proof.Proof.Gen.Kernel5Ideal.Value
public import proofs.«01_k».proof.Proof.Product.Basic
public import proofs.«01_k».proof.Proof.Blocks

/-! # The gradient of the MLP's first weight: the result array after the run

Point `t = 8 i + j` of the grid multiplies row block `i` by column block `j`, each 1024 by 1024 of the result, over the
whole contraction, and writes the block back at once. -/

@[expose] public section

noncomputable section

namespace Cert.Kernel5Ideal.UpGradW

open Cert.Kernel5Ideal Cert.Kernel5Ideal.Gen Cert.Product Cert.Blocks Idealize.ShloMosaic Idealize.ShloMosaic.TcCoe Idealize.ShloMosaic.ValueIdx
open scoped BigOperators

/-- The gradient of the MLP's first weight: the MLP's input times the pre-activation's gradient, columns by columns. -/
def value (x : Mat 2048 2048) (y : Mat 2048 8192) : Mat 2048 8192 := fun j => colCol x y (j 0) (j 1)

/-- What one point stores, at an element. -/
theorem block_apply (x0 : FVec Ideal S2048x1024 .bf16) (x1 : FVec Ideal S2048x1024 .bf16) (r : Fin 1024) (s : Fin 1024) :
    (out0_2 (F := Ideal) x0 x1 : FVec Ideal S1024x1024 .bf16) (ix2 r s) = colCol x0 x1 r s := by
  unfold out0_2
  rw [View.canon_cons_unit_zero (S := S1024x1024) zero_offsets]
  simp only [View.ld_unit_zero (S := S2048x1024) zero_offsets]
  unfold k0_pay1
  exact (matmul_colCol dot_S2048x1024_S2048x1024_S1024x1024_0_0_1_1_n_n rfl rfl (fun _ _ => rfl) (fun _ _ => rfl) (fun _ _ => rfl) (fun _ _ => rfl) x0 x1 r s)

variable (m : (ℓ : Loc nD τ sig) → Buf (Elt Ideal) ℓ) (c : Dev nD)

/-- The arguments. -/
abbrev Aa : FVec Ideal S2048x2048 .bf16 := m ((c : Thread nD τ).loc main_arg0)
abbrev Ba : FVec Ideal S2048x8192 .bf16 := m ((c : Thread nD τ).loc main_arg1)

/-- The windows' block indices at a point. -/
theorem idx_facts : ∀ t : Fin cfg0.N,
    (win0_0.index t (0 : Fin 2) = 0 ∧ win0_0.index t (1 : Fin 2) = t.val / 8)
    ∧ (win0_1.index t (0 : Fin 2) = 0 ∧ win0_1.index t (1 : Fin 2) = t.val % 8)
    ∧ (win0_2.index t (0 : Fin 2) = t.val / 8 ∧ win0_2.index t (1 : Fin 2) = t.val % 8) :=
  (by decide +kernel : ∀ t : Fin grid0.N, _)

theorem t_lt (t : Fin cfg0.N) : t.val < 16 := lt_of_lt_of_eq t.isLt (show cfg0.N = 16 from N_0)

/-- The result's row and column at a point's block. -/
def row (t : Fin cfg0.N) (r : Fin 1024) : Fin 2048 := ⟨1024 * (t.val / 8) + r.val, by have := t_lt t; omega⟩
def column (t : Fin cfg0.N) (s : Fin 1024) : Fin 8192 := ⟨1024 * (t.val % 8) + s.val, by have := t_lt t; omega⟩

theorem a_block (t : Fin cfg0.N) (k : Fin 2048) (r : Fin 1024) :
    (iblk m c 0 t : FVec Ideal S2048x1024 .bf16) (ix2 k r) = Aa m c (ix2 k (row t r)) := by
  obtain ⟨⟨e0, e1⟩, _⟩ := idx_facts t
  show V m c main_arg0 (((cfg0.win 0).blk t).view.emb _) = _
  refine congrArg (Aa m c) (funext fun b => Fin.ext ?_)
  match b with
  | ⟨0, _⟩ =>
    show win0_0.index t (0 : Fin 2) * 2048 + 1 * k.val = k.val
    rw [e0]; omega
  | ⟨1, _⟩ =>
    show win0_0.index t (1 : Fin 2) * 1024 + 1 * r.val = 1024 * (t.val / 8) + r.val
    rw [e1]; omega

theorem b_block (t : Fin cfg0.N) (k : Fin 2048) (s : Fin 1024) :
    (iblk m c 1 t : FVec Ideal S2048x1024 .bf16) (ix2 k s) = Ba m c (ix2 k (column t s)) := by
  obtain ⟨_, ⟨e0, e1⟩, _⟩ := idx_facts t
  show V m c main_arg1 (((cfg0.win 1).blk t).view.emb _) = _
  refine congrArg (Ba m c) (funext fun b => Fin.ext ?_)
  match b with
  | ⟨0, _⟩ =>
    show win0_1.index t (0 : Fin 2) * 2048 + 1 * k.val = k.val
    rw [e0]; omega
  | ⟨1, _⟩ =>
    show win0_1.index t (1 : Fin 2) * 1024 + 1 * s.val = 1024 * (t.val % 8) + s.val
    rw [e1]; omega

/-- One point's block is its part of the gradient of the MLP's first weight. -/
theorem point (t : Fin cfg0.N) (r : Fin 1024) (s : Fin 1024) :
    (out0_2 (F := Ideal) (iblk m c 0 t) (iblk m c 1 t) : FVec Ideal S1024x1024 .bf16) (ix2 r s)
      = colCol (Aa m c) (Ba m c) (row t r) (column t s) :=
  (block_apply (iblk m c 0 t) (iblk m c 1 t) r s).trans
    (Finset.sum_congr rfl fun k _ => congrArg₂ (· * ·) (a_block m c t k r) (b_block m c t k s))

/-- Every element lies in some point's block. -/
theorem cover (y : S2048x8192.Idx) : ∃ t : Fin cfg0.N, (cfg0.win 2).flush t = true ∧ y ∈ ((cfg0.win 2).blk t).view.set := by
  have h0 : (y 0).val < 2048 := (y 0).isLt
  have h1 : (y 1).val < 8192 := (y 1).isLt
  have hN : cfg0.N = 16 := N_0
  let t : Fin cfg0.N := ⟨8 * ((y 0).val / 1024) + (y 1).val / 1024, by omega⟩
  obtain ⟨_, _, e0, e1⟩ := idx_facts t
  refine ⟨t, flush0_2 t, ?_⟩
  have e : y = ((cfg0.win 2).blk t).view.emb (ix2 (⟨(y 0).val % 1024, by omega⟩ : Fin 1024) (⟨(y 1).val % 1024, by omega⟩ : Fin 1024)) := by
    funext b; apply Fin.ext
    match b with
    | ⟨0, _⟩ =>
      show (y 0).val = win0_2.index t (0 : Fin 2) * 1024 + 1 * ((y 0).val % 1024)
      rw [e0]; show _ = (8 * ((y 0).val / 1024) + (y 1).val / 1024) / 8 * 1024 + _; omega
    | ⟨1, _⟩ =>
      show (y 1).val = win0_2.index t (1 : Fin 2) * 1024 + 1 * ((y 1).val % 1024)
      rw [e1]; show _ = (8 * ((y 0).val / 1024) + (y 1).val / 1024) % 8 * 1024 + _; omega
  rw [e]
  exact View.emb_mem_set _ _

/-- The array after the run. -/
theorem final : (dats m 0 c).arrAt 2 cfg0.N = value (Aa m c) (Ba m c) := by
  refine (dats m 0 c).arrAt_eq_of_cover 2 (value (Aa m c) (Ba m c)) (fun t _ => ?_) cover
  rw [Cert.Kernel5Ideal.Value.flushed2]
  obtain ⟨_, _, e0, e1⟩ := idx_facts t
  funext (z : S1024x1024.Idx)
  rw [show z = ix2 (z 0) (z 1) from eq_ix2 z]
  refine (point m c t (z 0) (z 1)).trans ?_
  have e : ((cfg0.win 2).blk t).view.emb (ix2 (z 0) (z 1)) = (ix2 (row t (z 0)) (column t (z 1)) : S2048x8192.Idx) := by
    funext b; apply Fin.ext
    match b with
    | ⟨0, _⟩ =>
      show win0_2.index t (0 : Fin 2) * 1024 + 1 * (z 0).val = 1024 * (t.val / 8) + (z 0).val
      rw [e0]; omega
    | ⟨1, _⟩ =>
      show win0_2.index t (1 : Fin 2) * 1024 + 1 * (z 1).val = 1024 * (t.val % 8) + (z 1).val
      rw [e1]; omega
  show _ = value (Aa m c) (Ba m c) (((cfg0.win 2).blk t).view.emb (ix2 (z 0) (z 1)))
  rw [e]
  rfl

end Cert.Kernel5Ideal.UpGradW

end
-- ==== Proof.UpGradW.Result.lean ====
module

public import proofs.«01_k».proof.Defs
public import proofs.«01_k».proof.Proof.Gen.Reference5Ideal.Run
public import proofs.«01_k».proof.Proof.Gen.Reference5Ideal.Read
public import proofs.«01_k».proof.Proof.UpGradW.Array

/-! # The gradient of the MLP's first weight: the reference's value, and the two programs' equality -/

@[expose] public section

noncomputable section

namespace Cert.Reference5Ideal.UpGradW

open Cert.Reference5Ideal Cert.Reference5Ideal.Gen Cert.Reference5Ideal.Read Cert.Product Cert.Kernel5Ideal.UpGradW
open Idealize.ShloMosaic Idealize.ShloMosaic.ValueIdx Idealize.SL.Sem
open scoped BigOperators

/-- What the reference computes. -/
theorem result (x : FVec Ideal S2048x2048 .bf16) (y : FVec Ideal S2048x8192 .bf16) :
    val_main_v6 (F := Ideal) x y = value x y := by
  funext j
  show val_main_v5 (F := Ideal) x y j = _
  rw [val_main_v5_apply, val_main_v4_apply]
  unfold value colCol
  refine Finset.sum_congr (M := EReal) rfl fun k _ => (mul_comm (G := EReal) _ _).trans ?_
  exact congrArg₂ (fun a b : EReal => a * b) (congrArg x (funext fun b => by fin_cases b <;> rfl)) (congrArg y (funext fun b => by fin_cases b <;> rfl))

/-- The reference runs, leaves its arguments alone and declares no semaphore. -/
theorem frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The two programs end with the same array. -/
theorem algebraic : Cert.algebraic_Kernel5Ideal_Reference5Ideal := by
  intro m g m' g' _ hargs
  refine ⟨fun c => value (Aa m c) (Ba m c), ?_, ?_⟩
  · refine (θ_run Cert.Kernel5Ideal.defs _ _).mono (fun r h c => ?_) (Cert.Kernel5Ideal.Value.run_blocks (F := Ideal) m g)
    obtain ⟨e, k⟩ := h c
    exact ⟨e.trans (final m c), k⟩
  · refine (θ_run Cert.Reference5Ideal.defs _ _).mono (fun r h c => ?_) (Cert.Reference5Ideal.Value.run (F := Ideal) m' g')
    obtain ⟨e, k⟩ := h c
    obtain ⟨a0, a1⟩ := hargs c
    refine ⟨e.trans ?_, k⟩
    refine (val_main_v6_eq _ _).trans ?_
    rw [a0, a1]
    exact result _ _

end Cert.Reference5Ideal.UpGradW

end
-- ==== Proof.ProjGradX.Block.lean ====
module

public import proofs.«01_k».proof.Proof.Gen.Kernel6Ideal.Value
public import proofs.«01_k».proof.Proof.Blocks

/-! # The gradient of the projections' input: what one grid point leaves in the accumulator and in the result's buffer

A point multiplies 768 rows of the projections' gradient by 1024 rows of the projections' weight over a quarter of the contraction (`k0_pay1`). The first of
four points puts the product into the accumulator, the later ones add theirs, and the last also stores the sum. -/

@[expose] public section

noncomputable section

namespace Cert.Kernel6Ideal.ProjGradX

open Cert.Kernel6Ideal Cert.Kernel6Ideal.Gen Cert.Blocks Idealize.ShloMosaic Idealize.ShloMosaic.TcCoe

variable {F : FTy → Type} [FloatOps F]
variable (c : Dev nD) (i : grid0.Coords) (arg3 : Memref sig .tc .vmem S768x2816 .bf16) (harg3 : arg3.IsWhole) (arg4 : Memref sig .tc .vmem S1024x2816 .bf16) (harg4 : arg4.IsWhole) (arg5 : Memref sig .tc .vmem S768x1024 .f32) (harg5 : arg5.IsWhole) (arg6 : Memref sig .tc .vmem S768x1024 .f32) (harg6 : arg6.IsWhole)
  (x0 : Vec F S768x2816 .bf16) (x1 : Vec F S1024x2816 .bf16)

/-- The first point: the accumulator holds the product. -/
theorem acc_first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_cons_unit_zero (S := S768x1024) zero_offsets]
  simp only [load_after_store (S := S768x1024) _ zero_offsets, View.readAt_eq_ld, harg3.read_unread, harg4.read_unread, harg6.read_unread, View.ld_unit_zero (S := S768x2816) zero_offsets, View.ld_unit_zero (S := S1024x2816) zero_offsets, View.ld_unit_zero (S := S768x1024) zero_offsets, k0_pay2, k0_pay3, shapeCast_self]

/-- A later point: the accumulator gains the product. -/
theorem acc_later (hc0 : ¬cond0_0 i) (hc1 : cond0_1 i) (hc2 : ¬cond0_2 i) (xs : Vec F S768x1024 .f32) :
    sout0_B_0 c i arg3 harg3 arg4 harg4 arg5 harg5 arg6 harg6 hc0 hc1 hc2 x0 x1 xs = addf xs (k0_pay1 x0 x1) := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_cons_unit_zero (S := S768x1024) zero_offsets]
  simp only [load_after_store (S := S768x1024) _ zero_offsets, View.readAt_eq_ld, harg3.read_unread, harg4.read_unread, harg6.read_unread, View.ld_unit_zero (S := S768x2816) zero_offsets, View.ld_unit_zero (S := S1024x2816) zero_offsets, View.ld_unit_zero (S := S768x1024) zero_offsets, k0_pay2, k0_pay3, shapeCast_self]

/-- The last point: the buffer holds the accumulator with its product added. -/
theorem out_last (hc0 : ¬cond0_0 i) (hc1 : cond0_1 i) (hc2 : cond0_2 i) (xs : Vec F S768x1024 .f32) :
    out0_C_2 c i arg3 harg3 arg4 harg4 arg5 harg5 arg6 harg6 hc0 hc1 hc2 x0 x1 xs = addf xs (k0_pay1 x0 x1) := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_cons_unit_zero (S := S768x1024) zero_offsets]
  simp only [load_after_store (S := S768x1024) _ zero_offsets, View.readAt_eq_ld, harg3.read_unread, harg4.read_unread, harg6.read_unread, View.ld_unit_zero (S := S768x2816) zero_offsets, View.ld_unit_zero (S := S1024x2816) zero_offsets, View.ld_unit_zero (S := S768x1024) zero_offsets, k0_pay2, k0_pay3, shapeCast_self]

end Cert.Kernel6Ideal.ProjGradX

end
-- ==== Proof.ProjGradX.Array.lean ====
module

public import proofs.«01_k».proof.Proof.ProjGradX.Block
public import proofs.«01_k».proof.Proof.Product.Basic

/-! # The gradient of the projections' input: the result array after the run

Point `t = 8 i + 4 j + k` of the grid works on row block `i` and column block `j` of the result (768 by 1024) and on quarter
`k` of the contraction; the block is written back at `k = 3`. -/

@[expose] public section

noncomputable section

namespace Cert.Kernel6Ideal.ProjGradX

open Cert.Kernel6Ideal Cert.Kernel6Ideal.Gen Cert.Product Cert.Blocks Idealize.ShloMosaic Idealize.ShloMosaic.TcCoe Idealize.ShloMosaic.ValueIdx
open scoped BigOperators

/-- The gradient of the projections' input: the projections' gradient times the projections' weight, rows by rows. -/
def value (x : Mat 2304 11264) (y : Mat 2048 11264) : Mat 2304 2048 := fun j => rowRow x y (j 0) (j 1)

/-- Place `a` of quarter `i` of the contraction. -/
def place (i : ℕ) (a : Fin 2816) : Fin 11264 := Fin.ofNat 11264 (2816 * i + a.val)

/-- Quarter `i` of an element of the product. -/
def part (x : Mat 2304 11264) (y : Mat 2048 11264) (r : Fin 2304) (s : Fin 2048) (i : ℕ) : EReal :=
  ∑ a : Fin 2816, x (ix2 r (place i a)) * y (ix2 s (place i a))

theorem parts (x : Mat 2304 11264) (y : Mat 2048 11264) (r : Fin 2304) (s : Fin 2048) :
    ∑ i ∈ Finset.range 4, part x y r s i = rowRow x y r s :=
  sum_blocks_fin 4 2816 rfl fun k => x (ix2 r k) * y (ix2 s k)

/-- A point's product, at an element. -/
theorem product_apply (x0 : FVec Ideal S768x2816 .bf16) (x1 : FVec Ideal S1024x2816 .bf16) (r : Fin 768) (s : Fin 1024) :
    (k0_pay1 (F := Ideal) x0 x1) (ix2 r s) = rowRow x0 x1 r s := by
  unfold k0_pay1
  exact matmul_rowRow dot_S768x2816_S1024x2816_S768x1024_1_1_0_0_n_n rfl rfl (fun _ _ => rfl) (fun _ _ => rfl) (fun _ _ => rfl) (fun _ _ => rfl) x0 x1 r s

variable (m : (ℓ : Loc nD τ sig) → Buf (Elt Ideal) ℓ) (c : Dev nD)

/-- The arguments. -/
abbrev Aa : FVec Ideal S2304x11264 .bf16 := m ((c : Thread nD τ).loc main_arg0)
abbrev Ba : FVec Ideal S2048x11264 .bf16 := m ((c : Thread nD τ).loc main_arg1)

/-- The windows' block indices at a point. -/
theorem idx_facts : ∀ t : Fin cfg0.N,
    (win0_0.index t (0 : Fin 2) = t.val / 8 ∧ win0_0.index t (1 : Fin 2) = t.val % 4)
    ∧ (win0_1.index t (0 : Fin 2) = t.val / 4 % 2 ∧ win0_1.index t (1 : Fin 2) = t.val % 4)
    ∧ (win0_2.index t (0 : Fin 2) = t.val / 8 ∧ win0_2.index t (1 : Fin 2) = t.val / 4 % 2) :=
  (by decide +kernel : ∀ t : Fin grid0.N, _)

theorem t_lt (t : Fin cfg0.N) : t.val < 24 := lt_of_lt_of_eq t.isLt (show cfg0.N = 24 from N_0)

/-- The result's row and column at a point's block. -/
def row (t : Fin cfg0.N) (r : Fin 768) : Fin 2304 := ⟨768 * (t.val / 8) + r.val, by have := t_lt t; omega⟩
def column (t : Fin cfg0.N) (s : Fin 1024) : Fin 2048 := ⟨1024 * (t.val / 4 % 2) + s.val, by have := t_lt t; omega⟩

theorem a_block (t : Fin cfg0.N) (r : Fin 768) (k : Fin 2816) :
    (iblk m c 0 t : FVec Ideal S768x2816 .bf16) (ix2 r k) = Aa m c (ix2 (row t r) (place (t.val % 4) k)) := by
  obtain ⟨⟨e0, e1⟩, _⟩ := idx_facts t
  show V m c main_arg0 (((cfg0.win 0).blk t).view.emb _) = _
  refine congrArg (Aa m c) (funext fun b => Fin.ext ?_)
  match b with
  | ⟨0, _⟩ =>
    show win0_0.index t (0 : Fin 2) * 768 + 1 * r.val = 768 * (t.val / 8) + r.val
    rw [e0]; omega
  | ⟨1, _⟩ =>
    show win0_0.index t (1 : Fin 2) * 2816 + 1 * k.val = (2816 * (t.val % 4) + k.val) % 11264
    rw [e1]; omega

theorem b_block (t : Fin cfg0.N) (s : Fin 1024) (k : Fin 2816) :
    (iblk m c 1 t : FVec Ideal S1024x2816 .bf16) (ix2 s k) = Ba m c (ix2 (column t s) (place (t.val % 4) k)) := by
  obtain ⟨_, ⟨e0, e1⟩, _⟩ := idx_facts t
  show V m c main_arg1 (((cfg0.win 1).blk t).view.emb _) = _
  refine congrArg (Ba m c) (funext fun b => Fin.ext ?_)
  match b with
  | ⟨0, _⟩ =>
    show win0_1.index t (0 : Fin 2) * 1024 + 1 * s.val = 1024 * (t.val / 4 % 2) + s.val
    rw [e0]; omega
  | ⟨1, _⟩ =>
    show win0_1.index t (1 : Fin 2) * 2816 + 1 * k.val = (2816 * (t.val % 4) + k.val) % 11264
    rw [e1]; omega

/-- One point's product is its quarter. -/
theorem point (t : Fin cfg0.N) (r : Fin 768) (s : Fin 1024) :
    (k0_pay1 (F := Ideal) (iblk m c 0 t) (iblk m c 1 t)) (ix2 r s) = part (Aa m c) (Ba m c) (row t r) (column t s) (t.val % 4) :=
  (product_apply (iblk m c 0 t) (iblk m c 1 t) r s).trans
    (Finset.sum_congr rfl fun a _ => congrArg₂ (fun x y : EReal => x * y) (a_block m c t r a) (b_block m c t s a))

/-- The accumulator after the first three points of a block. -/
theorem acc (n : ℕ) (hn : n < cfg0.N) (h3 : n % 4 < 3) (r : Fin 768) (s : Fin 1024) :
    (outsAt0 m c n hn).2 (ix2 r s)
      = ∑ i ∈ Finset.range (n % 4 + 1), part (Aa m c) (Ba m c) (row ⟨n, hn⟩ r) (column ⟨n, hn⟩ s) i := by
  induction n using Nat.strong_induction_on with
  | _ n ih =>
    by_cases h0 : n % 4 = 0
    · have e := outsAt0_A m c ⟨n, hn⟩ h0 (by show ¬1 ≤ n % 4; omega) (by show ¬n % 4 = 3; omega)
      dsimp only at e
      rw [e]
      dsimp only
      rw [acc_first]
      refine (point m c ⟨n, hn⟩ r s).trans ?_
      rw [h0, Finset.sum_range_one]
    · have e := outsAt0_B m c ⟨n, hn⟩ h0 (by show 1 ≤ n % 4; omega) (by show ¬n % 4 = 3; omega)
      dsimp only at e
      rw [e]
      dsimp only
      have p := ih (n - 1) (by omega) (by omega) (by omega)
      have er : row ⟨n - 1, by omega⟩ r = row ⟨n, hn⟩ r := Fin.ext (by show 768 * ((n - 1) / 8) + r.val = 768 * (n / 8) + r.val; omega)
      have es : column ⟨n - 1, by omega⟩ s = column ⟨n, hn⟩ s := Fin.ext (by show 1024 * ((n - 1) / 4 % 2) + s.val = 1024 * (n / 4 % 2) + s.val; omega)
      rw [er, es, show (n - 1) % 4 + 1 = n % 4 by omega] at p
      rw [acc_later, Finset.sum_range_succ]
      exact congrArg₂ (fun x y : EReal => x + y) p (point m c ⟨n, hn⟩ r s)

/-- The result's buffer at the last point of a block. -/
theorem out (t : Fin cfg0.N) (h3 : t.val % 4 = 3) (r : Fin 768) (s : Fin 1024) :
    (outsAt0 m c t.val t.isLt).1 (ix2 r s) = rowRow (Aa m c) (Ba m c) (row t r) (column t s) := by
  have ht := t_lt t
  rw [outsAt0_C m c t (by omega) (by omega) h3]
  dsimp only
  have p := acc m c (t.val - 1) (by have := t.isLt; omega) (by omega) r s
  have er : row ⟨t.val - 1, by have := t.isLt; omega⟩ r = row t r := Fin.ext (by show 768 * ((t.val - 1) / 8) + r.val = 768 * (t.val / 8) + r.val; omega)
  have es : column ⟨t.val - 1, by have := t.isLt; omega⟩ s = column t s := Fin.ext (by show 1024 * ((t.val - 1) / 4 % 2) + s.val = 1024 * (t.val / 4 % 2) + s.val; omega)
  rw [er, es, show (t.val - 1) % 4 + 1 = 3 by omega] at p
  rw [out_last, ← parts, Finset.sum_range_succ]
  refine congrArg₂ (fun x y : EReal => x + y) p ((point m c t r s).trans ?_)
  rw [h3]

/-- Every element lies in the block of some point that writes back. -/
theorem cover (y : S2304x2048.Idx) : ∃ t : Fin cfg0.N, (cfg0.win 2).flush t = true ∧ y ∈ ((cfg0.win 2).blk t).view.set := by
  have h0 : (y 0).val < 2304 := (y 0).isLt
  have h1 : (y 1).val < 2048 := (y 1).isLt
  have hN : cfg0.N = 24 := N_0
  let t : Fin cfg0.N := ⟨8 * ((y 0).val / 768) + 4 * ((y 1).val / 1024) + 3, by omega⟩
  obtain ⟨_, _, e0, e1⟩ := idx_facts t
  refine ⟨t, (flush0_2 t).mpr (by show (8 * ((y 0).val / 768) + 4 * ((y 1).val / 1024) + 3) % 4 = 3; omega), ?_⟩
  have e : y = ((cfg0.win 2).blk t).view.emb (ix2 (⟨(y 0).val % 768, by omega⟩ : Fin 768) (⟨(y 1).val % 1024, by omega⟩ : Fin 1024)) := by
    funext b; apply Fin.ext
    match b with
    | ⟨0, _⟩ =>
      show (y 0).val = win0_2.index t (0 : Fin 2) * 768 + 1 * ((y 0).val % 768)
      rw [e0]; show _ = (8 * ((y 0).val / 768) + 4 * ((y 1).val / 1024) + 3) / 8 * 768 + _; omega
    | ⟨1, _⟩ =>
      show (y 1).val = win0_2.index t (1 : Fin 2) * 1024 + 1 * ((y 1).val % 1024)
      rw [e1]; show _ = (8 * ((y 0).val / 768) + 4 * ((y 1).val / 1024) + 3) / 4 % 2 * 1024 + _; omega
  rw [e]
  exact View.emb_mem_set _ _

/-- The array after the run. -/
theorem final : (dats m 0 c).arrAt 2 cfg0.N = value (Aa m c) (Ba m c) := by
  obtain ⟨G, hG⟩ : ∃ G, G = value (Aa m c) (Ba m c) := ⟨_, rfl⟩
  rw [← hG]
  refine (dats m 0 c).arrAt_eq_of_cover 2 G (fun t hf => ?_) cover
  rw [Cert.Kernel6Ideal.Value.flushed2]
  obtain ⟨_, _, e0, e1⟩ := idx_facts t
  funext (z : S768x1024.Idx)
  rw [show z = ix2 (z 0) (z 1) from eq_ix2 z]
  refine (out m c t ((flush0_2 t).mp hf) (z 0) (z 1)).trans ?_
  have e : ((cfg0.win 2).blk t).view.emb (ix2 (z 0) (z 1)) = (ix2 (row t (z 0)) (column t (z 1)) : S2304x2048.Idx) := by
    funext b; apply Fin.ext
    match b with
    | ⟨0, _⟩ =>
      show win0_2.index t (0 : Fin 2) * 768 + 1 * (z 0).val = 768 * (t.val / 8) + (z 0).val
      rw [e0]; omega
    | ⟨1, _⟩ =>
      show win0_2.index t (1 : Fin 2) * 1024 + 1 * (z 1).val = 1024 * (t.val / 4 % 2) + (z 1).val
      rw [e1]; omega
  show _ = G (((cfg0.win 2).blk t).view.emb (ix2 (z 0) (z 1)))
  rw [e, hG]
  rfl

end Cert.Kernel6Ideal.ProjGradX

end
-- ==== Proof.ProjGradX.Result.lean ====
module

public import proofs.«01_k».proof.Defs
public import proofs.«01_k».proof.Proof.Gen.Reference6Ideal.Run
public import proofs.«01_k».proof.Proof.Gen.Reference6Ideal.Read
public import proofs.«01_k».proof.Proof.ProjGradX.Array

/-! # The gradient of the projections' input: the reference's value, and the two programs' equality -/

@[expose] public section

noncomputable section

namespace Cert.Reference6Ideal.ProjGradX

open Cert.Reference6Ideal Cert.Reference6Ideal.Gen Cert.Reference6Ideal.Read Cert.Product Cert.Kernel6Ideal.ProjGradX
open Idealize.ShloMosaic Idealize.ShloMosaic.ValueIdx Idealize.SL.Sem
open scoped BigOperators

/-- What the reference computes. -/
theorem result (x : FVec Ideal S2304x11264 .bf16) (y : FVec Ideal S2048x11264 .bf16) :
    val_main_v4 (F := Ideal) x y = value x y := by
  funext j
  show val_main_v4 (F := Ideal) x y j = _
  rw [val_main_v4_apply]
  unfold value rowRow
  refine Finset.sum_congr (M := EReal) rfl fun k _ => ?_
  exact congrArg₂ (fun a b : EReal => a * b) (congrArg x (funext fun b => by fin_cases b <;> rfl)) (congrArg y (funext fun b => by fin_cases b <;> rfl))

/-- The reference runs, leaves its arguments alone and declares no semaphore. -/
theorem frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The two programs end with the same array. -/
theorem algebraic : Cert.algebraic_Kernel6Ideal_Reference6Ideal := by
  intro m g m' g' _ hargs
  refine ⟨fun c => value (Aa m c) (Ba m c), ?_, ?_⟩
  · refine (θ_run Cert.Kernel6Ideal.defs _ _).mono (fun r h c => ?_) (Cert.Kernel6Ideal.Value.run_blocks (F := Ideal) m g)
    obtain ⟨e, k⟩ := h c
    exact ⟨e.trans (final m c), k⟩
  · refine (θ_run Cert.Reference6Ideal.defs _ _).mono (fun r h c => ?_) (Cert.Reference6Ideal.Value.run (F := Ideal) m' g')
    obtain ⟨e, k⟩ := h c
    obtain ⟨a0, a1⟩ := hargs c
    refine ⟨e.trans ?_, k⟩
    refine (val_main_v4_eq _ _).trans ?_
    rw [a0, a1]
    exact result _ _

end Cert.Reference6Ideal.ProjGradX

end
-- ==== Proof.ProjGradWTop.Array.lean ====
module

public import proofs.«01_k».proof.Proof.Gen.Kernel7Ideal.Value
public import Idealize.ShloMosaic.Lib.ValueLayout
public import proofs.«01_k».proof.Proof.Product.Basic
public import proofs.«01_k».proof.Proof.Blocks

/-! # The upper rows of the gradient of the projections' weight: the result array after the run

Point `t` of the grid computes all 1024 rows of column block `t` of the result, over the whole contraction, adds a row of zeros,
and writes the block back at once. -/

@[expose] public section

noncomputable section

namespace Cert.Kernel7Ideal.ProjGradWTop

open Cert.Kernel7Ideal Cert.Kernel7Ideal.Gen Cert.Product Cert.Blocks Idealize.ShloMosaic Idealize.ShloMosaic.TcCoe Idealize.ShloMosaic.ValueIdx
open scoped BigOperators

/-- Column `r` of the upper half of the columns. -/
def col (r : Fin 1024) : Fin 2048 := ⟨r.val, by omega⟩

/-- The upper rows of the gradient of the projections' weight: the projections' input times the projections' gradient, columns by columns. -/
def value (x : Mat 2304 2048) (y : Mat 2304 11264) : Mat 1024 11264 := fun j => colCol x y (col (j 0)) (j 1)

/-- What one point stores, at an element. -/
theorem block_apply (x0 : FVec Ideal S2304x1024 .bf16) (x1 : FVec Ideal S2304x1024 .bf16) (x2 : FVec Ideal S1x1024 .f32) (r : Fin 1024) (s : Fin 1024) :
    (out0_3 (F := Ideal) x0 x1 x2 : FVec Ideal S1024x1024 .bf16) (ix2 r s) = colCol x0 x1 r s + x2 (ix2 (0 : Fin 1) s) := by
  unfold out0_3
  rw [View.canon_cons_unit_zero (S := S1024x1024) zero_offsets]
  simp only [View.ld_unit_zero (S := S2304x1024) zero_offsets, View.ld_unit_zero (S := S1x1024) zero_offsets]
  unfold k0_pay1
  refine congrArg₂ (· + ·) (matmul_colCol dot_S2304x1024_S2304x1024_S1024x1024_0_0_1_1_n_n rfl rfl (fun _ _ => rfl) (fun _ _ => rfl) (fun _ _ => rfl) (fun _ _ => rfl) x0 x1 r s) ?_
  refine (broadcastTo_1b_ab_apply _ _ r s).trans ?_
  rw [shapeCast_self]

variable (m : (ℓ : Loc nD τ sig) → Buf (Elt Ideal) ℓ) (c : Dev nD)

/-- The arguments. -/
abbrev Aa : FVec Ideal S2304x2048 .bf16 := m ((c : Thread nD τ).loc main_arg0)
abbrev Ba : FVec Ideal S2304x11264 .bf16 := m ((c : Thread nD τ).loc main_arg1)

/-- The windows' block indices at a point. -/
theorem idx_facts : ∀ t : Fin cfg0.N,
    (win0_0.index t (0 : Fin 2) = 0 ∧ win0_0.index t (1 : Fin 2) = t.val / 11)
    ∧ (win0_1.index t (0 : Fin 2) = 0 ∧ win0_1.index t (1 : Fin 2) = t.val % 11)
    ∧ (win0_2.index t (0 : Fin 2) = 0 ∧ win0_2.index t (1 : Fin 2) = t.val % 11)
    ∧ (win0_3.index t (0 : Fin 2) = t.val / 11 ∧ win0_3.index t (1 : Fin 2) = t.val % 11) :=
  (by decide +kernel : ∀ t : Fin grid0.N, _)

theorem t_lt (t : Fin cfg0.N) : t.val < 11 := lt_of_lt_of_eq t.isLt (show cfg0.N = 11 from N_0)

/-- The result's row and column at a point's block. -/
def row (t : Fin cfg0.N) (r : Fin 1024) : Fin 1024 := ⟨1024 * (t.val / 11) + r.val, by have := t_lt t; omega⟩
def column (t : Fin cfg0.N) (s : Fin 1024) : Fin 11264 := ⟨1024 * (t.val % 11) + s.val, by have := t_lt t; omega⟩

theorem a_block (t : Fin cfg0.N) (k : Fin 2304) (r : Fin 1024) :
    (iblk m c 0 t : FVec Ideal S2304x1024 .bf16) (ix2 k r) = Aa m c (ix2 k (col (row t r))) := by
  obtain ⟨⟨e0, e1⟩, _⟩ := idx_facts t
  show V m c main_arg0 (((cfg0.win 0).blk t).view.emb _) = _
  refine congrArg (Aa m c) (funext fun b => Fin.ext ?_)
  match b with
  | ⟨0, _⟩ =>
    show win0_0.index t (0 : Fin 2) * 2304 + 1 * k.val = k.val
    rw [e0]; omega
  | ⟨1, _⟩ =>
    show win0_0.index t (1 : Fin 2) * 1024 + 1 * r.val = (1024 * (t.val / 11) + r.val)
    rw [e1]; omega

theorem b_block (t : Fin cfg0.N) (k : Fin 2304) (s : Fin 1024) :
    (iblk m c 1 t : FVec Ideal S2304x1024 .bf16) (ix2 k s) = Ba m c (ix2 k (column t s)) := by
  obtain ⟨_, ⟨e0, e1⟩, _⟩ := idx_facts t
  show V m c main_arg1 (((cfg0.win 1).blk t).view.emb _) = _
  refine congrArg (Ba m c) (funext fun b => Fin.ext ?_)
  match b with
  | ⟨0, _⟩ =>
    show win0_1.index t (0 : Fin 2) * 2304 + 1 * k.val = k.val
    rw [e0]; omega
  | ⟨1, _⟩ =>
    show win0_1.index t (1 : Fin 2) * 1024 + 1 * s.val = 1024 * (t.val % 11) + s.val
    rw [e1]; omega

/-- The bias is zero. -/
theorem bias_block (t : Fin cfg0.N) (s : Fin 1024) : (iblk m c 2 t : FVec Ideal S1x1024 .f32) (ix2 (0 : Fin 1) s) = (0 : EReal) := by
  show V m c main_v0 (((cfg0.win 2).blk t).view.emb _) = _
  exact Ideal.ofBits_zero_f32

/-- One point's block is its part of the upper rows of the gradient of the projections' weight. -/
theorem point (t : Fin cfg0.N) (r : Fin 1024) (s : Fin 1024) :
    (out0_3 (F := Ideal) (iblk m c 0 t) (iblk m c 1 t) (iblk m c 2 t) : FVec Ideal S1024x1024 .bf16) (ix2 r s)
      = colCol (Aa m c) (Ba m c) (col (row t r)) (column t s) :=
  (block_apply (iblk m c 0 t) (iblk m c 1 t) (iblk m c 2 t) r s).trans
    (((congrArg₂ (fun x y : EReal => x + y) (Finset.sum_congr rfl fun k _ => congrArg₂ (fun x y : EReal => x * y) (a_block m c t k r) (b_block m c t k s)) (bias_block m c t s)).trans (add_zero _)))

/-- Every element lies in some point's block. -/
theorem cover (y : S1024x11264.Idx) : ∃ t : Fin cfg0.N, (cfg0.win 3).flush t = true ∧ y ∈ ((cfg0.win 3).blk t).view.set := by
  have h0 : (y 0).val < 1024 := (y 0).isLt
  have h1 : (y 1).val < 11264 := (y 1).isLt
  have hN : cfg0.N = 11 := N_0
  let t : Fin cfg0.N := ⟨11 * ((y 0).val / 1024) + (y 1).val / 1024, by omega⟩
  obtain ⟨_, _, _, e0, e1⟩ := idx_facts t
  refine ⟨t, flush0_3 t, ?_⟩
  have e : y = ((cfg0.win 3).blk t).view.emb (ix2 (⟨(y 0).val % 1024, by omega⟩ : Fin 1024) (⟨(y 1).val % 1024, by omega⟩ : Fin 1024)) := by
    funext b; apply Fin.ext
    match b with
    | ⟨0, _⟩ =>
      show (y 0).val = win0_3.index t (0 : Fin 2) * 1024 + 1 * ((y 0).val % 1024)
      rw [e0]; show _ = (11 * ((y 0).val / 1024) + (y 1).val / 1024) / 11 * 1024 + _; omega
    | ⟨1, _⟩ =>
      show (y 1).val = win0_3.index t (1 : Fin 2) * 1024 + 1 * ((y 1).val % 1024)
      rw [e1]; show _ = (11 * ((y 0).val / 1024) + (y 1).val / 1024) % 11 * 1024 + _; omega
  rw [e]
  exact View.emb_mem_set _ _

/-- The array after the run. -/
theorem final : (dats m 0 c).arrAt 3 cfg0.N = value (Aa m c) (Ba m c) := by
  refine (dats m 0 c).arrAt_eq_of_cover 3 (value (Aa m c) (Ba m c)) (fun t _ => ?_) cover
  rw [Cert.Kernel7Ideal.Value.flushed3]
  obtain ⟨_, _, _, e0, e1⟩ := idx_facts t
  funext (z : S1024x1024.Idx)
  rw [show z = ix2 (z 0) (z 1) from eq_ix2 z]
  refine (point m c t (z 0) (z 1)).trans ?_
  have e : ((cfg0.win 3).blk t).view.emb (ix2 (z 0) (z 1)) = (ix2 (row t (z 0)) (column t (z 1)) : S1024x11264.Idx) := by
    funext b; apply Fin.ext
    match b with
    | ⟨0, _⟩ =>
      show win0_3.index t (0 : Fin 2) * 1024 + 1 * (z 0).val = 1024 * (t.val / 11) + (z 0).val
      rw [e0]; omega
    | ⟨1, _⟩ =>
      show win0_3.index t (1 : Fin 2) * 1024 + 1 * (z 1).val = 1024 * (t.val % 11) + (z 1).val
      rw [e1]; omega
  show _ = value (Aa m c) (Ba m c) (((cfg0.win 3).blk t).view.emb (ix2 (z 0) (z 1)))
  rw [e]
  rfl

end Cert.Kernel7Ideal.ProjGradWTop

end
-- ==== Proof.ProjGradWTop.Result.lean ====
module

public import proofs.«01_k».proof.Defs
public import proofs.«01_k».proof.Proof.Gen.Reference7Ideal.Run
public import proofs.«01_k».proof.Proof.Gen.Reference7Ideal.Read
public import proofs.«01_k».proof.Proof.ProjGradWTop.Array

/-! # The upper rows of the gradient of the projections' weight: the reference's value, and the two programs' equality -/

@[expose] public section

noncomputable section

namespace Cert.Reference7Ideal.ProjGradWTop

open Cert.Reference7Ideal Cert.Reference7Ideal.Gen Cert.Reference7Ideal.Read Cert.Product Cert.Kernel7Ideal.ProjGradWTop
open Idealize.ShloMosaic Idealize.ShloMosaic.ValueIdx Idealize.SL.Sem
open scoped BigOperators

/-- What the reference computes. -/
theorem result (x : FVec Ideal S2304x2048 .bf16) (y : FVec Ideal S2304x11264 .bf16) :
    val_main_v7 (F := Ideal) x y = value x y := by
  funext j
  rw [val_main_v7_apply]
  show val_main_v5 (F := Ideal) x y (idx_main_v7 j) = _
  rw [val_main_v5_apply, val_main_v4_apply]
  unfold value colCol
  refine Finset.sum_congr (M := EReal) rfl fun k _ => (mul_comm (G := EReal) _ _).trans ?_
  exact congrArg₂ (fun a b : EReal => a * b) (congrArg x (funext fun b => by fin_cases b <;> rfl)) (congrArg y (funext fun b => by fin_cases b <;> rfl))

/-- The reference runs, leaves its arguments alone and declares no semaphore. -/
theorem frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The two programs end with the same array. -/
theorem algebraic : Cert.algebraic_Kernel7Ideal_Reference7Ideal := by
  intro m g m' g' _ hargs
  refine ⟨fun c => value (Aa m c) (Ba m c), ?_, ?_⟩
  · refine (θ_run Cert.Kernel7Ideal.defs _ _).mono (fun r h c => ?_) (Cert.Kernel7Ideal.Value.run_blocks (F := Ideal) m g)
    obtain ⟨e, k⟩ := h c
    exact ⟨e.trans (final m c), k⟩
  · refine (θ_run Cert.Reference7Ideal.defs _ _).mono (fun r h c => ?_) (Cert.Reference7Ideal.Value.run (F := Ideal) m' g')
    obtain ⟨e, k⟩ := h c
    obtain ⟨a0, a1⟩ := hargs c
    refine ⟨e.trans ?_, k⟩
    refine (val_main_v7_eq _ _).trans ?_
    rw [a0, a1]
    exact result _ _

end Cert.Reference7Ideal.ProjGradWTop

end
-- ==== Proof.ProjGradWBot.Array.lean ====
module

public import proofs.«01_k».proof.Proof.Gen.Kernel8Ideal.Value
public import Idealize.ShloMosaic.Lib.ValueLayout
public import proofs.«01_k».proof.Proof.Product.Basic
public import proofs.«01_k».proof.Proof.Blocks

/-! # The lower rows of the gradient of the projections' weight: the result array after the run

Point `t` of the grid computes all 1024 rows of column block `t` of the result, over the whole contraction, adds a row of zeros,
and writes the block back at once. -/

@[expose] public section

noncomputable section

namespace Cert.Kernel8Ideal.ProjGradWBot

open Cert.Kernel8Ideal Cert.Kernel8Ideal.Gen Cert.Product Cert.Blocks Idealize.ShloMosaic Idealize.ShloMosaic.TcCoe Idealize.ShloMosaic.ValueIdx
open scoped BigOperators

/-- Column `r` of the lower half of the columns. -/
def col (r : Fin 1024) : Fin 2048 := ⟨1024 + r.val, by omega⟩

/-- The lower rows of the gradient of the projections' weight: the projections' input times the projections' gradient, columns by columns. -/
def value (x : Mat 2304 2048) (y : Mat 2304 11264) : Mat 1024 11264 := fun j => colCol x y (col (j 0)) (j 1)

/-- What one point stores, at an element. -/
theorem block_apply (x0 : FVec Ideal S2304x1024 .bf16) (x1 : FVec Ideal S2304x1024 .bf16) (x2 : FVec Ideal S1x1024 .f32) (r : Fin 1024) (s : Fin 1024) :
    (out0_3 (F := Ideal) x0 x1 x2 : FVec Ideal S1024x1024 .bf16) (ix2 r s) = colCol x0 x1 r s + x2 (ix2 (0 : Fin 1) s) := by
  unfold out0_3
  rw [View.canon_cons_unit_zero (S := S1024x1024) zero_offsets]
  simp only [View.ld_unit_zero (S := S2304x1024) zero_offsets, View.ld_unit_zero (S := S1x1024) zero_offsets]
  unfold k0_pay1
  refine congrArg₂ (· + ·) (matmul_colCol dot_S2304x1024_S2304x1024_S1024x1024_0_0_1_1_n_n rfl rfl (fun _ _ => rfl) (fun _ _ => rfl) (fun _ _ => rfl) (fun _ _ => rfl) x0 x1 r s) ?_
  refine (broadcastTo_1b_ab_apply _ _ r s).trans ?_
  rw [shapeCast_self]

variable (m : (ℓ : Loc nD τ sig) → Buf (Elt Ideal) ℓ) (c : Dev nD)

/-- The arguments. -/
abbrev Aa : FVec Ideal S2304x2048 .bf16 := m ((c : Thread nD τ).loc main_arg0)
abbrev Ba : FVec Ideal S2304x11264 .bf16 := m ((c : Thread nD τ).loc main_arg1)

/-- The windows' block indices at a point. -/
theorem idx_facts : ∀ t : Fin cfg0.N,
    (win0_0.index t (0 : Fin 2) = 0 ∧ win0_0.index t (1 : Fin 2) = t.val / 11 + 1)
    ∧ (win0_1.index t (0 : Fin 2) = 0 ∧ win0_1.index t (1 : Fin 2) = t.val % 11)
    ∧ (win0_2.index t (0 : Fin 2) = 0 ∧ win0_2.index t (1 : Fin 2) = t.val % 11)
    ∧ (win0_3.index t (0 : Fin 2) = t.val / 11 ∧ win0_3.index t (1 : Fin 2) = t.val % 11) :=
  (by decide +kernel : ∀ t : Fin grid0.N, _)

theorem t_lt (t : Fin cfg0.N) : t.val < 11 := lt_of_lt_of_eq t.isLt (show cfg0.N = 11 from N_0)

/-- The result's row and column at a point's block. -/
def row (t : Fin cfg0.N) (r : Fin 1024) : Fin 1024 := ⟨1024 * (t.val / 11) + r.val, by have := t_lt t; omega⟩
def column (t : Fin cfg0.N) (s : Fin 1024) : Fin 11264 := ⟨1024 * (t.val % 11) + s.val, by have := t_lt t; omega⟩

theorem a_block (t : Fin cfg0.N) (k : Fin 2304) (r : Fin 1024) :
    (iblk m c 0 t : FVec Ideal S2304x1024 .bf16) (ix2 k r) = Aa m c (ix2 k (col (row t r))) := by
  obtain ⟨⟨e0, e1⟩, _⟩ := idx_facts t
  show V m c main_arg0 (((cfg0.win 0).blk t).view.emb _) = _
  refine congrArg (Aa m c) (funext fun b => Fin.ext ?_)
  match b with
  | ⟨0, _⟩ =>
    show win0_0.index t (0 : Fin 2) * 2304 + 1 * k.val = k.val
    rw [e0]; omega
  | ⟨1, _⟩ =>
    show win0_0.index t (1 : Fin 2) * 1024 + 1 * r.val = 1024 + (1024 * (t.val / 11) + r.val)
    rw [e1]; omega

theorem b_block (t : Fin cfg0.N) (k : Fin 2304) (s : Fin 1024) :
    (iblk m c 1 t : FVec Ideal S2304x1024 .bf16) (ix2 k s) = Ba m c (ix2 k (column t s)) := by
  obtain ⟨_, ⟨e0, e1⟩, _⟩ := idx_facts t
  show V m c main_arg1 (((cfg0.win 1).blk t).view.emb _) = _
  refine congrArg (Ba m c) (funext fun b => Fin.ext ?_)
  match b with
  | ⟨0, _⟩ =>
    show win0_1.index t (0 : Fin 2) * 2304 + 1 * k.val = k.val
    rw [e0]; omega
  | ⟨1, _⟩ =>
    show win0_1.index t (1 : Fin 2) * 1024 + 1 * s.val = 1024 * (t.val % 11) + s.val
    rw [e1]; omega

/-- The bias is zero. -/
theorem bias_block (t : Fin cfg0.N) (s : Fin 1024) : (iblk m c 2 t : FVec Ideal S1x1024 .f32) (ix2 (0 : Fin 1) s) = (0 : EReal) := by
  show V m c main_v0 (((cfg0.win 2).blk t).view.emb _) = _
  exact Ideal.ofBits_zero_f32

/-- One point's block is its part of the lower rows of the gradient of the projections' weight. -/
theorem point (t : Fin cfg0.N) (r : Fin 1024) (s : Fin 1024) :
    (out0_3 (F := Ideal) (iblk m c 0 t) (iblk m c 1 t) (iblk m c 2 t) : FVec Ideal S1024x1024 .bf16) (ix2 r s)
      = colCol (Aa m c) (Ba m c) (col (row t r)) (column t s) :=
  (block_apply (iblk m c 0 t) (iblk m c 1 t) (iblk m c 2 t) r s).trans
    (((congrArg₂ (fun x y : EReal => x + y) (Finset.sum_congr rfl fun k _ => congrArg₂ (fun x y : EReal => x * y) (a_block m c t k r) (b_block m c t k s)) (bias_block m c t s)).trans (add_zero _)))

/-- Every element lies in some point's block. -/
theorem cover (y : S1024x11264.Idx) : ∃ t : Fin cfg0.N, (cfg0.win 3).flush t = true ∧ y ∈ ((cfg0.win 3).blk t).view.set := by
  have h0 : (y 0).val < 1024 := (y 0).isLt
  have h1 : (y 1).val < 11264 := (y 1).isLt
  have hN : cfg0.N = 11 := N_0
  let t : Fin cfg0.N := ⟨11 * ((y 0).val / 1024) + (y 1).val / 1024, by omega⟩
  obtain ⟨_, _, _, e0, e1⟩ := idx_facts t
  refine ⟨t, flush0_3 t, ?_⟩
  have e : y = ((cfg0.win 3).blk t).view.emb (ix2 (⟨(y 0).val % 1024, by omega⟩ : Fin 1024) (⟨(y 1).val % 1024, by omega⟩ : Fin 1024)) := by
    funext b; apply Fin.ext
    match b with
    | ⟨0, _⟩ =>
      show (y 0).val = win0_3.index t (0 : Fin 2) * 1024 + 1 * ((y 0).val % 1024)
      rw [e0]; show _ = (11 * ((y 0).val / 1024) + (y 1).val / 1024) / 11 * 1024 + _; omega
    | ⟨1, _⟩ =>
      show (y 1).val = win0_3.index t (1 : Fin 2) * 1024 + 1 * ((y 1).val % 1024)
      rw [e1]; show _ = (11 * ((y 0).val / 1024) + (y 1).val / 1024) % 11 * 1024 + _; omega
  rw [e]
  exact View.emb_mem_set _ _

/-- The array after the run. -/
theorem final : (dats m 0 c).arrAt 3 cfg0.N = value (Aa m c) (Ba m c) := by
  refine (dats m 0 c).arrAt_eq_of_cover 3 (value (Aa m c) (Ba m c)) (fun t _ => ?_) cover
  rw [Cert.Kernel8Ideal.Value.flushed3]
  obtain ⟨_, _, _, e0, e1⟩ := idx_facts t
  funext (z : S1024x1024.Idx)
  rw [show z = ix2 (z 0) (z 1) from eq_ix2 z]
  refine (point m c t (z 0) (z 1)).trans ?_
  have e : ((cfg0.win 3).blk t).view.emb (ix2 (z 0) (z 1)) = (ix2 (row t (z 0)) (column t (z 1)) : S1024x11264.Idx) := by
    funext b; apply Fin.ext
    match b with
    | ⟨0, _⟩ =>
      show win0_3.index t (0 : Fin 2) * 1024 + 1 * (z 0).val = 1024 * (t.val / 11) + (z 0).val
      rw [e0]; omega
    | ⟨1, _⟩ =>
      show win0_3.index t (1 : Fin 2) * 1024 + 1 * (z 1).val = 1024 * (t.val % 11) + (z 1).val
      rw [e1]; omega
  show _ = value (Aa m c) (Ba m c) (((cfg0.win 3).blk t).view.emb (ix2 (z 0) (z 1)))
  rw [e]
  rfl

end Cert.Kernel8Ideal.ProjGradWBot

end
-- ==== Proof.ProjGradWBot.Result.lean ====
module

public import proofs.«01_k».proof.Defs
public import proofs.«01_k».proof.Proof.Gen.Reference8Ideal.Run
public import proofs.«01_k».proof.Proof.Gen.Reference8Ideal.Read
public import proofs.«01_k».proof.Proof.ProjGradWBot.Array

/-! # The lower rows of the gradient of the projections' weight: the reference's value, and the two programs' equality -/

@[expose] public section

noncomputable section

namespace Cert.Reference8Ideal.ProjGradWBot

open Cert.Reference8Ideal Cert.Reference8Ideal.Gen Cert.Reference8Ideal.Read Cert.Product Cert.Kernel8Ideal.ProjGradWBot
open Idealize.ShloMosaic Idealize.ShloMosaic.ValueIdx Idealize.SL.Sem
open scoped BigOperators

/-- What the reference computes. -/
theorem result (x : FVec Ideal S2304x2048 .bf16) (y : FVec Ideal S2304x11264 .bf16) :
    val_main_v7 (F := Ideal) x y = value x y := by
  funext j
  rw [val_main_v7_apply]
  show val_main_v5 (F := Ideal) x y (idx_main_v7 j) = _
  rw [val_main_v5_apply, val_main_v4_apply]
  unfold value colCol
  refine Finset.sum_congr (M := EReal) rfl fun k _ => (mul_comm (G := EReal) _ _).trans ?_
  exact congrArg₂ (fun a b : EReal => a * b) (congrArg x (funext fun b => by fin_cases b <;> rfl)) (congrArg y (funext fun b => by fin_cases b <;> rfl))

/-- The reference runs, leaves its arguments alone and declares no semaphore. -/
theorem frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The two programs end with the same array. -/
theorem algebraic : Cert.algebraic_Kernel8Ideal_Reference8Ideal := by
  intro m g m' g' _ hargs
  refine ⟨fun c => value (Aa m c) (Ba m c), ?_, ?_⟩
  · refine (θ_run Cert.Kernel8Ideal.defs _ _).mono (fun r h c => ?_) (Cert.Kernel8Ideal.Value.run_blocks (F := Ideal) m g)
    obtain ⟨e, k⟩ := h c
    exact ⟨e.trans (final m c), k⟩
  · refine (θ_run Cert.Reference8Ideal.defs _ _).mono (fun r h c => ?_) (Cert.Reference8Ideal.Value.run (F := Ideal) m' g')
    obtain ⟨e, k⟩ := h c
    obtain ⟨a0, a1⟩ := hargs c
    refine ⟨e.trans ?_, k⟩
    refine (val_main_v7_eq _ _).trans ?_
    rw [a0, a1]
    exact result _ _

end Cert.Reference8Ideal.ProjGradWBot

end
-- ==== Proof.OutGradX.Array.lean ====
module

public import proofs.«01_k».proof.Proof.Gen.Kernel9Ideal.Value
public import proofs.«01_k».proof.Proof.Product.Basic
public import proofs.«01_k».proof.Proof.Blocks

/-! # The gradient of the gated merge: the result array after the run

Point `t = 2 i + j` of the grid multiplies row block `i` by column block `j`, each 1024 by 1024 of the result, over the
whole contraction, and writes the block back at once. -/

@[expose] public section

noncomputable section

namespace Cert.Kernel9Ideal.OutGradX

open Cert.Kernel9Ideal Cert.Kernel9Ideal.Gen Cert.Product Cert.Blocks Idealize.ShloMosaic Idealize.ShloMosaic.TcCoe Idealize.ShloMosaic.ValueIdx
open scoped BigOperators

/-- The gradient of the gated merge: the incoming gradient times the output weight, rows by rows. -/
def value (x : Mat 2048 2048) (y : Mat 2048 2048) : Mat 2048 2048 := fun j => rowRow x y (j 0) (j 1)

/-- What one point stores, at an element. -/
theorem block_apply (x0 : FVec Ideal S1024x2048 .bf16) (x1 : FVec Ideal S1024x2048 .bf16) (r : Fin 1024) (s : Fin 1024) :
    (out0_2 (F := Ideal) x0 x1 : FVec Ideal S1024x1024 .f32) (ix2 r s) = rowRow x0 x1 r s := by
  unfold out0_2
  rw [View.canon_cons_unit_zero (S := S1024x1024) zero_offsets]
  simp only [View.ld_unit_zero (S := S1024x2048) zero_offsets]
  unfold k0_pay1
  exact (matmul_rowRow dot_S1024x2048_S1024x2048_S1024x1024_1_1_0_0_n_n rfl rfl (fun _ _ => rfl) (fun _ _ => rfl) (fun _ _ => rfl) (fun _ _ => rfl) x0 x1 r s)

variable (m : (ℓ : Loc nD τ sig) → Buf (Elt Ideal) ℓ) (c : Dev nD)

/-- The arguments. -/
abbrev Aa : FVec Ideal S2048x2048 .bf16 := m ((c : Thread nD τ).loc main_arg0)
abbrev Ba : FVec Ideal S2048x2048 .bf16 := m ((c : Thread nD τ).loc main_arg1)

/-- The windows' block indices at a point. -/
theorem idx_facts : ∀ t : Fin cfg0.N,
    (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2) :=
  (by decide +kernel : ∀ t : Fin grid0.N, _)

theorem t_lt (t : Fin cfg0.N) : t.val < 4 := lt_of_lt_of_eq t.isLt (show cfg0.N = 4 from N_0)

/-- The result's row and column at a point's block. -/
def row (t : Fin cfg0.N) (r : Fin 1024) : Fin 2048 := ⟨1024 * (t.val / 2) + r.val, by have := t_lt t; omega⟩
def column (t : Fin cfg0.N) (s : Fin 1024) : Fin 2048 := ⟨1024 * (t.val % 2) + s.val, by have := t_lt t; omega⟩

theorem a_block (t : Fin cfg0.N) (r : Fin 1024) (k : Fin 2048) :
    (iblk m c 0 t : FVec Ideal S1024x2048 .bf16) (ix2 r k) = Aa m c (ix2 (row t r) k) := by
  obtain ⟨⟨e0, e1⟩, _⟩ := idx_facts t
  show V m c main_arg0 (((cfg0.win 0).blk t).view.emb _) = _
  refine congrArg (Aa m c) (funext fun b => Fin.ext ?_)
  match b with
  | ⟨0, _⟩ =>
    show win0_0.index t (0 : Fin 2) * 1024 + 1 * r.val = 1024 * (t.val / 2) + r.val
    rw [e0]; omega
  | ⟨1, _⟩ =>
    show win0_0.index t (1 : Fin 2) * 2048 + 1 * k.val = k.val
    rw [e1]; omega

theorem b_block (t : Fin cfg0.N) (s : Fin 1024) (k : Fin 2048) :
    (iblk m c 1 t : FVec Ideal S1024x2048 .bf16) (ix2 s k) = Ba m c (ix2 (column t s) k) := by
  obtain ⟨_, ⟨e0, e1⟩, _⟩ := idx_facts t
  show V m c main_arg1 (((cfg0.win 1).blk t).view.emb _) = _
  refine congrArg (Ba m c) (funext fun b => Fin.ext ?_)
  match b with
  | ⟨0, _⟩ =>
    show win0_1.index t (0 : Fin 2) * 1024 + 1 * s.val = 1024 * (t.val % 2) + s.val
    rw [e0]; omega
  | ⟨1, _⟩ =>
    show win0_1.index t (1 : Fin 2) * 2048 + 1 * k.val = k.val
    rw [e1]; omega

/-- One point's block is its part of the gradient of the gated merge. -/
theorem point (t : Fin cfg0.N) (r : Fin 1024) (s : Fin 1024) :
    (out0_2 (F := Ideal) (iblk m c 0 t) (iblk m c 1 t) : FVec Ideal S1024x1024 .f32) (ix2 r s)
      = rowRow (Aa m c) (Ba m c) (row t r) (column t s) :=
  (block_apply (iblk m c 0 t) (iblk m c 1 t) r s).trans
    (Finset.sum_congr rfl fun k _ => congrArg₂ (· * ·) (a_block m c t r k) (b_block m c t s k))

/-- Every element lies in some point's block. -/
theorem cover (y : S2048x2048.Idx) : ∃ t : Fin cfg0.N, (cfg0.win 2).flush t = true ∧ y ∈ ((cfg0.win 2).blk t).view.set := by
  have h0 : (y 0).val < 2048 := (y 0).isLt
  have h1 : (y 1).val < 2048 := (y 1).isLt
  have hN : cfg0.N = 4 := N_0
  let t : Fin cfg0.N := ⟨2 * ((y 0).val / 1024) + (y 1).val / 1024, by omega⟩
  obtain ⟨_, _, e0, e1⟩ := idx_facts t
  refine ⟨t, flush0_2 t, ?_⟩
  have e : y = ((cfg0.win 2).blk t).view.emb (ix2 (⟨(y 0).val % 1024, by omega⟩ : Fin 1024) (⟨(y 1).val % 1024, by omega⟩ : Fin 1024)) := by
    funext b; apply Fin.ext
    match b with
    | ⟨0, _⟩ =>
      show (y 0).val = win0_2.index t (0 : Fin 2) * 1024 + 1 * ((y 0).val % 1024)
      rw [e0]; show _ = (2 * ((y 0).val / 1024) + (y 1).val / 1024) / 2 * 1024 + _; omega
    | ⟨1, _⟩ =>
      show (y 1).val = win0_2.index t (1 : Fin 2) * 1024 + 1 * ((y 1).val % 1024)
      rw [e1]; show _ = (2 * ((y 0).val / 1024) + (y 1).val / 1024) % 2 * 1024 + _; omega
  rw [e]
  exact View.emb_mem_set _ _

/-- The array after the run. -/
theorem final : (dats m 0 c).arrAt 2 cfg0.N = value (Aa m c) (Ba m c) := by
  refine (dats m 0 c).arrAt_eq_of_cover 2 (value (Aa m c) (Ba m c)) (fun t _ => ?_) cover
  rw [Cert.Kernel9Ideal.Value.flushed2]
  obtain ⟨_, _, e0, e1⟩ := idx_facts t
  funext (z : S1024x1024.Idx)
  rw [show z = ix2 (z 0) (z 1) from eq_ix2 z]
  refine (point m c t (z 0) (z 1)).trans ?_
  have e : ((cfg0.win 2).blk t).view.emb (ix2 (z 0) (z 1)) = (ix2 (row t (z 0)) (column t (z 1)) : S2048x2048.Idx) := by
    funext b; apply Fin.ext
    match b with
    | ⟨0, _⟩ =>
      show win0_2.index t (0 : Fin 2) * 1024 + 1 * (z 0).val = 1024 * (t.val / 2) + (z 0).val
      rw [e0]; omega
    | ⟨1, _⟩ =>
      show win0_2.index t (1 : Fin 2) * 1024 + 1 * (z 1).val = 1024 * (t.val % 2) + (z 1).val
      rw [e1]; omega
  show _ = value (Aa m c) (Ba m c) (((cfg0.win 2).blk t).view.emb (ix2 (z 0) (z 1)))
  rw [e]
  rfl

end Cert.Kernel9Ideal.OutGradX

end
-- ==== Proof.OutGradX.Result.lean ====
module

public import proofs.«01_k».proof.Defs
public import proofs.«01_k».proof.Proof.Gen.Reference9Ideal.Run
public import proofs.«01_k».proof.Proof.Gen.Reference9Ideal.Read
public import proofs.«01_k».proof.Proof.OutGradX.Array

/-! # The gradient of the gated merge: the reference's value, and the two programs' equality -/

@[expose] public section

noncomputable section

namespace Cert.Reference9Ideal.OutGradX

open Cert.Reference9Ideal Cert.Reference9Ideal.Gen Cert.Reference9Ideal.Read Cert.Product Cert.Kernel9Ideal.OutGradX
open Idealize.ShloMosaic Idealize.ShloMosaic.ValueIdx Idealize.SL.Sem
open scoped BigOperators

/-- What the reference computes. -/
theorem result (x : FVec Ideal S2048x2048 .bf16) (y : FVec Ideal S2048x2048 .bf16) :
    val_main_v4 (F := Ideal) x y = value x y := by
  funext j
  show val_main_v4 (F := Ideal) x y j = _
  rw [val_main_v4_apply]
  unfold value rowRow
  refine Finset.sum_congr (M := EReal) rfl fun k _ => ?_
  exact congrArg₂ (fun a b : EReal => a * b) (congrArg x (funext fun b => by fin_cases b <;> rfl)) (congrArg y (funext fun b => by fin_cases b <;> rfl))

/-- The reference runs, leaves its arguments alone and declares no semaphore. -/
theorem frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The two programs end with the same array. -/
theorem algebraic : Cert.algebraic_Kernel9Ideal_Reference9Ideal := by
  intro m g m' g' _ hargs
  refine ⟨fun c => value (Aa m c) (Ba m c), ?_, ?_⟩
  · refine (θ_run Cert.Kernel9Ideal.defs _ _).mono (fun r h c => ?_) (Cert.Kernel9Ideal.Value.run_blocks (F := Ideal) m g)
    obtain ⟨e, k⟩ := h c
    exact ⟨e.trans (final m c), k⟩
  · refine (θ_run Cert.Reference9Ideal.defs _ _).mono (fun r h c => ?_) (Cert.Reference9Ideal.Value.run (F := Ideal) m' g')
    obtain ⟨e, k⟩ := h c
    obtain ⟨a0, a1⟩ := hargs c
    refine ⟨e.trans ?_, k⟩
    refine (val_main_v4_eq _ _).trans ?_
    rw [a0, a1]
    exact result _ _

end Cert.Reference9Ideal.OutGradX

end
-- ==== Proof.BranchGradX.Array.lean ====
module

public import proofs.«01_k».proof.Proof.Gen.Kernel10Ideal.Value
public import proofs.«01_k».proof.Proof.Product.Basic
public import proofs.«01_k».proof.Proof.Blocks

/-! # The gradient of a branch: the result array after the run

Point `t = 2 i + j` of the grid multiplies row block `i` by column block `j`, each 1024 by 1024 of the result, over the
whole contraction, and writes the block back at once. -/

@[expose] public section

noncomputable section

namespace Cert.Kernel10Ideal.BranchGradX

open Cert.Kernel10Ideal Cert.Kernel10Ideal.Gen Cert.Product Cert.Blocks Idealize.ShloMosaic Idealize.ShloMosaic.TcCoe Idealize.ShloMosaic.ValueIdx
open scoped BigOperators

/-- The gradient of a branch: the incoming gradient times the branch's output weight, rows by rows. -/
def value (x : Mat 2048 2048) (y : Mat 2048 2048) : Mat 2048 2048 := fun j => rowRow x y (j 0) (j 1)

/-- What one point stores, at an element. -/
theorem block_apply (x0 : FVec Ideal S1024x2048 .bf16) (x1 : FVec Ideal S1024x2048 .bf16) (r : Fin 1024) (s : Fin 1024) :
    (out0_2 (F := Ideal) x0 x1 : FVec Ideal S1024x1024 .bf16) (ix2 r s) = rowRow x0 x1 r s := by
  unfold out0_2
  rw [View.canon_cons_unit_zero (S := S1024x1024) zero_offsets]
  simp only [View.ld_unit_zero (S := S1024x2048) zero_offsets]
  unfold k0_pay1
  exact (matmul_rowRow dot_S1024x2048_S1024x2048_S1024x1024_1_1_0_0_n_n rfl rfl (fun _ _ => rfl) (fun _ _ => rfl) (fun _ _ => rfl) (fun _ _ => rfl) x0 x1 r s)

variable (m : (ℓ : Loc nD τ sig) → Buf (Elt Ideal) ℓ) (c : Dev nD)

/-- The arguments. -/
abbrev Aa : FVec Ideal S2048x2048 .bf16 := m ((c : Thread nD τ).loc main_arg0)
abbrev Ba : FVec Ideal S2048x2048 .bf16 := m ((c : Thread nD τ).loc main_arg1)

/-- The windows' block indices at a point. -/
theorem idx_facts : ∀ t : Fin cfg0.N,
    (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2) :=
  (by decide +kernel : ∀ t : Fin grid0.N, _)

theorem t_lt (t : Fin cfg0.N) : t.val < 4 := lt_of_lt_of_eq t.isLt (show cfg0.N = 4 from N_0)

/-- The result's row and column at a point's block. -/
def row (t : Fin cfg0.N) (r : Fin 1024) : Fin 2048 := ⟨1024 * (t.val / 2) + r.val, by have := t_lt t; omega⟩
def column (t : Fin cfg0.N) (s : Fin 1024) : Fin 2048 := ⟨1024 * (t.val % 2) + s.val, by have := t_lt t; omega⟩

theorem a_block (t : Fin cfg0.N) (r : Fin 1024) (k : Fin 2048) :
    (iblk m c 0 t : FVec Ideal S1024x2048 .bf16) (ix2 r k) = Aa m c (ix2 (row t r) k) := by
  obtain ⟨⟨e0, e1⟩, _⟩ := idx_facts t
  show V m c main_arg0 (((cfg0.win 0).blk t).view.emb _) = _
  refine congrArg (Aa m c) (funext fun b => Fin.ext ?_)
  match b with
  | ⟨0, _⟩ =>
    show win0_0.index t (0 : Fin 2) * 1024 + 1 * r.val = 1024 * (t.val / 2) + r.val
    rw [e0]; omega
  | ⟨1, _⟩ =>
    show win0_0.index t (1 : Fin 2) * 2048 + 1 * k.val = k.val
    rw [e1]; omega

theorem b_block (t : Fin cfg0.N) (s : Fin 1024) (k : Fin 2048) :
    (iblk m c 1 t : FVec Ideal S1024x2048 .bf16) (ix2 s k) = Ba m c (ix2 (column t s) k) := by
  obtain ⟨_, ⟨e0, e1⟩, _⟩ := idx_facts t
  show V m c main_arg1 (((cfg0.win 1).blk t).view.emb _) = _
  refine congrArg (Ba m c) (funext fun b => Fin.ext ?_)
  match b with
  | ⟨0, _⟩ =>
    show win0_1.index t (0 : Fin 2) * 1024 + 1 * s.val = 1024 * (t.val % 2) + s.val
    rw [e0]; omega
  | ⟨1, _⟩ =>
    show win0_1.index t (1 : Fin 2) * 2048 + 1 * k.val = k.val
    rw [e1]; omega

/-- One point's block is its part of the gradient of a branch. -/
theorem point (t : Fin cfg0.N) (r : Fin 1024) (s : Fin 1024) :
    (out0_2 (F := Ideal) (iblk m c 0 t) (iblk m c 1 t) : FVec Ideal S1024x1024 .bf16) (ix2 r s)
      = rowRow (Aa m c) (Ba m c) (row t r) (column t s) :=
  (block_apply (iblk m c 0 t) (iblk m c 1 t) r s).trans
    (Finset.sum_congr rfl fun k _ => congrArg₂ (· * ·) (a_block m c t r k) (b_block m c t s k))

/-- Every element lies in some point's block. -/
theorem cover (y : S2048x2048.Idx) : ∃ t : Fin cfg0.N, (cfg0.win 2).flush t = true ∧ y ∈ ((cfg0.win 2).blk t).view.set := by
  have h0 : (y 0).val < 2048 := (y 0).isLt
  have h1 : (y 1).val < 2048 := (y 1).isLt
  have hN : cfg0.N = 4 := N_0
  let t : Fin cfg0.N := ⟨2 * ((y 0).val / 1024) + (y 1).val / 1024, by omega⟩
  obtain ⟨_, _, e0, e1⟩ := idx_facts t
  refine ⟨t, flush0_2 t, ?_⟩
  have e : y = ((cfg0.win 2).blk t).view.emb (ix2 (⟨(y 0).val % 1024, by omega⟩ : Fin 1024) (⟨(y 1).val % 1024, by omega⟩ : Fin 1024)) := by
    funext b; apply Fin.ext
    match b with
    | ⟨0, _⟩ =>
      show (y 0).val = win0_2.index t (0 : Fin 2) * 1024 + 1 * ((y 0).val % 1024)
      rw [e0]; show _ = (2 * ((y 0).val / 1024) + (y 1).val / 1024) / 2 * 1024 + _; omega
    | ⟨1, _⟩ =>
      show (y 1).val = win0_2.index t (1 : Fin 2) * 1024 + 1 * ((y 1).val % 1024)
      rw [e1]; show _ = (2 * ((y 0).val / 1024) + (y 1).val / 1024) % 2 * 1024 + _; omega
  rw [e]
  exact View.emb_mem_set _ _

/-- The array after the run. -/
theorem final : (dats m 0 c).arrAt 2 cfg0.N = value (Aa m c) (Ba m c) := by
  refine (dats m 0 c).arrAt_eq_of_cover 2 (value (Aa m c) (Ba m c)) (fun t _ => ?_) cover
  rw [Cert.Kernel10Ideal.Value.flushed2]
  obtain ⟨_, _, e0, e1⟩ := idx_facts t
  funext (z : S1024x1024.Idx)
  rw [show z = ix2 (z 0) (z 1) from eq_ix2 z]
  refine (point m c t (z 0) (z 1)).trans ?_
  have e : ((cfg0.win 2).blk t).view.emb (ix2 (z 0) (z 1)) = (ix2 (row t (z 0)) (column t (z 1)) : S2048x2048.Idx) := by
    funext b; apply Fin.ext
    match b with
    | ⟨0, _⟩ =>
      show win0_2.index t (0 : Fin 2) * 1024 + 1 * (z 0).val = 1024 * (t.val / 2) + (z 0).val
      rw [e0]; omega
    | ⟨1, _⟩ =>
      show win0_2.index t (1 : Fin 2) * 1024 + 1 * (z 1).val = 1024 * (t.val % 2) + (z 1).val
      rw [e1]; omega
  show _ = value (Aa m c) (Ba m c) (((cfg0.win 2).blk t).view.emb (ix2 (z 0) (z 1)))
  rw [e]
  rfl

end Cert.Kernel10Ideal.BranchGradX

end
-- ==== Proof.BranchGradX.Result.lean ====
module

public import proofs.«01_k».proof.Defs
public import proofs.«01_k».proof.Proof.Gen.Reference10Ideal.Run
public import proofs.«01_k».proof.Proof.Gen.Reference10Ideal.Read
public import proofs.«01_k».proof.Proof.BranchGradX.Array

/-! # The gradient of a branch: the reference's value, and the two programs' equality -/

@[expose] public section

noncomputable section

namespace Cert.Reference10Ideal.BranchGradX

open Cert.Reference10Ideal Cert.Reference10Ideal.Gen Cert.Reference10Ideal.Read Cert.Product Cert.Kernel10Ideal.BranchGradX
open Idealize.ShloMosaic Idealize.ShloMosaic.ValueIdx Idealize.SL.Sem
open scoped BigOperators

/-- What the reference computes. -/
theorem result (x : FVec Ideal S2048x2048 .bf16) (y : FVec Ideal S2048x2048 .bf16) :
    val_main_v5 (F := Ideal) x y = value x y := by
  funext j
  show val_main_v4 (F := Ideal) x y j = _
  rw [val_main_v4_apply]
  unfold value rowRow
  refine Finset.sum_congr (M := EReal) rfl fun k _ => ?_
  exact congrArg₂ (fun a b : EReal => a * b) (congrArg x (funext fun b => by fin_cases b <;> rfl)) (congrArg y (funext fun b => by fin_cases b <;> rfl))

/-- The reference runs, leaves its arguments alone and declares no semaphore. -/
theorem frame : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The two programs end with the same array. -/
theorem algebraic : Cert.algebraic_Kernel10Ideal_Reference10Ideal := by
  intro m g m' g' _ hargs
  refine ⟨fun c => value (Aa m c) (Ba m c), ?_, ?_⟩
  · refine (θ_run Cert.Kernel10Ideal.defs _ _).mono (fun r h c => ?_) (Cert.Kernel10Ideal.Value.run_blocks (F := Ideal) m g)
    obtain ⟨e, k⟩ := h c
    exact ⟨e.trans (final m c), k⟩
  · refine (θ_run Cert.Reference10Ideal.defs _ _).mono (fun r h c => ?_) (Cert.Reference10Ideal.Value.run (F := Ideal) m' g')
    obtain ⟨e, k⟩ := h c
    obtain ⟨a0, a1⟩ := hargs c
    refine ⟨e.trans ?_, k⟩
    refine (val_main_v5_eq _ _).trans ?_
    rw [a0, a1]
    exact result _ _

end Cert.Reference10Ideal.BranchGradX

end
-- ==== Proof.OutGradW.Array.lean ====
module

public import proofs.«01_k».proof.Proof.Gen.Kernel11Ideal.Value
public import proofs.«01_k».proof.Proof.Product.Basic
public import proofs.«01_k».proof.Proof.Blocks

/-! # The gradient of an output weight: the result array after the run

Point `t = 2 i + j` of the grid multiplies row block `i` by column block `j`, each 1024 by 1024 of the result, over the
whole contraction, and writes the block back at once. -/

@[expose] public section

noncomputable section

namespace Cert.Kernel11Ideal.OutGradW

open Cert.Kernel11Ideal Cert.Kernel11Ideal.Gen Cert.Product Cert.Blocks Idealize.ShloMosaic Idealize.ShloMosaic.TcCoe Idealize.ShloMosaic.ValueIdx
open scoped BigOperators

/-- The gradient of an output weight: the input of the product times the incoming gradient, columns by columns. -/
def value (x : Mat 2048 2048) (y : Mat 2048 2048) : Mat 2048 2048 := fun j => colCol x y (j 0) (j 1)

/-- What one point stores, at an element. -/
theorem block_apply (x0 : FVec Ideal S2048x1024 .bf16) (x1 : FVec Ideal S2048x1024 .bf16) (r : Fin 1024) (s : Fin 1024) :
    (out0_2 (F := Ideal) x0 x1 : FVec Ideal S1024x1024 .bf16) (ix2 r s) = colCol x0 x1 r s := by
  unfold out0_2
  rw [View.canon_cons_unit_zero (S := S1024x1024) zero_offsets]
  simp only [View.ld_unit_zero (S := S2048x1024) zero_offsets]
  unfold k0_pay1
  exact (matmul_colCol dot_S2048x1024_S2048x1024_S1024x1024_0_0_1_1_n_n rfl rfl (fun _ _ => rfl) (fun _ _ => rfl) (fun _ _ => rfl) (fun _ _ => rfl) x0 x1 r s)

variable (m : (ℓ : Loc nD τ sig) → Buf (Elt Ideal) ℓ) (c : Dev nD)

/-- The arguments. -/
abbrev Aa : FVec Ideal S2048x2048 .bf16 := m ((c : Thread nD τ).loc main_arg0)
abbrev Ba : FVec Ideal S2048x2048 .bf16 := m ((c : Thread nD τ).loc main_arg1)

/-- The windows' block indices at a point. -/
theorem idx_facts : ∀ t : Fin cfg0.N,
    (win0_0.index t (0 : Fin 2) = 0 ∧ win0_0.index t (1 : Fin 2) = t.val / 2)
    ∧ (win0_1.index t (0 : Fin 2) = 0 ∧ win0_1.index t (1 : Fin 2) = t.val % 2)
    ∧ (win0_2.index t (0 : Fin 2) = t.val / 2 ∧ win0_2.index t (1 : Fin 2) = t.val % 2) :=
  (by decide +kernel : ∀ t : Fin grid0.N, _)

theorem t_lt (t : Fin cfg0.N) : t.val < 4 := lt_of_lt_of_eq t.isLt (show cfg0.N = 4 from N_0)

/-- The result's row and column at a point's block. -/
def row (t : Fin cfg0.N) (r : Fin 1024) : Fin 2048 := ⟨1024 * (t.val / 2) + r.val, by have := t_lt t; omega⟩
def column (t : Fin cfg0.N) (s : Fin 1024) : Fin 2048 := ⟨1024 * (t.val % 2) + s.val, by have := t_lt t; omega⟩

theorem a_block (t : Fin cfg0.N) (k : Fin 2048) (r : Fin 1024) :
    (iblk m c 0 t : FVec Ideal S2048x1024 .bf16) (ix2 k r) = Aa m c (ix2 k (row t r)) := by
  obtain ⟨⟨e0, e1⟩, _⟩ := idx_facts t
  show V m c main_arg0 (((cfg0.win 0).blk t).view.emb _) = _
  refine congrArg (Aa m c) (funext fun b => Fin.ext ?_)
  match b with
  | ⟨0, _⟩ =>
    show win0_0.index t (0 : Fin 2) * 2048 + 1 * k.val = k.val
    rw [e0]; omega
  | ⟨1, _⟩ =>
    show win0_0.index t (1 : Fin 2) * 1024 + 1 * r.val = 1024 * (t.val / 2) + r.val
    rw [e1]; omega

theorem b_block (t : Fin cfg0.N) (k : Fin 2048) (s : Fin 1024) :
    (iblk m c 1 t : FVec Ideal S2048x1024 .bf16) (ix2 k s) = Ba m c (ix2 k (column t s)) := by
  obtain ⟨_, ⟨e0, e1⟩, _⟩ := idx_facts t
  show V m c main_arg1 (((cfg0.win 1).blk t).view.emb _) = _
  refine congrArg (Ba m c) (funext fun b => Fin.ext ?_)
  match b with
  | ⟨0, _⟩ =>
    show win0_1.index t (0 : Fin 2) * 2048 + 1 * k.val = k.val
    rw [e0]; omega
  | ⟨1, _⟩ =>
    show win0_1.index t (1 : Fin 2) * 1024 + 1 * s.val = 1024 * (t.val % 2) + s.val
    rw [e1]; omega

/-- One point's block is its part of the gradient of an output weight. -/
theorem point (t : Fin cfg0.N) (r : Fin 1024) (s : Fin 1024) :
    (out0_2 (F := Ideal) (iblk m c 0 t) (iblk m c 1 t) : FVec Ideal S1024x1024 .bf16) (ix2 r s)
      = colCol (Aa m c) (Ba m c) (row t r) (column t s) :=
  (block_apply (iblk m c 0 t) (iblk m c 1 t) r s).trans
    (Finset.sum_congr rfl fun k _ => congrArg₂ (· * ·) (a_block m c t k r) (b_block m c t k s))

/-- Every element lies in some point's block. -/
theorem cover (y : S2048x2048.Idx) : ∃ t : Fin cfg0.N, (cfg0.win 2).flush t = true ∧ y ∈ ((cfg0.win 2).blk t).view.set := by
  have h0 : (y 0).val < 2048 := (y 0).isLt
  have h1 : (y 1).val < 2048 := (y 1).isLt
  have hN : cfg0.N = 4 := N_0
  let t : Fin cfg0.N := ⟨2 * ((y 0).val / 1024) + (y 1).val / 1024, by omega⟩
  obtain ⟨_, _, e0, e1⟩ := idx_facts t
  refine ⟨t, flush0_2 t, ?_⟩
  have e : y = ((cfg0.win 2).blk t).view.emb (ix2 (⟨(y 0).val % 1024, by omega⟩ : Fin 1024) (⟨(y 1).val % 1024, by omega⟩ : Fin 1024)) := by
    funext b; apply Fin.ext
    match b with
    | ⟨0, _⟩ =>
      show (y 0).val = win0_2.index t (0 : Fin 2) * 1024 + 1 * ((y 0).val % 1024)
      rw [e0]; show _ = (2 * ((y 0).val / 1024) + (y 1).val / 1024) / 2 * 1024 + _; omega
    | ⟨1, _⟩ =>
      show (y 1).val = win0_2.index t (1 : Fin 2) * 1024 + 1 * ((y 1).val % 1024)
      rw [e1]; show _ = (2 * ((y 0).val / 1024) + (y 1).val / 1024) % 2 * 1024 + _; omega
  rw [e]
  exact View.emb_mem_set _ _

/-- The array after the run. -/
theorem final : (dats m 0 c).arrAt 2 cfg0.N = value (Aa m c) (Ba m c) := by
  refine (dats m 0 c).arrAt_eq_of_cover 2 (value (Aa m c) (Ba m c)) (fun t _ => ?_) cover
  rw [Cert.Kernel11Ideal.Value.flushed2]
  obtain ⟨_, _, e0, e1⟩ := idx_facts t
  funext (z : S1024x1024.Idx)
  rw [show z = ix2 (z 0) (z 1) from eq_ix2 z]
  refine (point m c t (z 0) (z 1)).trans ?_
  have e : ((cfg0.win 2).blk t).view.emb (ix2 (z 0) (z 1)) = (ix2 (row t (z 0)) (column t (z 1)) : S2048x2048.Idx) := by
    funext b; apply Fin.ext
    match b with
    | ⟨0, _⟩ =>
      show win0_2.index t (0 : Fin 2) * 1024 + 1 * (z 0).val = 1024 * (t.val / 2) + (z 0).val
      rw [e0]; omega
    | ⟨1, _⟩ =>
      show win0_2.index t (1 : Fin 2) * 1024 + 1 * (z 1).val = 1024 * (t.val % 2) + (z 1).val
      rw [e1]; omega
  show _ = value (Aa m c) (Ba m c) (((cfg0.win 2).blk t).view.emb (ix2 (z 0) (z 1)))
  rw [e]
  rfl

end Cert.Kernel11Ideal.OutGradW

end
-- ==== Proof.OutGradW.Result.lean ====
module

public import proofs.«01_k».proof.Defs
public import proofs.«01_k».proof.Proof.Gen.Reference11Ideal.Run
public import proofs.«01_k».proof.Proof.Gen.Reference11Ideal.Read
public import proofs.«01_k».proof.Proof.OutGradW.Array

/-! # The gradient of an output weight: the reference's value, and the two programs' equality -/

@[expose] public section

noncomputable section

namespace Cert.Reference11Ideal.OutGradW

open Cert.Reference11Ideal Cert.Reference11Ideal.Gen Cert.Reference11Ideal.Read Cert.Product Cert.Kernel11Ideal.OutGradW
open Idealize.ShloMosaic Idealize.ShloMosaic.ValueIdx Idealize.SL.Sem
open scoped BigOperators

/-- What the reference computes. -/
theorem result (x : FVec Ideal S2048x2048 .bf16) (y : FVec Ideal S2048x2048 .bf16) :
    val_main_v6 (F := Ideal) x y = value x y := by
  funext j
  show val_main_v5 (F := Ideal) x y j = _
  rw [val_main_v5_apply, val_main_v4_apply]
  unfold value colCol
  refine Finset.sum_congr (M := EReal) rfl fun k _ => (mul_comm (G := EReal) _ _).trans ?_
  exact congrArg₂ (fun a b : EReal => a * b) (congrArg x (funext fun b => by fin_cases b <;> rfl)) (congrArg y (funext fun b => by fin_cases b <;> rfl))

/-- The reference runs, leaves its arguments alone and declares no semaphore. -/
theorem frame : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The two programs end with the same array. -/
theorem algebraic : Cert.algebraic_Kernel11Ideal_Reference11Ideal := by
  intro m g m' g' _ hargs
  refine ⟨fun c => value (Aa m c) (Ba m c), ?_, ?_⟩
  · refine (θ_run Cert.Kernel11Ideal.defs _ _).mono (fun r h c => ?_) (Cert.Kernel11Ideal.Value.run_blocks (F := Ideal) m g)
    obtain ⟨e, k⟩ := h c
    exact ⟨e.trans (final m c), k⟩
  · refine (θ_run Cert.Reference11Ideal.defs _ _).mono (fun r h c => ?_) (Cert.Reference11Ideal.Value.run (F := Ideal) m' g')
    obtain ⟨e, k⟩ := h c
    obtain ⟨a0, a1⟩ := hargs c
    refine ⟨e.trans ?_, k⟩
    refine (val_main_v6_eq _ _).trans ?_
    rw [a0, a1]
    exact result _ _

end Cert.Reference11Ideal.OutGradW

end
-- ==== Proof.UpFwd.Array.lean ====
module

public import proofs.«01_k».proof.Proof.Gen.Kernel12Ideal.Value
public import proofs.«01_k».proof.Proof.Product.Basic
public import proofs.«01_k».proof.Proof.Blocks

/-! # The MLP's pre-activation: the result array after the run

Point `t = 8 i + j` of the grid multiplies row block `i` by column block `j`, each 1024 by 1024 of the result, over the
whole contraction, and writes the block back at once. -/

@[expose] public section

noncomputable section

namespace Cert.Kernel12Ideal.UpFwd

open Cert.Kernel12Ideal Cert.Kernel12Ideal.Gen Cert.Product Cert.Blocks Idealize.ShloMosaic Idealize.ShloMosaic.TcCoe Idealize.ShloMosaic.ValueIdx
open scoped BigOperators

/-- The MLP's pre-activation: the MLP's input times the first weight, rows by columns. -/
def value (x : Mat 2048 2048) (y : Mat 2048 8192) : Mat 2048 8192 := fun j => rowCol x y (j 0) (j 1)

/-- What one point stores, at an element. -/
theorem block_apply (x0 : FVec Ideal S1024x2048 .bf16) (x1 : FVec Ideal S2048x1024 .bf16) (r : Fin 1024) (s : Fin 1024) :
    (out0_2 (F := Ideal) x0 x1 : FVec Ideal S1024x1024 .bf16) (ix2 r s) = rowCol x0 x1 r s := by
  unfold out0_2
  rw [View.canon_cons_unit_zero (S := S1024x1024) zero_offsets]
  simp only [View.ld_unit_zero (S := S1024x2048) zero_offsets, View.ld_unit_zero (S := S2048x1024) zero_offsets]
  unfold k0_pay1
  exact (matmul_rowCol dot_S1024x2048_S2048x1024_S1024x1024_1_0_0_1_n_n rfl rfl (fun _ _ => rfl) (fun _ _ => rfl) (fun _ _ => rfl) (fun _ _ => rfl) x0 x1 r s)

variable (m : (ℓ : Loc nD τ sig) → Buf (Elt Ideal) ℓ) (c : Dev nD)

/-- The arguments. -/
abbrev Aa : FVec Ideal S2048x2048 .bf16 := m ((c : Thread nD τ).loc main_arg0)
abbrev Ba : FVec Ideal S2048x8192 .bf16 := m ((c : Thread nD τ).loc main_arg1)

/-- The windows' block indices at a point. -/
theorem idx_facts : ∀ t : Fin cfg0.N,
    (win0_0.index t (0 : Fin 2) = t.val / 8 ∧ win0_0.index t (1 : Fin 2) = 0)
    ∧ (win0_1.index t (0 : Fin 2) = 0 ∧ win0_1.index t (1 : Fin 2) = t.val % 8)
    ∧ (win0_2.index t (0 : Fin 2) = t.val / 8 ∧ win0_2.index t (1 : Fin 2) = t.val % 8) :=
  (by decide +kernel : ∀ t : Fin grid0.N, _)

theorem t_lt (t : Fin cfg0.N) : t.val < 16 := lt_of_lt_of_eq t.isLt (show cfg0.N = 16 from N_0)

/-- The result's row and column at a point's block. -/
def row (t : Fin cfg0.N) (r : Fin 1024) : Fin 2048 := ⟨1024 * (t.val / 8) + r.val, by have := t_lt t; omega⟩
def column (t : Fin cfg0.N) (s : Fin 1024) : Fin 8192 := ⟨1024 * (t.val % 8) + s.val, by have := t_lt t; omega⟩

theorem a_block (t : Fin cfg0.N) (r : Fin 1024) (k : Fin 2048) :
    (iblk m c 0 t : FVec Ideal S1024x2048 .bf16) (ix2 r k) = Aa m c (ix2 (row t r) k) := by
  obtain ⟨⟨e0, e1⟩, _⟩ := idx_facts t
  show V m c main_arg0 (((cfg0.win 0).blk t).view.emb _) = _
  refine congrArg (Aa m c) (funext fun b => Fin.ext ?_)
  match b with
  | ⟨0, _⟩ =>
    show win0_0.index t (0 : Fin 2) * 1024 + 1 * r.val = 1024 * (t.val / 8) + r.val
    rw [e0]; omega
  | ⟨1, _⟩ =>
    show win0_0.index t (1 : Fin 2) * 2048 + 1 * k.val = k.val
    rw [e1]; omega

theorem b_block (t : Fin cfg0.N) (k : Fin 2048) (s : Fin 1024) :
    (iblk m c 1 t : FVec Ideal S2048x1024 .bf16) (ix2 k s) = Ba m c (ix2 k (column t s)) := by
  obtain ⟨_, ⟨e0, e1⟩, _⟩ := idx_facts t
  show V m c main_arg1 (((cfg0.win 1).blk t).view.emb _) = _
  refine congrArg (Ba m c) (funext fun b => Fin.ext ?_)
  match b with
  | ⟨0, _⟩ =>
    show win0_1.index t (0 : Fin 2) * 2048 + 1 * k.val = k.val
    rw [e0]; omega
  | ⟨1, _⟩ =>
    show win0_1.index t (1 : Fin 2) * 1024 + 1 * s.val = 1024 * (t.val % 8) + s.val
    rw [e1]; omega

/-- One point's block is its part of the MLP's pre-activation. -/
theorem point (t : Fin cfg0.N) (r : Fin 1024) (s : Fin 1024) :
    (out0_2 (F := Ideal) (iblk m c 0 t) (iblk m c 1 t) : FVec Ideal S1024x1024 .bf16) (ix2 r s)
      = rowCol (Aa m c) (Ba m c) (row t r) (column t s) :=
  (block_apply (iblk m c 0 t) (iblk m c 1 t) r s).trans
    (Finset.sum_congr rfl fun k _ => congrArg₂ (· * ·) (a_block m c t r k) (b_block m c t k s))

/-- Every element lies in some point's block. -/
theorem cover (y : S2048x8192.Idx) : ∃ t : Fin cfg0.N, (cfg0.win 2).flush t = true ∧ y ∈ ((cfg0.win 2).blk t).view.set := by
  have h0 : (y 0).val < 2048 := (y 0).isLt
  have h1 : (y 1).val < 8192 := (y 1).isLt
  have hN : cfg0.N = 16 := N_0
  let t : Fin cfg0.N := ⟨8 * ((y 0).val / 1024) + (y 1).val / 1024, by omega⟩
  obtain ⟨_, _, e0, e1⟩ := idx_facts t
  refine ⟨t, flush0_2 t, ?_⟩
  have e : y = ((cfg0.win 2).blk t).view.emb (ix2 (⟨(y 0).val % 1024, by omega⟩ : Fin 1024) (⟨(y 1).val % 1024, by omega⟩ : Fin 1024)) := by
    funext b; apply Fin.ext
    match b with
    | ⟨0, _⟩ =>
      show (y 0).val = win0_2.index t (0 : Fin 2) * 1024 + 1 * ((y 0).val % 1024)
      rw [e0]; show _ = (8 * ((y 0).val / 1024) + (y 1).val / 1024) / 8 * 1024 + _; omega
    | ⟨1, _⟩ =>
      show (y 1).val = win0_2.index t (1 : Fin 2) * 1024 + 1 * ((y 1).val % 1024)
      rw [e1]; show _ = (8 * ((y 0).val / 1024) + (y 1).val / 1024) % 8 * 1024 + _; omega
  rw [e]
  exact View.emb_mem_set _ _

/-- The array after the run. -/
theorem final : (dats m 0 c).arrAt 2 cfg0.N = value (Aa m c) (Ba m c) := by
  refine (dats m 0 c).arrAt_eq_of_cover 2 (value (Aa m c) (Ba m c)) (fun t _ => ?_) cover
  rw [Cert.Kernel12Ideal.Value.flushed2]
  obtain ⟨_, _, e0, e1⟩ := idx_facts t
  funext (z : S1024x1024.Idx)
  rw [show z = ix2 (z 0) (z 1) from eq_ix2 z]
  refine (point m c t (z 0) (z 1)).trans ?_
  have e : ((cfg0.win 2).blk t).view.emb (ix2 (z 0) (z 1)) = (ix2 (row t (z 0)) (column t (z 1)) : S2048x8192.Idx) := by
    funext b; apply Fin.ext
    match b with
    | ⟨0, _⟩ =>
      show win0_2.index t (0 : Fin 2) * 1024 + 1 * (z 0).val = 1024 * (t.val / 8) + (z 0).val
      rw [e0]; omega
    | ⟨1, _⟩ =>
      show win0_2.index t (1 : Fin 2) * 1024 + 1 * (z 1).val = 1024 * (t.val % 8) + (z 1).val
      rw [e1]; omega
  show _ = value (Aa m c) (Ba m c) (((cfg0.win 2).blk t).view.emb (ix2 (z 0) (z 1)))
  rw [e]
  rfl

end Cert.Kernel12Ideal.UpFwd

end
-- ==== Proof.UpFwd.Result.lean ====
module

public import proofs.«01_k».proof.Defs
public import proofs.«01_k».proof.Proof.Gen.Reference12Ideal.Run
public import proofs.«01_k».proof.Proof.Gen.Reference12Ideal.Read
public import proofs.«01_k».proof.Proof.UpFwd.Array

/-! # The MLP's pre-activation: the reference's value, and the two programs' equality -/

@[expose] public section

noncomputable section

namespace Cert.Reference12Ideal.UpFwd

open Cert.Reference12Ideal Cert.Reference12Ideal.Gen Cert.Reference12Ideal.Read Cert.Product Cert.Kernel12Ideal.UpFwd
open Idealize.ShloMosaic Idealize.ShloMosaic.ValueIdx Idealize.SL.Sem
open scoped BigOperators

/-- What the reference computes. -/
theorem result (x : FVec Ideal S2048x2048 .bf16) (y : FVec Ideal S2048x8192 .bf16) :
    val_main_v3 (F := Ideal) x y = value x y := by
  funext j
  show val_main_v2 (F := Ideal) x y j = _
  rw [val_main_v2_apply]
  unfold value rowCol
  refine Finset.sum_congr (M := EReal) rfl fun k _ => ?_
  exact congrArg₂ (fun a b : EReal => a * b) (congrArg x (funext fun b => by fin_cases b <;> rfl)) (congrArg y (funext fun b => by fin_cases b <;> rfl))

/-- The reference runs, leaves its arguments alone and declares no semaphore. -/
theorem frame : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The two programs end with the same array. -/
theorem algebraic : Cert.algebraic_Kernel12Ideal_Reference12Ideal := by
  intro m g m' g' _ hargs
  refine ⟨fun c => value (Aa m c) (Ba m c), ?_, ?_⟩
  · refine (θ_run Cert.Kernel12Ideal.defs _ _).mono (fun r h c => ?_) (Cert.Kernel12Ideal.Value.run_blocks (F := Ideal) m g)
    obtain ⟨e, k⟩ := h c
    exact ⟨e.trans (final m c), k⟩
  · refine (θ_run Cert.Reference12Ideal.defs _ _).mono (fun r h c => ?_) (Cert.Reference12Ideal.Value.run (F := Ideal) m' g')
    obtain ⟨e, k⟩ := h c
    obtain ⟨a0, a1⟩ := hargs c
    refine ⟨e.trans ?_, k⟩
    refine (val_main_v3_eq _ _).trans ?_
    rw [a0, a1]
    exact result _ _

end Cert.Reference12Ideal.UpFwd

end
-- ==== Proof.DownFwd.Block.lean ====
module

public import proofs.«01_k».proof.Proof.Gen.Kernel13Ideal.Value
public import proofs.«01_k».proof.Proof.Blocks

/-! # The MLP's output: what one grid point leaves in the accumulator and in the result's buffer

A point multiplies 1024 rows of the pre-activation by 1024 columns of the second weight over a quarter of the contraction (`k0_pay1`). The first of
four points puts the product into the accumulator, the later ones add theirs, and the last also stores the sum. -/

@[expose] public section

noncomputable section

namespace Cert.Kernel13Ideal.DownFwd

open Cert.Kernel13Ideal Cert.Kernel13Ideal.Gen Cert.Blocks Idealize.ShloMosaic Idealize.ShloMosaic.TcCoe

variable {F : FTy → Type} [FloatOps F]
variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec F S1024x2048 .bf16) (x1 : Vec F S2048x1024 .bf16)

/-- The first point: the accumulator holds the product. -/
theorem acc_first (hc0 : cond0_0 i) (hc1 : ¬cond0_1 i) (hc2 : ¬cond0_2 i) :
    sout0_A_0 c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_cons_unit_zero (S := S1024x1024) zero_offsets]
  simp only [load_after_store (S := S1024x1024) _ zero_offsets, View.readAt_eq_ld, harg3.read_unread, harg4.read_unread, harg6.read_unread, View.ld_unit_zero (S := S1024x2048) zero_offsets, View.ld_unit_zero (S := S2048x1024) zero_offsets, View.ld_unit_zero (S := S1024x1024) zero_offsets, k0_pay2, k0_pay3, shapeCast_self]

/-- A later point: the accumulator gains the product. -/
theorem acc_later (hc0 : ¬cond0_0 i) (hc1 : cond0_1 i) (hc2 : ¬cond0_2 i) (xs : Vec F S1024x1024 .f32) :
    sout0_B_0 c i arg3 harg3 arg4 harg4 arg5 harg5 arg6 harg6 hc0 hc1 hc2 x0 x1 xs = addf xs (k0_pay1 x0 x1) := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_cons_unit_zero (S := S1024x1024) zero_offsets]
  simp only [load_after_store (S := S1024x1024) _ zero_offsets, View.readAt_eq_ld, harg3.read_unread, harg4.read_unread, harg6.read_unread, View.ld_unit_zero (S := S1024x2048) zero_offsets, View.ld_unit_zero (S := S2048x1024) zero_offsets, View.ld_unit_zero (S := S1024x1024) zero_offsets, k0_pay2, k0_pay3, shapeCast_self]

/-- The last point: the buffer holds the accumulator with its product added. -/
theorem out_last (hc0 : ¬cond0_0 i) (hc1 : cond0_1 i) (hc2 : cond0_2 i) (xs : Vec F S1024x1024 .f32) :
    out0_C_2 c i arg3 harg3 arg4 harg4 arg5 harg5 arg6 harg6 hc0 hc1 hc2 x0 x1 xs = addf xs (k0_pay1 x0 x1) := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_cons_unit_zero (S := S1024x1024) zero_offsets]
  simp only [load_after_store (S := S1024x1024) _ zero_offsets, View.readAt_eq_ld, harg3.read_unread, harg4.read_unread, harg6.read_unread, View.ld_unit_zero (S := S1024x2048) zero_offsets, View.ld_unit_zero (S := S2048x1024) zero_offsets, View.ld_unit_zero (S := S1024x1024) zero_offsets, k0_pay2, k0_pay3, shapeCast_self]

end Cert.Kernel13Ideal.DownFwd

end
-- ==== Proof.DownFwd.Array.lean ====
module

public import proofs.«01_k».proof.Proof.DownFwd.Block
public import proofs.«01_k».proof.Proof.Product.Basic

/-! # The MLP's output: the result array after the run

Point `t = 8 i + 4 j + k` of the grid works on row block `i` and column block `j` of the result (1024 by 1024) and on quarter
`k` of the contraction; the block is written back at `k = 3`. -/

@[expose] public section

noncomputable section

namespace Cert.Kernel13Ideal.DownFwd

open Cert.Kernel13Ideal Cert.Kernel13Ideal.Gen Cert.Product Cert.Blocks Idealize.ShloMosaic Idealize.ShloMosaic.TcCoe Idealize.ShloMosaic.ValueIdx
open scoped BigOperators

/-- The MLP's output: the squared positive part of the pre-activation times the second weight, rows by columns. -/
def value (x : Mat 2048 8192) (y : Mat 8192 2048) : Mat 2048 2048 := fun j => rowCol (relu2Mat x) y (j 0) (j 1)

/-- Place `a` of quarter `i` of the contraction. -/
def place (i : ℕ) (a : Fin 2048) : Fin 8192 := Fin.ofNat 8192 (2048 * i + a.val)

/-- Quarter `i` of an element of the product. -/
def part (x : Mat 2048 8192) (y : Mat 8192 2048) (r : Fin 2048) (s : Fin 2048) (i : ℕ) : EReal :=
  ∑ a : Fin 2048, x (ix2 r (place i a)) * y (ix2 (place i a) s)

theorem parts (x : Mat 2048 8192) (y : Mat 8192 2048) (r : Fin 2048) (s : Fin 2048) :
    ∑ i ∈ Finset.range 4, part x y r s i = rowCol x y r s :=
  sum_blocks_fin 4 2048 rfl fun k => x (ix2 r k) * y (ix2 k s)

/-- A point's product, at an element. -/
theorem product_apply (x0 : FVec Ideal S1024x2048 .bf16) (x1 : FVec Ideal S2048x1024 .bf16) (r : Fin 1024) (s : Fin 1024) :
    (k0_pay1 (F := Ideal) x0 x1) (ix2 r s) = rowCol (relu2Mat x0) x1 r s := by
  unfold k0_pay1
  refine (matmul_rowCol dot_S1024x2048_S2048x1024_S1024x1024_1_0_0_1_n_n rfl rfl (fun _ _ => rfl) (fun _ _ => rfl) (fun _ _ => rfl) (fun _ _ => rfl) _ x1 r s).trans ?_
  refine Finset.sum_congr rfl fun k _ => congrArg (· * x1 (ix2 k s)) ?_
  show max (x0 (ix2 r k)) (Ideal.ofBits .f32 0x00000000#32) * max (x0 (ix2 r k)) (Ideal.ofBits .f32 0x00000000#32) = relu2 (x0 (ix2 r k))
  rw [Ideal.ofBits_zero_f32]; rfl

variable (m : (ℓ : Loc nD τ sig) → Buf (Elt Ideal) ℓ) (c : Dev nD)

/-- The arguments. -/
abbrev Aa : FVec Ideal S2048x8192 .bf16 := m ((c : Thread nD τ).loc main_arg0)
abbrev Ba : FVec Ideal S8192x2048 .bf16 := m ((c : Thread nD τ).loc main_arg1)

/-- The windows' block indices at a point. -/
theorem idx_facts : ∀ t : Fin cfg0.N,
    (win0_0.index t (0 : Fin 2) = t.val / 8 ∧ win0_0.index t (1 : Fin 2) = t.val % 4)
    ∧ (win0_1.index t (0 : Fin 2) = t.val % 4 ∧ win0_1.index t (1 : Fin 2) = t.val / 4 % 2)
    ∧ (win0_2.index t (0 : Fin 2) = t.val / 8 ∧ win0_2.index t (1 : Fin 2) = t.val / 4 % 2) :=
  (by decide +kernel : ∀ t : Fin grid0.N, _)

theorem t_lt (t : Fin cfg0.N) : t.val < 16 := lt_of_lt_of_eq t.isLt (show cfg0.N = 16 from N_0)

/-- The result's row and column at a point's block. -/
def row (t : Fin cfg0.N) (r : Fin 1024) : Fin 2048 := ⟨1024 * (t.val / 8) + r.val, by have := t_lt t; omega⟩
def column (t : Fin cfg0.N) (s : Fin 1024) : Fin 2048 := ⟨1024 * (t.val / 4 % 2) + s.val, by have := t_lt t; omega⟩

theorem a_block (t : Fin cfg0.N) (r : Fin 1024) (k : Fin 2048) :
    (iblk m c 0 t : FVec Ideal S1024x2048 .bf16) (ix2 r k) = Aa m c (ix2 (row t r) (place (t.val % 4) k)) := by
  obtain ⟨⟨e0, e1⟩, _⟩ := idx_facts t
  show V m c main_arg0 (((cfg0.win 0).blk t).view.emb _) = _
  refine congrArg (Aa m c) (funext fun b => Fin.ext ?_)
  match b with
  | ⟨0, _⟩ =>
    show win0_0.index t (0 : Fin 2) * 1024 + 1 * r.val = 1024 * (t.val / 8) + r.val
    rw [e0]; omega
  | ⟨1, _⟩ =>
    show win0_0.index t (1 : Fin 2) * 2048 + 1 * k.val = (2048 * (t.val % 4) + k.val) % 8192
    rw [e1]; omega

theorem b_block (t : Fin cfg0.N) (k : Fin 2048) (s : Fin 1024) :
    (iblk m c 1 t : FVec Ideal S2048x1024 .bf16) (ix2 k s) = Ba m c (ix2 (place (t.val % 4) k) (column t s)) := by
  obtain ⟨_, ⟨e0, e1⟩, _⟩ := idx_facts t
  show V m c main_arg1 (((cfg0.win 1).blk t).view.emb _) = _
  refine congrArg (Ba m c) (funext fun b => Fin.ext ?_)
  match b with
  | ⟨0, _⟩ =>
    show win0_1.index t (0 : Fin 2) * 2048 + 1 * k.val = (2048 * (t.val % 4) + k.val) % 8192
    rw [e0]; omega
  | ⟨1, _⟩ =>
    show win0_1.index t (1 : Fin 2) * 1024 + 1 * s.val = 1024 * (t.val / 4 % 2) + s.val
    rw [e1]; omega

/-- One point's product is its quarter. -/
theorem point (t : Fin cfg0.N) (r : Fin 1024) (s : Fin 1024) :
    (k0_pay1 (F := Ideal) (iblk m c 0 t) (iblk m c 1 t)) (ix2 r s) = part (relu2Mat (Aa m c)) (Ba m c) (row t r) (column t s) (t.val % 4) :=
  (product_apply (iblk m c 0 t) (iblk m c 1 t) r s).trans
    (Finset.sum_congr rfl fun a _ => congrArg₂ (fun x y : EReal => x * y) (congrArg relu2 (a_block m c t r a)) (b_block m c t a s))

/-- The accumulator after the first three points of a block. -/
theorem acc (n : ℕ) (hn : n < cfg0.N) (h3 : n % 4 < 3) (r : Fin 1024) (s : Fin 1024) :
    (outsAt0 m c n hn).2 (ix2 r s)
      = ∑ i ∈ Finset.range (n % 4 + 1), part (relu2Mat (Aa m c)) (Ba m c) (row ⟨n, hn⟩ r) (column ⟨n, hn⟩ s) i := by
  induction n using Nat.strong_induction_on with
  | _ n ih =>
    by_cases h0 : n % 4 = 0
    · have e := outsAt0_A m c ⟨n, hn⟩ h0 (by show ¬1 ≤ n % 4; omega) (by show ¬n % 4 = 3; omega)
      dsimp only at e
      rw [e]
      dsimp only
      rw [acc_first]
      refine (point m c ⟨n, hn⟩ r s).trans ?_
      rw [h0, Finset.sum_range_one]
    · have e := outsAt0_B m c ⟨n, hn⟩ h0 (by show 1 ≤ n % 4; omega) (by show ¬n % 4 = 3; omega)
      dsimp only at e
      rw [e]
      dsimp only
      have p := ih (n - 1) (by omega) (by omega) (by omega)
      have er : row ⟨n - 1, by omega⟩ r = row ⟨n, hn⟩ r := Fin.ext (by show 1024 * ((n - 1) / 8) + r.val = 1024 * (n / 8) + r.val; omega)
      have es : column ⟨n - 1, by omega⟩ s = column ⟨n, hn⟩ s := Fin.ext (by show 1024 * ((n - 1) / 4 % 2) + s.val = 1024 * (n / 4 % 2) + s.val; omega)
      rw [er, es, show (n - 1) % 4 + 1 = n % 4 by omega] at p
      rw [acc_later, Finset.sum_range_succ]
      exact congrArg₂ (fun x y : EReal => x + y) p (point m c ⟨n, hn⟩ r s)

/-- The result's buffer at the last point of a block. -/
theorem out (t : Fin cfg0.N) (h3 : t.val % 4 = 3) (r : Fin 1024) (s : Fin 1024) :
    (outsAt0 m c t.val t.isLt).1 (ix2 r s) = rowCol (relu2Mat (Aa m c)) (Ba m c) (row t r) (column t s) := by
  have ht := t_lt t
  rw [outsAt0_C m c t (by omega) (by omega) h3]
  dsimp only
  have p := acc m c (t.val - 1) (by have := t.isLt; omega) (by omega) r s
  have er : row ⟨t.val - 1, by have := t.isLt; omega⟩ r = row t r := Fin.ext (by show 1024 * ((t.val - 1) / 8) + r.val = 1024 * (t.val / 8) + r.val; omega)
  have es : column ⟨t.val - 1, by have := t.isLt; omega⟩ s = column t s := Fin.ext (by show 1024 * ((t.val - 1) / 4 % 2) + s.val = 1024 * (t.val / 4 % 2) + s.val; omega)
  rw [er, es, show (t.val - 1) % 4 + 1 = 3 by omega] at p
  rw [out_last, ← parts, Finset.sum_range_succ]
  refine congrArg₂ (fun x y : EReal => x + y) p ((point m c t r s).trans ?_)
  rw [h3]

/-- Every element lies in the block of some point that writes back. -/
theorem cover (y : S2048x2048.Idx) : ∃ t : Fin cfg0.N, (cfg0.win 2).flush t = true ∧ y ∈ ((cfg0.win 2).blk t).view.set := by
  have h0 : (y 0).val < 2048 := (y 0).isLt
  have h1 : (y 1).val < 2048 := (y 1).isLt
  have hN : cfg0.N = 16 := N_0
  let t : Fin cfg0.N := ⟨8 * ((y 0).val / 1024) + 4 * ((y 1).val / 1024) + 3, by omega⟩
  obtain ⟨_, _, e0, e1⟩ := idx_facts t
  refine ⟨t, (flush0_2 t).mpr (by show (8 * ((y 0).val / 1024) + 4 * ((y 1).val / 1024) + 3) % 4 = 3; omega), ?_⟩
  have e : y = ((cfg0.win 2).blk t).view.emb (ix2 (⟨(y 0).val % 1024, by omega⟩ : Fin 1024) (⟨(y 1).val % 1024, by omega⟩ : Fin 1024)) := by
    funext b; apply Fin.ext
    match b with
    | ⟨0, _⟩ =>
      show (y 0).val = win0_2.index t (0 : Fin 2) * 1024 + 1 * ((y 0).val % 1024)
      rw [e0]; show _ = (8 * ((y 0).val / 1024) + 4 * ((y 1).val / 1024) + 3) / 8 * 1024 + _; omega
    | ⟨1, _⟩ =>
      show (y 1).val = win0_2.index t (1 : Fin 2) * 1024 + 1 * ((y 1).val % 1024)
      rw [e1]; show _ = (8 * ((y 0).val / 1024) + 4 * ((y 1).val / 1024) + 3) / 4 % 2 * 1024 + _; omega
  rw [e]
  exact View.emb_mem_set _ _

/-- The array after the run. -/
theorem final : (dats m 0 c).arrAt 2 cfg0.N = value (Aa m c) (Ba m c) := by
  obtain ⟨G, hG⟩ : ∃ G, G = value (Aa m c) (Ba m c) := ⟨_, rfl⟩
  rw [← hG]
  refine (dats m 0 c).arrAt_eq_of_cover 2 G (fun t hf => ?_) cover
  rw [Cert.Kernel13Ideal.Value.flushed2]
  obtain ⟨_, _, e0, e1⟩ := idx_facts t
  funext (z : S1024x1024.Idx)
  rw [show z = ix2 (z 0) (z 1) from eq_ix2 z]
  refine (out m c t ((flush0_2 t).mp hf) (z 0) (z 1)).trans ?_
  have e : ((cfg0.win 2).blk t).view.emb (ix2 (z 0) (z 1)) = (ix2 (row t (z 0)) (column t (z 1)) : S2048x2048.Idx) := by
    funext b; apply Fin.ext
    match b with
    | ⟨0, _⟩ =>
      show win0_2.index t (0 : Fin 2) * 1024 + 1 * (z 0).val = 1024 * (t.val / 8) + (z 0).val
      rw [e0]; omega
    | ⟨1, _⟩ =>
      show win0_2.index t (1 : Fin 2) * 1024 + 1 * (z 1).val = 1024 * (t.val / 4 % 2) + (z 1).val
      rw [e1]; omega
  show _ = G (((cfg0.win 2).blk t).view.emb (ix2 (z 0) (z 1)))
  rw [e, hG]
  rfl

end Cert.Kernel13Ideal.DownFwd

end
-- ==== Proof.DownFwd.Result.lean ====
module

public import proofs.«01_k».proof.Defs
public import proofs.«01_k».proof.Proof.Gen.Reference13Ideal.Run
public import proofs.«01_k».proof.Proof.Gen.Reference13Ideal.Read
public import proofs.«01_k».proof.Proof.DownFwd.Array

/-! # The MLP's output: the reference's value, and the two programs' equality -/

@[expose] public section

noncomputable section

namespace Cert.Reference13Ideal.DownFwd

open Cert.Reference13Ideal Cert.Reference13Ideal.Gen Cert.Reference13Ideal.Read Cert.Product Cert.Kernel13Ideal.DownFwd
open Idealize.ShloMosaic Idealize.ShloMosaic.ValueIdx Idealize.SL.Sem
open scoped BigOperators

/-- The squared positive part, at an element. -/
theorem square_apply (x : FVec Ideal S2048x8192 .bf16) (j : S2048x8192.Idx) : val_main_v3 (F := Ideal) x j = relu2 (x j) := by
  show max (x j) (Ideal.ofBits .f32 0x00000000#32) * max (x j) (Ideal.ofBits .f32 0x00000000#32) = relu2 (x j)
  rw [Ideal.ofBits_zero_f32]; rfl

/-- What the reference computes. -/
theorem result (x : FVec Ideal S2048x8192 .bf16) (y : FVec Ideal S8192x2048 .bf16) :
    val_main_v4 (F := Ideal) x y = value x y := by
  funext j
  rw [val_main_v4_apply]
  unfold value rowCol
  refine Finset.sum_congr (M := EReal) rfl fun k _ => ?_
  exact congrArg₂ (fun a b : EReal => a * b) ((square_apply x _).trans (congrArg (fun i => relu2 (x i)) (funext fun b => by fin_cases b <;> rfl))) (congrArg y (funext fun b => by fin_cases b <;> rfl))

/-- The reference runs, leaves its arguments alone and declares no semaphore. -/
theorem frame : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The two programs end with the same array. -/
theorem algebraic : Cert.algebraic_Kernel13Ideal_Reference13Ideal := by
  intro m g m' g' _ hargs
  refine ⟨fun c => value (Aa m c) (Ba m c), ?_, ?_⟩
  · refine (θ_run Cert.Kernel13Ideal.defs _ _).mono (fun r h c => ?_) (Cert.Kernel13Ideal.Value.run_blocks (F := Ideal) m g)
    obtain ⟨e, k⟩ := h c
    exact ⟨e.trans (final m c), k⟩
  · refine (θ_run Cert.Reference13Ideal.defs _ _).mono (fun r h c => ?_) (Cert.Reference13Ideal.Value.run (F := Ideal) m' g')
    obtain ⟨e, k⟩ := h c
    obtain ⟨a0, a1⟩ := hargs c
    refine ⟨e.trans ?_, k⟩
    refine (val_main_v4_eq _ _).trans ?_
    rw [a0, a1]
    exact result _ _

end Cert.Reference13Ideal.DownFwd

end
-- ==== Proof.OutFwd.Array.lean ====
module

public import proofs.«01_k».proof.Proof.Gen.Kernel14Ideal.Value
public import proofs.«01_k».proof.Proof.Product.Basic
public import proofs.«01_k».proof.Proof.Blocks

/-! # The output product: the result array after the run

Point `t = 2 i + j` of the grid multiplies row block `i` by column block `j`, each 1024 by 1024 of the result, over the
whole contraction, and writes the block back at once. -/

@[expose] public section

noncomputable section

namespace Cert.Kernel14Ideal.OutFwd

open Cert.Kernel14Ideal Cert.Kernel14Ideal.Gen Cert.Product Cert.Blocks Idealize.ShloMosaic Idealize.ShloMosaic.TcCoe Idealize.ShloMosaic.ValueIdx
open scoped BigOperators

/-- The output product: the input of the product times the output weight, rows by columns. -/
def value (x : Mat 2048 2048) (y : Mat 2048 2048) : Mat 2048 2048 := fun j => rowCol x y (j 0) (j 1)

/-- What one point stores, at an element. -/
theorem block_apply (x0 : FVec Ideal S1024x2048 .bf16) (x1 : FVec Ideal S2048x1024 .bf16) (r : Fin 1024) (s : Fin 1024) :
    (out0_2 (F := Ideal) x0 x1 : FVec Ideal S1024x1024 .f32) (ix2 r s) = rowCol x0 x1 r s := by
  unfold out0_2
  rw [View.canon_cons_unit_zero (S := S1024x1024) zero_offsets]
  simp only [View.ld_unit_zero (S := S1024x2048) zero_offsets, View.ld_unit_zero (S := S2048x1024) zero_offsets]
  unfold k0_pay1
  exact (matmul_rowCol dot_S1024x2048_S2048x1024_S1024x1024_1_0_0_1_n_n rfl rfl (fun _ _ => rfl) (fun _ _ => rfl) (fun _ _ => rfl) (fun _ _ => rfl) x0 x1 r s)

variable (m : (ℓ : Loc nD τ sig) → Buf (Elt Ideal) ℓ) (c : Dev nD)

/-- The arguments. -/
abbrev Aa : FVec Ideal S2048x2048 .bf16 := m ((c : Thread nD τ).loc main_arg0)
abbrev Ba : FVec Ideal S2048x2048 .bf16 := m ((c : Thread nD τ).loc main_arg1)

/-- The windows' block indices at a point. -/
theorem idx_facts : ∀ t : Fin cfg0.N,
    (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2) :=
  (by decide +kernel : ∀ t : Fin grid0.N, _)

theorem t_lt (t : Fin cfg0.N) : t.val < 4 := lt_of_lt_of_eq t.isLt (show cfg0.N = 4 from N_0)

/-- The result's row and column at a point's block. -/
def row (t : Fin cfg0.N) (r : Fin 1024) : Fin 2048 := ⟨1024 * (t.val / 2) + r.val, by have := t_lt t; omega⟩
def column (t : Fin cfg0.N) (s : Fin 1024) : Fin 2048 := ⟨1024 * (t.val % 2) + s.val, by have := t_lt t; omega⟩

theorem a_block (t : Fin cfg0.N) (r : Fin 1024) (k : Fin 2048) :
    (iblk m c 0 t : FVec Ideal S1024x2048 .bf16) (ix2 r k) = Aa m c (ix2 (row t r) k) := by
  obtain ⟨⟨e0, e1⟩, _⟩ := idx_facts t
  show V m c main_arg0 (((cfg0.win 0).blk t).view.emb _) = _
  refine congrArg (Aa m c) (funext fun b => Fin.ext ?_)
  match b with
  | ⟨0, _⟩ =>
    show win0_0.index t (0 : Fin 2) * 1024 + 1 * r.val = 1024 * (t.val / 2) + r.val
    rw [e0]; omega
  | ⟨1, _⟩ =>
    show win0_0.index t (1 : Fin 2) * 2048 + 1 * k.val = k.val
    rw [e1]; omega

theorem b_block (t : Fin cfg0.N) (k : Fin 2048) (s : Fin 1024) :
    (iblk m c 1 t : FVec Ideal S2048x1024 .bf16) (ix2 k s) = Ba m c (ix2 k (column t s)) := by
  obtain ⟨_, ⟨e0, e1⟩, _⟩ := idx_facts t
  show V m c main_arg1 (((cfg0.win 1).blk t).view.emb _) = _
  refine congrArg (Ba m c) (funext fun b => Fin.ext ?_)
  match b with
  | ⟨0, _⟩ =>
    show win0_1.index t (0 : Fin 2) * 2048 + 1 * k.val = k.val
    rw [e0]; omega
  | ⟨1, _⟩ =>
    show win0_1.index t (1 : Fin 2) * 1024 + 1 * s.val = 1024 * (t.val % 2) + s.val
    rw [e1]; omega

/-- One point's block is its part of the output product. -/
theorem point (t : Fin cfg0.N) (r : Fin 1024) (s : Fin 1024) :
    (out0_2 (F := Ideal) (iblk m c 0 t) (iblk m c 1 t) : FVec Ideal S1024x1024 .f32) (ix2 r s)
      = rowCol (Aa m c) (Ba m c) (row t r) (column t s) :=
  (block_apply (iblk m c 0 t) (iblk m c 1 t) r s).trans
    (Finset.sum_congr rfl fun k _ => congrArg₂ (· * ·) (a_block m c t r k) (b_block m c t k s))

/-- Every element lies in some point's block. -/
theorem cover (y : S2048x2048.Idx) : ∃ t : Fin cfg0.N, (cfg0.win 2).flush t = true ∧ y ∈ ((cfg0.win 2).blk t).view.set := by
  have h0 : (y 0).val < 2048 := (y 0).isLt
  have h1 : (y 1).val < 2048 := (y 1).isLt
  have hN : cfg0.N = 4 := N_0
  let t : Fin cfg0.N := ⟨2 * ((y 0).val / 1024) + (y 1).val / 1024, by omega⟩
  obtain ⟨_, _, e0, e1⟩ := idx_facts t
  refine ⟨t, flush0_2 t, ?_⟩
  have e : y = ((cfg0.win 2).blk t).view.emb (ix2 (⟨(y 0).val % 1024, by omega⟩ : Fin 1024) (⟨(y 1).val % 1024, by omega⟩ : Fin 1024)) := by
    funext b; apply Fin.ext
    match b with
    | ⟨0, _⟩ =>
      show (y 0).val = win0_2.index t (0 : Fin 2) * 1024 + 1 * ((y 0).val % 1024)
      rw [e0]; show _ = (2 * ((y 0).val / 1024) + (y 1).val / 1024) / 2 * 1024 + _; omega
    | ⟨1, _⟩ =>
      show (y 1).val = win0_2.index t (1 : Fin 2) * 1024 + 1 * ((y 1).val % 1024)
      rw [e1]; show _ = (2 * ((y 0).val / 1024) + (y 1).val / 1024) % 2 * 1024 + _; omega
  rw [e]
  exact View.emb_mem_set _ _

/-- The array after the run. -/
theorem final : (dats m 0 c).arrAt 2 cfg0.N = value (Aa m c) (Ba m c) := by
  refine (dats m 0 c).arrAt_eq_of_cover 2 (value (Aa m c) (Ba m c)) (fun t _ => ?_) cover
  rw [Cert.Kernel14Ideal.Value.flushed2]
  obtain ⟨_, _, e0, e1⟩ := idx_facts t
  funext (z : S1024x1024.Idx)
  rw [show z = ix2 (z 0) (z 1) from eq_ix2 z]
  refine (point m c t (z 0) (z 1)).trans ?_
  have e : ((cfg0.win 2).blk t).view.emb (ix2 (z 0) (z 1)) = (ix2 (row t (z 0)) (column t (z 1)) : S2048x2048.Idx) := by
    funext b; apply Fin.ext
    match b with
    | ⟨0, _⟩ =>
      show win0_2.index t (0 : Fin 2) * 1024 + 1 * (z 0).val = 1024 * (t.val / 2) + (z 0).val
      rw [e0]; omega
    | ⟨1, _⟩ =>
      show win0_2.index t (1 : Fin 2) * 1024 + 1 * (z 1).val = 1024 * (t.val % 2) + (z 1).val
      rw [e1]; omega
  show _ = value (Aa m c) (Ba m c) (((cfg0.win 2).blk t).view.emb (ix2 (z 0) (z 1)))
  rw [e]
  rfl

end Cert.Kernel14Ideal.OutFwd

end
-- ==== Proof.OutFwd.Result.lean ====
module

public import proofs.«01_k».proof.Defs
public import proofs.«01_k».proof.Proof.Gen.Reference14Ideal.Run
public import proofs.«01_k».proof.Proof.Gen.Reference14Ideal.Read
public import proofs.«01_k».proof.Proof.OutFwd.Array

/-! # The output product: the reference's value, and the two programs' equality -/

@[expose] public section

noncomputable section

namespace Cert.Reference14Ideal.OutFwd

open Cert.Reference14Ideal Cert.Reference14Ideal.Gen Cert.Reference14Ideal.Read Cert.Product Cert.Kernel14Ideal.OutFwd
open Idealize.ShloMosaic Idealize.ShloMosaic.ValueIdx Idealize.SL.Sem
open scoped BigOperators

/-- What the reference computes. -/
theorem result (x : FVec Ideal S2048x2048 .bf16) (y : FVec Ideal S2048x2048 .bf16) :
    val_main_v2 (F := Ideal) x y = value x y := by
  funext j
  show val_main_v2 (F := Ideal) x y j = _
  rw [val_main_v2_apply]
  unfold value rowCol
  refine Finset.sum_congr (M := EReal) rfl fun k _ => ?_
  exact congrArg₂ (fun a b : EReal => a * b) (congrArg x (funext fun b => by fin_cases b <;> rfl)) (congrArg y (funext fun b => by fin_cases b <;> rfl))

/-- The reference runs, leaves its arguments alone and declares no semaphore. -/
theorem frame : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The two programs end with the same array. -/
theorem algebraic : Cert.algebraic_Kernel14Ideal_Reference14Ideal := by
  intro m g m' g' _ hargs
  refine ⟨fun c => value (Aa m c) (Ba m c), ?_, ?_⟩
  · refine (θ_run Cert.Kernel14Ideal.defs _ _).mono (fun r h c => ?_) (Cert.Kernel14Ideal.Value.run_blocks (F := Ideal) m g)
    obtain ⟨e, k⟩ := h c
    exact ⟨e.trans (final m c), k⟩
  · refine (θ_run Cert.Reference14Ideal.defs _ _).mono (fun r h c => ?_) (Cert.Reference14Ideal.Value.run (F := Ideal) m' g')
    obtain ⟨e, k⟩ := h c
    obtain ⟨a0, a1⟩ := hargs c
    refine ⟨e.trans ?_, k⟩
    refine (val_main_v2_eq _ _).trans ?_
    rw [a0, a1]
    exact result _ _

end Cert.Reference14Ideal.OutFwd

end
-- ==== Proof.AttnFwd.Block.lean ====
module

public import proofs.«01_k».proof.Proof.Gen.Kernel15Ideal.Value
public import proofs.«01_k».proof.Proof.Attn.Entry

/-! # The attention: what one grid point computes

A point holds 256 query rows of one key/value head's four query heads. For each query head it stores the unnormalised
weights' product with the values, each row scaled by the reciprocal of its weights' sum. -/

@[expose] public section

noncomputable section

namespace Cert.Kernel15Ideal.AttnFwd

open Cert.Kernel15Ideal Cert.Kernel15Ideal.Gen Cert.Softmax Cert.Blocks Idealize.ShloMosaic Idealize.ShloMosaic.TcCoe Idealize.ShloMosaic.ValueIdx
open Cert.KernelIdeal.Attn (head ld_head rowDot dot_apply spread128_apply e_apply inv_apply)
open scoped BigOperators

variable (k v : FVec Ideal S2304x128 .bf16) (q : FVec Ideal S256x128 .bf16)

/-- The second and the fourth head's stores compute the first's function, and so does the third's. -/
theorem store2 : k0_pay6 (F := Ideal) v (k0_pay4 k q) (k0_pay5 k q) (constant S256x128 .f32 0x00000000#32) = k0_pay2 k v q := rfl
theorem store3 : k0_pay7 (F := Ideal) k v q = k0_pay2 k v q := rfl
theorem store4 : k0_pay1 (F := Ideal) v (k0_pay9 k q) (k0_pay10 k q) (constant S256x128 .f32 0x00000000#32) = k0_pay2 k v q := rfl

/-- The weights and the reciprocals are the gradient kernel's. -/
theorem weights_eq : k0_pay3 (F := Ideal) k q = Cert.KernelIdeal.Gen.k0_pay3 (F := Ideal) k q := rfl
theorem inv_eq : k0_pay4 (F := Ideal) k q = Cert.KernelIdeal.Gen.k0_pay4 (F := Ideal) k q := rfl

/-- A head's output at an element. -/
theorem out_apply (r : Fin 256) (a : Fin 128) :
    k0_pay2 (F := Ideal) k v q (ix2 r a) = (∑ j : Fin 2304, wK D (rowDot q k r) j * v (ix2 j a)) * iK D (rowDot q k r) := by
  rw [← store2, inv_eq]
  unfold k0_pay6 k0_pay5
  rw [weights_eq]
  show matmul (F := Ideal) (φ₁ := .bf16) (φ₂ := .bf16) Cert.KernelIdeal.dot_S256x2304_S2304x128_S256x128_1_0_0_1_n_n none (Cert.KernelIdeal.Gen.k0_pay3 (F := Ideal) k q : FVec Ideal S256x2304 .bf16) v (constant S256x128 .f32 0x00000000#32) (ix2 r a) * broadcastTo S256x128 (Cert.KernelIdeal.Gen.k0_pay4 (F := Ideal) k q) _ (ix2 r a) = _
  rw [dot_apply, spread128_apply, inv_apply]
  exact congrArg (fun z : EReal => z * iK D (rowDot q k r)) (Finset.sum_congr rfl fun j _ => by rw [e_apply])

variable (x0 : FVec Ideal S256x512 .bf16) (x1 x2 : FVec Ideal S2304x128 .bf16)

/-- The point's output block: column `128 g + a` is column `a` of head `g`. -/
def outBlock : FVec Ideal S256x512 .bf16 := fun y =>
  k0_pay2 (F := Ideal) x1 x2 (head (F := Ideal) (φ := .bf16) x0 ⟨(y 1).val / 128, by have : (y 1).val < 512 := (y 1).isLt; omega⟩)
    (ix2 (⟨(y 0).val, (y 0).isLt⟩ : Fin 256) (⟨(y 1).val % 128, Nat.mod_lt _ (by decide)⟩ : Fin 128))

/-- Head `g`'s store is the columns `128 g …` of the block. -/
theorem out_piece (g : Fin 4) {o : Nat} (ho : o = 128 * g.val)
    (inb : ∀ a, (![0, o] : Fin 2 → Nat) a + S256x128.size a ≤ S256x512.size a) (x : S256x128.Idx) :
    k0_pay2 (F := Ideal) x1 x2 (head (F := Ideal) (φ := .bf16) x0 g) x
      = outBlock x0 x1 x2 ((Rect.unit (s := S256x512) ![0, o] S256x128.size inb).emb x) := by
  subst ho
  have hx : (x 1).val < 128 := (x 1).isLt
  have hv : (((Rect.unit (s := S256x512) ![0, 128 * g.val] S256x128.size inb).emb x) 1).val = 128 * g.val + (x 1).val := by
    show 128 * g.val + 1 * (x 1).val = _
    omega
  unfold outBlock
  have hg : (⟨(((Rect.unit (s := S256x512) ![0, 128 * g.val] S256x128.size inb).emb x) 1).val / 128, by omega⟩ : Fin 4) = g :=
    Fin.ext (by show _ / 128 = g.val; rw [hv]; omega)
  rw [hg]
  refine congrArg (k0_pay2 (F := Ideal) x1 x2 (head (F := Ideal) (φ := .bf16) x0 g)) (funext fun a => Fin.ext ?_)
  match a with
  | ⟨0, _⟩ => show (x 0).val = 0 + 1 * (x 0).val; omega
  | ⟨1, _⟩ => show (x 1).val = (((Rect.unit (s := S256x512) ![0, 128 * g.val] S256x128.size inb).emb x) 1).val % 128; rw [hv]; omega

/-- What the output buffer holds after a point. -/
theorem buffer : out0_3 (F := Ideal) x0 x1 x2 = outBlock x0 x1 x2 := by
  funext y
  unfold out0_3
  refine View.canon_apply_of_pieces (Val := Elt Ideal) (outBlock x0 x1 x2) _ ?_ y (cover0_3 _ _ _ _ y)
  intro p hp
  simp only [List.mem_cons, List.mem_nil_iff, or_false] at hp
  have whole : ∀ z : Vec Ideal S2304x128 .bf16, View.ld z r0_0 = z := fun z =>
    View.ld_unit_zero (S := S2304x128) zero_offsets inb_S2304x128_S2304x128_0_0 z
  rcases hp with rfl | rfl | rfl | rfl
  · intro x
    show k0_pay1 (F := Ideal) _ (k0_pay9 _ _) (k0_pay10 _ _) _ x = _
    rw [store4, whole, whole]
    exact (congrFun (congrArg (k0_pay2 (F := Ideal) x1 x2) (ld_head (F := Ideal) (φ := .bf16) (o := 384) x0 3 rfl inb_S256x512_S256x128_0_384)) x).trans (out_piece x0 x1 x2 3 rfl inb_S256x512_S256x128_0_384 x)
  · intro x
    show k0_pay7 (F := Ideal) _ _ _ x = _
    rw [store3, whole, whole]
    exact (congrFun (congrArg (k0_pay2 (F := Ideal) x1 x2) (ld_head (F := Ideal) (φ := .bf16) (o := 256) x0 2 rfl inb_S256x512_S256x128_0_256)) x).trans (out_piece x0 x1 x2 2 rfl inb_S256x512_S256x128_0_256 x)
  · intro x
    show k0_pay6 (F := Ideal) _ (k0_pay4 _ _) (k0_pay5 _ _) _ x = _
    rw [store2, whole, whole]
    exact (congrFun (congrArg (k0_pay2 (F := Ideal) x1 x2) (ld_head (F := Ideal) (φ := .bf16) (o := 128) x0 1 rfl inb_S256x512_S256x128_0_128)) x).trans (out_piece x0 x1 x2 1 rfl inb_S256x512_S256x128_0_128 x)
  · intro x
    show k0_pay2 (F := Ideal) _ _ _ x = _
    rw [whole, whole]
    exact (congrFun (congrArg (k0_pay2 (F := Ideal) x1 x2) (ld_head (F := Ideal) (φ := .bf16) (o := 0) x0 0 rfl inb_S256x512_S256x128_0_0)) x).trans (out_piece x0 x1 x2 0 rfl inb_S256x512_S256x128_0_0 x)

end Cert.Kernel15Ideal.AttnFwd

end
-- ==== Proof.AttnFwd.Array.lean ====
module

public import proofs.«01_k».proof.Proof.AttnFwd.Block

/-! # The attention's output array after the run

Point `t = 8 h + i` reads query rows `256 i …` of head `h`'s four query heads and all of `k`, `v` of head `h`. -/

@[expose] public section

noncomputable section

namespace Cert.Kernel15Ideal.AttnFwd

open Cert.Kernel15Ideal Cert.Kernel15Ideal.Gen Cert.Softmax Idealize.ShloMosaic Idealize.ShloMosaic.TcCoe Idealize.ShloMosaic.ValueIdx
open Cert.KernelIdeal.Attn (head rowDot)
open scoped BigOperators

/-- The output of query head `(h, g)` at row `n`, column `a`. -/
def outAt (Q : QArr) (K V : KArr) (h g : Fin 4) (n : Fin 2048) (a : Fin 128) : EReal :=
  (∑ j : Fin 2304, wK D (scores Q K h g n) j * V (ix2 j (kcol h a))) * iK D (scores Q K h g n)

/-- The output array. -/
def value (Q : QArr) (K V : KArr) : QArr := fun y =>
  outAt Q K V ⟨(y 1).val / 512, by have := idx2_lt1 y; omega⟩ ⟨(y 1).val % 512 / 128, by omega⟩
    ⟨(y 0).val, idx2_lt0 y⟩ ⟨(y 1).val % 128, Nat.mod_lt _ (by decide)⟩

variable (m : (ℓ : Loc nD τ sig) → Buf (Elt Ideal) ℓ) (c : Dev nD)

/-- The arguments. -/
abbrev Qa : FVec Ideal S2048x2048 .bf16 := m ((c : Thread nD τ).loc main_arg0)
abbrev Ka : FVec Ideal S2304x512 .bf16 := m ((c : Thread nD τ).loc main_arg1)
abbrev Va : FVec Ideal S2304x512 .bf16 := m ((c : Thread nD τ).loc main_arg2)

/-- The windows' block indices at a point. -/
theorem idx_facts : ∀ t : Fin cfg0.N,
    (win0_0.index t (0 : Fin 2) = t.val % 8 ∧ win0_0.index t (1 : Fin 2) = t.val / 8)
    ∧ (win0_1.index t (0 : Fin 2) = 0 ∧ win0_1.index t (1 : Fin 2) = t.val / 8)
    ∧ (win0_2.index t (0 : Fin 2) = 0 ∧ win0_2.index t (1 : Fin 2) = t.val / 8)
    ∧ (win0_3.index t (0 : Fin 2) = t.val % 8 ∧ win0_3.index t (1 : Fin 2) = t.val / 8) :=
  (by decide +kernel : ∀ t : Fin grid0.N, _)

theorem t_lt (t : Fin cfg0.N) : t.val < 32 := lt_of_lt_of_eq t.isLt (show cfg0.N = 32 from N_0)

/-- The head a point works on. -/
def hd (t : Fin cfg0.N) : Fin 4 := ⟨t.val / 8, by have := t_lt t; omega⟩

theorem q_block (t : Fin cfg0.N) (g : Fin 4) (r : Fin 256) (a : Fin 128) :
    head (F := Ideal) (φ := .bf16) (iblk m c 0 t) g (ix2 r a) = Qa m c (ix2 (qrow (t.val % 8) r) (qcol (hd t) g a)) := by
  obtain ⟨⟨e0, e1⟩, _⟩ := idx_facts t
  show V m c main_arg0 (((cfg0.win 0).blk t).view.emb _) = _
  refine congrArg (Qa m c) (funext fun b => Fin.ext ?_)
  match b with
  | ⟨0, _⟩ =>
    show win0_0.index t (0 : Fin 2) * 256 + 1 * r.val = (256 * (t.val % 8) + r.val) % 2048
    rw [e0]; omega
  | ⟨1, _⟩ =>
    show win0_0.index t (1 : Fin 2) * 512 + 1 * (128 * g.val + a.val) = 512 * (t.val / 8) + 128 * g.val + a.val
    rw [e1]; omega

theorem k_block (t : Fin cfg0.N) (j : Fin 2304) (a : Fin 128) :
    (iblk m c 1 t : FVec Ideal S2304x128 .bf16) (ix2 j a) = Ka m c (ix2 j (kcol (hd t) a)) := by
  obtain ⟨_, ⟨e0, e1⟩, _⟩ := idx_facts t
  show V m c main_arg1 (((cfg0.win 1).blk t).view.emb _) = _
  refine congrArg (Ka m c) (funext fun b => Fin.ext ?_)
  match b with
  | ⟨0, _⟩ => show win0_1.index t (0 : Fin 2) * 2304 + 1 * j.val = j.val; rw [e0]; omega
  | ⟨1, _⟩ => show win0_1.index t (1 : Fin 2) * 128 + 1 * a.val = 128 * (t.val / 8) + a.val; rw [e1]; omega

theorem v_block (t : Fin cfg0.N) (j : Fin 2304) (a : Fin 128) :
    (iblk m c 2 t : FVec Ideal S2304x128 .bf16) (ix2 j a) = Va m c (ix2 j (kcol (hd t) a)) := by
  obtain ⟨_, _, ⟨e0, e1⟩, _⟩ := idx_facts t
  show V m c main_arg2 (((cfg0.win 2).blk t).view.emb _) = _
  refine congrArg (Va m c) (funext fun b => Fin.ext ?_)
  match b with
  | ⟨0, _⟩ => show win0_2.index t (0 : Fin 2) * 2304 + 1 * j.val = j.val; rw [e0]; omega
  | ⟨1, _⟩ => show win0_2.index t (1 : Fin 2) * 128 + 1 * a.val = 128 * (t.val / 8) + a.val; rw [e1]; omega

theorem score_rows (t : Fin cfg0.N) (g : Fin 4) (r : Fin 256) :
    rowDot (head (F := Ideal) (φ := .bf16) (iblk m c 0 t) g) (iblk m c 1 t) r
      = scores (Qa m c) (Ka m c) (hd t) g (qrow (t.val % 8) r) := by
  funext j
  exact Finset.sum_congr rfl fun a _ => congrArg₂ (· * ·) (q_block m c t g r a) (k_block m c t j a)

/-- A point's output block at an element. -/
theorem out_point (t : Fin cfg0.N) (r : Fin 256) (x : Fin 512) :
    outBlock (iblk m c 0 t) (iblk m c 1 t) (iblk m c 2 t) (ix2 r x)
      = outAt (Qa m c) (Ka m c) (Va m c) (hd t) ⟨x.val / 128, by omega⟩ (qrow (t.val % 8) r) ⟨x.val % 128, Nat.mod_lt _ (by decide)⟩ := by
  refine (out_apply _ _ _ r _).trans ?_
  unfold outAt
  rw [score_rows]
  refine congrArg (fun z : EReal => z * _) (Finset.sum_congr rfl fun j _ => ?_)
  exact congrArg _ (v_block m c t j _)

/-- The array after the run. -/
theorem final : (dats m 0 c).arrAt 3 cfg0.N = value (Qa m c) (Ka m c) (Va m c) := by
  refine (dats m 0 c).arrAt_eq_of_cover 3 (value (Qa m c) (Ka m c) (Va m c)) (fun t _ => ?_) (fun y => ?_)
  · rw [Cert.Kernel15Ideal.Value.flushed3, buffer]
    obtain ⟨_, _, _, ⟨e0, e1⟩⟩ := idx_facts t
    have ht := t_lt t
    funext (z : S256x512.Idx)
    rw [show z = ix2 (z 0) (z 1) from eq_ix2 z]
    have hz0 : (z 0).val < 256 := (z 0).isLt
    have hz1 : (z 1).val < 512 := (z 1).isLt
    refine (out_point m c t (z 0) (z 1)).trans ?_
    show _ = value (Qa m c) (Ka m c) (Va m c) (((cfg0.win 3).blk t).view.emb (ix2 (z 0) (z 1)))
    have v0 : ((((cfg0.win 3).blk t).view.emb (ix2 (z 0) (z 1)) : S2048x2048.Idx) 0).val = 256 * (t.val % 8) + (z 0).val := by
      show win0_3.index t (0 : Fin 2) * 256 + 1 * (z 0).val = _
      rw [e0]; omega
    have v1 : ((((cfg0.win 3).blk t).view.emb (ix2 (z 0) (z 1)) : S2048x2048.Idx) 1).val = 512 * (t.val / 8) + (z 1).val := by
      show win0_3.index t (1 : Fin 2) * 512 + 1 * (z 1).val = _
      rw [e1]; omega
    unfold value
    congr 1 <;> apply Fin.ext
    · show t.val / 8 = _ / 512; rw [v1]; omega
    · show (z 1).val / 128 = _ % 512 / 128; rw [v1]; omega
    · show (256 * (t.val % 8) + (z 0).val) % 2048 = _; rw [v0]; omega
    · show (z 1).val % 128 = _ % 128; rw [v1]; omega
  · have h0 : (y 0).val < 2048 := (y 0).isLt
    have h1 : (y 1).val < 2048 := (y 1).isLt
    have hN : cfg0.N = 32 := N_0
    let t : Fin cfg0.N := ⟨8 * ((y 1).val / 512) + (y 0).val / 256, by omega⟩
    obtain ⟨_, _, _, ⟨e0, e1⟩⟩ := idx_facts t
    refine ⟨t, flush0_3 t, ?_⟩
    have e : y = ((cfg0.win 3).blk t).view.emb (ix2 (⟨(y 0).val % 256, by omega⟩ : Fin 256) (⟨(y 1).val % 512, by omega⟩ : Fin 512)) := by
      funext b; apply Fin.ext
      match b with
      | ⟨0, _⟩ =>
        show (y 0).val = win0_3.index t (0 : Fin 2) * 256 + 1 * ((y 0).val % 256)
        rw [e0]; show _ = (8 * ((y 1).val / 512) + (y 0).val / 256) % 8 * 256 + _; omega
      | ⟨1, _⟩ =>
        show (y 1).val = win0_3.index t (1 : Fin 2) * 512 + 1 * ((y 1).val % 512)
        rw [e1]; show _ = (8 * ((y 1).val / 512) + (y 0).val / 256) / 8 * 512 + _; omega
    rw [e]
    exact View.emb_mem_set _ _

end Cert.Kernel15Ideal.AttnFwd

end
-- ==== Proof.AttnFwd.Reference.lean ====
module

public import proofs.«01_k».proof.Proof.AttnFwd.Array
public import proofs.«01_k».proof.Proof.Attn.Results
public import proofs.«01_k».proof.Proof.Gen.Reference15Ideal.Run
public import proofs.«01_k».proof.Proof.Gen.Reference15Ideal.Read

/-! # What the reference attention computes, and its equality with the kernel's formula

The reference divides each weight by its row's sum before the product with the values; the kernel multiplies the
product by the sum's reciprocal. For finite scores the reciprocal is a nonnegative real, which multiplies into the sum
whatever the values are. -/

@[expose] public section

noncomputable section

namespace Cert.Reference15Ideal.AttnFwd

open Cert.Reference15Ideal Cert.Reference15Ideal.Facts Cert.Reference15Ideal.Gen Cert.Reference15Ideal.Read Cert.Softmax
open Cert.Kernel15Ideal.AttnFwd (outAt value)
open Idealize.ShloMosaic Idealize.ShloMosaic.ValueIdx
open scoped BigOperators

variable (Q : QArr) (K V : KArr) (h g : Fin 4) (n : Fin 2048) (j : Fin 2304)

/-- An entry of `q` by head. -/
theorem q_apply (a : Fin 128) : val_main_v3 (F := Ideal) Q (ix5 0 n h g a) = Q (ix2 n (qcol h g a)) := by
  rw [val_main_v3_apply]
  refine congrArg Q (funext fun b => ?_)
  have := h.isLt; have := g.isLt; have := a.isLt; have := n.isLt
  fin_cases b
  · exact Fin.ext (by show ((((0 * 2048 + n.val) * 4 + h.val) * 4 + g.val) * 128 + a.val) / 2048 = n.val; omega)
  · exact Fin.ext (by
      show ((((0 * 2048 + n.val) * 4 + h.val) * 4 + g.val) * 128 + a.val) % 2048 = 512 * h.val + 128 * g.val + a.val
      omega)

/-- An entry of `k` by head. -/
theorem k_apply (a : Fin 128) : val_main_v4 (F := Ideal) K (ix4 0 j h a) = K (ix2 j (kcol h a)) := by
  rw [val_main_v4_apply]
  refine congrArg K (funext fun b => ?_)
  have := h.isLt; have := a.isLt; have := j.isLt
  fin_cases b
  · exact Fin.ext (by show (((0 * 2304 + j.val) * 4 + h.val) * 128 + a.val) / 512 = j.val; omega)
  · exact Fin.ext (by show (((0 * 2304 + j.val) * 4 + h.val) * 128 + a.val) % 512 = 128 * h.val + a.val; omega)

/-- An entry of `v` by head. -/
theorem v_apply (a : Fin 128) : val_main_v5 (F := Ideal) V (ix4 0 j h a) = V (ix2 j (kcol h a)) := by
  rw [val_main_v5_apply]
  refine congrArg V (funext fun b => ?_)
  have := h.isLt; have := a.isLt; have := j.isLt
  fin_cases b
  · exact Fin.ext (by show (((0 * 2304 + j.val) * 4 + h.val) * 128 + a.val) / 512 = j.val; omega)
  · exact Fin.ext (by show (((0 * 2304 + j.val) * 4 + h.val) * 128 + a.val) % 512 = 128 * h.val + a.val; omega)

/-- The scaled scores. -/
theorem scaled_apply : val_main_v9 (F := Ideal) Q K (ix5 0 h g n j) = scores Q K h g n j * (D : EReal) := by
  rw [val_main_v9_apply, val_main_v7_apply, val_main_v6_apply, val_main_v8_apply, val_main_cst_apply]
  refine congrArg₂ (fun a b : EReal => a * b) (Finset.sum_congr rfl fun a _ => ?_) Cert.KernelIdeal.Attn.scale_bits
  have el : lidx_main_v6 (idx_main_v7 (ix5 0 h g n j)) a = ix4 0 j h a := by funext b; fin_cases b <;> rfl
  have er : ridx_main_v6 (idx_main_v7 (ix5 0 h g n j)) a = ix5 0 n h g a := by funext b; fin_cases b <;> rfl
  rw [el, er, k_apply, q_apply, mul_comm]

/-- The maximum of a row of scaled scores. -/
theorem top_apply :
    val_main_v10 (F := Ideal) Q K (ix4 0 h g n) = top fun j => scores Q K h g n j * (D : EReal) := by
  have hr : S1x4x4x2048x2304.Reduces [(4 : Fin 5)] S1x4x4x2048 := by decide
  unfold val_main_v10
  refine (Host.reduce_eq_fold_single (FloatOps.maximumf (F := Ideal) (φ := .f32)) _ _ reducesTo_S1x4x4x2048x2304_S1x4x4x2048_d4 hr h_S_ _).trans ?_
  show Finset.univ.fold max (Ideal.ofBits .f32 0xFF800000#32) (val_main_v9 (F := Ideal) Q K ∘ hr.lift (ix4 0 h g n)) = _
  rw [Cert.KernelIdeal.Attn.ninf_bits]
  refine congrArg (Finset.univ.fold max ⊥) (funext fun j => ?_)
  have e : hr.lift (ix4 0 h g n) j = ix5 0 h g n j := by
    funext b
    fin_cases b <;> rfl
  exact (congrArg _ e).trans (scaled_apply Q K h g n j)

/-- The weights. -/
theorem w_apply : val_main_v16 (F := Ideal) Q K (ix5 0 h g n j) = wR D (scores Q K h g n) j := by
  have e : idx_main_v13 (idx_main_v14 (ix5 0 h g n j)) = ix4 0 h g n := by funext b; fin_cases b <;> rfl
  rw [val_main_v16_apply, val_main_v15_apply, val_main_v14_apply, val_main_v13_apply, e, val_main_v12_apply,
    val_main_v11_apply, val_main_cst_1_apply, scaled_apply, top_apply]
  show Ideal.exp (_ - max (Ideal.ofBits .f32 0xFF800000#32) _) = _
  rw [Cert.KernelIdeal.Attn.ninf_bits]
  rfl

/-- The normalised weights. -/
theorem p_apply : val_main_v20 (F := Ideal) Q K (ix5 0 h g n j)
    = Ideal.div (wR D (scores Q K h g n) j) (∑ i, wR D (scores Q K h g n) i) := by
  have e : idx_main_v18 (idx_main_v19 (ix5 0 h g n j)) = ix4 0 h g n := by funext b; fin_cases b <;> rfl
  rw [val_main_v20_apply, val_main_v19_apply, val_main_v18_apply, e, val_main_v17_apply, val_main_cst_2_apply, w_apply]
  have z : FloatOps.ofBits (F := Ideal) FTy.f32 0x00000000#32 = (0 : EReal) := Ideal.ofBits_zero_f32
  refine congrArg (Ideal.div _) ((congrArg₂ (fun a b : EReal => a + b) z (Finset.sum_congr rfl fun i _ => ?_)).trans (zero_add _))
  have ei : idx_main_v17 (ix4 0 h g n) i = ix5 0 h g n i := by funext b; fin_cases b <;> rfl
  rw [ei, w_apply]

/-- The kernel's output at finite scores, whatever the values are. -/
theorem out_eq (hs : ∀ j, ∃ r : ℝ, scores Q K h g n j = r) (a : Fin 128) :
    outAt Q K V h g n a = ∑ j : Fin 2304, V (ix2 j (kcol h a))
      * Ideal.div (wR D (scores Q K h g n) j) (∑ i, wR D (scores Q K h g n) i) := by
  obtain ⟨w, hw, hK, hR⟩ := weights D D_pos (by decide) (scores Q K h g n) hs
  have hl : 0 < ∑ k, w k := Finset.sum_pos (fun k _ => hw k) ⟨⟨0, by decide⟩, Finset.mem_univ _⟩
  unfold outAt iK
  simp only [hK, hR, sum_coe]
  rw [Ideal.div_coe hl.ne', one_mul, mul_comm, real_mul_sum (one_div_pos.2 hl).le]
  refine Finset.sum_congr rfl fun j _ => ?_
  rw [Ideal.div_coe hl.ne', ← mul_assoc, mul_comm]
  exact congrArg _ (mul_comm _ _)

/-- What the reference computes. -/
theorem result (hQ : ∀ y, ∃ r : ℝ, Q y = r) (hK : ∀ y, ∃ r : ℝ, K y = r) :
    val_main_v24 (F := Ideal) Q K V = value Q K V := by
  funext y
  have hy0 := idx2_lt0 y
  have hy1 := idx2_lt1 y
  show val_main_v23 (F := Ideal) Q K V y = _
  rw [val_main_v23_apply, val_main_v22_apply, val_main_v21_apply]
  unfold value
  set h : Fin 4 := ⟨(y 1).val / 512, by omega⟩
  set g : Fin 4 := ⟨(y 1).val % 512 / 128, by omega⟩
  set n : Fin 2048 := ⟨(y 0).val, hy0⟩
  set a : Fin 128 := ⟨(y 1).val % 128, Nat.mod_lt _ (by decide)⟩
  have e : idx_main_v22 (idx_main_v23 y) = ix5 0 h a g n := by
    funext b
    fin_cases b
    · rfl
    · exact Fin.ext (by show ((y 0).val * 2048 + (y 1).val) / 512 % 4 = (y 1).val / 512; omega)
    · exact Fin.ext (by show ((y 0).val * 2048 + (y 1).val) % 128 = (y 1).val % 128; omega)
    · exact Fin.ext (by show ((y 0).val * 2048 + (y 1).val) / 128 % 4 = (y 1).val % 512 / 128; omega)
    · exact Fin.ext (by show ((y 0).val * 2048 + (y 1).val) / 2048 % 2048 = (y 0).val; omega)
  rw [e, out_eq Q K V h g n (fun j => Cert.ReferenceIdeal.Attn.scores_real Q K h g n j hQ hK)]
  refine Finset.sum_congr rfl fun j _ => ?_
  have el : lidx_main_v21 (ix5 0 h a g n) j = ix4 0 j h a := by funext b; fin_cases b <;> rfl
  have er : ridx_main_v21 (ix5 0 h a g n) j = ix5 0 h g n j := by funext b; fin_cases b <;> rfl
  rw [el, er, v_apply, p_apply]

end Cert.Reference15Ideal.AttnFwd

end
-- ==== Proof.AttnFwd.Finite.lean ====
module

public import proofs.«01_k».proof.Proof.Attn.Finite

/-! # The attention's precondition: every entry of `q` and `k` is a real number -/

@[expose] public section

noncomputable section

namespace Cert.AttnFwd

open Idealize.ShloMosaic Idealize.ShloMosaic.ValueIdx

/-- The scalar bound spreads over either array. -/
instance preFacts : Cert.Pre_finite_qk_fwd.Facts where
  bcast_S_S2048x2048 := by decide
  bcast_S_S2304x512 := by decide

variable (q : FVec Ideal Cert.Pre_finite_qk_fwd.S2048x2048 .bf16) (k v : FVec Ideal Cert.Pre_finite_qk_fwd.S2304x512 .bf16)

theorem q_real (h : (Cert.Pre_finite_qk_fwd.fn (F := Ideal) q k v).1 = fun _ => 1#1) (y) : ∃ r : ℝ, q y = r := by
  refine Cert.Attn.real_of_abs _ ?_
  have e := congrFun h y
  rw [← Cert.Attn.inf_bits]
  exact e

theorem k_real (h : (Cert.Pre_finite_qk_fwd.fn (F := Ideal) q k v).2 = fun _ => 1#1) (y) : ∃ r : ℝ, k y = r := by
  refine Cert.Attn.real_of_abs _ ?_
  have e := congrFun h y
  rw [← Cert.Attn.inf_bits]
  exact e

end Cert.AttnFwd

end
-- ==== Proof.AttnFwd.Result.lean ====
module

public import proofs.«01_k».proof.Defs
public import proofs.«01_k».proof.Proof.AttnFwd.Reference
public import proofs.«01_k».proof.Proof.AttnFwd.Finite

/-! # The attention: the two programs' equality for finite `q` and `k` -/

@[expose] public section

noncomputable section

namespace Cert.Reference15Ideal.AttnFwd

open Cert.Reference15Ideal.Read Cert.Kernel15Ideal.AttnFwd Idealize.ShloMosaic Idealize.SL.Sem

/-- The reference runs, leaves its arguments alone and declares no semaphore. -/
theorem frame : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The two programs end with the same array. -/
theorem algebraic : Cert.algebraic_Kernel15Ideal_Reference15Ideal_pre_finite_qk_fwd := by
  intro m g m' g' hpre hargs
  refine ⟨fun c => value (Qa m c) (Ka m c) (Va m c), ?_, ?_⟩
  · refine (θ_run Cert.Kernel15Ideal.defs _ _).mono (fun r h c => ?_) (Cert.Kernel15Ideal.Value.run_blocks (F := Ideal) m g)
    obtain ⟨e, k⟩ := h c
    exact ⟨e.trans (final m c), k⟩
  · refine (θ_run Cert.Reference15Ideal.defs _ _).mono (fun r h c => ?_) (Cert.Reference15Ideal.Value.run (F := Ideal) m' g')
    obtain ⟨e, k⟩ := h c
    obtain ⟨a0, a1, a2⟩ := hargs c
    refine ⟨e.trans ?_, k⟩
    refine (val_main_v24_eq _ _ _).trans ?_
    rw [a0, a1, a2]
    exact result _ _ _ (Cert.AttnFwd.q_real _ _ _ (hpre c).1) (Cert.AttnFwd.k_real _ _ _ (hpre c).2)

end Cert.Reference15Ideal.AttnFwd

end
-- ==== Proof.GateGrad.Formula.lean ====
module

public import Idealize.ShloMosaic.Lib.ValueIdx
public import Idealize.ShloMosaic.PureOps.Ideal.Laws

/-! # The logistic gate

The call writes the logistic function through the hyperbolic tangent, the reference through the exponential; the two are
one function on the extended reals. -/

@[expose] public section

noncomputable section

namespace Cert.Gate

open Idealize.ShloMosaic

theorem half_bits : Ideal.ofBits .f32 0x3F000000#32 = ((1 / 2 : ℝ) : EReal) := by
  simp [Ideal.ofBits, Ideal.ieee, ← EReal.coe_mul]
  norm_num

theorem one_bits : Ideal.ofBits .f32 0x3F800000#32 = (1 : EReal) := by
  simp [Ideal.ofBits, Ideal.ieee, ← EReal.coe_mul]
  norm_num

/-- The gate as the call writes it. -/
def gate (x : EReal) : EReal :=
  Ideal.ofBits .f32 0x3F000000#32 * Ideal.tanh (Ideal.ofBits .f32 0x3F000000#32 * x) + Ideal.ofBits .f32 0x3F000000#32

/-- … and as the reference writes it. -/
def logit (x : EReal) : EReal :=
  Ideal.div (Ideal.ofBits .f32 0x3F800000#32) (Ideal.ofBits .f32 0x3F800000#32 + Ideal.exp (-x))

theorem real_gate (r : ℝ) : 1 / 2 * Real.tanh (1 / 2 * r) + 1 / 2 = (1 + Real.exp (-r))⁻¹ := by
  have h : Real.exp (-r) = Real.exp (-(1 / 2 * r)) * Real.exp (-(1 / 2 * r)) := by rw [← Real.exp_add]; congr 1; ring
  have hi : Real.exp (1 / 2 * r) = (Real.exp (-(1 / 2 * r)))⁻¹ := by rw [Real.exp_neg, inv_inv]
  rw [h, Real.tanh_eq_sinh_div_cosh, Real.sinh_eq, Real.cosh_eq, hi]
  have hp := Real.exp_pos (-(1 / 2 * r))
  generalize Real.exp (-(1 / 2 * r)) = e at hp
  field_simp
  ring

theorem gate_eq (x : EReal) : gate x = logit x := by
  unfold gate logit
  rw [half_bits, one_bits]
  show _ = Ideal.logistic x
  induction x using EReal.rec with
  | bot =>
    rw [Ideal.logistic_bot, EReal.coe_mul_bot_of_pos (by norm_num)]
    show ((1 / 2 : ℝ) : EReal) * (-1) + ((1 / 2 : ℝ) : EReal) = 0
    rw [← EReal.coe_one, ← EReal.coe_neg, ← EReal.coe_mul, ← EReal.coe_add]
    norm_num
  | coe r =>
    rw [Ideal.logistic_coe, ← EReal.coe_mul]
    show ((1 / 2 : ℝ) : EReal) * ((Real.tanh (1 / 2 * r) : ℝ) : EReal) + ((1 / 2 : ℝ) : EReal) = _
    rw [← EReal.coe_mul, ← EReal.coe_add, real_gate]
  | top =>
    rw [Ideal.logistic_top, EReal.coe_mul_top_of_pos (by norm_num)]
    show ((1 / 2 : ℝ) : EReal) * 1 + ((1 / 2 : ℝ) : EReal) = 1
    rw [← EReal.coe_one, ← EReal.coe_mul, ← EReal.coe_add]
    norm_num

end Cert.Gate

end
-- ==== Proof.GateGrad.Array.lean ====
module

public import proofs.«01_k».proof.Proof.Gen.Kernel16Ideal.Value
public import proofs.«01_k».proof.Proof.GateGrad.Formula
public import proofs.«01_k».proof.Proof.Product.Basic
public import proofs.«01_k».proof.Proof.Blocks

/-! # The gradient of the two branches' gates: the result arrays after the run

Point `t = i + 8 j` of the grid works on rows `256 i …` and columns `1024 j …`, element by element. -/

@[expose] public section

noncomputable section

namespace Cert.Kernel16Ideal.GateGrad

open Cert.Kernel16Ideal Cert.Kernel16Ideal.Gen Cert.Product Cert.Blocks Cert.Gate Idealize.ShloMosaic Idealize.ShloMosaic.TcCoe Idealize.ShloMosaic.ValueIdx

/-- The first column of a gate's logits in the projections. -/
def logitIdx (off : Fin 7169) (off' : ℕ) (h : off' ≤ 2048) (j : S2048x2048.Idx) : S2304x11264.Idx :=
  ix2 ⟨256 + (j 0).val, by have h0 : (j 0).val < 2048 := (j 0).isLt; show _ < 2304; omega⟩
    ⟨off.val + off' + (j 1).val, by have h1 : (j 1).val < 2048 := (j 1).isLt; have := off.isLt; show _ < 11264; omega⟩

abbrev attnIdx := logitIdx 7168 0 (by omega)
abbrev rnnIdx := logitIdx 7168 2048 (by omega)

/-- The gradient of a branch: the incoming gradient by the branch's gate. -/
def dBranch (f : S2048x2048.Idx → S2304x11264.Idx) (du : FVec Ideal S2048x2048 .f32) (p : FVec Ideal S2304x11264 .f32) :
    FVec Ideal S2048x2048 .bf16 := fun j => (du j : EReal) * logit (p (f j))

/-- The gradient of a gate's logits. -/
def dLogit (f : S2048x2048.Idx → S2304x11264.Idx) (du y : FVec Ideal S2048x2048 .f32) (p : FVec Ideal S2304x11264 .f32) :
    FVec Ideal S2048x2048 .bf16 := fun j =>
  (du j : EReal) * y j * (logit (p (f j)) * (Ideal.ofBits .f32 0x3F800000#32 - logit (p (f j))))

section Block
variable (x0 x1 x2 x3 x4 : FVec Ideal S256x1024 .f32) (z : S256x1024.Idx)

theorem block5 : (out0_5 (F := Ideal) x0 x1 x2 x3 x4 : FVec Ideal S256x1024 .bf16) z = (x0 z : EReal) * logit (x3 z) := by
  unfold out0_5
  rw [View.canon_cons_unit_zero (S := S256x1024) zero_offsets]
  simp only [View.ld_unit_zero (S := S256x1024) zero_offsets]
  exact congrArg ((x0 z : EReal) * ·) (gate_eq (x3 z))

theorem block6 : (out0_6 (F := Ideal) x0 x1 x2 x3 x4 : FVec Ideal S256x1024 .bf16) z = (x0 z : EReal) * logit (x4 z) := by
  unfold out0_6
  rw [View.canon_cons_unit_zero (S := S256x1024) zero_offsets]
  simp only [View.ld_unit_zero (S := S256x1024) zero_offsets]
  exact congrArg ((x0 z : EReal) * ·) (gate_eq (x4 z))

theorem logit_form (a y g : EReal) :
    a * y * gate g * (Ideal.ofBits .f32 0x3F800000#32 - gate g) = a * y * (logit g * (Ideal.ofBits .f32 0x3F800000#32 - logit g)) := by
  rw [gate_eq, mul_assoc (a * y)]

theorem block7 : (out0_7 (F := Ideal) x0 x1 x2 x3 x4 : FVec Ideal S256x1024 .bf16) z
    = (x0 z : EReal) * x1 z * (logit (x3 z) * (Ideal.ofBits .f32 0x3F800000#32 - logit (x3 z))) := by
  unfold out0_7
  rw [View.canon_cons_unit_zero (S := S256x1024) zero_offsets]
  simp only [View.ld_unit_zero (S := S256x1024) zero_offsets]
  exact logit_form (x0 z) (x1 z) (x3 z)

theorem block8 : (out0_8 (F := Ideal) x0 x1 x2 x3 x4 : FVec Ideal S256x1024 .bf16) z
    = (x0 z : EReal) * x2 z * (logit (x4 z) * (Ideal.ofBits .f32 0x3F800000#32 - logit (x4 z))) := by
  unfold out0_8
  rw [View.canon_cons_unit_zero (S := S256x1024) zero_offsets]
  simp only [View.ld_unit_zero (S := S256x1024) zero_offsets]
  exact logit_form (x0 z) (x2 z) (x4 z)

end Block

variable (m : (ℓ : Loc nD τ sig) → Buf (Elt Ideal) ℓ) (c : Dev nD)

/-- The arguments. -/
abbrev Du : FVec Ideal S2048x2048 .f32 := m ((c : Thread nD τ).loc main_arg0)
abbrev Ya : FVec Ideal S2048x2048 .f32 := m ((c : Thread nD τ).loc main_arg1)
abbrev Yr : FVec Ideal S2048x2048 .f32 := m ((c : Thread nD τ).loc main_arg2)
abbrev Pr : FVec Ideal S2304x11264 .f32 := m ((c : Thread nD τ).loc main_arg3)

/-- The windows' block indices at a point. -/
theorem idx_facts : ∀ t : Fin cfg0.N,
    (win0_0.index t (0 : Fin 2) = t.val % 8 ∧ win0_0.index t (1 : Fin 2) = t.val / 8)
    ∧ (win0_1.index t (0 : Fin 2) = t.val % 8 ∧ win0_1.index t (1 : Fin 2) = t.val / 8)
    ∧ (win0_2.index t (0 : Fin 2) = t.val % 8 ∧ win0_2.index t (1 : Fin 2) = t.val / 8)
    ∧ (win0_3.index t (0 : Fin 2) = 1 + t.val % 8 ∧ win0_3.index t (1 : Fin 2) = 7 + t.val / 8)
    ∧ (win0_4.index t (0 : Fin 2) = 1 + t.val % 8 ∧ win0_4.index t (1 : Fin 2) = 9 + t.val / 8)
    ∧ (win0_5.index t (0 : Fin 2) = t.val % 8 ∧ win0_5.index t (1 : Fin 2) = t.val / 8)
    ∧ (win0_6.index t (0 : Fin 2) = t.val % 8 ∧ win0_6.index t (1 : Fin 2) = t.val / 8)
    ∧ (win0_7.index t (0 : Fin 2) = t.val % 8 ∧ win0_7.index t (1 : Fin 2) = t.val / 8)
    ∧ (win0_8.index t (0 : Fin 2) = t.val % 8 ∧ win0_8.index t (1 : Fin 2) = t.val / 8) :=
  (by decide +kernel : ∀ t : Fin grid0.N, _)

theorem t_lt (t : Fin cfg0.N) : t.val < 16 := lt_of_lt_of_eq t.isLt (show cfg0.N = 16 from N_0)

/-- Where a point's block lies in a result. -/
def at_ (t : Fin cfg0.N) (z : S256x1024.Idx) : S2048x2048.Idx :=
  ix2 ⟨256 * (t.val % 8) + (z 0).val, by have := t_lt t; have h0 : (z 0).val < 256 := (z 0).isLt; show _ < 2048; omega⟩
    ⟨1024 * (t.val / 8) + (z 1).val, by have := t_lt t; have h1 : (z 1).val < 1024 := (z 1).isLt; show _ < 2048; omega⟩

theorem du_block (t : Fin cfg0.N) (z : S256x1024.Idx) : (iblk m c 0 t : FVec Ideal S256x1024 .f32) z = Du m c (at_ t z) := by
  obtain ⟨⟨e0, e1⟩, _⟩ := idx_facts t
  show V m c main_arg0 (((cfg0.win 0).blk t).view.emb _) = _
  refine congrArg (Du m c) (funext fun b => Fin.ext ?_)
  match b with
  | ⟨0, _⟩ => show win0_0.index t (0 : Fin 2) * 256 + 1 * (z 0).val = 256 * (t.val % 8) + (z 0).val; rw [e0]; omega
  | ⟨1, _⟩ => show win0_0.index t (1 : Fin 2) * 1024 + 1 * (z 1).val = 1024 * (t.val / 8) + (z 1).val; rw [e1]; omega

theorem ya_block (t : Fin cfg0.N) (z : S256x1024.Idx) : (iblk m c 1 t : FVec Ideal S256x1024 .f32) z = Ya m c (at_ t z) := by
  obtain ⟨_, ⟨e0, e1⟩, _⟩ := idx_facts t
  show V m c main_arg1 (((cfg0.win 1).blk t).view.emb _) = _
  refine congrArg (Ya m c) (funext fun b => Fin.ext ?_)
  match b with
  | ⟨0, _⟩ => show win0_1.index t (0 : Fin 2) * 256 + 1 * (z 0).val = 256 * (t.val % 8) + (z 0).val; rw [e0]; omega
  | ⟨1, _⟩ => show win0_1.index t (1 : Fin 2) * 1024 + 1 * (z 1).val = 1024 * (t.val / 8) + (z 1).val; rw [e1]; omega

theorem yr_block (t : Fin cfg0.N) (z : S256x1024.Idx) : (iblk m c 2 t : FVec Ideal S256x1024 .f32) z = Yr m c (at_ t z) := by
  obtain ⟨_, _, ⟨e0, e1⟩, _⟩ := idx_facts t
  show V m c main_arg2 (((cfg0.win 2).blk t).view.emb _) = _
  refine congrArg (Yr m c) (funext fun b => Fin.ext ?_)
  match b with
  | ⟨0, _⟩ => show win0_2.index t (0 : Fin 2) * 256 + 1 * (z 0).val = 256 * (t.val % 8) + (z 0).val; rw [e0]; omega
  | ⟨1, _⟩ => show win0_2.index t (1 : Fin 2) * 1024 + 1 * (z 1).val = 1024 * (t.val / 8) + (z 1).val; rw [e1]; omega

theorem attn_block (t : Fin cfg0.N) (z : S256x1024.Idx) :
    (iblk m c 3 t : FVec Ideal S256x1024 .f32) z = Pr m c (attnIdx (at_ t z)) := by
  obtain ⟨_, _, _, ⟨e0, e1⟩, _⟩ := idx_facts t
  show V m c main_arg3 (((cfg0.win 3).blk t).view.emb _) = _
  refine congrArg (Pr m c) (funext fun b => Fin.ext ?_)
  match b with
  | ⟨0, _⟩ =>
    show win0_3.index t (0 : Fin 2) * 256 + 1 * (z 0).val = 256 + (256 * (t.val % 8) + (z 0).val)
    rw [e0]; omega
  | ⟨1, _⟩ =>
    show win0_3.index t (1 : Fin 2) * 1024 + 1 * (z 1).val = 7168 + 0 + (1024 * (t.val / 8) + (z 1).val)
    rw [e1]; omega

theorem rnn_block (t : Fin cfg0.N) (z : S256x1024.Idx) :
    (iblk m c 4 t : FVec Ideal S256x1024 .f32) z = Pr m c (rnnIdx (at_ t z)) := by
  obtain ⟨_, _, _, _, ⟨e0, e1⟩, _⟩ := idx_facts t
  show V m c main_arg3 (((cfg0.win 4).blk t).view.emb _) = _
  refine congrArg (Pr m c) (funext fun b => Fin.ext ?_)
  match b with
  | ⟨0, _⟩ =>
    show win0_4.index t (0 : Fin 2) * 256 + 1 * (z 0).val = 256 + (256 * (t.val % 8) + (z 0).val)
    rw [e0]; omega
  | ⟨1, _⟩ =>
    show win0_4.index t (1 : Fin 2) * 1024 + 1 * (z 1).val = 7168 + 2048 + (1024 * (t.val / 8) + (z 1).val)
    rw [e1]; omega

theorem emb5 (t : Fin cfg0.N) (z : S256x1024.Idx) : (((cfg0.win 5).blk t).view.emb z : S2048x2048.Idx) = at_ t z := by
  obtain ⟨_, _, _, _, _, ⟨e0, e1⟩, _⟩ := idx_facts t
  refine funext fun b => Fin.ext ?_
  match b with
  | ⟨0, _⟩ => show win0_5.index t (0 : Fin 2) * 256 + 1 * (z 0).val = 256 * (t.val % 8) + (z 0).val; rw [e0]; omega
  | ⟨1, _⟩ => show win0_5.index t (1 : Fin 2) * 1024 + 1 * (z 1).val = 1024 * (t.val / 8) + (z 1).val; rw [e1]; omega

theorem emb6 (t : Fin cfg0.N) (z : S256x1024.Idx) : (((cfg0.win 6).blk t).view.emb z : S2048x2048.Idx) = at_ t z := by
  obtain ⟨_, _, _, _, _, _, ⟨e0, e1⟩, _⟩ := idx_facts t
  refine funext fun b => Fin.ext ?_
  match b with
  | ⟨0, _⟩ => show win0_6.index t (0 : Fin 2) * 256 + 1 * (z 0).val = 256 * (t.val % 8) + (z 0).val; rw [e0]; omega
  | ⟨1, _⟩ => show win0_6.index t (1 : Fin 2) * 1024 + 1 * (z 1).val = 1024 * (t.val / 8) + (z 1).val; rw [e1]; omega

theorem emb7 (t : Fin cfg0.N) (z : S256x1024.Idx) : (((cfg0.win 7).blk t).view.emb z : S2048x2048.Idx) = at_ t z := by
  obtain ⟨_, _, _, _, _, _, _, ⟨e0, e1⟩, _⟩ := idx_facts t
  refine funext fun b => Fin.ext ?_
  match b with
  | ⟨0, _⟩ => show win0_7.index t (0 : Fin 2) * 256 + 1 * (z 0).val = 256 * (t.val % 8) + (z 0).val; rw [e0]; omega
  | ⟨1, _⟩ => show win0_7.index t (1 : Fin 2) * 1024 + 1 * (z 1).val = 1024 * (t.val / 8) + (z 1).val; rw [e1]; omega

theorem emb8 (t : Fin cfg0.N) (z : S256x1024.Idx) : (((cfg0.win 8).blk t).view.emb z : S2048x2048.Idx) = at_ t z := by
  obtain ⟨_, _, _, _, _, _, _, _, ⟨e0, e1⟩⟩ := idx_facts t
  refine funext fun b => Fin.ext ?_
  match b with
  | ⟨0, _⟩ => show win0_8.index t (0 : Fin 2) * 256 + 1 * (z 0).val = 256 * (t.val % 8) + (z 0).val; rw [e0]; omega
  | ⟨1, _⟩ => show win0_8.index t (1 : Fin 2) * 1024 + 1 * (z 1).val = 1024 * (t.val / 8) + (z 1).val; rw [e1]; omega

/-- Every element of a result lies in some point's block. -/
theorem onto (y : S2048x2048.Idx) : ∃ (t : Fin cfg0.N) (z : S256x1024.Idx), at_ t z = y := by
  have h0 : (y 0).val < 2048 := (y 0).isLt
  have h1 : (y 1).val < 2048 := (y 1).isLt
  have hN : cfg0.N = 16 := N_0
  refine ⟨⟨(y 0).val / 256 + 8 * ((y 1).val / 1024), by omega⟩,
    ix2 (⟨(y 0).val % 256, by omega⟩ : Fin 256) (⟨(y 1).val % 1024, by omega⟩ : Fin 1024), ?_⟩
  refine funext fun b => Fin.ext ?_
  match b with
  | ⟨0, _⟩ => show 256 * (((y 0).val / 256 + 8 * ((y 1).val / 1024)) % 8) + (y 0).val % 256 = (y 0).val; omega
  | ⟨1, _⟩ => show 1024 * (((y 0).val / 256 + 8 * ((y 1).val / 1024)) / 8) + (y 1).val % 1024 = (y 1).val; omega

theorem final5 : (dats m 0 c).arrAt 5 cfg0.N = dBranch attnIdx (Du m c) (Pr m c) := by
  refine (dats m 0 c).arrAt_eq_of_cover 5 (dBranch attnIdx (Du m c) (Pr m c)) (fun t _ => ?_) (fun y => ?_)
  · rw [Cert.Kernel16Ideal.Value.flushed5]
    funext (z : S256x1024.Idx)
    refine (block5 (iblk m c 0 t) (iblk m c 1 t) (iblk m c 2 t) (iblk m c 3 t) (iblk m c 4 t) z).trans ?_
    rw [du_block m c t z, attn_block m c t z]
    exact (congrArg (dBranch attnIdx (Du m c) (Pr m c)) (emb5 t z)).symm
  · obtain ⟨t, z, e⟩ := onto y
    exact ⟨t, flush0_5 t, e ▸ (emb5 t z) ▸ View.emb_mem_set _ _⟩

theorem final6 : (dats m 0 c).arrAt 6 cfg0.N = dBranch rnnIdx (Du m c) (Pr m c) := by
  refine (dats m 0 c).arrAt_eq_of_cover 6 (dBranch rnnIdx (Du m c) (Pr m c)) (fun t _ => ?_) (fun y => ?_)
  · rw [Cert.Kernel16Ideal.Value.flushed6]
    funext (z : S256x1024.Idx)
    refine (block6 (iblk m c 0 t) (iblk m c 1 t) (iblk m c 2 t) (iblk m c 3 t) (iblk m c 4 t) z).trans ?_
    rw [du_block m c t z, rnn_block m c t z]
    exact (congrArg (dBranch rnnIdx (Du m c) (Pr m c)) (emb6 t z)).symm
  · obtain ⟨t, z, e⟩ := onto y
    exact ⟨t, flush0_6 t, e ▸ (emb6 t z) ▸ View.emb_mem_set _ _⟩

theorem final7 : (dats m 0 c).arrAt 7 cfg0.N = dLogit attnIdx (Du m c) (Ya m c) (Pr m c) := by
  refine (dats m 0 c).arrAt_eq_of_cover 7 (dLogit attnIdx (Du m c) (Ya m c) (Pr m c)) (fun t _ => ?_) (fun y => ?_)
  · rw [Cert.Kernel16Ideal.Value.flushed7]
    funext (z : S256x1024.Idx)
    refine (block7 (iblk m c 0 t) (iblk m c 1 t) (iblk m c 2 t) (iblk m c 3 t) (iblk m c 4 t) z).trans ?_
    rw [du_block m c t z, ya_block m c t z, attn_block m c t z]
    exact (congrArg (dLogit attnIdx (Du m c) (Ya m c) (Pr m c)) (emb7 t z)).symm
  · obtain ⟨t, z, e⟩ := onto y
    exact ⟨t, flush0_7 t, e ▸ (emb7 t z) ▸ View.emb_mem_set _ _⟩

theorem final8 : (dats m 0 c).arrAt 8 cfg0.N = dLogit rnnIdx (Du m c) (Yr m c) (Pr m c) := by
  refine (dats m 0 c).arrAt_eq_of_cover 8 (dLogit rnnIdx (Du m c) (Yr m c) (Pr m c)) (fun t _ => ?_) (fun y => ?_)
  · rw [Cert.Kernel16Ideal.Value.flushed8]
    funext (z : S256x1024.Idx)
    refine (block8 (iblk m c 0 t) (iblk m c 1 t) (iblk m c 2 t) (iblk m c 3 t) (iblk m c 4 t) z).trans ?_
    rw [du_block m c t z, yr_block m c t z, rnn_block m c t z]
    exact (congrArg (dLogit rnnIdx (Du m c) (Yr m c) (Pr m c)) (emb8 t z)).symm
  · obtain ⟨t, z, e⟩ := onto y
    exact ⟨t, flush0_8 t, e ▸ (emb8 t z) ▸ View.emb_mem_set _ _⟩

end Cert.Kernel16Ideal.GateGrad

end
-- ==== Proof.GateGrad.Result.lean ====
module

public import proofs.«01_k».proof.Defs
public import proofs.«01_k».proof.Proof.Gen.Reference16Ideal.Run
public import proofs.«01_k».proof.Proof.Gen.Reference16Ideal.Read
public import proofs.«01_k».proof.Proof.GateGrad.Array

/-! # The gradient of the gates: the reference's value, and the two programs' equality -/

@[expose] public section

noncomputable section

namespace Cert.Reference16Ideal.GateGrad

open Cert.Reference16Ideal Cert.Reference16Ideal.Gen Cert.Reference16Ideal.Read Cert.Gate Cert.Kernel16Ideal.GateGrad
open Idealize.ShloMosaic Idealize.ShloMosaic.ValueIdx Idealize.SL.Sem

variable (du y : FVec Ideal S2048x2048 .f32) (p : FVec Ideal S2304x11264 .f32)

theorem attn_logits (j : S2048x2048.Idx) : val_main_v1 (F := Ideal) p j = p (attnIdx j) := by
  rw [val_main_v1_apply, val_main_v0_apply]
  exact congrArg p (funext fun b => Fin.ext (match b with
    | ⟨0, _⟩ => rfl
    | ⟨1, _⟩ => rfl))

theorem rnn_logits (j : S2048x2048.Idx) : val_main_v2 (F := Ideal) p j = p (rnnIdx j) := by
  rw [val_main_v2_apply, val_main_v0_apply]
  exact congrArg p (funext fun b => Fin.ext (match b with
    | ⟨0, _⟩ => rfl
    | ⟨1, _⟩ => (Nat.add_assoc 7168 2048 (j 1).val).symm))

theorem attn_gate (j : S2048x2048.Idx) : val_main_v8 (F := Ideal) p j = logit (p (attnIdx j)) := by
  exact congrArg logit (attn_logits p j)

theorem rnn_gate (j : S2048x2048.Idx) : val_main_v18 (F := Ideal) p j = logit (p (rnnIdx j)) := by
  exact congrArg logit (rnn_logits p j)

/-- The shape is unchanged. -/
theorem same (j : S2048x2048.Idx) : idx_main_v24 j = j := by
  have h0 : (j 0).val < 2048 := (j 0).isLt
  have h1 : (j 1).val < 2048 := (j 1).isLt
  refine funext fun b => Fin.ext ?_
  match b with
  | ⟨0, _⟩ => show ((j 0).val * 2048 + (j 1).val) / 2048 = (j 0).val; omega
  | ⟨1, _⟩ => show ((j 0).val * 2048 + (j 1).val) % 2048 = (j 1).val; omega

theorem du1 (j : S2048x2048.Idx) : val_main_v24 (F := Ideal) du j = du j := by
  rw [val_main_v24_apply]
  exact congrArg du (same j)

theorem du2 (j : S2048x2048.Idx) : val_main_v25 (F := Ideal) du j = du j := by
  rw [val_main_v25_apply]
  exact congrArg du (same j)

theorem result32 : val_main_v32 (F := Ideal) du p = dBranch attnIdx du p := by
  funext j
  show (val_main_v8 (F := Ideal) p j : EReal) * val_main_v24 (F := Ideal) du j = _
  rw [attn_gate, du1, mul_comm]
  rfl

theorem result33 : val_main_v33 (F := Ideal) du p = dBranch rnnIdx du p := by
  funext j
  show (val_main_v18 (F := Ideal) p j : EReal) * val_main_v25 (F := Ideal) du j = _
  rw [rnn_gate, du2, mul_comm]
  rfl

theorem result34 : val_main_v34 (F := Ideal) du y p = dLogit attnIdx du y p := by
  funext j
  show (val_main_v24 (F := Ideal) du j : EReal) * y j
    * ((val_main_v8 (F := Ideal) p j : EReal) * ((Ideal.ofBits .f32 0x3F800000#32 : EReal) - val_main_v8 (F := Ideal) p j)) = _
  rw [attn_gate, du1]
  rfl

theorem result35 : val_main_v35 (F := Ideal) du y p = dLogit rnnIdx du y p := by
  funext j
  show (val_main_v25 (F := Ideal) du j : EReal) * y j
    * ((val_main_v18 (F := Ideal) p j : EReal) * ((Ideal.ofBits .f32 0x3F800000#32 : EReal) - val_main_v18 (F := Ideal) p j)) = _
  rw [rnn_gate, du2]
  rfl

/-- The reference runs, leaves its arguments alone and declares no semaphore. -/
theorem frame : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

/-- The two programs end with the same arrays. -/
theorem algebraic : Cert.algebraic_Kernel16Ideal_Reference16Ideal := by
  intro m g m' g' _ hargs
  refine ⟨fun c => dBranch attnIdx (Du m c) (Pr m c), fun c => dBranch rnnIdx (Du m c) (Pr m c),
    fun c => dLogit attnIdx (Du m c) (Ya m c) (Pr m c), fun c => dLogit rnnIdx (Du m c) (Yr m c) (Pr m c), ?_, ?_⟩
  · refine (θ_run Cert.Kernel16Ideal.defs _ _).mono (fun r h c => ?_) (Cert.Kernel16Ideal.Value.run_blocks (F := Ideal) m g)
    obtain ⟨e5, e6, e7, e8, k⟩ := h c
    exact ⟨e5.trans (final5 m c), e6.trans (final6 m c), e7.trans (final7 m c), e8.trans (final8 m c), k⟩
  · refine (θ_run Cert.Reference16Ideal.defs _ _).mono (fun r h c => ?_) (Cert.Reference16Ideal.Value.run (F := Ideal) m' g')
    obtain ⟨e5, e6, e7, e8, k⟩ := h c
    obtain ⟨a0, a1, a2, a3⟩ := hargs c
    refine ⟨e5.trans ?_, e6.trans ?_, e7.trans ?_, e8.trans ?_, k⟩
    · refine (val_main_v32_eq _ _).trans ?_
      rw [a0, a3]; exact result32 _ _
    · refine (val_main_v33_eq _ _).trans ?_
      rw [a0, a3]; exact result33 _ _
    · refine (val_main_v34_eq _ _ _).trans ?_
      rw [a0, a1, a3]; exact result34 _ _ _
    · refine (val_main_v35_eq _ _ _).trans ?_
      rw [a0, a2, a3]; exact result35 _ _ _

end Cert.Reference16Ideal.GateGrad

end
-- ==== Proof.Norm.Formula.lean ====
module

public import proofs.«01_k».proof.Proof.Attn.Softmax

/-! # The gradient of the root-mean-square normalisation, on one row

The call forms the gradient from the normalised row; the reference differentiates the inverse root of the mean square.
The two agree on the extended reals without an assumption: if the row is real its inverse root is a positive real, which
distributes; if not, the mean square is infinite, its inverse root `0`, and both gradients are `0`. -/

@[expose] public section

noncomputable section

namespace Cert.Norm

open Idealize.ShloMosaic Cert.Softmax
open scoped BigOperators

abbrev Row := Fin 2048 → EReal

/-- The row's length. -/
abbrev count : EReal := Ideal.ofBits .f32 0x45000000#32

theorem count_bits : count = ((2048 : ℝ) : EReal) := by
  simp [count, Ideal.ofBits, Ideal.ieee]
  rw [← EReal.coe_mul]
  norm_num

/-- The norm's epsilon. -/
abbrev eps : EReal := Ideal.ofBits .f32 0x358637BD#32

theorem eps_bits : ∃ r : ℝ, 0 < r ∧ eps = (r : EReal) := by
  simp only [eps, Ideal.ofBits, Ideal.ieee]
  simp
  rw [← EReal.coe_mul]
  exact ⟨_, by positivity, rfl⟩

theorem minus_half_bits : Ideal.ofBits .f32 0xBF000000#32 = ((-(1 / 2) : ℝ) : EReal) := by
  simp [Ideal.ofBits, Ideal.ieee]
  rw [← EReal.coe_mul]
  norm_num

/-- The mean square. -/
def square (X : Row) : EReal := Ideal.div (∑ k, X k * X k) count + eps

/-- Its inverse root. -/
def inv (X : Row) : EReal := Ideal.rsqrt (square X)

/-- The gradient as the call forms it: `D` is the gradient of the normalised row. -/
def back (X D : Row) (s : Fin 2048) : EReal :=
  inv X * (D s - X s * inv X * Ideal.div (∑ k, D k * (X k * inv X)) count)

/-- The part of the reference's gradient that comes through the mean square. -/
def through (X D : Row) : EReal :=
  Ideal.div ((∑ k, X k * D k) * (Ideal.ofBits .f32 0xBF000000#32 * Ideal.div (inv X) (square X))) count

theorem div_real (x : EReal) {c : ℝ} (h : c ≠ 0) : Ideal.div x (c : EReal) = x * ((c⁻¹ : ℝ) : EReal) := by
  rw [Ideal.div, if_neg (by exact_mod_cast h), EReal.coe_inv]

/-- A real number added to itself distributes over any factor. -/
theorem twice (S : EReal) (b : ℝ) : S * (b : EReal) + S * (b : EReal) = S * ((2 * b : ℝ) : EReal) := by
  have e : ((2 * b : ℝ) : EReal) = (b : EReal) + (b : EReal) := by rw [two_mul, EReal.coe_add]
  rw [e]
  rcases le_total 0 b with h | h
  · exact (EReal.left_distrib_of_nonneg (EReal.coe_nonneg.2 h) (EReal.coe_nonneg.2 h)).symm
  · have h' : (0 : EReal) ≤ -(b : EReal) := by rw [← EReal.coe_neg]; exact EReal.coe_nonneg.2 (neg_nonneg.2 h)
    have e := EReal.left_distrib_of_nonneg (c := -S) h' h'
    rw [← EReal.coe_neg, ← EReal.coe_add] at e
    simp only [EReal.coe_neg, neg_mul_neg] at e
    rw [← EReal.coe_add, ← e, ← neg_add, EReal.coe_neg, neg_mul_neg]

/-- A row that is not real has an infinite mean square. -/
theorem square_top (X : Row) (h : ¬ ∀ k, ∃ r : ℝ, X k = r) : square X = ⊤ := by
  classical
  obtain ⟨k, hk⟩ := not_forall.1 h
  have nn : ∀ i, 0 ≤ X i * X i := fun i => by
    rcases le_total 0 (X i) with p | p
    · exact EReal.mul_nonneg p p
    · rw [← neg_mul_neg]; exact EReal.mul_nonneg (EReal.neg_nonneg.2 p) (EReal.neg_nonneg.2 p)
  have ht : X k * X k = ⊤ := by
    generalize X k = x at hk
    induction x using EReal.rec with
    | bot => rfl
    | coe r => exact absurd ⟨r, rfl⟩ hk
    | top => rfl
  have hs : ∑ i, X i * X i = ⊤ :=
    top_unique (ht ▸ Finset.single_le_sum (f := fun i => X i * X i) (fun i _ => nn i) (Finset.mem_univ k))
  obtain ⟨r, -, hr⟩ := eps_bits
  rw [square, hs, count_bits, div_real _ (by norm_num), EReal.top_mul_coe_of_pos (by norm_num), hr, EReal.top_add_coe]

/-- A real row's mean square is a positive real. -/
theorem square_real (x : Fin 2048 → ℝ) : ∃ v : ℝ, 0 < v ∧ square (fun k => (x k : EReal)) = (v : EReal) := by
  obtain ⟨r, h, hr⟩ := eps_bits
  refine ⟨(∑ k, x k * x k) * 2048⁻¹ + r, by have := Finset.sum_nonneg (fun k (_ : k ∈ Finset.univ) => mul_self_nonneg (x k)); positivity, ?_⟩
  rw [square, count_bits, div_real _ (by norm_num), hr]
  simp only [← EReal.coe_mul]
  rw [sum_coe, ← EReal.coe_mul, ← EReal.coe_add]

/-- The two gradients of a row agree. -/
theorem back_eq (X D : Row) (s : Fin 2048) :
    back X D s = D s * inv X + (X s * through X D + through X D * X s) := by
  by_cases h : ∀ k, ∃ r : ℝ, X k = r
  · choose x hx using h
    obtain rfl : X = fun k => (x k : EReal) := funext hx
    obtain ⟨v, hv, hs⟩ := square_real x
    have hq : 0 < Real.sqrt v := Real.sqrt_pos.2 hv
    have hi : inv (fun k => (x k : EReal)) = (((Real.sqrt v)⁻¹ : ℝ) : EReal) := by
      rw [inv, hs, Ideal.rsqrt_coe, if_neg hv.not_gt, if_neg hv.ne']
    have hvv : v = Real.sqrt v * Real.sqrt v := (Real.mul_self_sqrt hv.le).symm
    have hsum : ∑ k, D k * ((x k : EReal) * inv (fun k => (x k : EReal)))
        = (((Real.sqrt v)⁻¹ : ℝ) : EReal) * ∑ k, (x k : EReal) * D k := by
      rw [hi, real_mul_sum (inv_nonneg.2 hq.le)]
      refine Finset.sum_congr rfl fun k _ => ?_
      rw [mul_comm (D k), mul_comm (x k : EReal), mul_assoc]
    unfold back through
    rw [hsum, hi, hs, count_bits, minus_half_bits, div_real _ (by norm_num), div_real _ (by norm_num), div_real _ hv.ne']
    generalize ∑ k, (x k : EReal) * D k = S
    generalize Real.sqrt v = q at *
    have e1 : (x s : EReal) * ((q⁻¹ : ℝ) : EReal) * (((q⁻¹ : ℝ) : EReal) * S * (((2048 : ℝ)⁻¹ : ℝ) : EReal))
        = S * ((x s * q⁻¹ * q⁻¹ * 2048⁻¹ : ℝ) : EReal) := by
      simp only [EReal.coe_mul]; ac_rfl
    have e2 : (x s : EReal) * (S * (((-(1 / 2) : ℝ) : EReal) * (((q⁻¹ : ℝ) : EReal) * ((v⁻¹ : ℝ) : EReal))) * (((2048 : ℝ)⁻¹ : ℝ) : EReal))
        = S * ((x s * (-(1 / 2)) * q⁻¹ * v⁻¹ * 2048⁻¹ : ℝ) : EReal) := by
      simp only [EReal.coe_mul]; ac_rfl
    rw [mul_comm _ (x s : EReal), e1, e2, twice, real_mul_sub (inv_nonneg.2 hq.le), mul_comm _ (D s), sub_eq_add_neg]
    congr 1
    rw [mul_left_comm, ← EReal.coe_mul, ← mul_neg, ← EReal.coe_neg]
    congr 2
    rw [hvv]
    field_simp
  · have hs := square_top X h
    have hi : inv X = 0 := by rw [inv, hs, Ideal.rsqrt_top]
    have hd : through X D = 0 := by
      have z : Ideal.div 0 (⊤ : EReal) = 0 := by rw [Ideal.div, if_neg EReal.top_ne_zero, zero_mul]
      rw [through, hi, hs, z, mul_zero, mul_zero, count_bits, div_real _ (by norm_num), zero_mul]
    rw [back, hd, hi]
    simp

end Cert.Norm

end
-- ==== Proof.Norm.Block.lean ====
module

public import proofs.«01_k».proof.Proof.Norm.Formula
public import Idealize.ShloMosaic.Lib.ValueIdx
public import Idealize.ShloMosaic.Lib.Pipeline.Value
public import proofs.«01_k».proof.Proof.Product.Basic

/-! # The normalisation's gradient on a block of 256 rows

The block functions of the calls that differentiate the norm, read at an element; and the sum of a column over the
blocks of a run. -/

@[expose] public section

noncomputable section

namespace Cert.Norm

open Idealize.ShloMosaic Idealize.ShloMosaic.TcCoe Idealize.ShloMosaic.ValueIdx
open scoped BigOperators

abbrev SBlock : Shape := ⟨2, ![256, 2048]⟩
abbrev SLine : Shape := ⟨2, ![1, 2048]⟩
abbrev SColumn : Shape := ⟨2, ![256, 1]⟩
abbrev SRows : Shape := ⟨1, ![256]⟩
abbrev SCols : Shape := ⟨1, ![2048]⟩

/-- A block, a line of column values, and an array of rows. -/
abbrev Block := FVec Ideal SBlock .f32
abbrev Line := FVec Ideal SLine .f32

/-- Row `r` of a matrix with 2048 columns. -/
def rowOf {n : ℕ} {φ : FTy} (x : FVec Ideal ⟨2, ![n, 2048]⟩ φ) (r : Fin n) : Row := fun k => x (ix2 r k)

/-- A line's values. -/
def line (x : Line) : Row := fun k => x (ix2 (0 : Fin 1) k)

/-- What the block functions' shapes satisfy. -/
structure Shapes : Prop where
  rows : SBlock.Reduces [1] SRows
  cols : SBlock.Reduces [0] SCols
  column : SRows.ShapeCasts SColumn
  flat : SCols.ShapeCasts SLine
  spread : SColumn.Broadcasts SBlock
  over : SLine.Broadcasts SBlock

variable (h : Shapes)

/-- The sum of each row. -/
def rowSum (x : Block) : FVec Ideal SColumn .f32 :=
  shapeCast SColumn (multiReduction .add [1] SRows x 0x00000000#32 h.rows (.inl rfl) rfl) h.column

/-- The sum of each column. -/
def colSum (x : Block) : Line :=
  shapeCast SLine (multiReduction .add [0] SCols x 0x00000000#32 h.cols (.inl rfl) rfl) h.flat

/-- A row's mean. -/
def mean (x : Block) : FVec Ideal SColumn .f32 :=
  divf (rowSum h x) (broadcast SColumn (Scalar.ofBits .f32 0x45000000#32))

/-- The inverse root of a row's mean square. -/
def blockInv (x : Block) : FVec Ideal SColumn .f32 :=
  rsqrt (addf (mean h (mulf x x)) (broadcast SColumn (Scalar.ofBits .f32 0x358637BD#32)))

/-- The normalised rows. -/
def blockHat (x : Block) : Block := mulf x (broadcastTo SBlock (blockInv h x) h.spread)

/-- The gradient through the norm; `d` is the normalised rows' gradient. -/
def blockBack (x d : Block) : Block :=
  mulf (broadcastTo SBlock (blockInv h x) h.spread)
    (subf d (mulf (blockHat h x) (broadcastTo SBlock (mean h (mulf d (blockHat h x))) h.spread)))

theorem spread_apply (x : FVec Ideal SColumn .f32) (r : Fin 256) (s : Fin 2048) :
    broadcastTo SBlock x h.spread (ix2 r s) = x (ix2 r (0 : Fin 1)) :=
  broadcastTo_apply x h.spread (ix2 r s) (ix2 r (0 : Fin 1)) (fun a => match a with
    | ⟨0, _⟩ => rfl
    | ⟨1, _⟩ => rfl)

theorem over_apply (x : Line) (r : Fin 256) (s : Fin 2048) : broadcastTo SBlock x h.over (ix2 r s) = line x s :=
  broadcastTo_apply x h.over (ix2 r s) (ix2 (0 : Fin 1) s) (fun a => match a with
    | ⟨0, _⟩ => rfl
    | ⟨1, _⟩ => rfl)

theorem rowSum_apply (x : Block) (r : Fin 256) : rowSum h x (ix2 r (0 : Fin 1)) = ∑ k, rowOf x r k := by
  refine (shapeCast_apply _ h.column (ix2 r (0 : Fin 1)) (ix1 r) (by
    rw [Shape.rowMajor_val_one, Shape.rowMajor_val_two]
    show r.val = r.val * 1 + 0
    omega)).trans ?_
  refine (Ideal.multiReduction_add_single x _ h.rows (.inl rfl) rfl (ix1 r)).trans ?_
  refine Finset.sum_congr rfl fun j _ => congrArg x (funext fun b => Fin.ext ?_)
  match b with
  | ⟨0, _⟩ => rfl
  | ⟨1, _⟩ => rfl

theorem colSum_apply (x : Block) (s : Fin 2048) : line (colSum h x) s = ∑ r : Fin 256, rowOf x r s := by
  refine (shapeCast_apply _ h.flat (ix2 (0 : Fin 1) s) (ix1 s) (by
    rw [Shape.rowMajor_val_one, Shape.rowMajor_val_two]
    show s.val = 0 * 2048 + s.val
    omega)).trans ?_
  refine (Ideal.multiReduction_add_single x _ h.cols (.inl rfl) rfl (ix1 s)).trans ?_
  refine Finset.sum_congr rfl fun j _ => congrArg x (funext fun b => Fin.ext ?_)
  match b with
  | ⟨0, _⟩ => rfl
  | ⟨1, _⟩ => rfl

theorem blockInv_apply (x : Block) (r : Fin 256) : blockInv h x (ix2 r (0 : Fin 1)) = inv (rowOf x r) := by
  show Ideal.rsqrt (Ideal.div (rowSum h (mulf x x) (ix2 r (0 : Fin 1))) count + eps) = _
  rw [rowSum_apply]
  rfl

theorem blockHat_apply (x : Block) (r : Fin 256) (s : Fin 2048) :
    blockHat h x (ix2 r s) = rowOf x r s * inv (rowOf x r) := by
  show _ * broadcastTo SBlock (blockInv h x) h.spread (ix2 r s) = _
  rw [spread_apply h, blockInv_apply]
  rfl

theorem blockBack_apply (x d : Block) (r : Fin 256) (s : Fin 2048) :
    blockBack h x d (ix2 r s) = back (rowOf x r) (rowOf d r) s := by
  show broadcastTo SBlock (blockInv h x) h.spread (ix2 r s) * (d (ix2 r s) - blockHat h x (ix2 r s)
    * broadcastTo SBlock (mean h (mulf d (blockHat h x))) h.spread (ix2 r s)) = _
  rw [spread_apply h, spread_apply h, blockInv_apply, blockHat_apply]
  show _ * (_ - _ * Ideal.div (rowSum h (mulf d (blockHat h x)) (ix2 r (0 : Fin 1))) count) = _
  rw [rowSum_apply]
  have e : ∀ k, rowOf (mulf d (blockHat h x)) r k = rowOf d r k * (rowOf x r k * inv (rowOf x r)) := fun k => by
    show d (ix2 r k) * blockHat h x (ix2 r k) = _
    rw [blockHat_apply]
    rfl
  simp only [e]
  rfl

/-! ## Sums over the blocks of a run -/

/-- Row `r` of block `t`. -/
def rowAt (t : ℕ) (r : Fin 256) : Fin 2048 := Fin.ofNat 2048 (256 * t + r.val)

/-- A buffer that starts at the first block's value and gains one at each further block holds the sum. -/
theorem gather {N : ℕ} (A : (n : ℕ) → n < N → EReal) (g : ℕ → EReal) (h0 : ∀ hn, A 0 hn = g 0)
    (hs : ∀ n hn, A (n + 1) hn = A n (Nat.lt_of_succ_lt hn) + g (n + 1)) (n : ℕ) (hn : n < N) :
    A n hn = ∑ i ∈ Finset.range (n + 1), g i := by
  induction n with
  | zero => rw [h0, Finset.sum_range_one]
  | succ n ih => rw [hs, ih, Finset.sum_range_succ _ (n + 1)]

/-- The sum over eight blocks' rows is the sum over the rows. -/
theorem rows_sum (f : Fin 2048 → EReal) : ∑ i ∈ Finset.range 8, ∑ r : Fin 256, f (rowAt i r) = ∑ k, f k :=
  Cert.Product.sum_blocks_fin 8 256 (by norm_num) f

theorem eighth {t : ℕ} (ht : t < 8) (h : t % 8 = 7) : t + 1 = 8 := by omega

/-- Where a block's element lies in the array of rows. -/
theorem row_place {y : (⟨2, ![2048, 2048]⟩ : Shape).Idx} {t i0 i1 : ℕ} (ht : t < 8) (e : i0 = t ∧ i1 = 0) (r : Fin 256) (s : Fin 2048)
    (h0 : (y 0).val = i0 * 256 + 1 * r.val := by rfl) (h1 : (y 1).val = i1 * 2048 + 1 * s.val := by rfl) :
    y = ix2 (rowAt t r) s := by
  obtain ⟨rfl, rfl⟩ := e
  refine funext fun b => Fin.ext ?_
  match b with
  | ⟨0, _⟩ => show (y 0).val = (256 * i0 + r.val) % 2048; omega
  | ⟨1, _⟩ => show (y 1).val = s.val; omega

/-- A line is one block. -/
theorem line_place {z : SLine.Idx} {i0 i1 : ℕ} (e : i0 = 0 ∧ i1 = 0) (y : SLine.Idx)
    (h0 : (z 0).val = i0 * 1 + 1 * (y 0).val := by rfl) (h1 : (z 1).val = i1 * 2048 + 1 * (y 1).val := by rfl) : z = y := by
  obtain ⟨rfl, rfl⟩ := e
  refine funext fun b => Fin.ext ?_
  match b with
  | ⟨0, _⟩ => show (z 0).val = (y 0).val; omega
  | ⟨1, _⟩ => show (z 1).val = (y 1).val; omega

theorem line_idx (y : SLine.Idx) : y = ix2 0 (y 1) :=
  (eq_ix2 y).trans (congrArg (fun a : Fin 1 => ix2 a (y 1)) (Subsingleton.elim (α := Fin 1) (y 0) 0))

/-- Every row lies in a block. -/
theorem row_onto (i : Fin 2048) : ∃ (t : Fin 8) (r : Fin 256), rowAt t.val r = i :=
  ⟨⟨i.val / 256, by omega⟩, ⟨i.val % 256, by omega⟩, Fin.ext (by
    show (256 * (i.val / 256) + i.val % 256) % 2048 = i.val
    omega)⟩

/-- The gradient of the normalised and gained row. -/
def gained (d : Row) (sc : Line) : Row := fun k => d k * (Ideal.ofBits .f32 0x3F800000#32 + line sc k)

/-- The normalised row. -/
def hatRow (x : Row) : Row := fun k => x k * inv x

/-- The columns' sums of an array of rows. -/
def total (f : Fin 2048 → Row) : Line := fun y => ∑ i, f i (y 1)

theorem total_apply (f : Fin 2048 → Row) (s : Fin 2048) : total f (ix2 0 s) = ∑ i, f i s := rfl

/-- A buffer that adds a block's columns at each of eight points ends with the columns' sums. -/
theorem gather_total {N : ℕ} (hN : N = 8) (A : (n : ℕ) → n < N → Line) (f : Fin 2048 → Row)
    (h0 : ∀ hn s, line (A 0 hn) s = ∑ r : Fin 256, f (rowAt 0 r) s)
    (hs : ∀ n hn s, line (A (n + 1) hn) s = line (A n (Nat.lt_of_succ_lt hn)) s + ∑ r : Fin 256, f (rowAt (n + 1) r) s)
    {n : ℕ} (hn : n < N) (h : n % 8 = 7) : A n hn = total f := by
  funext y
  obtain ⟨s, rfl⟩ : ∃ s : Fin 2048, y = ix2 0 s := ⟨y 1, line_idx y⟩
  refine (gather (fun n hn => line (A n hn) s) (fun i => ∑ r : Fin 256, f (rowAt i r) s) (fun hn => h0 hn s)
    (fun n hn => hs n hn s) n hn).trans ?_
  rw [eighth (hN ▸ hn) h, rows_sum fun i => f i s]
  rfl

/-- A buffer with a further block's columns. -/
theorem add_cols (e : SLine.ShapeCasts SLine) (acc : Line) (s : Fin 2048) (x : Block) :
    line (addf (shapeCast SLine acc e) (colSum h x)) s = line acc s + ∑ r, rowOf x r s := by
  show shapeCast SLine acc e (ix2 (0 : Fin 1) s) + line (colSum h x) s = _
  rw [shapeCast_self, colSum_apply]
  rfl

end Cert.Norm

end
-- ==== Proof.NormMlp.Array.lean ====
module

public import proofs.«01_k».proof.Proof.Gen.Kernel17Ideal.Value
public import proofs.«01_k».proof.Proof.Norm.Block
public import proofs.«01_k».proof.Proof.Blocks

/-! # The gradient of the modulated norm before the MLP: the result arrays after the run

Point `t` of the grid works on rows `256 t …`. It writes the blocks of the stream's and of the mixer's gradient back at
once; the gradients of the shift, the scale, the gain and the gate gather over the eight points and go back at the last. -/

@[expose] public section

noncomputable section

namespace Cert.Kernel17Ideal.NormMlp

open Cert.Kernel17Ideal Cert.Kernel17Ideal.Gen Cert.Blocks Cert.Norm Cert.Product
open Idealize.ShloMosaic Idealize.ShloMosaic.TcCoe Idealize.ShloMosaic.ValueIdx
open scoped BigOperators

/-! ## The formulas -/

abbrev Stream := FVec Ideal S2048x2048 .f32

/-- A row of the stream's gradient. -/
def dRow (x d e : Row) (g sc : Line) : Row := fun s => e s + back x (fun k => gained d sc k * line g k) s

/-- The gradient of the stream, and of the mixer's contribution to it. -/
def dStream (x d e : Stream) (g sc : Line) : Stream := fun j => dRow (rowOf x (j 0)) (rowOf d (j 0)) (rowOf e (j 0)) g sc (j 1)
def dMix (x d e : Stream) (a g sc : Line) : FVec Ideal S2048x2048 .bf16 := fun j => dStream x d e g sc j * line a (j 1)

/-- The gradients of the shift, the scale, the gain and the gate. -/
def dShift (d : Stream) : Line := total fun i => rowOf d i
def dScale (x d : Stream) (g : Line) : Line := total fun i s => rowOf d i s * (hatRow (rowOf x i) s * line g s)
def dGain (x d : Stream) (sc : Line) : Line := total fun i s => gained (rowOf d i) sc s * hatRow (rowOf x i) s
def dGate (x y d e : Stream) (g sc : Line) : Line :=
  total fun i s => dRow (rowOf x i) (rowOf d i) (rowOf e i) g sc s * rowOf y i s

/-! ## One block -/

/-- The block functions' shapes. -/
theorem shapes : Shapes :=
  ⟨reduces_S256x2048_S256, reduces_S256x2048_S2048, shapeCasts_S256_S256x1, shapeCasts_S2048_S1x2048,
    broadcasts_S256x1_S256x2048, broadcasts_S1x2048_S256x2048⟩

section
variable (x y d e : Block) (a g sc acc : Line) (r : Fin 256) (s : Fin 2048)

theorem hat_apply : k0_pay5 (F := Ideal) x (ix2 r s) = hatRow (rowOf x r) s := blockHat_apply shapes x r s

theorem gained_apply : k0_pay7 (F := Ideal) d sc (ix2 r s) = gained (rowOf d r) sc s := by
  show d (ix2 r s) * broadcastTo S256x2048 _ broadcasts_S1x2048_S256x2048 (ix2 r s) = _
  rw [over_apply shapes]
  rfl

theorem stream_apply : k0_pay8 (F := Ideal) x d e g sc (ix2 r s) = dRow (rowOf x r) (rowOf d r) (rowOf e r) g sc s := by
  show e (ix2 r s) + blockBack shapes x (mulf (k0_pay7 (F := Ideal) d sc) (broadcastTo S256x2048 g broadcasts_S1x2048_S256x2048)) (ix2 r s) = _
  rw [blockBack_apply]
  refine congrArg (fun D => e (ix2 r s) + back (rowOf x r) D s) (funext fun k => ?_)
  show k0_pay7 (F := Ideal) d sc (ix2 r k) * broadcastTo S256x2048 g broadcasts_S1x2048_S256x2048 (ix2 r k) = _
  rw [over_apply shapes, gained_apply]

theorem mix_apply : k0_pay12 (F := Ideal) (k0_pay9 (F := Ideal) x d e a g sc) (ix2 r s)
    = dRow (rowOf x r) (rowOf d r) (rowOf e r) g sc s * line a s := by
  show k0_pay8 (F := Ideal) x d e g sc (ix2 r s) * broadcastTo S256x2048 a broadcasts_S1x2048_S256x2048 (ix2 r s) = _
  rw [over_apply shapes, stream_apply]

theorem shift_apply : line (k0_pay14 (F := Ideal) d acc) s = line acc s + ∑ r, rowOf d r s := add_cols shapes shapeCasts_S1x2048_S1x2048 acc s d

theorem scale_apply : line (k0_pay16 (F := Ideal) d (k0_pay6 (F := Ideal) x g) acc) s
    = line acc s + ∑ r, rowOf d r s * (hatRow (rowOf x r) s * line g s) := by
  refine (add_cols shapes shapeCasts_S1x2048_S1x2048 acc s (mulf d (k0_pay6 (F := Ideal) x g))).trans (congrArg _ (Finset.sum_congr rfl fun r _ => ?_))
  show d (ix2 r s) * (k0_pay5 (F := Ideal) x (ix2 r s) * broadcastTo S256x2048 g broadcasts_S1x2048_S256x2048 (ix2 r s)) = _
  rw [over_apply shapes, hat_apply]
  rfl

theorem gain_apply : line (k0_pay1 (F := Ideal) (k0_pay10 (F := Ideal) (k0_pay5 (F := Ideal) x) (k0_pay7 (F := Ideal) d sc)) acc) s
    = line acc s + ∑ r, gained (rowOf d r) sc s * hatRow (rowOf x r) s := by
  refine (add_cols shapes shapeCasts_S1x2048_S1x2048 acc s (mulf (k0_pay7 (F := Ideal) d sc) (k0_pay5 (F := Ideal) x))).trans (congrArg _ (Finset.sum_congr rfl fun r _ => ?_))
  show k0_pay7 (F := Ideal) d sc (ix2 r s) * k0_pay5 (F := Ideal) x (ix2 r s) = _
  rw [gained_apply, hat_apply]

theorem gate_apply : line (k0_pay3 (F := Ideal) (k0_pay11 (F := Ideal) y (k0_pay8 (F := Ideal) x d e g sc)) acc) s
    = line acc s + ∑ r, dRow (rowOf x r) (rowOf d r) (rowOf e r) g sc s * rowOf y r s := by
  refine (add_cols shapes shapeCasts_S1x2048_S1x2048 acc s (mulf (k0_pay8 (F := Ideal) x d e g sc) y)).trans (congrArg _ (Finset.sum_congr rfl fun r _ => ?_))
  show k0_pay8 (F := Ideal) x d e g sc (ix2 r s) * y (ix2 r s) = _
  rw [stream_apply]
  rfl

theorem zero9 : line (k0_pay13 (F := Ideal)) s = 0 := Ideal.ofBits_zero_f32
theorem zero10 : line (k0_pay15 (F := Ideal)) s = 0 := Ideal.ofBits_zero_f32
theorem zero11 : line (k0_pay17 (F := Ideal)) s = 0 := Ideal.ofBits_zero_f32
theorem zero12 : line (k0_pay2 (F := Ideal)) s = 0 := Ideal.ofBits_zero_f32

end

/-! ## The buffers -/

variable (m : (ℓ : Loc nD τ sig) → Buf (Elt Ideal) ℓ) (c : Dev nD)

set_option maxHeartbeats 2000000 in
/-- The first point starts the gathered sums from zero. -/
theorem first (t : Fin cfg0.N) (h : t.val % 8 = 0) : outsAt0 m c t.val t.isLt
    = (k0_pay8 (iblk m c 0 t) (iblk m c 2 t) (iblk m c 3 t) (iblk m c 5 t) (iblk m c 6 t), k0_pay12 (k0_pay9 (iblk m c 0 t) (iblk m c 2 t) (iblk m c 3 t) (iblk m c 4 t) (iblk m c 5 t) (iblk m c 6 t)),
      k0_pay14 (iblk m c 2 t) (k0_pay13 (F := Ideal)),
      k0_pay16 (iblk m c 2 t) (k0_pay6 (iblk m c 0 t) (iblk m c 5 t)) (k0_pay15 (F := Ideal)),
      k0_pay1 (k0_pay10 (k0_pay5 (iblk m c 0 t)) (k0_pay7 (iblk m c 2 t) (iblk m c 6 t))) (k0_pay17 (F := Ideal)),
      k0_pay3 (k0_pay11 (iblk m c 1 t) (k0_pay8 (iblk m c 0 t) (iblk m c 2 t) (iblk m c 3 t) (iblk m c 5 t) (iblk m c 6 t))) (k0_pay2 (F := Ideal))) := by
  rw [outsAt0_A m c t h h h h]
  refine congrArg₂ Prod.mk ((View.read_writes_eq_canon _ _ _ (cover0_A_7 _ _ _ _ _ _ _ _ _ _ _ _ _ _ _ _ _ _ _ _ _ _ _ _ _ _ _ _ _ _ _ _ _ _ _ _ _ _ _)).trans ?_)
    (congrArg₂ Prod.mk ((View.read_writes_eq_canon _ _ _ (cover0_A_8 _ _ _ _ _ _ _ _ _ _ _ _ _ _ _ _ _ _ _ _ _ _ _ _ _ _ _ _ _ _ _ _ _ _ _ _ _ _ _)).trans ?_)
    (congrArg₂ Prod.mk ((View.read_writes_eq_canon _ _ _ (cover0_A_9 _ _ _ _ _ _ _ _ _ _ _ _ _ _ _ _ _ _ _ _ _ _ _ _ _ _ _ _ _ _ _ _ _ _ _ _ _ _ _)).trans ?_)
    (congrArg₂ Prod.mk ((View.read_writes_eq_canon _ _ _ (cover0_A_10 _ _ _ _ _ _ _ _ _ _ _ _ _ _ _ _ _ _ _ _ _ _ _ _ _ _ _ _ _ _ _ _ _ _ _ _ _ _ _)).trans ?_)
    (congrArg₂ Prod.mk ((View.read_writes_eq_canon _ _ _ (cover0_A_11 _ _ _ _ _ _ _ _ _ _ _ _ _ _ _ _ _ _ _ _ _ _ _ _ _ _ _ _ _ _ _ _ _ _ _ _ _ _ _)).trans ?_)
    ((View.read_writes_eq_canon _ _ _ (cover0_A_12 _ _ _ _ _ _ _ _ _ _ _ _ _ _ _ _ _ _ _ _ _ _ _ _ _ _ _ _ _ _ _ _ _ _ _ _ _ _ _)).trans ?_)))))
  all_goals
    unfold kernelRun0_A
    dsimp only
    sl_unfold_words
    simp only [View.canon_cons_unit_zero (S := S256x2048) zero_offsets, View.canon_cons_unit_zero (S := S1x2048) zero_offsets,
      load_after_store (S := S1x2048) _ zero_offsets, View.readAt_eq_ld, (hs0_0 t).read_unread, (hs0_1 t).read_unread, (hs0_2 t).read_unread, (hs0_3 t).read_unread, (hs0_4 t).read_unread, (hs0_5 t).read_unread, (hs0_6 t).read_unread, (hs0_9 t).read_unread, (hs0_10 t).read_unread, (hs0_11 t).read_unread, (hs0_12 t).read_unread,
      View.ld_unit_zero (S := S256x2048) zero_offsets, View.ld_unit_zero (S := S1x2048) zero_offsets]

set_option maxHeartbeats 2000000 in
/-- A later point adds to them. -/
theorem later (t : Fin cfg0.N) (h : ¬t.val % 8 = 0) : outsAt0 m c t.val t.isLt
    = (k0_pay8 (iblk m c 0 t) (iblk m c 2 t) (iblk m c 3 t) (iblk m c 5 t) (iblk m c 6 t), k0_pay12 (k0_pay9 (iblk m c 0 t) (iblk m c 2 t) (iblk m c 3 t) (iblk m c 4 t) (iblk m c 5 t) (iblk m c 6 t)),
      k0_pay14 (iblk m c 2 t) (outsAt0 m c (t.val - 1) (Nat.lt_of_le_of_lt (Nat.sub_le _ _) t.isLt)).2.2.1,
      k0_pay16 (iblk m c 2 t) (k0_pay6 (iblk m c 0 t) (iblk m c 5 t)) (outsAt0 m c (t.val - 1) (Nat.lt_of_le_of_lt (Nat.sub_le _ _) t.isLt)).2.2.2.1,
      k0_pay1 (k0_pay10 (k0_pay5 (iblk m c 0 t)) (k0_pay7 (iblk m c 2 t) (iblk m c 6 t))) (outsAt0 m c (t.val - 1) (Nat.lt_of_le_of_lt (Nat.sub_le _ _) t.isLt)).2.2.2.2.1,
      k0_pay3 (k0_pay11 (iblk m c 1 t) (k0_pay8 (iblk m c 0 t) (iblk m c 2 t) (iblk m c 3 t) (iblk m c 5 t) (iblk m c 6 t))) (outsAt0 m c (t.val - 1) (Nat.lt_of_le_of_lt (Nat.sub_le _ _) t.isLt)).2.2.2.2.2) := by
  rw [outsAt0_B m c t h h h h]
  refine congrArg₂ Prod.mk ((View.read_writes_eq_canon _ _ _ (cover0_B_7 _ _ _ _ _ _ _ _ _ _ _ _ _ _ _ _ _ _ _ _ _ _ _ _ _ _ _ _ _ _ _ _ _ _ _ _ _ _ _ _ _ _ _)).trans ?_)
    (congrArg₂ Prod.mk ((View.read_writes_eq_canon _ _ _ (cover0_B_8 _ _ _ _ _ _ _ _ _ _ _ _ _ _ _ _ _ _ _ _ _ _ _ _ _ _ _ _ _ _ _ _ _ _ _ _ _ _ _ _ _ _ _)).trans ?_)
    (congrArg₂ Prod.mk ((View.read_writes_eq_canon _ _ _ (cover0_B_9 _ _ _ _ _ _ _ _ _ _ _ _ _ _ _ _ _ _ _ _ _ _ _ _ _ _ _ _ _ _ _ _ _ _ _ _ _ _ _ _ _ _ _)).trans ?_)
    (congrArg₂ Prod.mk ((View.read_writes_eq_canon _ _ _ (cover0_B_10 _ _ _ _ _ _ _ _ _ _ _ _ _ _ _ _ _ _ _ _ _ _ _ _ _ _ _ _ _ _ _ _ _ _ _ _ _ _ _ _ _ _ _)).trans ?_)
    (congrArg₂ Prod.mk ((View.read_writes_eq_canon _ _ _ (cover0_B_11 _ _ _ _ _ _ _ _ _ _ _ _ _ _ _ _ _ _ _ _ _ _ _ _ _ _ _ _ _ _ _ _ _ _ _ _ _ _ _ _ _ _ _)).trans ?_)
    ((View.read_writes_eq_canon _ _ _ (cover0_B_12 _ _ _ _ _ _ _ _ _ _ _ _ _ _ _ _ _ _ _ _ _ _ _ _ _ _ _ _ _ _ _ _ _ _ _ _ _ _ _ _ _ _ _)).trans ?_)))))
  all_goals
    unfold kernelRun0_B
    dsimp only
    sl_unfold_words
    simp only [View.canon_cons_unit_zero (S := S256x2048) zero_offsets, View.canon_cons_unit_zero (S := S1x2048) zero_offsets,
      load_after_store (S := S1x2048) _ zero_offsets, View.readAt_eq_ld, (hs0_0 t).read_unread, (hs0_1 t).read_unread, (hs0_2 t).read_unread, (hs0_3 t).read_unread, (hs0_4 t).read_unread, (hs0_5 t).read_unread, (hs0_6 t).read_unread, (hs0_9 t).read_unread, (hs0_10 t).read_unread, (hs0_11 t).read_unread, (hs0_12 t).read_unread,
      View.ld_unit_zero (S := S256x2048) zero_offsets, View.ld_unit_zero (S := S1x2048) zero_offsets]

/-- The arguments. -/
abbrev Xa : Stream := m ((c : Thread nD τ).loc main_arg0)
abbrev Ma : Stream := m ((c : Thread nD τ).loc main_arg1)
abbrev Da : Stream := m ((c : Thread nD τ).loc main_arg2)
abbrev Ea : Stream := m ((c : Thread nD τ).loc main_arg3)
abbrev Aa : Line := m ((c : Thread nD τ).loc main_arg4)
abbrev Ga : Line := m ((c : Thread nD τ).loc main_arg5)
abbrev Sa : Line := m ((c : Thread nD τ).loc main_arg6)

/-- The windows' block indices at a point. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

theorem t_lt (t : Fin cfg0.N) : t.val < 8 := lt_of_lt_of_eq t.isLt (show cfg0.N = 8 from N_0)

theorem x_row (t : Fin cfg0.N) (r : Fin 256) : rowOf (n := 256) (φ := .f32) (iblk m c 0 t) r = rowOf (Xa m c) (rowAt t.val r) := by
  obtain ⟨e, _⟩ := idx_facts t
  funext k
  show V m c main_arg0 (((cfg0.win 0).blk t).view.emb _) = _
  exact congrArg (Xa m c) (row_place (t_lt t) e r k)

theorem m_row (t : Fin cfg0.N) (r : Fin 256) : rowOf (n := 256) (φ := .f32) (iblk m c 1 t) r = rowOf (Ma m c) (rowAt t.val r) := by
  obtain ⟨_, e, _⟩ := idx_facts t
  funext k
  show V m c main_arg1 (((cfg0.win 1).blk t).view.emb _) = _
  exact congrArg (Ma m c) (row_place (t_lt t) e r k)

theorem d_row (t : Fin cfg0.N) (r : Fin 256) : rowOf (n := 256) (φ := .f32) (iblk m c 2 t) r = rowOf (Da m c) (rowAt t.val r) := by
  obtain ⟨_, _, e, _⟩ := idx_facts t
  funext k
  show V m c main_arg2 (((cfg0.win 2).blk t).view.emb _) = _
  exact congrArg (Da m c) (row_place (t_lt t) e r k)

theorem e_row (t : Fin cfg0.N) (r : Fin 256) : rowOf (n := 256) (φ := .f32) (iblk m c 3 t) r = rowOf (Ea m c) (rowAt t.val r) := by
  obtain ⟨_, _, _, e, _⟩ := idx_facts t
  funext k
  show V m c main_arg3 (((cfg0.win 3).blk t).view.emb _) = _
  exact congrArg (Ea m c) (row_place (t_lt t) e r k)

theorem a_line (t : Fin cfg0.N) : (iblk m c 4 t : Line) = Aa m c := by
  obtain ⟨_, _, _, _, e, _⟩ := idx_facts t
  funext y
  show V m c main_arg4 (((cfg0.win 4).blk t).view.emb y) = _
  exact congrArg (Aa m c) (line_place e y)

theorem g_line (t : Fin cfg0.N) : (iblk m c 5 t : Line) = Ga m c := by
  obtain ⟨_, _, _, _, _, e, _⟩ := idx_facts t
  funext y
  show V m c main_arg5 (((cfg0.win 5).blk t).view.emb y) = _
  exact congrArg (Ga m c) (line_place e y)

theorem s_line (t : Fin cfg0.N) : (iblk m c 6 t : Line) = Sa m c := by
  obtain ⟨_, _, _, _, _, _, e, _⟩ := idx_facts t
  funext y
  show V m c main_arg6 (((cfg0.win 6).blk t).view.emb y) = _
  exact congrArg (Sa m c) (line_place e y)

/-! ## The arrays -/

/-- The blocks written back at once. -/
theorem row_blocks (t : Fin cfg0.N) : (outsAt0 m c t.val t.isLt).1 = k0_pay8 (iblk m c 0 t) (iblk m c 2 t) (iblk m c 3 t) (iblk m c 5 t) (iblk m c 6 t)
    ∧ (outsAt0 m c t.val t.isLt).2.1 = k0_pay12 (k0_pay9 (iblk m c 0 t) (iblk m c 2 t) (iblk m c 3 t) (iblk m c 4 t) (iblk m c 5 t) (iblk m c 6 t)) := by
  by_cases h : t.val % 8 = 0
  · rw [first m c t h]; exact ⟨rfl, rfl⟩
  · rw [later m c t h]; exact ⟨rfl, rfl⟩

theorem final7 : (dats m 0 c).arrAt 7 cfg0.N = dStream (Xa m c) (Da m c) (Ea m c) (Ga m c) (Sa m c) := by
  have emb : ∀ (t : Fin cfg0.N) (r : Fin 256) (s : Fin 2048),
      (((cfg0.win 7).blk t).view.emb (ix2 r s) : S2048x2048.Idx) = ix2 (rowAt t.val r) s := fun t r s => by
    obtain ⟨_, _, _, _, _, _, _, e, _⟩ := idx_facts t
    exact row_place (t_lt t) e r s
  refine (dats m 0 c).arrAt_eq_of_cover 7 _ (fun t _ => ?_) (fun y => ?_)
  · rw [Cert.Kernel17Ideal.Value.flushed7, (row_blocks m c t).1]
    funext (z : S256x2048.Idx)
    obtain ⟨r, s, rfl⟩ : ∃ (r : Fin 256) (s : Fin 2048), z = ix2 r s := ⟨z 0, z 1, eq_ix2 z⟩
    refine (stream_apply _ _ _ _ _ r s).trans ?_
    rw [x_row, d_row, e_row, g_line, s_line]
    exact (congrArg (dStream (Xa m c) (Da m c) (Ea m c) (Ga m c) (Sa m c)) (emb t r s)).symm
  · obtain ⟨k, r, e⟩ := row_onto (y 0)
    obtain ⟨t, h⟩ : ∃ t : Fin cfg0.N, t.val = k.val := ⟨⟨k.val, lt_of_lt_of_eq k.isLt (show 8 = cfg0.N from N_0.symm)⟩, rfl⟩
    rw [← h] at e
    have hy : (((cfg0.win 7).blk t).view.emb (ix2 r (y 1)) : S2048x2048.Idx) = y :=
      (emb t r (y 1)).trans (e ▸ (eq_ix2 y).symm)
    exact ⟨t, flush0_7 _, (congrArg (· ∈ ((cfg0.win 7).blk t).view.set) hy).mp (View.emb_mem_set _ _)⟩

theorem final8 : (dats m 0 c).arrAt 8 cfg0.N = dMix (Xa m c) (Da m c) (Ea m c) (Aa m c) (Ga m c) (Sa m c) := by
  have emb : ∀ (t : Fin cfg0.N) (r : Fin 256) (s : Fin 2048),
      (((cfg0.win 8).blk t).view.emb (ix2 r s) : S2048x2048.Idx) = ix2 (rowAt t.val r) s := fun t r s => by
    obtain ⟨_, _, _, _, _, _, _, _, e, _⟩ := idx_facts t
    exact row_place (t_lt t) e r s
  refine (dats m 0 c).arrAt_eq_of_cover 8 _ (fun t _ => ?_) (fun y => ?_)
  · rw [Cert.Kernel17Ideal.Value.flushed8, (row_blocks m c t).2]
    funext (z : S256x2048.Idx)
    obtain ⟨r, s, rfl⟩ : ∃ (r : Fin 256) (s : Fin 2048), z = ix2 r s := ⟨z 0, z 1, eq_ix2 z⟩
    refine (mix_apply _ _ _ _ _ _ r s).trans ?_
    rw [x_row, d_row, e_row, a_line, g_line, s_line]
    exact (congrArg (dMix (Xa m c) (Da m c) (Ea m c) (Aa m c) (Ga m c) (Sa m c)) (emb t r s)).symm
  · obtain ⟨k, r, e⟩ := row_onto (y 0)
    obtain ⟨t, h⟩ : ∃ t : Fin cfg0.N, t.val = k.val := ⟨⟨k.val, lt_of_lt_of_eq k.isLt (show 8 = cfg0.N from N_0.symm)⟩, rfl⟩
    rw [← h] at e
    have hy : (((cfg0.win 8).blk t).view.emb (ix2 r (y 1)) : S2048x2048.Idx) = y :=
      (emb t r (y 1)).trans (e ▸ (eq_ix2 y).symm)
    exact ⟨t, flush0_8 _, (congrArg (· ∈ ((cfg0.win 8).blk t).view.set) hy).mp (View.emb_mem_set _ _)⟩

/-- The last point. -/
theorem last_point : ∃ t : Fin cfg0.N, t.val % 8 = 7 := ⟨⟨7, by rw [show cfg0.N = 8 from N_0]; omega⟩, rfl⟩

theorem later_mod {n : ℕ} (hn : n + 1 < cfg0.N) : ¬(n + 1) % 8 = 0 := by
  have h8 := t_lt ⟨n + 1, hn⟩
  dsimp only at h8
  omega

theorem final9 : (dats m 0 c).arrAt 9 cfg0.N = dShift (Da m c) := by
  have emb : ∀ (t : Fin cfg0.N) (y : S1x2048.Idx), (((cfg0.win 9).blk t).view.emb y : S1x2048.Idx) = y := fun t y => by
    obtain ⟨_, _, _, _, _, _, _, _, _, e, _⟩ := idx_facts t
    exact line_place e y
  refine (dats m 0 c).arrAt_eq_of_cover 9 _ (fun t hf => ?_) (fun y => ?_)
  · rw [Cert.Kernel17Ideal.Value.flushed9]
    refine (gather_total N_0 (fun n hn => (outsAt0 m c n hn).2.2.1) _ (fun hn s => ?_) (fun n hn s => ?_) t.isLt
      ((flush0_9 t).mp hf)).trans (funext fun y => (congrArg (dShift (Da m c)) (emb t y)).symm)
    · rw [first m c ⟨0, hn⟩ rfl, shift_apply, zero9, zero_add]
      simp only [d_row]
    · rw [later m c ⟨n + 1, hn⟩ (later_mod hn), shift_apply]
      simp only [d_row]
      rfl
  · obtain ⟨t, h⟩ := last_point
    exact ⟨t, (flush0_9 t).mpr h, (congrArg (· ∈ ((cfg0.win 9).blk t).view.set) (emb t y)).mp (View.emb_mem_set _ _)⟩

theorem final10 : (dats m 0 c).arrAt 10 cfg0.N = dScale (Xa m c) (Da m c) (Ga m c) := by
  have emb : ∀ (t : Fin cfg0.N) (y : S1x2048.Idx), (((cfg0.win 10).blk t).view.emb y : S1x2048.Idx) = y := fun t y => by
    obtain ⟨_, _, _, _, _, _, _, _, _, _, e, _⟩ := idx_facts t
    exact line_place e y
  refine (dats m 0 c).arrAt_eq_of_cover 10 _ (fun t hf => ?_) (fun y => ?_)
  · rw [Cert.Kernel17Ideal.Value.flushed10]
    refine (gather_total N_0 (fun n hn => (outsAt0 m c n hn).2.2.2.1) _ (fun hn s => ?_) (fun n hn s => ?_) t.isLt
      ((flush0_10 t).mp hf)).trans (funext fun y => (congrArg (dScale (Xa m c) (Da m c) (Ga m c)) (emb t y)).symm)
    · rw [first m c ⟨0, hn⟩ rfl, scale_apply, zero10, zero_add]
      simp only [d_row, x_row, g_line]
    · rw [later m c ⟨n + 1, hn⟩ (later_mod hn), scale_apply]
      simp only [d_row, x_row, g_line]
      rfl
  · obtain ⟨t, h⟩ := last_point
    exact ⟨t, (flush0_10 t).mpr h, (congrArg (· ∈ ((cfg0.win 10).blk t).view.set) (emb t y)).mp (View.emb_mem_set _ _)⟩

theorem final11 : (dats m 0 c).arrAt 11 cfg0.N = dGain (Xa m c) (Da m c) (Sa m c) := by
  have emb : ∀ (t : Fin cfg0.N) (y : S1x2048.Idx), (((cfg0.win 11).blk t).view.emb y : S1x2048.Idx) = y := fun t y => by
    obtain ⟨_, _, _, _, _, _, _, _, _, _, _, e, _⟩ := idx_facts t
    exact line_place e y
  refine (dats m 0 c).arrAt_eq_of_cover 11 _ (fun t hf => ?_) (fun y => ?_)
  · rw [Cert.Kernel17Ideal.Value.flushed11]
    refine (gather_total N_0 (fun n hn => (outsAt0 m c n hn).2.2.2.2.1) _ (fun hn s => ?_) (fun n hn s => ?_) t.isLt
      ((flush0_11 t).mp hf)).trans (funext fun y => (congrArg (dGain (Xa m c) (Da m c) (Sa m c)) (emb t y)).symm)
    · rw [first m c ⟨0, hn⟩ rfl, gain_apply, zero11, zero_add]
      simp only [d_row, x_row, s_line]
    · rw [later m c ⟨n + 1, hn⟩ (later_mod hn), gain_apply]
      simp only [d_row, x_row, s_line]
      rfl
  · obtain ⟨t, h⟩ := last_point
    exact ⟨t, (flush0_11 t).mpr h, (congrArg (· ∈ ((cfg0.win 11).blk t).view.set) (emb t y)).mp (View.emb_mem_set _ _)⟩

theorem final12 : (dats m 0 c).arrAt 12 cfg0.N = dGate (Xa m c) (Ma m c) (Da m c) (Ea m c) (Ga m c) (Sa m c) := by
  have emb : ∀ (t : Fin cfg0.N) (y : S1x2048.Idx), (((cfg0.win 12).blk t).view.emb y : S1x2048.Idx) = y := fun t y => by
    obtain ⟨_, _, _, _, _, _, _, _, _, _, _, _, e⟩ := idx_facts t
    exact line_place e y
  refine (dats m 0 c).arrAt_eq_of_cover 12 _ (fun t hf => ?_) (fun y => ?_)
  · rw [Cert.Kernel17Ideal.Value.flushed12]
    refine (gather_total N_0 (fun n hn => (outsAt0 m c n hn).2.2.2.2.2) _ (fun hn s => ?_) (fun n hn s => ?_) t.isLt
      ((flush0_12 t).mp hf)).trans (funext fun y => (congrArg (dGate (Xa m c) (Ma m c) (Da m c) (Ea m c) (Ga m c) (Sa m c)) (emb t y)).symm)
    · rw [first m c ⟨0, hn⟩ rfl, gate_apply, zero12, zero_add]
      simp only [x_row, m_row, d_row, e_row, g_line, s_line]
    · rw [later m c ⟨n + 1, hn⟩ (later_mod hn), gate_apply]
      simp only [x_row, m_row, d_row, e_row, g_line, s_line]
      rfl
  · obtain ⟨t, h⟩ := last_point
    exact ⟨t, (flush0_12 t).mpr h, (congrArg (· ∈ ((cfg0.win 12).blk t).view.set) (emb t y)).mp (View.emb_mem_set _ _)⟩

end Cert.Kernel17Ideal.NormMlp

end
-- ==== Proof.Norm.Whole.lean ====
module

public import proofs.«01_k».proof.Proof.Norm.Block
public import Idealize.ShloMosaic.PureOps.Ideal.Laws

/-! # The normalisation's gradient on the whole array

The host's functions from which the references' gradients of the norm are composed, read at an element. -/

@[expose] public section

noncomputable section

namespace Cert.Norm

open Idealize.ShloMosaic Idealize.ShloMosaic.TcCoe Idealize.ShloMosaic.ValueIdx
open scoped BigOperators

abbrev SFull : Shape := ⟨2, ![2048, 2048]⟩
abbrev STall : Shape := ⟨2, ![2048, 1]⟩
abbrev SNone : Shape := ⟨0, ![]⟩

/-- The whole array. -/
abbrev Full := FVec Ideal SFull .f32

/-- What the host functions' shapes satisfy. -/
structure Wholes : Prop where
  rows : SFull.ReducesTo [1] SCols
  cols : SFull.ReducesTo [0] SCols
  ones : STall.ReducesTo [1] SCols
  none : 0 < SNone.numel
  column : SCols.BroadcastsInDim STall (![0] : Fin 1 → Fin STall.rank)
  fill : SNone.BroadcastsInDim STall (![] : Fin 0 → Fin STall.rank)
  spread : STall.BroadcastsInDim SFull (![0, 1] : Fin 2 → Fin SFull.rank)
  over : SLine.BroadcastsInDim SFull (![0, 1] : Fin 2 → Fin SFull.rank)
  across : SCols.BroadcastsInDim SFull (![0] : Fin 1 → Fin SFull.rank)
  tall : SCols.ShapeCasts STall
  flat : SCols.ShapeCasts SLine

variable (h : Wholes)

abbrev zeroF : FVec Ideal SNone .f32 := constant SNone .f32 0x00000000#32

/-- The sum of each row, as a list; the sum of each column, as a line. -/
def rowList (x : Full) : FVec Ideal SCols .f32 := Host.reduceAdd x zeroF h.rows h.none
def fullColSum (x : Full) : Line := shapeCast SLine (Host.reduceAdd x zeroF h.cols h.none) h.flat

/-- A column of one value. -/
def filled (b : BitVec 32) : FVec Ideal STall .f32 := broadcastInDim STall ![] h.fill (constant SNone .f32 b)

/-- The mean square with the small constant added, and its inverse root. -/
def fullSquare (x : Full) : FVec Ideal STall .f32 :=
  addf (Host.divf (broadcastInDim STall ![0] h.column (rowList h (mulf x x))) (filled h 0x45000000#32)) (filled h 0x358637BD#32)
def fullInv (x : Full) : FVec Ideal STall .f32 := Host.rsqrt (fullSquare h x)

/-- A column over the array, a line over the array. -/
def spreadF (x : FVec Ideal STall .f32) : Full := broadcastInDim SFull ![0, 1] h.spread x
def overF (x : Line) : Full := broadcastInDim SFull ![0, 1] h.over x

/-- The normalised rows. -/
def fullHat (x : Full) : Full := mulf x (spreadF h (fullInv h x))

/-- The share of the gradient through the inverse root. -/
def fullThrough (x d : Full) : Full :=
  broadcastInDim SFull ![0] h.across (Host.reduceAdd
    (Host.divf (mulf (shapeCast STall (rowList h (mulf x d)) h.tall)
      (mulf (filled h 0xBF000000#32) (Host.divf (fullInv h x) (fullSquare h x)))) (filled h 0x45000000#32)) zeroF h.ones h.none)

theorem rowList_apply (x : Full) (r : Fin 2048) : rowList h x (ix1 r) = ∑ k, rowOf x r k := by
  simp only [rowList, Host.reduceAdd, Ideal.hostReduceAdd_def]
  rw [Ideal.hostReduceAdd_single h.rows (by decide)]
  refine (congrArg (· + _) Ideal.ofBits_zero_f32).trans ((zero_add _).trans (Finset.sum_congr rfl fun k _ => ?_))
  exact congrArg x (funext fun a => Fin.ext (match a with | ⟨0, _⟩ => rfl | ⟨1, _⟩ => rfl))

theorem fullColSum_apply (x : Full) (s : Fin 2048) : fullColSum h x (ix2 0 s) = ∑ r : Fin 2048, rowOf x r s := by
  refine (shapeCast_apply _ h.flat (ix2 (0 : Fin 1) s) (ix1 s) (by
    rw [Shape.rowMajor_val_one, Shape.rowMajor_val_two]
    show s.val = 0 * 2048 + s.val
    omega)).trans ?_
  simp only [Host.reduceAdd, Ideal.hostReduceAdd_def]
  rw [Ideal.hostReduceAdd_single h.cols (by decide)]
  refine (congrArg (· + _) Ideal.ofBits_zero_f32).trans ((zero_add _).trans (Finset.sum_congr rfl fun k _ => ?_))
  exact congrArg x (funext fun a => Fin.ext (match a with | ⟨0, _⟩ => rfl | ⟨1, _⟩ => rfl))

theorem filled_apply (b : BitVec 32) (y : STall.Idx) : filled h b y = Ideal.ofBits .f32 b :=
  broadcastInDim_apply _ h.fill (constant (F := Ideal) SNone .f32 b) y (fun a => a.elim0) (fun a => a.elim0)

theorem spreadF_apply (x : FVec Ideal STall .f32) (r s : Fin 2048) : spreadF h x (ix2 r s) = x (ix2 r (0 : Fin 1)) :=
  broadcastInDim_apply _ h.spread x (ix2 r s) (ix2 r (0 : Fin 1)) (fun a => match a with
    | ⟨0, _⟩ => rfl
    | ⟨1, _⟩ => rfl)

theorem overF_apply (x : Line) (r s : Fin 2048) : overF h x (ix2 r s) = line x s :=
  broadcastInDim_apply _ h.over x (ix2 r s) (ix2 (0 : Fin 1) s) (fun a => match a with
    | ⟨0, _⟩ => rfl
    | ⟨1, _⟩ => rfl)

theorem fullSquare_apply (x : Full) (r : Fin 2048) : fullSquare h x (ix2 r (0 : Fin 1)) = square (rowOf x r) := by
  show Ideal.div (broadcastInDim STall ![0] h.column (rowList h (mulf x x)) (ix2 r (0 : Fin 1)))
    (filled h 0x45000000#32 (ix2 r (0 : Fin 1))) + filled h 0x358637BD#32 (ix2 r (0 : Fin 1)) = _
  rw [filled_apply, filled_apply,
    broadcastInDim_apply _ h.column _ (ix2 r (0 : Fin 1)) (ix1 r) (fun a => match a with | ⟨0, _⟩ => rfl), rowList_apply]
  rfl

theorem fullInv_apply (x : Full) (r : Fin 2048) : fullInv h x (ix2 r (0 : Fin 1)) = inv (rowOf x r) :=
  congrArg Ideal.rsqrt (fullSquare_apply h x r)

theorem fullHat_apply (x : Full) (r s : Fin 2048) : fullHat h x (ix2 r s) = rowOf x r s * inv (rowOf x r) := by
  show (x (ix2 r s) : EReal) * spreadF h (fullInv h x) (ix2 r s) = _
  rw [spreadF_apply, fullInv_apply]
  rfl

theorem fullThrough_apply (x d : Full) (r s : Fin 2048) :
    fullThrough h x d (ix2 r s) = through (rowOf x r) (rowOf d r) := by
  have key : ∀ i : STall.Idx, i = ix2 r (0 : Fin 1) →
      Host.divf (F := Ideal) (mulf (shapeCast STall (rowList h (mulf x d)) h.tall)
        (mulf (filled h 0xBF000000#32) (Host.divf (fullInv h x) (fullSquare h x)))) (filled h 0x45000000#32) i
        = through (rowOf x r) (rowOf d r) := by
    rintro i rfl
    show Ideal.div (shapeCast STall (rowList h (mulf x d)) h.tall (ix2 r (0 : Fin 1)) * (filled h 0xBF000000#32 (ix2 r (0 : Fin 1))
      * Ideal.div (fullInv h x (ix2 r (0 : Fin 1))) (fullSquare h x (ix2 r (0 : Fin 1))))) (filled h 0x45000000#32 (ix2 r (0 : Fin 1))) = _
    rw [filled_apply, filled_apply, fullInv_apply, fullSquare_apply, shapeCast_apply _ h.tall (ix2 r (0 : Fin 1)) (ix1 r) (by
      rw [Shape.rowMajor_val_one, Shape.rowMajor_val_two]
      show r.val = r.val * 1 + 0
      omega), rowList_apply]
    rfl
  refine (broadcastInDim_apply _ h.across _ (ix2 r s) (ix1 r) (fun a => match a with | ⟨0, _⟩ => rfl)).trans ?_
  simp only [Host.reduceAdd, Ideal.hostReduceAdd_def]
  rw [Ideal.hostReduceAdd_single h.ones (by decide)]
  refine (congrArg (· + _) Ideal.ofBits_zero_f32).trans ((zero_add _).trans ((Fin.sum_univ_one _).trans ?_))
  exact key _ (funext fun a => Fin.ext (match a with | ⟨0, _⟩ => rfl | ⟨1, _⟩ => rfl))

/-- The references' three summands are the kernels' gradient. -/
theorem fullBack (x d : Full) (r s : Fin 2048) : back (rowOf x r) (rowOf d r) s
    = d (ix2 r s) * spreadF h (fullInv h x) (ix2 r s)
      + (x (ix2 r s) * fullThrough h x d (ix2 r s) + fullThrough h x d (ix2 r s) * x (ix2 r s)) := by
  rw [spreadF_apply, fullInv_apply, fullThrough_apply]
  exact back_eq _ _ _

end Cert.Norm

end
-- ==== Proof.NormMlp.Result.lean ====
module

public import proofs.«01_k».proof.Defs
public import proofs.«01_k».proof.Proof.Gen.Reference17Ideal.Run
public import proofs.«01_k».proof.Proof.Gen.Reference17Ideal.Read
public import proofs.«01_k».proof.Proof.NormMlp.Array
public import proofs.«01_k».proof.Proof.Norm.Whole

/-! # The gradient of the norm before the MLP: the reference's value, and the two programs' equality -/

@[expose] public section

noncomputable section

namespace Cert.Reference17Ideal.NormMlp

open Cert.Reference17Ideal Cert.Reference17Ideal.Gen Cert.Reference17Ideal.Read Cert.Norm Cert.Kernel17Ideal.NormMlp
open Idealize.ShloMosaic Idealize.ShloMosaic.ValueIdx Idealize.SL.Sem

variable (x y d e : Stream) (a g sc : Line)

/-- The host functions' shapes. -/
theorem wholes : Wholes :=
  ⟨reducesTo_S2048x2048_S2048_d1, reducesTo_S2048x2048_S2048_d0, reducesTo_S2048x1_S2048_d1, h_S_, bcast_S2048_S2048x1_0,
    bcast_S_S2048x1, bcast_S2048x1_S2048x2048_0_1, bcast_S1x2048_S2048x2048_0_1, bcast_S2048_S2048x2048_0,
    shapeCasts_S2048_S2048x1, shapeCasts_S2048_S1x2048⟩

/-- The copies the reference takes have the same shape. -/
theorem copy22 : val_main_v22 (F := Ideal) d = d := shapeCast_self _ _
theorem copy53 : val_main_v53 (F := Ideal) x d e g sc = val_main_v49 (F := Ideal) x d e g sc := shapeCast_self _ _

/-- The reference's scaled gradient is of the incoming gradient. -/
theorem dn_apply (r s : Fin 2048) : val_main_v29 (F := Ideal) d sc (ix2 r s) = gained (rowOf d r) sc s := by
  show (val_main_v22 (F := Ideal) d (ix2 r s) : EReal) * overF wholes (val_main_v17 (F := Ideal) sc) (ix2 r s) = _
  rw [overF_apply, copy22]
  rfl

theorem dd_row (r : Fin 2048) : rowOf (n := 2048) (φ := .f32) (val_main_v34 (F := Ideal) d g sc) r
    = fun k => gained (rowOf d r) sc k * line g k := by
  funext s
  show (val_main_v29 (F := Ideal) d sc (ix2 r s) : EReal) * overF wholes g (ix2 r s) = _
  rw [dn_apply, overF_apply]

theorem result49 : val_main_v49 (F := Ideal) x d e g sc = dStream x d e g sc := by
  funext j
  obtain ⟨r, s, rfl⟩ : ∃ r s : Fin 2048, j = ix2 r s := ⟨j 0, j 1, eq_ix2 j⟩
  refine Eq.trans ?_ (congrArg (e (ix2 r s) + ·) (congrArg (back (rowOf x r) · s) (dd_row d g sc r)))
  refine Eq.trans ?_ (congrArg (e (ix2 r s) + ·) (fullBack wholes x (val_main_v34 (F := Ideal) d g sc) r s)).symm
  exact (congrArg (· + _) (add_assoc _ _ _)).trans ((add_assoc _ _ _).trans (congrArg _ (add_assoc _ _ _)))

theorem result59 : val_main_v59 (F := Ideal) x d e a g sc = dMix x d e a g sc := by
  funext j
  obtain ⟨r, s, rfl⟩ : ∃ r s : Fin 2048, j = ix2 r s := ⟨j 0, j 1, eq_ix2 j⟩
  show (overF wholes a (ix2 r s) : EReal) * val_main_v53 (F := Ideal) x d e g sc (ix2 r s) = _
  rw [overF_apply, copy53, result49, mul_comm]
  rfl

theorem result24 : val_main_v24 (F := Ideal) d = dShift d := by
  funext y
  obtain ⟨s, rfl⟩ : ∃ s : Fin 2048, y = ix2 0 s := ⟨y 1, line_idx y⟩
  exact fullColSum_apply wholes d s

theorem result27 : val_main_v27 (F := Ideal) x d g = dScale x d g := by
  funext y
  obtain ⟨s, rfl⟩ : ∃ s : Fin 2048, y = ix2 0 s := ⟨y 1, line_idx y⟩
  refine (fullColSum_apply wholes (val_main_v25 (F := Ideal) x d g) s).trans ?_
  refine Eq.trans ?_ (total_apply _ s).symm
  refine Finset.sum_congr rfl fun r _ => ?_
  show (fullHat wholes x (ix2 r s) * overF wholes g (ix2 r s) : EReal) * val_main_v22 (F := Ideal) d (ix2 r s) = _
  rw [copy22, fullHat_apply, overF_apply, mul_comm]
  rfl

theorem result32 : val_main_v32 (F := Ideal) x d sc = dGain x d sc := by
  funext y
  obtain ⟨s, rfl⟩ : ∃ s : Fin 2048, y = ix2 0 s := ⟨y 1, line_idx y⟩
  refine (fullColSum_apply wholes (val_main_v30 (F := Ideal) x d sc) s).trans ?_
  refine Eq.trans ?_ (total_apply _ s).symm
  refine Finset.sum_congr rfl fun r _ => ?_
  show (fullHat wholes x (ix2 r s) : EReal) * val_main_v29 (F := Ideal) d sc (ix2 r s) = _
  rw [fullHat_apply, dn_apply, mul_comm]
  rfl

theorem result58 : val_main_v58 (F := Ideal) x y d e g sc = dGate x y d e g sc := by
  funext z
  obtain ⟨s, rfl⟩ : ∃ s : Fin 2048, z = ix2 0 s := ⟨z 1, line_idx z⟩
  refine (fullColSum_apply wholes (val_main_v56 (F := Ideal) x y d e g sc) s).trans ?_
  refine Eq.trans ?_ (total_apply _ s).symm
  refine Finset.sum_congr rfl fun r _ => ?_
  show (val_main_v53 (F := Ideal) x d e g sc (ix2 r s) : EReal) * y (ix2 r s) = _
  rw [copy53, result49]
  rfl

/-- The reference runs, leaves its arguments alone and declares no semaphore. -/
theorem frame : Cert.quiescent_Reference17Ideal := fun m ρ _ =>
  (θ_run Cert.Reference17Ideal.defs _ _).mono (fun r h => ⟨fun c => (h c).2.2.2.2.2.2, sem_eq_zero_of_no_sems (by decide) r.2⟩)
    (Cert.Reference17Ideal.Value.run (F := Ideal) m ρ)

/-- The two programs end with the same arrays. -/
theorem algebraic : Cert.algebraic_Kernel17Ideal_Reference17Ideal := by
  intro m g m' g' _ hargs
  refine ⟨fun c => dStream (Xa m c) (Da m c) (Ea m c) (Ga m c) (Sa m c),
    fun c => dMix (Xa m c) (Da m c) (Ea m c) (Aa m c) (Ga m c) (Sa m c), fun c => dShift (Da m c),
    fun c => dScale (Xa m c) (Da m c) (Ga m c), fun c => dGain (Xa m c) (Da m c) (Sa m c),
    fun c => dGate (Xa m c) (Ma m c) (Da m c) (Ea m c) (Ga m c) (Sa m c), ?_, ?_⟩
  · refine (θ_run Cert.Kernel17Ideal.defs _ _).mono (fun r h c => ?_) (Cert.Kernel17Ideal.Value.run_blocks (F := Ideal) m g)
    obtain ⟨e7, e8, e9, e10, e11, e12, k⟩ := h c
    exact ⟨e7.trans (final7 m c), e8.trans (final8 m c), e9.trans (final9 m c), e10.trans (final10 m c),
      e11.trans (final11 m c), e12.trans (final12 m c), k⟩
  · refine (θ_run Cert.Reference17Ideal.defs _ _).mono (fun r h c => ?_) (Cert.Reference17Ideal.Value.run (F := Ideal) m' g')
    obtain ⟨e7, e8, e9, e10, e11, e12, k⟩ := h c
    obtain ⟨a0, a1, a2, a3, a4, a5, a6⟩ := hargs c
    refine ⟨e7.trans ?_, e8.trans ?_, e9.trans ?_, e10.trans ?_, e11.trans ?_, e12.trans ?_, k⟩
    · refine (val_main_v49_eq _ _).trans ?_
      rw [a0, a2, a3, a5, a6]; exact result49 _ _ _ _ _
    · refine (val_main_v59_eq _ _).trans ?_
      rw [a0, a2, a3, a4, a5, a6]; exact result59 _ _ _ _ _ _
    · refine (val_main_v24_eq _).trans ?_
      rw [a2]; exact result24 _
    · refine (val_main_v27_eq _ _ _).trans ?_
      rw [a0, a2, a5]; exact result27 _ _ _
    · refine (val_main_v32_eq _ _ _).trans ?_
      rw [a0, a2, a6]; exact result32 _ _ _
    · refine (val_main_v58_eq _ _).trans ?_
      rw [a0, a1, a2, a3, a5, a6]; exact result58 _ _ _ _ _ _

end Cert.Reference17Ideal.NormMlp

end
-- ==== Proof.NormMix.Array.lean ====
module

public import proofs.«01_k».proof.Proof.Gen.Kernel18Ideal.Value
public import proofs.«01_k».proof.Proof.Norm.Block
public import proofs.«01_k».proof.Proof.Blocks

/-! # The gradient of the modulated norm before the mixer: the result arrays after the run

Point `t` of the grid works on rows `256 t …`. It writes the block of the stream's gradient back at once; the gradients of
the shift, the scale and the gain gather over the eight points and go back at the last. -/

@[expose] public section

noncomputable section

namespace Cert.Kernel18Ideal.NormMix

open Cert.Kernel18Ideal Cert.Kernel18Ideal.Gen Cert.Blocks Cert.Norm Cert.Product
open Idealize.ShloMosaic Idealize.ShloMosaic.TcCoe Idealize.ShloMosaic.ValueIdx
open scoped BigOperators

/-! ## The formulas -/

abbrev Stream := FVec Ideal S2048x2048 .f32
abbrev Taller := FVec Ideal S2304x2048 .f32

/-- The incoming gradient's row for row `i` of the stream. -/
def grad (d : Taller) (i : Fin 2048) : Row := rowOf d ⟨256 + i.val, by omega⟩

/-- The stream's gradient. -/
def dStream (x : Stream) (d : Taller) (e : Stream) (g sc : Line) : Stream := fun j =>
  e j + back (rowOf x (j 0)) (fun k => gained (grad d (j 0)) sc k * line g k) (j 1)

/-- The shift's gradient. -/
def dShift (d : Taller) : Line := fun y => ∑ i, grad d i (y 1)

/-- The scale's gradient. -/
def dScale (x : Stream) (d : Taller) (g : Line) : Line := fun y =>
  ∑ i, grad d i (y 1) * (rowOf x i (y 1) * inv (rowOf x i) * line g (y 1))

/-- The gain's gradient. -/
def dGain (x : Stream) (d : Taller) (sc : Line) : Line := fun y =>
  ∑ i, gained (grad d i) sc (y 1) * (rowOf x i (y 1) * inv (rowOf x i))

/-! ## One block -/

/-- The block functions' shapes. -/
theorem shapes : Shapes :=
  ⟨reduces_S256x2048_S256, reduces_S256x2048_S2048, shapeCasts_S256_S256x1, shapeCasts_S2048_S1x2048,
    broadcasts_S256x1_S256x2048, broadcasts_S1x2048_S256x2048⟩

section
variable (x d e : Block) (g sc : Line) (r : Fin 256) (s : Fin 2048)

theorem gained_apply : k0_pay9 (F := Ideal) d sc (ix2 r s) = gained (rowOf d r) sc s := by
  show d (ix2 r s) * broadcastTo S256x2048 _ broadcasts_S1x2048_S256x2048 (ix2 r s) = _
  rw [over_apply shapes]
  rfl

theorem stream_apply : k0_pay10 (F := Ideal) x d e g sc (ix2 r s)
    = rowOf e r s + back (rowOf x r) (fun k => gained (rowOf d r) sc k * line g k) s := by
  show e (ix2 r s) + blockBack shapes x (mulf (k0_pay9 (F := Ideal) d sc) (broadcastTo S256x2048 g broadcasts_S1x2048_S256x2048)) (ix2 r s) = _
  rw [blockBack_apply]
  refine congrArg (fun D => e (ix2 r s) + back (rowOf x r) D s) (funext fun k => ?_)
  show k0_pay9 (F := Ideal) d sc (ix2 r k) * broadcastTo S256x2048 g broadcasts_S1x2048_S256x2048 (ix2 r k) = _
  rw [over_apply shapes, gained_apply]

theorem shift_apply : line (k0_pay11 (F := Ideal) d) s = ∑ r, rowOf d r s := colSum_apply shapes d s

theorem scale_apply : line (k0_pay12 (F := Ideal) x d g) s
    = ∑ r, rowOf d r s * (rowOf x r s * inv (rowOf x r) * line g s) := by
  refine (colSum_apply shapes (mulf d (mulf (blockHat shapes x) (broadcastTo S256x2048 g broadcasts_S1x2048_S256x2048))) s).trans
    (Finset.sum_congr rfl fun r _ => ?_)
  show d (ix2 r s) * (blockHat shapes x (ix2 r s) * broadcastTo S256x2048 g broadcasts_S1x2048_S256x2048 (ix2 r s)) = _
  rw [over_apply shapes, blockHat_apply]
  rfl

theorem gain_apply (acc : Line) : line (k0_pay6 (F := Ideal) (k0_pay13 (F := Ideal) x d sc) acc) s
    = line acc s + ∑ r, gained (rowOf d r) sc s * (rowOf x r s * inv (rowOf x r)) := by
  show shapeCast S1x2048 acc shapeCasts_S1x2048_S1x2048 (ix2 (0 : Fin 1) s) + line (colSum shapes (k0_pay13 (F := Ideal) x d sc)) s = _
  rw [shapeCast_self, colSum_apply]
  refine congrArg (line acc s + ·) (Finset.sum_congr rfl fun r _ => ?_)
  show k0_pay9 (F := Ideal) d sc (ix2 r s) * blockHat shapes x (ix2 r s) = _
  rw [gained_apply, blockHat_apply]

/-- A buffer's further contribution. -/
theorem add2 (v acc : Line) : line (k0_pay2 (F := Ideal) v acc) s = line acc s + line v s := by
  show shapeCast S1x2048 acc shapeCasts_S1x2048_S1x2048 (ix2 (0 : Fin 1) s) + _ = _
  rw [shapeCast_self]
  rfl

theorem add4 (v acc : Line) : line (k0_pay4 (F := Ideal) v acc) s = line acc s + line v s := add2 s v acc

theorem zero1 : line (k0_pay1 (F := Ideal)) s = 0 := Ideal.ofBits_zero_f32
theorem zero3 : line (k0_pay3 (F := Ideal)) s = 0 := Ideal.ofBits_zero_f32
theorem zero5 : line (k0_pay5 (F := Ideal)) s = 0 := Ideal.ofBits_zero_f32

end

/-! ## The buffers -/

variable (m : (ℓ : Loc nD τ sig) → Buf (Elt Ideal) ℓ) (c : Dev nD)

set_option maxHeartbeats 1000000 in
/-- The first point starts the gathered sums from zero. -/
theorem first (t : Fin cfg0.N) (h : t.val % 8 = 0) : outsAt0 m c t.val t.isLt
    = (k0_pay10 (iblk m c 0 t) (iblk m c 1 t) (iblk m c 2 t) (iblk m c 3 t) (iblk m c 4 t),
      k0_pay2 (k0_pay11 (iblk m c 1 t)) (k0_pay1 (F := Ideal)),
      k0_pay4 (k0_pay12 (iblk m c 0 t) (iblk m c 1 t) (iblk m c 3 t)) (k0_pay3 (F := Ideal)),
      k0_pay6 (k0_pay13 (iblk m c 0 t) (iblk m c 1 t) (iblk m c 4 t)) (k0_pay5 (F := Ideal))) := by
  rw [outsAt0_A m c t h h h]
  unfold out0_A_5 out0_A_6 out0_A_7 out0_A_8
  rw [View.read_writes_eq_canon _ _ _ (cover0_A_5 _ _ _ _ _ _ _ _ _ _ _ _ _ _ _ _ _ _ _ _ _ _ _ _ _ _ _ _), View.read_writes_eq_canon _ _ _ (cover0_A_6 _ _ _ _ _ _ _ _ _ _ _ _ _ _ _ _ _ _ _ _ _ _ _ _ _ _ _ _),
    View.read_writes_eq_canon _ _ _ (cover0_A_7 _ _ _ _ _ _ _ _ _ _ _ _ _ _ _ _ _ _ _ _ _ _ _ _ _ _ _ _), View.read_writes_eq_canon _ _ _ (cover0_A_8 _ _ _ _ _ _ _ _ _ _ _ _ _ _ _ _ _ _ _ _ _ _ _ _ _ _ _ _)]
  unfold kernelRun0_A
  dsimp only
  sl_unfold_words
  simp only [View.canon_cons_unit_zero (S := S256x2048) zero_offsets, View.canon_cons_unit_zero (S := S1x2048) zero_offsets,
    load_after_store (S := S1x2048) _ zero_offsets, View.readAt_eq_ld, (hs0_0 t).read_unread, (hs0_1 t).read_unread,
    (hs0_2 t).read_unread, (hs0_3 t).read_unread, (hs0_4 t).read_unread, (hs0_6 t).read_unread, (hs0_7 t).read_unread,
    (hs0_8 t).read_unread, View.ld_unit_zero (S := S256x2048) zero_offsets, View.ld_unit_zero (S := S1x2048) zero_offsets]

set_option maxHeartbeats 1000000 in
/-- A later point adds to them. -/
theorem later (t : Fin cfg0.N) (h : ¬t.val % 8 = 0) : outsAt0 m c t.val t.isLt
    = (k0_pay10 (iblk m c 0 t) (iblk m c 1 t) (iblk m c 2 t) (iblk m c 3 t) (iblk m c 4 t),
      k0_pay2 (k0_pay11 (iblk m c 1 t)) (outsAt0 m c (t.val - 1) (Nat.lt_of_le_of_lt (Nat.sub_le _ _) t.isLt)).2.1,
      k0_pay4 (k0_pay12 (iblk m c 0 t) (iblk m c 1 t) (iblk m c 3 t)) (outsAt0 m c (t.val - 1) (Nat.lt_of_le_of_lt (Nat.sub_le _ _) t.isLt)).2.2.1,
      k0_pay6 (k0_pay13 (iblk m c 0 t) (iblk m c 1 t) (iblk m c 4 t)) (outsAt0 m c (t.val - 1) (Nat.lt_of_le_of_lt (Nat.sub_le _ _) t.isLt)).2.2.2) := by
  rw [outsAt0_B m c t h h h]
  unfold out0_B_5 out0_B_6 out0_B_7 out0_B_8
  rw [View.read_writes_eq_canon _ _ _ (cover0_B_5 _ _ _ _ _ _ _ _ _ _ _ _ _ _ _ _ _ _ _ _ _ _ _ _ _ _ _ _ _ _ _), View.read_writes_eq_canon _ _ _ (cover0_B_6 _ _ _ _ _ _ _ _ _ _ _ _ _ _ _ _ _ _ _ _ _ _ _ _ _ _ _ _ _ _ _),
    View.read_writes_eq_canon _ _ _ (cover0_B_7 _ _ _ _ _ _ _ _ _ _ _ _ _ _ _ _ _ _ _ _ _ _ _ _ _ _ _ _ _ _ _), View.read_writes_eq_canon _ _ _ (cover0_B_8 _ _ _ _ _ _ _ _ _ _ _ _ _ _ _ _ _ _ _ _ _ _ _ _ _ _ _ _ _ _ _)]
  unfold kernelRun0_B
  dsimp only
  sl_unfold_words
  simp only [View.canon_cons_unit_zero (S := S256x2048) zero_offsets, View.canon_cons_unit_zero (S := S1x2048) zero_offsets,
    load_after_store (S := S1x2048) _ zero_offsets, View.readAt_eq_ld, (hs0_0 t).read_unread, (hs0_1 t).read_unread,
    (hs0_2 t).read_unread, (hs0_3 t).read_unread, (hs0_4 t).read_unread, (hs0_6 t).read_unread, (hs0_7 t).read_unread,
    (hs0_8 t).read_unread, View.ld_unit_zero (S := S256x2048) zero_offsets, View.ld_unit_zero (S := S1x2048) zero_offsets]

/-- The arguments. -/
abbrev Xa : Stream := m ((c : Thread nD τ).loc main_arg0)
abbrev Da : Taller := m ((c : Thread nD τ).loc main_arg1)
abbrev Ea : Stream := m ((c : Thread nD τ).loc main_arg2)
abbrev Ga : Line := m ((c : Thread nD τ).loc main_arg3)
abbrev Sa : Line := m ((c : Thread nD τ).loc main_arg4)

/-- The windows' block indices at a point. -/
theorem idx_facts : ∀ t : Fin cfg0.N,
    (win0_0.index t (0 : Fin 2) = t.val ∧ win0_0.index t (1 : Fin 2) = 0)
    ∧ (win0_1.index t (0 : Fin 2) = 1 + t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem t_lt (t : Fin cfg0.N) : t.val < 8 := lt_of_lt_of_eq t.isLt (show cfg0.N = 8 from N_0)

theorem x_row (t : Fin cfg0.N) (r : Fin 256) : rowOf (n := 256) (φ := .f32) (iblk m c 0 t) r = rowOf (Xa m c) (rowAt t.val r) := by
  obtain ⟨⟨e0, e1⟩, _⟩ := idx_facts t
  funext k
  show V m c main_arg0 (((cfg0.win 0).blk t).view.emb _) = _
  exact congrArg (Xa m c) (row_place (t_lt t) ⟨e0, e1⟩ r k)

theorem d_row (t : Fin cfg0.N) (r : Fin 256) : rowOf (n := 256) (φ := .f32) (iblk m c 1 t) r = grad (Da m c) (rowAt t.val r) := by
  obtain ⟨_, ⟨e0, e1⟩, _⟩ := idx_facts t
  have ht := t_lt t
  funext k
  show V m c main_arg1 (((cfg0.win 1).blk t).view.emb _) = _
  refine congrArg (Da m c) (funext fun b => Fin.ext ?_)
  match b with
  | ⟨0, _⟩ => show win0_1.index t (0 : Fin 2) * 256 + 1 * r.val = 256 + (256 * t.val + r.val) % 2048; rw [e0]; omega
  | ⟨1, _⟩ => show win0_1.index t (1 : Fin 2) * 2048 + 1 * k.val = k.val; rw [e1]; omega

theorem e_row (t : Fin cfg0.N) (r : Fin 256) : rowOf (n := 256) (φ := .f32) (iblk m c 2 t) r = rowOf (Ea m c) (rowAt t.val r) := by
  obtain ⟨_, _, ⟨e0, e1⟩, _⟩ := idx_facts t
  funext k
  show V m c main_arg2 (((cfg0.win 2).blk t).view.emb _) = _
  exact congrArg (Ea m c) (row_place (t_lt t) ⟨e0, e1⟩ r k)

theorem g_line (t : Fin cfg0.N) : (iblk m c 3 t : Line) = Ga m c := by
  obtain ⟨_, _, _, e, _⟩ := idx_facts t
  funext y
  show V m c main_arg3 (((cfg0.win 3).blk t).view.emb y) = _
  exact congrArg (Ga m c) (line_place e y)

theorem s_line (t : Fin cfg0.N) : (iblk m c 4 t : Line) = Sa m c := by
  obtain ⟨_, _, _, _, e, _⟩ := idx_facts t
  funext y
  show V m c main_arg4 (((cfg0.win 4).blk t).view.emb y) = _
  exact congrArg (Sa m c) (line_place e y)

/-! ## The arrays -/

theorem stream_block (t : Fin cfg0.N) : (outsAt0 m c t.val t.isLt).1
    = k0_pay10 (iblk m c 0 t) (iblk m c 1 t) (iblk m c 2 t) (iblk m c 3 t) (iblk m c 4 t) := by
  by_cases h : t.val % 8 = 0
  · rw [first m c t h]
  · rw [later m c t h]

theorem final5 : (dats m 0 c).arrAt 5 cfg0.N = dStream (Xa m c) (Da m c) (Ea m c) (Ga m c) (Sa m c) := by
  have emb : ∀ (t : Fin cfg0.N) (r : Fin 256) (s : Fin 2048),
      (((cfg0.win 5).blk t).view.emb (ix2 r s) : S2048x2048.Idx) = ix2 (rowAt t.val r) s := fun t r s => by
    obtain ⟨_, _, _, _, _, e, _⟩ := idx_facts t
    exact row_place (t_lt t) e r s
  refine (dats m 0 c).arrAt_eq_of_cover 5 _ (fun t _ => ?_) (fun y => ?_)
  · rw [Cert.Kernel18Ideal.Value.flushed5, stream_block]
    funext (z : S256x2048.Idx)
    obtain ⟨r, s, rfl⟩ : ∃ (r : Fin 256) (s : Fin 2048), z = ix2 r s := ⟨z 0, z 1, eq_ix2 z⟩
    refine (stream_apply _ _ _ _ _ r s).trans ?_
    rw [x_row, d_row, e_row, g_line, s_line]
    exact (congrArg (dStream (Xa m c) (Da m c) (Ea m c) (Ga m c) (Sa m c)) (emb t r s)).symm
  · obtain ⟨k, r, e⟩ := row_onto (y 0)
    obtain ⟨t, h⟩ : ∃ t : Fin cfg0.N, t.val = k.val := ⟨⟨k.val, lt_of_lt_of_eq k.isLt (show 8 = cfg0.N from N_0.symm)⟩, rfl⟩
    rw [← h] at e
    have hy : (((cfg0.win 5).blk t).view.emb (ix2 r (y 1)) : S2048x2048.Idx) = y :=
      (emb t r (y 1)).trans (e ▸ (eq_ix2 y).symm)
    exact ⟨t, flush0_5 _, (congrArg (· ∈ ((cfg0.win 5).blk t).view.set) hy).mp (View.emb_mem_set _ _)⟩

theorem sum6 (n : ℕ) (hn : n < cfg0.N) (s : Fin 2048) :
    line (outsAt0 m c n hn).2.1 s = ∑ i ∈ Finset.range (n + 1), ∑ r : Fin 256, grad (Da m c) (rowAt i r) s := by
  refine gather (fun n hn => line (outsAt0 m c n hn).2.1 s) _ (fun hn => ?_) (fun n hn => ?_) n hn
  · rw [first m c ⟨0, hn⟩ rfl, add2, zero1, zero_add, shift_apply]
    simp only [d_row]
  · have h8 := t_lt ⟨n + 1, hn⟩
    rw [later m c ⟨n + 1, hn⟩ (by dsimp only at h8 ⊢; omega), add2, shift_apply]
    simp only [d_row]
    rfl

theorem sum7 (n : ℕ) (hn : n < cfg0.N) (s : Fin 2048) : line (outsAt0 m c n hn).2.2.1 s
    = ∑ i ∈ Finset.range (n + 1), ∑ r : Fin 256, grad (Da m c) (rowAt i r) s
      * (rowOf (Xa m c) (rowAt i r) s * inv (rowOf (Xa m c) (rowAt i r)) * line (Ga m c) s) := by
  refine gather (fun n hn => line (outsAt0 m c n hn).2.2.1 s) _ (fun hn => ?_) (fun n hn => ?_) n hn
  · rw [first m c ⟨0, hn⟩ rfl, add4, zero3, zero_add, scale_apply]
    simp only [d_row, x_row, g_line]
  · have h8 := t_lt ⟨n + 1, hn⟩
    rw [later m c ⟨n + 1, hn⟩ (by dsimp only at h8 ⊢; omega), add4, scale_apply]
    simp only [d_row, x_row, g_line]
    rfl

theorem sum8 (n : ℕ) (hn : n < cfg0.N) (s : Fin 2048) : line (outsAt0 m c n hn).2.2.2 s
    = ∑ i ∈ Finset.range (n + 1), ∑ r : Fin 256, gained (grad (Da m c) (rowAt i r)) (Sa m c) s
      * (rowOf (Xa m c) (rowAt i r) s * inv (rowOf (Xa m c) (rowAt i r))) := by
  refine gather (fun n hn => line (outsAt0 m c n hn).2.2.2 s) _ (fun hn => ?_) (fun n hn => ?_) n hn
  · rw [first m c ⟨0, hn⟩ rfl, gain_apply, zero5, zero_add]
    simp only [d_row, x_row, s_line]
  · have h8 := t_lt ⟨n + 1, hn⟩
    rw [later m c ⟨n + 1, hn⟩ (by dsimp only at h8 ⊢; omega), gain_apply]
    simp only [d_row, x_row, s_line]
    rfl

/-- The last point. -/
theorem last_point : ∃ t : Fin cfg0.N, t.val % 8 = 7 := ⟨⟨7, by rw [show cfg0.N = 8 from N_0]; omega⟩, rfl⟩

theorem final6 : (dats m 0 c).arrAt 6 cfg0.N = dShift (Da m c) := by
  have emb : ∀ (t : Fin cfg0.N) (y : S1x2048.Idx), (((cfg0.win 6).blk t).view.emb y : S1x2048.Idx) = y := fun t y => by
    obtain ⟨_, _, _, _, _, _, e, _⟩ := idx_facts t
    exact line_place e y
  refine (dats m 0 c).arrAt_eq_of_cover 6 _ (fun t hf => ?_) (fun y => ?_)
  · rw [Cert.Kernel18Ideal.Value.flushed6]
    funext (y : S1x2048.Idx)
    obtain ⟨s, rfl⟩ : ∃ s : Fin 2048, y = ix2 0 s := ⟨y 1, line_idx y⟩
    refine (sum6 m c t.val t.isLt s).trans ?_
    rw [eighth (t_lt t) ((flush0_6 t).mp hf), rows_sum fun i => grad (Da m c) i s]
    exact (congrArg (dShift (Da m c)) (emb t (ix2 0 s))).symm
  · obtain ⟨t, h⟩ := last_point
    exact ⟨t, (flush0_6 t).mpr h, (congrArg (· ∈ ((cfg0.win 6).blk t).view.set) (emb t y)).mp (View.emb_mem_set _ _)⟩

theorem final7 : (dats m 0 c).arrAt 7 cfg0.N = dScale (Xa m c) (Da m c) (Ga m c) := by
  have emb : ∀ (t : Fin cfg0.N) (y : S1x2048.Idx), (((cfg0.win 7).blk t).view.emb y : S1x2048.Idx) = y := fun t y => by
    obtain ⟨_, _, _, _, _, _, _, e, _⟩ := idx_facts t
    exact line_place e y
  refine (dats m 0 c).arrAt_eq_of_cover 7 _ (fun t hf => ?_) (fun y => ?_)
  · rw [Cert.Kernel18Ideal.Value.flushed7]
    funext (y : S1x2048.Idx)
    obtain ⟨s, rfl⟩ : ∃ s : Fin 2048, y = ix2 0 s := ⟨y 1, line_idx y⟩
    refine (sum7 m c t.val t.isLt s).trans ?_
    rw [eighth (t_lt t) ((flush0_7 t).mp hf),
      rows_sum fun i => grad (Da m c) i s * (rowOf (Xa m c) i s * inv (rowOf (Xa m c) i) * line (Ga m c) s)]
    exact (congrArg (dScale (Xa m c) (Da m c) (Ga m c)) (emb t (ix2 0 s))).symm
  · obtain ⟨t, h⟩ := last_point
    exact ⟨t, (flush0_7 t).mpr h, (congrArg (· ∈ ((cfg0.win 7).blk t).view.set) (emb t y)).mp (View.emb_mem_set _ _)⟩

theorem final8 : (dats m 0 c).arrAt 8 cfg0.N = dGain (Xa m c) (Da m c) (Sa m c) := by
  have emb : ∀ (t : Fin cfg0.N) (y : S1x2048.Idx), (((cfg0.win 8).blk t).view.emb y : S1x2048.Idx) = y := fun t y => by
    obtain ⟨_, _, _, _, _, _, _, _, e⟩ := idx_facts t
    exact line_place e y
  refine (dats m 0 c).arrAt_eq_of_cover 8 _ (fun t hf => ?_) (fun y => ?_)
  · rw [Cert.Kernel18Ideal.Value.flushed8]
    funext (y : S1x2048.Idx)
    obtain ⟨s, rfl⟩ : ∃ s : Fin 2048, y = ix2 0 s := ⟨y 1, line_idx y⟩
    refine (sum8 m c t.val t.isLt s).trans ?_
    rw [eighth (t_lt t) ((flush0_8 t).mp hf),
      rows_sum fun i => gained (grad (Da m c) i) (Sa m c) s * (rowOf (Xa m c) i s * inv (rowOf (Xa m c) i))]
    exact (congrArg (dGain (Xa m c) (Da m c) (Sa m c)) (emb t (ix2 0 s))).symm
  · obtain ⟨t, h⟩ := last_point
    exact ⟨t, (flush0_8 t).mpr h, (congrArg (· ∈ ((cfg0.win 8).blk t).view.set) (emb t y)).mp (View.emb_mem_set _ _)⟩

end Cert.Kernel18Ideal.NormMix

end
-- ==== Proof.NormMix.Result.lean ====
module

public import proofs.«01_k».proof.Defs
public import proofs.«01_k».proof.Proof.Gen.Reference18Ideal.Run
public import proofs.«01_k».proof.Proof.Gen.Reference18Ideal.Read
public import proofs.«01_k».proof.Proof.NormMix.Array
public import proofs.«01_k».proof.Proof.Norm.Whole

/-! # The gradient of the norm before the mixers: the reference's value, and the two programs' equality -/

@[expose] public section

noncomputable section

namespace Cert.Reference18Ideal.NormMix

open Cert.Reference18Ideal Cert.Reference18Ideal.Gen Cert.Reference18Ideal.Read Cert.Norm Cert.Kernel18Ideal.NormMix
open Idealize.ShloMosaic Idealize.ShloMosaic.ValueIdx Idealize.SL.Sem

variable (x e : Stream) (d : Taller) (g sc : Line)

/-- The host functions' shapes. -/
theorem wholes : Wholes :=
  ⟨reducesTo_S2048x2048_S2048_d1, reducesTo_S2048x2048_S2048_d0, reducesTo_S2048x1_S2048_d1, h_S_, bcast_S2048_S2048x1_0,
    bcast_S_S2048x1, bcast_S2048x1_S2048x2048_0_1, bcast_S1x2048_S2048x2048_0_1, bcast_S2048_S2048x2048_0,
    shapeCasts_S2048_S2048x1, shapeCasts_S2048_S1x2048⟩

theorem dh_apply (r s : Fin 2048) : val_main_v0 (F := Ideal) d (ix2 r s) = grad d r s := by
  rw [val_main_v0_apply]
  exact congrArg d (funext fun b => Fin.ext (match b with
    | ⟨0, _⟩ => rfl
    | ⟨1, _⟩ => rfl))

theorem scaled_apply (s : Fin 2048) : line (val_main_v18 (F := Ideal) sc) s = Ideal.ofBits .f32 0x3F800000#32 + line sc s := rfl

theorem dn_apply (r s : Fin 2048) : val_main_v29 (F := Ideal) d sc (ix2 r s) = gained (grad d r) sc s := by
  show (val_main_v0 (F := Ideal) d (ix2 r s) : EReal) * overF wholes (val_main_v18 (F := Ideal) sc) (ix2 r s) = _
  rw [dh_apply, overF_apply, scaled_apply]
  rfl

theorem dd_row (r : Fin 2048) : rowOf (n := 2048) (φ := .f32) (val_main_v34 (F := Ideal) d g sc) r
    = fun k => gained (grad d r) sc k * line g k := by
  funext s
  show (val_main_v29 (F := Ideal) d sc (ix2 r s) : EReal) * overF wholes g (ix2 r s) = _
  rw [dn_apply, overF_apply]

theorem result49 : val_main_v49 (F := Ideal) x d e g sc = dStream x d e g sc := by
  funext j
  obtain ⟨r, s, rfl⟩ : ∃ r s : Fin 2048, j = ix2 r s := ⟨j 0, j 1, eq_ix2 j⟩
  refine Eq.trans ?_ (congrArg (e (ix2 r s) + ·) (congrArg (back (rowOf x r) · s) (dd_row d g sc r)))
  refine Eq.trans ?_ (congrArg (e (ix2 r s) + ·) (fullBack wholes x (val_main_v34 (F := Ideal) d g sc) r s)).symm
  exact (congrArg (· + _) (add_assoc _ _ _)).trans ((add_assoc _ _ _).trans (congrArg _ (add_assoc _ _ _)))

theorem result24 : val_main_v24 (F := Ideal) d = dShift d := by
  funext y
  obtain ⟨s, rfl⟩ : ∃ s : Fin 2048, y = ix2 0 s := ⟨y 1, line_idx y⟩
  refine (fullColSum_apply wholes (val_main_v0 (F := Ideal) d) s).trans ?_
  exact Finset.sum_congr rfl fun r _ => dh_apply d r s

theorem result27 : val_main_v27 (F := Ideal) x d g = dScale x d g := by
  funext y
  obtain ⟨s, rfl⟩ : ∃ s : Fin 2048, y = ix2 0 s := ⟨y 1, line_idx y⟩
  refine (fullColSum_apply wholes (val_main_v25 (F := Ideal) x d g) s).trans ?_
  refine Finset.sum_congr rfl fun r _ => ?_
  show (fullHat wholes x (ix2 r s) * overF wholes g (ix2 r s) : EReal) * val_main_v0 (F := Ideal) d (ix2 r s) = _
  rw [fullHat_apply, overF_apply, dh_apply, mul_comm]

theorem result32 : val_main_v32 (F := Ideal) x d sc = dGain x d sc := by
  funext y
  obtain ⟨s, rfl⟩ : ∃ s : Fin 2048, y = ix2 0 s := ⟨y 1, line_idx y⟩
  refine (fullColSum_apply wholes (val_main_v30 (F := Ideal) x d sc) s).trans ?_
  refine Finset.sum_congr rfl fun r _ => ?_
  show (fullHat wholes x (ix2 r s) : EReal) * val_main_v29 (F := Ideal) d sc (ix2 r s) = _
  rw [fullHat_apply, dn_apply, mul_comm]

/-- The reference runs, leaves its arguments alone and declares no semaphore. -/
theorem frame : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

/-- The two programs end with the same arrays. -/
theorem algebraic : Cert.algebraic_Kernel18Ideal_Reference18Ideal := by
  intro m g m' g' _ hargs
  refine ⟨fun c => dStream (Xa m c) (Da m c) (Ea m c) (Ga m c) (Sa m c), fun c => dShift (Da m c),
    fun c => dScale (Xa m c) (Da m c) (Ga m c), fun c => dGain (Xa m c) (Da m c) (Sa m c), ?_, ?_⟩
  · refine (θ_run Cert.Kernel18Ideal.defs _ _).mono (fun r h c => ?_) (Cert.Kernel18Ideal.Value.run_blocks (F := Ideal) m g)
    obtain ⟨e5, e6, e7, e8, k⟩ := h c
    exact ⟨e5.trans (final5 m c), e6.trans (final6 m c), e7.trans (final7 m c), e8.trans (final8 m c), k⟩
  · refine (θ_run Cert.Reference18Ideal.defs _ _).mono (fun r h c => ?_) (Cert.Reference18Ideal.Value.run (F := Ideal) m' g')
    obtain ⟨e5, e6, e7, e8, k⟩ := h c
    obtain ⟨a0, a1, a2, a3, a4⟩ := hargs c
    refine ⟨e5.trans ?_, e6.trans ?_, e7.trans ?_, e8.trans ?_, k⟩
    · refine (val_main_v49_eq _ _).trans ?_
      rw [a0, a1, a2, a3, a4]; exact result49 _ _ _ _ _
    · refine (val_main_v24_eq _).trans ?_
      rw [a1]; exact result24 _
    · refine (val_main_v27_eq _ _ _).trans ?_
      rw [a0, a1, a3]; exact result27 _ _ _
    · refine (val_main_v32_eq _ _ _).trans ?_
      rw [a0, a1, a4]; exact result32 _ _ _

end Cert.Reference18Ideal.NormMix

end
-- ==== Proof.NormLast.Array.lean ====
module

public import proofs.«01_k».proof.Proof.Gen.Kernel19Ideal.Value
public import proofs.«01_k».proof.Proof.Norm.Block
public import proofs.«01_k».proof.Proof.Blocks

/-! # The gradient of the loss through the last norm: the result arrays after the run

Point `t` of the grid works on rows `256 t …`. It writes the blocks of the stream's and of the MLP's gradient back at
once; the loss's columns and the gradients of the gain and the gate gather over the eight points and go back at the last. -/

@[expose] public section

noncomputable section

namespace Cert.Kernel19Ideal.NormLast

open Cert.Kernel19Ideal Cert.Kernel19Ideal.Gen Cert.Blocks Cert.Norm Cert.Product
open Idealize.ShloMosaic Idealize.ShloMosaic.TcCoe Idealize.ShloMosaic.ValueIdx
open scoped BigOperators

/-! ## The formulas -/

abbrev Stream := FVec Ideal S2048x2048 .f32

/-- A row of the last stream, and its error. -/
def outRow (x y : Row) (a : Line) : Row := fun k => x k + line a k * y k
def errRow (x y t : Row) (a g : Line) : Row := fun k => hatRow (outRow x y a) k * line g k - t k

/-- A row of the loss's gradient in the normalised stream, and in the stream. -/
def lossRow (x y t : Row) (a g : Line) : Row := fun k => errRow x y t a g k * Ideal.ofBits .f32 0x3A000000#32
def dRow (x y t : Row) (a g : Line) : Row := back (outRow x y a) fun k => lossRow x y t a g k * line g k

/-- The gradient of the stream, and of the MLP's contribution to it. -/
def dStream (x y t : Stream) (a g : Line) : Stream := fun j => dRow (rowOf x (j 0)) (rowOf y (j 0)) (rowOf t (j 0)) a g (j 1)
def dDown (x y t : Stream) (a g : Line) : FVec Ideal S2048x2048 .bf16 := fun j => dStream x y t a g j * line a (j 1)

/-- The loss by columns, and the gradients of the gain and the gate. -/
def lossCols (x y t : Stream) (a g : Line) : Line := total fun i s =>
  errRow (rowOf x i) (rowOf y i) (rowOf t i) a g s * errRow (rowOf x i) (rowOf y i) (rowOf t i) a g s * Ideal.ofBits .f32 0x39800000#32
def dGain (x y t : Stream) (a g : Line) : Line := total fun i s =>
  lossRow (rowOf x i) (rowOf y i) (rowOf t i) a g s * hatRow (outRow (rowOf x i) (rowOf y i) a) s
def dGate (x y t : Stream) (a g : Line) : Line := total fun i s => dRow (rowOf x i) (rowOf y i) (rowOf t i) a g s * rowOf y i s

/-- The loss's factor is a positive real, so it multiplies a sum term by term. -/
theorem factor_sum {ι : Type} [Fintype ι] (f : ι → EReal) :
    (∑ i, f i) * Ideal.ofBits .f32 0x39800000#32 = ∑ i, f i * Ideal.ofBits .f32 0x39800000#32 := by
  have e : Ideal.ofBits .f32 0x39800000#32 = ((1 / 4096 : ℝ) : EReal) := by
    simp [Ideal.ofBits, Ideal.ieee]
    rw [← EReal.coe_mul]
    norm_num
  rw [e, mul_comm, Cert.Softmax.real_mul_sum (by norm_num)]
  exact Finset.sum_congr rfl fun i _ => mul_comm _ _

/-! ## One block -/

/-- The block functions' shapes. -/
theorem shapes : Shapes :=
  ⟨reduces_S256x2048_S256, reduces_S256x2048_S2048, shapeCasts_S256_S256x1, shapeCasts_S2048_S1x2048,
    broadcasts_S256x1_S256x2048, broadcasts_S1x2048_S256x2048⟩

section
variable (x y z : Block) (a g acc : Line) (r : Fin 256) (s : Fin 2048)

theorem out_row : rowOf (n := 256) (φ := .f32) (k0_pay1 (F := Ideal) x y a) r = outRow (rowOf x r) (rowOf y r) a := by
  funext k
  show x (ix2 r k) + broadcastTo S256x2048 a broadcasts_S1x2048_S256x2048 (ix2 r k) * y (ix2 r k) = _
  rw [over_apply shapes]
  rfl

theorem hat_apply : k0_pay3 (F := Ideal) x y a (ix2 r s) = hatRow (outRow (rowOf x r) (rowOf y r) a) s :=
  (blockHat_apply shapes (k0_pay1 (F := Ideal) x y a) r s).trans (congrArg (hatRow · s) (out_row x y a r))

theorem err_apply : k0_pay4 (F := Ideal) x y z a g (ix2 r s) = errRow (rowOf x r) (rowOf y r) (rowOf z r) a g s := by
  show k0_pay3 (F := Ideal) x y a (ix2 r s) * broadcastTo S256x2048 g broadcasts_S1x2048_S256x2048 (ix2 r s) - z (ix2 r s) = _
  rw [over_apply shapes, hat_apply]
  rfl

theorem loss_apply : k0_pay5 (F := Ideal) x y z a g (ix2 r s) = lossRow (rowOf x r) (rowOf y r) (rowOf z r) a g s :=
  congrArg (· * Ideal.ofBits .f32 0x3A000000#32) (err_apply x y z a g r s)

theorem stream_apply : k0_pay6 (F := Ideal) x y z a g (ix2 r s) = dRow (rowOf x r) (rowOf y r) (rowOf z r) a g s := by
  show blockBack shapes (k0_pay1 (F := Ideal) x y a)
    (mulf (k0_pay5 (F := Ideal) x y z a g) (broadcastTo S256x2048 g broadcasts_S1x2048_S256x2048)) (ix2 r s) = _
  rw [blockBack_apply, out_row]
  refine congrArg (fun D => back (outRow (rowOf x r) (rowOf y r) a) D s) (funext fun k => ?_)
  show k0_pay5 (F := Ideal) x y z a g (ix2 r k) * broadcastTo S256x2048 g broadcasts_S1x2048_S256x2048 (ix2 r k) = _
  rw [over_apply shapes, loss_apply]

theorem down_apply : k0_pay9 (F := Ideal) (k0_pay7 (F := Ideal) x y z a g) (ix2 r s)
    = dRow (rowOf x r) (rowOf y r) (rowOf z r) a g s * line a s := by
  show k0_pay6 (F := Ideal) x y z a g (ix2 r s) * broadcastTo S256x2048 a broadcasts_S1x2048_S256x2048 (ix2 r s) = _
  rw [over_apply shapes, stream_apply]

theorem cols_apply : line (k0_pay11 (F := Ideal) (k0_pay8 (F := Ideal) x y z a g) (Scalar.ofBits .f32 0x39800000#32) acc) s
    = line acc s + ∑ r, errRow (rowOf x r) (rowOf y r) (rowOf z r) a g s * errRow (rowOf x r) (rowOf y r) (rowOf z r) a g s
      * Ideal.ofBits .f32 0x39800000#32 := by
  show shapeCast S1x2048 acc shapeCasts_S1x2048_S1x2048 (ix2 (0 : Fin 1) s)
    + line (colSum shapes (mulf (k0_pay4 (F := Ideal) x y z a g) (k0_pay4 (F := Ideal) x y z a g))) s * Ideal.ofBits .f32 0x39800000#32 = _
  rw [shapeCast_self, colSum_apply, factor_sum]
  refine congrArg (line acc s + ·) (Finset.sum_congr rfl fun r _ => ?_)
  show k0_pay4 (F := Ideal) x y z a g (ix2 r s) * k0_pay4 (F := Ideal) x y z a g (ix2 r s) * _ = _
  rw [err_apply]

theorem gain_apply : line (k0_pay13 (F := Ideal) (k0_pay3 (F := Ideal) x y a) (k0_pay5 (F := Ideal) x y z a g) acc) s
    = line acc s + ∑ r, lossRow (rowOf x r) (rowOf y r) (rowOf z r) a g s * hatRow (outRow (rowOf x r) (rowOf y r) a) s := by
  refine (add_cols shapes shapeCasts_S1x2048_S1x2048 acc s (mulf (k0_pay5 (F := Ideal) x y z a g) (k0_pay3 (F := Ideal) x y a))).trans
    (congrArg _ (Finset.sum_congr rfl fun r _ => ?_))
  show k0_pay5 (F := Ideal) x y z a g (ix2 r s) * k0_pay3 (F := Ideal) x y a (ix2 r s) = _
  rw [loss_apply, hat_apply]

theorem gate_apply : line (k0_pay15 (F := Ideal) y (k0_pay6 (F := Ideal) x y z a g) acc) s
    = line acc s + ∑ r, dRow (rowOf x r) (rowOf y r) (rowOf z r) a g s * rowOf y r s := by
  refine (add_cols shapes shapeCasts_S1x2048_S1x2048 acc s (mulf (k0_pay6 (F := Ideal) x y z a g) y)).trans
    (congrArg _ (Finset.sum_congr rfl fun r _ => ?_))
  show k0_pay6 (F := Ideal) x y z a g (ix2 r s) * y (ix2 r s) = _
  rw [stream_apply]
  rfl

theorem zero7 : line (k0_pay10 (F := Ideal)) s = 0 := Ideal.ofBits_zero_f32
theorem zero8 : line (k0_pay12 (F := Ideal)) s = 0 := Ideal.ofBits_zero_f32
theorem zero9 : line (k0_pay14 (F := Ideal)) s = 0 := Ideal.ofBits_zero_f32

end

/-! ## The buffers -/

variable (m : (ℓ : Loc nD τ sig) → Buf (Elt Ideal) ℓ) (c : Dev nD)

set_option maxHeartbeats 2000000 in
/-- The first point starts the gathered sums from zero. -/
theorem first (t : Fin cfg0.N) (h : t.val % 8 = 0) : outsAt0 m c t.val t.isLt
    = (k0_pay6 (iblk m c 0 t) (iblk m c 1 t) (iblk m c 2 t) (iblk m c 3 t) (iblk m c 4 t), k0_pay9 (k0_pay7 (iblk m c 0 t) (iblk m c 1 t) (iblk m c 2 t) (iblk m c 3 t) (iblk m c 4 t)),
      k0_pay11 (k0_pay8 (iblk m c 0 t) (iblk m c 1 t) (iblk m c 2 t) (iblk m c 3 t) (iblk m c 4 t)) (Scalar.ofBits .f32 0x39800000#32) (k0_pay10 (F := Ideal)),
      k0_pay13 (k0_pay3 (iblk m c 0 t) (iblk m c 1 t) (iblk m c 3 t)) (k0_pay5 (iblk m c 0 t) (iblk m c 1 t) (iblk m c 2 t) (iblk m c 3 t) (iblk m c 4 t)) (k0_pay12 (F := Ideal)),
      k0_pay15 (iblk m c 1 t) (k0_pay6 (iblk m c 0 t) (iblk m c 1 t) (iblk m c 2 t) (iblk m c 3 t) (iblk m c 4 t)) (k0_pay14 (F := Ideal))) := by
  rw [outsAt0_A m c t h h h]
  refine congrArg₂ Prod.mk ((View.read_writes_eq_canon _ _ _ (cover0_A_5 _ _ _ _ _ _ _ _ _ _ _ _ _ _ _ _ _ _ _ _ _ _ _ _ _ _ _ _ _ _)).trans ?_)
    (congrArg₂ Prod.mk ((View.read_writes_eq_canon _ _ _ (cover0_A_6 _ _ _ _ _ _ _ _ _ _ _ _ _ _ _ _ _ _ _ _ _ _ _ _ _ _ _ _ _ _)).trans ?_)
    (congrArg₂ Prod.mk ((View.read_writes_eq_canon _ _ _ (cover0_A_7 _ _ _ _ _ _ _ _ _ _ _ _ _ _ _ _ _ _ _ _ _ _ _ _ _ _ _ _ _ _)).trans ?_)
    (congrArg₂ Prod.mk ((View.read_writes_eq_canon _ _ _ (cover0_A_8 _ _ _ _ _ _ _ _ _ _ _ _ _ _ _ _ _ _ _ _ _ _ _ _ _ _ _ _ _ _)).trans ?_)
    ((View.read_writes_eq_canon _ _ _ (cover0_A_9 _ _ _ _ _ _ _ _ _ _ _ _ _ _ _ _ _ _ _ _ _ _ _ _ _ _ _ _ _ _)).trans ?_))))
  all_goals
    unfold kernelRun0_A
    dsimp only
    sl_unfold_words
    simp only [View.canon_cons_unit_zero (S := S256x2048) zero_offsets, View.canon_cons_unit_zero (S := S1x2048) zero_offsets,
      load_after_store (S := S1x2048) _ zero_offsets, View.readAt_eq_ld, (hs0_0 t).read_unread, (hs0_1 t).read_unread, (hs0_2 t).read_unread, (hs0_3 t).read_unread, (hs0_4 t).read_unread, (hs0_7 t).read_unread, (hs0_8 t).read_unread, (hs0_9 t).read_unread,
      View.ld_unit_zero (S := S256x2048) zero_offsets, View.ld_unit_zero (S := S1x2048) zero_offsets]

set_option maxHeartbeats 2000000 in
/-- A later point adds to them. -/
theorem later (t : Fin cfg0.N) (h : ¬t.val % 8 = 0) : outsAt0 m c t.val t.isLt
    = (k0_pay6 (iblk m c 0 t) (iblk m c 1 t) (iblk m c 2 t) (iblk m c 3 t) (iblk m c 4 t), k0_pay9 (k0_pay7 (iblk m c 0 t) (iblk m c 1 t) (iblk m c 2 t) (iblk m c 3 t) (iblk m c 4 t)),
      k0_pay11 (k0_pay8 (iblk m c 0 t) (iblk m c 1 t) (iblk m c 2 t) (iblk m c 3 t) (iblk m c 4 t)) (Scalar.ofBits .f32 0x39800000#32) (outsAt0 m c (t.val - 1) (Nat.lt_of_le_of_lt (Nat.sub_le _ _) t.isLt)).2.2.1,
      k0_pay13 (k0_pay3 (iblk m c 0 t) (iblk m c 1 t) (iblk m c 3 t)) (k0_pay5 (iblk m c 0 t) (iblk m c 1 t) (iblk m c 2 t) (iblk m c 3 t) (iblk m c 4 t)) (outsAt0 m c (t.val - 1) (Nat.lt_of_le_of_lt (Nat.sub_le _ _) t.isLt)).2.2.2.1,
      k0_pay15 (iblk m c 1 t) (k0_pay6 (iblk m c 0 t) (iblk m c 1 t) (iblk m c 2 t) (iblk m c 3 t) (iblk m c 4 t)) (outsAt0 m c (t.val - 1) (Nat.lt_of_le_of_lt (Nat.sub_le _ _) t.isLt)).2.2.2.2) := by
  rw [outsAt0_B m c t h h h]
  refine congrArg₂ Prod.mk ((View.read_writes_eq_canon _ _ _ (cover0_B_5 _ _ _ _ _ _ _ _ _ _ _ _ _ _ _ _ _ _ _ _ _ _ _ _ _ _ _ _ _ _ _ _ _)).trans ?_)
    (congrArg₂ Prod.mk ((View.read_writes_eq_canon _ _ _ (cover0_B_6 _ _ _ _ _ _ _ _ _ _ _ _ _ _ _ _ _ _ _ _ _ _ _ _ _ _ _ _ _ _ _ _ _)).trans ?_)
    (congrArg₂ Prod.mk ((View.read_writes_eq_canon _ _ _ (cover0_B_7 _ _ _ _ _ _ _ _ _ _ _ _ _ _ _ _ _ _ _ _ _ _ _ _ _ _ _ _ _ _ _ _ _)).trans ?_)
    (congrArg₂ Prod.mk ((View.read_writes_eq_canon _ _ _ (cover0_B_8 _ _ _ _ _ _ _ _ _ _ _ _ _ _ _ _ _ _ _ _ _ _ _ _ _ _ _ _ _ _ _ _ _)).trans ?_)
    ((View.read_writes_eq_canon _ _ _ (cover0_B_9 _ _ _ _ _ _ _ _ _ _ _ _ _ _ _ _ _ _ _ _ _ _ _ _ _ _ _ _ _ _ _ _ _)).trans ?_))))
  all_goals
    unfold kernelRun0_B
    dsimp only
    sl_unfold_words
    simp only [View.canon_cons_unit_zero (S := S256x2048) zero_offsets, View.canon_cons_unit_zero (S := S1x2048) zero_offsets,
      load_after_store (S := S1x2048) _ zero_offsets, View.readAt_eq_ld, (hs0_0 t).read_unread, (hs0_1 t).read_unread, (hs0_2 t).read_unread, (hs0_3 t).read_unread, (hs0_4 t).read_unread, (hs0_7 t).read_unread, (hs0_8 t).read_unread, (hs0_9 t).read_unread,
      View.ld_unit_zero (S := S256x2048) zero_offsets, View.ld_unit_zero (S := S1x2048) zero_offsets]

/-- The arguments. -/
abbrev Xa : Stream := m ((c : Thread nD τ).loc main_arg0)
abbrev Ya : Stream := m ((c : Thread nD τ).loc main_arg1)
abbrev Ta : Stream := m ((c : Thread nD τ).loc main_arg2)
abbrev Aa : Line := m ((c : Thread nD τ).loc main_arg3)
abbrev Ga : Line := m ((c : Thread nD τ).loc main_arg4)

/-- The windows' block indices at a point. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

theorem t_lt (t : Fin cfg0.N) : t.val < 8 := lt_of_lt_of_eq t.isLt (show cfg0.N = 8 from N_0)

theorem x_row (t : Fin cfg0.N) (r : Fin 256) : rowOf (n := 256) (φ := .f32) (iblk m c 0 t) r = rowOf (Xa m c) (rowAt t.val r) := by
  obtain ⟨e, _⟩ := idx_facts t
  funext k
  show V m c main_arg0 (((cfg0.win 0).blk t).view.emb _) = _
  exact congrArg (Xa m c) (row_place (t_lt t) e r k)

theorem y_row (t : Fin cfg0.N) (r : Fin 256) : rowOf (n := 256) (φ := .f32) (iblk m c 1 t) r = rowOf (Ya m c) (rowAt t.val r) := by
  obtain ⟨_, e, _⟩ := idx_facts t
  funext k
  show V m c main_arg1 (((cfg0.win 1).blk t).view.emb _) = _
  exact congrArg (Ya m c) (row_place (t_lt t) e r k)

theorem t_row (t : Fin cfg0.N) (r : Fin 256) : rowOf (n := 256) (φ := .f32) (iblk m c 2 t) r = rowOf (Ta m c) (rowAt t.val r) := by
  obtain ⟨_, _, e, _⟩ := idx_facts t
  funext k
  show V m c main_arg2 (((cfg0.win 2).blk t).view.emb _) = _
  exact congrArg (Ta m c) (row_place (t_lt t) e r k)

theorem a_line (t : Fin cfg0.N) : (iblk m c 3 t : Line) = Aa m c := by
  obtain ⟨_, _, _, e, _⟩ := idx_facts t
  funext y
  show V m c main_arg3 (((cfg0.win 3).blk t).view.emb y) = _
  exact congrArg (Aa m c) (line_place e y)

theorem g_line (t : Fin cfg0.N) : (iblk m c 4 t : Line) = Ga m c := by
  obtain ⟨_, _, _, _, e, _⟩ := idx_facts t
  funext y
  show V m c main_arg4 (((cfg0.win 4).blk t).view.emb y) = _
  exact congrArg (Ga m c) (line_place e y)

/-! ## The arrays -/

/-- The blocks written back at once. -/
theorem row_blocks (t : Fin cfg0.N) : (outsAt0 m c t.val t.isLt).1 = k0_pay6 (iblk m c 0 t) (iblk m c 1 t) (iblk m c 2 t) (iblk m c 3 t) (iblk m c 4 t)
    ∧ (outsAt0 m c t.val t.isLt).2.1 = k0_pay9 (k0_pay7 (iblk m c 0 t) (iblk m c 1 t) (iblk m c 2 t) (iblk m c 3 t) (iblk m c 4 t)) := by
  by_cases h : t.val % 8 = 0
  · rw [first m c t h]; exact ⟨rfl, rfl⟩
  · rw [later m c t h]; exact ⟨rfl, rfl⟩

theorem final5 : (dats m 0 c).arrAt 5 cfg0.N = dStream (Xa m c) (Ya m c) (Ta m c) (Aa m c) (Ga m c) := by
  have emb : ∀ (t : Fin cfg0.N) (r : Fin 256) (s : Fin 2048),
      (((cfg0.win 5).blk t).view.emb (ix2 r s) : S2048x2048.Idx) = ix2 (rowAt t.val r) s := fun t r s => by
    obtain ⟨_, _, _, _, _, e, _⟩ := idx_facts t
    exact row_place (t_lt t) e r s
  refine (dats m 0 c).arrAt_eq_of_cover 5 _ (fun t _ => ?_) (fun y => ?_)
  · rw [Cert.Kernel19Ideal.Value.flushed5, (row_blocks m c t).1]
    funext (z : S256x2048.Idx)
    obtain ⟨r, s, rfl⟩ : ∃ (r : Fin 256) (s : Fin 2048), z = ix2 r s := ⟨z 0, z 1, eq_ix2 z⟩
    refine (stream_apply _ _ _ _ _ r s).trans ?_
    rw [x_row, y_row, t_row, a_line, g_line]
    exact (congrArg (dStream (Xa m c) (Ya m c) (Ta m c) (Aa m c) (Ga m c)) (emb t r s)).symm
  · obtain ⟨k, r, e⟩ := row_onto (y 0)
    obtain ⟨t, h⟩ : ∃ t : Fin cfg0.N, t.val = k.val := ⟨⟨k.val, lt_of_lt_of_eq k.isLt (show 8 = cfg0.N from N_0.symm)⟩, rfl⟩
    rw [← h] at e
    have hy : (((cfg0.win 5).blk t).view.emb (ix2 r (y 1)) : S2048x2048.Idx) = y :=
      (emb t r (y 1)).trans (e ▸ (eq_ix2 y).symm)
    exact ⟨t, flush0_5 _, (congrArg (· ∈ ((cfg0.win 5).blk t).view.set) hy).mp (View.emb_mem_set _ _)⟩

theorem final6 : (dats m 0 c).arrAt 6 cfg0.N = dDown (Xa m c) (Ya m c) (Ta m c) (Aa m c) (Ga m c) := by
  have emb : ∀ (t : Fin cfg0.N) (r : Fin 256) (s : Fin 2048),
      (((cfg0.win 6).blk t).view.emb (ix2 r s) : S2048x2048.Idx) = ix2 (rowAt t.val r) s := fun t r s => by
    obtain ⟨_, _, _, _, _, _, e, _⟩ := idx_facts t
    exact row_place (t_lt t) e r s
  refine (dats m 0 c).arrAt_eq_of_cover 6 _ (fun t _ => ?_) (fun y => ?_)
  · rw [Cert.Kernel19Ideal.Value.flushed6, (row_blocks m c t).2]
    funext (z : S256x2048.Idx)
    obtain ⟨r, s, rfl⟩ : ∃ (r : Fin 256) (s : Fin 2048), z = ix2 r s := ⟨z 0, z 1, eq_ix2 z⟩
    refine (down_apply _ _ _ _ _ r s).trans ?_
    rw [x_row, y_row, t_row, a_line, g_line]
    exact (congrArg (dDown (Xa m c) (Ya m c) (Ta m c) (Aa m c) (Ga m c)) (emb t r s)).symm
  · obtain ⟨k, r, e⟩ := row_onto (y 0)
    obtain ⟨t, h⟩ : ∃ t : Fin cfg0.N, t.val = k.val := ⟨⟨k.val, lt_of_lt_of_eq k.isLt (show 8 = cfg0.N from N_0.symm)⟩, rfl⟩
    rw [← h] at e
    have hy : (((cfg0.win 6).blk t).view.emb (ix2 r (y 1)) : S2048x2048.Idx) = y :=
      (emb t r (y 1)).trans (e ▸ (eq_ix2 y).symm)
    exact ⟨t, flush0_6 _, (congrArg (· ∈ ((cfg0.win 6).blk t).view.set) hy).mp (View.emb_mem_set _ _)⟩

/-- The last point. -/
theorem last_point : ∃ t : Fin cfg0.N, t.val % 8 = 7 := ⟨⟨7, by rw [show cfg0.N = 8 from N_0]; omega⟩, rfl⟩

theorem later_mod {n : ℕ} (hn : n + 1 < cfg0.N) : ¬(n + 1) % 8 = 0 := by
  have h8 := t_lt ⟨n + 1, hn⟩
  dsimp only at h8
  omega

theorem final7 : (dats m 0 c).arrAt 7 cfg0.N = lossCols (Xa m c) (Ya m c) (Ta m c) (Aa m c) (Ga m c) := by
  have emb : ∀ (t : Fin cfg0.N) (y : S1x2048.Idx), (((cfg0.win 7).blk t).view.emb y : S1x2048.Idx) = y := fun t y => by
    obtain ⟨_, _, _, _, _, _, _, e, _⟩ := idx_facts t
    exact line_place e y
  refine (dats m 0 c).arrAt_eq_of_cover 7 _ (fun t hf => ?_) (fun y => ?_)
  · rw [Cert.Kernel19Ideal.Value.flushed7]
    refine (gather_total N_0 (fun n hn => (outsAt0 m c n hn).2.2.1) _ (fun hn s => ?_) (fun n hn s => ?_) t.isLt
      ((flush0_7 t).mp hf)).trans (funext fun y => (congrArg (lossCols (Xa m c) (Ya m c) (Ta m c) (Aa m c) (Ga m c)) (emb t y)).symm)
    · rw [first m c ⟨0, hn⟩ rfl, cols_apply, zero7, zero_add]
      simp only [x_row, y_row, t_row, a_line, g_line]
    · rw [later m c ⟨n + 1, hn⟩ (later_mod hn), cols_apply]
      simp only [x_row, y_row, t_row, a_line, g_line]
      rfl
  · obtain ⟨t, h⟩ := last_point
    exact ⟨t, (flush0_7 t).mpr h, (congrArg (· ∈ ((cfg0.win 7).blk t).view.set) (emb t y)).mp (View.emb_mem_set _ _)⟩

theorem final8 : (dats m 0 c).arrAt 8 cfg0.N = dGain (Xa m c) (Ya m c) (Ta m c) (Aa m c) (Ga m c) := by
  have emb : ∀ (t : Fin cfg0.N) (y : S1x2048.Idx), (((cfg0.win 8).blk t).view.emb y : S1x2048.Idx) = y := fun t y => by
    obtain ⟨_, _, _, _, _, _, _, _, e, _⟩ := idx_facts t
    exact line_place e y
  refine (dats m 0 c).arrAt_eq_of_cover 8 _ (fun t hf => ?_) (fun y => ?_)
  · rw [Cert.Kernel19Ideal.Value.flushed8]
    refine (gather_total N_0 (fun n hn => (outsAt0 m c n hn).2.2.2.1) _ (fun hn s => ?_) (fun n hn s => ?_) t.isLt
      ((flush0_8 t).mp hf)).trans (funext fun y => (congrArg (dGain (Xa m c) (Ya m c) (Ta m c) (Aa m c) (Ga m c)) (emb t y)).symm)
    · rw [first m c ⟨0, hn⟩ rfl, gain_apply, zero8, zero_add]
      simp only [x_row, y_row, t_row, a_line, g_line]
    · rw [later m c ⟨n + 1, hn⟩ (later_mod hn), gain_apply]
      simp only [x_row, y_row, t_row, a_line, g_line]
      rfl
  · obtain ⟨t, h⟩ := last_point
    exact ⟨t, (flush0_8 t).mpr h, (congrArg (· ∈ ((cfg0.win 8).blk t).view.set) (emb t y)).mp (View.emb_mem_set _ _)⟩

theorem final9 : (dats m 0 c).arrAt 9 cfg0.N = dGate (Xa m c) (Ya m c) (Ta m c) (Aa m c) (Ga m c) := by
  have emb : ∀ (t : Fin cfg0.N) (y : S1x2048.Idx), (((cfg0.win 9).blk t).view.emb y : S1x2048.Idx) = y := fun t y => by
    obtain ⟨_, _, _, _, _, _, _, _, _, e⟩ := idx_facts t
    exact line_place e y
  refine (dats m 0 c).arrAt_eq_of_cover 9 _ (fun t hf => ?_) (fun y => ?_)
  · rw [Cert.Kernel19Ideal.Value.flushed9]
    refine (gather_total N_0 (fun n hn => (outsAt0 m c n hn).2.2.2.2) _ (fun hn s => ?_) (fun n hn s => ?_) t.isLt
      ((flush0_9 t).mp hf)).trans (funext fun y => (congrArg (dGate (Xa m c) (Ya m c) (Ta m c) (Aa m c) (Ga m c)) (emb t y)).symm)
    · rw [first m c ⟨0, hn⟩ rfl, gate_apply, zero9, zero_add]
      simp only [x_row, y_row, t_row, a_line, g_line]
    · rw [later m c ⟨n + 1, hn⟩ (later_mod hn), gate_apply]
      simp only [x_row, y_row, t_row, a_line, g_line]
      rfl
  · obtain ⟨t, h⟩ := last_point
    exact ⟨t, (flush0_9 t).mpr h, (congrArg (· ∈ ((cfg0.win 9).blk t).view.set) (emb t y)).mp (View.emb_mem_set _ _)⟩

end Cert.Kernel19Ideal.NormLast

end
-- ==== Proof.NormLast.Result.lean ====
module

public import proofs.«01_k».proof.Defs
public import proofs.«01_k».proof.Proof.Gen.Reference19Ideal.Run
public import proofs.«01_k».proof.Proof.Gen.Reference19Ideal.Read
public import proofs.«01_k».proof.Proof.NormLast.Array
public import proofs.«01_k».proof.Proof.Norm.Whole

/-! # The gradient of the loss through the last norm: the reference's value, and the two programs' equality -/

@[expose] public section

noncomputable section

namespace Cert.Reference19Ideal.NormLast

open Cert.Reference19Ideal Cert.Reference19Ideal.Gen Cert.Reference19Ideal.Read Cert.Norm Cert.Kernel19Ideal.NormLast
open Idealize.ShloMosaic Idealize.ShloMosaic.ValueIdx Idealize.SL.Sem

variable (x y t : Stream) (a g : Line)

/-- The host functions' shapes. -/
theorem wholes : Wholes :=
  ⟨reducesTo_S2048x2048_S2048_d1, reducesTo_S2048x2048_S2048_d0, reducesTo_S2048x1_S2048_d1, h_S_, bcast_S2048_S2048x1_0,
    bcast_S_S2048x1, bcast_S2048x1_S2048x2048_0_1, bcast_S1x2048_S2048x2048_0_1, bcast_S2048_S2048x2048_0,
    shapeCasts_S2048_S2048x1, shapeCasts_S2048_S1x2048⟩

/-- A half of twice an error over the count is the error times the kernel's factor. -/
theorem factor (e : EReal) :
    Ideal.div (Ideal.ofBits .f32 0x3F000000#32 * Ideal.ofBits .f32 0x3F800000#32) (Ideal.ofBits .f32 0x45000000#32)
      * (Ideal.ofBits .f32 0x40000000#32 * e) = e * Ideal.ofBits .f32 0x3A000000#32 := by
  have h0 : Ideal.ofBits .f32 0x3F000000#32 = ((1 / 2 : ℝ) : EReal) := by
    simp [Ideal.ofBits, Ideal.ieee]
    rw [← EReal.coe_mul]
    norm_num
  have h1 : Ideal.ofBits .f32 0x3F800000#32 = ((1 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  have h3 : Ideal.ofBits .f32 0x3A000000#32 = ((1 / 2048 : ℝ) : EReal) := by
    simp [Ideal.ofBits, Ideal.ieee]
    rw [← EReal.coe_mul]
    norm_num
  have h4 : Ideal.ofBits .f32 0x45000000#32 = ((2048 : ℝ) : EReal) := count_bits
  rw [h0, h1, h2, h3, h4, div_real _ (by norm_num), ← mul_assoc, ← EReal.coe_mul, ← EReal.coe_mul, ← EReal.coe_mul, mul_comm]
  norm_num

theorem out_row (r : Fin 2048) : rowOf (n := 2048) (φ := .f32) (val_main_v2 (F := Ideal) x y a) r = outRow (rowOf x r) (rowOf y r) a := by
  funext s
  show (x (ix2 r s) : EReal) + overF wholes a (ix2 r s) * y (ix2 r s) = _
  rw [overF_apply]
  rfl

theorem hat_apply (r s : Fin 2048) : fullHat wholes (val_main_v2 (F := Ideal) x y a) (ix2 r s) = hatRow (outRow (rowOf x r) (rowOf y r) a) s :=
  (fullHat_apply wholes (val_main_v2 (F := Ideal) x y a) r s).trans (congrArg (hatRow · s) (out_row x y a r))

theorem err_apply (r s : Fin 2048) : val_main_v18 (F := Ideal) x y t a g (ix2 r s)
    = errRow (rowOf x r) (rowOf y r) (rowOf t r) a g s := by
  show (fullHat wholes (val_main_v2 (F := Ideal) x y a) (ix2 r s) * overF wholes g (ix2 r s) : EReal) - t (ix2 r s) = _
  rw [hat_apply, overF_apply]
  rfl

theorem half_apply (j : S2048x2048.Idx) : val_main_v31 (F := Ideal) j
    = Ideal.div (Ideal.ofBits .f32 0x3F000000#32 * Ideal.ofBits .f32 0x3F800000#32) (Ideal.ofBits .f32 0x45000000#32) := by
  rw [val_main_v31_apply, val_main_v30_apply, val_main_v28_apply, val_main_v29_apply]
  rfl

theorem two_apply (j : S2048x2048.Idx) : val_main_v20 (F := Ideal) j = Ideal.ofBits .f32 0x40000000#32 := by
  rw [val_main_v20_apply]
  rfl

theorem loss_apply (r s : Fin 2048) : val_main_v32 (F := Ideal) x y t a g (ix2 r s)
    = lossRow (rowOf x r) (rowOf y r) (rowOf t r) a g s := by
  show (val_main_v31 (F := Ideal) (ix2 r s) : EReal) * (val_main_v20 (F := Ideal) (ix2 r s) * val_main_v18 (F := Ideal) x y t a g (ix2 r s)) = _
  rw [half_apply, two_apply, err_apply, factor]
  rfl

theorem dd_row (r : Fin 2048) : rowOf (n := 2048) (φ := .f32) (val_main_v37 (F := Ideal) x y t a g) r
    = fun k => lossRow (rowOf x r) (rowOf y r) (rowOf t r) a g k * line g k := by
  funext s
  show (val_main_v32 (F := Ideal) x y t a g (ix2 r s) : EReal) * overF wholes g (ix2 r s) = _
  rw [loss_apply, overF_apply]

theorem result51 : val_main_v51 (F := Ideal) x y t a g = dStream x y t a g := by
  funext j
  obtain ⟨r, s, rfl⟩ : ∃ r s : Fin 2048, j = ix2 r s := ⟨j 0, j 1, eq_ix2 j⟩
  have e := fullBack wholes (val_main_v2 (F := Ideal) x y a) (val_main_v37 (F := Ideal) x y t a g) r s
  rw [out_row, dd_row] at e
  exact (add_assoc _ _ _).trans e.symm

theorem result78 : val_main_v78 (F := Ideal) x y t a g = dDown x y t a g := by
  funext j
  obtain ⟨r, s, rfl⟩ : ∃ r s : Fin 2048, j = ix2 r s := ⟨j 0, j 1, eq_ix2 j⟩
  show (overF wholes a (ix2 r s) : EReal) * val_main_v51 (F := Ideal) x y t a g (ix2 r s) = _
  rw [overF_apply, result51, mul_comm]
  rfl

theorem result77 : val_main_v77 (F := Ideal) x y t a g = lossCols x y t a g := by
  funext z
  obtain ⟨s, rfl⟩ : ∃ s : Fin 2048, z = ix2 0 s := ⟨z 1, line_idx z⟩
  have e : val_main_v75 (F := Ideal) x y t a g (ix2 0 s) = ∑ r, errRow (rowOf x r) (rowOf y r) (rowOf t r) a g s
      * errRow (rowOf x r) (rowOf y r) (rowOf t r) a g s := by
    rw [val_main_v75_apply, val_main_v74_apply]
    refine (congrArg (· + _) Ideal.ofBits_zero_f32).trans ((zero_add _).trans (Finset.sum_congr rfl fun r _ => ?_))
    rw [← err_apply]
    refine congrArg (fun j => (val_main_v18 (F := Ideal) x y t a g j : EReal) * val_main_v18 (F := Ideal) x y t a g j)
      (funext fun b => Fin.ext ?_)
    match b with
    | ⟨0, _⟩ => rfl
    | ⟨1, _⟩ => rfl
  show (val_main_v75 (F := Ideal) x y t a g (ix2 0 s) : EReal) * val_main_v76 (F := Ideal) (ix2 0 s) = _
  rw [e, val_main_v76_apply]
  exact factor_sum _

theorem result35 : val_main_v35 (F := Ideal) x y t a g = dGain x y t a g := by
  funext z
  obtain ⟨s, rfl⟩ : ∃ s : Fin 2048, z = ix2 0 s := ⟨z 1, line_idx z⟩
  refine (fullColSum_apply wholes (val_main_v33 (F := Ideal) x y t a g) s).trans ?_
  refine Eq.trans ?_ (total_apply _ s).symm
  refine Finset.sum_congr rfl fun r _ => ?_
  show (fullHat wholes (val_main_v2 (F := Ideal) x y a) (ix2 r s) : EReal) * val_main_v32 (F := Ideal) x y t a g (ix2 r s) = _
  rw [hat_apply, loss_apply, mul_comm]

theorem result56 : val_main_v56 (F := Ideal) x y t a g = dGate x y t a g := by
  funext z
  obtain ⟨s, rfl⟩ : ∃ s : Fin 2048, z = ix2 0 s := ⟨z 1, line_idx z⟩
  refine (fullColSum_apply wholes (val_main_v54 (F := Ideal) x y t a g) s).trans ?_
  refine Eq.trans ?_ (total_apply _ s).symm
  refine Finset.sum_congr rfl fun r _ => ?_
  show (val_main_v51 (F := Ideal) x y t a g (ix2 r s) : EReal) * y (ix2 r s) = _
  rw [result51]
  rfl

/-- The reference runs, leaves its arguments alone and declares no semaphore. -/
theorem frame : Cert.quiescent_Reference19Ideal := fun m ρ _ =>
  (θ_run Cert.Reference19Ideal.defs _ _).mono (fun r h => ⟨fun c => (h c).2.2.2.2.2, sem_eq_zero_of_no_sems (by decide) r.2⟩)
    (Cert.Reference19Ideal.Value.run (F := Ideal) m ρ)

/-- The two programs end with the same arrays. -/
theorem algebraic : Cert.algebraic_Kernel19Ideal_Reference19Ideal := by
  intro m g m' g' _ hargs
  refine ⟨fun c => dStream (Xa m c) (Ya m c) (Ta m c) (Aa m c) (Ga m c), fun c => dDown (Xa m c) (Ya m c) (Ta m c) (Aa m c) (Ga m c),
    fun c => lossCols (Xa m c) (Ya m c) (Ta m c) (Aa m c) (Ga m c), fun c => dGain (Xa m c) (Ya m c) (Ta m c) (Aa m c) (Ga m c),
    fun c => dGate (Xa m c) (Ya m c) (Ta m c) (Aa m c) (Ga m c), ?_, ?_⟩
  · refine (θ_run Cert.Kernel19Ideal.defs _ _).mono (fun r h c => ?_) (Cert.Kernel19Ideal.Value.run_blocks (F := Ideal) m g)
    obtain ⟨e5, e6, e7, e8, e9, k⟩ := h c
    exact ⟨e5.trans (final5 m c), e6.trans (final6 m c), e7.trans (final7 m c), e8.trans (final8 m c), e9.trans (final9 m c), k⟩
  · refine (θ_run Cert.Reference19Ideal.defs _ _).mono (fun r h c => ?_) (Cert.Reference19Ideal.Value.run (F := Ideal) m' g')
    obtain ⟨e5, e6, e7, e8, e9, k⟩ := h c
    obtain ⟨a0, a1, a2, a3, a4⟩ := hargs c
    refine ⟨e5.trans ?_, e6.trans ?_, e7.trans ?_, e8.trans ?_, e9.trans ?_, k⟩
    · refine (val_main_v51_eq _ _).trans ?_
      rw [a0, a1, a2, a3, a4]; exact result51 _ _ _ _ _
    · refine (val_main_v78_eq _ _).trans ?_
      rw [a0, a1, a2, a3, a4]; exact result78 _ _ _ _ _
    · refine (val_main_v77_eq _ _ _ _ _).trans ?_
      rw [a0, a1, a2, a3, a4]; exact result77 _ _ _ _ _
    · refine (val_main_v35_eq _ _ _ _ _).trans ?_
      rw [a0, a1, a2, a3, a4]; exact result35 _ _ _ _ _
    · refine (val_main_v56_eq _ _).trans ?_
      rw [a0, a1, a2, a3, a4]; exact result56 _ _ _ _ _

end Cert.Reference19Ideal.NormLast

end
-- ==== Proof.Update.Formula.lean ====
module

public import Idealize.ShloMosaic.Lib.ValueIdx
public import Idealize.ShloMosaic.Lib.Pipeline.Value
public import Idealize.ShloMosaic.Lib.Tactic
public import proofs.«01_k».proof.Proof.Product.Basic

/-! # A weight's update: the step's formulas, and what the shapes' proofs share

The gradient is the device's own part plus the parts that landed from the others. The moments, and the weight's
change, are functions of the gradient element by element. -/

@[expose] public section

noncomputable section

namespace Cert.Update

open Idealize.ShloMosaic Idealize.ShloMosaic.ValueIdx Cert.Product
open scoped BigOperators

/-- The first moment. -/
def first (g m : EReal) : EReal := Ideal.ofBits .f32 0x3F666666#32 * m + Ideal.ofBits .f32 0x3DCCCCCD#32 * g

/-- The second moment. -/
def second (g v : EReal) : EReal := Ideal.ofBits .f32 0x3F7FBE77#32 * v + Ideal.ofBits .f32 0x3A83126F#32 * (g * g)

/-- The weight's change. -/
def change (g w m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

section Shapes
variable {P R C B : ℕ}

/-- An array of landed parts. -/
abbrev Parts (P R C : ℕ) (φ : FTy) := FVec Ideal ⟨3, ![P, R, C]⟩ φ

/-- The gradient from the parts. -/
def gradient (land : Parts P R C .bf16) (own : FVec Ideal ⟨2, ![R, C]⟩ .bf16) (y : (⟨2, ![R, C]⟩ : Shape).Idx) : EReal :=
  (own y : EReal) + ∑ k : Fin P, (land (ix3 k (y 0) (y 1)) : EReal)

/-- A function of arrays applied element by element. -/
def each1 (f : EReal → EReal → EReal) (g : (⟨2, ![R, C]⟩ : Shape).Idx → EReal) (x : FVec Ideal ⟨2, ![R, C]⟩ .f32) :
    FVec Ideal ⟨2, ![R, C]⟩ .f32 := fun y => f (g y) (x y)

def each3 (f : EReal → EReal → EReal → EReal → EReal) (g : (⟨2, ![R, C]⟩ : Shape).Idx → EReal) (w m v : FVec Ideal ⟨2, ![R, C]⟩ .f32) :
    FVec Ideal ⟨2, ![R, C]⟩ .f32 := fun y => f (g y) (w y) (m y) (v y)

/-- A landed part as a matrix. -/
theorem part_apply {φ : FTy} (x : FVec Ideal ⟨3, ![1, R, C]⟩ φ) (h : (⟨3, ![1, R, C]⟩ : Shape).ShapeCasts ⟨2, ![R, C]⟩)
    (y : (⟨2, ![R, C]⟩ : Shape).Idx) : shapeCast ⟨2, ![R, C]⟩ x h y = x (ix3 (0 : Fin 1) (y 0) (y 1)) :=
  shapeCast_apply x h y (ix3 (0 : Fin 1) (y 0) (y 1)) (by
    rw [Shape.rowMajor_val_three, Shape.rowMajor_val_two]
    show ((0 * R + (y 0).val) * C + (y 1).val) = (y 0).val * C + (y 1).val
    rw [Nat.zero_mul, Nat.zero_add])

/-- The load of one landed part. -/
theorem ld_part {φ : EltTy} (x : Vec Ideal ⟨3, ![P, R, C]⟩ φ) (k : Fin P)
    (inb : ∀ a, (![k.val, 0, 0] : Fin 3 → Nat) a + (⟨3, ![1, R, C]⟩ : Shape).size a ≤ (⟨3, ![P, R, C]⟩ : Shape).size a)
    (r : Fin R) (s : Fin C) :
    View.ld x (Rect.unit (s := ⟨3, ![P, R, C]⟩) ![k.val, 0, 0] (⟨3, ![1, R, C]⟩ : Shape).size inb) (ix3 (0 : Fin 1) r s) = x (ix3 k r s) := by
  rw [View.ld_unit]
  show x _ = x _
  refine congrArg x (funext fun a => Fin.ext ?_)
  match a with
  | ⟨0, _⟩ => rfl
  | ⟨1, _⟩ => show 0 + r.val = r.val; omega
  | ⟨2, _⟩ => show 0 + s.val = s.val; omega

/-- One landed part at an element, as the kernel reads it. -/
theorem landed (x : Parts P R C .bf16) (k : Fin P)
    (inb : ∀ a, (![k.val, 0, 0] : Fin 3 → Nat) a + (⟨3, ![1, R, C]⟩ : Shape).size a ≤ (⟨3, ![P, R, C]⟩ : Shape).size a)
    (h : (⟨3, ![1, R, C]⟩ : Shape).ShapeCasts ⟨2, ![R, C]⟩) (y : (⟨2, ![R, C]⟩ : Shape).Idx) :
    shapeCast ⟨2, ![R, C]⟩ (View.ld (Val := Elt Ideal) (e' := .bf16) x (Rect.unit (s := ⟨3, ![P, R, C]⟩) ![k.val, 0, 0] (⟨3, ![1, R, C]⟩ : Shape).size inb) : FVec Ideal ⟨3, ![1, R, C]⟩ .bf16) h y
      = x (ix3 k (y 0) (y 1)) :=
  (part_apply _ h y).trans (ld_part (φ := .bf16) x k inb (y 0) (y 1))

/-- A block of whole rows: the element's place in the array. -/
theorem row_place {x y : (⟨2, ![R, C]⟩ : Shape).Idx} {n i0 i1 z0 z1 : ℕ} (e : i0 = n ∧ i1 = 0)
    (h0 : (x 0).val = i0 * B + 1 * z0) (h1 : (x 1).val = i1 * C + 1 * z1) (k0 : (y 0).val = B * n + z0) (k1 : (y 1).val = z1) : x = y := by
  obtain ⟨rfl, rfl⟩ := e
  refine funext fun b => Fin.ext ?_
  match b with
  | ⟨0, _⟩ => exact h0.trans (Eq.trans (by rw [Nat.mul_comm, Nat.one_mul]) k0.symm)
  | ⟨1, _⟩ => exact h1.trans (Eq.trans (by rw [Nat.zero_mul, Nat.one_mul, Nat.zero_add]) k1.symm)

theorem land_place {x y : (⟨3, ![P, R, C]⟩ : Shape).Idx} {n i0 i1 i2 z0 z1 z2 : ℕ} (e : i0 = 0 ∧ i1 = n ∧ i2 = 0)
    (h0 : (x 0).val = i0 * P + 1 * z0) (h1 : (x 1).val = i1 * B + 1 * z1) (h2 : (x 2).val = i2 * C + 1 * z2)
    (k0 : (y 0).val = z0) (k1 : (y 1).val = B * n + z1) (k2 : (y 2).val = z2) : x = y := by
  obtain ⟨rfl, rfl, rfl⟩ := e
  refine funext fun b => Fin.ext ?_
  match b with
  | ⟨0, _⟩ => exact h0.trans (Eq.trans (by rw [Nat.zero_mul, Nat.one_mul, Nat.zero_add]) k0.symm)
  | ⟨1, _⟩ => exact h1.trans (Eq.trans (by rw [Nat.mul_comm, Nat.one_mul]) k1.symm)
  | ⟨2, _⟩ => exact h2.trans (Eq.trans (by rw [Nat.zero_mul, Nat.one_mul, Nat.zero_add]) k2.symm)

/-- The row of the array a block's element lies in. -/
def rowAt (N : ℕ) (hR : N * B = R) (n : Fin N) (z : (⟨2, ![B, C]⟩ : Shape).Idx) : (⟨2, ![R, C]⟩ : Shape).Idx :=
  ix2 ⟨B * n.val + (z 0).val, by
    have hz : (z 0).val < B := (z 0).isLt
    have : B * (n.val + 1) ≤ B * N := Nat.mul_le_mul_left _ n.isLt
    rw [Nat.mul_succ] at this
    show _ < R
    rw [← hR, Nat.mul_comm N]; omega⟩ (z 1)

/-- Every element lies in some block. -/
theorem rowAt_onto (N : ℕ) (hR : N * B = R) (y : (⟨2, ![R, C]⟩ : Shape).Idx) : ∃ (n : Fin N) (z : (⟨2, ![B, C]⟩ : Shape).Idx), rowAt N hR n z = y := by
  have h0 : (y 0).val < R := (y 0).isLt
  have hB : 0 < B := Nat.pos_of_ne_zero fun h => by rw [h, Nat.mul_zero] at hR; omega
  refine ⟨⟨(y 0).val / B, (Nat.div_lt_iff_lt_mul hB).2 (hR ▸ h0)⟩, ix2 ⟨(y 0).val % B, Nat.mod_lt _ hB⟩ (y 1), ?_⟩
  refine funext fun b => Fin.ext ?_
  match b with
  | ⟨0, _⟩ => exact Nat.div_add_mod (y 0).val B
  | ⟨1, _⟩ => rfl

/-- The gradient of a block of rows is the block of the gradient. -/
theorem gradient_block {own' : FVec Ideal ⟨2, ![B, C]⟩ .bf16} {land' : Parts P B C .bf16} {own : FVec Ideal ⟨2, ![R, C]⟩ .bf16}
    {land : Parts P R C .bf16} {z : (⟨2, ![B, C]⟩ : Shape).Idx} {y : (⟨2, ![R, C]⟩ : Shape).Idx} (ho : own' z = own y)
    (hl : ∀ k : Fin P, land' (ix3 k (z 0) (z 1)) = land (ix3 k (y 0) (y 1))) : gradient land' own' z = gradient land own y := by
  unfold gradient
  rw [ho]
  exact congrArg ((own y : EReal) + ·) (Finset.sum_congr rfl fun k _ => hl k)

theorem gradient_three (land : Parts 3 R C .bf16) (own : FVec Ideal ⟨2, ![R, C]⟩ .bf16) (y : (⟨2, ![R, C]⟩ : Shape).Idx) :
    (own y : EReal) + land (ix3 (0 : Fin 3) (y 0) (y 1)) + land (ix3 (1 : Fin 3) (y 0) (y 1)) + land (ix3 (2 : Fin 3) (y 0) (y 1))
      = gradient land own y := by
  unfold gradient
  rw [Fin.sum_univ_three]
  simp only [add_assoc]

theorem gradient_seven (land : Parts 7 R C .bf16) (own : FVec Ideal ⟨2, ![R, C]⟩ .bf16) (y : (⟨2, ![R, C]⟩ : Shape).Idx) :
    (own y : EReal) + land (ix3 (0 : Fin 7) (y 0) (y 1)) + land (ix3 (1 : Fin 7) (y 0) (y 1)) + land (ix3 (2 : Fin 7) (y 0) (y 1))
        + land (ix3 (3 : Fin 7) (y 0) (y 1)) + land (ix3 (4 : Fin 7) (y 0) (y 1)) + land (ix3 (5 : Fin 7) (y 0) (y 1)) + land (ix3 (6 : Fin 7) (y 0) (y 1))
      = gradient land own y := by
  unfold gradient
  rw [Fin.sum_univ_seven]
  simp only [add_assoc]

end Shapes

end Cert.Update

end
-- ==== Proof.Update.Whole.lean ====
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.Update.Formula
public import proofs.«01_k».proof.Proof.Blocks

/-! # The update of the modulation's weight: the gradient is given whole

Point `t` of the grid works on rows `256 t …`, element by element. -/

@[expose] public section

noncomputable section

namespace Cert.Kernel20Ideal.Update

open Cert.Kernel20Ideal Cert.Kernel20Ideal.Gen Cert.Update Cert.Blocks Idealize.ShloMosaic Idealize.ShloMosaic.TcCoe Idealize.ShloMosaic.ValueIdx Idealize.SL.Sem

theorem zero_offsets3 : (![0, 0, 0] : Fin 3 → Nat) = fun _ => 0 := by
  funext a
  match a with
  | ⟨0, _⟩ => rfl
  | ⟨1, _⟩ => rfl
  | ⟨2, _⟩ => rfl

section Block
variable (x0 : FVec Ideal S1x256x1536 .f32) (x1 x2 x3 : FVec Ideal S256x1536 .f32) (z : S256x1536.Idx)

theorem gradient_apply : k0_pay1 (F := Ideal) x0 z = x0 (ix3 (0 : Fin 1) (z 0) (z 1)) :=
  part_apply x0 shapeCasts_S1x256x1536_S256x1536 z

theorem block4 : (out0_4 (F := Ideal) x0 x1 x2 x3 : FVec Ideal S256x1536 .f32) z = x0 (ix3 (0 : Fin 1) (z 0) (z 1)) := by
  unfold out0_4
  rw [View.canon_cons_unit_zero (S := S256x1536) zero_offsets]
  simp only [View.ld_unit_zero (S := S256x1536) zero_offsets, View.ld_unit_zero (S := S1x256x1536) zero_offsets3]
  exact gradient_apply x0 z

theorem block5 : (out0_5 (F := Ideal) x0 x1 x2 x3 : FVec Ideal S256x1536 .f32) z = change (x0 (ix3 (0 : Fin 1) (z 0) (z 1))) (x1 z) (x2 z) (x3 z) := by
  unfold out0_5
  rw [View.canon_cons_unit_zero (S := S256x1536) zero_offsets]
  simp only [View.ld_unit_zero (S := S256x1536) zero_offsets, View.ld_unit_zero (S := S1x256x1536) zero_offsets3]
  exact congrArg (fun g => change g (x1 z) (x2 z) (x3 z)) (gradient_apply x0 z)

theorem block6 : (out0_6 (F := Ideal) x0 x1 x2 x3 : FVec Ideal S256x1536 .f32) z = first (x0 (ix3 (0 : Fin 1) (z 0) (z 1))) (x2 z) := by
  unfold out0_6
  rw [View.canon_cons_unit_zero (S := S256x1536) zero_offsets]
  simp only [View.ld_unit_zero (S := S256x1536) zero_offsets, View.ld_unit_zero (S := S1x256x1536) zero_offsets3]
  exact congrArg (fun g => first g (x2 z)) (gradient_apply x0 z)

theorem block7 : (out0_7 (F := Ideal) x0 x1 x2 x3 : FVec Ideal S256x1536 .f32) z = second (x0 (ix3 (0 : Fin 1) (z 0) (z 1))) (x3 z) := by
  unfold out0_7
  rw [View.canon_cons_unit_zero (S := S256x1536) zero_offsets]
  simp only [View.ld_unit_zero (S := S256x1536) zero_offsets, View.ld_unit_zero (S := S1x256x1536) zero_offsets3]
  exact congrArg (fun g => second g (x3 z)) (gradient_apply x0 z)

end Block

variable (m : (ℓ : Loc nD τ sig) → Buf (Elt Ideal) ℓ) (c : Dev nD)

/-- The arguments. -/
abbrev Grad : FVec Ideal S2048x1536 .f32 := m ((c : Thread nD τ).loc main_arg0)
abbrev Wt : FVec Ideal S2048x1536 .f32 := m ((c : Thread nD τ).loc main_arg1)
abbrev Mo : FVec Ideal S2048x1536 .f32 := m ((c : Thread nD τ).loc main_arg2)
abbrev Ve : FVec Ideal S2048x1536 .f32 := m ((c : Thread nD τ).loc main_arg3)

/-- The windows' block indices at a point. -/
theorem idx_land : ∀ t : Fin cfg0.N, win0_0.index t (0 : Fin 3) = 0 ∧ win0_0.index t (1 : Fin 3) = t.val ∧ win0_0.index t (2 : Fin 3) = 0 :=
  (by decide +kernel : ∀ t : Fin grid0.N, _)

theorem idx_facts : ∀ t : Fin cfg0.N,
    (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Where a point's block lies. -/
def at_ (t : Fin cfg0.N) (z : S256x1536.Idx) : S2048x1536.Idx := rowAt (B := 256) 8 (by decide) (Fin.cast N_0 t) z

theorem onto (y : S2048x1536.Idx) : ∃ (t : Fin cfg0.N) (z : S256x1536.Idx), at_ t z = y := by
  obtain ⟨n, z, e⟩ := rowAt_onto (B := 256) 8 (by decide) y
  exact ⟨Fin.cast N_0.symm n, z, e⟩

theorem grad_block (t : Fin cfg0.N) (z : S256x1536.Idx) :
    (iblk m c 0 t : Parts 1 256 1536 .f32) (ix3 (0 : Fin 1) (z 0) (z 1)) = Grad m c (at_ t z) := by
  show V m c main_v0 (((cfg0.win 0).blk t).view.emb _) = _
  have e : V m c main_v0 = broadcastInDim S1x2048x1536 ![1, 2] bcast_S2048x1536_S1x2048x1536_1_2 (Grad m c) := by
    show StableHlo.after hostOps0 (fun b => m (c, b)) main_v0 = _
    after_results_simp
  rw [e]
  refine broadcastInDim_apply _ bcast_S2048x1536_S1x2048x1536_1_2 (Grad m c) _ (at_ t z) (fun b => ?_)
  obtain ⟨_, e1, e2⟩ := idx_land t
  match b with
  | ⟨0, _⟩ => show _ = win0_0.index t (1 : Fin 3) * 256 + 1 * (z 0).val; rw [e1]; show 256 * t.val + (z 0).val = _; omega
  | ⟨1, _⟩ => show _ = win0_0.index t (2 : Fin 3) * 1536 + 1 * (z 1).val; rw [e2]; show (z 1).val = _; omega

theorem weight_block (t : Fin cfg0.N) (z : S256x1536.Idx) : (iblk m c 1 t : FVec Ideal S256x1536 .f32) z = Wt m c (at_ t z) := by
  show V m c main_arg1 (((cfg0.win 1).blk t).view.emb _) = _
  rw [V_main_arg1]
  exact congrArg (Wt m c) (row_place (B := 256) (idx_facts t).1 rfl rfl rfl rfl)

theorem first_block (t : Fin cfg0.N) (z : S256x1536.Idx) : (iblk m c 2 t : FVec Ideal S256x1536 .f32) z = Mo m c (at_ t z) := by
  show V m c main_arg2 (((cfg0.win 2).blk t).view.emb _) = _
  rw [V_main_arg2]
  exact congrArg (Mo m c) (row_place (B := 256) (idx_facts t).2.1 rfl rfl rfl rfl)

theorem second_block (t : Fin cfg0.N) (z : S256x1536.Idx) : (iblk m c 3 t : FVec Ideal S256x1536 .f32) z = Ve m c (at_ t z) := by
  show V m c main_arg3 (((cfg0.win 3).blk t).view.emb _) = _
  rw [V_main_arg3]
  exact congrArg (Ve m c) (row_place (B := 256) (idx_facts t).2.2.1 rfl rfl rfl rfl)

theorem emb4 (t : Fin cfg0.N) (z : S256x1536.Idx) : (((cfg0.win 4).blk t).view.emb z : S2048x1536.Idx) = at_ t z :=
  row_place (B := 256) (idx_facts t).2.2.2.1 rfl rfl rfl rfl

theorem final4 : (dats m 0 c).arrAt 4 cfg0.N = Grad m c := by
  refine (dats m 0 c).arrAt_eq_of_cover 4 (Grad m c) (fun t _ => ?_) (fun y => ?_)
  · rw [Cert.Kernel20Ideal.Value.flushed4]
    funext (z : S256x1536.Idx)
    refine (block4 (iblk m c 0 t) (iblk m c 1 t) (iblk m c 2 t) (iblk m c 3 t) z).trans ?_
    rw [grad_block m c t z]
    exact (congrArg (Grad m c) (emb4 t z)).symm
  · obtain ⟨t, z, e⟩ := onto y
    exact ⟨t, flush0_4 t, e ▸ (emb4 t z) ▸ View.emb_mem_set _ _⟩

theorem emb5 (t : Fin cfg0.N) (z : S256x1536.Idx) : (((cfg0.win 5).blk t).view.emb z : S2048x1536.Idx) = at_ t z :=
  row_place (B := 256) (idx_facts t).2.2.2.2.1 rfl rfl rfl rfl

theorem final5 : (dats m 0 c).arrAt 5 cfg0.N = each3 change (Grad m c) (Wt m c) (Mo m c) (Ve m c) := by
  refine (dats m 0 c).arrAt_eq_of_cover 5 (each3 change (Grad m c) (Wt m c) (Mo m c) (Ve m c)) (fun t _ => ?_) (fun y => ?_)
  · rw [Cert.Kernel20Ideal.Value.flushed5]
    funext (z : S256x1536.Idx)
    refine (block5 (iblk m c 0 t) (iblk m c 1 t) (iblk m c 2 t) (iblk m c 3 t) z).trans ?_
    rw [grad_block m c t z, weight_block m c t z, first_block m c t z, second_block m c t z]
    exact (congrArg (each3 change (Grad m c) (Wt m c) (Mo m c) (Ve m c)) (emb5 t z)).symm
  · obtain ⟨t, z, e⟩ := onto y
    exact ⟨t, flush0_5 t, e ▸ (emb5 t z) ▸ View.emb_mem_set _ _⟩

theorem emb6 (t : Fin cfg0.N) (z : S256x1536.Idx) : (((cfg0.win 6).blk t).view.emb z : S2048x1536.Idx) = at_ t z :=
  row_place (B := 256) (idx_facts t).2.2.2.2.2.1 rfl rfl rfl rfl

theorem final6 : (dats m 0 c).arrAt 6 cfg0.N = each1 first (Grad m c) (Mo m c) := by
  refine (dats m 0 c).arrAt_eq_of_cover 6 (each1 first (Grad m c) (Mo m c)) (fun t _ => ?_) (fun y => ?_)
  · rw [Cert.Kernel20Ideal.Value.flushed6]
    funext (z : S256x1536.Idx)
    refine (block6 (iblk m c 0 t) (iblk m c 1 t) (iblk m c 2 t) (iblk m c 3 t) z).trans ?_
    rw [grad_block m c t z, first_block m c t z]
    exact (congrArg (each1 first (Grad m c) (Mo m c)) (emb6 t z)).symm
  · obtain ⟨t, z, e⟩ := onto y
    exact ⟨t, flush0_6 t, e ▸ (emb6 t z) ▸ View.emb_mem_set _ _⟩

theorem emb7 (t : Fin cfg0.N) (z : S256x1536.Idx) : (((cfg0.win 7).blk t).view.emb z : S2048x1536.Idx) = at_ t z :=
  row_place (B := 256) (idx_facts t).2.2.2.2.2.2 rfl rfl rfl rfl

theorem final7 : (dats m 0 c).arrAt 7 cfg0.N = each1 second (Grad m c) (Ve m c) := by
  refine (dats m 0 c).arrAt_eq_of_cover 7 (each1 second (Grad m c) (Ve m c)) (fun t _ => ?_) (fun y => ?_)
  · rw [Cert.Kernel20Ideal.Value.flushed7]
    funext (z : S256x1536.Idx)
    refine (block7 (iblk m c 0 t) (iblk m c 1 t) (iblk m c 2 t) (iblk m c 3 t) z).trans ?_
    rw [grad_block m c t z, second_block m c t z]
    exact (congrArg (each1 second (Grad m c) (Ve m c)) (emb7 t z)).symm
  · obtain ⟨t, z, e⟩ := onto y
    exact ⟨t, flush0_7 t, e ▸ (emb7 t z) ▸ View.emb_mem_set _ _⟩

end Cert.Kernel20Ideal.Update

namespace Cert.Reference20Ideal.Update

open Cert.Reference20Ideal Cert.Reference20Ideal.Gen Cert.Reference20Ideal.Read Cert.Update Cert.Kernel20Ideal.Update
open Idealize.ShloMosaic Idealize.ShloMosaic.ValueIdx Idealize.SL.Sem

variable (g w mo ve : FVec Ideal S2048x1536 .f32)

theorem value_first : val_main_v4 (F := Ideal) g mo = each1 first g mo := rfl

theorem value_second : val_main_v10 (F := Ideal) g ve = each1 second g ve := rfl

theorem value_change : val_main_v23 (F := Ideal) g w mo ve = each3 change g w mo ve := rfl

/-- The reference runs, leaves its arguments alone and declares no semaphore. -/
theorem frame : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)

/-- The two programs end with the same arrays. -/
theorem algebraic : Cert.algebraic_Kernel20Ideal_Reference20Ideal := by
  intro m g m' g' _ hargs
  refine ⟨fun c => Grad m c, fun c => each3 change (Grad m c) (Wt m c) (Mo m c) (Ve m c),
    fun c => each1 first (Grad m c) (Mo m c), fun c => each1 second (Grad m c) (Ve m c), ?_, ?_⟩
  · refine (θ_run Cert.Kernel20Ideal.defs _ _).mono (fun r h c => ?_) (Cert.Kernel20Ideal.Value.run_blocks (F := Ideal) m g)
    obtain ⟨e5, e6, e7, e8, k⟩ := h c
    exact ⟨e5.trans (final4 m c), e6.trans (final5 m c), e7.trans (final6 m c), e8.trans (final7 m c), k⟩
  · refine (θ_run Cert.Reference20Ideal.defs _ _).mono (fun r h c => ?_) (Cert.Reference20Ideal.Value.run (F := Ideal) m' g')
    obtain ⟨e5, e6, e7, e8, k⟩ := h c
    obtain ⟨a0, a1, a2, a3⟩ := hargs c
    refine ⟨e5.trans a0, e6.trans ?_, e7.trans ?_, e8.trans ?_, k⟩
    · rw [val_main_v23_eq, a0, a1, a2, a3]; exact value_change _ _ _ _
    · rw [val_main_v4_eq, a0, a2]; exact value_first _ _
    · rw [val_main_v10_eq, a0, a3]; exact value_second _ _

end Cert.Reference20Ideal.Update

end
-- ==== Proof.Update.Three.lean ====
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import proofs.«01_k».proof.Proof.Update.Formula
public import proofs.«01_k».proof.Proof.Blocks

/-! # The update of the up projection: three landed parts

Point `t` of the grid works on rows `256 t …`, element by element. -/

@[expose] public section

noncomputable section

namespace Cert.Kernel21Ideal.Update

open Cert.Kernel21Ideal Cert.Kernel21Ideal.Gen Cert.Update Cert.Blocks Idealize.ShloMosaic Idealize.ShloMosaic.TcCoe Idealize.ShloMosaic.ValueIdx Idealize.SL.Sem

section Block
variable (x0 : FVec Ideal S3x256x1408 .bf16) (x1 x2 x3 : FVec Ideal S256x1408 .f32) (x4 : FVec Ideal S256x1408 .bf16) (z : S256x1408.Idx)

theorem gradient_apply : k0_pay2 (F := Ideal) x4 (View.ld x0 r0_1) (View.ld x0 r0_2) (View.ld x0 r0_3) z = gradient x0 x4 z := by
  rw [← gradient_three]
  refine congrArg₂ (fun a b : EReal => a + b) ?_ (landed x0 2 _ _ z)
  refine congrArg₂ (fun a b : EReal => a + b) ?_ (landed x0 1 _ _ z)
  refine congrArg₂ (fun a b : EReal => a + b) ?_ (landed x0 0 _ _ z)
  rfl

theorem block5 : (out0_5 (F := Ideal) x0 x1 x2 x3 x4 : FVec Ideal S256x1408 .f32) z = gradient x0 x4 z := by
  unfold out0_5
  rw [View.canon_cons_unit_zero (S := S256x1408) zero_offsets]
  simp only [View.ld_unit_zero (S := S256x1408) zero_offsets]
  exact gradient_apply x0 x4 z

theorem block6 : (out0_6 (F := Ideal) x0 x1 x2 x3 x4 : FVec Ideal S256x1408 .f32) z = change (gradient x0 x4 z) (x1 z) (x2 z) (x3 z) := by
  unfold out0_6
  rw [View.canon_cons_unit_zero (S := S256x1408) zero_offsets]
  simp only [View.ld_unit_zero (S := S256x1408) zero_offsets]
  exact congrArg (fun g => change g (x1 z) (x2 z) (x3 z)) (gradient_apply x0 x4 z)

theorem block7 : (out0_7 (F := Ideal) x0 x1 x2 x3 x4 : FVec Ideal S256x1408 .f32) z = first (gradient x0 x4 z) (x2 z) := by
  unfold out0_7
  rw [View.canon_cons_unit_zero (S := S256x1408) zero_offsets]
  simp only [View.ld_unit_zero (S := S256x1408) zero_offsets]
  exact congrArg (fun g => first g (x2 z)) (gradient_apply x0 x4 z)

theorem block8 : (out0_8 (F := Ideal) x0 x1 x2 x3 x4 : FVec Ideal S256x1408 .f32) z = second (gradient x0 x4 z) (x3 z) := by
  unfold out0_8
  rw [View.canon_cons_unit_zero (S := S256x1408) zero_offsets]
  simp only [View.ld_unit_zero (S := S256x1408) zero_offsets]
  exact congrArg (fun g => second g (x3 z)) (gradient_apply x0 x4 z)

end Block

variable (m : (ℓ : Loc nD τ sig) → Buf (Elt Ideal) ℓ) (c : Dev nD)

/-- The arguments. -/
abbrev Land : Parts 3 2048 1408 .bf16 := m ((c : Thread nD τ).loc main_arg0)
abbrev Wt : FVec Ideal S2048x1408 .f32 := m ((c : Thread nD τ).loc main_arg1)
abbrev Mo : FVec Ideal S2048x1408 .f32 := m ((c : Thread nD τ).loc main_arg2)
abbrev Ve : FVec Ideal S2048x1408 .f32 := m ((c : Thread nD τ).loc main_arg3)
abbrev Own : FVec Ideal S2048x1408 .bf16 := m ((c : Thread nD τ).loc main_arg4)
abbrev Grad : S2048x1408.Idx → EReal := gradient (Land m c) (Own m c)

/-- The windows' block indices at a point. -/
theorem idx_land : ∀ t : Fin cfg0.N, win0_0.index t (0 : Fin 3) = 0 ∧ win0_0.index t (1 : Fin 3) = t.val ∧ win0_0.index t (2 : Fin 3) = 0 :=
  (by decide +kernel : ∀ t : Fin grid0.N, _)

theorem idx_facts : ∀ t : Fin cfg0.N,
    (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Where a point's block lies. -/
def at_ (t : Fin cfg0.N) (z : S256x1408.Idx) : S2048x1408.Idx := rowAt (B := 256) 8 (by decide) (Fin.cast N_0 t) z

theorem onto (y : S2048x1408.Idx) : ∃ (t : Fin cfg0.N) (z : S256x1408.Idx), at_ t z = y := by
  obtain ⟨n, z, e⟩ := rowAt_onto (B := 256) 8 (by decide) y
  exact ⟨Fin.cast N_0.symm n, z, e⟩

theorem land_block (t : Fin cfg0.N) (z : S256x1408.Idx) (k : Fin 3) :
    (iblk m c 0 t : Parts 3 256 1408 .bf16) (ix3 k (z 0) (z 1)) = Land m c (ix3 k (at_ t z 0) (at_ t z 1)) := by
  show V m c main_arg0 (((cfg0.win 0).blk t).view.emb _) = _
  exact congrArg (Land m c) (land_place (B := 256) (idx_land t) rfl rfl rfl rfl rfl rfl)

theorem weight_block (t : Fin cfg0.N) (z : S256x1408.Idx) : (iblk m c 1 t : FVec Ideal S256x1408 .f32) z = Wt m c (at_ t z) := by
  show V m c main_arg1 (((cfg0.win 1).blk t).view.emb _) = _
  exact congrArg (Wt m c) (row_place (B := 256) (idx_facts t).1 rfl rfl rfl rfl)

theorem first_block (t : Fin cfg0.N) (z : S256x1408.Idx) : (iblk m c 2 t : FVec Ideal S256x1408 .f32) z = Mo m c (at_ t z) := by
  show V m c main_arg2 (((cfg0.win 2).blk t).view.emb _) = _
  exact congrArg (Mo m c) (row_place (B := 256) (idx_facts t).2.1 rfl rfl rfl rfl)

theorem second_block (t : Fin cfg0.N) (z : S256x1408.Idx) : (iblk m c 3 t : FVec Ideal S256x1408 .f32) z = Ve m c (at_ t z) := by
  show V m c main_arg3 (((cfg0.win 3).blk t).view.emb _) = _
  exact congrArg (Ve m c) (row_place (B := 256) (idx_facts t).2.2.1 rfl rfl rfl rfl)

theorem own_block (t : Fin cfg0.N) (z : S256x1408.Idx) : (iblk m c 4 t : FVec Ideal S256x1408 .bf16) z = Own m c (at_ t z) := by
  show V m c main_arg4 (((cfg0.win 4).blk t).view.emb _) = _
  exact congrArg (Own m c) (row_place (B := 256) (idx_facts t).2.2.2.1 rfl rfl rfl rfl)

theorem grad_block (t : Fin cfg0.N) (z : S256x1408.Idx) : gradient (P := 3) (R := 256) (C := 1408) (iblk m c 0 t) (iblk m c 4 t) z = Grad m c (at_ t z) :=
  gradient_block (own_block m c t z) (land_block m c t z)

theorem emb5 (t : Fin cfg0.N) (z : S256x1408.Idx) : (((cfg0.win 5).blk t).view.emb z : S2048x1408.Idx) = at_ t z :=
  row_place (B := 256) (idx_facts t).2.2.2.2.1 rfl rfl rfl rfl

theorem final5 : (dats m 0 c).arrAt 5 cfg0.N = Grad m c := by
  refine (dats m 0 c).arrAt_eq_of_cover 5 (Grad m c) (fun t _ => ?_) (fun y => ?_)
  · rw [Cert.Kernel21Ideal.Value.flushed5]
    funext (z : S256x1408.Idx)
    refine (block5 (iblk m c 0 t) (iblk m c 1 t) (iblk m c 2 t) (iblk m c 3 t) (iblk m c 4 t) z).trans ?_
    rw [grad_block m c t z]
    exact (congrArg (Grad m c) (emb5 t z)).symm
  · obtain ⟨t, z, e⟩ := onto y
    exact ⟨t, flush0_5 t, e ▸ (emb5 t z) ▸ View.emb_mem_set _ _⟩

theorem emb6 (t : Fin cfg0.N) (z : S256x1408.Idx) : (((cfg0.win 6).blk t).view.emb z : S2048x1408.Idx) = at_ t z :=
  row_place (B := 256) (idx_facts t).2.2.2.2.2.1 rfl rfl rfl rfl

theorem final6 : (dats m 0 c).arrAt 6 cfg0.N = each3 change (Grad m c) (Wt m c) (Mo m c) (Ve m c) := by
  refine (dats m 0 c).arrAt_eq_of_cover 6 (each3 change (Grad m c) (Wt m c) (Mo m c) (Ve m c)) (fun t _ => ?_) (fun y => ?_)
  · rw [Cert.Kernel21Ideal.Value.flushed6]
    funext (z : S256x1408.Idx)
    refine (block6 (iblk m c 0 t) (iblk m c 1 t) (iblk m c 2 t) (iblk m c 3 t) (iblk m c 4 t) z).trans ?_
    rw [grad_block m c t z, weight_block m c t z, first_block m c t z, second_block m c t z]
    exact (congrArg (each3 change (Grad m c) (Wt m c) (Mo m c) (Ve m c)) (emb6 t z)).symm
  · obtain ⟨t, z, e⟩ := onto y
    exact ⟨t, flush0_6 t, e ▸ (emb6 t z) ▸ View.emb_mem_set _ _⟩

theorem emb7 (t : Fin cfg0.N) (z : S256x1408.Idx) : (((cfg0.win 7).blk t).view.emb z : S2048x1408.Idx) = at_ t z :=
  row_place (B := 256) (idx_facts t).2.2.2.2.2.2.1 rfl rfl rfl rfl

theorem final7 : (dats m 0 c).arrAt 7 cfg0.N = each1 first (Grad m c) (Mo m c) := by
  refine (dats m 0 c).arrAt_eq_of_cover 7 (each1 first (Grad m c) (Mo m c)) (fun t _ => ?_) (fun y => ?_)
  · rw [Cert.Kernel21Ideal.Value.flushed7]
    funext (z : S256x1408.Idx)
    refine (block7 (iblk m c 0 t) (iblk m c 1 t) (iblk m c 2 t) (iblk m c 3 t) (iblk m c 4 t) z).trans ?_
    rw [grad_block m c t z, first_block m c t z]
    exact (congrArg (each1 first (Grad m c) (Mo m c)) (emb7 t z)).symm
  · obtain ⟨t, z, e⟩ := onto y
    exact ⟨t, flush0_7 t, e ▸ (emb7 t z) ▸ View.emb_mem_set _ _⟩

theorem emb8 (t : Fin cfg0.N) (z : S256x1408.Idx) : (((cfg0.win 8).blk t).view.emb z : S2048x1408.Idx) = at_ t z :=
  row_place (B := 256) (idx_facts t).2.2.2.2.2.2.2 rfl rfl rfl rfl

theorem final8 : (dats m 0 c).arrAt 8 cfg0.N = each1 second (Grad m c) (Ve m c) := by
  refine (dats m 0 c).arrAt_eq_of_cover 8 (each1 second (Grad m c) (Ve m c)) (fun t _ => ?_) (fun y => ?_)
  · rw [Cert.Kernel21Ideal.Value.flushed8]
    funext (z : S256x1408.Idx)
    refine (block8 (iblk m c 0 t) (iblk m c 1 t) (iblk m c 2 t) (iblk m c 3 t) (iblk m c 4 t) z).trans ?_
    rw [grad_block m c t z, second_block m c t z]
    exact (congrArg (each1 second (Grad m c) (Ve m c)) (emb8 t z)).symm
  · obtain ⟨t, z, e⟩ := onto y
    exact ⟨t, flush0_8 t, e ▸ (emb8 t z) ▸ View.emb_mem_set _ _⟩

end Cert.Kernel21Ideal.Update

namespace Cert.Reference21Ideal.Update

open Cert.Reference21Ideal Cert.Reference21Ideal.Gen Cert.Reference21Ideal.Read Cert.Update Cert.Kernel21Ideal.Update
open Idealize.ShloMosaic Idealize.ShloMosaic.ValueIdx Idealize.SL.Sem

variable (land : Parts 3 2048 1408 .bf16) (w mo ve : FVec Ideal S2048x1408 .f32) (own : FVec Ideal S2048x1408 .bf16)

theorem value_gradient : val_main_v3 (F := Ideal) land own = gradient land own := by
  funext y
  show (own y : EReal) + val_main_v2 (F := Ideal) land y = _
  rw [val_main_v2_apply]
  refine congrArg ((own y : EReal) + ·) ((congrArg (· + _) Ideal.ofBits_zero_f32).trans ((zero_add _).trans (Finset.sum_congr (M := EReal) rfl fun k _ => ?_)))
  exact congrArg land (funext fun b => match b with
    | ⟨0, _⟩ => rfl
    | ⟨1, _⟩ => rfl
    | ⟨2, _⟩ => rfl)

theorem value_first : val_main_v8 (F := Ideal) land mo own = each1 first (gradient land own) mo := by
  rw [← value_gradient]; rfl

theorem value_second : val_main_v14 (F := Ideal) land ve own = each1 second (gradient land own) ve := by
  rw [← value_gradient]; rfl

theorem value_change : val_main_v27 (F := Ideal) land w mo ve own = each3 change (gradient land own) w mo ve := by
  rw [← value_gradient]; rfl

/-- The reference runs, leaves its arguments alone and declares no semaphore. -/
theorem frame : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

/-- The two programs end with the same arrays. -/
theorem algebraic : Cert.algebraic_Kernel21Ideal_Reference21Ideal := by
  intro m g m' g' _ hargs
  refine ⟨fun c => Grad m c, fun c => each3 change (Grad m c) (Wt m c) (Mo m c) (Ve m c),
    fun c => each1 first (Grad m c) (Mo m c), fun c => each1 second (Grad m c) (Ve m c), ?_, ?_⟩
  · refine (θ_run Cert.Kernel21Ideal.defs _ _).mono (fun r h c => ?_) (Cert.Kernel21Ideal.Value.run_blocks (F := Ideal) m g)
    obtain ⟨e5, e6, e7, e8, k⟩ := h c
    exact ⟨e5.trans (final5 m c), e6.trans (final6 m c), e7.trans (final7 m c), e8.trans (final8 m c), k⟩
  · refine (θ_run Cert.Reference21Ideal.defs _ _).mono (fun r h c => ?_) (Cert.Reference21Ideal.Value.run (F := Ideal) m' g')
    obtain ⟨e5, e6, e7, e8, k⟩ := h c
    obtain ⟨a0, a1, a2, a3, a4⟩ := hargs c
    refine ⟨e5.trans ?_, e6.trans ?_, e7.trans ?_, e8.trans ?_, k⟩
    · rw [val_main_v3_eq, a0, a4]; exact value_gradient _ _
    · rw [val_main_v27_eq, a0, a1, a2, a3, a4]; exact value_change _ _ _ _ _
    · rw [val_main_v8_eq, a0, a2, a4]; exact value_first _ _ _
    · rw [val_main_v14_eq, a0, a3, a4]; exact value_second _ _ _

end Cert.Reference21Ideal.Update

end
-- ==== Proof.Update.Columns.lean ====
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import proofs.«01_k».proof.Proof.Update.Formula
public import proofs.«01_k».proof.Proof.Blocks

/-! # The update of the projections whose columns are split: seven landed parts

Point `t` of the grid works on rows `512 t …`, element by element. -/

@[expose] public section

noncomputable section

namespace Cert.Kernel22Ideal.Update

open Cert.Kernel22Ideal Cert.Kernel22Ideal.Gen Cert.Update Cert.Blocks Idealize.ShloMosaic Idealize.ShloMosaic.TcCoe Idealize.ShloMosaic.ValueIdx Idealize.SL.Sem

section Block
variable (x0 : FVec Ideal S7x512x1024 .bf16) (x1 x2 x3 : FVec Ideal S512x1024 .f32) (x4 : FVec Ideal S512x1024 .bf16) (z : S512x1024.Idx)

theorem gradient_apply : k0_pay4 (F := Ideal) x4 (View.ld x0 r0_1) (View.ld x0 r0_2) (View.ld x0 r0_3) (View.ld x0 r0_4) (View.ld x0 r0_5) (View.ld x0 r0_6) (View.ld x0 r0_7) z = gradient x0 x4 z := by
  rw [← gradient_seven]
  refine congrArg₂ (fun a b : EReal => a + b) ?_ (landed x0 6 _ _ z)
  refine congrArg₂ (fun a b : EReal => a + b) ?_ (landed x0 5 _ _ z)
  refine congrArg₂ (fun a b : EReal => a + b) ?_ (landed x0 4 _ _ z)
  refine congrArg₂ (fun a b : EReal => a + b) ?_ (landed x0 3 _ _ z)
  refine congrArg₂ (fun a b : EReal => a + b) ?_ (landed x0 2 _ _ z)
  refine congrArg₂ (fun a b : EReal => a + b) ?_ (landed x0 1 _ _ z)
  refine congrArg₂ (fun a b : EReal => a + b) ?_ (landed x0 0 _ _ z)
  rfl

theorem block5 : (out0_5 (F := Ideal) x0 x1 x2 x3 x4 : FVec Ideal S512x1024 .f32) z = gradient x0 x4 z := by
  unfold out0_5 k0_pay6
  rw [View.canon_cons_unit_zero (S := S512x1024) zero_offsets]
  simp only [View.ld_unit_zero (S := S512x1024) zero_offsets]
  exact gradient_apply x0 x4 z

theorem block6 : (out0_6 (F := Ideal) x0 x1 x2 x3 x4 : FVec Ideal S512x1024 .f32) z = change (gradient x0 x4 z) (x1 z) (x2 z) (x3 z) := by
  unfold out0_6 k0_pay6 k0_pay7
  rw [View.canon_cons_unit_zero (S := S512x1024) zero_offsets]
  simp only [View.ld_unit_zero (S := S512x1024) zero_offsets]
  exact congrArg (fun g => change g (x1 z) (x2 z) (x3 z)) (gradient_apply x0 x4 z)

theorem block7 : (out0_7 (F := Ideal) x0 x1 x2 x3 x4 : FVec Ideal S512x1024 .f32) z = first (gradient x0 x4 z) (x2 z) := by
  unfold out0_7 k0_pay6 k0_pay7
  rw [View.canon_cons_unit_zero (S := S512x1024) zero_offsets]
  simp only [View.ld_unit_zero (S := S512x1024) zero_offsets]
  exact congrArg (fun g => first g (x2 z)) (gradient_apply x0 x4 z)

theorem block8 : (out0_8 (F := Ideal) x0 x1 x2 x3 x4 : FVec Ideal S512x1024 .f32) z = second (gradient x0 x4 z) (x3 z) := by
  unfold out0_8 k0_pay6
  rw [View.canon_cons_unit_zero (S := S512x1024) zero_offsets]
  simp only [View.ld_unit_zero (S := S512x1024) zero_offsets]
  exact congrArg (fun g => second g (x3 z)) (gradient_apply x0 x4 z)

end Block

variable (m : (ℓ : Loc nD τ sig) → Buf (Elt Ideal) ℓ) (c : Dev nD)

/-- The arguments. -/
abbrev Land : Parts 7 2048 1024 .bf16 := m ((c : Thread nD τ).loc main_arg0)
abbrev Wt : FVec Ideal S2048x1024 .f32 := m ((c : Thread nD τ).loc main_arg1)
abbrev Mo : FVec Ideal S2048x1024 .f32 := m ((c : Thread nD τ).loc main_arg2)
abbrev Ve : FVec Ideal S2048x1024 .f32 := m ((c : Thread nD τ).loc main_arg3)
abbrev Own : FVec Ideal S2048x1024 .bf16 := m ((c : Thread nD τ).loc main_arg4)
abbrev Grad : S2048x1024.Idx → EReal := gradient (Land m c) (Own m c)

/-- The windows' block indices at a point. -/
theorem idx_land : ∀ t : Fin cfg0.N, win0_0.index t (0 : Fin 3) = 0 ∧ win0_0.index t (1 : Fin 3) = t.val ∧ win0_0.index t (2 : Fin 3) = 0 :=
  (by decide +kernel : ∀ t : Fin grid0.N, _)

theorem idx_facts : ∀ t : Fin cfg0.N,
    (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Where a point's block lies. -/
def at_ (t : Fin cfg0.N) (z : S512x1024.Idx) : S2048x1024.Idx := rowAt (B := 512) 4 (by decide) (Fin.cast N_0 t) z

theorem onto (y : S2048x1024.Idx) : ∃ (t : Fin cfg0.N) (z : S512x1024.Idx), at_ t z = y := by
  obtain ⟨n, z, e⟩ := rowAt_onto (B := 512) 4 (by decide) y
  exact ⟨Fin.cast N_0.symm n, z, e⟩

theorem land_block (t : Fin cfg0.N) (z : S512x1024.Idx) (k : Fin 7) :
    (iblk m c 0 t : Parts 7 512 1024 .bf16) (ix3 k (z 0) (z 1)) = Land m c (ix3 k (at_ t z 0) (at_ t z 1)) := by
  show V m c main_arg0 (((cfg0.win 0).blk t).view.emb _) = _
  exact congrArg (Land m c) (land_place (B := 512) (idx_land t) rfl rfl rfl rfl rfl rfl)

theorem weight_block (t : Fin cfg0.N) (z : S512x1024.Idx) : (iblk m c 1 t : FVec Ideal S512x1024 .f32) z = Wt m c (at_ t z) := by
  show V m c main_arg1 (((cfg0.win 1).blk t).view.emb _) = _
  exact congrArg (Wt m c) (row_place (B := 512) (idx_facts t).1 rfl rfl rfl rfl)

theorem first_block (t : Fin cfg0.N) (z : S512x1024.Idx) : (iblk m c 2 t : FVec Ideal S512x1024 .f32) z = Mo m c (at_ t z) := by
  show V m c main_arg2 (((cfg0.win 2).blk t).view.emb _) = _
  exact congrArg (Mo m c) (row_place (B := 512) (idx_facts t).2.1 rfl rfl rfl rfl)

theorem second_block (t : Fin cfg0.N) (z : S512x1024.Idx) : (iblk m c 3 t : FVec Ideal S512x1024 .f32) z = Ve m c (at_ t z) := by
  show V m c main_arg3 (((cfg0.win 3).blk t).view.emb _) = _
  exact congrArg (Ve m c) (row_place (B := 512) (idx_facts t).2.2.1 rfl rfl rfl rfl)

theorem own_block (t : Fin cfg0.N) (z : S512x1024.Idx) : (iblk m c 4 t : FVec Ideal S512x1024 .bf16) z = Own m c (at_ t z) := by
  show V m c main_arg4 (((cfg0.win 4).blk t).view.emb _) = _
  exact congrArg (Own m c) (row_place (B := 512) (idx_facts t).2.2.2.1 rfl rfl rfl rfl)

theorem grad_block (t : Fin cfg0.N) (z : S512x1024.Idx) : gradient (P := 7) (R := 512) (C := 1024) (iblk m c 0 t) (iblk m c 4 t) z = Grad m c (at_ t z) :=
  gradient_block (own_block m c t z) (land_block m c t z)

theorem emb5 (t : Fin cfg0.N) (z : S512x1024.Idx) : (((cfg0.win 5).blk t).view.emb z : S2048x1024.Idx) = at_ t z :=
  row_place (B := 512) (idx_facts t).2.2.2.2.1 rfl rfl rfl rfl

theorem final5 : (dats m 0 c).arrAt 5 cfg0.N = Grad m c := by
  refine (dats m 0 c).arrAt_eq_of_cover 5 (Grad m c) (fun t _ => ?_) (fun y => ?_)
  · rw [Cert.Kernel22Ideal.Value.flushed5]
    funext (z : S512x1024.Idx)
    refine (block5 (iblk m c 0 t) (iblk m c 1 t) (iblk m c 2 t) (iblk m c 3 t) (iblk m c 4 t) z).trans ?_
    rw [grad_block m c t z]
    exact (congrArg (Grad m c) (emb5 t z)).symm
  · obtain ⟨t, z, e⟩ := onto y
    exact ⟨t, flush0_5 t, e ▸ (emb5 t z) ▸ View.emb_mem_set _ _⟩

theorem emb6 (t : Fin cfg0.N) (z : S512x1024.Idx) : (((cfg0.win 6).blk t).view.emb z : S2048x1024.Idx) = at_ t z :=
  row_place (B := 512) (idx_facts t).2.2.2.2.2.1 rfl rfl rfl rfl

theorem final6 : (dats m 0 c).arrAt 6 cfg0.N = each3 change (Grad m c) (Wt m c) (Mo m c) (Ve m c) := by
  refine (dats m 0 c).arrAt_eq_of_cover 6 (each3 change (Grad m c) (Wt m c) (Mo m c) (Ve m c)) (fun t _ => ?_) (fun y => ?_)
  · rw [Cert.Kernel22Ideal.Value.flushed6]
    funext (z : S512x1024.Idx)
    refine (block6 (iblk m c 0 t) (iblk m c 1 t) (iblk m c 2 t) (iblk m c 3 t) (iblk m c 4 t) z).trans ?_
    rw [grad_block m c t z, weight_block m c t z, first_block m c t z, second_block m c t z]
    exact (congrArg (each3 change (Grad m c) (Wt m c) (Mo m c) (Ve m c)) (emb6 t z)).symm
  · obtain ⟨t, z, e⟩ := onto y
    exact ⟨t, flush0_6 t, e ▸ (emb6 t z) ▸ View.emb_mem_set _ _⟩

theorem emb7 (t : Fin cfg0.N) (z : S512x1024.Idx) : (((cfg0.win 7).blk t).view.emb z : S2048x1024.Idx) = at_ t z :=
  row_place (B := 512) (idx_facts t).2.2.2.2.2.2.1 rfl rfl rfl rfl

theorem final7 : (dats m 0 c).arrAt 7 cfg0.N = each1 first (Grad m c) (Mo m c) := by
  refine (dats m 0 c).arrAt_eq_of_cover 7 (each1 first (Grad m c) (Mo m c)) (fun t _ => ?_) (fun y => ?_)
  · rw [Cert.Kernel22Ideal.Value.flushed7]
    funext (z : S512x1024.Idx)
    refine (block7 (iblk m c 0 t) (iblk m c 1 t) (iblk m c 2 t) (iblk m c 3 t) (iblk m c 4 t) z).trans ?_
    rw [grad_block m c t z, first_block m c t z]
    exact (congrArg (each1 first (Grad m c) (Mo m c)) (emb7 t z)).symm
  · obtain ⟨t, z, e⟩ := onto y
    exact ⟨t, flush0_7 t, e ▸ (emb7 t z) ▸ View.emb_mem_set _ _⟩

theorem emb8 (t : Fin cfg0.N) (z : S512x1024.Idx) : (((cfg0.win 8).blk t).view.emb z : S2048x1024.Idx) = at_ t z :=
  row_place (B := 512) (idx_facts t).2.2.2.2.2.2.2 rfl rfl rfl rfl

theorem final8 : (dats m 0 c).arrAt 8 cfg0.N = each1 second (Grad m c) (Ve m c) := by
  refine (dats m 0 c).arrAt_eq_of_cover 8 (each1 second (Grad m c) (Ve m c)) (fun t _ => ?_) (fun y => ?_)
  · rw [Cert.Kernel22Ideal.Value.flushed8]
    funext (z : S512x1024.Idx)
    refine (block8 (iblk m c 0 t) (iblk m c 1 t) (iblk m c 2 t) (iblk m c 3 t) (iblk m c 4 t) z).trans ?_
    rw [grad_block m c t z, second_block m c t z]
    exact (congrArg (each1 second (Grad m c) (Ve m c)) (emb8 t z)).symm
  · obtain ⟨t, z, e⟩ := onto y
    exact ⟨t, flush0_8 t, e ▸ (emb8 t z) ▸ View.emb_mem_set _ _⟩

end Cert.Kernel22Ideal.Update

namespace Cert.Reference22Ideal.Update

open Cert.Reference22Ideal Cert.Reference22Ideal.Gen Cert.Reference22Ideal.Read Cert.Update Cert.Kernel22Ideal.Update
open Idealize.ShloMosaic Idealize.ShloMosaic.ValueIdx Idealize.SL.Sem

variable (land : Parts 7 2048 1024 .bf16) (w mo ve : FVec Ideal S2048x1024 .f32) (own : FVec Ideal S2048x1024 .bf16)

theorem value_gradient : val_main_v3 (F := Ideal) land own = gradient land own := by
  funext y
  show (own y : EReal) + val_main_v2 (F := Ideal) land y = _
  rw [val_main_v2_apply]
  refine congrArg ((own y : EReal) + ·) ((congrArg (· + _) Ideal.ofBits_zero_f32).trans ((zero_add _).trans (Finset.sum_congr (M := EReal) rfl fun k _ => ?_)))
  exact congrArg land (funext fun b => match b with
    | ⟨0, _⟩ => rfl
    | ⟨1, _⟩ => rfl
    | ⟨2, _⟩ => rfl)

theorem value_first : val_main_v8 (F := Ideal) land mo own = each1 first (gradient land own) mo := by
  rw [← value_gradient]; rfl

theorem value_second : val_main_v14 (F := Ideal) land ve own = each1 second (gradient land own) ve := by
  rw [← value_gradient]; rfl

theorem value_change : val_main_v27 (F := Ideal) land w mo ve own = each3 change (gradient land own) w mo ve := by
  rw [← value_gradient]; rfl

/-- The reference runs, leaves its arguments alone and declares no semaphore. -/
theorem frame : Cert.quiescent_Reference22Ideal := fun m ρ _ =>
  (θ_run Cert.Reference22Ideal.defs _ _).mono (fun r h => ⟨fun c => (h c).2.2.2.2, sem_eq_zero_of_no_sems (by decide) r.2⟩)
    (Cert.Reference22Ideal.Value.run (F := Ideal) m ρ)

/-- The two programs end with the same arrays. -/
theorem algebraic : Cert.algebraic_Kernel22Ideal_Reference22Ideal := by
  intro m g m' g' _ hargs
  refine ⟨fun c => Grad m c, fun c => each3 change (Grad m c) (Wt m c) (Mo m c) (Ve m c),
    fun c => each1 first (Grad m c) (Mo m c), fun c => each1 second (Grad m c) (Ve m c), ?_, ?_⟩
  · refine (θ_run Cert.Kernel22Ideal.defs _ _).mono (fun r h c => ?_) (Cert.Kernel22Ideal.Value.run_blocks (F := Ideal) m g)
    obtain ⟨e5, e6, e7, e8, k⟩ := h c
    exact ⟨e5.trans (final5 m c), e6.trans (final6 m c), e7.trans (final7 m c), e8.trans (final8 m c), k⟩
  · refine (θ_run Cert.Reference22Ideal.defs _ _).mono (fun r h c => ?_) (Cert.Reference22Ideal.Value.run (F := Ideal) m' g')
    obtain ⟨e5, e6, e7, e8, k⟩ := h c
    obtain ⟨a0, a1, a2, a3, a4⟩ := hargs c
    refine ⟨e5.trans ?_, e6.trans ?_, e7.trans ?_, e8.trans ?_, k⟩
    · rw [val_main_v3_eq, a0, a4]; exact value_gradient _ _
    · rw [val_main_v27_eq, a0, a1, a2, a3, a4]; exact value_change _ _ _ _ _
    · rw [val_main_v8_eq, a0, a2, a4]; exact value_first _ _ _
    · rw [val_main_v14_eq, a0, a3, a4]; exact value_second _ _ _

end Cert.Reference22Ideal.Update

end
-- ==== Proof.Update.Rows.lean ====
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.Update.Formula
public import proofs.«01_k».proof.Proof.Blocks

/-! # The update of the down projection: seven landed parts

Point `t` of the grid works on rows `256 t …`, element by element. -/

@[expose] public section

noncomputable section

namespace Cert.Kernel23Ideal.Update

open Cert.Kernel23Ideal Cert.Kernel23Ideal.Gen Cert.Update Cert.Blocks Idealize.ShloMosaic Idealize.ShloMosaic.TcCoe Idealize.ShloMosaic.ValueIdx Idealize.SL.Sem

section Block
variable (x0 : FVec Ideal S7x256x2048 .bf16) (x1 x2 x3 : FVec Ideal S256x2048 .f32) (x4 : FVec Ideal S256x2048 .bf16) (z : S256x2048.Idx)

theorem gradient_apply : k0_pay4 (F := Ideal) x4 (View.ld x0 r0_1) (View.ld x0 r0_2) (View.ld x0 r0_3) (View.ld x0 r0_4) (View.ld x0 r0_5) (View.ld x0 r0_6) (View.ld x0 r0_7) z = gradient x0 x4 z := by
  rw [← gradient_seven]
  refine congrArg₂ (fun a b : EReal => a + b) ?_ (landed x0 6 _ _ z)
  refine congrArg₂ (fun a b : EReal => a + b) ?_ (landed x0 5 _ _ z)
  refine congrArg₂ (fun a b : EReal => a + b) ?_ (landed x0 4 _ _ z)
  refine congrArg₂ (fun a b : EReal => a + b) ?_ (landed x0 3 _ _ z)
  refine congrArg₂ (fun a b : EReal => a + b) ?_ (landed x0 2 _ _ z)
  refine congrArg₂ (fun a b : EReal => a + b) ?_ (landed x0 1 _ _ z)
  refine congrArg₂ (fun a b : EReal => a + b) ?_ (landed x0 0 _ _ z)
  rfl

theorem block5 : (out0_5 (F := Ideal) x0 x1 x2 x3 x4 : FVec Ideal S256x2048 .f32) z = gradient x0 x4 z := by
  unfold out0_5 k0_pay6
  rw [View.canon_cons_unit_zero (S := S256x2048) zero_offsets]
  simp only [View.ld_unit_zero (S := S256x2048) zero_offsets]
  exact gradient_apply x0 x4 z

theorem block6 : (out0_6 (F := Ideal) x0 x1 x2 x3 x4 : FVec Ideal S256x2048 .f32) z = change (gradient x0 x4 z) (x1 z) (x2 z) (x3 z) := by
  unfold out0_6 k0_pay6 k0_pay7
  rw [View.canon_cons_unit_zero (S := S256x2048) zero_offsets]
  simp only [View.ld_unit_zero (S := S256x2048) zero_offsets]
  exact congrArg (fun g => change g (x1 z) (x2 z) (x3 z)) (gradient_apply x0 x4 z)

theorem block7 : (out0_7 (F := Ideal) x0 x1 x2 x3 x4 : FVec Ideal S256x2048 .f32) z = first (gradient x0 x4 z) (x2 z) := by
  unfold out0_7 k0_pay6 k0_pay7
  rw [View.canon_cons_unit_zero (S := S256x2048) zero_offsets]
  simp only [View.ld_unit_zero (S := S256x2048) zero_offsets]
  exact congrArg (fun g => first g (x2 z)) (gradient_apply x0 x4 z)

theorem block8 : (out0_8 (F := Ideal) x0 x1 x2 x3 x4 : FVec Ideal S256x2048 .f32) z = second (gradient x0 x4 z) (x3 z) := by
  unfold out0_8 k0_pay6
  rw [View.canon_cons_unit_zero (S := S256x2048) zero_offsets]
  simp only [View.ld_unit_zero (S := S256x2048) zero_offsets]
  exact congrArg (fun g => second g (x3 z)) (gradient_apply x0 x4 z)

end Block

variable (m : (ℓ : Loc nD τ sig) → Buf (Elt Ideal) ℓ) (c : Dev nD)

/-- The arguments. -/
abbrev Land : Parts 7 1024 2048 .bf16 := m ((c : Thread nD τ).loc main_arg0)
abbrev Wt : FVec Ideal S1024x2048 .f32 := m ((c : Thread nD τ).loc main_arg1)
abbrev Mo : FVec Ideal S1024x2048 .f32 := m ((c : Thread nD τ).loc main_arg2)
abbrev Ve : FVec Ideal S1024x2048 .f32 := m ((c : Thread nD τ).loc main_arg3)
abbrev Own : FVec Ideal S1024x2048 .bf16 := m ((c : Thread nD τ).loc main_arg4)
abbrev Grad : S1024x2048.Idx → EReal := gradient (Land m c) (Own m c)

/-- The windows' block indices at a point. -/
theorem idx_land : ∀ t : Fin cfg0.N, win0_0.index t (0 : Fin 3) = 0 ∧ win0_0.index t (1 : Fin 3) = t.val ∧ win0_0.index t (2 : Fin 3) = 0 :=
  (by decide +kernel : ∀ t : Fin grid0.N, _)

theorem idx_facts : ∀ t : Fin cfg0.N,
    (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Where a point's block lies. -/
def at_ (t : Fin cfg0.N) (z : S256x2048.Idx) : S1024x2048.Idx := rowAt (B := 256) 4 (by decide) (Fin.cast N_0 t) z

theorem onto (y : S1024x2048.Idx) : ∃ (t : Fin cfg0.N) (z : S256x2048.Idx), at_ t z = y := by
  obtain ⟨n, z, e⟩ := rowAt_onto (B := 256) 4 (by decide) y
  exact ⟨Fin.cast N_0.symm n, z, e⟩

theorem land_block (t : Fin cfg0.N) (z : S256x2048.Idx) (k : Fin 7) :
    (iblk m c 0 t : Parts 7 256 2048 .bf16) (ix3 k (z 0) (z 1)) = Land m c (ix3 k (at_ t z 0) (at_ t z 1)) := by
  show V m c main_arg0 (((cfg0.win 0).blk t).view.emb _) = _
  exact congrArg (Land m c) (land_place (B := 256) (idx_land t) rfl rfl rfl rfl rfl rfl)

theorem weight_block (t : Fin cfg0.N) (z : S256x2048.Idx) : (iblk m c 1 t : FVec Ideal S256x2048 .f32) z = Wt m c (at_ t z) := by
  show V m c main_arg1 (((cfg0.win 1).blk t).view.emb _) = _
  exact congrArg (Wt m c) (row_place (B := 256) (idx_facts t).1 rfl rfl rfl rfl)

theorem first_block (t : Fin cfg0.N) (z : S256x2048.Idx) : (iblk m c 2 t : FVec Ideal S256x2048 .f32) z = Mo m c (at_ t z) := by
  show V m c main_arg2 (((cfg0.win 2).blk t).view.emb _) = _
  exact congrArg (Mo m c) (row_place (B := 256) (idx_facts t).2.1 rfl rfl rfl rfl)

theorem second_block (t : Fin cfg0.N) (z : S256x2048.Idx) : (iblk m c 3 t : FVec Ideal S256x2048 .f32) z = Ve m c (at_ t z) := by
  show V m c main_arg3 (((cfg0.win 3).blk t).view.emb _) = _
  exact congrArg (Ve m c) (row_place (B := 256) (idx_facts t).2.2.1 rfl rfl rfl rfl)

theorem own_block (t : Fin cfg0.N) (z : S256x2048.Idx) : (iblk m c 4 t : FVec Ideal S256x2048 .bf16) z = Own m c (at_ t z) := by
  show V m c main_arg4 (((cfg0.win 4).blk t).view.emb _) = _
  exact congrArg (Own m c) (row_place (B := 256) (idx_facts t).2.2.2.1 rfl rfl rfl rfl)

theorem grad_block (t : Fin cfg0.N) (z : S256x2048.Idx) : gradient (P := 7) (R := 256) (C := 2048) (iblk m c 0 t) (iblk m c 4 t) z = Grad m c (at_ t z) :=
  gradient_block (own_block m c t z) (land_block m c t z)

theorem emb5 (t : Fin cfg0.N) (z : S256x2048.Idx) : (((cfg0.win 5).blk t).view.emb z : S1024x2048.Idx) = at_ t z :=
  row_place (B := 256) (idx_facts t).2.2.2.2.1 rfl rfl rfl rfl

theorem final5 : (dats m 0 c).arrAt 5 cfg0.N = Grad m c := by
  refine (dats m 0 c).arrAt_eq_of_cover 5 (Grad m c) (fun t _ => ?_) (fun y => ?_)
  · rw [Cert.Kernel23Ideal.Value.flushed5]
    funext (z : S256x2048.Idx)
    refine (block5 (iblk m c 0 t) (iblk m c 1 t) (iblk m c 2 t) (iblk m c 3 t) (iblk m c 4 t) z).trans ?_
    rw [grad_block m c t z]
    exact (congrArg (Grad m c) (emb5 t z)).symm
  · obtain ⟨t, z, e⟩ := onto y
    exact ⟨t, flush0_5 t, e ▸ (emb5 t z) ▸ View.emb_mem_set _ _⟩

theorem emb6 (t : Fin cfg0.N) (z : S256x2048.Idx) : (((cfg0.win 6).blk t).view.emb z : S1024x2048.Idx) = at_ t z :=
  row_place (B := 256) (idx_facts t).2.2.2.2.2.1 rfl rfl rfl rfl

theorem final6 : (dats m 0 c).arrAt 6 cfg0.N = each3 change (Grad m c) (Wt m c) (Mo m c) (Ve m c) := by
  refine (dats m 0 c).arrAt_eq_of_cover 6 (each3 change (Grad m c) (Wt m c) (Mo m c) (Ve m c)) (fun t _ => ?_) (fun y => ?_)
  · rw [Cert.Kernel23Ideal.Value.flushed6]
    funext (z : S256x2048.Idx)
    refine (block6 (iblk m c 0 t) (iblk m c 1 t) (iblk m c 2 t) (iblk m c 3 t) (iblk m c 4 t) z).trans ?_
    rw [grad_block m c t z, weight_block m c t z, first_block m c t z, second_block m c t z]
    exact (congrArg (each3 change (Grad m c) (Wt m c) (Mo m c) (Ve m c)) (emb6 t z)).symm
  · obtain ⟨t, z, e⟩ := onto y
    exact ⟨t, flush0_6 t, e ▸ (emb6 t z) ▸ View.emb_mem_set _ _⟩

theorem emb7 (t : Fin cfg0.N) (z : S256x2048.Idx) : (((cfg0.win 7).blk t).view.emb z : S1024x2048.Idx) = at_ t z :=
  row_place (B := 256) (idx_facts t).2.2.2.2.2.2.1 rfl rfl rfl rfl

theorem final7 : (dats m 0 c).arrAt 7 cfg0.N = each1 first (Grad m c) (Mo m c) := by
  refine (dats m 0 c).arrAt_eq_of_cover 7 (each1 first (Grad m c) (Mo m c)) (fun t _ => ?_) (fun y => ?_)
  · rw [Cert.Kernel23Ideal.Value.flushed7]
    funext (z : S256x2048.Idx)
    refine (block7 (iblk m c 0 t) (iblk m c 1 t) (iblk m c 2 t) (iblk m c 3 t) (iblk m c 4 t) z).trans ?_
    rw [grad_block m c t z, first_block m c t z]
    exact (congrArg (each1 first (Grad m c) (Mo m c)) (emb7 t z)).symm
  · obtain ⟨t, z, e⟩ := onto y
    exact ⟨t, flush0_7 t, e ▸ (emb7 t z) ▸ View.emb_mem_set _ _⟩

theorem emb8 (t : Fin cfg0.N) (z : S256x2048.Idx) : (((cfg0.win 8).blk t).view.emb z : S1024x2048.Idx) = at_ t z :=
  row_place (B := 256) (idx_facts t).2.2.2.2.2.2.2 rfl rfl rfl rfl

theorem final8 : (dats m 0 c).arrAt 8 cfg0.N = each1 second (Grad m c) (Ve m c) := by
  refine (dats m 0 c).arrAt_eq_of_cover 8 (each1 second (Grad m c) (Ve m c)) (fun t _ => ?_) (fun y => ?_)
  · rw [Cert.Kernel23Ideal.Value.flushed8]
    funext (z : S256x2048.Idx)
    refine (block8 (iblk m c 0 t) (iblk m c 1 t) (iblk m c 2 t) (iblk m c 3 t) (iblk m c 4 t) z).trans ?_
    rw [grad_block m c t z, second_block m c t z]
    exact (congrArg (each1 second (Grad m c) (Ve m c)) (emb8 t z)).symm
  · obtain ⟨t, z, e⟩ := onto y
    exact ⟨t, flush0_8 t, e ▸ (emb8 t z) ▸ View.emb_mem_set _ _⟩

end Cert.Kernel23Ideal.Update

namespace Cert.Reference23Ideal.Update

open Cert.Reference23Ideal Cert.Reference23Ideal.Gen Cert.Reference23Ideal.Read Cert.Update Cert.Kernel23Ideal.Update
open Idealize.ShloMosaic Idealize.ShloMosaic.ValueIdx Idealize.SL.Sem

variable (land : Parts 7 1024 2048 .bf16) (w mo ve : FVec Ideal S1024x2048 .f32) (own : FVec Ideal S1024x2048 .bf16)

theorem value_gradient : val_main_v3 (F := Ideal) land own = gradient land own := by
  funext y
  show (own y : EReal) + val_main_v2 (F := Ideal) land y = _
  rw [val_main_v2_apply]
  refine congrArg ((own y : EReal) + ·) ((congrArg (· + _) Ideal.ofBits_zero_f32).trans ((zero_add _).trans (Finset.sum_congr (M := EReal) rfl fun k _ => ?_)))
  exact congrArg land (funext fun b => match b with
    | ⟨0, _⟩ => rfl
    | ⟨1, _⟩ => rfl
    | ⟨2, _⟩ => rfl)

theorem value_first : val_main_v8 (F := Ideal) land mo own = each1 first (gradient land own) mo := by
  rw [← value_gradient]; rfl

theorem value_second : val_main_v14 (F := Ideal) land ve own = each1 second (gradient land own) ve := by
  rw [← value_gradient]; rfl

theorem value_change : val_main_v27 (F := Ideal) land w mo ve own = each3 change (gradient land own) w mo ve := by
  rw [← value_gradient]; rfl

/-- The reference runs, leaves its arguments alone and declares no semaphore. -/
theorem frame : Cert.quiescent_Reference23Ideal := fun m ρ _ =>
  (θ_run Cert.Reference23Ideal.defs _ _).mono (fun r h => ⟨fun c => (h c).2.2.2.2, sem_eq_zero_of_no_sems (by decide) r.2⟩)
    (Cert.Reference23Ideal.Value.run (F := Ideal) m ρ)

/-- The two programs end with the same arrays. -/
theorem algebraic : Cert.algebraic_Kernel23Ideal_Reference23Ideal := by
  intro m g m' g' _ hargs
  refine ⟨fun c => Grad m c, fun c => each3 change (Grad m c) (Wt m c) (Mo m c) (Ve m c),
    fun c => each1 first (Grad m c) (Mo m c), fun c => each1 second (Grad m c) (Ve m c), ?_, ?_⟩
  · refine (θ_run Cert.Kernel23Ideal.defs _ _).mono (fun r h c => ?_) (Cert.Kernel23Ideal.Value.run_blocks (F := Ideal) m g)
    obtain ⟨e5, e6, e7, e8, k⟩ := h c
    exact ⟨e5.trans (final5 m c), e6.trans (final6 m c), e7.trans (final7 m c), e8.trans (final8 m c), k⟩
  · refine (θ_run Cert.Reference23Ideal.defs _ _).mono (fun r h c => ?_) (Cert.Reference23Ideal.Value.run (F := Ideal) m' g')
    obtain ⟨e5, e6, e7, e8, k⟩ := h c
    obtain ⟨a0, a1, a2, a3, a4⟩ := hargs c
    refine ⟨e5.trans ?_, e6.trans ?_, e7.trans ?_, e8.trans ?_, k⟩
    · rw [val_main_v3_eq, a0, a4]; exact value_gradient _ _
    · rw [val_main_v27_eq, a0, a1, a2, a3, a4]; exact value_change _ _ _ _ _
    · rw [val_main_v8_eq, a0, a2, a4]; exact value_first _ _ _
    · rw [val_main_v14_eq, a0, a3, a4]; exact value_second _ _ _

end Cert.Reference23Ideal.Update

end
-- ==== Proof.Update.Outputs.lean ====
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.Update.Rows
public import proofs.«01_k».proof.Proof.Blocks

/-! # The update of the projections of the mixer's outputs: seven landed parts

Point `t` of the grid works on rows `256 t …`, element by element. -/

@[expose] public section

noncomputable section

namespace Cert.Kernel24Ideal.Update

open Cert.Kernel24Ideal Cert.Kernel24Ideal.Gen Cert.Update Cert.Blocks Idealize.ShloMosaic Idealize.ShloMosaic.TcCoe Idealize.ShloMosaic.ValueIdx Idealize.SL.Sem

section Block
variable (x0 : FVec Ideal S7x256x2048 .bf16) (x1 x2 x3 : FVec Ideal S256x2048 .f32) (x4 : FVec Ideal S256x2048 .bf16) (z : S256x2048.Idx)

/-! A point computes what the down projection's computes. -/

theorem block5 : (out0_5 (F := Ideal) x0 x1 x2 x3 x4 : FVec Ideal S256x2048 .f32) z = gradient x0 x4 z :=
  Cert.Kernel23Ideal.Update.block5 x0 x1 x2 x3 x4 z

theorem block6 : (out0_6 (F := Ideal) x0 x1 x2 x3 x4 : FVec Ideal S256x2048 .f32) z = change (gradient x0 x4 z) (x1 z) (x2 z) (x3 z) :=
  Cert.Kernel23Ideal.Update.block6 x0 x1 x2 x3 x4 z

theorem block7 : (out0_7 (F := Ideal) x0 x1 x2 x3 x4 : FVec Ideal S256x2048 .f32) z = first (gradient x0 x4 z) (x2 z) :=
  Cert.Kernel23Ideal.Update.block7 x0 x1 x2 x3 x4 z

theorem block8 : (out0_8 (F := Ideal) x0 x1 x2 x3 x4 : FVec Ideal S256x2048 .f32) z = second (gradient x0 x4 z) (x3 z) :=
  Cert.Kernel23Ideal.Update.block8 x0 x1 x2 x3 x4 z

end Block

variable (m : (ℓ : Loc nD τ sig) → Buf (Elt Ideal) ℓ) (c : Dev nD)

/-- The arguments. -/
abbrev Land : Parts 7 256 2048 .bf16 := m ((c : Thread nD τ).loc main_arg0)
abbrev Wt : FVec Ideal S256x2048 .f32 := m ((c : Thread nD τ).loc main_arg1)
abbrev Mo : FVec Ideal S256x2048 .f32 := m ((c : Thread nD τ).loc main_arg2)
abbrev Ve : FVec Ideal S256x2048 .f32 := m ((c : Thread nD τ).loc main_arg3)
abbrev Own : FVec Ideal S256x2048 .bf16 := m ((c : Thread nD τ).loc main_arg4)
abbrev Grad : S256x2048.Idx → EReal := gradient (Land m c) (Own m c)

/-- The windows' block indices at a point. -/
theorem idx_land : ∀ t : Fin cfg0.N, win0_0.index t (0 : Fin 3) = 0 ∧ win0_0.index t (1 : Fin 3) = t.val ∧ win0_0.index t (2 : Fin 3) = 0 :=
  (by decide +kernel : ∀ t : Fin grid0.N, _)

theorem idx_facts : ∀ t : Fin cfg0.N,
    (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Where a point's block lies. -/
def at_ (t : Fin cfg0.N) (z : S256x2048.Idx) : S256x2048.Idx := rowAt (B := 256) 1 (by decide) (Fin.cast N_0 t) z

theorem onto (y : S256x2048.Idx) : ∃ (t : Fin cfg0.N) (z : S256x2048.Idx), at_ t z = y := by
  obtain ⟨n, z, e⟩ := rowAt_onto (B := 256) 1 (by decide) y
  exact ⟨Fin.cast N_0.symm n, z, e⟩

theorem land_block (t : Fin cfg0.N) (z : S256x2048.Idx) (k : Fin 7) :
    (iblk m c 0 t : Parts 7 256 2048 .bf16) (ix3 k (z 0) (z 1)) = Land m c (ix3 k (at_ t z 0) (at_ t z 1)) := by
  show V m c main_arg0 (((cfg0.win 0).blk t).view.emb _) = _
  exact congrArg (Land m c) (land_place (B := 256) (idx_land t) rfl rfl rfl rfl rfl rfl)

theorem weight_block (t : Fin cfg0.N) (z : S256x2048.Idx) : (iblk m c 1 t : FVec Ideal S256x2048 .f32) z = Wt m c (at_ t z) := by
  show V m c main_arg1 (((cfg0.win 1).blk t).view.emb _) = _
  exact congrArg (Wt m c) (row_place (B := 256) (idx_facts t).1 rfl rfl rfl rfl)

theorem first_block (t : Fin cfg0.N) (z : S256x2048.Idx) : (iblk m c 2 t : FVec Ideal S256x2048 .f32) z = Mo m c (at_ t z) := by
  show V m c main_arg2 (((cfg0.win 2).blk t).view.emb _) = _
  exact congrArg (Mo m c) (row_place (B := 256) (idx_facts t).2.1 rfl rfl rfl rfl)

theorem second_block (t : Fin cfg0.N) (z : S256x2048.Idx) : (iblk m c 3 t : FVec Ideal S256x2048 .f32) z = Ve m c (at_ t z) := by
  show V m c main_arg3 (((cfg0.win 3).blk t).view.emb _) = _
  exact congrArg (Ve m c) (row_place (B := 256) (idx_facts t).2.2.1 rfl rfl rfl rfl)

theorem own_block (t : Fin cfg0.N) (z : S256x2048.Idx) : (iblk m c 4 t : FVec Ideal S256x2048 .bf16) z = Own m c (at_ t z) := by
  show V m c main_arg4 (((cfg0.win 4).blk t).view.emb _) = _
  exact congrArg (Own m c) (row_place (B := 256) (idx_facts t).2.2.2.1 rfl rfl rfl rfl)

theorem grad_block (t : Fin cfg0.N) (z : S256x2048.Idx) : gradient (P := 7) (R := 256) (C := 2048) (iblk m c 0 t) (iblk m c 4 t) z = Grad m c (at_ t z) :=
  gradient_block (own_block m c t z) (land_block m c t z)

theorem emb5 (t : Fin cfg0.N) (z : S256x2048.Idx) : (((cfg0.win 5).blk t).view.emb z : S256x2048.Idx) = at_ t z :=
  row_place (B := 256) (idx_facts t).2.2.2.2.1 rfl rfl rfl rfl

theorem final5 : (dats m 0 c).arrAt 5 cfg0.N = Grad m c := by
  refine (dats m 0 c).arrAt_eq_of_cover 5 (Grad m c) (fun t _ => ?_) (fun y => ?_)
  · rw [Cert.Kernel24Ideal.Value.flushed5]
    funext (z : S256x2048.Idx)
    refine (block5 (iblk m c 0 t) (iblk m c 1 t) (iblk m c 2 t) (iblk m c 3 t) (iblk m c 4 t) z).trans ?_
    rw [grad_block m c t z]
    exact (congrArg (Grad m c) (emb5 t z)).symm
  · obtain ⟨t, z, e⟩ := onto y
    exact ⟨t, flush0_5 t, e ▸ (emb5 t z) ▸ View.emb_mem_set _ _⟩

theorem emb6 (t : Fin cfg0.N) (z : S256x2048.Idx) : (((cfg0.win 6).blk t).view.emb z : S256x2048.Idx) = at_ t z :=
  row_place (B := 256) (idx_facts t).2.2.2.2.2.1 rfl rfl rfl rfl

theorem final6 : (dats m 0 c).arrAt 6 cfg0.N = each3 change (Grad m c) (Wt m c) (Mo m c) (Ve m c) := by
  refine (dats m 0 c).arrAt_eq_of_cover 6 (each3 change (Grad m c) (Wt m c) (Mo m c) (Ve m c)) (fun t _ => ?_) (fun y => ?_)
  · rw [Cert.Kernel24Ideal.Value.flushed6]
    funext (z : S256x2048.Idx)
    refine (block6 (iblk m c 0 t) (iblk m c 1 t) (iblk m c 2 t) (iblk m c 3 t) (iblk m c 4 t) z).trans ?_
    rw [grad_block m c t z, weight_block m c t z, first_block m c t z, second_block m c t z]
    exact (congrArg (each3 change (Grad m c) (Wt m c) (Mo m c) (Ve m c)) (emb6 t z)).symm
  · obtain ⟨t, z, e⟩ := onto y
    exact ⟨t, flush0_6 t, e ▸ (emb6 t z) ▸ View.emb_mem_set _ _⟩

theorem emb7 (t : Fin cfg0.N) (z : S256x2048.Idx) : (((cfg0.win 7).blk t).view.emb z : S256x2048.Idx) = at_ t z :=
  row_place (B := 256) (idx_facts t).2.2.2.2.2.2.1 rfl rfl rfl rfl

theorem final7 : (dats m 0 c).arrAt 7 cfg0.N = each1 first (Grad m c) (Mo m c) := by
  refine (dats m 0 c).arrAt_eq_of_cover 7 (each1 first (Grad m c) (Mo m c)) (fun t _ => ?_) (fun y => ?_)
  · rw [Cert.Kernel24Ideal.Value.flushed7]
    funext (z : S256x2048.Idx)
    refine (block7 (iblk m c 0 t) (iblk m c 1 t) (iblk m c 2 t) (iblk m c 3 t) (iblk m c 4 t) z).trans ?_
    rw [grad_block m c t z, first_block m c t z]
    exact (congrArg (each1 first (Grad m c) (Mo m c)) (emb7 t z)).symm
  · obtain ⟨t, z, e⟩ := onto y
    exact ⟨t, flush0_7 t, e ▸ (emb7 t z) ▸ View.emb_mem_set _ _⟩

theorem emb8 (t : Fin cfg0.N) (z : S256x2048.Idx) : (((cfg0.win 8).blk t).view.emb z : S256x2048.Idx) = at_ t z :=
  row_place (B := 256) (idx_facts t).2.2.2.2.2.2.2 rfl rfl rfl rfl

theorem final8 : (dats m 0 c).arrAt 8 cfg0.N = each1 second (Grad m c) (Ve m c) := by
  refine (dats m 0 c).arrAt_eq_of_cover 8 (each1 second (Grad m c) (Ve m c)) (fun t _ => ?_) (fun y => ?_)
  · rw [Cert.Kernel24Ideal.Value.flushed8]
    funext (z : S256x2048.Idx)
    refine (block8 (iblk m c 0 t) (iblk m c 1 t) (iblk m c 2 t) (iblk m c 3 t) (iblk m c 4 t) z).trans ?_
    rw [grad_block m c t z, second_block m c t z]
    exact (congrArg (each1 second (Grad m c) (Ve m c)) (emb8 t z)).symm
  · obtain ⟨t, z, e⟩ := onto y
    exact ⟨t, flush0_8 t, e ▸ (emb8 t z) ▸ View.emb_mem_set _ _⟩

end Cert.Kernel24Ideal.Update

namespace Cert.Reference24Ideal.Update

open Cert.Reference24Ideal Cert.Reference24Ideal.Gen Cert.Reference24Ideal.Read Cert.Update Cert.Kernel24Ideal.Update
open Idealize.ShloMosaic Idealize.ShloMosaic.ValueIdx Idealize.SL.Sem

variable (land : Parts 7 256 2048 .bf16) (w mo ve : FVec Ideal S256x2048 .f32) (own : FVec Ideal S256x2048 .bf16)

theorem value_gradient : val_main_v3 (F := Ideal) land own = gradient land own := by
  funext y
  show (own y : EReal) + val_main_v2 (F := Ideal) land y = _
  rw [val_main_v2_apply]
  refine congrArg ((own y : EReal) + ·) ((congrArg (· + _) Ideal.ofBits_zero_f32).trans ((zero_add _).trans (Finset.sum_congr (M := EReal) rfl fun k _ => ?_)))
  exact congrArg land (funext fun b => match b with
    | ⟨0, _⟩ => rfl
    | ⟨1, _⟩ => rfl
    | ⟨2, _⟩ => rfl)

theorem value_first : val_main_v8 (F := Ideal) land mo own = each1 first (gradient land own) mo := by
  rw [← value_gradient]; rfl

theorem value_second : val_main_v14 (F := Ideal) land ve own = each1 second (gradient land own) ve := by
  rw [← value_gradient]; rfl

theorem value_change : val_main_v27 (F := Ideal) land w mo ve own = each3 change (gradient land own) w mo ve := by
  rw [← value_gradient]; rfl

/-- The reference runs, leaves its arguments alone and declares no semaphore. -/
theorem frame : Cert.quiescent_Reference24Ideal := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

/-- The two programs end with the same arrays. -/
theorem algebraic : Cert.algebraic_Kernel24Ideal_Reference24Ideal := by
  intro m g m' g' _ hargs
  refine ⟨fun c => Grad m c, fun c => each3 change (Grad m c) (Wt m c) (Mo m c) (Ve m c),
    fun c => each1 first (Grad m c) (Mo m c), fun c => each1 second (Grad m c) (Ve m c), ?_, ?_⟩
  · refine (θ_run Cert.Kernel24Ideal.defs _ _).mono (fun r h c => ?_) (Cert.Kernel24Ideal.Value.run_blocks (F := Ideal) m g)
    obtain ⟨e5, e6, e7, e8, k⟩ := h c
    exact ⟨e5.trans (final5 m c), e6.trans (final6 m c), e7.trans (final7 m c), e8.trans (final8 m c), k⟩
  · refine (θ_run Cert.Reference24Ideal.defs _ _).mono (fun r h c => ?_) (Cert.Reference24Ideal.Value.run (F := Ideal) m' g')
    obtain ⟨e5, e6, e7, e8, k⟩ := h c
    obtain ⟨a0, a1, a2, a3, a4⟩ := hargs c
    refine ⟨e5.trans ?_, e6.trans ?_, e7.trans ?_, e8.trans ?_, k⟩
    · rw [val_main_v3_eq, a0, a4]; exact value_gradient _ _
    · rw [val_main_v27_eq, a0, a1, a2, a3, a4]; exact value_change _ _ _ _ _
    · rw [val_main_v8_eq, a0, a2, a4]; exact value_first _ _ _
    · rw [val_main_v14_eq, a0, a3, a4]; exact value_second _ _ _

end Cert.Reference24Ideal.Update

end
-- ==== Proof.NormMix.Context.lean ====
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.NormLast.Array

/-! # The gradients of the modulated norm's lines over the context's rows

The grid has one point, which works on the 256 context rows and writes the gradients of the shift, the scale and the
gain. -/

@[expose] public section

noncomputable section

namespace Cert.Kernel25Ideal.Context

open Cert.Kernel25Ideal Cert.Kernel25Ideal.Gen Cert.Blocks Cert.Norm
open Cert.Kernel19Ideal.NormLast (shapes)
open Idealize.ShloMosaic Idealize.ShloMosaic.TcCoe Idealize.ShloMosaic.ValueIdx
open scoped BigOperators

/-! ## The formulas -/

abbrev Taller := FVec Ideal S2304x2048 .f32

/-- The incoming gradient's row for a row of the context. -/
def grad (d : Taller) (r : Fin 256) : Row := rowOf d ⟨r.val, by omega⟩

/-- The shift's, the scale's and the gain's gradients. -/
def dShift (d : Taller) : Line := fun y => ∑ r, grad d r (y 1)
def dScale (x : Block) (d : Taller) (g : Line) : Line := fun y => ∑ r, grad d r (y 1) * (hatRow (rowOf x r) (y 1) * line g (y 1))
def dGain (x : Block) (d : Taller) (sc : Line) : Line := fun y => ∑ r, gained (grad d r) sc (y 1) * hatRow (rowOf x r) (y 1)

/-! ## One block -/

section
variable (x d : Block) (g sc : Line) (s : Fin 2048)

theorem shift_apply : line (k0_pay9 (F := Ideal) d (k0_pay8 (F := Ideal))) s = ∑ r, rowOf d r s := by
  refine (add_cols shapes shapeCasts_S1x2048_S1x2048 (k0_pay8 (F := Ideal)) s d).trans ?_
  exact (congrArg (· + _) Ideal.ofBits_zero_f32).trans (zero_add _)

theorem scale_apply : line (k0_pay2 (F := Ideal) (k0_pay6 (F := Ideal) x d g) (k0_pay1 (F := Ideal))) s
    = ∑ r, rowOf d r s * (hatRow (rowOf x r) s * line g s) := by
  refine (add_cols shapes shapeCasts_S1x2048_S1x2048 (k0_pay1 (F := Ideal)) s
    (mulf d (mulf (blockHat shapes x) (broadcastTo S256x2048 g broadcasts_S1x2048_S256x2048)))).trans ?_
  refine (congrArg (· + _) Ideal.ofBits_zero_f32).trans ((zero_add _).trans (Finset.sum_congr rfl fun r _ => ?_))
  show d (ix2 r s) * (blockHat shapes x (ix2 r s) * broadcastTo S256x2048 g broadcasts_S1x2048_S256x2048 (ix2 r s)) = _
  rw [over_apply shapes, blockHat_apply]
  rfl

theorem gain_apply : line (k0_pay4 (F := Ideal) (k0_pay7 (F := Ideal) x d sc) (k0_pay3 (F := Ideal))) s
    = ∑ r, gained (rowOf d r) sc s * hatRow (rowOf x r) s := by
  refine (add_cols shapes shapeCasts_S1x2048_S1x2048 (k0_pay3 (F := Ideal)) s
    (mulf (mulf d (broadcastTo S256x2048 (addf (broadcast S1x2048 (Scalar.ofBits .f32 0x3F800000#32)) sc) broadcasts_S1x2048_S256x2048))
      (blockHat shapes x))).trans ?_
  refine (congrArg (· + _) Ideal.ofBits_zero_f32).trans ((zero_add _).trans (Finset.sum_congr rfl fun r _ => ?_))
  show d (ix2 r s) * broadcastTo S256x2048 _ broadcasts_S1x2048_S256x2048 (ix2 r s) * blockHat shapes x (ix2 r s) = _
  rw [over_apply shapes, blockHat_apply]
  rfl

end

/-! ## The buffers -/

variable (m : (ℓ : Loc nD τ sig) → Buf (Elt Ideal) ℓ) (c : Dev nD)

set_option maxHeartbeats 1000000 in
/-- The point starts the sums from zero. -/
theorem outs (t : Fin cfg0.N) : outsAt0 m c t
    = (k0_pay9 (iblk m c 1 t) (k0_pay8 (F := Ideal)),
      k0_pay2 (k0_pay6 (iblk m c 0 t) (iblk m c 1 t) (iblk m c 2 t)) (k0_pay1 (F := Ideal)),
      k0_pay4 (k0_pay7 (iblk m c 0 t) (iblk m c 1 t) (iblk m c 3 t)) (k0_pay3 (F := Ideal))) := by
  unfold outsAt0 out0_A_4 out0_A_5 out0_A_6
  rw [View.read_writes_eq_canon _ _ _ (cover0_A_4 _ _ _ _ _ _ _ _ _ _ _ _ _ _ _ _ _ _ _ _ _ _ _),
    View.read_writes_eq_canon _ _ _ (cover0_A_5 _ _ _ _ _ _ _ _ _ _ _ _ _ _ _ _ _ _ _ _ _ _ _),
    View.read_writes_eq_canon _ _ _ (cover0_A_6 _ _ _ _ _ _ _ _ _ _ _ _ _ _ _ _ _ _ _ _ _ _ _)]
  unfold kernelRun0_A
  dsimp only
  sl_unfold_words
  simp only [View.canon_cons_unit_zero (S := S1x2048) zero_offsets,
    load_after_store (S := S1x2048) _ zero_offsets, View.readAt_eq_ld, (hs0_0 t).read_unread, (hs0_1 t).read_unread,
    (hs0_2 t).read_unread, (hs0_3 t).read_unread, (hs0_4 t).read_unread, (hs0_5 t).read_unread, (hs0_6 t).read_unread,
    View.ld_unit_zero (S := S256x2048) zero_offsets, View.ld_unit_zero (S := S1x2048) zero_offsets]

/-- The arguments. -/
abbrev Xa : Block := m ((c : Thread nD τ).loc main_arg0)
abbrev Da : Taller := m ((c : Thread nD τ).loc main_arg1)
abbrev Ga : Line := m ((c : Thread nD τ).loc main_arg2)
abbrev Ca : Line := m ((c : Thread nD τ).loc main_arg3)

/-- The windows' block indices at the point. -/
theorem idx_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem x_row (t : Fin cfg0.N) (r : Fin 256) : rowOf (n := 256) (φ := .f32) (iblk m c 0 t) r = rowOf (Xa m c) r := by
  obtain ⟨⟨e0, e1⟩, _⟩ := idx_facts t
  refine funext fun k => congrArg (Xa m c) (funext fun b => Fin.ext ?_)
  match b with
  | ⟨0, _⟩ => show win0_0.index t (0 : Fin 2) * 256 + 1 * r.val = r.val; rw [e0]; omega
  | ⟨1, _⟩ => show win0_0.index t (1 : Fin 2) * 2048 + 1 * k.val = k.val; rw [e1]; omega

theorem d_row (t : Fin cfg0.N) (r : Fin 256) : rowOf (n := 256) (φ := .f32) (iblk m c 1 t) r = grad (Da m c) r := by
  obtain ⟨_, ⟨e0, e1⟩, _⟩ := idx_facts t
  refine funext fun k => congrArg (Da m c) (funext fun b => Fin.ext ?_)
  match b with
  | ⟨0, _⟩ => show win0_1.index t (0 : Fin 2) * 256 + 1 * r.val = r.val; rw [e0]; omega
  | ⟨1, _⟩ => show win0_1.index t (1 : Fin 2) * 2048 + 1 * k.val = k.val; rw [e1]; omega

theorem g_line (t : Fin cfg0.N) : (iblk m c 2 t : Line) = Ga m c :=
  funext fun y => congrArg (Ga m c) (line_place (idx_facts t).2.2.1 y)

theorem c_line (t : Fin cfg0.N) : (iblk m c 3 t : Line) = Ca m c :=
  funext fun y => congrArg (Ca m c) (line_place (idx_facts t).2.2.2.1 y)

/-! ## The arrays -/

/-- The only point. -/
def point : Fin cfg0.N := ⟨0, by rw [show cfg0.N = 1 from N_0]; omega⟩

theorem final4 : (dats m 0 c).arrAt 4 cfg0.N = dShift (Da m c) := by
  have emb : ∀ (t : Fin cfg0.N) (y : S1x2048.Idx), (((cfg0.win 4).blk t).view.emb y : S1x2048.Idx) = y := fun t y =>
    line_place (idx_facts t).2.2.2.2.1 y
  refine (dats m 0 c).arrAt_eq_of_cover 4 _ (fun t _ => ?_) (fun y => ⟨point, flush0_4 _, (congrArg (· ∈ ((cfg0.win 4).blk point).view.set) (emb point y)).mp (View.emb_mem_set _ _)⟩)
  rw [Cert.Kernel25Ideal.Value.flushed4, outs]
  funext (y : S1x2048.Idx)
  obtain ⟨s, rfl⟩ : ∃ s : Fin 2048, y = ix2 0 s := ⟨y 1, line_idx y⟩
  refine (shift_apply (iblk m c 1 t) s).trans ?_
  simp only [d_row]
  exact (congrArg (dShift (Da m c)) (emb t (ix2 0 s))).symm

theorem final5 : (dats m 0 c).arrAt 5 cfg0.N = dScale (Xa m c) (Da m c) (Ga m c) := by
  have emb : ∀ (t : Fin cfg0.N) (y : S1x2048.Idx), (((cfg0.win 5).blk t).view.emb y : S1x2048.Idx) = y := fun t y =>
    line_place (idx_facts t).2.2.2.2.2.1 y
  refine (dats m 0 c).arrAt_eq_of_cover 5 _ (fun t _ => ?_) (fun y => ⟨point, flush0_5 _, (congrArg (· ∈ ((cfg0.win 5).blk point).view.set) (emb point y)).mp (View.emb_mem_set _ _)⟩)
  rw [Cert.Kernel25Ideal.Value.flushed5, outs]
  funext (y : S1x2048.Idx)
  obtain ⟨s, rfl⟩ : ∃ s : Fin 2048, y = ix2 0 s := ⟨y 1, line_idx y⟩
  refine (scale_apply (iblk m c 0 t) (iblk m c 1 t) (iblk m c 2 t) s).trans ?_
  simp only [d_row, x_row, g_line]
  exact (congrArg (dScale (Xa m c) (Da m c) (Ga m c)) (emb t (ix2 0 s))).symm

theorem final6 : (dats m 0 c).arrAt 6 cfg0.N = dGain (Xa m c) (Da m c) (Ca m c) := by
  have emb : ∀ (t : Fin cfg0.N) (y : S1x2048.Idx), (((cfg0.win 6).blk t).view.emb y : S1x2048.Idx) = y := fun t y =>
    line_place (idx_facts t).2.2.2.2.2.2 y
  refine (dats m 0 c).arrAt_eq_of_cover 6 _ (fun t _ => ?_) (fun y => ⟨point, flush0_6 _, (congrArg (· ∈ ((cfg0.win 6).blk point).view.set) (emb point y)).mp (View.emb_mem_set _ _)⟩)
  rw [Cert.Kernel25Ideal.Value.flushed6, outs]
  funext (y : S1x2048.Idx)
  obtain ⟨s, rfl⟩ : ∃ s : Fin 2048, y = ix2 0 s := ⟨y 1, line_idx y⟩
  refine (gain_apply (iblk m c 0 t) (iblk m c 1 t) (iblk m c 3 t) s).trans ?_
  simp only [d_row, x_row, c_line]
  exact (congrArg (dGain (Xa m c) (Da m c) (Ca m c)) (emb t (ix2 0 s))).symm

end Cert.Kernel25Ideal.Context

namespace Cert.Reference25Ideal.Context

open Cert.Reference25Ideal Cert.Reference25Ideal.Gen Cert.Reference25Ideal.Read Cert.Norm Cert.Kernel25Ideal.Context
open Idealize.ShloMosaic Idealize.ShloMosaic.ValueIdx Idealize.SL.Sem
open scoped BigOperators

/-- Two places with equal coordinates. -/
theorem at2 {n0 n1 : ℕ} (y z : (⟨2, ![n0, n1]⟩ : Shape).Idx) (h0 : (y 0).val = (z 0).val) (h1 : (y 1).val = (z 1).val) : y = z :=
  funext fun a => Fin.ext (match a with
    | ⟨0, _⟩ => h0
    | ⟨1, _⟩ => h1)

variable (x : Block) (d : Taller) (g sc : Line)

/-- The mean square of a row of the context with the small constant added. -/
theorem square_apply (r : Fin 256) : val_main_v7 (F := Ideal) x (ix2 r (0 : Fin 1)) = square (rowOf x r) := by
  show Ideal.div (val_main_v3 (F := Ideal) x (ix2 r (0 : Fin 1))) (val_main_v4 (F := Ideal) (ix2 r (0 : Fin 1)))
    + val_main_v6 (F := Ideal) (ix2 r (0 : Fin 1)) = _
  rw [val_main_v3_apply, val_main_v2_apply, val_main_v4_apply, val_main_v6_apply]
  refine congrArg (fun a : EReal => Ideal.div a count + eps) ?_
  refine (congrArg (· + _) Ideal.ofBits_zero_f32).trans ((zero_add _).trans (Finset.sum_congr rfl fun k _ => ?_))
  exact congrArg (fun j => (x j : EReal) * x j) (at2 _ (ix2 r k) rfl rfl)

/-- The normalised rows of the context. -/
theorem hat_apply (r : Fin 256) (s : Fin 2048) : val_main_v10 (F := Ideal) x (ix2 r s) = hatRow (rowOf x r) s := by
  refine congrArg (fun a : EReal => x (ix2 r s) * a) ?_
  refine (val_main_v9_apply (F := Ideal) x (ix2 r s)).trans ?_
  exact congrArg Ideal.rsqrt ((congrArg (val_main_v7 (F := Ideal) x) (at2 (idx_main_v9 (ix2 r s)) (ix2 r (0 : Fin 1)) rfl rfl)).trans (square_apply x r))

theorem over_apply (r : Fin 256) (s : Fin 2048) : val_main_v11 (F := Ideal) g (ix2 r s) = line g s :=
  (val_main_v11_apply (F := Ideal) g (ix2 r s)).trans (congrArg g (at2 _ (ix2 0 s) rfl rfl))

/-- One and the scale. -/
theorem one_apply (s : Fin 2048) : line (val_main_v14 (F := Ideal) sc) s = Ideal.ofBits .f32 0x3F800000#32 + line sc s :=
  congrArg (fun b : EReal => b + line sc s) ((val_main_v13_apply (F := Ideal) (ix2 (0 : Fin 1) s)).trans rfl)

theorem grad_apply (r : Fin 256) (s : Fin 2048) : val_main_v19 (F := Ideal) d (ix2 r s) = grad d r s :=
  (val_main_v19_apply (F := Ideal) d (ix2 r s)).trans (congrArg d (at2 _ (ix2 (⟨r.val, by omega⟩ : Fin 2304) s) rfl rfl))

theorem result21 : val_main_v21 (F := Ideal) d = dShift d := by
  funext z
  obtain ⟨s, rfl⟩ : ∃ s : Fin 2048, z = ix2 0 s := ⟨z 1, line_idx z⟩
  rw [val_main_v21_apply, val_main_v20_apply]
  refine (congrArg (· + _) Ideal.ofBits_zero_f32).trans ((zero_add _).trans (Finset.sum_congr rfl fun r _ => ?_))
  exact (congrArg (val_main_v19 (F := Ideal) d) (at2 (idx_main_v20 (idx_main_v21 (ix2 0 s)) r) (ix2 r s) rfl (by show 0 * 2048 + s.val = s.val; omega))).trans (grad_apply d r s)

theorem result24 : val_main_v24 (F := Ideal) x d g = dScale x d g := by
  funext z
  obtain ⟨s, rfl⟩ : ∃ s : Fin 2048, z = ix2 0 s := ⟨z 1, line_idx z⟩
  rw [val_main_v24_apply, val_main_v23_apply]
  refine (congrArg (· + _) Ideal.ofBits_zero_f32).trans ((zero_add _).trans (Finset.sum_congr rfl fun r _ => ?_))
  refine (congrArg (val_main_v22 (F := Ideal) x d g) (at2 (idx_main_v23 (idx_main_v24 (ix2 0 s)) r) (ix2 r s) rfl (by show 0 * 2048 + s.val = s.val; omega))).trans ?_
  show (val_main_v10 (F := Ideal) x (ix2 r s) * val_main_v11 (F := Ideal) g (ix2 r s) : EReal) * val_main_v19 (F := Ideal) d (ix2 r s) = _
  rw [hat_apply, over_apply, grad_apply, mul_comm]

theorem result29 : val_main_v29 (F := Ideal) x d sc = dGain x d sc := by
  funext z
  obtain ⟨s, rfl⟩ : ∃ s : Fin 2048, z = ix2 0 s := ⟨z 1, line_idx z⟩
  rw [val_main_v29_apply, val_main_v28_apply]
  refine (congrArg (· + _) Ideal.ofBits_zero_f32).trans ((zero_add _).trans (Finset.sum_congr rfl fun r _ => ?_))
  refine (congrArg (val_main_v27 (F := Ideal) x d sc) (at2 (idx_main_v28 (idx_main_v29 (ix2 0 s)) r) (ix2 r s) rfl (by show 0 * 2048 + s.val = s.val; omega))).trans ?_
  show (val_main_v10 (F := Ideal) x (ix2 r s) : EReal) * (val_main_v19 (F := Ideal) d (ix2 r s) * val_main_v11 (F := Ideal) (val_main_v14 (F := Ideal) sc) (ix2 r s)) = _
  rw [hat_apply, over_apply, grad_apply, one_apply, mul_comm]
  rfl

/-- The reference runs, leaves its arguments alone and declares no semaphore. -/
theorem frame : Cert.quiescent_Reference25Ideal := fun m ρ _ =>
  (θ_run Cert.Reference25Ideal.defs _ _).mono (fun r h => ⟨fun c => (h c).2.2.2, sem_eq_zero_of_no_sems (by decide) r.2⟩)
    (Cert.Reference25Ideal.Value.run (F := Ideal) m ρ)

/-- The two programs end with the same arrays. -/
theorem algebraic : Cert.algebraic_Kernel25Ideal_Reference25Ideal := by
  intro m g m' g' _ hargs
  refine ⟨fun c => dShift (Da m c), fun c => dScale (Xa m c) (Da m c) (Ga m c), fun c => dGain (Xa m c) (Da m c) (Ca m c), ?_, ?_⟩
  · refine (θ_run Cert.Kernel25Ideal.defs _ _).mono (fun r h c => ?_) (Cert.Kernel25Ideal.Value.run_blocks (F := Ideal) m g)
    obtain ⟨e4, e5, e6, k⟩ := h c
    exact ⟨e4.trans (final4 m c), e5.trans (final5 m c), e6.trans (final6 m c), k⟩
  · refine (θ_run Cert.Reference25Ideal.defs _ _).mono (fun r h c => ?_) (Cert.Reference25Ideal.Value.run (F := Ideal) m' g')
    obtain ⟨e4, e5, e6, k⟩ := h c
    obtain ⟨a0, a1, a2, a3⟩ := hargs c
    refine ⟨e4.trans ?_, e5.trans ?_, e6.trans ?_, k⟩
    · refine (val_main_v21_eq _).trans ?_
      rw [a1]; exact result21 _
    · refine (val_main_v24_eq _ _ _).trans ?_
      rw [a0, a1, a2]; exact result24 _ _ _
    · refine (val_main_v29_eq _ _ _).trans ?_
      rw [a0, a1, a3]; exact result29 _ _ _

end Cert.Reference25Ideal.Context

end
-- ==== Proof.Modulation.Silu.lean ====
module

public import proofs.«01_k».proof.Proof.Product.Basic
public import proofs.«01_k».proof.Proof.GateGrad.Formula

/-! # The conditioning of the modulation

The conditioning vectors pass through `x * logistic x` before the product with the modulation's weight. -/

@[expose] public section

noncomputable section

namespace Cert.Modulation

open Cert.Product Cert.Gate Idealize.ShloMosaic Idealize.ShloMosaic.ValueIdx

variable {M N : ℕ}

/-- `x * logistic x` of every element. -/
def silu (x : Mat M N) : Mat M N := fun y => x y * logit (x y)

/-- … with the logistic function as the call writes it. -/
theorem silu_eq (x : Mat M N) : (fun y => x y * gate (x y)) = silu x := by
  funext y
  rw [gate_eq]
  rfl

/-- An index from its two coordinates. -/
theorem at2 (y : (⟨2, ![M, N]⟩ : Shape).Idx) (r : Fin M) (s : Fin N) (h0 : (y 0).val = r.val) (h1 : (y 1).val = s.val) : y = ix2 r s :=
  funext fun b => Fin.ext (match b with
    | ⟨0, _⟩ => h0
    | ⟨1, _⟩ => h1)

end Cert.Modulation

end
-- ==== Proof.Modulation.Weight.lean ====
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import proofs.«01_k».proof.Proof.Modulation.Silu
public import proofs.«01_k».proof.Proof.Blocks

/-! # The gradient of the modulation's weight

Point `t = 2 i + j` of the grid multiplies the columns `1024 i …` of the activated conditioning by the columns `768 j …`
of the incoming gradient, over the sixteen conditioning vectors. -/

@[expose] public section

noncomputable section

namespace Cert.Kernel26Ideal.Weight

open Cert.Kernel26Ideal Cert.Kernel26Ideal.Gen Cert.Product Cert.Modulation Cert.Gate Cert.Blocks Idealize.ShloMosaic Idealize.ShloMosaic.TcCoe Idealize.ShloMosaic.ValueIdx
open scoped BigOperators

/-- The gradient of the modulation's weight. -/
def value (x : Mat 16 2048) (y : Mat 16 1536) : Mat 2048 1536 := fun j => colCol (silu x) y (j 0) (j 1)

/-- What one point stores, at an element. -/
theorem block_apply (x0 : FVec Ideal S16x1024 .f32) (x1 : FVec Ideal S16x768 .f32) (r : Fin 1024) (s : Fin 768) :
    (out0_2 (F := Ideal) x0 x1 : FVec Ideal S1024x768 .f32) (ix2 r s) = colCol (silu x0) x1 r s := by
  unfold out0_2
  rw [View.canon_cons_unit_zero (S := S1024x768) zero_offsets]
  simp only [View.ld_unit_zero (S := S16x1024) zero_offsets, View.ld_unit_zero (S := S16x768) zero_offsets]
  rw [← silu_eq x0]
  unfold k0_pay1
  exact (matmul_colCol (φ₁ := .bf16) (φ₂ := .bf16) dot_S16x1024_S16x768_S1024x768_0_0_1_1_n_n rfl rfl (fun _ _ => rfl) (fun _ _ => rfl) (fun _ _ => rfl) (fun _ _ => rfl)
    (fun z => x0 z * gate (x0 z)) x1 r s)

variable (m : (ℓ : Loc nD τ sig) → Buf (Elt Ideal) ℓ) (c : Dev nD)

/-- The arguments. -/
abbrev Aa : FVec Ideal S16x2048 .f32 := m ((c : Thread nD τ).loc main_arg0)
abbrev Ba : FVec Ideal S16x1536 .f32 := m ((c : Thread nD τ).loc main_arg1)

/-- The windows' block indices at a point. -/
theorem idx_facts : ∀ t : Fin cfg0.N,
    (win0_0.index t (0 : Fin 2) = 0 ∧ win0_0.index t (1 : Fin 2) = t.val / 2)
    ∧ (win0_1.index t (0 : Fin 2) = 0 ∧ win0_1.index t (1 : Fin 2) = t.val % 2)
    ∧ (win0_2.index t (0 : Fin 2) = t.val / 2 ∧ win0_2.index t (1 : Fin 2) = t.val % 2) :=
  (by decide +kernel : ∀ t : Fin grid0.N, _)

theorem t_lt (t : Fin cfg0.N) : t.val < 4 := lt_of_lt_of_eq t.isLt (show cfg0.N = 4 from N_0)

/-- The result's row and column at a point's block. -/
def row (t : Fin cfg0.N) (r : Fin 1024) : Fin 2048 := ⟨1024 * (t.val / 2) + r.val, by have := t_lt t; omega⟩
def column (t : Fin cfg0.N) (s : Fin 768) : Fin 1536 := ⟨768 * (t.val % 2) + s.val, by have := t_lt t; omega⟩

theorem a_block (t : Fin cfg0.N) (k : Fin 16) (r : Fin 1024) :
    (iblk m c 0 t : FVec Ideal S16x1024 .f32) (ix2 k r) = Aa m c (ix2 k (row t r)) := by
  obtain ⟨⟨e0, e1⟩, _⟩ := idx_facts t
  refine congrArg (Aa m c) (at2 _ _ _ ?_ ?_)
  · show win0_0.index t (0 : Fin 2) * 16 + 1 * k.val = k.val; rw [e0]; omega
  · show win0_0.index t (1 : Fin 2) * 1024 + 1 * r.val = 1024 * (t.val / 2) + r.val; rw [e1]; omega

theorem b_block (t : Fin cfg0.N) (k : Fin 16) (s : Fin 768) :
    (iblk m c 1 t : FVec Ideal S16x768 .f32) (ix2 k s) = Ba m c (ix2 k (column t s)) := by
  obtain ⟨_, ⟨e0, e1⟩, _⟩ := idx_facts t
  refine congrArg (Ba m c) (at2 _ _ _ ?_ ?_)
  · show win0_1.index t (0 : Fin 2) * 16 + 1 * k.val = k.val; rw [e0]; omega
  · show win0_1.index t (1 : Fin 2) * 768 + 1 * s.val = 768 * (t.val % 2) + s.val; rw [e1]; omega

/-- Where a point's block lies in the result. -/
theorem place (t : Fin cfg0.N) (z : S1024x768.Idx) :
    (((cfg0.win 2).blk t).view.emb z : S2048x1536.Idx) = ix2 (row t (z 0)) (column t (z 1)) := by
  obtain ⟨_, _, e0, e1⟩ := idx_facts t
  refine at2 _ _ _ ?_ ?_
  · show win0_2.index t (0 : Fin 2) * 1024 + 1 * (z 0).val = 1024 * (t.val / 2) + (z 0).val; rw [e0]; omega
  · show win0_2.index t (1 : Fin 2) * 768 + 1 * (z 1).val = 768 * (t.val % 2) + (z 1).val; rw [e1]; omega

/-- Every element lies in some point's block. -/
theorem cover (y : S2048x1536.Idx) : ∃ t : Fin cfg0.N, (cfg0.win 2).flush t = true ∧ y ∈ ((cfg0.win 2).blk t).view.set := by
  have h0 : (y 0).val < 2048 := (y 0).isLt
  have h1 : (y 1).val < 1536 := (y 1).isLt
  have hN : cfg0.N = 4 := N_0
  let t : Fin cfg0.N := ⟨2 * ((y 0).val / 1024) + (y 1).val / 768, by omega⟩
  refine ⟨t, flush0_2 t, ?_⟩
  have e : ((cfg0.win 2).blk t).view.emb (ix2 (⟨(y 0).val % 1024, by omega⟩ : Fin 1024) (⟨(y 1).val % 768, by omega⟩ : Fin 768)) = y := by
    refine (place t _).trans (at2 y _ _ ?_ ?_).symm
    · show _ = 1024 * ((2 * ((y 0).val / 1024) + (y 1).val / 768) / 2) + (y 0).val % 1024; omega
    · show _ = 768 * ((2 * ((y 0).val / 1024) + (y 1).val / 768) % 2) + (y 1).val % 768; omega
  exact (congrArg (· ∈ ((cfg0.win 2).blk t).view.set) e).mp (View.emb_mem_set _ _)

/-- The array after the run. -/
theorem final : (dats m 0 c).arrAt 2 cfg0.N = value (Aa m c) (Ba m c) := by
  refine (dats m 0 c).arrAt_eq_of_cover 2 (value (Aa m c) (Ba m c)) (fun t _ => ?_) cover
  rw [Cert.Kernel26Ideal.Value.flushed2]
  funext (z : S1024x768.Idx)
  refine (congrArg (out0_2 (F := Ideal) (iblk m c 0 t) (iblk m c 1 t)) (eq_ix2 z)).trans ?_
  refine (block_apply (iblk m c 0 t) (iblk m c 1 t) (z 0) (z 1)).trans ?_
  refine Eq.trans ?_ (congrArg (value (Aa m c) (Ba m c)) (place t z)).symm
  exact Finset.sum_congr rfl fun k _ =>
    congrArg₂ (fun a b : EReal => a * logit a * b) (a_block m c t k (z 0)) (b_block m c t k (z 1))

end Cert.Kernel26Ideal.Weight

namespace Cert.Reference26Ideal.Weight

open Cert.Reference26Ideal Cert.Reference26Ideal.Gen Cert.Reference26Ideal.Read Cert.Product Cert.Modulation Cert.Kernel26Ideal.Weight
open Idealize.ShloMosaic Idealize.ShloMosaic.ValueIdx Idealize.SL.Sem
open scoped BigOperators

/-- What the reference computes. -/
theorem result (x : FVec Ideal S16x2048 .f32) (y : FVec Ideal S16x1536 .f32) :
    val_main_v4 (F := Ideal) x y = value x y := by
  funext j
  rw [val_main_v4_apply, val_main_v3_apply]
  refine Finset.sum_congr (M := EReal) (g := fun k => silu x (ix2 k (j 0)) * y (ix2 k (j 1))) rfl fun k _ => (mul_comm (G := EReal) _ _).trans ?_
  exact congrArg₂ (fun a b : EReal => a * b) (congrArg (silu x) (at2 _ _ _ rfl rfl)) (congrArg y (at2 _ _ _ rfl rfl))

/-- The reference runs, leaves its arguments alone and declares no semaphore. -/
theorem frame : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

/-- The two programs end with the same array. -/
theorem algebraic : Cert.algebraic_Kernel26Ideal_Reference26Ideal := by
  intro m g m' g' _ hargs
  refine ⟨fun c => value (Aa m c) (Ba m c), ?_, ?_⟩
  · refine (θ_run Cert.Kernel26Ideal.defs _ _).mono (fun r h c => ?_) (Cert.Kernel26Ideal.Value.run_blocks (F := Ideal) m g)
    obtain ⟨e, k⟩ := h c
    exact ⟨e.trans (final m c), k⟩
  · refine (θ_run Cert.Reference26Ideal.defs _ _).mono (fun r h c => ?_) (Cert.Reference26Ideal.Value.run (F := Ideal) m' g')
    obtain ⟨e, k⟩ := h c
    obtain ⟨a0, a1⟩ := hargs c
    refine ⟨e.trans ?_, k⟩
    refine (val_main_v4_eq _ _).trans ?_
    rw [a0, a1]
    exact result _ _

end Cert.Reference26Ideal.Weight

end
-- ==== Proof.Modulation.Input.lean ====
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import proofs.«01_k».proof.Proof.Modulation.Silu
public import proofs.«01_k».proof.Proof.Blocks

/-! # The gradient of the modulation's activated conditioning

Point `t` of the grid multiplies the incoming gradient by rows `1024 t …` of the modulation's weight. -/

@[expose] public section

noncomputable section

namespace Cert.Kernel27Ideal.Input

open Cert.Kernel27Ideal Cert.Kernel27Ideal.Gen Cert.Product Cert.Modulation Cert.Blocks Idealize.ShloMosaic Idealize.ShloMosaic.TcCoe Idealize.ShloMosaic.ValueIdx
open scoped BigOperators

/-- The gradient of the activated conditioning. -/
def value (x : Mat 16 1536) (y : Mat 2048 1536) : Mat 16 2048 := fun j => rowRow x y (j 0) (j 1)

/-- What one point stores, at an element. -/
theorem block_apply (x0 : FVec Ideal S16x1536 .f32) (x1 : FVec Ideal S1024x1536 .f32) (r : Fin 16) (s : Fin 1024) :
    (out0_2 (F := Ideal) x0 x1 : FVec Ideal S16x1024 .f32) (ix2 r s) = rowRow x0 x1 r s := by
  unfold out0_2
  rw [View.canon_cons_unit_zero (S := S16x1024) zero_offsets]
  simp only [View.ld_unit_zero (S := S16x1536) zero_offsets, View.ld_unit_zero (S := S1024x1536) zero_offsets]
  unfold k0_pay1
  exact (matmul_rowRow (φ₁ := .bf16) (φ₂ := .bf16) dot_S16x1536_S1024x1536_S16x1024_1_1_0_0_n_n rfl rfl (fun _ _ => rfl) (fun _ _ => rfl) (fun _ _ => rfl) (fun _ _ => rfl) x0 x1 r s)

variable (m : (ℓ : Loc nD τ sig) → Buf (Elt Ideal) ℓ) (c : Dev nD)

/-- The arguments. -/
abbrev Aa : FVec Ideal S16x1536 .f32 := m ((c : Thread nD τ).loc main_arg0)
abbrev Ba : FVec Ideal S2048x1536 .f32 := m ((c : Thread nD τ).loc main_arg1)

/-- The windows' block indices at a point. -/
theorem idx_facts : ∀ t : Fin cfg0.N,
    (win0_0.index t (0 : Fin 2) = 0 ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = t.val) :=
  (by decide +kernel : ∀ t : Fin grid0.N, _)

/-- The result's column, and the weight's row, at a point's block. -/
def column (t : Fin cfg0.N) (s : Fin 1024) : Fin 2048 :=
  ⟨1024 * t.val + s.val, by have := lt_of_lt_of_eq t.isLt (show cfg0.N = 2 from N_0); omega⟩

theorem a_block (t : Fin cfg0.N) (r : Fin 16) (k : Fin 1536) :
    (iblk m c 0 t : FVec Ideal S16x1536 .f32) (ix2 r k) = Aa m c (ix2 r k) := by
  obtain ⟨⟨e0, e1⟩, _⟩ := idx_facts t
  refine congrArg (Aa m c) (at2 _ _ _ ?_ ?_)
  · show win0_0.index t (0 : Fin 2) * 16 + 1 * r.val = r.val; rw [e0]; omega
  · show win0_0.index t (1 : Fin 2) * 1536 + 1 * k.val = k.val; rw [e1]; omega

theorem b_block (t : Fin cfg0.N) (s : Fin 1024) (k : Fin 1536) :
    (iblk m c 1 t : FVec Ideal S1024x1536 .f32) (ix2 s k) = Ba m c (ix2 (column t s) k) := by
  obtain ⟨_, ⟨e0, e1⟩, _⟩ := idx_facts t
  refine congrArg (Ba m c) (at2 _ _ _ ?_ ?_)
  · show win0_1.index t (0 : Fin 2) * 1024 + 1 * s.val = 1024 * t.val + s.val; rw [e0]; omega
  · show win0_1.index t (1 : Fin 2) * 1536 + 1 * k.val = k.val; rw [e1]; omega

/-- Where a point's block lies in the result. -/
theorem place (t : Fin cfg0.N) (z : S16x1024.Idx) : (((cfg0.win 2).blk t).view.emb z : S16x2048.Idx) = ix2 (z 0) (column t (z 1)) := by
  obtain ⟨_, _, e0, e1⟩ := idx_facts t
  refine at2 _ _ _ ?_ ?_
  · show win0_2.index t (0 : Fin 2) * 16 + 1 * (z 0).val = (z 0).val; rw [e0]; omega
  · show win0_2.index t (1 : Fin 2) * 1024 + 1 * (z 1).val = 1024 * t.val + (z 1).val; rw [e1]; omega

/-- Every element lies in some point's block. -/
theorem cover (y : S16x2048.Idx) : ∃ t : Fin cfg0.N, (cfg0.win 2).flush t = true ∧ y ∈ ((cfg0.win 2).blk t).view.set := by
  have h1 : (y 1).val < 2048 := (y 1).isLt
  have hN : cfg0.N = 2 := N_0
  let t : Fin cfg0.N := ⟨(y 1).val / 1024, by omega⟩
  refine ⟨t, flush0_2 t, ?_⟩
  have e : ((cfg0.win 2).blk t).view.emb (ix2 (y 0) (⟨(y 1).val % 1024, by omega⟩ : Fin 1024)) = y := by
    refine (place t _).trans (at2 y _ _ rfl ?_).symm
    show _ = 1024 * ((y 1).val / 1024) + (y 1).val % 1024; omega
  exact (congrArg (· ∈ ((cfg0.win 2).blk t).view.set) e).mp (View.emb_mem_set _ _)

/-- The array after the run. -/
theorem final : (dats m 0 c).arrAt 2 cfg0.N = value (Aa m c) (Ba m c) := by
  refine (dats m 0 c).arrAt_eq_of_cover 2 (value (Aa m c) (Ba m c)) (fun t _ => ?_) cover
  rw [Cert.Kernel27Ideal.Value.flushed2]
  funext (z : S16x1024.Idx)
  refine (congrArg (out0_2 (F := Ideal) (iblk m c 0 t) (iblk m c 1 t)) (eq_ix2 z)).trans ?_
  refine (block_apply (iblk m c 0 t) (iblk m c 1 t) (z 0) (z 1)).trans ?_
  refine Eq.trans ?_ (congrArg (value (Aa m c) (Ba m c)) (place t z)).symm
  exact Finset.sum_congr rfl fun k _ => congrArg₂ (fun a b : EReal => a * b) (a_block m c t (z 0) k) (b_block m c t (z 1) k)

end Cert.Kernel27Ideal.Input

namespace Cert.Reference27Ideal.Input

open Cert.Reference27Ideal Cert.Reference27Ideal.Gen Cert.Reference27Ideal.Read Cert.Product Cert.Modulation Cert.Kernel27Ideal.Input
open Idealize.ShloMosaic Idealize.ShloMosaic.ValueIdx Idealize.SL.Sem
open scoped BigOperators

/-- What the reference computes. -/
theorem result (x : FVec Ideal S16x1536 .f32) (y : FVec Ideal S2048x1536 .f32) :
    val_main_v2 (F := Ideal) x y = value x y := by
  funext j
  rw [val_main_v2_apply]
  exact Finset.sum_congr (M := EReal) rfl fun k _ =>
    congrArg₂ (fun a b : EReal => a * b) (congrArg x (at2 _ _ _ rfl rfl)) (congrArg y (at2 _ _ _ rfl rfl))

/-- The reference runs, leaves its arguments alone and declares no semaphore. -/
theorem frame : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

/-- The two programs end with the same array. -/
theorem algebraic : Cert.algebraic_Kernel27Ideal_Reference27Ideal := by
  intro m g m' g' _ hargs
  refine ⟨fun c => value (Aa m c) (Ba m c), ?_, ?_⟩
  · refine (θ_run Cert.Kernel27Ideal.defs _ _).mono (fun r h c => ?_) (Cert.Kernel27Ideal.Value.run_blocks (F := Ideal) m g)
    obtain ⟨e, k⟩ := h c
    exact ⟨e.trans (final m c), k⟩
  · refine (θ_run Cert.Reference27Ideal.defs _ _).mono (fun r h c => ?_) (Cert.Reference27Ideal.Value.run (F := Ideal) m' g')
    obtain ⟨e, k⟩ := h c
    obtain ⟨a0, a1⟩ := hargs c
    refine ⟨e.trans ?_, k⟩
    refine (val_main_v2_eq _ _).trans ?_
    rw [a0, a1]
    exact result _ _

end Cert.Reference27Ideal.Input

end
-- ==== Proof.Modulation.Forward.lean ====
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import proofs.«01_k».proof.Proof.Modulation.Silu
public import proofs.«01_k».proof.Proof.Blocks

/-! # The modulation

Point `t` of the grid multiplies the activated conditioning by columns `768 t …` of the weight and adds the bias. -/

@[expose] public section

noncomputable section

namespace Cert.Kernel28Ideal.Forward

open Cert.Kernel28Ideal Cert.Kernel28Ideal.Gen Cert.Product Cert.Modulation Cert.Gate Cert.Blocks Idealize.ShloMosaic Idealize.ShloMosaic.TcCoe Idealize.ShloMosaic.ValueIdx
open scoped BigOperators

/-- The modulation. -/
def value (x : Mat 16 2048) (y : Mat 2048 1536) (b : Mat 1 1536) : Mat 16 1536 :=
  fun j => rowCol (silu x) y (j 0) (j 1) + b (ix2 (0 : Fin 1) (j 1))

/-- What one point stores, at an element. -/
theorem block_apply (x0 : FVec Ideal S16x2048 .f32) (x1 : FVec Ideal S2048x768 .f32) (x2 : FVec Ideal S1x768 .f32) (r : Fin 16) (s : Fin 768) :
    (out0_3 (F := Ideal) x0 x1 x2 : FVec Ideal S16x768 .f32) (ix2 r s) = rowCol (silu x0) x1 r s + x2 (ix2 (0 : Fin 1) s) := by
  unfold out0_3
  rw [View.canon_cons_unit_zero (S := S16x768) zero_offsets]
  simp only [View.ld_unit_zero (S := S16x2048) zero_offsets, View.ld_unit_zero (S := S2048x768) zero_offsets, View.ld_unit_zero (S := S1x768) zero_offsets]
  rw [← silu_eq x0]
  unfold k0_pay1
  refine congrArg₂ (fun a b : EReal => a + b)
    (matmul_rowCol (φ₁ := .bf16) (φ₂ := .bf16) dot_S16x2048_S2048x768_S16x768_1_0_0_1_n_n rfl rfl (fun _ _ => rfl) (fun _ _ => rfl) (fun _ _ => rfl) (fun _ _ => rfl)
      (fun z => x0 z * gate (x0 z)) x1 r s) ?_
  exact congrArg x2 (at2 _ _ _ rfl rfl)

variable (m : (ℓ : Loc nD τ sig) → Buf (Elt Ideal) ℓ) (c : Dev nD)

/-- The arguments. -/
abbrev Aa : FVec Ideal S16x2048 .f32 := m ((c : Thread nD τ).loc main_arg0)
abbrev Ba : FVec Ideal S2048x1536 .f32 := m ((c : Thread nD τ).loc main_arg1)
abbrev Bias : FVec Ideal S1x1536 .f32 := m ((c : Thread nD τ).loc main_arg2)

/-- The windows' block indices at a point. -/
theorem idx_facts : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val) :=
  (by decide +kernel : ∀ t : Fin grid0.N, _)

/-- The result's column at a point's block. -/
def column (t : Fin cfg0.N) (s : Fin 768) : Fin 1536 :=
  ⟨768 * t.val + s.val, by have := lt_of_lt_of_eq t.isLt (show cfg0.N = 2 from N_0); omega⟩

theorem a_block (t : Fin cfg0.N) (r : Fin 16) (k : Fin 2048) :
    (iblk m c 0 t : FVec Ideal S16x2048 .f32) (ix2 r k) = Aa m c (ix2 r k) := by
  obtain ⟨⟨e0, e1⟩, _⟩ := idx_facts t
  refine congrArg (Aa m c) (at2 _ _ _ ?_ ?_)
  · show win0_0.index t (0 : Fin 2) * 16 + 1 * r.val = r.val; rw [e0]; omega
  · show win0_0.index t (1 : Fin 2) * 2048 + 1 * k.val = k.val; rw [e1]; omega

theorem b_block (t : Fin cfg0.N) (k : Fin 2048) (s : Fin 768) :
    (iblk m c 1 t : FVec Ideal S2048x768 .f32) (ix2 k s) = Ba m c (ix2 k (column t s)) := by
  obtain ⟨_, ⟨e0, e1⟩, _⟩ := idx_facts t
  refine congrArg (Ba m c) (at2 _ _ _ ?_ ?_)
  · show win0_1.index t (0 : Fin 2) * 2048 + 1 * k.val = k.val; rw [e0]; omega
  · show win0_1.index t (1 : Fin 2) * 768 + 1 * s.val = 768 * t.val + s.val; rw [e1]; omega

theorem bias_block (t : Fin cfg0.N) (s : Fin 768) :
    (iblk m c 2 t : FVec Ideal S1x768 .f32) (ix2 (0 : Fin 1) s) = Bias m c (ix2 (0 : Fin 1) (column t s)) := by
  obtain ⟨_, _, ⟨e0, e1⟩, _⟩ := idx_facts t
  refine congrArg (Bias m c) (at2 _ _ _ ?_ ?_)
  · show win0_2.index t (0 : Fin 2) * 1 + 1 * 0 = 0; rw [e0]
  · show win0_2.index t (1 : Fin 2) * 768 + 1 * s.val = 768 * t.val + s.val; rw [e1]; omega

/-- Where a point's block lies in the result. -/
theorem place (t : Fin cfg0.N) (z : S16x768.Idx) : (((cfg0.win 3).blk t).view.emb z : S16x1536.Idx) = ix2 (z 0) (column t (z 1)) := by
  obtain ⟨_, _, _, e0, e1⟩ := idx_facts t
  refine at2 _ _ _ ?_ ?_
  · show win0_3.index t (0 : Fin 2) * 16 + 1 * (z 0).val = (z 0).val; rw [e0]; omega
  · show win0_3.index t (1 : Fin 2) * 768 + 1 * (z 1).val = 768 * t.val + (z 1).val; rw [e1]; omega

/-- Every element lies in some point's block. -/
theorem cover (y : S16x1536.Idx) : ∃ t : Fin cfg0.N, (cfg0.win 3).flush t = true ∧ y ∈ ((cfg0.win 3).blk t).view.set := by
  have h1 : (y 1).val < 1536 := (y 1).isLt
  have hN : cfg0.N = 2 := N_0
  let t : Fin cfg0.N := ⟨(y 1).val / 768, by omega⟩
  refine ⟨t, flush0_3 t, ?_⟩
  have e : ((cfg0.win 3).blk t).view.emb (ix2 (y 0) (⟨(y 1).val % 768, by omega⟩ : Fin 768)) = y := by
    refine (place t _).trans (at2 y _ _ rfl ?_).symm
    show _ = 768 * ((y 1).val / 768) + (y 1).val % 768; omega
  exact (congrArg (· ∈ ((cfg0.win 3).blk t).view.set) e).mp (View.emb_mem_set _ _)

/-- The array after the run. -/
theorem final : (dats m 0 c).arrAt 3 cfg0.N = value (Aa m c) (Ba m c) (Bias m c) := by
  refine (dats m 0 c).arrAt_eq_of_cover 3 (value (Aa m c) (Ba m c) (Bias m c)) (fun t _ => ?_) cover
  rw [Cert.Kernel28Ideal.Value.flushed3]
  funext (z : S16x768.Idx)
  refine (congrArg (out0_3 (F := Ideal) (iblk m c 0 t) (iblk m c 1 t) (iblk m c 2 t)) (eq_ix2 z)).trans ?_
  refine (block_apply (iblk m c 0 t) (iblk m c 1 t) (iblk m c 2 t) (z 0) (z 1)).trans ?_
  refine Eq.trans ?_ (congrArg (value (Aa m c) (Ba m c) (Bias m c)) (place t z)).symm
  refine congrArg₂ (fun a b : EReal => a + b) (Finset.sum_congr rfl fun k _ => ?_) (bias_block m c t (z 1))
  exact congrArg₂ (fun a b : EReal => a * logit a * b) (a_block m c t (z 0) k) (b_block m c t k (z 1))

end Cert.Kernel28Ideal.Forward

namespace Cert.Reference28Ideal.Forward

open Cert.Reference28Ideal Cert.Reference28Ideal.Gen Cert.Reference28Ideal.Read Cert.Product Cert.Modulation Cert.Kernel28Ideal.Forward
open Idealize.ShloMosaic Idealize.ShloMosaic.ValueIdx Idealize.SL.Sem
open scoped BigOperators

/-- What the reference computes. -/
theorem result (x : FVec Ideal S16x2048 .f32) (y : FVec Ideal S2048x1536 .f32) (b : FVec Ideal S1x1536 .f32) :
    val_main_v3 (F := Ideal) x y b = value x y b := by
  funext j
  rw [val_main_v3_apply, val_main_v1_apply, val_main_v2_apply]
  refine congrArg₂ (fun a b : EReal => a + b) (Finset.sum_congr (M := EReal) rfl fun k _ => ?_) (congrArg b (at2 _ _ _ rfl rfl))
  exact congrArg₂ (fun a b : EReal => a * b) (congrArg (silu x) (at2 _ _ _ rfl rfl)) (congrArg y (at2 _ _ _ rfl rfl))

/-- The reference runs, leaves its arguments alone and declares no semaphore. -/
theorem frame : Cert.quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)

/-- The two programs end with the same array. -/
theorem algebraic : Cert.algebraic_Kernel28Ideal_Reference28Ideal := by
  intro m g m' g' _ hargs
  refine ⟨fun c => value (Aa m c) (Ba m c) (Bias m c), ?_, ?_⟩
  · refine (θ_run Cert.Kernel28Ideal.defs _ _).mono (fun r h c => ?_) (Cert.Kernel28Ideal.Value.run_blocks (F := Ideal) m g)
    obtain ⟨e, k⟩ := h c
    exact ⟨e.trans (final m c), k⟩
  · refine (θ_run Cert.Reference28Ideal.defs _ _).mono (fun r h c => ?_) (Cert.Reference28Ideal.Value.run (F := Ideal) m' g')
    obtain ⟨e, k⟩ := h c
    obtain ⟨a0, a1, a2⟩ := hargs c
    refine ⟨e.trans ?_, k⟩
    refine (val_main_v3_eq _ _ _).trans ?_
    rw [a0, a1, a2]
    exact result _ _ _

end Cert.Reference28Ideal.Forward

end
-- ==== Proof.Norm.Scaled.lean ====
module

public import proofs.«01_k».proof.Proof.Norm.Whole

/-! # The modulated norm

The normalised rows times the gain and the scale, and the shift added: of a row, of a block of 256 rows and of the whole
array. -/

@[expose] public section

noncomputable section

namespace Cert.Norm

open Idealize.ShloMosaic Idealize.ShloMosaic.TcCoe Idealize.ShloMosaic.ValueIdx
open scoped BigOperators

/-- The modulated norm of a row. -/
def modRow (x : Row) (g sh sc : Line) : Row := fun k =>
  hatRow x k * line g k * (Ideal.ofBits .f32 0x3F800000#32 + line sc k) + line sh k

/-- One and a scale. -/
def blockOne (sc : Line) : Line := addf (broadcast SLine (Scalar.ofBits .f32 0x3F800000#32)) sc

/-- The modulated norm of a block. -/
def blockMod (h : Shapes) (x : Block) (g sh sc : Line) : Block :=
  addf (mulf (mulf (blockHat h x) (broadcastTo SBlock g h.over)) (broadcastTo SBlock (blockOne sc) h.over)) (broadcastTo SBlock sh h.over)

theorem blockMod_apply (h : Shapes) (x : Block) (g sh sc : Line) (r : Fin 256) (s : Fin 2048) :
    blockMod h x g sh sc (ix2 r s) = modRow (rowOf x r) g sh sc s := by
  show blockHat h x (ix2 r s) * broadcastTo SBlock g h.over (ix2 r s) * broadcastTo SBlock (blockOne sc) h.over (ix2 r s)
    + broadcastTo SBlock sh h.over (ix2 r s) = _
  rw [blockHat_apply, over_apply h, over_apply h, over_apply h]
  rfl

/-- The modulated norm of the whole array; `o` is one and the scale. -/
def fullMod (h : Wholes) (x : Full) (g sh o : Line) : Full :=
  addf (mulf (mulf (fullHat h x) (overF h g)) (overF h o)) (overF h sh)

theorem fullMod_apply (h : Wholes) (x : Full) (g sh sc o : Line) (e : ∀ s, line o s = Ideal.ofBits .f32 0x3F800000#32 + line sc s)
    (r s : Fin 2048) : fullMod h x g sh o (ix2 r s) = modRow (rowOf x r) g sh sc s := by
  show (fullHat h x (ix2 r s) * overF h g (ix2 r s) * overF h o (ix2 r s) : EReal) + overF h sh (ix2 r s) = _
  rw [fullHat_apply, overF_apply, overF_apply, overF_apply, e]
  rfl

end Cert.Norm

end
-- ==== Proof.NormForward.Mixer.lean ====
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import proofs.«01_k».proof.Proof.NormLast.Result
public import proofs.«01_k».proof.Proof.NormMix.Context
public import proofs.«01_k».proof.Proof.Norm.Scaled

/-! # The modulated norm before the mixer

The grid's first point works on the 256 context rows with the context's shift and scale; each further point works on 256
rows of the stream with the stream's. -/

@[expose] public section

noncomputable section

namespace Cert.Kernel29Ideal.Mixer

open Cert.Kernel29Ideal Cert.Kernel29Ideal.Gen Cert.Blocks Cert.Norm
open Cert.Kernel19Ideal.NormLast (Stream shapes)
open Idealize.ShloMosaic Idealize.ShloMosaic.TcCoe Idealize.ShloMosaic.ValueIdx

/-! ## The formula -/

section
variable (u : Block) (x : Stream) (g csh csc sh sc : Line)

/-- A row of the result: the context's first, then the stream's. -/
def rows (i : Fin 2304) : Row :=
  if h : i.val < 256 then modRow (rowOf u ⟨i.val, h⟩) g csh csc else modRow (rowOf x ⟨i.val - 256, by omega⟩) g sh sc

/-- The modulated norm of the context and the stream. -/
def normed : FVec Ideal S2304x2048 .bf16 := fun j => rows u x g csh csc sh sc (j 0) (j 1)

theorem rows_context {i : Fin 2304} {r : Fin 256} (e : i.val = r.val) :
    rows u x g csh csc sh sc i = modRow (rowOf u r) g csh csc := by
  exact (dif_pos (by omega)).trans (congrArg (fun k => modRow (rowOf u k) g csh csc) (Fin.ext e))

theorem rows_stream {i : Fin 2304} {r : Fin 2048} (e : i.val = 256 + r.val) :
    rows u x g csh csc sh sc i = modRow (rowOf x r) g sh sc := by
  refine (dif_neg (by omega)).trans (congrArg (fun k => modRow (rowOf x k) g sh sc) (Fin.ext ?_))
  show i.val - 256 = r.val
  omega

end

/-! ## One block -/

/-- Whether a point works on the context. -/
def flag (i : grid0.Coords) : BitVec 1 := Scalar.cmpi .slt (BitVec.ofNat 32 (i 1).val) 1#32

theorem block_apply (i : grid0.Coords) (u x : Block) (g csh csc sh sc : Line) (r : Fin 256) (s : Fin 2048) :
    (out0_7 (F := Ideal) i u x g csh csc sh sc : FVec Ideal S256x2048 .bf16) (ix2 r s)
      = modRow (rowOf (n := 256) (φ := .f32) (Scalar.select (flag i) u x) r) g (Scalar.select (flag i) csh sh) (Scalar.select (flag i) csc sc) s := by
  unfold out0_7
  rw [View.canon_cons_unit_zero (S := S256x2048) zero_offsets]
  simp only [View.ld_unit_zero (S := S256x2048) zero_offsets, View.ld_unit_zero (S := S1x2048) zero_offsets]
  exact blockMod_apply shapes (Scalar.select (flag i) u x) g (Scalar.select (flag i) csh sh) (Scalar.select (flag i) csc sc) r s

/-! ## The array -/

variable (m : (ℓ : Loc nD τ sig) → Buf (Elt Ideal) ℓ) (c : Dev nD)

/-- The arguments. -/
abbrev Ua : Block := m ((c : Thread nD τ).loc main_arg0)
abbrev Xa : Stream := m ((c : Thread nD τ).loc main_arg1)
abbrev Ga : Line := m ((c : Thread nD τ).loc main_arg2)
abbrev CHa : Line := m ((c : Thread nD τ).loc main_arg3)
abbrev CSa : Line := m ((c : Thread nD τ).loc main_arg4)
abbrev Ha : Line := m ((c : Thread nD τ).loc main_arg5)
abbrev Sa : Line := m ((c : Thread nD τ).loc main_arg6)

/-- The result. -/
abbrev Ra : FVec Ideal S2304x2048 .bf16 := normed (Ua m c) (Xa m c) (Ga m c) (CHa m c) (CSa m c) (Ha m c) (Sa m c)

/-- The windows' block indices at a point. -/
theorem idx_facts : ∀ t : Fin cfg0.N,
    (win0_0.index t (0 : Fin 2) = 0 ∧ win0_0.index t (1 : Fin 2) = 0)
    ∧ (win0_1.index t (0 : Fin 2) = t.val - 1 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- The first point works on the context, the others on the stream. -/
theorem flag_facts : ∀ t : Fin cfg0.N, (t.val = 0 → flag (grid0.coords t) = 1) ∧ (t.val ≠ 0 → ¬flag (grid0.coords t) = 1) :=
  (by decide +kernel : ∀ t : Fin grid0.N, _)

theorem t_lt (t : Fin cfg0.N) : t.val < 9 := lt_of_lt_of_eq t.isLt (show cfg0.N = 9 from N_0)

theorem u_row (t : Fin cfg0.N) (r : Fin 256) : rowOf (n := 256) (φ := .f32) (iblk m c 0 t) r = rowOf (Ua m c) r := by
  obtain ⟨⟨e0, e1⟩, _⟩ := idx_facts t
  refine funext fun k => congrArg (Ua m c) (funext fun b => Fin.ext ?_)
  match b with
  | ⟨0, _⟩ => show win0_0.index t (0 : Fin 2) * 256 + 1 * r.val = r.val; rw [e0]; omega
  | ⟨1, _⟩ => show win0_0.index t (1 : Fin 2) * 2048 + 1 * k.val = k.val; rw [e1]; omega

theorem x_row (t : Fin cfg0.N) (r : Fin 256) : rowOf (n := 256) (φ := .f32) (iblk m c 1 t) r = rowOf (Xa m c) (rowAt (t.val - 1) r) :=
  funext fun k => congrArg (Xa m c) (row_place (by have := t_lt t; omega) (idx_facts t).2.1 r k)

theorem g_line (t : Fin cfg0.N) : (iblk m c 2 t : Line) = Ga m c :=
  funext fun y => congrArg (Ga m c) (line_place (idx_facts t).2.2.1 y)

theorem csh_line (t : Fin cfg0.N) : (iblk m c 3 t : Line) = CHa m c :=
  funext fun y => congrArg (CHa m c) (line_place (idx_facts t).2.2.2.1 y)

theorem csc_line (t : Fin cfg0.N) : (iblk m c 4 t : Line) = CSa m c :=
  funext fun y => congrArg (CSa m c) (line_place (idx_facts t).2.2.2.2.1 y)

theorem sh_line (t : Fin cfg0.N) : (iblk m c 5 t : Line) = Ha m c :=
  funext fun y => congrArg (Ha m c) (line_place (idx_facts t).2.2.2.2.2.1 y)

theorem sc_line (t : Fin cfg0.N) : (iblk m c 6 t : Line) = Sa m c :=
  funext fun y => congrArg (Sa m c) (line_place (idx_facts t).2.2.2.2.2.2.1 y)

/-- Row `r` of a point's block in the result. -/
def tallAt (t : Fin cfg0.N) (r : Fin 256) : Fin 2304 := ⟨256 * t.val + r.val, by have := t_lt t; omega⟩

/-- What a point writes. -/
theorem point_apply (t : Fin cfg0.N) (r : Fin 256) (s : Fin 2048) :
    (out0_7 (F := Ideal) (grid0.coords t) (iblk m c 0 t) (iblk m c 1 t) (iblk m c 2 t) (iblk m c 3 t) (iblk m c 4 t) (iblk m c 5 t) (iblk m c 6 t)
      : FVec Ideal S256x2048 .bf16) (ix2 r s) = rows (Ua m c) (Xa m c) (Ga m c) (CHa m c) (CSa m c) (Ha m c) (Sa m c) (tallAt t r) s := by
  refine (block_apply (grid0.coords t) (iblk m c 0 t) (iblk m c 1 t) (iblk m c 2 t) (iblk m c 3 t) (iblk m c 4 t) (iblk m c 5 t) (iblk m c 6 t) r s).trans ?_
  have ht := t_lt t
  by_cases h : t.val = 0
  · simp only [Scalar.select, if_pos ((flag_facts t).1 h)]
    rw [u_row, g_line, csh_line, csc_line]
    refine (congrFun (rows_context (Ua m c) (Xa m c) (Ga m c) (CHa m c) (CSa m c) (Ha m c) (Sa m c) ?_) s).symm
    show 256 * t.val + r.val = r.val
    omega
  · simp only [Scalar.select, if_neg ((flag_facts t).2 h)]
    rw [x_row, g_line, sh_line, sc_line]
    refine (congrFun (rows_stream (Ua m c) (Xa m c) (Ga m c) (CHa m c) (CSa m c) (Ha m c) (Sa m c) ?_) s).symm
    show 256 * t.val + r.val = 256 + (256 * (t.val - 1) + r.val) % 2048
    omega

theorem final7 : (dats m 0 c).arrAt 7 cfg0.N = Ra m c := by
  have emb : ∀ (t : Fin cfg0.N) (r : Fin 256) (s : Fin 2048),
      (((cfg0.win 7).blk t).view.emb (ix2 r s) : S2304x2048.Idx) = ix2 (tallAt t r) s := fun t r s => by
    obtain ⟨_, _, _, _, _, _, _, e0, e1⟩ := idx_facts t
    refine funext fun b => Fin.ext ?_
    match b with
    | ⟨0, _⟩ => show win0_7.index t (0 : Fin 2) * 256 + 1 * r.val = 256 * t.val + r.val; rw [e0]; omega
    | ⟨1, _⟩ => show win0_7.index t (1 : Fin 2) * 2048 + 1 * s.val = s.val; rw [e1]; omega
  refine (dats m 0 c).arrAt_eq_of_cover 7 _ (fun t _ => ?_) (fun y => ?_)
  · rw [Cert.Kernel29Ideal.Value.flushed7]
    funext (z : S256x2048.Idx)
    obtain ⟨r, s, rfl⟩ : ∃ (r : Fin 256) (s : Fin 2048), z = ix2 r s := ⟨z 0, z 1, eq_ix2 z⟩
    exact (point_apply m c t r s).trans (congrArg (Ra m c) (emb t r s)).symm
  · have h0 : (y 0).val < 2304 := (y 0).isLt
    let t : Fin cfg0.N := ⟨(y 0).val / 256, lt_of_lt_of_eq (by omega) (show 9 = cfg0.N from N_0.symm)⟩
    let r : Fin 256 := ⟨(y 0).val % 256, by omega⟩
    have e : tallAt t r = y 0 := Fin.ext (by show 256 * ((y 0).val / 256) + (y 0).val % 256 = (y 0).val; omega)
    have hy : (((cfg0.win 7).blk t).view.emb (ix2 r (y 1)) : S2304x2048.Idx) = y :=
      (emb t r (y 1)).trans (e ▸ (eq_ix2 y).symm)
    exact ⟨t, flush0_7 _, (congrArg (· ∈ ((cfg0.win 7).blk t).view.set) hy).mp (View.emb_mem_set _ _)⟩

end Cert.Kernel29Ideal.Mixer

namespace Cert.Reference29Ideal.Mixer

open Cert.Reference29Ideal Cert.Reference29Ideal.Gen Cert.Reference29Ideal.Read Cert.Norm Cert.Kernel29Ideal.Mixer
open Cert.Kernel19Ideal.NormLast (Stream)
open Cert.Reference19Ideal.NormLast (wholes)
open Idealize.ShloMosaic Idealize.ShloMosaic.ValueIdx Idealize.SL.Sem

variable (u : Block) (x : Stream) (g csh csc sh sc : Line)

/-- One and the stream's scale. -/
theorem one_line (s : Fin 2048) : line (val_main_v13 (F := Ideal) sc) s = Ideal.ofBits .f32 0x3F800000#32 + line sc s :=
  congrArg (fun b : EReal => b + line sc s) ((val_main_v12_apply (F := Ideal) (ix2 (0 : Fin 1) s)).trans rfl)

/-- The stream's rows. -/
theorem stream_apply (r s : Fin 2048) : val_main_v17 (F := Ideal) x g sh sc (ix2 r s) = modRow (rowOf x r) g sh sc s :=
  fullMod_apply wholes x g sh sc (val_main_v13 (F := Ideal) sc) (one_line sc) r s

/-- The context's rows. -/
theorem context_apply (r : Fin 256) (s : Fin 2048) : val_main_v35 (F := Ideal) u g csh csc (ix2 r s) = modRow (rowOf u r) g csh csc s := by
  show (Cert.Reference25Ideal.Read.val_main_v10 (F := Ideal) u (ix2 r s) * Cert.Reference25Ideal.Read.val_main_v11 (F := Ideal) g (ix2 r s)
    * Cert.Reference25Ideal.Read.val_main_v11 (F := Ideal) (Cert.Reference25Ideal.Read.val_main_v14 (F := Ideal) csc) (ix2 r s) : EReal)
    + Cert.Reference25Ideal.Read.val_main_v11 (F := Ideal) csh (ix2 r s) = _
  rw [Cert.Reference25Ideal.Context.hat_apply, Cert.Reference25Ideal.Context.over_apply, Cert.Reference25Ideal.Context.over_apply,
    Cert.Reference25Ideal.Context.over_apply, Cert.Reference25Ideal.Context.one_apply]
  rfl

theorem result37 : val_main_v37 (F := Ideal) u x g csh csc sh sc = normed u x g csh csc sh sc := by
  funext j
  obtain ⟨i, s, rfl⟩ : ∃ (i : Fin 2304) (s : Fin 2048), j = ix2 i s := ⟨j 0, j 1, eq_ix2 j⟩
  show val_main_v36 (F := Ideal) u x g csh csc sh sc (ix2 i s) = rows u x g csh csc sh sc i s
  unfold val_main_v36
  by_cases h : i.val < 256
  · rw [rows_context u x g csh csc sh sc (r := ⟨i.val, h⟩) rfl, ← context_apply]
    exact concatenate_pair_apply_left (s₁ := S256x2048) (s₂ := S2048x2048) 0 _ _ _ (ix2 i s) rfl (ix2 (⟨i.val, h⟩ : Fin 256) s) fun b => match b with
      | ⟨0, _⟩ => rfl
      | ⟨1, _⟩ => rfl
  · have hi : i.val = 256 + (i.val - 256) := by omega
    rw [rows_stream u x g csh csc sh sc (r := ⟨i.val - 256, by omega⟩) hi, ← stream_apply]
    refine concatenate_pair_apply_right (s₁ := S256x2048) (s₂ := S2048x2048) 0 _ _ _ (ix2 i s) rfl rfl
      (ix2 (⟨i.val - 256, by omega⟩ : Fin 2048) s) (fun b hb => ?_) ?_
    · match b with
      | ⟨0, _⟩ => exact absurd rfl hb
      | ⟨1, _⟩ => rfl
    · exact (Nat.add_comm _ _).trans hi.symm

/-- The reference runs, leaves its arguments alone and declares no semaphore. -/
theorem frame : Cert.quiescent_Reference29Ideal := fun m ρ _ =>
  (θ_run Cert.Reference29Ideal.defs _ _).mono (fun r h => ⟨fun c => (h c).2, sem_eq_zero_of_no_sems (by decide) r.2⟩)
    (Cert.Reference29Ideal.Value.run (F := Ideal) m ρ)

/-- The two programs end with the same array. -/
theorem algebraic : Cert.algebraic_Kernel29Ideal_Reference29Ideal := by
  intro m g m' g' _ hargs
  refine ⟨fun c => Ra m c, ?_, ?_⟩
  · refine (θ_run Cert.Kernel29Ideal.defs _ _).mono (fun r h c => ?_) (Cert.Kernel29Ideal.Value.run_blocks (F := Ideal) m g)
    obtain ⟨e, k⟩ := h c
    exact ⟨e.trans (final7 m c), k⟩
  · refine (θ_run Cert.Reference29Ideal.defs _ _).mono (fun r h c => ?_) (Cert.Reference29Ideal.Value.run (F := Ideal) m' g')
    obtain ⟨e, k⟩ := h c
    obtain ⟨a0, a1, a2, a3, a4, a5, a6⟩ := hargs c
    refine ⟨e.trans ?_, k⟩
    refine (val_main_v37_eq _ _ _ _ _ _ _).trans ?_
    rw [a0, a1, a2, a3, a4, a5, a6]
    exact result37 _ _ _ _ _ _ _

end Cert.Reference29Ideal.Mixer

end
-- ==== Proof.NormForward.Residual.lean ====
module

public import proofs.«01_k».proof.Defs
public import proofs.«01_k».proof.Proof.Gen.Kernel30Ideal.Value
public import proofs.«01_k».proof.Proof.Gen.Reference30Ideal.Run
public import proofs.«01_k».proof.Proof.Gen.Reference30Ideal.Read
public import proofs.«01_k».proof.Proof.NormLast.Result
public import proofs.«01_k».proof.Proof.Norm.Scaled

/-! # The first residual and the modulated norm before the MLP

Point `t` of the grid works on rows `256 t …`: it writes the block of the stream with the mixer's contribution and the
block of its modulated norm. -/

@[expose] public section

noncomputable section

namespace Cert.Kernel30Ideal.Residual

open Cert.Kernel30Ideal Cert.Kernel30Ideal.Gen Cert.Blocks Cert.Norm
open Cert.Kernel19Ideal.NormLast (Stream outRow shapes)
open Idealize.ShloMosaic Idealize.ShloMosaic.TcCoe Idealize.ShloMosaic.ValueIdx

/-! ## The formulas -/

/-- The stream with the mixer's contribution. -/
def stream (x y : Stream) (a : Line) : Stream := fun j => outRow (rowOf x (j 0)) (rowOf y (j 0)) a (j 1)

/-- Its modulated norm. -/
def normed (x y : Stream) (a g sh sc : Line) : FVec Ideal S2048x2048 .bf16 := fun j =>
  modRow (outRow (rowOf x (j 0)) (rowOf y (j 0)) a) g sh sc (j 1)

/-! ## One block -/

section
variable (x y : Block) (a g sh sc : Line) (r : Fin 256) (s : Fin 2048)

theorem out_row : rowOf (n := 256) (φ := .f32) (k0_pay1 (F := Ideal) x y a) r = outRow (rowOf x r) (rowOf y r) a :=
  Cert.Kernel19Ideal.NormLast.out_row x y a r

theorem stream_apply : (out0_6 (F := Ideal) x y a g sh sc : Block) (ix2 r s) = outRow (rowOf x r) (rowOf y r) a s := by
  unfold out0_6
  rw [View.canon_cons_unit_zero (S := S256x2048) zero_offsets]
  simp only [View.ld_unit_zero (S := S256x2048) zero_offsets, View.ld_unit_zero (S := S1x2048) zero_offsets]
  exact congrFun (out_row x y a r) s

theorem normed_apply : (out0_7 (F := Ideal) x y a g sh sc : FVec Ideal S256x2048 .bf16) (ix2 r s)
    = modRow (outRow (rowOf x r) (rowOf y r) a) g sh sc s := by
  unfold out0_7
  rw [View.canon_cons_unit_zero (S := S256x2048) zero_offsets]
  simp only [View.ld_unit_zero (S := S256x2048) zero_offsets, View.ld_unit_zero (S := S1x2048) zero_offsets]
  exact (blockMod_apply shapes (k0_pay1 (F := Ideal) x y a) g sh sc r s).trans (congrArg (modRow · g sh sc s) (out_row x y a r))

end

/-! ## The arrays -/

variable (m : (ℓ : Loc nD τ sig) → Buf (Elt Ideal) ℓ) (c : Dev nD)

/-- The arguments. -/
abbrev Xa : Stream := m ((c : Thread nD τ).loc main_arg0)
abbrev Ya : Stream := m ((c : Thread nD τ).loc main_arg1)
abbrev Aa : Line := m ((c : Thread nD τ).loc main_arg2)
abbrev Ga : Line := m ((c : Thread nD τ).loc main_arg3)
abbrev Ha : Line := m ((c : Thread nD τ).loc main_arg4)
abbrev Ca : Line := m ((c : Thread nD τ).loc main_arg5)

/-- The windows' block indices at a point. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem t_lt (t : Fin cfg0.N) : t.val < 8 := lt_of_lt_of_eq t.isLt (show cfg0.N = 8 from N_0)

theorem x_row (t : Fin cfg0.N) (r : Fin 256) : rowOf (n := 256) (φ := .f32) (iblk m c 0 t) r = rowOf (Xa m c) (rowAt t.val r) :=
  funext fun k => congrArg (Xa m c) (row_place (t_lt t) (idx_facts t).1 r k)

theorem y_row (t : Fin cfg0.N) (r : Fin 256) : rowOf (n := 256) (φ := .f32) (iblk m c 1 t) r = rowOf (Ya m c) (rowAt t.val r) :=
  funext fun k => congrArg (Ya m c) (row_place (t_lt t) (idx_facts t).2.1 r k)

theorem a_line (t : Fin cfg0.N) : (iblk m c 2 t : Line) = Aa m c :=
  funext fun y => congrArg (Aa m c) (line_place (idx_facts t).2.2.1 y)

theorem g_line (t : Fin cfg0.N) : (iblk m c 3 t : Line) = Ga m c :=
  funext fun y => congrArg (Ga m c) (line_place (idx_facts t).2.2.2.1 y)

theorem sh_line (t : Fin cfg0.N) : (iblk m c 4 t : Line) = Ha m c :=
  funext fun y => congrArg (Ha m c) (line_place (idx_facts t).2.2.2.2.1 y)

theorem sc_line (t : Fin cfg0.N) : (iblk m c 5 t : Line) = Ca m c :=
  funext fun y => congrArg (Ca m c) (line_place (idx_facts t).2.2.2.2.2.1 y)

/-- A row's point and its place in the point's block. -/
theorem point_of (i : Fin 2048) : ∃ (t : Fin cfg0.N) (r : Fin 256), rowAt t.val r = i := by
  obtain ⟨k, r, e⟩ := row_onto i
  exact ⟨⟨k.val, lt_of_lt_of_eq k.isLt (show 8 = cfg0.N from N_0.symm)⟩, r, e⟩

theorem final6 : (dats m 0 c).arrAt 6 cfg0.N = stream (Xa m c) (Ya m c) (Aa m c) := by
  have emb : ∀ (t : Fin cfg0.N) (r : Fin 256) (s : Fin 2048),
      (((cfg0.win 6).blk t).view.emb (ix2 r s) : S2048x2048.Idx) = ix2 (rowAt t.val r) s := fun t r s =>
    row_place (t_lt t) (idx_facts t).2.2.2.2.2.2.1 r s
  refine (dats m 0 c).arrAt_eq_of_cover 6 _ (fun t _ => ?_) (fun y => ?_)
  · rw [Cert.Kernel30Ideal.Value.flushed6]
    funext (z : S256x2048.Idx)
    obtain ⟨r, s, rfl⟩ : ∃ (r : Fin 256) (s : Fin 2048), z = ix2 r s := ⟨z 0, z 1, eq_ix2 z⟩
    refine (stream_apply _ _ _ _ _ _ r s).trans ?_
    rw [x_row, y_row, a_line]
    exact (congrArg (stream (Xa m c) (Ya m c) (Aa m c)) (emb t r s)).symm
  · obtain ⟨t, r, e⟩ := point_of (y 0)
    have hy : (((cfg0.win 6).blk t).view.emb (ix2 r (y 1)) : S2048x2048.Idx) = y :=
      (emb t r (y 1)).trans (e ▸ (eq_ix2 y).symm)
    exact ⟨t, flush0_6 _, (congrArg (· ∈ ((cfg0.win 6).blk t).view.set) hy).mp (View.emb_mem_set _ _)⟩

theorem final7 : (dats m 0 c).arrAt 7 cfg0.N = normed (Xa m c) (Ya m c) (Aa m c) (Ga m c) (Ha m c) (Ca m c) := by
  have emb : ∀ (t : Fin cfg0.N) (r : Fin 256) (s : Fin 2048),
      (((cfg0.win 7).blk t).view.emb (ix2 r s) : S2048x2048.Idx) = ix2 (rowAt t.val r) s := fun t r s =>
    row_place (t_lt t) (idx_facts t).2.2.2.2.2.2.2 r s
  refine (dats m 0 c).arrAt_eq_of_cover 7 _ (fun t _ => ?_) (fun y => ?_)
  · rw [Cert.Kernel30Ideal.Value.flushed7]
    funext (z : S256x2048.Idx)
    obtain ⟨r, s, rfl⟩ : ∃ (r : Fin 256) (s : Fin 2048), z = ix2 r s := ⟨z 0, z 1, eq_ix2 z⟩
    refine (normed_apply _ _ _ _ _ _ r s).trans ?_
    rw [x_row, y_row, a_line, g_line, sh_line, sc_line]
    exact (congrArg (normed (Xa m c) (Ya m c) (Aa m c) (Ga m c) (Ha m c) (Ca m c)) (emb t r s)).symm
  · obtain ⟨t, r, e⟩ := point_of (y 0)
    have hy : (((cfg0.win 7).blk t).view.emb (ix2 r (y 1)) : S2048x2048.Idx) = y :=
      (emb t r (y 1)).trans (e ▸ (eq_ix2 y).symm)
    exact ⟨t, flush0_7 _, (congrArg (· ∈ ((cfg0.win 7).blk t).view.set) hy).mp (View.emb_mem_set _ _)⟩

end Cert.Kernel30Ideal.Residual

namespace Cert.Reference30Ideal.Residual

open Cert.Reference30Ideal Cert.Reference30Ideal.Gen Cert.Reference30Ideal.Read Cert.Norm Cert.Kernel30Ideal.Residual
open Cert.Kernel19Ideal.NormLast (Stream outRow)
open Cert.Reference19Ideal.NormLast (wholes)
open Idealize.ShloMosaic Idealize.ShloMosaic.ValueIdx Idealize.SL.Sem

variable (x y : Stream) (a g sh sc : Line)

theorem out_row (r : Fin 2048) : rowOf (n := 2048) (φ := .f32) (val_main_v2 (F := Ideal) x y a) r = outRow (rowOf x r) (rowOf y r) a :=
  Cert.Reference19Ideal.NormLast.out_row x y a r

theorem result2 : val_main_v2 (F := Ideal) x y a = stream x y a := by
  funext j
  obtain ⟨r, s, rfl⟩ : ∃ r s : Fin 2048, j = ix2 r s := ⟨j 0, j 1, eq_ix2 j⟩
  exact congrFun (out_row x y a r) s

/-- One and the scale. -/
theorem one_line (s : Fin 2048) : line (val_main_v16 (F := Ideal) sc) s = Ideal.ofBits .f32 0x3F800000#32 + line sc s := by
  refine congrArg (fun b : EReal => b + line sc s) ?_
  exact (val_main_v15_apply (F := Ideal) (ix2 (0 : Fin 1) s)).trans rfl

theorem result21 : val_main_v21 (F := Ideal) x y a g sh sc = normed x y a g sh sc := by
  funext j
  obtain ⟨r, s, rfl⟩ : ∃ r s : Fin 2048, j = ix2 r s := ⟨j 0, j 1, eq_ix2 j⟩
  exact (fullMod_apply wholes (val_main_v2 (F := Ideal) x y a) g sh sc (val_main_v16 (F := Ideal) sc) (one_line sc) r s).trans
    (congrArg (modRow · g sh sc s) (out_row x y a r))

/-- The reference runs, leaves its arguments alone and declares no semaphore. -/
theorem frame : Cert.quiescent_Reference30Ideal := fun m ρ _ =>
  (θ_run Cert.Reference30Ideal.defs _ _).mono (fun r h => ⟨fun c => (h c).2.2, sem_eq_zero_of_no_sems (by decide) r.2⟩)
    (Cert.Reference30Ideal.Value.run (F := Ideal) m ρ)

/-- The two programs end with the same arrays. -/
theorem algebraic : Cert.algebraic_Kernel30Ideal_Reference30Ideal := by
  intro m g m' g' _ hargs
  refine ⟨fun c => stream (Xa m c) (Ya m c) (Aa m c), fun c => normed (Xa m c) (Ya m c) (Aa m c) (Ga m c) (Ha m c) (Ca m c), ?_, ?_⟩
  · refine (θ_run Cert.Kernel30Ideal.defs _ _).mono (fun r h c => ?_) (Cert.Kernel30Ideal.Value.run_blocks (F := Ideal) m g)
    obtain ⟨e6, e7, k⟩ := h c
    exact ⟨e6.trans (final6 m c), e7.trans (final7 m c), k⟩
  · refine (θ_run Cert.Reference30Ideal.defs _ _).mono (fun r h c => ?_) (Cert.Reference30Ideal.Value.run (F := Ideal) m' g')
    obtain ⟨e6, e7, k⟩ := h c
    obtain ⟨a0, a1, a2, a3, a4, a5⟩ := hargs c
    refine ⟨e6.trans ?_, e7.trans ?_, k⟩
    · refine (val_main_v2_eq _ _ _).trans ?_
      rw [a0, a1, a2]; exact result2 _ _ _
    · refine (val_main_v21_eq _ _ _ _ _ _).trans ?_
      rw [a0, a1, a2, a3, a4, a5]; exact result21 _ _ _ _ _ _

end Cert.Reference30Ideal.Residual

end
-- ==== Proof.GateGrad.Forward.lean ====
module

public import proofs.«01_k».proof.Defs
public import proofs.«01_k».proof.Proof.Gen.Kernel31Ideal.Value
public import proofs.«01_k».proof.Proof.Gen.Reference31Ideal.Run
public import proofs.«01_k».proof.Proof.Gen.Reference31Ideal.Read
public import proofs.«01_k».proof.Proof.GateGrad.Formula

/-! # The gated merge of the two branches

Each branch is multiplied by the logistic function of its columns of the projection, on the latent tokens. -/

@[expose] public section

noncomputable section

namespace Cert.Reference31Ideal.Gate

open Cert.Reference31Ideal Cert.Reference31Ideal.Gen Cert.Reference31Ideal.Read Cert.Gate
open Idealize.ShloMosaic Idealize.ShloMosaic.ValueIdx Idealize.SL.Sem
open Cert.Kernel31Ideal.Value (inIdx4_2 inIdx4_3)

variable (ya yr : FVec Ideal S2048x2048 .f32) (p : FVec Ideal S2304x11264 .f32)

/-- The merged branches. -/
def merged : FVec Ideal S2048x2048 .bf16 := fun j => (logit (p (inIdx4_2 j)) * ya j + logit (p (inIdx4_3 j)) * yr j : EReal)

theorem kernel_merged : (Cert.Kernel31Ideal.Value.G4 (F := Ideal) ya yr p p : FVec Ideal S2048x2048 .bf16) = merged ya yr p := by
  funext j
  show (gate (p (inIdx4_2 j)) * ya j + gate (p (inIdx4_3 j)) * yr j : EReal) = _
  rw [gate_eq, gate_eq]
  rfl

theorem attn_logits (j : S2048x2048.Idx) : val_main_v1 (F := Ideal) p j = p (inIdx4_2 j) := by
  rw [val_main_v1_apply, val_main_v0_apply]
  exact congrArg p (funext fun b => Fin.ext (match b with
    | ⟨0, _⟩ => Nat.add_comm 256 (j 0).val
    | ⟨1, _⟩ => Nat.add_comm 7168 (j 1).val))

theorem rnn_logits (j : S2048x2048.Idx) : val_main_v2 (F := Ideal) p j = p (inIdx4_3 j) := by
  rw [val_main_v2_apply, val_main_v0_apply]
  exact congrArg p (funext fun b => Fin.ext (match b with
    | ⟨0, _⟩ => Nat.add_comm 256 (j 0).val
    | ⟨1, _⟩ => (Nat.add_assoc 7168 2048 (j 1).val).symm.trans (Nat.add_comm 9216 (j 1).val)))

theorem value_merged : val_main_v18 (F := Ideal) ya yr p = merged ya yr p := by
  funext j
  show (logit (val_main_v1 (F := Ideal) p j) * ya j + logit (val_main_v2 (F := Ideal) p j) * yr j : EReal) = _
  rw [attn_logits, rnn_logits]
  rfl

/-- The reference runs, leaves its arguments alone and declares no semaphore. -/
theorem frame : Cert.quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)

/-- The two programs end with the same array. -/
theorem algebraic : Cert.algebraic_Kernel31Ideal_Reference31Ideal := by
  intro m g m' g' _ hargs
  refine ⟨_, Cert.Kernel31Ideal.Value.run (F := Ideal) m g, ?_⟩
  refine (θ_run Cert.Reference31Ideal.defs _ _).mono (fun r h c => ?_) (Cert.Reference31Ideal.Value.run (F := Ideal) m' g')
  obtain ⟨e, k⟩ := h c
  obtain ⟨a0, a1, a2⟩ := hargs c
  refine ⟨e.trans ?_, k⟩
  rw [val_main_v18_eq, a0, a1, a2, value_merged]; exact (kernel_merged _ _ _).symm

end Cert.Reference31Ideal.Gate

end
-- ==== Proof.Update.Gathered.lean ====
module

public import proofs.«01_k».proof.Proof.Update.Formula

/-! # The sum of every device's part

A packed weight's gradient is the sum of the parts gathered from the eight devices. The gates' is first summed from the
device's own part and the seven landed. -/

@[expose] public section

noncomputable section

namespace Cert.Update

open Idealize.ShloMosaic Idealize.ShloMosaic.ValueIdx
open scoped BigOperators

variable {P R C : ℕ}

/-- The sum of the gathered parts. -/
def gathered (x : Parts P R C .f32) : FVec Ideal ⟨2, ![R, C]⟩ .f32 := fun y => ∑ k : Fin P, (x (ix3 k (y 0) (y 1)) : EReal)

section Loads
variable (x : Parts P R C .f32)
  (inb : ∀ (k : Fin P) a, (![k.val, 0, 0] : Fin 3 → Nat) a + (⟨3, ![1, R, C]⟩ : Shape).size a ≤ (⟨3, ![P, R, C]⟩ : Shape).size a)
  (h : (⟨3, ![1, R, C]⟩ : Shape).ShapeCasts ⟨2, ![R, C]⟩) (y : (⟨2, ![R, C]⟩ : Shape).Idx)

/-- One gathered part at an element, as the kernel loads it. -/
def loaded (k : Fin P) : EReal :=
  shapeCast ⟨2, ![R, C]⟩ (View.ld (Val := Elt Ideal) (e' := .f32) x (Rect.unit (s := ⟨3, ![P, R, C]⟩) ![k.val, 0, 0] (⟨3, ![1, R, C]⟩ : Shape).size (inb k)) : FVec Ideal ⟨3, ![1, R, C]⟩ .f32) h y

theorem sum_loaded : ∑ k : Fin P, loaded x inb h y k = gathered x y :=
  Finset.sum_congr rfl fun k _ => (part_apply _ h y).trans (ld_part (φ := .f32) x k (inb k) (y 0) (y 1))

end Loads

/-- Eight parts, added one after the other. -/
theorem gathered_eight (x : Parts 8 R C .f32) (inb) (h) (y : (⟨2, ![R, C]⟩ : Shape).Idx) :
    loaded x inb h y 0 + loaded x inb h y 1 + loaded x inb h y 2 + loaded x inb h y 3 + loaded x inb h y 4 + loaded x inb h y 5 + loaded x inb h y 6 + loaded x inb h y 7
      = gathered x y := by
  rw [← sum_loaded x inb h y, Fin.sum_univ_eight]

/-- The device's own part and seven others, added one after the other. -/
theorem own_and_seven (own : EReal) (x : Parts 7 R C .f32) (inb) (h) (y : (⟨2, ![R, C]⟩ : Shape).Idx) :
    own + loaded x inb h y 0 + loaded x inb h y 1 + loaded x inb h y 2 + loaded x inb h y 3 + loaded x inb h y 4 + loaded x inb h y 5 + loaded x inb h y 6
      = own + gathered x y := by
  rw [← sum_loaded x inb h y, Fin.sum_univ_seven]
  simp only [add_assoc]

/-- A reference's sum over the parts. -/
theorem sum_parts (x : Parts P R C .f32) (i : Fin P → (⟨3, ![P, R, C]⟩ : Shape).Idx) (y : (⟨2, ![R, C]⟩ : Shape).Idx)
    (hi : ∀ k, i k = ix3 k (y 0) (y 1)) : Ideal.ofBits .f32 0x00000000#32 + ∑ k : Fin P, (x (i k) : EReal) = gathered x y := by
  rw [Ideal.ofBits_zero_f32, zero_add]
  exact Finset.sum_congr rfl fun k _ => congrArg x (hi k)

end Cert.Update

end
-- ==== Proof.Update.Packed.lean ====
module

public import proofs.«01_k».proof.Defs
public import proofs.«01_k».proof.Proof.Gen.Kernel32Ideal.Value
public import proofs.«01_k».proof.Proof.Gen.Reference32Ideal.Run
public import proofs.«01_k».proof.Proof.Gen.Reference32Ideal.Read
public import proofs.«01_k».proof.Proof.Update.Gathered

/-! # The update of the packed small weights that every device holds whole: eight gathered parts -/

@[expose] public section

noncomputable section

namespace Cert.Kernel32Ideal.Update

open Cert.Kernel32Ideal Cert.Kernel32Ideal.Gen Cert.Kernel32Ideal.Value Cert.Update Idealize.ShloMosaic Idealize.ShloMosaic.ValueIdx

variable (x : FVec Ideal S8x192x128 .f32) (w mo ve : FVec Ideal S192x128 .f32)

theorem kernel_gradient : (G4 (F := Ideal) x w mo ve : FVec Ideal S192x128 .f32) = gathered x := by
  funext y
  exact gathered_eight x (by decide) shapeCasts_S1x192x128_S192x128 y

theorem kernel_first : (G6 (F := Ideal) x w mo ve : FVec Ideal S192x128 .f32) = each1 first (gathered x) mo := by
  rw [← kernel_gradient x w mo ve]
  have e : View.ld (Val := Elt Ideal) (e' := .f32) mo r0_8 = mo := View.ld_unit_zero (S := S192x128) (e := .f32) (Val := Elt Ideal) hz2 inb_S192x128_S192x128_0_0 mo
  exact (congrArg (k0_pay4 (F := Ideal) _ _ _ _ _ _ _ _) e).trans rfl

theorem kernel_second : (G7 (F := Ideal) x w mo ve : FVec Ideal S192x128 .f32) = each1 second (gathered x) ve := by
  rw [← kernel_gradient x w mo ve]; rfl

theorem kernel_change : (G5 (F := Ideal) x w mo ve : FVec Ideal S192x128 .f32) = each3 change (gathered x) w mo ve := by
  exact (congrArg₂ (fun p q => k0_pay2 (F := Ideal) p q ve w) (kernel_gradient x w mo ve) (kernel_first x w mo ve)).trans rfl

end Cert.Kernel32Ideal.Update

namespace Cert.Reference32Ideal.Update

open Cert.Reference32Ideal Cert.Reference32Ideal.Gen Cert.Reference32Ideal.Read Cert.Update Cert.Kernel32Ideal.Update
open Idealize.ShloMosaic Idealize.ShloMosaic.ValueIdx Idealize.SL.Sem

variable (x : FVec Ideal S8x192x128 .f32) (w mo ve : FVec Ideal S192x128 .f32)

theorem value_gradient : val_main_v0 (F := Ideal) x = gathered x := by
  funext y
  rw [val_main_v0_apply]
  exact sum_parts x _ y fun k => funext fun b => match b with
    | ⟨0, _⟩ => rfl
    | ⟨1, _⟩ => rfl
    | ⟨2, _⟩ => rfl

theorem value_first : val_main_v5 (F := Ideal) x mo = each1 first (gathered x) mo := by
  rw [← value_gradient]; rfl

theorem value_second : val_main_v11 (F := Ideal) x ve = each1 second (gathered x) ve := by
  rw [← value_gradient]; rfl

theorem value_change : val_main_v24 (F := Ideal) x w mo ve = each3 change (gathered x) w mo ve := by
  rw [← value_gradient]; rfl

/-- The reference runs, leaves its arguments alone and declares no semaphore. -/
theorem frame : Cert.quiescent_Reference32Ideal := fun m ρ _ =>
  (θ_run Cert.Reference32Ideal.defs _ _).mono (fun r h => ⟨fun c => (h c).2.2.2.2, sem_eq_zero_of_no_sems (by decide) r.2⟩)
    (Cert.Reference32Ideal.Value.run (F := Ideal) m ρ)

/-- The two programs end with the same arrays. -/
theorem algebraic : Cert.algebraic_Kernel32Ideal_Reference32Ideal := by
  intro m g m' g' _ hargs
  refine ⟨_, _, _, _, Cert.Kernel32Ideal.Value.run (F := Ideal) m g, ?_⟩
  refine (θ_run Cert.Reference32Ideal.defs _ _).mono (fun r h c => ?_) (Cert.Reference32Ideal.Value.run (F := Ideal) m' g')
  obtain ⟨e4, e5, e6, e7, k⟩ := h c
  obtain ⟨a0, a1, a2, a3⟩ := hargs c
  refine ⟨e4.trans ?_, e5.trans ?_, e6.trans ?_, e7.trans ?_, k⟩
  · rw [val_main_v0_eq, a0, value_gradient]; exact (kernel_gradient _ _ _ _).symm
  · rw [val_main_v24_eq, a0, a1, a2, a3, value_change]; exact (kernel_change _ _ _ _).symm
  · rw [val_main_v5_eq, a0, a2, value_first]; exact (kernel_first _ _ _ _).symm
  · rw [val_main_v11_eq, a0, a3, value_second]; exact (kernel_second _ _ _ _).symm

end Cert.Reference32Ideal.Update

end
-- ==== Proof.Update.Gates.lean ====
module

public import proofs.«01_k».proof.Defs
public import proofs.«01_k».proof.Proof.Gen.Kernel33Ideal.Value
public import proofs.«01_k».proof.Proof.Gen.Reference33Ideal.Run
public import proofs.«01_k».proof.Proof.Gen.Reference33Ideal.Read
public import proofs.«01_k».proof.Proof.Update.Formula
public import proofs.«01_k».proof.Proof.Blocks

/-! # The update of the packed weights of the recurrence's gates: the gradient is given whole

Point `t` of the grid works on rows `4096 t …`, element by element. -/

@[expose] public section

noncomputable section

namespace Cert.Kernel33Ideal.Update

open Cert.Kernel33Ideal Cert.Kernel33Ideal.Gen Cert.Update Cert.Blocks Idealize.ShloMosaic Idealize.ShloMosaic.TcCoe Idealize.ShloMosaic.ValueIdx Idealize.SL.Sem

theorem zero_offsets3 : (![0, 0, 0] : Fin 3 → Nat) = fun _ => 0 := by
  funext a
  match a with
  | ⟨0, _⟩ => rfl
  | ⟨1, _⟩ => rfl
  | ⟨2, _⟩ => rfl

section Block
variable (x0 : FVec Ideal S1x4096x128 .f32) (x1 x2 x3 : FVec Ideal S4096x128 .f32) (z : S4096x128.Idx)

/-- What one point stores in each of the four results. -/
theorem block4 : (out0_4 (F := Ideal) x0 x1 x2 x3 : FVec Ideal S4096x128 .f32) z = x0 (ix3 (0 : Fin 1) (z 0) (z 1)) := by
  unfold out0_4
  rw [View.canon_cons_unit_zero (S := S4096x128) zero_offsets]
  simp only [View.ld_unit_zero (S := S1x4096x128) zero_offsets3]
  exact part_apply x0 shapeCasts_S1x4096x128_S4096x128 z

theorem block5 : (out0_5 (F := Ideal) x0 x1 x2 x3 : FVec Ideal S4096x128 .f32) z = change (x0 (ix3 (0 : Fin 1) (z 0) (z 1))) (x1 z) (x2 z) (x3 z) := by
  unfold out0_5
  rw [View.canon_cons_unit_zero (S := S4096x128) zero_offsets]
  simp only [View.ld_unit_zero (S := S4096x128) zero_offsets, View.ld_unit_zero (S := S1x4096x128) zero_offsets3]
  exact congrArg (fun g => change g (x1 z) (x2 z) (x3 z)) (part_apply x0 shapeCasts_S1x4096x128_S4096x128 z)

theorem block6 : (out0_6 (F := Ideal) x0 x1 x2 x3 : FVec Ideal S4096x128 .f32) z = first (x0 (ix3 (0 : Fin 1) (z 0) (z 1))) (x2 z) := by
  unfold out0_6
  rw [View.canon_cons_unit_zero (S := S4096x128) zero_offsets]
  simp only [View.ld_unit_zero (S := S4096x128) zero_offsets, View.ld_unit_zero (S := S1x4096x128) zero_offsets3]
  exact congrArg (fun g => first g (x2 z)) (part_apply x0 shapeCasts_S1x4096x128_S4096x128 z)

theorem block7 : (out0_7 (F := Ideal) x0 x1 x2 x3 : FVec Ideal S4096x128 .f32) z = second (x0 (ix3 (0 : Fin 1) (z 0) (z 1))) (x3 z) := by
  unfold out0_7
  rw [View.canon_cons_unit_zero (S := S4096x128) zero_offsets]
  simp only [View.ld_unit_zero (S := S4096x128) zero_offsets, View.ld_unit_zero (S := S1x4096x128) zero_offsets3]
  exact congrArg (fun g => second g (x3 z)) (part_apply x0 shapeCasts_S1x4096x128_S4096x128 z)

end Block

variable (m : (ℓ : Loc nD τ sig) → Buf (Elt Ideal) ℓ) (c : Dev nD)

/-- The arguments. -/
abbrev Grad : FVec Ideal S8192x128 .f32 := m ((c : Thread nD τ).loc main_arg0)
abbrev Wt : FVec Ideal S8192x128 .f32 := m ((c : Thread nD τ).loc main_arg1)
abbrev Mo : FVec Ideal S8192x128 .f32 := m ((c : Thread nD τ).loc main_arg2)
abbrev Ve : FVec Ideal S8192x128 .f32 := m ((c : Thread nD τ).loc main_arg3)

/-- The windows' block indices at a point. -/
theorem idx_land : ∀ t : Fin cfg0.N, win0_0.index t (0 : Fin 3) = 0 ∧ win0_0.index t (1 : Fin 3) = t.val ∧ win0_0.index t (2 : Fin 3) = 0 :=
  (by decide +kernel : ∀ t : Fin grid0.N, _)

theorem idx_facts : ∀ t : Fin cfg0.N,
    (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Where a point's block lies. -/
def at_ (t : Fin cfg0.N) (z : S4096x128.Idx) : S8192x128.Idx := rowAt (B := 4096) 2 (by decide) (Fin.cast N_0 t) z

theorem onto (y : S8192x128.Idx) : ∃ (t : Fin cfg0.N) (z : S4096x128.Idx), at_ t z = y := by
  obtain ⟨n, z, e⟩ := rowAt_onto (B := 4096) 2 (by decide) y
  exact ⟨Fin.cast N_0.symm n, z, e⟩

theorem grad_block (t : Fin cfg0.N) (z : S4096x128.Idx) :
    (iblk m c 0 t : Parts 1 4096 128 .f32) (ix3 (0 : Fin 1) (z 0) (z 1)) = Grad m c (at_ t z) := by
  show V m c main_v0 (((cfg0.win 0).blk t).view.emb _) = _
  have e : V m c main_v0 = broadcastInDim S1x8192x128 ![1, 2] bcast_S8192x128_S1x8192x128_1_2 (Grad m c) := by
    show StableHlo.after hostOps0 (fun b => m (c, b)) main_v0 = _
    after_results_simp
  rw [e]
  refine broadcastInDim_apply _ bcast_S8192x128_S1x8192x128_1_2 (Grad m c) _ (at_ t z) (fun b => ?_)
  obtain ⟨_, e1, e2⟩ := idx_land t
  match b with
  | ⟨0, _⟩ => show _ = win0_0.index t (1 : Fin 3) * 4096 + 1 * (z 0).val; rw [e1]; show 4096 * t.val + (z 0).val = _; omega
  | ⟨1, _⟩ => show _ = win0_0.index t (2 : Fin 3) * 128 + 1 * (z 1).val; rw [e2]; show (z 1).val = _; omega

/-- The blocks of the weight and of the two moments. -/
theorem weight_block (t : Fin cfg0.N) (z : S4096x128.Idx) : (iblk m c 1 t : FVec Ideal S4096x128 .f32) z = Wt m c (at_ t z) := by
  show V m c main_arg1 (((cfg0.win 1).blk t).view.emb _) = _
  rw [V_main_arg1]
  exact congrArg (Wt m c) (row_place (B := 4096) (idx_facts t).1 rfl rfl rfl rfl)

theorem first_block (t : Fin cfg0.N) (z : S4096x128.Idx) : (iblk m c 2 t : FVec Ideal S4096x128 .f32) z = Mo m c (at_ t z) := by
  show V m c main_arg2 (((cfg0.win 2).blk t).view.emb _) = _
  rw [V_main_arg2]
  exact congrArg (Mo m c) (row_place (B := 4096) (idx_facts t).2.1 rfl rfl rfl rfl)

theorem second_block (t : Fin cfg0.N) (z : S4096x128.Idx) : (iblk m c 3 t : FVec Ideal S4096x128 .f32) z = Ve m c (at_ t z) := by
  show V m c main_arg3 (((cfg0.win 3).blk t).view.emb _) = _
  rw [V_main_arg3]
  exact congrArg (Ve m c) (row_place (B := 4096) (idx_facts t).2.2.1 rfl rfl rfl rfl)

/-- Where a result's block lies. -/
theorem emb4 (t : Fin cfg0.N) (z : S4096x128.Idx) : (((cfg0.win 4).blk t).view.emb z : S8192x128.Idx) = at_ t z :=
  row_place (B := 4096) (idx_facts t).2.2.2.1 rfl rfl rfl rfl

theorem emb5 (t : Fin cfg0.N) (z : S4096x128.Idx) : (((cfg0.win 5).blk t).view.emb z : S8192x128.Idx) = at_ t z :=
  row_place (B := 4096) (idx_facts t).2.2.2.2.1 rfl rfl rfl rfl

theorem emb6 (t : Fin cfg0.N) (z : S4096x128.Idx) : (((cfg0.win 6).blk t).view.emb z : S8192x128.Idx) = at_ t z :=
  row_place (B := 4096) (idx_facts t).2.2.2.2.2.1 rfl rfl rfl rfl

theorem emb7 (t : Fin cfg0.N) (z : S4096x128.Idx) : (((cfg0.win 7).blk t).view.emb z : S8192x128.Idx) = at_ t z :=
  row_place (B := 4096) (idx_facts t).2.2.2.2.2.2 rfl rfl rfl rfl

/-- The four arrays after the run. -/
theorem final4 : (dats m 0 c).arrAt 4 cfg0.N = Grad m c := by
  refine (dats m 0 c).arrAt_eq_of_cover 4 (Grad m c) (fun t _ => ?_) (fun y => ?_)
  · rw [Cert.Kernel33Ideal.Value.flushed4]
    funext (z : S4096x128.Idx)
    refine (block4 (iblk m c 0 t) (iblk m c 1 t) (iblk m c 2 t) (iblk m c 3 t) z).trans ?_
    rw [grad_block m c t z]
    exact (congrArg (Grad m c) (emb4 t z)).symm
  · obtain ⟨t, z, e⟩ := onto y
    exact ⟨t, flush0_4 t, e ▸ (emb4 t z) ▸ View.emb_mem_set _ _⟩

theorem final5 : (dats m 0 c).arrAt 5 cfg0.N = each3 change (Grad m c) (Wt m c) (Mo m c) (Ve m c) := by
  refine (dats m 0 c).arrAt_eq_of_cover 5 (each3 change (Grad m c) (Wt m c) (Mo m c) (Ve m c)) (fun t _ => ?_) (fun y => ?_)
  · rw [Cert.Kernel33Ideal.Value.flushed5]
    funext (z : S4096x128.Idx)
    refine (block5 (iblk m c 0 t) (iblk m c 1 t) (iblk m c 2 t) (iblk m c 3 t) z).trans ?_
    rw [grad_block m c t z, weight_block m c t z, first_block m c t z, second_block m c t z]
    exact (congrArg (each3 change (Grad m c) (Wt m c) (Mo m c) (Ve m c)) (emb5 t z)).symm
  · obtain ⟨t, z, e⟩ := onto y
    exact ⟨t, flush0_5 t, e ▸ (emb5 t z) ▸ View.emb_mem_set _ _⟩

theorem final6 : (dats m 0 c).arrAt 6 cfg0.N = each1 first (Grad m c) (Mo m c) := by
  refine (dats m 0 c).arrAt_eq_of_cover 6 (each1 first (Grad m c) (Mo m c)) (fun t _ => ?_) (fun y => ?_)
  · rw [Cert.Kernel33Ideal.Value.flushed6]
    funext (z : S4096x128.Idx)
    refine (block6 (iblk m c 0 t) (iblk m c 1 t) (iblk m c 2 t) (iblk m c 3 t) z).trans ?_
    rw [grad_block m c t z, first_block m c t z]
    exact (congrArg (each1 first (Grad m c) (Mo m c)) (emb6 t z)).symm
  · obtain ⟨t, z, e⟩ := onto y
    exact ⟨t, flush0_6 t, e ▸ (emb6 t z) ▸ View.emb_mem_set _ _⟩

theorem final7 : (dats m 0 c).arrAt 7 cfg0.N = each1 second (Grad m c) (Ve m c) := by
  refine (dats m 0 c).arrAt_eq_of_cover 7 (each1 second (Grad m c) (Ve m c)) (fun t _ => ?_) (fun y => ?_)
  · rw [Cert.Kernel33Ideal.Value.flushed7]
    funext (z : S4096x128.Idx)
    refine (block7 (iblk m c 0 t) (iblk m c 1 t) (iblk m c 2 t) (iblk m c 3 t) z).trans ?_
    rw [grad_block m c t z, second_block m c t z]
    exact (congrArg (each1 second (Grad m c) (Ve m c)) (emb7 t z)).symm
  · obtain ⟨t, z, e⟩ := onto y
    exact ⟨t, flush0_7 t, e ▸ (emb7 t z) ▸ View.emb_mem_set _ _⟩

end Cert.Kernel33Ideal.Update

namespace Cert.Reference33Ideal.Update

open Cert.Reference33Ideal Cert.Reference33Ideal.Gen Cert.Reference33Ideal.Read Cert.Update Cert.Kernel33Ideal.Update
open Idealize.ShloMosaic Idealize.ShloMosaic.ValueIdx Idealize.SL.Sem

variable (g w mo ve : FVec Ideal S8192x128 .f32)

theorem value_first : val_main_v4 (F := Ideal) g mo = each1 first g mo := rfl

theorem value_second : val_main_v10 (F := Ideal) g ve = each1 second g ve := rfl

theorem value_change : val_main_v23 (F := Ideal) g w mo ve = each3 change g w mo ve := rfl

/-- The reference runs, leaves its arguments alone and declares no semaphore. -/
theorem frame : Cert.quiescent_Reference33Ideal := fun m ρ _ =>
  (θ_run Cert.Reference33Ideal.defs _ _).mono (fun r h => ⟨fun c => (h c).2.2.2.2, sem_eq_zero_of_no_sems (by decide) r.2⟩)
    (Cert.Reference33Ideal.Value.run (F := Ideal) m ρ)

/-- The two programs end with the same arrays. -/
theorem algebraic : Cert.algebraic_Kernel33Ideal_Reference33Ideal := by
  intro m g m' g' _ hargs
  refine ⟨fun c => Grad m c, fun c => each3 change (Grad m c) (Wt m c) (Mo m c) (Ve m c),
    fun c => each1 first (Grad m c) (Mo m c), fun c => each1 second (Grad m c) (Ve m c), ?_, ?_⟩
  · refine (θ_run Cert.Kernel33Ideal.defs _ _).mono (fun r h c => ?_) (Cert.Kernel33Ideal.Value.run_blocks (F := Ideal) m g)
    obtain ⟨e5, e6, e7, e8, k⟩ := h c
    exact ⟨e5.trans (final4 m c), e6.trans (final5 m c), e7.trans (final6 m c), e8.trans (final7 m c), k⟩
  · refine (θ_run Cert.Reference33Ideal.defs _ _).mono (fun r h c => ?_) (Cert.Reference33Ideal.Value.run (F := Ideal) m' g')
    obtain ⟨e5, e6, e7, e8, k⟩ := h c
    obtain ⟨a0, a1, a2, a3⟩ := hargs c
    refine ⟨e5.trans a0, e6.trans ?_, e7.trans ?_, e8.trans ?_, k⟩
    · rw [val_main_v23_eq, a0, a1, a2, a3]; exact value_change _ _ _ _
    · rw [val_main_v4_eq, a0, a2]; exact value_first _ _
    · rw [val_main_v10_eq, a0, a3]; exact value_second _ _

end Cert.Reference33Ideal.Update

end
-- ==== Proof.Update.Small.lean ====
module

public import proofs.«01_k».proof.Defs
public import proofs.«01_k».proof.Proof.Gen.Kernel34Ideal.Value
public import proofs.«01_k».proof.Proof.Gen.Reference34Ideal.Run
public import proofs.«01_k».proof.Proof.Gen.Reference34Ideal.Read
public import proofs.«01_k».proof.Proof.Update.Gathered

/-! # The update of the packed small weights that are split over the devices: eight parts received -/

@[expose] public section

noncomputable section

namespace Cert.Kernel34Ideal.Update

open Cert.Kernel34Ideal Cert.Kernel34Ideal.Gen Cert.Kernel34Ideal.Value Cert.Update Idealize.ShloMosaic Idealize.ShloMosaic.ValueIdx

variable (x : FVec Ideal S8x16x256 .f32) (w mo ve : FVec Ideal S16x256 .f32)

theorem kernel_gradient : (G4 (F := Ideal) x w mo ve : FVec Ideal S16x256 .f32) = gathered x := by
  funext y
  exact gathered_eight x (by decide) shapeCasts_S1x16x256_S16x256 y

theorem kernel_first : (G6 (F := Ideal) x w mo ve : FVec Ideal S16x256 .f32) = each1 first (gathered x) mo := by
  rw [← kernel_gradient x w mo ve]
  have e : View.ld (Val := Elt Ideal) (e' := .f32) mo r0_8 = mo := View.ld_unit_zero (S := S16x256) (e := .f32) (Val := Elt Ideal) hz2 inb_S16x256_S16x256_0_0 mo
  exact (congrArg (k0_pay4 (F := Ideal) _ _ _ _ _ _ _ _) e).trans rfl

theorem kernel_second : (G7 (F := Ideal) x w mo ve : FVec Ideal S16x256 .f32) = each1 second (gathered x) ve := by
  rw [← kernel_gradient x w mo ve]; rfl

theorem kernel_change : (G5 (F := Ideal) x w mo ve : FVec Ideal S16x256 .f32) = each3 change (gathered x) w mo ve := by
  exact (congrArg₂ (fun p q => k0_pay2 (F := Ideal) p q ve w) (kernel_gradient x w mo ve) (kernel_first x w mo ve)).trans rfl

end Cert.Kernel34Ideal.Update

namespace Cert.Reference34Ideal.Update

open Cert.Reference34Ideal Cert.Reference34Ideal.Gen Cert.Reference34Ideal.Read Cert.Update Cert.Kernel34Ideal.Update
open Idealize.ShloMosaic Idealize.ShloMosaic.ValueIdx Idealize.SL.Sem

variable (x : FVec Ideal S8x16x256 .f32) (w mo ve : FVec Ideal S16x256 .f32)

theorem value_gradient : val_main_v0 (F := Ideal) x = gathered x := by
  funext y
  rw [val_main_v0_apply]
  exact sum_parts x _ y fun k => funext fun b => match b with
    | ⟨0, _⟩ => rfl
    | ⟨1, _⟩ => rfl
    | ⟨2, _⟩ => rfl

theorem value_first : val_main_v5 (F := Ideal) x mo = each1 first (gathered x) mo := by
  rw [← value_gradient]; rfl

theorem value_second : val_main_v11 (F := Ideal) x ve = each1 second (gathered x) ve := by
  rw [← value_gradient]; rfl

theorem value_change : val_main_v24 (F := Ideal) x w mo ve = each3 change (gathered x) w mo ve := by
  rw [← value_gradient]; rfl

/-- The reference runs, leaves its arguments alone and declares no semaphore. -/
theorem frame : Cert.quiescent_Reference34Ideal := fun m ρ _ =>
  (θ_run Cert.Reference34Ideal.defs _ _).mono (fun r h => ⟨fun c => (h c).2.2.2.2, sem_eq_zero_of_no_sems (by decide) r.2⟩)
    (Cert.Reference34Ideal.Value.run (F := Ideal) m ρ)

/-- The two programs end with the same arrays. -/
theorem algebraic : Cert.algebraic_Kernel34Ideal_Reference34Ideal := by
  intro m g m' g' _ hargs
  refine ⟨_, _, _, _, Cert.Kernel34Ideal.Value.run (F := Ideal) m g, ?_⟩
  refine (θ_run Cert.Reference34Ideal.defs _ _).mono (fun r h c => ?_) (Cert.Reference34Ideal.Value.run (F := Ideal) m' g')
  obtain ⟨e4, e5, e6, e7, k⟩ := h c
  obtain ⟨a0, a1, a2, a3⟩ := hargs c
  refine ⟨e4.trans ?_, e5.trans ?_, e6.trans ?_, e7.trans ?_, k⟩
  · rw [val_main_v0_eq, a0, value_gradient]; exact (kernel_gradient _ _ _ _).symm
  · rw [val_main_v24_eq, a0, a1, a2, a3, value_change]; exact (kernel_change _ _ _ _).symm
  · rw [val_main_v5_eq, a0, a2, value_first]; exact (kernel_first _ _ _ _).symm
  · rw [val_main_v11_eq, a0, a3, value_second]; exact (kernel_second _ _ _ _).symm

end Cert.Reference34Ideal.Update

end
-- ==== Proof.Update.Sum.lean ====
module

public import proofs.«01_k».proof.Defs
public import proofs.«01_k».proof.Proof.Gen.Kernel35Ideal.Value
public import proofs.«01_k».proof.Proof.Gen.Reference35Ideal.Run
public import proofs.«01_k».proof.Proof.Gen.Reference35Ideal.Read
public import proofs.«01_k».proof.Proof.Update.Gathered

/-! # The sum of the gates' gradients: the device's own part and the seven landed -/

@[expose] public section

noncomputable section

namespace Cert.Reference35Ideal.Update

open Cert.Reference35Ideal Cert.Reference35Ideal.Gen Cert.Reference35Ideal.Read Cert.Update
open Idealize.ShloMosaic Idealize.ShloMosaic.ValueIdx Idealize.SL.Sem

variable (own : FVec Ideal S1024x128 .f32) (x : FVec Ideal S7x1024x128 .f32)

/-- The sum. -/
def total : FVec Ideal S1024x128 .f32 := fun y => (own y : EReal) + gathered x y

theorem kernel_total : (Cert.Kernel35Ideal.Value.G2 (F := Ideal) own x : FVec Ideal S1024x128 .f32) = total own x := by
  funext y
  exact own_and_seven (own y) x (by decide) Cert.Kernel35Ideal.Gen.shapeCasts_S1x1024x128_S1024x128 y

theorem value_total : val_main_v1 (F := Ideal) own x = total own x := by
  funext y
  show (own y : EReal) + val_main_v0 (F := Ideal) x y = _
  rw [val_main_v0_apply]
  exact congrArg ((own y : EReal) + ·) (sum_parts x _ y fun k => funext fun b => match b with
    | ⟨0, _⟩ => rfl
    | ⟨1, _⟩ => rfl
    | ⟨2, _⟩ => rfl)

/-- The reference runs, leaves its arguments alone and declares no semaphore. -/
theorem frame : Cert.quiescent_Reference35Ideal := fun m ρ _ =>
  (θ_run Cert.Reference35Ideal.defs _ _).mono (fun r h => ⟨fun c => (h c).2, sem_eq_zero_of_no_sems (by decide) r.2⟩)
    (Cert.Reference35Ideal.Value.run (F := Ideal) m ρ)

/-- The two programs end with the same array. -/
theorem algebraic : Cert.algebraic_Kernel35Ideal_Reference35Ideal := by
  intro m g m' g' _ hargs
  refine ⟨_, Cert.Kernel35Ideal.Value.run (F := Ideal) m g, ?_⟩
  refine (θ_run Cert.Reference35Ideal.defs _ _).mono (fun r h c => ?_) (Cert.Reference35Ideal.Value.run (F := Ideal) m' g')
  obtain ⟨e2, k⟩ := h c
  obtain ⟨a0, a1⟩ := hargs c
  refine ⟨e2.trans ?_, k⟩
  rw [val_main_v1_eq, a0, a1, value_total]; exact (kernel_total _ _).symm

end Cert.Reference35Ideal.Update

end
-- ==== Proof.Modulation.Conditioning.lean ====
module

public import proofs.«01_k».proof.Defs
public import proofs.«01_k».proof.Proof.Gen.Kernel36Ideal.Value
public import proofs.«01_k».proof.Proof.Gen.Reference36Ideal.Run
public import proofs.«01_k».proof.Proof.Gen.Reference36Ideal.Read
public import proofs.«01_k».proof.Proof.Modulation.Silu

/-! # The gradient of the context's conditioning

The last eight rows of the conditioning's gradient, summed, times the derivative of `x * logistic x`; and the sum of the
two modulations' gradients. -/

@[expose] public section

noncomputable section

namespace Cert.Modulation

open Cert.Gate Idealize.ShloMosaic

/-- The derivative of `x * logistic x`, factored as the call has it and as the sum the reference has. -/
theorem silu_slope (x : EReal) : logit x * (1 + x * (1 - logit x)) = 1 * logit x + x * 1 * (logit x * (1 - logit x)) := by
  have e : logit x = Ideal.logistic x := by
    rw [logit, one_bits]
    rfl
  rw [one_mul, mul_one, e]
  induction x using EReal.rec with
  | bot => rw [Ideal.logistic_bot]; simp
  | top =>
    have h : (1 : EReal) - 1 = 0 := by rw [← EReal.coe_one, ← EReal.coe_sub, sub_self, EReal.coe_zero]
    rw [Ideal.logistic_top, h]
    simp
  | coe r =>
    rw [Ideal.logistic_coe, ← EReal.coe_one]
    simp only [← EReal.coe_sub, ← EReal.coe_mul, ← EReal.coe_add]
    congr 1
    ring

end Cert.Modulation

namespace Cert.Kernel36Ideal.Conditioning

open Cert.Kernel36Ideal Cert.Kernel36Ideal.Gen Cert.Modulation Cert.Gate
open Idealize.ShloMosaic Idealize.ShloMosaic.ValueIdx
open scoped BigOperators

/-- The last eight of sixteen rows. -/
def low (k : Fin 8) : Fin 16 := ⟨8 + k.val, by omega⟩

/-- The gradient of the context's conditioning. -/
def value (x : FVec Ideal S16x2048 .f32) (c : FVec Ideal S1x2048 .f32) : FVec Ideal S1x2048 .f32 := fun i =>
  (∑ k : Fin 8, (x (ix2 (low k) (i 1)) : EReal)) * (logit (c i) * (1 + c i * (1 - logit (c i))))

theorem row_word (k : Fin 16) : IntOp.cmpi .sge (BitVec.ofNat 32 k.val) 8#32 = if 8 ≤ k.val then 1#1 else 0#1 := by
  revert k
  decide

/-- The sum over the chosen rows. -/
theorem rows_apply (x : FVec Ideal S16x2048 .f32) (s : Fin 2048) :
    multiReduction (F := Ideal) .add [0] S2048 (select (cmpi .sge (iota .tc S16x2048 32 [0] iota_S16x2048_d0_w32) (broadcast S16x2048 8#32)) x
      (broadcast S16x2048 (Scalar.ofBits (F := Ideal) .f32 0x00000000#32))) 0x00000000#32 reduces_S16x2048_S2048 (.inl rfl) rfl (ix1 s)
    = ∑ k : Fin 8, (x (ix2 (low k) s) : EReal) := by
  refine (Ideal.multiReduction_add_single _ _ reduces_S16x2048_S2048 (.inl rfl) rfl (ix1 s)).trans ?_
  have h : ∀ k : Fin 16, select (cmpi .sge (iota .tc S16x2048 32 [0] iota_S16x2048_d0_w32) (broadcast S16x2048 8#32)) x
      (broadcast S16x2048 (Scalar.ofBits (F := Ideal) .f32 0x00000000#32)) (ix2 k s) = if 8 ≤ k.val then (x (ix2 k s) : EReal) else 0 := by
    intro k
    show Scalar.select (IntOp.cmpi .sge (BitVec.ofNat 32 (0 * 16 + k.val)) 8#32) (x (ix2 k s)) (Ideal.ofBits .f32 0x00000000#32) = _
    rw [Nat.zero_mul, Nat.zero_add, row_word, Ideal.ofBits_zero_f32]
    by_cases hk : 8 ≤ k.val
    · rw [if_pos hk, if_pos hk]; rfl
    · rw [if_neg hk, if_neg hk]; rfl
  refine (Finset.sum_congr rfl fun k _ => (congrArg _ (at2 _ k s rfl rfl)).trans (h k)).trans ?_
  refine (Fin.sum_univ_add (a := 8) (b := 8) (fun k : Fin 16 => if 8 ≤ k.val then (x (ix2 k s) : EReal) else 0)).trans ?_
  rw [Finset.sum_eq_zero (fun k _ => if_neg (by show ¬8 ≤ k.val; omega)), zero_add]
  exact Finset.sum_congr rfl fun k _ => if_pos (by show 8 ≤ 8 + k.val; omega)

theorem payload (x : FVec Ideal S16x2048 .f32) (c : FVec Ideal S1x2048 .f32) : k0_pay1 (F := Ideal) x c = value x c := by
  funext i
  have h1 : (i 0).val < 1 := (i 0).isLt
  unfold k0_pay1
  dsimp only
  refine (congrArg₂ (fun a b : EReal => a * b) ((shapeCast_apply _ shapeCasts_S2048_S1x2048 i (ix1 (i 1)) (by
    rw [Shape.rowMajor_val_one, Shape.rowMajor_val_two]
    show (i 1).val = (i 0).val * 2048 + (i 1).val
    omega)).trans (rows_apply x (i 1)))
    (show _ = gate (c i) * (Ideal.ofBits .f32 0x3F800000#32 + c i * (Ideal.ofBits .f32 0x3F800000#32 - gate (c i))) from rfl)).trans ?_
  rw [gate_eq, one_bits]
  rfl

end Cert.Kernel36Ideal.Conditioning

namespace Cert.Reference36Ideal.Conditioning

open Cert.Reference36Ideal Cert.Reference36Ideal.Gen Cert.Reference36Ideal.Read Cert.Modulation Cert.Gate
open Cert.Kernel36Ideal.Conditioning (value low)
open Idealize.ShloMosaic Idealize.ShloMosaic.ValueIdx Idealize.SL.Sem
open scoped BigOperators

/-- What the reference computes. -/
theorem result6 (x : FVec Ideal S16x2048 .f32) (c : FVec Ideal S1x2048 .f32) : val_main_v6 (F := Ideal) x c = value x c := by
  funext i
  rw [val_main_v6_apply, val_main_v2_apply, val_main_v1_apply]
  refine congrArg₂ (fun a b : EReal => a * b) ?_ ?_
  · refine (congrArg (· + _) Ideal.ofBits_zero_f32).trans ((zero_add _).trans (Finset.sum_congr rfl fun k _ => ?_))
    exact (val_main_v0_apply _ _).trans (congrArg x (at2 _ (low k) (i 1) rfl rfl))
  · rw [silu_slope]
    show Ideal.ofBits .f32 0x3F800000#32 * logit (c i) + c i * Ideal.ofBits .f32 0x3F800000#32
      * (logit (c i) * (Ideal.ofBits .f32 0x3F800000#32 - logit (c i))) = _
    rw [one_bits]

/-- The reference runs, leaves its arguments alone and declares no semaphore. -/
theorem frame : Cert.quiescent_Reference36Ideal := fun m ρ _ =>
  (θ_run Cert.Reference36Ideal.defs _ _).mono (fun r h => ⟨fun c => (h c).2.2, sem_eq_zero_of_no_sems (by decide) r.2⟩)
    (Cert.Reference36Ideal.Value.run (F := Ideal) m ρ)

/-- The two programs end with the same arrays. -/
theorem algebraic : Cert.algebraic_Kernel36Ideal_Reference36Ideal := by
  intro m g m' g' _ hargs
  refine ⟨_, _, Cert.Kernel36Ideal.Value.run (F := Ideal) m g, ?_⟩
  refine (θ_run Cert.Reference36Ideal.defs _ _).mono (fun r h c => ?_) (Cert.Reference36Ideal.Value.run (F := Ideal) m' g')
  obtain ⟨e, f, k⟩ := h c
  obtain ⟨a0, a1, a2, a3⟩ := hargs c
  refine ⟨e.trans ((val_main_v6_eq _ _).trans ?_), f.trans ?_, k⟩
  · rw [a0, a1]
    exact (result6 _ _).trans (Cert.Kernel36Ideal.Conditioning.payload _ _).symm
  · rw [a2, a3]
    rfl

end Cert.Reference36Ideal.Conditioning

end
-- ==== Proof.Projection.Parts.lean ====
module

public import proofs.«01_k».proof.Defs
public import proofs.«01_k».proof.Proof.Gen.Kernel37Ideal.Value
public import proofs.«01_k».proof.Proof.Gen.Reference37Ideal.Run
public import proofs.«01_k».proof.Proof.Gen.Reference37Ideal.Read
public import proofs.«01_k».proof.Proof.Modulation.Silu
public import proofs.«01_k».proof.Proof.Blocks
public import Idealize.ShloMosaic.Lib.KernelVsHost

/-! # The gradient of the input projection, from its seven parts

The parts lie side by side. Three of them are of the latent tokens alone, so the 256 context rows have zero there. -/

@[expose] public section

noncomputable section

namespace Cert.Projection

open Cert.Product Cert.Modulation Idealize.ShloMosaic Idealize.ShloMosaic.ValueIdx
open scoped BigOperators

/-- A row's part at a column, zero off the part's columns. -/
def piece {W : ℕ} (off : ℕ) (p : Fin W → EReal) (s : Fin 11264) : EReal :=
  if h : off ≤ s.val ∧ s.val < off + W then p ⟨s.val - off, by omega⟩ else 0

theorem piece_in {W : ℕ} (off : ℕ) (p : Fin W → EReal) (s : Fin 11264) (h : off ≤ s.val) (h' : s.val < off + W) :
    piece off p s = p ⟨s.val - off, by omega⟩ := dif_pos ⟨h, h'⟩

theorem piece_out {W : ℕ} (off : ℕ) (p : Fin W → EReal) (s : Fin 11264) (h : s.val < off ∨ off + W ≤ s.val) :
    piece off p s = 0 := dif_neg (by omega)

/-- A row of the seven parts. -/
def cols (p0 : Fin 2048 → EReal) (p1 p2 : Fin 512 → EReal) (p3 p4 p5 p6 : Fin 2048 → EReal) (s : Fin 11264) : EReal :=
  piece 5120 p4 s + piece 3072 p3 s + piece 2560 p2 s + piece 2048 p1 s + (piece 9216 p6 s + piece 7168 p5 s + piece 0 p0 s)

/-- A latent array's row among all the rows. -/
def late (a : Mat 2048 2048) (r : Fin 2304) (k : Fin 2048) : EReal :=
  if h : 256 ≤ r.val then a (ix2 ⟨r.val - 256, by omega⟩ k) else 0

/-- The seven parts side by side. -/
def packed (a0 : Mat 2048 2048) (a1 a2 : Mat 2304 512) (a3 a4 : Mat 2304 2048) (a5 a6 : Mat 2048 2048) : Mat 2304 11264 := fun j =>
  cols (late a0 (j 0)) (fun k => a1 (ix2 (j 0) k)) (fun k => a2 (ix2 (j 0) k)) (fun k => a3 (ix2 (j 0) k)) (fun k => a4 (ix2 (j 0) k))
    (late a5 (j 0)) (late a6 (j 0)) (j 1)

/-- A point's row among all the rows. -/
def row (t : ℕ) (ht : t < 9) (q : Fin 256) : Fin 2304 := ⟨256 * t + q.val, by omega⟩

theorem late_row (a : Mat 2048 2048) (e : EReal) (t : ℕ) (ht : t < 9) (q : Fin 256) (k : Fin 2048)
    (h : ∀ h1 : 1 ≤ t, e = a (ix2 ⟨256 * (t - 1) + q.val, by omega⟩ k)) : (if t < 1 then 0 else e) = late a (row t ht q) k := by
  unfold late row
  by_cases h1 : t < 1
  · rw [if_pos h1, dif_neg (by show ¬256 ≤ 256 * t + q.val; omega)]
  · rw [if_neg h1, dif_pos (by show 256 ≤ 256 * t + q.val; omega), h (by omega)]
    exact congrArg (fun r => a (ix2 r k)) (Fin.ext (by show 256 * (t - 1) + q.val = 256 * t + q.val - 256; omega))

theorem zero_bits : Ideal.ofBits .bf16 0x0000#16 = 0 := by simp [Ideal.ofBits, Ideal.ieee]

end Cert.Projection

namespace Cert.Kernel37Ideal.Parts

open Cert.Kernel37Ideal Cert.Kernel37Ideal.Gen Cert.Product Cert.Projection Cert.Modulation Cert.Blocks
open Idealize.ShloMosaic Idealize.ShloMosaic.TcCoe Idealize.ShloMosaic.ValueIdx
open scoped BigOperators

/-- A block's parts, in order. -/
abbrev parts (v0 : FVec Ideal S256x2048 .bf16) (v1 v2 : FVec Ideal S256x512 .bf16) (v3 v4 v5 v6 : FVec Ideal S256x2048 .bf16) :
    List ((s : Shape) × (s.Idx → EReal)) :=
  [⟨S256x2048, v0⟩, ⟨S256x512, v1⟩, ⟨S256x512, v2⟩, ⟨S256x2048, v3⟩, ⟨S256x2048, v4⟩, ⟨S256x2048, v5⟩, ⟨S256x2048, v6⟩]

set_option maxRecDepth 20000 in
/-- The concatenation of a block's parts, at an element. -/
theorem joined (v0 : FVec Ideal S256x2048 .bf16) (v1 v2 : FVec Ideal S256x512 .bf16) (v3 v4 v5 v6 : FVec Ideal S256x2048 .bf16)
    (q : Fin 256) (s : Fin 11264) :
    concatenate S256x11264 1 (parts v0 v1 v2 v3 v4 v5 v6)
      concatenates_S256x2048_S256x512_S256x512_S256x2048_S256x2048_S256x2048_S256x2048_S256x11264_d1 (ix2 q s)
    = cols (fun k => v0 (ix2 q k)) (fun k => v1 (ix2 q k)) (fun k => v2 (ix2 q k)) (fun k => v3 (ix2 q k)) (fun k => v4 (ix2 q k))
      (fun k => v5 (ix2 q k)) (fun k => v6 (ix2 q k)) s := by
  have hs := s.isLt
  have part : ∀ (W k off : ℕ) (x : Mat 256 W) (hk : k < (parts v0 v1 v2 v3 v4 v5 v6).length) (_ : (parts v0 v1 v2 v3 v4 v5 v6)[k]'hk = ⟨⟨2, ![256, W]⟩, x⟩)
      (_ : ((((parts v0 v1 v2 v3 v4 v5 v6).take k).map (·.1)).map fun s => if h : s.rank = 2 then s.size ((1 : Fin 2).cast h.symm) else 0).sum = off)
      (_ : off ≤ s.val) (_ : s.val < off + W),
      concatenate S256x11264 1 (parts v0 v1 v2 v3 v4 v5 v6)
        concatenates_S256x2048_S256x512_S256x512_S256x2048_S256x2048_S256x2048_S256x2048_S256x11264_d1 (ix2 q s) = x (ix2 q ⟨s.val - off, by omega⟩) :=
    fun W k off x hk hx hp h h' => concatenate_apply_piece (t := S256x11264) (1 : Fin 2) (parts v0 v1 v2 v3 v4 v5 v6) _ (ix2 q s) k hk ⟨2, ![256, W]⟩ x hx rfl off hp _
      (fun b hb => match b with
        | ⟨0, _⟩ => rfl
        | ⟨1, _⟩ => absurd rfl hb)
      (by show off + (s.val - off) = s.val; omega)
  unfold cols
  rcases (by omega : s.val < 2048 ∨ (2048 ≤ s.val ∧ s.val < 2560) ∨ (2560 ≤ s.val ∧ s.val < 3072) ∨ (3072 ≤ s.val ∧ s.val < 5120)
    ∨ (5120 ≤ s.val ∧ s.val < 7168) ∨ (7168 ≤ s.val ∧ s.val < 9216) ∨ 9216 ≤ s.val) with h | h | h | h | h | h | h
  · rw [part 2048 0 0 v0 (show 0 < 7 by decide) rfl rfl (by omega) (by omega)]
    simp (disch := omega) only [piece_in, piece_out, zero_add, add_zero]
  · rw [part 512 1 2048 v1 (show 1 < 7 by decide) rfl rfl (by omega) (by omega)]
    simp (disch := omega) only [piece_in, piece_out, zero_add, add_zero]
  · rw [part 512 2 2560 v2 (show 2 < 7 by decide) rfl rfl (by omega) (by omega)]
    simp (disch := omega) only [piece_in, piece_out, zero_add, add_zero]
  · rw [part 2048 3 3072 v3 (show 3 < 7 by decide) rfl rfl (by omega) (by omega)]
    simp (disch := omega) only [piece_in, piece_out, zero_add, add_zero]
  · rw [part 2048 4 5120 v4 (show 4 < 7 by decide) rfl rfl (by omega) (by omega)]
    simp (disch := omega) only [piece_in, piece_out, zero_add, add_zero]
  · rw [part 2048 5 7168 v5 (show 5 < 7 by decide) rfl rfl (by omega) (by omega)]
    simp (disch := omega) only [piece_in, piece_out, zero_add, add_zero]
  · rw [part 2048 6 9216 v6 (show 6 < 7 by decide) rfl rfl (by omega) (by omega)]
    simp (disch := omega) only [piece_in, piece_out, zero_add, add_zero]

/-- The test of the grid point. -/
theorem point_word : ∀ t : Fin cfg0.N, Scalar.cmpi .slt (BitVec.ofNat 32 (grid0.coords t 1).val) 1#32 = if t.val < 1 then 1#1 else 0#1 :=
  (by decide +kernel : ∀ t : Fin grid0.N, _)

/-- A latent part's block at a point. -/
theorem chosen (t : Fin cfg0.N) (x : FVec Ideal S256x2048 .bf16) (q : Fin 256) (k : Fin 2048) :
    (Scalar.select (Scalar.cmpi .slt (BitVec.ofNat 32 (grid0.coords t 1).val) 1#32)
      (broadcast S256x2048 (Scalar.ofBits (F := Ideal) .bf16 0x0000#16)) x : FVec Ideal S256x2048 .bf16) (ix2 q k)
    = if t.val < 1 then (0 : EReal) else x (ix2 q k) := by
  rw [point_word]
  by_cases h : t.val < 1
  · rw [if_pos h, if_pos h]
    exact zero_bits
  · rw [if_neg h, if_neg h]
    rfl

variable (m : (ℓ : Loc nD τ sig) → Buf (Elt Ideal) ℓ) (c : Dev nD)

/-- The arguments. -/
abbrev A0 : FVec Ideal S2048x2048 .bf16 := m ((c : Thread nD τ).loc main_arg0)
abbrev A1 : FVec Ideal S2304x512 .bf16 := m ((c : Thread nD τ).loc main_arg1)
abbrev A2 : FVec Ideal S2304x512 .bf16 := m ((c : Thread nD τ).loc main_arg2)
abbrev A3 : FVec Ideal S2304x2048 .bf16 := m ((c : Thread nD τ).loc main_arg3)
abbrev A4 : FVec Ideal S2304x2048 .bf16 := m ((c : Thread nD τ).loc main_arg4)
abbrev A5 : FVec Ideal S2048x2048 .bf16 := m ((c : Thread nD τ).loc main_arg5)
abbrev A6 : FVec Ideal S2048x2048 .bf16 := m ((c : Thread nD τ).loc main_arg6)

/-- The windows' block indices at a point. -/
theorem idx_facts : ∀ t : Fin cfg0.N,
    (win0_0.index t (0 : Fin 2) = t.val - 1 ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val - 1 ∧ win0_5.index t (1 : Fin 2) = 0)
    ∧ (win0_6.index t (0 : Fin 2) = t.val - 1 ∧ win0_6.index t (1 : Fin 2) = 0)
    ∧ (win0_7.index t (0 : Fin 2) = t.val ∧ win0_7.index t (1 : Fin 2) = 0) :=
  (by decide +kernel : ∀ t : Fin grid0.N, _)

theorem t_lt (t : Fin cfg0.N) : t.val < 9 := lt_of_lt_of_eq t.isLt (show cfg0.N = 9 from N_0)

/-- An index from a block's place and the place in the block. -/
theorem spot {M W : ℕ} {b0 b1 n : ℕ} (h : b0 = n ∧ b1 = 0) (y : (⟨2, ![M, W]⟩ : Shape).Idx) (q : Fin 256) (k : Fin W) (r : Fin M)
    (h0 : (y 0).val = b0 * 256 + 1 * q.val) (h1 : (y 1).val = b1 * W + 1 * k.val) (hr : r.val = 256 * n + q.val) : y = ix2 r k := by
  obtain ⟨rfl, rfl⟩ := h
  exact at2 y r k (by omega) (by omega)

/-- What a point stores, at an element. -/
theorem block_apply (t : Fin cfg0.N) (q : Fin 256) (s : Fin 11264) :
    (out0_7 (F := Ideal) (grid0.coords t) (iblk m c 0 t) (iblk m c 1 t) (iblk m c 2 t) (iblk m c 3 t) (iblk m c 4 t) (iblk m c 5 t) (iblk m c 6 t)
      : FVec Ideal S256x11264 .bf16) (ix2 q s)
    = packed (A0 m c) (A1 m c) (A2 m c) (A3 m c) (A4 m c) (A5 m c) (A6 m c) (ix2 (row t.val (t_lt t) q) s) := by
  obtain ⟨e0, e1, e2, e3, e4, e5, e6, _⟩ := idx_facts t
  unfold out0_7
  rw [View.canon_cons_unit_zero (S := S256x11264) zero_offsets]
  simp only [View.ld_unit_zero (S := S256x2048) zero_offsets, View.ld_unit_zero (S := S256x512) zero_offsets]
  unfold k0_pay1
  refine (joined _ _ _ _ _ _ _ q s).trans ?_
  show _ = cols (late _ _) _ _ _ _ (late _ _) (late _ _) s
  congr 1
  · exact funext fun k => (chosen t _ q k).trans (late_row _ _ t.val (t_lt t) q k fun h =>
      congrArg (A0 m c) (spot e0 _ q k _ rfl rfl rfl))
  · exact funext fun k => congrArg (A1 m c) (spot e1 _ q k _ rfl rfl rfl)
  · exact funext fun k => congrArg (A2 m c) (spot e2 _ q k _ rfl rfl rfl)
  · exact funext fun k => congrArg (A3 m c) (spot e3 _ q k _ rfl rfl rfl)
  · exact funext fun k => congrArg (A4 m c) (spot e4 _ q k _ rfl rfl rfl)
  · exact funext fun k => (chosen t _ q k).trans (late_row _ _ t.val (t_lt t) q k fun h =>
      congrArg (A5 m c) (spot e5 _ q k _ rfl rfl rfl))
  · exact funext fun k => (chosen t _ q k).trans (late_row _ _ t.val (t_lt t) q k fun h =>
      congrArg (A6 m c) (spot e6 _ q k _ rfl rfl rfl))

/-- Where a point's block lies in the result. -/
theorem place (t : Fin cfg0.N) (z : S256x11264.Idx) :
    (((cfg0.win 7).blk t).view.emb z : S2304x11264.Idx) = ix2 (row t.val (t_lt t) (z 0)) (z 1) :=
  spot (idx_facts t).2.2.2.2.2.2.2 _ (z 0) (z 1) _ rfl rfl rfl

/-- The array after the run. -/
theorem final : (dats m 0 c).arrAt 7 cfg0.N = packed (A0 m c) (A1 m c) (A2 m c) (A3 m c) (A4 m c) (A5 m c) (A6 m c) := by
  refine (dats m 0 c).arrAt_eq_of_cover 7 _ (fun t _ => ?_) fun y => ?_
  · rw [Cert.Kernel37Ideal.Value.flushed7]
    funext (z : S256x11264.Idx)
    refine (congrArg (out0_7 (F := Ideal) (grid0.coords t) (iblk m c 0 t) (iblk m c 1 t) (iblk m c 2 t) (iblk m c 3 t) (iblk m c 4 t) (iblk m c 5 t) (iblk m c 6 t)) (eq_ix2 z)).trans ?_
    exact (block_apply m c t (z 0) (z 1)).trans (congrArg (packed _ _ _ _ _ _ _) (place t z)).symm
  · have h0 : (y 0).val < 2304 := (y 0).isLt
    have hN : cfg0.N = 9 := N_0
    let t : Fin cfg0.N := ⟨(y 0).val / 256, by omega⟩
    refine ⟨t, flush0_7 t, ?_⟩
    have e : ((cfg0.win 7).blk t).view.emb (ix2 (⟨(y 0).val % 256, by omega⟩ : Fin 256) (y 1)) = y :=
      (place t _).trans (at2 y _ _ (by show _ = 256 * ((y 0).val / 256) + (y 0).val % 256; omega) rfl).symm
    exact (congrArg (· ∈ ((cfg0.win 7).blk t).view.set) e).mp (View.emb_mem_set _ _)

end Cert.Kernel37Ideal.Parts

namespace Cert.Reference37Ideal.Parts

open Cert.Reference37Ideal Cert.Reference37Ideal.Gen Cert.Reference37Ideal.Read Cert.Product Cert.Projection Cert.Modulation
open Idealize.ShloMosaic Idealize.ShloMosaic.ValueIdx Idealize.SL.Sem
open scoped BigOperators

/-- A part among zeros, at an element. -/
theorem pad_piece {R W hi : ℕ} (off : ℕ) (x : FVec Ideal ⟨2, ![R, W]⟩ .bf16)
    (h : (⟨2, ![R, W]⟩ : Shape).Pads ![0, off] ![0, hi] ![0, 0] ⟨2, ![R, 11264]⟩) (r : Fin R) (s : Fin 11264) :
    pad ⟨2, ![R, 11264]⟩ ![0, off] ![0, hi] ![0, 0] x (constant (F := Ideal) S_ .bf16 0x0000#16) h h_S_ (ix2 r s)
    = piece off (fun k => x (ix2 r k)) s := by
  by_cases hs : off ≤ s.val ∧ s.val < off + W
  · rw [piece_in _ _ _ hs.1 hs.2]
    exact pad_apply_of_inside _ _ _ x _ h h_S_ (ix2 r s) (ix2 r ⟨s.val - off, by omega⟩) (fun a => match a with
      | ⟨0, _⟩ => by show r.val = 0 + r.val * (0 + 1); omega
      | ⟨1, _⟩ => by show s.val = off + (s.val - off) * (0 + 1); omega)
  · rw [piece_out _ _ _ (by omega)]
    refine (pad_apply_of_not_inside _ _ _ x _ h h_S_ (ix2 r s) (1 : Fin 2) ?_).trans zero_bits
    show ¬(off ≤ s.val ∧ (s.val - off) % (0 + 1) = 0 ∧ (s.val - off) / (0 + 1) < W)
    rintro ⟨a, _, b⟩
    rw [Nat.div_one] at b
    exact hs ⟨a, by omega⟩

variable (a0 : FVec Ideal S2048x2048 .bf16) (a1 a2 : FVec Ideal S2304x512 .bf16) (a3 a4 : FVec Ideal S2304x2048 .bf16) (a5 a6 : FVec Ideal S2048x2048 .bf16)

/-- The latent parts below the context's rows. -/
theorem latent (r : Fin 2304) (s : Fin 11264) : val_main_v21 (F := Ideal) a0 a5 a6 (ix2 r s)
    = piece 9216 (late a6 r) s + piece 7168 (late a5 r) s + piece 0 (late a0 r) s := by
  unfold val_main_v21
  by_cases h : 256 ≤ r.val
  · have e : ∀ a : Mat 2048 2048, late a r = fun k => a (ix2 ⟨r.val - 256, by omega⟩ k) := fun a => funext fun k => dif_pos h
    refine (pad_apply_of_inside _ _ _ _ _ pads_S2048x11264_S2304x11264_25600_000 h_S_ (ix2 r s) (ix2 ⟨r.val - 256, by omega⟩ s) (fun a => match a with
      | ⟨0, _⟩ => by show r.val = 256 + (r.val - 256) * (0 + 1); omega
      | ⟨1, _⟩ => by show s.val = 0 + s.val * (0 + 1); omega)).trans ?_
    rw [e, e, e, val_main_v20_apply, val_main_v11_apply]
    exact congrArg₂ (fun a b : EReal => a + b) (congrArg₂ (fun a b : EReal => a + b) (pad_piece 9216 a6 _ _ s) (pad_piece 7168 a5 _ _ s)) (pad_piece 0 a0 _ _ s)
  · have e : ∀ (a : Mat 2048 2048) (off : ℕ), piece off (late a r) s = 0 := fun a off => by
      unfold Cert.Projection.piece
      split
      · exact dif_neg h
      · rfl
    rw [e, e, e]
    refine (pad_apply_of_not_inside _ _ _ _ _ pads_S2048x11264_S2304x11264_25600_000 h_S_ (ix2 r s) (0 : Fin 2) ?_).trans (zero_bits.trans ?_)
    · show ¬(256 ≤ r.val ∧ _)
      exact fun q => h q.1
    · rw [add_zero, add_zero]

/-- What the reference computes. -/
theorem result : val_main_v22 (F := Ideal) a0 a1 a2 a3 a4 a5 a6 = packed a0 a1 a2 a3 a4 a5 a6 := by
  have e : ∀ (r : Fin 2304) (s : Fin 11264), val_main_v22 (F := Ideal) a0 a1 a2 a3 a4 a5 a6 (ix2 r s) = packed a0 a1 a2 a3 a4 a5 a6 (ix2 r s) := fun r s => by
    rw [val_main_v22_apply, val_main_v18_apply, val_main_v16_apply, val_main_v14_apply, latent]
    exact congrArg₂ (fun a b : EReal => a + b) (congrArg₂ (fun a b : EReal => a + b) (congrArg₂ (fun a b : EReal => a + b)
      (congrArg₂ (fun a b : EReal => a + b) (pad_piece 5120 a4 _ _ _) (pad_piece 3072 a3 _ _ _)) (pad_piece 2560 a2 _ _ _)) (pad_piece 2048 a1 _ _ _)) rfl
  funext j
  exact (congrArg _ (eq_ix2 j)).trans ((e _ _).trans (congrArg _ (eq_ix2 j)).symm)

/-- The reference runs, leaves its arguments alone and declares no semaphore. -/
theorem frame : Cert.quiescent_Reference37Ideal := fun m ρ _ =>
  (θ_run Cert.Reference37Ideal.defs _ _).mono (fun r h => ⟨fun c => (h c).2, sem_eq_zero_of_no_sems (by decide) r.2⟩)
    (Cert.Reference37Ideal.Value.run (F := Ideal) m ρ)

/-- The two programs end with the same array. -/
theorem algebraic : Cert.algebraic_Kernel37Ideal_Reference37Ideal := by
  intro m g m' g' _ hargs
  refine ⟨fun c => packed (Cert.Kernel37Ideal.Parts.A0 m c) (Cert.Kernel37Ideal.Parts.A1 m c) (Cert.Kernel37Ideal.Parts.A2 m c) (Cert.Kernel37Ideal.Parts.A3 m c)
    (Cert.Kernel37Ideal.Parts.A4 m c) (Cert.Kernel37Ideal.Parts.A5 m c) (Cert.Kernel37Ideal.Parts.A6 m c), ?_, ?_⟩
  · refine (θ_run Cert.Kernel37Ideal.defs _ _).mono (fun r h c => ?_) (Cert.Kernel37Ideal.Value.run_blocks (F := Ideal) m g)
    obtain ⟨e, k⟩ := h c
    exact ⟨e.trans (Cert.Kernel37Ideal.Parts.final m c), k⟩
  · refine (θ_run Cert.Reference37Ideal.defs _ _).mono (fun r h c => ?_) (Cert.Reference37Ideal.Value.run (F := Ideal) m' g')
    obtain ⟨e, k⟩ := h c
    obtain ⟨b0, b1, b2, b3, b4, b5, b6⟩ := hargs c
    refine ⟨e.trans ((val_main_v22_eq _ _ _ _ _ _ _).trans ?_), k⟩
    rw [b0, b1, b2, b3, b4, b5, b6]
    exact result _ _ _ _ _ _ _

end Cert.Reference37Ideal.Parts

end
-- ==== Proof.Loss.Columns.lean ====
module

public import proofs.«01_k».proof.Proof.Gen.Kernel38Ideal.Frame
public import proofs.«01_k».proof.Proof.NormLast.Array

/-! # The loss by columns, as the call before the loss's sum leaves it

The call is the one that starts the backward pass; of its results only the loss's columns are read further on. -/

@[expose] public section

noncomputable section

namespace Cert.Kernel38Ideal.Loss

open Cert.Kernel38Ideal Cert.Kernel38Ideal.Gen Cert.Blocks Cert.Norm
open Cert.Kernel19Ideal.NormLast (Stream errRow lossCols)
open Idealize.ShloMosaic Idealize.ShloMosaic.TcCoe Idealize.ShloMosaic.ValueIdx
open scoped BigOperators

/-- What a point adds to the columns it finds. -/
def step (x y z : Block) (a g acc : Line) : Line :=
  k0_pay11 (F := Ideal) (k0_pay8 (F := Ideal) x y z a g) (Scalar.ofBits .f32 0x39800000#32) acc

theorem step_apply (x y z : Block) (a g acc : Line) (s : Fin 2048) : line (step x y z a g acc) s
    = line acc s + ∑ r, errRow (rowOf x r) (rowOf y r) (rowOf z r) a g s * errRow (rowOf x r) (rowOf y r) (rowOf z r) a g s
      * Ideal.ofBits .f32 0x39800000#32 :=
  Cert.Kernel19Ideal.NormLast.cols_apply x y z a g acc s

theorem zero_apply (s : Fin 2048) : line (k0_pay10 (F := Ideal)) s = 0 := Ideal.ofBits_zero_f32

variable (m : (ℓ : Loc nD τ sig) → Buf (Elt Ideal) ℓ) (c : Dev nD)

set_option maxHeartbeats 2000000 in
/-- The first point starts the columns from zero. -/
theorem first (t : Fin cfg0.N) (h : t.val % 8 = 0) : (outsAt0 m c t.val t.isLt).2.2.1
    = step (iblk m c 0 t) (iblk m c 1 t) (iblk m c 2 t) (iblk m c 3 t) (iblk m c 4 t) (k0_pay10 (F := Ideal)) := by
  rw [outsAt0_A m c t h h h]
  dsimp only
  unfold out0_A_7
  refine (View.read_writes_eq_canon _ _ _ (cover0_A_7 (F := Ideal) _ _ _ _ _ _ _ _ _ _ _ _ _ _ _ _ _ _ _ _ _ _ _ _ _ _ _ _ _ _)).trans ?_
  unfold kernelRun0_A
  dsimp only
  sl_unfold_words
  simp only [View.canon_cons_unit_zero (S := S1x2048) zero_offsets,
    load_after_store (S := S1x2048) _ zero_offsets, View.readAt_eq_ld, (hs0_0 t).read_unread, (hs0_1 t).read_unread, (hs0_2 t).read_unread, (hs0_3 t).read_unread, (hs0_4 t).read_unread, (hs0_7 t).read_unread,
    View.ld_unit_zero (S := S256x2048) zero_offsets, View.ld_unit_zero (S := S1x2048) zero_offsets]
  rfl

set_option maxHeartbeats 2000000 in
/-- A later point adds to them. -/
theorem later (t : Fin cfg0.N) (h : ¬t.val % 8 = 0) : (outsAt0 m c t.val t.isLt).2.2.1
    = step (iblk m c 0 t) (iblk m c 1 t) (iblk m c 2 t) (iblk m c 3 t) (iblk m c 4 t)
      (outsAt0 m c (t.val - 1) (Nat.lt_of_le_of_lt (Nat.sub_le _ _) t.isLt)).2.2.1 := by
  rw [outsAt0_B m c t h h h]
  dsimp only
  unfold out0_B_7
  refine (View.read_writes_eq_canon _ _ _ (cover0_B_7 (F := Ideal) _ _ _ _ _ _ _ _ _ _ _ _ _ _ _ _ _ _ _ _ _ _ _ _ _ _ _ _ _ _ _ _ _)).trans ?_
  unfold kernelRun0_B
  dsimp only
  sl_unfold_words
  simp only [View.canon_cons_unit_zero (S := S1x2048) zero_offsets,
    load_after_store (S := S1x2048) _ zero_offsets, View.readAt_eq_ld, (hs0_0 t).read_unread, (hs0_1 t).read_unread, (hs0_2 t).read_unread, (hs0_3 t).read_unread, (hs0_4 t).read_unread, (hs0_7 t).read_unread,
    View.ld_unit_zero (S := S256x2048) zero_offsets, View.ld_unit_zero (S := S1x2048) zero_offsets]
  rfl

/-- The arguments. -/
abbrev Xa : Stream := m ((c : Thread nD τ).loc main_arg0)
abbrev Ya : Stream := m ((c : Thread nD τ).loc main_arg1)
abbrev Ta : Stream := m ((c : Thread nD τ).loc main_arg2)
abbrev Aa : Line := m ((c : Thread nD τ).loc main_arg3)
abbrev Ga : Line := m ((c : Thread nD τ).loc main_arg4)

/-- The windows' block indices at a point. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_7.index t (0 : Fin 2) = 0 ∧ win0_7.index t (1 : Fin 2) = 0) :=
  (by decide +kernel : ∀ t : Fin grid0.N, _)

theorem t_lt (t : Fin cfg0.N) : t.val < 8 := lt_of_lt_of_eq t.isLt (show cfg0.N = 8 from N_0)

theorem x_row (t : Fin cfg0.N) (r : Fin 256) : rowOf (n := 256) (φ := .f32) (iblk m c 0 t) r = rowOf (Xa m c) (rowAt t.val r) :=
  funext fun k => congrArg (Xa m c) (row_place (t_lt t) (idx_facts t).1 r k)

theorem y_row (t : Fin cfg0.N) (r : Fin 256) : rowOf (n := 256) (φ := .f32) (iblk m c 1 t) r = rowOf (Ya m c) (rowAt t.val r) :=
  funext fun k => congrArg (Ya m c) (row_place (t_lt t) (idx_facts t).2.1 r k)

theorem t_row (t : Fin cfg0.N) (r : Fin 256) : rowOf (n := 256) (φ := .f32) (iblk m c 2 t) r = rowOf (Ta m c) (rowAt t.val r) :=
  funext fun k => congrArg (Ta m c) (row_place (t_lt t) (idx_facts t).2.2.1 r k)

theorem a_line (t : Fin cfg0.N) : (iblk m c 3 t : Line) = Aa m c :=
  funext fun y => congrArg (Aa m c) (line_place (idx_facts t).2.2.2.1 y)

theorem g_line (t : Fin cfg0.N) : (iblk m c 4 t : Line) = Ga m c :=
  funext fun y => congrArg (Ga m c) (line_place (idx_facts t).2.2.2.2.1 y)

/-- The columns after the call. -/
theorem final7 : (dats m 0 c).arrAt 7 cfg0.N = lossCols (Xa m c) (Ya m c) (Ta m c) (Aa m c) (Ga m c) := by
  have emb : ∀ (t : Fin cfg0.N) (y : S1x2048.Idx), (((cfg0.win 7).blk t).view.emb y : S1x2048.Idx) = y :=
    fun t y => line_place (idx_facts t).2.2.2.2.2 y
  refine (dats m 0 c).arrAt_eq_of_cover 7 _ (fun t hf => ?_) (fun y => ?_)
  · show (cfg0.win 7).cut (grid0.coords t) ((dats m 0 c).after 7 t) = _
    rw [after0_7]
    refine (gather_total N_0 (fun n hn => (outsAt0 m c n hn).2.2.1) _ (fun hn s => ?_) (fun n hn s => ?_) t.isLt
      ((flush0_7 t).mp hf)).trans (funext fun y => (congrArg (lossCols (Xa m c) (Ya m c) (Ta m c) (Aa m c) (Ga m c)) (emb t y)).symm)
    · rw [first m c ⟨0, hn⟩ rfl, step_apply, zero_apply, zero_add]
      simp only [x_row, y_row, t_row, a_line, g_line]
    · rw [later m c ⟨n + 1, hn⟩ (by have h8 := t_lt ⟨n + 1, hn⟩; dsimp only at h8 ⊢; omega), step_apply]
      simp only [x_row, y_row, t_row, a_line, g_line]
      rfl
  · obtain ⟨t, h⟩ : ∃ t : Fin cfg0.N, t.val % 8 = 7 := ⟨⟨7, by rw [show cfg0.N = 8 from N_0]; omega⟩, rfl⟩
    exact ⟨t, (flush0_7 t).mpr h, (congrArg (· ∈ ((cfg0.win 7).blk t).view.set) (emb t y)).mp (View.emb_mem_set _ _)⟩

end Cert.Kernel38Ideal.Loss

end
-- ==== Proof.Loss.Device.lean ====
module

public import proofs.«01_k».proof.Defs
public import proofs.«01_k».proof.Proof.Gen.Reference38Ideal.Run
public import proofs.«01_k».proof.Proof.Gen.Reference38Ideal.Read
public import proofs.«01_k».proof.Proof.Loss.Columns
public import proofs.«01_k».proof.Proof.NormLast.Result
public import proofs.«01_k».proof.Proof.Modulation.Silu
public import Idealize.ShloMosaic.Lib.Pointwise.Index

/-! # The loss on one device's tokens

The program sums the call's columns; the reference halves the sum over the tokens of the mean over the model's
coordinates. Both are the sum over the tokens and coordinates of the squared error over 4096. -/

@[expose] public section

noncomputable section

namespace Cert.Kernel38Ideal.Loss

open Cert.Kernel38Ideal Cert.Kernel38Ideal.Gen Cert.Norm
open Cert.Kernel19Ideal.NormLast (Stream errRow lossCols)
open Idealize.ShloMosaic hiding ix1 ix2 sum_idx2
open Idealize.ShloMosaic.TcCoe Idealize.ShloMosaic.ValueIdx Idealize.SL.Sem
open scoped BigOperators

/-- The loss: the sum of its columns. -/
def loss (x y t : Stream) (a g : Line) : FVec Ideal S_ .f32 := fun _ => ∑ s : Fin 2048, line (lossCols x y t a g) s

/-- The sum of a line. -/
theorem sum_line (f : Line) : Host.reduceAdd (F := Ideal) f (constant S_ .f32 0x00000000#32) reducesTo_S1x2048_S_d0_1 h_S_
    = fun _ => ∑ s : Fin 2048, line f s := by
  funext j
  simp only [Host.reduceAdd, Ideal.hostReduceAdd_def]
  refine (Ideal.hostReduceAdd_total reducesTo_S1x2048_S_d0_1 (fun b => b.elim0) f _ j).trans ?_
  refine (congrArg (· + _) Ideal.ofBits_zero_f32).trans ((zero_add _).trans ((sum_idx2 (n0 := 1) (n1 := 2048) f).trans ?_))
  exact Fin.sum_univ_one _

variable (m : (ℓ : Loc nD τ sig) → Buf (Elt Ideal) ℓ) (ρ : Dev nD → PrngReg)

/-- The program runs, ends with the loss and leaves its arguments alone. -/
theorem run : θ_run defs (onTc (τ := τ) (main (F := Ideal))) ⟨m, fun _ => 0, ρ⟩ (fun r => ∀ c : Dev nD,
    r.2.mem ((c.tc : Thread nD τ).loc main_v1) = loss (Xa m c) (Ya m c) (Ta m c) (Aa m c) (Ga m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ⟨?_, h.2 c⟩) (θ_run_and (run_main (F := Ideal) m ρ) (unchanged (F := Ideal) m ρ))
  refine ((h.1 c).2 main_v1 (Pipeline.mem_restRefs_of main_v1 (by decide) (by decide))).trans ?_
  have e : Pipeline.afterTail₀ cfgs (dats m) 0 (V0 m) [hostOps1] c main_v1
      = Host.reduceAdd (F := Ideal) (((dats m 0 c).arrAt 7 cfg0.N : Line)) (constant S_ .f32 0x00000000#32) reducesTo_S1x2048_S_d0_1 h_S_ := by
    rw [← Pipeline.withArrays_arr (cfgs 0).spec launch0.win.arr_inj c (V0 m c) (fun w => (dats m 0 c).arrAt w cfg0.N) 7]
    unfold Pipeline.afterTail₀
    simp only [List.flatten_cons, List.flatten_nil, List.append_nil]
    after_results
  rw [e, final7, sum_line]
  rfl

end Cert.Kernel38Ideal.Loss

namespace Cert.Reference38Ideal.Loss

open Cert.Reference38Ideal Cert.Reference38Ideal.Gen Cert.Reference38Ideal.Read Cert.Norm
open Cert.Kernel19Ideal.NormLast (Stream errRow lossCols)
open Cert.Reference19Ideal.NormLast (err_apply)
open Cert.Modulation (at2)
open Idealize.ShloMosaic hiding ix1 ix2 sum_idx2
open Idealize.ShloMosaic.ValueIdx Idealize.SL.Sem
open scoped BigOperators

variable (x y t : Stream) (a g : Line)

/-- A token's squared errors. -/
theorem token_apply (r : Fin 2048) : val_main_v19 (F := Ideal) x y t a g (ix1 r)
    = Ideal.div (∑ s, errRow (rowOf x r) (rowOf y r) (rowOf t r) a g s * errRow (rowOf x r) (rowOf y r) (rowOf t r) a g s) count := by
  rw [val_main_v19_apply, val_main_v18_apply, val_main_v17_apply]
  refine congrArg (Ideal.div · count) ((congrArg (· + _) Ideal.ofBits_zero_f32).trans ((zero_add _).trans (Finset.sum_congr rfl fun s _ => ?_)))
  rw [← err_apply]
  rw [at2 (idx_main_v17 (ix1 r) s) r s rfl rfl]
  rfl

theorem result21 : val_main_v21 (F := Ideal) x y t a g = Cert.Kernel38Ideal.Loss.loss x y t a g := by
  funext j
  rw [val_main_v21_apply, val_main_v20_apply]
  have e0 : Ideal.ofBits .f32 0x3F000000#32 = ((1 / 2 : ℝ) : EReal) := Cert.Gate.half_bits
  have e1 : Ideal.ofBits .f32 0x39800000#32 = ((1 / 4096 : ℝ) : EReal) := by
    simp [Ideal.ofBits, Ideal.ieee]
    rw [← EReal.coe_mul]
    norm_num
  have e2 : (∑ i : S2048.Idx, val_main_v19 (F := Ideal) x y t a g i : EReal) = ∑ r : Fin 2048, val_main_v19 (F := Ideal) x y t a g (ix1 r) :=
    sum_idx1 (n0 := 2048) (val_main_v19 (F := Ideal) x y t a g)
  show Ideal.ofBits .f32 0x3F000000#32 * (Ideal.ofBits .f32 0x00000000#32 + ∑ i : S2048.Idx, val_main_v19 (F := Ideal) x y t a g i)
    = ∑ s : Fin 2048, ∑ r : Fin 2048, errRow (rowOf x r) (rowOf y r) (rowOf t r) a g s * errRow (rowOf x r) (rowOf y r) (rowOf t r) a g s
      * Ideal.ofBits .f32 0x39800000#32
  rw [e2, Ideal.ofBits_zero_f32, zero_add, e0, e1, Cert.Softmax.real_mul_sum (by norm_num), Finset.sum_comm]
  refine Finset.sum_congr rfl fun r _ => ?_
  rw [token_apply, count_bits, div_real _ (by norm_num), mul_comm (∑ s, _), ← mul_assoc, ← EReal.coe_mul, Cert.Softmax.real_mul_sum (by norm_num)]
  refine Finset.sum_congr rfl fun s _ => ?_
  rw [mul_comm]
  norm_num

/-- The reference runs, leaves its arguments alone and declares no semaphore. -/
theorem frame : Cert.quiescent_Reference38Ideal := fun m ρ _ =>
  (θ_run Cert.Reference38Ideal.defs _ _).mono (fun r h => ⟨fun c => (h c).2, sem_eq_zero_of_no_sems (by decide) r.2⟩)
    (Cert.Reference38Ideal.Value.run (F := Ideal) m ρ)

/-- The two programs end with the same loss. -/
theorem algebraic : Cert.algebraic_Kernel38Ideal_Reference38Ideal := by
  intro m g m' g' _ hargs
  refine ⟨_, Cert.Kernel38Ideal.Loss.run m g, ?_⟩
  refine (θ_run Cert.Reference38Ideal.defs _ _).mono (fun r h c => ?_) (Cert.Reference38Ideal.Value.run (F := Ideal) m' g')
  obtain ⟨e, k⟩ := h c
  obtain ⟨a0, a1, a2, a3, a4⟩ := hargs c
  refine ⟨e.trans ((val_main_v21_eq _ _ _ _ _).trans ?_), k⟩
  rw [a0, a1, a2, a3, a4]
  exact result21 _ _ _ _ _

end Cert.Reference38Ideal.Loss

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Attn.Arrays
public import proofs.«01_k».proof.Proof.Attn.Results
public import proofs.«01_k».proof.Proof.Attn.Finite
public import proofs.«01_k».proof.Proof.DownGradX.Result
public import proofs.«01_k».proof.Proof.DownGradW.Result
public import proofs.«01_k».proof.Proof.UpGradX.Result
public import proofs.«01_k».proof.Proof.UpGradW.Result
public import proofs.«01_k».proof.Proof.ProjGradX.Result
public import proofs.«01_k».proof.Proof.ProjGradWTop.Result
public import proofs.«01_k».proof.Proof.ProjGradWBot.Result
public import proofs.«01_k».proof.Proof.OutGradX.Result
public import proofs.«01_k».proof.Proof.BranchGradX.Result
public import proofs.«01_k».proof.Proof.OutGradW.Result
public import proofs.«01_k».proof.Proof.UpFwd.Result
public import proofs.«01_k».proof.Proof.DownFwd.Result
public import proofs.«01_k».proof.Proof.OutFwd.Result
public import proofs.«01_k».proof.Proof.AttnFwd.Result
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.GateGrad.Result
public import proofs.«01_k».proof.Proof.NormMlp.Result
public import proofs.«01_k».proof.Proof.NormMix.Result
public import proofs.«01_k».proof.Proof.NormLast.Result
public import proofs.«01_k».proof.Proof.Update.Whole
public import proofs.«01_k».proof.Proof.Update.Three
public import proofs.«01_k».proof.Proof.Update.Columns
public import proofs.«01_k».proof.Proof.Update.Rows
public import proofs.«01_k».proof.Proof.Update.Outputs
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Reference32Ideal.Read
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import proofs.«01_k».proof.Proof.Gen.Reference33Ideal.Read
public import proofs.«01_k».proof.Proof.Gen.Kernel34.Frame
public import proofs.«01_k».proof.Proof.Gen.Kernel34Ideal.Frame
public import proofs.«01_k».proof.Proof.Gen.Kernel34Ideal.Value
public import proofs.«01_k».proof.Proof.Gen.Reference34Ideal.Run
public import proofs.«01_k».proof.Proof.Gen.Reference34Ideal.Read
public import proofs.«01_k».proof.Proof.Gen.Kernel36.Frame
public import proofs.«01_k».proof.Proof.Gen.Kernel36Ideal.Frame
public import proofs.«01_k».proof.Proof.Gen.Kernel36Ideal.Value
public import proofs.«01_k».proof.Proof.Gen.Reference36Ideal.Run
public import proofs.«01_k».proof.Proof.Gen.Reference36Ideal.Read
public import proofs.«01_k».proof.Proof.Gen.Kernel37.Frame
public import proofs.«01_k».proof.Proof.Gen.Kernel37Ideal.Frame
public import proofs.«01_k».proof.Proof.Gen.Kernel37Ideal.Value
public import proofs.«01_k».proof.Proof.Gen.Reference37Ideal.Run
public import proofs.«01_k».proof.Proof.Gen.Reference37Ideal.Read
public import proofs.«01_k».proof.Proof.Gen.Kernel38.Frame
public import proofs.«01_k».proof.Proof.Gen.Kernel38Ideal.Frame
public import proofs.«01_k».proof.Proof.Gen.Reference38Ideal.Run
public import proofs.«01_k».proof.Proof.Gen.Reference38Ideal.Read
public import proofs.«01_k».proof.Proof.Gen.Kernel35.Frame
public import proofs.«01_k».proof.Proof.Gen.Kernel35Ideal.Frame
public import proofs.«01_k».proof.Proof.Gen.Kernel35Ideal.Value
public import proofs.«01_k».proof.Proof.Gen.Reference35Ideal.Run
public import proofs.«01_k».proof.Proof.Gen.Reference35Ideal.Read
public import proofs.«01_k».proof.Proof.NormMix.Context
public import proofs.«01_k».proof.Proof.Modulation.Weight
public import proofs.«01_k».proof.Proof.Modulation.Input
public import proofs.«01_k».proof.Proof.Modulation.Forward
public import proofs.«01_k».proof.Proof.NormForward.Mixer
public import proofs.«01_k».proof.Proof.NormForward.Residual
public import proofs.«01_k».proof.Proof.GateGrad.Forward
public import proofs.«01_k».proof.Proof.Update.Packed
public import proofs.«01_k».proof.Proof.Update.Gates
public import proofs.«01_k».proof.Proof.Update.Small
public import proofs.«01_k».proof.Proof.Update.Sum
public import proofs.«01_k».proof.Proof.Modulation.Conditioning
public import proofs.«01_k».proof.Proof.Projection.Parts
public import proofs.«01_k».proof.Proof.Loss.Device
public import Idealize.ShloMosaic.Adequacy
public import Idealize.ShloMosaic.Init

/-! # The certificate

Each of the thirty-eight programs runs and leaves its arguments alone, its idealization is sanctioned, and its results are the
reference's: for finite `q` and `k` the attention's and its gradient's, for all inputs the others'.

-/

@[expose] public section

noncomputable section

namespace Cert.Proof

open Idealize.ShloMosaic Idealize.SL.Sem Cert.Softmax

/-- The reference runs, leaves its arguments alone and declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The named constant's value is within its rounding of the printed one. -/
theorem preserves : Cert.preserves_Kernel_KernelIdeal := IdealRules.named_const.statement _ _ _ _ _ rfl

/-- The three gradients agree. -/
theorem algebraic : Cert.algebraic_KernelIdeal_ReferenceIdeal_pre_finite_qk := by
  intro m g m' g' hpre hargs
  refine ⟨fun c => dqArr (Cert.KernelIdeal.Attn.Qa m c) (Cert.KernelIdeal.Attn.Ka m c) (Cert.KernelIdeal.Attn.Va m c) (Cert.KernelIdeal.Attn.Oa m c),
    fun c => dkArr (Cert.KernelIdeal.Attn.Qa m c) (Cert.KernelIdeal.Attn.Ka m c) (Cert.KernelIdeal.Attn.Va m c) (Cert.KernelIdeal.Attn.Oa m c),
    fun c => dvArr (Cert.KernelIdeal.Attn.Qa m c) (Cert.KernelIdeal.Attn.Ka m c) (Cert.KernelIdeal.Attn.Oa m c), ?_, ?_⟩
  · refine (θ_run Cert.KernelIdeal.defs _ _).mono (fun r h c => ?_) (Cert.KernelIdeal.Value.run_blocks (F := Ideal) m g)
    obtain ⟨e0, e1, e2, k⟩ := h c
    exact ⟨e0.trans (Cert.KernelIdeal.Attn.dq_final m c), e1.trans (Cert.KernelIdeal.Attn.dk_final m c),
      e2.trans (Cert.KernelIdeal.Attn.dv_final m c), k⟩
  · refine (θ_run Cert.ReferenceIdeal.defs _ _).mono (fun r h c => ?_) (Cert.ReferenceIdeal.Value.run (F := Ideal) m' g')
    obtain ⟨e0, e1, e2, k⟩ := h c
    obtain ⟨a0, a1, a2, a3⟩ := hargs c
    have hQ := Cert.Attn.q_real _ _ _ _ (hpre c).1
    have hK := Cert.Attn.k_real _ _ _ _ (hpre c).2
    refine ⟨e0.trans ?_, e1.trans ?_, e2.trans ?_, k⟩
    · refine (Cert.ReferenceIdeal.Read.val_main_v69_eq m' c).trans ?_
      rw [a0, a1, a2, a3]
      exact Cert.ReferenceIdeal.Attn.dq_eq _ _ _ _ hQ hK
    · refine (Cert.ReferenceIdeal.Read.val_main_v68_eq m' c).trans ?_
      rw [a0, a1, a2, a3]
      exact Cert.ReferenceIdeal.Attn.dk_eq _ _ _ _ hQ hK
    · refine (Cert.ReferenceIdeal.Read.val_main_v67_eq _ _ _).trans ?_
      rw [a0, a1, a3]
      exact Cert.ReferenceIdeal.Attn.dv_eq _ _ _ hQ hK

/-- The attention's named constant likewise. -/
theorem preserves15 : Cert.preserves_Kernel15_Kernel15Ideal := IdealRules.named_const.statement _ _ _ _ _ rfl

/-- Facts first, then every call's runs, then every call's sanction and equality. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Attn.preFacts, Cert.AttnFwd.preFacts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, Cert.Reference2Ideal.DownGradX.frame,
    fun m ρ _ => Cert.Kernel3.Gen.frame m ρ, fun m ρ _ => Cert.Kernel3Ideal.Gen.frame m ρ, Cert.Reference3Ideal.DownGradW.frame,
    fun m ρ _ => Cert.Kernel4.Gen.frame m ρ, fun m ρ _ => Cert.Kernel4Ideal.Gen.frame m ρ, Cert.Reference4Ideal.UpGradX.frame,
    fun m ρ _ => Cert.Kernel5.Gen.frame m ρ, fun m ρ _ => Cert.Kernel5Ideal.Gen.frame m ρ, Cert.Reference5Ideal.UpGradW.frame,
    fun m ρ _ => Cert.Kernel6.Gen.frame m ρ, fun m ρ _ => Cert.Kernel6Ideal.Gen.frame m ρ, Cert.Reference6Ideal.ProjGradX.frame,
    fun m ρ _ => Cert.Kernel7.Gen.frame m ρ, fun m ρ _ => Cert.Kernel7Ideal.Gen.frame m ρ, Cert.Reference7Ideal.ProjGradWTop.frame,
    fun m ρ _ => Cert.Kernel8.Gen.frame m ρ, fun m ρ _ => Cert.Kernel8Ideal.Gen.frame m ρ, Cert.Reference8Ideal.ProjGradWBot.frame,
    fun m ρ _ => Cert.Kernel9.Gen.frame m ρ, fun m ρ _ => Cert.Kernel9Ideal.Gen.frame m ρ, Cert.Reference9Ideal.OutGradX.frame,
    fun m ρ _ => Cert.Kernel10.Gen.frame m ρ, fun m ρ _ => Cert.Kernel10Ideal.Gen.frame m ρ, Cert.Reference10Ideal.BranchGradX.frame,
    fun m ρ _ => Cert.Kernel11.Gen.frame m ρ, fun m ρ _ => Cert.Kernel11Ideal.Gen.frame m ρ, Cert.Reference11Ideal.OutGradW.frame,
    fun m ρ _ => Cert.Kernel12.Gen.frame m ρ, fun m ρ _ => Cert.Kernel12Ideal.Gen.frame m ρ, Cert.Reference12Ideal.UpFwd.frame,
    fun m ρ _ => Cert.Kernel13.Gen.frame m ρ, fun m ρ _ => Cert.Kernel13Ideal.Gen.frame m ρ, Cert.Reference13Ideal.DownFwd.frame,
    fun m ρ _ => Cert.Kernel14.Gen.frame m ρ, fun m ρ _ => Cert.Kernel14Ideal.Gen.frame m ρ, Cert.Reference14Ideal.OutFwd.frame,
    fun m ρ _ => Cert.Kernel15.Gen.frame m ρ, fun m ρ _ => Cert.Kernel15Ideal.Gen.frame m ρ, fun m ρ _ => Cert.Kernel15Ideal.Gen.frame m ρ,
    Cert.Reference15Ideal.AttnFwd.frame, fun m ρ _ => Cert.Reference15Ideal.AttnFwd.frame m ρ trivial,
    fun m ρ _ => Cert.Kernel16.Gen.frame m ρ, fun m ρ _ => Cert.Kernel16Ideal.Gen.frame m ρ, Cert.Reference16Ideal.GateGrad.frame,
    fun m ρ _ => Cert.Kernel17.Gen.frame m ρ, fun m ρ _ => Cert.Kernel17Ideal.Gen.frame m ρ, Cert.Reference17Ideal.NormMlp.frame,
    fun m ρ _ => Cert.Kernel18.Gen.frame m ρ, fun m ρ _ => Cert.Kernel18Ideal.Gen.frame m ρ, Cert.Reference18Ideal.NormMix.frame,
    fun m ρ _ => Cert.Kernel19.Gen.frame m ρ, fun m ρ _ => Cert.Kernel19Ideal.Gen.frame m ρ, Cert.Reference19Ideal.NormLast.frame,
    fun m ρ _ => Cert.Kernel20.Gen.frame m ρ, fun m ρ _ => Cert.Kernel20Ideal.Gen.frame m ρ, Cert.Reference20Ideal.Update.frame,
    fun m ρ _ => Cert.Kernel21.Gen.frame m ρ, fun m ρ _ => Cert.Kernel21Ideal.Gen.frame m ρ, Cert.Reference21Ideal.Update.frame,
    fun m ρ _ => Cert.Kernel22.Gen.frame m ρ, fun m ρ _ => Cert.Kernel22Ideal.Gen.frame m ρ, Cert.Reference22Ideal.Update.frame,
    fun m ρ _ => Cert.Kernel23.Gen.frame m ρ, fun m ρ _ => Cert.Kernel23Ideal.Gen.frame m ρ, Cert.Reference23Ideal.Update.frame,
    fun m ρ _ => Cert.Kernel24.Gen.frame m ρ, fun m ρ _ => Cert.Kernel24Ideal.Gen.frame m ρ, Cert.Reference24Ideal.Update.frame,
    fun m ρ _ => Cert.Kernel25.Gen.frame m ρ, fun m ρ _ => Cert.Kernel25Ideal.Gen.frame m ρ, Cert.Reference25Ideal.Context.frame,
    fun m ρ _ => Cert.Kernel26.Gen.frame m ρ, fun m ρ _ => Cert.Kernel26Ideal.Gen.frame m ρ, Cert.Reference26Ideal.Weight.frame,
    fun m ρ _ => Cert.Kernel27.Gen.frame m ρ, fun m ρ _ => Cert.Kernel27Ideal.Gen.frame m ρ, Cert.Reference27Ideal.Input.frame,
    fun m ρ _ => Cert.Kernel28.Gen.frame m ρ, fun m ρ _ => Cert.Kernel28Ideal.Gen.frame m ρ, Cert.Reference28Ideal.Forward.frame,
    fun m ρ _ => Cert.Kernel29.Gen.frame m ρ, fun m ρ _ => Cert.Kernel29Ideal.Gen.frame m ρ, Cert.Reference29Ideal.Mixer.frame,
    fun m ρ _ => Cert.Kernel30.Gen.frame m ρ, fun m ρ _ => Cert.Kernel30Ideal.Gen.frame m ρ, Cert.Reference30Ideal.Residual.frame,
    fun m ρ _ => Cert.Kernel31.Gen.frame m ρ, fun m ρ _ => Cert.Kernel31Ideal.Gen.frame m ρ, Cert.Reference31Ideal.Gate.frame,
    fun m ρ _ => Cert.Kernel32.Gen.frame m ρ, fun m ρ _ => Cert.Kernel32Ideal.Gen.frame m ρ, Cert.Reference32Ideal.Update.frame,
    fun m ρ _ => Cert.Kernel33.Gen.frame m ρ, fun m ρ _ => Cert.Kernel33Ideal.Gen.frame m ρ, Cert.Reference33Ideal.Update.frame,
    fun m ρ _ => Cert.Kernel34.Gen.frame m ρ, fun m ρ _ => Cert.Kernel34Ideal.Gen.frame m ρ, Cert.Reference34Ideal.Update.frame,
    fun m ρ _ => Cert.Kernel35.Gen.frame m ρ, fun m ρ _ => Cert.Kernel35Ideal.Gen.frame m ρ, Cert.Reference35Ideal.Update.frame,
    fun m ρ _ => Cert.Kernel36.Gen.frame m ρ, fun m ρ _ => Cert.Kernel36Ideal.Gen.frame m ρ, Cert.Reference36Ideal.Conditioning.frame,
    fun m ρ _ => Cert.Kernel37.Gen.frame m ρ, fun m ρ _ => Cert.Kernel37Ideal.Gen.frame m ρ, Cert.Reference37Ideal.Parts.frame,
    fun m ρ _ => Cert.Kernel38.Gen.frame m ρ, fun m ρ _ => Cert.Kernel38Ideal.Gen.frame m ρ, Cert.Reference38Ideal.Loss.frame,
    preserves, algebraic,
    trivial, Cert.Reference2Ideal.DownGradX.algebraic,
    trivial, Cert.Reference3Ideal.DownGradW.algebraic,
    trivial, Cert.Reference4Ideal.UpGradX.algebraic,
    trivial, Cert.Reference5Ideal.UpGradW.algebraic,
    trivial, Cert.Reference6Ideal.ProjGradX.algebraic,
    trivial, Cert.Reference7Ideal.ProjGradWTop.algebraic,
    trivial, Cert.Reference8Ideal.ProjGradWBot.algebraic,
    trivial, Cert.Reference9Ideal.OutGradX.algebraic,
    trivial, Cert.Reference10Ideal.BranchGradX.algebraic,
    trivial, Cert.Reference11Ideal.OutGradW.algebraic,
    trivial, Cert.Reference12Ideal.UpFwd.algebraic,
    trivial, Cert.Reference13Ideal.DownFwd.algebraic,
    trivial, Cert.Reference14Ideal.OutFwd.algebraic,
    preserves15, Cert.Reference15Ideal.AttnFwd.algebraic,
    trivial, Cert.Reference16Ideal.GateGrad.algebraic,
    trivial, Cert.Reference17Ideal.NormMlp.algebraic,
    trivial, Cert.Reference18Ideal.NormMix.algebraic,
    trivial, Cert.Reference19Ideal.NormLast.algebraic,
    trivial, Cert.Reference20Ideal.Update.algebraic,
    trivial, Cert.Reference21Ideal.Update.algebraic,
    trivial, Cert.Reference22Ideal.Update.algebraic,
    trivial, Cert.Reference23Ideal.Update.algebraic,
    trivial, Cert.Reference24Ideal.Update.algebraic,
    trivial, Cert.Reference25Ideal.Context.algebraic,
    trivial, Cert.Reference26Ideal.Weight.algebraic,
    trivial, Cert.Reference27Ideal.Input.algebraic,
    trivial, Cert.Reference28Ideal.Forward.algebraic,
    trivial, Cert.Reference29Ideal.Mixer.algebraic,
    trivial, Cert.Reference30Ideal.Residual.algebraic,
    trivial, Cert.Reference31Ideal.Gate.algebraic,
    trivial, Cert.Reference32Ideal.Update.algebraic,
    trivial, Cert.Reference33Ideal.Update.algebraic,
    trivial, Cert.Reference34Ideal.Update.algebraic,
    trivial, Cert.Reference35Ideal.Update.algebraic,
    trivial, Cert.Reference36Ideal.Conditioning.algebraic,
    trivial, Cert.Reference37Ideal.Parts.algebraic,
    trivial, Cert.Reference38Ideal.Loss.algebraic⟩

end Cert.Proof

end
